-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_nonneg [hPre_nonneg : Cert.Pre_nonneg.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_nonneg.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_nonneg [hPre_nonneg : Cert.Pre_nonneg.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_nonneg.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_nonneg3 [hPre_nonneg3 : Cert.Pre_nonneg3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_nonneg3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_nonneg3 [hPre_nonneg3 : Cert.Pre_nonneg3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_nonneg3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_nonneg [hKernel2Ideal : Cert.Kernel2Ideal.Facts] [hPre_nonneg : Cert.Pre_nonneg.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_nonneg m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_nonneg [hReference2Ideal : Cert.Reference2Ideal.Facts] [hPre_nonneg : Cert.Pre_nonneg.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_nonneg m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_nonneg3 [hKernel3Ideal : Cert.Kernel3Ideal.Facts] [hPre_nonneg3 : Cert.Pre_nonneg3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_nonneg3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_nonneg3 [hReference3Ideal : Cert.Reference3Ideal.Facts] [hPre_nonneg3 : Cert.Pre_nonneg3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_nonneg3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_nonneg [hKernel2Ideal : Cert.Kernel2Ideal.Facts] [hReference2Ideal : Cert.Reference2Ideal.Facts] [hPre_nonneg : Cert.Pre_nonneg.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_nonneg m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_nonneg3 [hKernel3Ideal : Cert.Kernel3Ideal.Facts] [hReference3Ideal : Cert.Reference3Ideal.Facts] [hPre_nonneg3 : Cert.Pre_nonneg3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_nonneg3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v38)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v38) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v61) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_nonneg : Cert.Pre_nonneg.Facts) (hPre_nonneg3 : Cert.Pre_nonneg3.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_nonneg (hKernel2Ideal := hKernel2Ideal) (hPre_nonneg := hPre_nonneg)
    ∧ quiescent_Reference2Ideal (hReference2Ideal := hReference2Ideal)
    ∧ quiescent_Reference2Ideal_pre_nonneg (hReference2Ideal := hReference2Ideal) (hPre_nonneg := hPre_nonneg)
    ∧ quiescent_Kernel3 (hKernel3 := hKernel3)
    ∧ quiescent_Kernel3Ideal (hKernel3Ideal := hKernel3Ideal)
    ∧ quiescent_Kernel3Ideal_pre_nonneg3 (hKernel3Ideal := hKernel3Ideal) (hPre_nonneg3 := hPre_nonneg3)
    ∧ quiescent_Reference3Ideal (hReference3Ideal := hReference3Ideal)
    ∧ quiescent_Reference3Ideal_pre_nonneg3 (hReference3Ideal := hReference3Ideal) (hPre_nonneg3 := hPre_nonneg3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_nonneg (hKernel2Ideal := hKernel2Ideal) (hReference2Ideal := hReference2Ideal) (hPre_nonneg := hPre_nonneg)
    ∧ preserves_Kernel3_Kernel3Ideal
    ∧ algebraic_Kernel3Ideal_Reference3Ideal_pre_nonneg3 (hKernel3Ideal := hKernel3Ideal) (hReference3Ideal := hReference3Ideal) (hPre_nonneg3 := hPre_nonneg3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
-- ==== Pre_finite.lean ====
abbrev S6144x16384 : Shape := ⟨2, ![6144, 16384]⟩
abbrev S16384x6912 : Shape := ⟨2, ![16384, 6912]⟩
abbrev S16384x3072 : Shape := ⟨2, ![16384, 3072]⟩
abbrev S3072x16384 : Shape := ⟨2, ![3072, 16384]⟩
abbrev S16384x128 : Shape := ⟨2, ![16384, 128]⟩
abbrev S_ : Shape := ⟨0, ![]⟩

class Facts : Prop where
  bitsLt_bf16_f32 : FTy.bits .bf16 < FTy.bits .f32
  bcast_S_S6144x16384 : S_.BroadcastsInDim S6144x16384 (![] : Fin 0 → Fin S6144x16384.rank)
  bcast_S_S16384x3072 : S_.BroadcastsInDim S16384x3072 (![] : Fin 0 → Fin S16384x3072.rank)
  bcast_S_S16384x128 : S_.BroadcastsInDim S16384x128 (![] : Fin 0 → Fin S16384x128.rank)

variable [Facts]

def fn {F : FTy → Type} [FloatOps F] (main_arg0 : FVec F S6144x16384 .bf16) (main_arg1 : FVec F S16384x6912 .bf16) (main_arg2 : FVec F S16384x3072 .bf16) (main_arg3 : FVec F S3072x16384 .bf16) (main_arg4 : FVec F S16384x128 .bf16) : IVec S6144x16384 1 × IVec S16384x3072 1 × IVec S16384x128 1 :=
  let main_v0 : FVec F S6144x16384 .f32 := (extf .f32 · bitsLt_bf16_f32) main_arg0
  let main_v1 : FVec F S6144x16384 .f32 := Host.absf main_v0
  let main_cst : FVec F S_ .f32 := constant S_ .f32 0x7F800000#32
  let main_v2 : FVec F S6144x16384 .f32 := broadcastInDim S6144x16384 ![] bcast_S_S6144x16384 main_cst
  let main_v3 : IVec S6144x16384 1 := cmpf .olt main_v1 main_v2
  let main_v4 : FVec F S16384x3072 .f32 := (extf .f32 · bitsLt_bf16_f32) main_arg2
  let main_v5 : FVec F S16384x3072 .f32 := Host.absf main_v4
  let main_cst_0 : FVec F S_ .f32 := constant S_ .f32 0x7F800000#32
  let main_v6 : FVec F S16384x3072 .f32 := broadcastInDim S16384x3072 ![] bcast_S_S16384x3072 main_cst_0
  let main_v7 : IVec S16384x3072 1 := cmpf .olt main_v5 main_v6
  let main_v8 : FVec F S16384x128 .f32 := (extf .f32 · bitsLt_bf16_f32) main_arg4
  let main_v9 : FVec F S16384x128 .f32 := Host.absf main_v8
  let main_cst_1 : FVec F S_ .f32 := constant S_ .f32 0x7F800000#32
  let main_v10 : FVec F S16384x128 .f32 := broadcastInDim S16384x128 ![] bcast_S_S16384x128 main_cst_1
  let main_v11 : IVec S16384x128 1 := cmpf .olt main_v9 main_v10
  (main_v3, main_v7, main_v11)
-- ==== Pre_finite8.lean ====
abbrev S16384x6912 : Shape := ⟨2, ![16384, 6912]⟩
abbrev S4x1024x2048 : Shape := ⟨3, ![4, 1024, 2048]⟩
abbrev S16384x1024 : Shape := ⟨2, ![16384, 1024]⟩
abbrev S_ : Shape := ⟨0, ![]⟩
abbrev S1x1024x1024 : Shape := ⟨3, ![1, 1024, 1024]⟩

class Facts : Prop where
  slices_S16384x6912_S16384x1024_0_5120 : S16384x6912.Slices ![0, 5120] S16384x1024
  bitsLt_bf16_f32 : FTy.bits .bf16 < FTy.bits .f32
  bcast_S_S16384x1024 : S_.BroadcastsInDim S16384x1024 (![] : Fin 0 → Fin S16384x1024.rank)
  slices_S4x1024x2048_S1x1024x1024_0_0_0 : S4x1024x2048.Slices ![0, 0, 0] S1x1024x1024
  bcast_S_S1x1024x1024 : S_.BroadcastsInDim S1x1024x1024 (![] : Fin 0 → Fin S1x1024x1024.rank)

variable [Facts]

def fn {F : FTy → Type} [FloatOps F] (main_arg0 : FVec F S16384x6912 .bf16) (main_arg1 : FVec F S4x1024x2048 .bf16) : IVec S16384x1024 1 × IVec S1x1024x1024 1 :=
  let main_v0 : FVec F S16384x1024 .bf16 := (extractStridedSlice S16384x1024 ![0, 5120] · slices_S16384x6912_S16384x1024_0_5120) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_v5 : FVec F S1x1024x1024 .bf16 := (extractStridedSlice S1x1024x1024 ![0, 0, 0] · slices_S4x1024x2048_S1x1024x1024_0_0_0) main_arg1
  let main_v6 : FVec F S1x1024x1024 .f32 := (extf .f32 · bitsLt_bf16_f32) main_v5
  let main_v7 : FVec F S1x1024x1024 .f32 := Host.absf main_v6
  let main_cst_0 : FVec F S_ .f32 := constant S_ .f32 0x7F800000#32
  let main_v8 : FVec F S1x1024x1024 .f32 := broadcastInDim S1x1024x1024 ![] bcast_S_S1x1024x1024 main_cst_0
  let main_v9 : IVec S1x1024x1024 1 := cmpf .olt main_v7 main_v8
  (main_v4, main_v9)
-- ==== Pre_nonneg.lean ====
abbrev S16384x4096 : Shape := ⟨2, ![16384, 4096]⟩
abbrev S16384x1 : Shape := ⟨2, ![16384, 1]⟩
abbrev S2x4096x9216 : Shape := ⟨3, ![2, 4096, 9216]⟩
abbrev S_ : Shape := ⟨0, ![]⟩

class Facts : Prop where
  bcast_S_S16384x1 : S_.BroadcastsInDim S16384x1 (![] : Fin 0 → Fin S16384x1.rank)

variable [Facts]

def fn {F : FTy → Type} [FloatOps F] (main_arg0 : FVec F S16384x4096 .bf16) (main_arg1 : FVec F S16384x1 .f32) (main_arg2 : FVec F S2x4096x9216 .bf16) : IVec S16384x1 1 :=
  let main_cst : FVec F S_ .f32 := constant S_ .f32 0x00000000#32
  let main_v0 : FVec F S16384x1 .f32 := broadcastInDim S16384x1 ![] bcast_S_S16384x1 main_cst
  let main_v1 : IVec S16384x1 1 := cmpf .oge main_arg1 main_v0
  main_v1
-- ==== Pre_nonneg3.lean ====
abbrev S16384x4096 : Shape := ⟨2, ![16384, 4096]⟩
abbrev S16384x1 : Shape := ⟨2, ![16384, 1]⟩
abbrev S2x4096x6912 : Shape := ⟨3, ![2, 4096, 6912]⟩
abbrev S_ : Shape := ⟨0, ![]⟩

class Facts : Prop where
  bcast_S_S16384x1 : S_.BroadcastsInDim S16384x1 (![] : Fin 0 → Fin S16384x1.rank)

variable [Facts]

def fn {F : FTy → Type} [FloatOps F] (main_arg0 : FVec F S16384x4096 .bf16) (main_arg1 : FVec F S16384x1 .f32) (main_arg2 : FVec F S2x4096x6912 .bf16) : IVec S16384x1 1 :=
  let main_cst : FVec F S_ .f32 := constant S_ .f32 0x00000000#32
  let main_v0 : FVec F S16384x1 .f32 := broadcastInDim S16384x1 ![] bcast_S_S16384x1 main_cst
  let main_v1 : IVec S16384x1 1 := cmpf .oge main_arg1 main_v0
  main_v1
-- ==== Kernel.lean ====
abbrev S6144x16384 : Shape := ⟨2, ![6144, 16384]⟩
abbrev S16384x6912 : Shape := ⟨2, ![16384, 6912]⟩
abbrev S16384x3072 : Shape := ⟨2, ![16384, 3072]⟩
abbrev S3072x16384 : Shape := ⟨2, ![3072, 16384]⟩
abbrev S16384x128 : Shape := ⟨2, ![16384, 128]⟩
abbrev S1536x512 : Shape := ⟨2, ![1536, 512]⟩
abbrev S512x768 : Shape := ⟨2, ![512, 768]⟩
abbrev S4096x768 : Shape := ⟨2, ![4096, 768]⟩
abbrev S4096x128 : Shape := ⟨2, ![4096, 128]⟩
abbrev S768x4096 : Shape := ⟨2, ![768, 4096]⟩
abbrev S6x512x512 : Shape := ⟨3, ![6, 512, 512]⟩
abbrev S6x1x512 : Shape := ⟨3, ![6, 1, 512]⟩
abbrev S6x144x512 : Shape := ⟨3, ![6, 144, 512]⟩
abbrev S16x512 : Shape := ⟨2, ![16, 512]⟩
abbrev S512x128 : Shape := ⟨2, ![512, 128]⟩
abbrev S512x256 : Shape := ⟨2, ![512, 256]⟩
abbrev S256x512 : Shape := ⟨2, ![256, 512]⟩
abbrev S512x512 : Shape := ⟨2, ![512, 512]⟩
abbrev S1x512x512 : Shape := ⟨3, ![1, 512, 512]⟩
abbrev S1x1x512 : Shape := ⟨3, ![1, 1, 512]⟩
abbrev S1x512 : Shape := ⟨2, ![1, 512]⟩
abbrev S512 : Shape := ⟨1, ![512]⟩
abbrev S128x512 : Shape := ⟨2, ![128, 512]⟩
abbrev S144x512 : Shape := ⟨2, ![144, 512]⟩
abbrev S1x144x512 : Shape := ⟨3, ![1, 144, 512]⟩

abbrev nBuf : Space → Nat
  | .hbm => 6
  | .vmem => 16
  | .smem => 0
  | _ => 0

abbrev bufTy : (tb : Table) → Fin (tcTables nBuf tb) → BufTy
  | .hbm, ⟨0, _⟩ => ⟨S6144x16384, .bf16⟩
  | .hbm, ⟨1, _⟩ => ⟨S16384x6912, .bf16⟩
  | .hbm, ⟨2, _⟩ => ⟨S16384x3072, .bf16⟩
  | .hbm, ⟨3, _⟩ => ⟨S3072x16384, .bf16⟩
  | .hbm, ⟨4, _⟩ => ⟨S16384x128, .bf16⟩
  | .hbm, ⟨5, _⟩ => ⟨S16384x3072, .bf16⟩
  | .local _ .vmem, ⟨0, _⟩ => ⟨S1536x512, .bf16⟩
  | .local _ .vmem, ⟨1, _⟩ => ⟨S1536x512, .bf16⟩
  | .local _ .vmem, ⟨2, _⟩ => ⟨S512x768, .bf16⟩
  | .local _ .vmem, ⟨3, _⟩ => ⟨S512x768, .bf16⟩
  | .local _ .vmem, ⟨4, _⟩ => ⟨S4096x768, .bf16⟩
  | .local _ .vmem, ⟨5, _⟩ => ⟨S4096x768, .bf16⟩
  | .local _ .vmem, ⟨6, _⟩ => ⟨S4096x128, .bf16⟩
  | .local _ .vmem, ⟨7, _⟩ => ⟨S4096x128, .bf16⟩
  | .local _ .vmem, ⟨8, _⟩ => ⟨S768x4096, .bf16⟩
  | .local _ .vmem, ⟨9, _⟩ => ⟨S768x4096, .bf16⟩
  | .local _ .vmem, ⟨10, _⟩ => ⟨S512x768, .bf16⟩
  | .local _ .vmem, ⟨11, _⟩ => ⟨S512x768, .bf16⟩
  | .local _ .vmem, ⟨12, _⟩ => ⟨S6x512x512, .f32⟩
  | .local _ .vmem, ⟨13, _⟩ => ⟨S6x512x512, .f32⟩
  | .local _ .vmem, ⟨14, _⟩ => ⟨S6x1x512, .f32⟩
  | .local _ .vmem, ⟨15, _⟩ => ⟨S6x144x512, .f32⟩
  | _, _ => ⟨S6144x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def k0_cond1 (i : grid0.Coords) : BitVec 1 :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v20 : BitVec 32 := Scalar.extui v19
  let c0_i32_11 : BitVec 32 := 0#32
  let v21 : BitVec 1 := Scalar.cmpi .ne v20 c0_i32_11
  v21

def k0_mult1 : BitVec 32 :=
  let c0_i32_177 : BitVec 32 := 0#32
  c0_i32_177
def k0_mult2 : BitVec 32 :=
  let c512_i32_218 : BitVec 32 := 512#32
  c512_i32_218
def k0_mult3 : BitVec 32 :=
  let c0_i32_262 : BitVec 32 := 0#32
  c0_i32_262
def k0_cond2 (i : grid0.Coords) : BitVec 1 :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v_true : BitVec 1 := 1#1
  let v22 : BitVec 1 := Scalar.xori v19 v_true
  let v23 : BitVec 32 := Scalar.extui v22
  let c0_i32_12 : BitVec 32 := 0#32
  let v24 : BitVec 1 := Scalar.cmpi .ne v23 c0_i32_12
  v24

def k0_mult4 : BitVec 32 :=
  let c0_i32_177 : BitVec 32 := 0#32
  c0_i32_177
@[reducible] def k0_t1_loop (i : grid0.Coords) : Scf.Loop 32 :=
  let c0_i32_21 : BitVec 32 := 0#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_23 : BitVec 32 := 1#32
  ⟨c0_i32_21, v48, c1_i32_23⟩
def k0_mult5 (i : grid0.Coords) (k0_t1 : Fin (k0_t1_loop i).trips) : BitVec 32 :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c1_i32_178 : BitVec 32 := 1#32
  let v347 : BitVec 32 := Scalar.addi v346 c1_i32_178
  let c512_i32_179 : BitVec 32 := 512#32
  let v348 : BitVec 32 := Scalar.muli v347 c512_i32_179
  v348
def k0_off1 (i : grid0.Coords) (k0_t1 : Fin (k0_t1_loop i).trips) (c1_i32_178 : BitVec 32) : Fin 2 → Nat :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let v347 : BitVec 32 := Scalar.addi v346 c1_i32_178
  let c512_i32_179 : BitVec 32 := 512#32
  let v348 : BitVec 32 := Scalar.muli v347 c512_i32_179
  let v349 : BitVec 32 := v348
  let v350 : Index := Scalar.indexCast v349
  let c0_180 : Index := 0#32
  ![v350.toNat, 0]
def k0_off2 (i : grid0.Coords) (k0_t1 : Fin (k0_t1_loop i).trips) (c1_i32_178 : BitVec 32) : Fin 2 → Nat :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let v347 : BitVec 32 := Scalar.addi v346 c1_i32_178
  let c512_i32_179 : BitVec 32 := 512#32
  let v348 : BitVec 32 := Scalar.muli v347 c512_i32_179
  let v349 : BitVec 32 := v348
  let v352 : Index := Scalar.indexCast v349
  let c0_181 : Index := 0#32
  ![v352.toNat, 0]
def k0_off3 (i : grid0.Coords) (k0_t1 : Fin (k0_t1_loop i).trips) (c1_i32_178 : BitVec 32) : Fin 2 → Nat :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let v347 : BitVec 32 := Scalar.addi v346 c1_i32_178
  let c512_i32_179 : BitVec 32 := 512#32
  let v348 : BitVec 32 := Scalar.muli v347 c512_i32_179
  let v349 : BitVec 32 := v348
  let v360 : Index := Scalar.indexCast v349
  let c128_188 : Index := 128#32
  ![v360.toNat, 128]
def k0_off4 (i : grid0.Coords) (k0_t1 : Fin (k0_t1_loop i).trips) (c1_i32_178 : BitVec 32) : Fin 2 → Nat :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let v347 : BitVec 32 := Scalar.addi v346 c1_i32_178
  let c512_i32_179 : BitVec 32 := 512#32
  let v348 : BitVec 32 := Scalar.muli v347 c512_i32_179
  let v349 : BitVec 32 := v348
  let v368 : Index := Scalar.indexCast v349
  let c256_195 : Index := 256#32
  ![v368.toNat, 256]
def k0_off5 (i : grid0.Coords) (k0_t1 : Fin (k0_t1_loop i).trips) (c1_i32_178 : BitVec 32) : Fin 2 → Nat :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let v347 : BitVec 32 := Scalar.addi v346 c1_i32_178
  let c512_i32_179 : BitVec 32 := 512#32
  let v348 : BitVec 32 := Scalar.muli v347 c512_i32_179
  let v349 : BitVec 32 := v348
  let v376 : Index := Scalar.indexCast v349
  let c384_202 : Index := 384#32
  ![v376.toNat, 384]
def k0_off6 (i : grid0.Coords) (k0_t1 : Fin (k0_t1_loop i).trips) (c1_i32_178 : BitVec 32) : Fin 2 → Nat :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let v347 : BitVec 32 := Scalar.addi v346 c1_i32_178
  let c512_i32_179 : BitVec 32 := 512#32
  let v348 : BitVec 32 := Scalar.muli v347 c512_i32_179
  let v349 : BitVec 32 := v348
  let v384 : Index := Scalar.indexCast v349
  let c512_208 : Index := 512#32
  ![v384.toNat, 512]
def k0_off7 (i : grid0.Coords) (k0_t1 : Fin (k0_t1_loop i).trips) (c1_i32_178 : BitVec 32) : Fin 2 → Nat :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let v347 : BitVec 32 := Scalar.addi v346 c1_i32_178
  let c512_i32_179 : BitVec 32 := 512#32
  let v348 : BitVec 32 := Scalar.muli v347 c512_i32_179
  let v349 : BitVec 32 := v348
  let v392 : Index := Scalar.indexCast v349
  let c640_214 : Index := 640#32
  ![v392.toNat, 640]
def k0_mult6 (i : grid0.Coords) (k0_t1 : Fin (k0_t1_loop i).trips) : BitVec 32 :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c512_i32_220 : BitVec 32 := 512#32
  let v400 : BitVec 32 := Scalar.muli v346 c512_i32_220
  v400
def k0_off8 (i : grid0.Coords) (k0_t1 : Fin (k0_t1_loop i).trips) : Fin 2 → Nat :=
  let c0_228 : Index := 0#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c512_i32_220 : BitVec 32 := 512#32
  let v400 : BitVec 32 := Scalar.muli v346 c512_i32_220
  let v401 : BitVec 32 := v400
  let v415 : Index := Scalar.indexCast v401
  ![0, v415.toNat]
def k0_off9 (i : grid0.Coords) (k0_t1 : Fin (k0_t1_loop i).trips) : Fin 2 → Nat :=
  let c128_246 : Index := 128#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c512_i32_220 : BitVec 32 := 512#32
  let v400 : BitVec 32 := Scalar.muli v346 c512_i32_220
  let v401 : BitVec 32 := v400
  let v443 : Index := Scalar.indexCast v401
  ![128, v443.toNat]
def k0_off10 (i : grid0.Coords) (k0_t1 : Fin (k0_t1_loop i).trips) : Fin 2 → Nat :=
  let c256_264 : Index := 256#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c512_i32_220 : BitVec 32 := 512#32
  let v400 : BitVec 32 := Scalar.muli v346 c512_i32_220
  let v401 : BitVec 32 := v400
  let v471 : Index := Scalar.indexCast v401
  ![256, v471.toNat]
def k0_off11 (i : grid0.Coords) (k0_t1 : Fin (k0_t1_loop i).trips) : Fin 2 → Nat :=
  let c384_282 : Index := 384#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c512_i32_220 : BitVec 32 := 512#32
  let v400 : BitVec 32 := Scalar.muli v346 c512_i32_220
  let v401 : BitVec 32 := v400
  let v499 : Index := Scalar.indexCast v401
  ![384, v499.toNat]
def k0_off12 (i : grid0.Coords) (k0_t1 : Fin (k0_t1_loop i).trips) : Fin 2 → Nat :=
  let c512_300 : Index := 512#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c512_i32_220 : BitVec 32 := 512#32
  let v400 : BitVec 32 := Scalar.muli v346 c512_i32_220
  let v401 : BitVec 32 := v400
  let v527 : Index := Scalar.indexCast v401
  ![512, v527.toNat]
def k0_off13 (i : grid0.Coords) (k0_t1 : Fin (k0_t1_loop i).trips) : Fin 2 → Nat :=
  let c640_318 : Index := 640#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c512_i32_220 : BitVec 32 := 512#32
  let v400 : BitVec 32 := Scalar.muli v346 c512_i32_220
  let v401 : BitVec 32 := v400
  let v555 : Index := Scalar.indexCast v401
  ![640, v555.toNat]
def k0_mult7 (i : grid0.Coords) (k0_t1 : Fin (k0_t1_loop i).trips) : BitVec 32 :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c2_i32_329 : BitVec 32 := 2#32
  let v570 : BitVec 32 := Scalar.addi v346 c2_i32_329
  let c512_i32_330 : BitVec 32 := 512#32
  let v571 : BitVec 32 := Scalar.muli v570 c512_i32_330
  v571
def k0_mult8 (i : grid0.Coords) (k0_t1 : Fin (k0_t1_loop i).trips) : BitVec 32 :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c1_i32_374 : BitVec 32 := 1#32
  let v623 : BitVec 32 := Scalar.addi v346 c1_i32_374
  let c512_i32_375 : BitVec 32 := 512#32
  let v624 : BitVec 32 := Scalar.muli v623 c512_i32_375
  v624
def k0_off14 (i : grid0.Coords) (k0_t1 : Fin (k0_t1_loop i).trips) : Fin 2 → Nat :=
  let c0_383 : Index := 0#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c1_i32_374 : BitVec 32 := 1#32
  let v623 : BitVec 32 := Scalar.addi v346 c1_i32_374
  let c512_i32_375 : BitVec 32 := 512#32
  let v624 : BitVec 32 := Scalar.muli v623 c512_i32_375
  let v625 : BitVec 32 := v624
  let v639 : Index := Scalar.indexCast v625
  ![0, v639.toNat]
def k0_off15 (i : grid0.Coords) (k0_t1 : Fin (k0_t1_loop i).trips) : Fin 2 → Nat :=
  let c128_401 : Index := 128#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c1_i32_374 : BitVec 32 := 1#32
  let v623 : BitVec 32 := Scalar.addi v346 c1_i32_374
  let c512_i32_375 : BitVec 32 := 512#32
  let v624 : BitVec 32 := Scalar.muli v623 c512_i32_375
  let v625 : BitVec 32 := v624
  let v667 : Index := Scalar.indexCast v625
  ![128, v667.toNat]
def k0_off16 (i : grid0.Coords) (k0_t1 : Fin (k0_t1_loop i).trips) : Fin 2 → Nat :=
  let c256_419 : Index := 256#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c1_i32_374 : BitVec 32 := 1#32
  let v623 : BitVec 32 := Scalar.addi v346 c1_i32_374
  let c512_i32_375 : BitVec 32 := 512#32
  let v624 : BitVec 32 := Scalar.muli v623 c512_i32_375
  let v625 : BitVec 32 := v624
  let v695 : Index := Scalar.indexCast v625
  ![256, v695.toNat]
def k0_off17 (i : grid0.Coords) (k0_t1 : Fin (k0_t1_loop i).trips) : Fin 2 → Nat :=
  let c384_437 : Index := 384#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c1_i32_374 : BitVec 32 := 1#32
  let v623 : BitVec 32 := Scalar.addi v346 c1_i32_374
  let c512_i32_375 : BitVec 32 := 512#32
  let v624 : BitVec 32 := Scalar.muli v623 c512_i32_375
  let v625 : BitVec 32 := v624
  let v723 : Index := Scalar.indexCast v625
  ![384, v723.toNat]
def k0_off18 (i : grid0.Coords) (k0_t1 : Fin (k0_t1_loop i).trips) : Fin 2 → Nat :=
  let c512_455 : Index := 512#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c1_i32_374 : BitVec 32 := 1#32
  let v623 : BitVec 32 := Scalar.addi v346 c1_i32_374
  let c512_i32_375 : BitVec 32 := 512#32
  let v624 : BitVec 32 := Scalar.muli v623 c512_i32_375
  let v625 : BitVec 32 := v624
  let v751 : Index := Scalar.indexCast v625
  ![512, v751.toNat]
def k0_off19 (i : grid0.Coords) (k0_t1 : Fin (k0_t1_loop i).trips) : Fin 2 → Nat :=
  let c640_473 : Index := 640#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let c1_i32_23 : BitVec 32 := 1#32
  let arg13 : BitVec 32 := Scf.iv c0_i32_21 c1_i32_23 k0_t1
  let v345 : BitVec 32 := Scalar.muli c2_i32_177 arg13
  let v346 : BitVec 32 := Scalar.addi v25 v345
  let c1_i32_374 : BitVec 32 := 1#32
  let v623 : BitVec 32 := Scalar.addi v346 c1_i32_374
  let c512_i32_375 : BitVec 32 := 512#32
  let v624 : BitVec 32 := Scalar.muli v623 c512_i32_375
  let v625 : BitVec 32 := v624
  let v779 : Index := Scalar.indexCast v625
  ![640, v779.toNat]
@[reducible] def k0_t2_loop (i : grid0.Coords) : Scf.Loop 32 :=
  let c0_i32_21 : BitVec 32 := 0#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let v45 : BitVec 32 := Scalar.addi c0_i32_21 v44
  let c1_i32_24 : BitVec 32 := 1#32
  ⟨v48, v45, c1_i32_24⟩
def k0_mult9 (i : grid0.Coords) (k0_t2 : Fin (k0_t2_loop i).trips) : BitVec 32 :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c1_i32_178 : BitVec 32 := 1#32
  let v347 : BitVec 32 := Scalar.addi v346 c1_i32_178
  let c512_i32_179 : BitVec 32 := 512#32
  let v348 : BitVec 32 := Scalar.muli v347 c512_i32_179
  v348
def k0_off20 (i : grid0.Coords) (k0_t2 : Fin (k0_t2_loop i).trips) (c1_i32_178 : BitVec 32) : Fin 2 → Nat :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let v347 : BitVec 32 := Scalar.addi v346 c1_i32_178
  let c512_i32_179 : BitVec 32 := 512#32
  let v348 : BitVec 32 := Scalar.muli v347 c512_i32_179
  let v349 : BitVec 32 := v348
  let v350 : Index := Scalar.indexCast v349
  let c0_180 : Index := 0#32
  ![v350.toNat, 0]
def k0_off21 (i : grid0.Coords) (k0_t2 : Fin (k0_t2_loop i).trips) (c1_i32_178 : BitVec 32) : Fin 2 → Nat :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let v347 : BitVec 32 := Scalar.addi v346 c1_i32_178
  let c512_i32_179 : BitVec 32 := 512#32
  let v348 : BitVec 32 := Scalar.muli v347 c512_i32_179
  let v349 : BitVec 32 := v348
  let v352 : Index := Scalar.indexCast v349
  let c0_181 : Index := 0#32
  ![v352.toNat, 0]
def k0_off22 (i : grid0.Coords) (k0_t2 : Fin (k0_t2_loop i).trips) (c1_i32_178 : BitVec 32) : Fin 2 → Nat :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let v347 : BitVec 32 := Scalar.addi v346 c1_i32_178
  let c512_i32_179 : BitVec 32 := 512#32
  let v348 : BitVec 32 := Scalar.muli v347 c512_i32_179
  let v349 : BitVec 32 := v348
  let v360 : Index := Scalar.indexCast v349
  let c128_188 : Index := 128#32
  ![v360.toNat, 128]
def k0_off23 (i : grid0.Coords) (k0_t2 : Fin (k0_t2_loop i).trips) (c1_i32_178 : BitVec 32) : Fin 2 → Nat :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let v347 : BitVec 32 := Scalar.addi v346 c1_i32_178
  let c512_i32_179 : BitVec 32 := 512#32
  let v348 : BitVec 32 := Scalar.muli v347 c512_i32_179
  let v349 : BitVec 32 := v348
  let v368 : Index := Scalar.indexCast v349
  let c256_195 : Index := 256#32
  ![v368.toNat, 256]
def k0_off24 (i : grid0.Coords) (k0_t2 : Fin (k0_t2_loop i).trips) (c1_i32_178 : BitVec 32) : Fin 2 → Nat :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let v347 : BitVec 32 := Scalar.addi v346 c1_i32_178
  let c512_i32_179 : BitVec 32 := 512#32
  let v348 : BitVec 32 := Scalar.muli v347 c512_i32_179
  let v349 : BitVec 32 := v348
  let v376 : Index := Scalar.indexCast v349
  let c384_202 : Index := 384#32
  ![v376.toNat, 384]
def k0_off25 (i : grid0.Coords) (k0_t2 : Fin (k0_t2_loop i).trips) (c1_i32_178 : BitVec 32) : Fin 2 → Nat :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let v347 : BitVec 32 := Scalar.addi v346 c1_i32_178
  let c512_i32_179 : BitVec 32 := 512#32
  let v348 : BitVec 32 := Scalar.muli v347 c512_i32_179
  let v349 : BitVec 32 := v348
  let v384 : Index := Scalar.indexCast v349
  let c512_208 : Index := 512#32
  ![v384.toNat, 512]
def k0_off26 (i : grid0.Coords) (k0_t2 : Fin (k0_t2_loop i).trips) (c1_i32_178 : BitVec 32) : Fin 2 → Nat :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let v347 : BitVec 32 := Scalar.addi v346 c1_i32_178
  let c512_i32_179 : BitVec 32 := 512#32
  let v348 : BitVec 32 := Scalar.muli v347 c512_i32_179
  let v349 : BitVec 32 := v348
  let v392 : Index := Scalar.indexCast v349
  let c640_214 : Index := 640#32
  ![v392.toNat, 640]
def k0_mult10 (i : grid0.Coords) (k0_t2 : Fin (k0_t2_loop i).trips) : BitVec 32 :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c512_i32_220 : BitVec 32 := 512#32
  let v400 : BitVec 32 := Scalar.muli v346 c512_i32_220
  v400
def k0_off27 (i : grid0.Coords) (k0_t2 : Fin (k0_t2_loop i).trips) : Fin 2 → Nat :=
  let c0_228 : Index := 0#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c512_i32_220 : BitVec 32 := 512#32
  let v400 : BitVec 32 := Scalar.muli v346 c512_i32_220
  let v401 : BitVec 32 := v400
  let v415 : Index := Scalar.indexCast v401
  ![0, v415.toNat]
def k0_off28 (i : grid0.Coords) (k0_t2 : Fin (k0_t2_loop i).trips) : Fin 2 → Nat :=
  let c128_246 : Index := 128#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c512_i32_220 : BitVec 32 := 512#32
  let v400 : BitVec 32 := Scalar.muli v346 c512_i32_220
  let v401 : BitVec 32 := v400
  let v443 : Index := Scalar.indexCast v401
  ![128, v443.toNat]
def k0_off29 (i : grid0.Coords) (k0_t2 : Fin (k0_t2_loop i).trips) : Fin 2 → Nat :=
  let c256_264 : Index := 256#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c512_i32_220 : BitVec 32 := 512#32
  let v400 : BitVec 32 := Scalar.muli v346 c512_i32_220
  let v401 : BitVec 32 := v400
  let v471 : Index := Scalar.indexCast v401
  ![256, v471.toNat]
def k0_off30 (i : grid0.Coords) (k0_t2 : Fin (k0_t2_loop i).trips) : Fin 2 → Nat :=
  let c384_282 : Index := 384#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c512_i32_220 : BitVec 32 := 512#32
  let v400 : BitVec 32 := Scalar.muli v346 c512_i32_220
  let v401 : BitVec 32 := v400
  let v499 : Index := Scalar.indexCast v401
  ![384, v499.toNat]
def k0_off31 (i : grid0.Coords) (k0_t2 : Fin (k0_t2_loop i).trips) : Fin 2 → Nat :=
  let c512_300 : Index := 512#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c512_i32_220 : BitVec 32 := 512#32
  let v400 : BitVec 32 := Scalar.muli v346 c512_i32_220
  let v401 : BitVec 32 := v400
  let v527 : Index := Scalar.indexCast v401
  ![512, v527.toNat]
def k0_off32 (i : grid0.Coords) (k0_t2 : Fin (k0_t2_loop i).trips) : Fin 2 → Nat :=
  let c640_318 : Index := 640#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c512_i32_220 : BitVec 32 := 512#32
  let v400 : BitVec 32 := Scalar.muli v346 c512_i32_220
  let v401 : BitVec 32 := v400
  let v555 : Index := Scalar.indexCast v401
  ![640, v555.toNat]
def k0_mult11 (i : grid0.Coords) (k0_t2 : Fin (k0_t2_loop i).trips) : BitVec 32 :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c2_i32_329 : BitVec 32 := 2#32
  let v570 : BitVec 32 := Scalar.addi v346 c2_i32_329
  let c512_i32_330 : BitVec 32 := 512#32
  let v571 : BitVec 32 := Scalar.muli v570 c512_i32_330
  v571
def k0_mult12 (i : grid0.Coords) (k0_t2 : Fin (k0_t2_loop i).trips) : BitVec 32 :=
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c1_i32_374 : BitVec 32 := 1#32
  let v623 : BitVec 32 := Scalar.addi v346 c1_i32_374
  let c512_i32_375 : BitVec 32 := 512#32
  let v624 : BitVec 32 := Scalar.muli v623 c512_i32_375
  v624
def k0_off33 (i : grid0.Coords) (k0_t2 : Fin (k0_t2_loop i).trips) : Fin 2 → Nat :=
  let c0_383 : Index := 0#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c1_i32_374 : BitVec 32 := 1#32
  let v623 : BitVec 32 := Scalar.addi v346 c1_i32_374
  let c512_i32_375 : BitVec 32 := 512#32
  let v624 : BitVec 32 := Scalar.muli v623 c512_i32_375
  let v625 : BitVec 32 := v624
  let v639 : Index := Scalar.indexCast v625
  ![0, v639.toNat]
def k0_off34 (i : grid0.Coords) (k0_t2 : Fin (k0_t2_loop i).trips) : Fin 2 → Nat :=
  let c128_401 : Index := 128#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c1_i32_374 : BitVec 32 := 1#32
  let v623 : BitVec 32 := Scalar.addi v346 c1_i32_374
  let c512_i32_375 : BitVec 32 := 512#32
  let v624 : BitVec 32 := Scalar.muli v623 c512_i32_375
  let v625 : BitVec 32 := v624
  let v667 : Index := Scalar.indexCast v625
  ![128, v667.toNat]
def k0_off35 (i : grid0.Coords) (k0_t2 : Fin (k0_t2_loop i).trips) : Fin 2 → Nat :=
  let c256_419 : Index := 256#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c1_i32_374 : BitVec 32 := 1#32
  let v623 : BitVec 32 := Scalar.addi v346 c1_i32_374
  let c512_i32_375 : BitVec 32 := 512#32
  let v624 : BitVec 32 := Scalar.muli v623 c512_i32_375
  let v625 : BitVec 32 := v624
  let v695 : Index := Scalar.indexCast v625
  ![256, v695.toNat]
def k0_off36 (i : grid0.Coords) (k0_t2 : Fin (k0_t2_loop i).trips) : Fin 2 → Nat :=
  let c384_437 : Index := 384#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c1_i32_374 : BitVec 32 := 1#32
  let v623 : BitVec 32 := Scalar.addi v346 c1_i32_374
  let c512_i32_375 : BitVec 32 := 512#32
  let v624 : BitVec 32 := Scalar.muli v623 c512_i32_375
  let v625 : BitVec 32 := v624
  let v723 : Index := Scalar.indexCast v625
  ![384, v723.toNat]
def k0_off37 (i : grid0.Coords) (k0_t2 : Fin (k0_t2_loop i).trips) : Fin 2 → Nat :=
  let c512_455 : Index := 512#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c1_i32_374 : BitVec 32 := 1#32
  let v623 : BitVec 32 := Scalar.addi v346 c1_i32_374
  let c512_i32_375 : BitVec 32 := 512#32
  let v624 : BitVec 32 := Scalar.muli v623 c512_i32_375
  let v625 : BitVec 32 := v624
  let v751 : Index := Scalar.indexCast v625
  ![512, v751.toNat]
def k0_off38 (i : grid0.Coords) (k0_t2 : Fin (k0_t2_loop i).trips) : Fin 2 → Nat :=
  let c640_473 : Index := 640#32
  let arg2 : BitVec 32 := BitVec.ofNat 32 (i 2).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg2 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c1_i32_10 : BitVec 32 := 1#32
  let v19 : BitVec 1 := Scalar.cmpi .eq v18 c1_i32_10
  let v25 : BitVec 32 := Scalar.extui v19
  let c2_i32_177 : BitVec 32 := 2#32
  let c0_i32_21 : BitVec 32 := 0#32
  let v26 : BitVec 32 := Scalar.subi arg2 v25
  let c0_i32_14 : BitVec 32 := 0#32
  let v28 : BitVec 1 := Scalar.cmpi .sgt v26 c0_i32_14
  let v29 : BitVec 32 := Scalar.extui v28
  let c0_i32_15 : BitVec 32 := 0#32
  let v30 : BitVec 1 := Scalar.cmpi .slt v26 c0_i32_15
  let v31 : BitVec 32 := Scalar.extui v30
  let v32 : BitVec 32 := Scalar.subi v29 v31
  let c2_i32_13 : BitVec 32 := 2#32
  let c0_i32_16 : BitVec 32 := 0#32
  let v33 : BitVec 1 := Scalar.cmpi .sgt c2_i32_13 c0_i32_16
  let v34 : BitVec 32 := Scalar.extui v33
  let c0_i32_17 : BitVec 32 := 0#32
  let v35 : BitVec 1 := Scalar.cmpi .slt c2_i32_13 c0_i32_17
  let v36 : BitVec 32 := Scalar.extui v35
  let v37 : BitVec 32 := Scalar.subi v34 v36
  let v38 : BitVec 1 := Scalar.cmpi .ne v32 v37
  let v39 : BitVec 32 := Scalar.remsi v26 c2_i32_13
  let c0_i32_18 : BitVec 32 := 0#32
  let v40 : BitVec 1 := Scalar.cmpi .ne v39 c0_i32_18
  let v41 : BitVec 1 := Scalar.andi v38 v40
  let v27 : BitVec 32 := Scalar.divsi v26 c2_i32_13
  let c1_i32_19 : BitVec 32 := 1#32
  let v42 : BitVec 32 := Scalar.subi v27 c1_i32_19
  let v43 : BitVec 32 := Scalar.select v41 v42 v27
  let v44 : BitVec 32 := Scalar.subi v43 c0_i32_21
  let c1_i32_22 : BitVec 32 := 1#32
  let v46 : BitVec 32 := Scalar.divsi v44 c1_i32_22
  let v47 : BitVec 32 := Scalar.muli v46 c1_i32_22
  let v48 : BitVec 32 := Scalar.addi c0_i32_21 v47
  let c1_i32_24 : BitVec 32 := 1#32
  let arg13 : BitVec 32 := Scf.iv v48 c1_i32_24 k0_t2
  let v345 : BitVec 32 := Scalar.muli c2_i32_177 arg13
  let v346 : BitVec 32 := Scalar.addi v25 v345
  let c1_i32_374 : BitVec 32 := 1#32
  let v623 : BitVec 32 := Scalar.addi v346 c1_i32_374
  let c512_i32_375 : BitVec 32 := 512#32
  let v624 : BitVec 32 := Scalar.muli v623 c512_i32_375
  let v625 : BitVec 32 := v624
  let v779 : Index := Scalar.indexCast v625
  ![640, v779.toNat]
def k0_mult13 (i : grid0.Coords) : BitVec 32 :=
  let arg2 : BitVec 32 := BitVec.ofNat 32 (i 2).val
  let c512_i32 : BitVec 32 := 512#32
  let v49 : BitVec 32 := Scalar.muli arg2 c512_i32
  v49
def k0_off39 (i : grid0.Coords) : Fin 2 → Nat :=
  let c0_33 : Index := 0#32
  let arg2 : BitVec 32 := BitVec.ofNat 32 (i 2).val
  let c512_i32 : BitVec 32 := 512#32
  let v49 : BitVec 32 := Scalar.muli arg2 c512_i32
  let v50 : BitVec 32 := v49
  let v69 : Index := Scalar.indexCast v50
  ![0, v69.toNat]
def k0_off40 (i : grid0.Coords) : Fin 2 → Nat :=
  let c128 : Index := 128#32
  let arg2 : BitVec 32 := BitVec.ofNat 32 (i 2).val
  let c512_i32 : BitVec 32 := 512#32
  let v49 : BitVec 32 := Scalar.muli arg2 c512_i32
  let v50 : BitVec 32 := v49
  let v102 : Index := Scalar.indexCast v50
  ![128, v102.toNat]
def k0_off41 (i : grid0.Coords) : Fin 2 → Nat :=
  let c256 : Index := 256#32
  let arg2 : BitVec 32 := BitVec.ofNat 32 (i 2).val
  let c512_i32 : BitVec 32 := 512#32
  let v49 : BitVec 32 := Scalar.muli arg2 c512_i32
  let v50 : BitVec 32 := v49
  let v135 : Index := Scalar.indexCast v50
  ![256, v135.toNat]
def k0_off42 (i : grid0.Coords) : Fin 2 → Nat :=
  let c384 : Index := 384#32
  let arg2 : BitVec 32 := BitVec.ofNat 32 (i 2).val
  let c512_i32 : BitVec 32 := 512#32
  let v49 : BitVec 32 := Scalar.muli arg2 c512_i32
  let v50 : BitVec 32 := v49
  let v168 : Index := Scalar.indexCast v50
  ![384, v168.toNat]
def k0_off43 (i : grid0.Coords) : Fin 2 → Nat :=
  let c512 : Index := 512#32
  let arg2 : BitVec 32 := BitVec.ofNat 32 (i 2).val
  let c512_i32 : BitVec 32 := 512#32
  let v49 : BitVec 32 := Scalar.muli arg2 c512_i32
  let v50 : BitVec 32 := v49
  let v201 : Index := Scalar.indexCast v50
  ![512, v201.toNat]
def k0_off44 (i : grid0.Coords) : Fin 2 → Nat :=
  let c640 : Index := 640#32
  let arg2 : BitVec 32 := BitVec.ofNat 32 (i 2).val
  let c512_i32 : BitVec 32 := 512#32
  let v49 : BitVec 32 := Scalar.muli arg2 c512_i32
  let v50 : BitVec 32 := v49
  let v234 : Index := Scalar.indexCast v50
  ![640, v234.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S768x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S6144x16384 : Shape := ⟨2, ![6144, 16384]⟩
abbrev S16384x6912 : Shape := ⟨2, ![16384, 6912]⟩
abbrev S16384x3072 : Shape := ⟨2, ![16384, 3072]⟩
abbrev S3072x16384 : Shape := ⟨2, ![3072, 16384]⟩
abbrev S16384x128 : Shape := ⟨2, ![16384, 128]⟩
abbrev S24x256x4x4096 : Shape := ⟨4, ![24, 256, 4, 4096]⟩
abbrev S24x128x4x4096 : Shape := ⟨4, ![24, 128, 4, 4096]⟩
abbrev S4x4096x24x128 : Shape := ⟨4, ![4, 4096, 24, 128]⟩
abbrev S4x4096x128 : Shape := ⟨3, ![4, 4096, 128]⟩
abbrev S4x24x4096x4096 : Shape := ⟨4, ![4, 24, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x24x4096 : Shape := ⟨3, ![4, 24, 4096]⟩
abbrev S4x24x4096x1 : Shape := ⟨4, ![4, 24, 4096, 1]⟩
abbrev S4x24x128x4096 : Shape := ⟨4, ![4, 24, 128, 4096]⟩

abbrev nBuf : Space → Nat
  | .hbm => 63
  | .vmem => 0
  | .smem => 0
  | _ => 0

abbrev bufTy : (tb : Table) → Fin (tcTables nBuf tb) → BufTy
  | .hbm, ⟨0, _⟩ => ⟨S6144x16384, .bf16⟩
  | .hbm, ⟨1, _⟩ => ⟨S16384x6912, .bf16⟩
  | .hbm, ⟨2, _⟩ => ⟨S16384x3072, .bf16⟩
  | .hbm, ⟨3, _⟩ => ⟨S3072x16384, .bf16⟩
  | .hbm, ⟨4, _⟩ => ⟨S16384x128, .bf16⟩
  | .hbm, ⟨5, _⟩ => ⟨S6144x16384, .f32⟩
  | .hbm, ⟨6, _⟩ => ⟨S24x256x4x4096, .f32⟩
  | .hbm, ⟨7, _⟩ => ⟨S24x128x4x4096, .f32⟩
  | .hbm, ⟨8, _⟩ => ⟨S24x128x4x4096, .f32⟩
  | .hbm, ⟨9, _⟩ => ⟨S16384x3072, .f32⟩
  | .hbm, ⟨10, _⟩ => ⟨S4x4096x24x128, .f32⟩
  | .hbm, ⟨11, _⟩ => ⟨S16384x128, .f32⟩
  | .hbm, ⟨12, _⟩ => ⟨S4x4096x128, .f32⟩
  | .hbm, ⟨13, _⟩ => ⟨S3072x16384, .f32⟩
  | .hbm, ⟨14, _⟩ => ⟨S24x128x4x4096, .f32⟩
  | .hbm, ⟨15, _⟩ => ⟨S4x24x4096x4096, .f32⟩
  | .hbm, ⟨16, _⟩ => ⟨S4x24x4096x4096, .f32⟩
  | .hbm, ⟨17, _⟩ => ⟨S4x24x4096x4096, .f32⟩
  | .hbm, ⟨18, _⟩ => ⟨S_, .f32⟩
  | .hbm, ⟨19, _⟩ => ⟨S_, .f32⟩
  | .hbm, ⟨20, _⟩ => ⟨S4x24x4096x4096, .f32⟩
  | .hbm, ⟨21, _⟩ => ⟨S4x24x4096x4096, .f32⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S4x24x4096x4096, .i1⟩
  | .hbm, ⟨31, _⟩ => ⟨S4x24x4096x4096, .f32⟩
  | .hbm, ⟨32, _⟩ => ⟨S4x24x4096x4096, .f32⟩
  | .hbm, ⟨33, _⟩ => ⟨S_, .f32⟩
  | .hbm, ⟨34, _⟩ => ⟨S4x24x4096, .f32⟩
  | .hbm, ⟨35, _⟩ => ⟨S_, .f32⟩
  | .hbm, ⟨36, _⟩ => ⟨S4x24x4096, .f32⟩
  | .hbm, ⟨37, _⟩ => ⟨S4x24x4096, .f32⟩
  | .hbm, ⟨38, _⟩ => ⟨S4x24x4096x1, .f32⟩
  | .hbm, ⟨39, _⟩ => ⟨S4x24x4096x4096, .f32⟩
  | .hbm, ⟨40, _⟩ => ⟨S4x24x4096x4096, .f32⟩
  | .hbm, ⟨41, _⟩ => ⟨S4x24x4096x4096, .f32⟩
  | .hbm, ⟨42, _⟩ => ⟨S_, .f32⟩
  | .hbm, ⟨43, _⟩ => ⟨S4x24x4096, .f32⟩
  | .hbm, ⟨44, _⟩ => ⟨S4x24x4096x1, .f32⟩
  | .hbm, ⟨45, _⟩ => ⟨S4x24x4096x4096, .f32⟩
  | .hbm, ⟨46, _⟩ => ⟨S4x24x4096x4096, .f32⟩
  | .hbm, ⟨47, _⟩ => ⟨S4x24x128x4096, .f32⟩
  | .hbm, ⟨48, _⟩ => ⟨S4x4096x24x128, .f32⟩
  | .hbm, ⟨49, _⟩ => ⟨S16384x3072, .f32⟩
  | .hbm, ⟨50, _⟩ => ⟨S16384x3072, .bf16⟩
  | .hbm, ⟨51, _⟩ => ⟨S16384x3072, .f32⟩
  | .hbm, ⟨52, _⟩ => ⟨S16384x3072, .f32⟩
  | .hbm, ⟨53, _⟩ => ⟨S16384x3072, .f32⟩
  | .hbm, ⟨54, _⟩ => ⟨S_, .f32⟩
  | .hbm, ⟨55, _⟩ => ⟨S16384x3072, .f32⟩
  | .hbm, ⟨56, _⟩ => ⟨S16384x3072, .f32⟩
  | .hbm, ⟨57, _⟩ => ⟨S_, .f32⟩
  | .hbm, ⟨58, _⟩ => ⟨S16384x3072, .f32⟩
  | .hbm, ⟨59, _⟩ => ⟨S16384x3072, .f32⟩
  | .hbm, ⟨60, _⟩ => ⟨S16384x3072, .f32⟩
  | .hbm, ⟨61, _⟩ => ⟨S16384x3072, .f32⟩
  | .hbm, ⟨62, _⟩ => ⟨S16384x3072, .bf16⟩
  | _, _ => ⟨S6144x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Kernel2.lean ====
abbrev S16384x4096 : Shape := ⟨2, ![16384, 4096]⟩
abbrev S16384x1 : Shape := ⟨2, ![16384, 1]⟩
abbrev S2x4096x9216 : Shape := ⟨3, ![2, 4096, 9216]⟩
abbrev S16384x9216 : Shape := ⟨2, ![16384, 9216]⟩
abbrev S1024x4096 : Shape := ⟨2, ![1024, 4096]⟩
abbrev S1024x1 : Shape := ⟨2, ![1024, 1]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S16384x1, .f32⟩
  | .hbm, ⟨2, _⟩ => ⟨S2x4096x9216, .bf16⟩
  | .hbm, ⟨3, _⟩ => ⟨S16384x9216, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1, .f32⟩
  | .local _ .vmem, ⟨3, _⟩ => ⟨S1024x1, .f32⟩
  | .local _ .vmem, ⟨4, _⟩ => ⟨S1x4096x1024, .bf16⟩
  | .local _ .vmem, ⟨5, _⟩ => ⟨S1x4096x1024, .bf16⟩
  | .local _ .vmem, ⟨6, _⟩ => ⟨S1024x1024, .bf16⟩
  | .local _ .vmem, ⟨7, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x4096 : Shape := ⟨2, ![16384, 4096]⟩
abbrev S16384x1 : Shape := ⟨2, ![16384, 1]⟩
abbrev S2x4096x9216 : Shape := ⟨3, ![2, 4096, 9216]⟩
abbrev S_ : Shape := ⟨0, ![]⟩
abbrev S1x4096x9216 : Shape := ⟨3, ![1, 4096, 9216]⟩
abbrev S4096x9216 : Shape := ⟨2, ![4096, 9216]⟩
abbrev S16384x9216 : Shape := ⟨2, ![16384, 9216]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1, .f32⟩
  | .hbm, ⟨2, _⟩ => ⟨S2x4096x9216, .bf16⟩
  | .hbm, ⟨3, _⟩ => ⟨S16384x4096, .f32⟩
  | .hbm, ⟨4, _⟩ => ⟨S_, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x1, .f32⟩
  | .hbm, ⟨11, _⟩ => ⟨S16384x4096, .f32⟩
  | .hbm, ⟨12, _⟩ => ⟨S16384x4096, .f32⟩
  | .hbm, ⟨13, _⟩ => ⟨S1x4096x9216, .bf16⟩
  | .hbm, ⟨14, _⟩ => ⟨S4096x9216, .bf16⟩
  | .hbm, ⟨15, _⟩ => ⟨S4096x9216, .f32⟩
  | .hbm, ⟨16, _⟩ => ⟨S16384x9216, .f32⟩
  | .hbm, ⟨17, _⟩ => ⟨S16384x9216, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel3.lean ====
abbrev S16384x4096 : Shape := ⟨2, ![16384, 4096]⟩
abbrev S16384x1 : Shape := ⟨2, ![16384, 1]⟩
abbrev S2x4096x6912 : Shape := ⟨3, ![2, 4096, 6912]⟩
abbrev S16384x6912 : Shape := ⟨2, ![16384, 6912]⟩
abbrev S1024x4096 : Shape := ⟨2, ![1024, 4096]⟩
abbrev S1024x1 : Shape := ⟨2, ![1024, 1]⟩
abbrev S1x4096x768 : Shape := ⟨3, ![1, 4096, 768]⟩
abbrev S1024x768 : Shape := ⟨2, ![1024, 768]⟩
abbrev S4096x768 : Shape := ⟨2, ![4096, 768]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S16384x1, .f32⟩
  | .hbm, ⟨2, _⟩ => ⟨S2x4096x6912, .bf16⟩
  | .hbm, ⟨3, _⟩ => ⟨S16384x6912, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1, .f32⟩
  | .local _ .vmem, ⟨3, _⟩ => ⟨S1024x1, .f32⟩
  | .local _ .vmem, ⟨4, _⟩ => ⟨S1x4096x768, .bf16⟩
  | .local _ .vmem, ⟨5, _⟩ => ⟨S1x4096x768, .bf16⟩
  | .local _ .vmem, ⟨6, _⟩ => ⟨S1024x768, .bf16⟩
  | .local _ .vmem, ⟨7, _⟩ => ⟨S1024x768, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x4096 : Shape := ⟨2, ![16384, 4096]⟩
abbrev S16384x1 : Shape := ⟨2, ![16384, 1]⟩
abbrev S2x4096x6912 : Shape := ⟨3, ![2, 4096, 6912]⟩
abbrev S_ : Shape := ⟨0, ![]⟩
abbrev S1x4096x6912 : Shape := ⟨3, ![1, 4096, 6912]⟩
abbrev S4096x6912 : Shape := ⟨2, ![4096, 6912]⟩
abbrev S16384x6912 : Shape := ⟨2, ![16384, 6912]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1, .f32⟩
  | .hbm, ⟨2, _⟩ => ⟨S2x4096x6912, .bf16⟩
  | .hbm, ⟨3, _⟩ => ⟨S16384x4096, .f32⟩
  | .hbm, ⟨4, _⟩ => ⟨S_, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x1, .f32⟩
  | .hbm, ⟨11, _⟩ => ⟨S16384x4096, .f32⟩
  | .hbm, ⟨12, _⟩ => ⟨S16384x4096, .f32⟩
  | .hbm, ⟨13, _⟩ => ⟨S1x4096x6912, .bf16⟩
  | .hbm, ⟨14, _⟩ => ⟨S4096x6912, .bf16⟩
  | .hbm, ⟨15, _⟩ => ⟨S4096x6912, .f32⟩
  | .hbm, ⟨16, _⟩ => ⟨S16384x6912, .f32⟩
  | .hbm, ⟨17, _⟩ => ⟨S16384x6912, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel4.lean ====
abbrev S16384x3072 : Shape := ⟨2, ![16384, 3072]⟩
abbrev S16384x1024 : Shape := ⟨2, ![16384, 1024]⟩
abbrev S16384x4096 : Shape := ⟨2, ![16384, 4096]⟩
abbrev S4x4096x4096 : Shape := ⟨3, ![4, 4096, 4096]⟩
abbrev S16384x1 : Shape := ⟨2, ![16384, 1]⟩
abbrev S1024x3072 : Shape := ⟨2, ![1024, 3072]⟩
abbrev S1024x1024 : Shape := ⟨2, ![1024, 1024]⟩
abbrev S1024x512 : Shape := ⟨2, ![1024, 512]⟩
abbrev S1x3072x512 : Shape := ⟨3, ![1, 3072, 512]⟩
abbrev S1x1024x512 : Shape := ⟨3, ![1, 1024, 512]⟩
abbrev S1024x1 : Shape := ⟨2, ![1024, 1]⟩
abbrev S3072x512 : Shape := ⟨2, ![3072, 512]⟩
abbrev S1024 : Shape := ⟨1, ![1024]⟩

abbrev nBuf : Space → Nat
  | .hbm => 7
  | .vmem => 16
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16384x4096, .f32⟩
  | .hbm, ⟨3, _⟩ => ⟨S4x4096x4096, .bf16⟩
  | .hbm, ⟨4, _⟩ => ⟨S16384x4096, .f32⟩
  | .hbm, ⟨5, _⟩ => ⟨S16384x4096, .bf16⟩
  | .hbm, ⟨6, _⟩ => ⟨S16384x1, .f32⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .f32⟩
  | .local _ .vmem, ⟨5, _⟩ => ⟨S1024x512, .f32⟩
  | .local _ .vmem, ⟨6, _⟩ => ⟨S1x3072x512, .bf16⟩
  | .local _ .vmem, ⟨7, _⟩ => ⟨S1x3072x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x1, .f32⟩
  | .local _ .vmem, ⟨15, _⟩ => ⟨S1024x1, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v18 : BitVec 32 := Scalar.extui v17
  let c0_i32_17 : BitVec 32 := 0#32
  let v19 : BitVec 1 := Scalar.cmpi .ne v18 c0_i32_17
  v19

def k0_cond2 (i : grid0.Coords) : BitVec 1 :=
  let arg1 : BitVec 32 := BitVec.ofNat 32 (i 1).val
  let c0_i32_18 : BitVec 32 := 0#32
  let v20 : BitVec 1 := Scalar.cmpi .ne arg1 c0_i32_18
  let v21 : BitVec 32 := Scalar.extui v20
  let c0_i32_19 : BitVec 32 := 0#32
  let v22 : BitVec 1 := Scalar.cmpi .ne v21 c0_i32_19
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3072x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S16384x3072 : Shape := ⟨2, ![16384, 3072]⟩
abbrev S16384x1024 : Shape := ⟨2, ![16384, 1024]⟩
abbrev S16384x4096 : Shape := ⟨2, ![16384, 4096]⟩
abbrev S4x4096x4096 : Shape := ⟨3, ![4, 4096, 4096]⟩
abbrev S1x4096x4096 : Shape := ⟨3, ![1, 4096, 4096]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩

abbrev nBuf : Space → Nat
  | .hbm => 16
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16384x4096, .f32⟩
  | .hbm, ⟨3, _⟩ => ⟨S4x4096x4096, .bf16⟩
  | .hbm, ⟨4, _⟩ => ⟨S16384x4096, .bf16⟩
  | .hbm, ⟨5, _⟩ => ⟨S16384x4096, .f32⟩
  | .hbm, ⟨6, _⟩ => ⟨S1x4096x4096, .bf16⟩
  | .hbm, ⟨7, _⟩ => ⟨S4096x4096, .bf16⟩
  | .hbm, ⟨8, _⟩ => ⟨S4096x4096, .f32⟩
  | .hbm, ⟨9, _⟩ => ⟨S16384x4096, .f32⟩
  | .hbm, ⟨10, _⟩ => ⟨S16384x4096, .f32⟩
  | .hbm, ⟨11, _⟩ => ⟨S16384x4096, .bf16⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S16384x6912 : Shape := ⟨2, ![16384, 6912]⟩
abbrev S2x1024 : Shape := ⟨2, ![2, 1024]⟩
abbrev S2x1024x4608 : Shape := ⟨3, ![2, 1024, 4608]⟩
abbrev S4x4096 : Shape := ⟨2, ![4, 4096]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S1x1024 : Shape := ⟨2, ![1, 1024]⟩
abbrev S1024 : Shape := ⟨1, ![1024]⟩
abbrev S2x1024x24x192 : Shape := ⟨4, ![2, 1024, 24, 192]⟩
abbrev S2x1024x24x64 : Shape := ⟨4, ![2, 1024, 24, 64]⟩
abbrev S2x1024x24x128 : Shape := ⟨4, ![2, 1024, 24, 128]⟩
abbrev S2x1024x24x32 : Shape := ⟨4, ![2, 1024, 24, 32]⟩
abbrev S2x1024x24x256 : Shape := ⟨4, ![2, 1024, 24, 256]⟩
abbrev S2x1024x6144 : Shape := ⟨3, ![2, 1024, 6144]⟩
abbrev S2x6144x1024 : Shape := ⟨3, ![2, 6144, 1024]⟩
abbrev S128x16384 : Shape := ⟨2, ![128, 16384]⟩
abbrev S6144x16384 : Shape := ⟨2, ![6144, 16384]⟩
abbrev S1024x1024 : Shape := ⟨2, ![1024, 1024]⟩
abbrev S1x1536x1024 : Shape := ⟨3, ![1, 1536, 1024]⟩
abbrev S128x1024 : Shape := ⟨2, ![128, 1024]⟩
abbrev S1536x1024 : Shape := ⟨2, ![1536, 1024]⟩
abbrev S1024x1 : Shape := ⟨2, ![1024, 1]⟩
abbrev S1x256x1024 : Shape := ⟨3, ![1, 256, 1024]⟩
abbrev S256x1024 : Shape := ⟨2, ![256, 1024]⟩
abbrev S64x1024 : Shape := ⟨2, ![64, 1024]⟩

abbrev nBuf : Space → Nat
  | .hbm => 48
  | .vmem => 12
  | .smem => 0
  | _ => 0

abbrev bufTy : (tb : Table) → Fin (tcTables nBuf tb) → BufTy
  | .hbm, ⟨0, _⟩ => ⟨S16384x6912, .bf16⟩
  | .hbm, ⟨1, _⟩ => ⟨S2x1024, .f32⟩
  | .hbm, ⟨2, _⟩ => ⟨S2x1024x4608, .f32⟩
  | .hbm, ⟨3, _⟩ => ⟨S4x4096, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4x4096, .f32⟩
  | .hbm, ⟨19, _⟩ => ⟨S16384, .f32⟩
  | .hbm, ⟨20, _⟩ => ⟨S16384x1, .f32⟩
  | .hbm, ⟨21, _⟩ => ⟨S1x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S_, .f32⟩
  | .hbm, ⟨28, _⟩ => ⟨S16384x32, .f32⟩
  | .hbm, ⟨29, _⟩ => ⟨S16384x128, .f32⟩
  | .hbm, ⟨30, _⟩ => ⟨S16384x32, .f32⟩
  | .hbm, ⟨31, _⟩ => ⟨S16384x128, .f32⟩
  | .hbm, ⟨32, _⟩ => ⟨S1x1024, .f32⟩
  | .hbm, ⟨33, _⟩ => ⟨S1024, .f32⟩
  | .hbm, ⟨34, _⟩ => ⟨S2x1024x4608, .bf16⟩
  | .hbm, ⟨35, _⟩ => ⟨S2x1024x24x192, .bf16⟩
  | .hbm, ⟨36, _⟩ => ⟨S2x1024x24x64, .bf16⟩
  | .hbm, ⟨37, _⟩ => ⟨S2x1024x24x128, .bf16⟩
  | .hbm, ⟨38, _⟩ => ⟨S2x1024x24x32, .bf16⟩
  | .hbm, ⟨39, _⟩ => ⟨S2x1024x24x32, .bf16⟩
  | .hbm, ⟨40, _⟩ => ⟨S2x1024x24x64, .bf16⟩
  | .hbm, ⟨41, _⟩ => ⟨S2x1024x24x256, .bf16⟩
  | .hbm, ⟨42, _⟩ => ⟨S2x1024x6144, .bf16⟩
  | .hbm, ⟨43, _⟩ => ⟨S2x6144x1024, .bf16⟩
  | .hbm, ⟨44, _⟩ => ⟨S128x16384, .f32⟩
  | .hbm, ⟨45, _⟩ => ⟨S128x16384, .f32⟩
  | .hbm, ⟨46, _⟩ => ⟨S1x1024, .f32⟩
  | .hbm, ⟨47, _⟩ => ⟨S6144x16384, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1x1536x1024, .bf16⟩
  | .local _ .vmem, ⟨4, _⟩ => ⟨S1x1536x1024, .bf16⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S1536x1024, .bf16⟩
  | .local _ .vmem, ⟨10, _⟩ => ⟨S1536x1024, .bf16⟩
  | .local _ .vmem, ⟨11, _⟩ => ⟨S1024x1024, .bf16⟩
  | _, _ => ⟨S16384x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1536x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16384x6912 : Shape := ⟨2, ![16384, 6912]⟩
abbrev S2x1024 : Shape := ⟨2, ![2, 1024]⟩
abbrev S2x1024x4608 : Shape := ⟨3, ![2, 1024, 4608]⟩
abbrev S4x4096 : Shape := ⟨2, ![4, 4096]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x4608 : Shape := ⟨3, ![1, 1024, 4608]⟩
abbrev S1024x4608 : Shape := ⟨2, ![1024, 4608]⟩
abbrev S16384x4608 : Shape := ⟨2, ![16384, 4608]⟩
abbrev S4x4096x24x192 : Shape := ⟨4, ![4, 4096, 24, 192]⟩
abbrev S32 : Shape := ⟨1, ![32]⟩
abbrev S4x4096x1 : Shape := ⟨3, ![4, 4096, 1]⟩
abbrev S1x1x32 : Shape := ⟨3, ![1, 1, 32]⟩
abbrev S4x4096x32 : Shape := ⟨3, ![4, 4096, 32]⟩
abbrev S4x4096x1x32 : Shape := ⟨4, ![4, 4096, 1, 32]⟩
abbrev S4x4096x24x32 : Shape := ⟨4, ![4, 4096, 24, 32]⟩
abbrev S4x4096x24x128 : Shape := ⟨4, ![4, 4096, 24, 128]⟩
abbrev S4x4096x24x64 : Shape := ⟨4, ![4, 4096, 24, 64]⟩
abbrev S4x4096x24x256 : Shape := ⟨4, ![4, 4096, 24, 256]⟩
abbrev S24x256x4x4096 : Shape := ⟨4, ![24, 256, 4, 4096]⟩
abbrev S6144x16384 : Shape := ⟨2, ![6144, 16384]⟩

abbrev nBuf : Space → Nat
  | .hbm => 75
  | .vmem => 0
  | .smem => 0
  | _ => 0

abbrev bufTy : (tb : Table) → Fin (tcTables nBuf tb) → BufTy
  | .hbm, ⟨0, _⟩ => ⟨S16384x6912, .bf16⟩
  | .hbm, ⟨1, _⟩ => ⟨S2x1024, .f32⟩
  | .hbm, ⟨2, _⟩ => ⟨S2x1024x4608, .f32⟩
  | .hbm, ⟨3, _⟩ => ⟨S4x4096, .i32⟩
  | .hbm, ⟨4, _⟩ => ⟨S16384x1024, .bf16⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x4608, .f32⟩
  | .hbm, ⟨25, _⟩ => ⟨S1024x4608, .f32⟩
  | .hbm, ⟨26, _⟩ => ⟨S16384x4608, .f32⟩
  | .hbm, ⟨27, _⟩ => ⟨S4x4096x24x192, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S4x4096, .f32⟩
  | .hbm, ⟨43, _⟩ => ⟨S4x4096x1, .f32⟩
  | .hbm, ⟨44, _⟩ => ⟨S1x1x32, .f32⟩
  | .hbm, ⟨45, _⟩ => ⟨S4x4096x32, .f32⟩
  | .hbm, ⟨46, _⟩ => ⟨S4x4096x32, .f32⟩
  | .hbm, ⟨47, _⟩ => ⟨S4x4096x32, .f32⟩
  | .hbm, ⟨48, _⟩ => ⟨S4x4096x32, .f32⟩
  | .hbm, ⟨49, _⟩ => ⟨S4x4096x1x32, .f32⟩
  | .hbm, ⟨50, _⟩ => ⟨S4x4096x32, .f32⟩
  | .hbm, ⟨51, _⟩ => ⟨S4x4096x1x32, .f32⟩
  | .hbm, ⟨52, _⟩ => ⟨S4x4096x24x32, .f32⟩
  | .hbm, ⟨53, _⟩ => ⟨S4x4096x24x32, .f32⟩
  | .hbm, ⟨54, _⟩ => ⟨S4x4096x24x128, .f32⟩
  | .hbm, ⟨55, _⟩ => ⟨S4x4096x24x32, .f32⟩
  | .hbm, ⟨56, _⟩ => ⟨S4x4096x24x32, .f32⟩
  | .hbm, ⟨57, _⟩ => ⟨S4x4096x24x32, .f32⟩
  | .hbm, ⟨58, _⟩ => ⟨S4x4096x24x32, .f32⟩
  | .hbm, ⟨59, _⟩ => ⟨S4x4096x24x32, .f32⟩
  | .hbm, ⟨60, _⟩ => ⟨S4x4096x24x32, .f32⟩
  | .hbm, ⟨61, _⟩ => ⟨S4x4096x24x32, .f32⟩
  | .hbm, ⟨62, _⟩ => ⟨S4x4096x24x32, .f32⟩
  | .hbm, ⟨63, _⟩ => ⟨S4x4096x24x32, .f32⟩
  | .hbm, ⟨64, _⟩ => ⟨S4x4096x24x32, .f32⟩
  | .hbm, ⟨65, _⟩ => ⟨S4x4096x24x64, .f32⟩
  | .hbm, ⟨66, _⟩ => ⟨S_, .f32⟩
  | .hbm, ⟨67, _⟩ => ⟨S4x4096x24x64, .f32⟩
  | .hbm, ⟨68, _⟩ => ⟨S4x4096x24x256, .f32⟩
  | .hbm, ⟨69, _⟩ => ⟨S_, .f32⟩
  | .hbm, ⟨70, _⟩ => ⟨S4x4096x24x256, .f32⟩
  | .hbm, ⟨71, _⟩ => ⟨S4x4096x24x256, .f32⟩
  | .hbm, ⟨72, _⟩ => ⟨S4x4096x24x256, .bf16⟩
  | .hbm, ⟨73, _⟩ => ⟨S24x256x4x4096, .bf16⟩
  | .hbm, ⟨74, _⟩ => ⟨S6144x16384, .bf16⟩
  | _, _ => ⟨S16384x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_v55 : Ref sig .tc := ⟨.hbm, 67, rfl⟩
abbrev main_v56 : Ref sig .tc := ⟨.hbm, 68, rfl⟩
abbrev main_cst_7 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== Kernel6.lean ====
abbrev S4x256x4096 : Shape := ⟨3, ![4, 256, 4096]⟩
abbrev S4x4096 : Shape := ⟨2, ![4, 4096]⟩
abbrev S4x4096x2048 : Shape := ⟨3, ![4, 4096, 2048]⟩
abbrev S1024x4096 : Shape := ⟨2, ![1024, 4096]⟩
abbrev S4x1x4096 : Shape := ⟨3, ![4, 1, 4096]⟩
abbrev S4x1024x2048 : Shape := ⟨3, ![4, 1024, 2048]⟩
abbrev S512x4096 : Shape := ⟨2, ![512, 4096]⟩
abbrev S1x1x4096 : Shape := ⟨3, ![1, 1, 4096]⟩
abbrev S1x4096x1024 : Shape := ⟨3, ![1, 4096, 1024]⟩
abbrev S1x512x1024 : Shape := ⟨3, ![1, 512, 1024]⟩
abbrev S1x4096 : Shape := ⟨2, ![1, 4096]⟩
abbrev S512 : Shape := ⟨1, ![512]⟩
abbrev S512x1 : Shape := ⟨2, ![512, 1]⟩
abbrev S4096x1024 : Shape := ⟨2, ![4096, 1024]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x256x4096, .f32⟩
  | .hbm, ⟨1, _⟩ => ⟨S4x4096, .f32⟩
  | .hbm, ⟨2, _⟩ => ⟨S4x4096x2048, .f32⟩
  | .hbm, ⟨3, _⟩ => ⟨S1024x4096, .f32⟩
  | .hbm, ⟨4, _⟩ => ⟨S4x4096x2048, .bf16⟩
  | .hbm, ⟨5, _⟩ => ⟨S4x1x4096, .f32⟩
  | .hbm, ⟨6, _⟩ => ⟨S4x1024x2048, .bf16⟩
  | .local _ .vmem, ⟨0, _⟩ => ⟨S512x4096, .f32⟩
  | .local _ .vmem, ⟨1, _⟩ => ⟨S512x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x4096x1024, .bf16⟩
  | .local _ .vmem, ⟨5, _⟩ => ⟨S1x4096x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x4096, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference6Ideal.lean ====
abbrev S4x256x4096 : Shape := ⟨3, ![4, 256, 4096]⟩
abbrev S4x4096 : Shape := ⟨2, ![4, 4096]⟩
abbrev S4x4096x2048 : Shape := ⟨3, ![4, 4096, 2048]⟩
abbrev S1024x4096 : Shape := ⟨2, ![1024, 4096]⟩
abbrev S_ : Shape := ⟨0, ![]⟩
abbrev S1024 : Shape := ⟨1, ![1024]⟩
abbrev S1024x1 : Shape := ⟨2, ![1024, 1]⟩
abbrev S4x1x4096 : Shape := ⟨3, ![4, 1, 4096]⟩
abbrev S1x1024x4096 : Shape := ⟨3, ![1, 1024, 4096]⟩
abbrev S4x1024x4096 : Shape := ⟨3, ![4, 1024, 4096]⟩
abbrev S4x1024x2048 : Shape := ⟨3, ![4, 1024, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4x4096, .f32⟩
  | .hbm, ⟨2, _⟩ => ⟨S4x4096x2048, .f32⟩
  | .hbm, ⟨3, _⟩ => ⟨S1024x4096, .f32⟩
  | .hbm, ⟨4, _⟩ => ⟨S1024x4096, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x4096, .f32⟩
  | .hbm, ⟨16, _⟩ => ⟨S1024x4096, .f32⟩
  | .hbm, ⟨17, _⟩ => ⟨S4x1x4096, .f32⟩
  | .hbm, ⟨18, _⟩ => ⟨S1x1024x4096, .f32⟩
  | .hbm, ⟨19, _⟩ => ⟨S4x1024x4096, .f32⟩
  | .hbm, ⟨20, _⟩ => ⟨S4x1024x4096, .f32⟩
  | .hbm, ⟨21, _⟩ => ⟨S4x1024x4096, .f32⟩
  | .hbm, ⟨22, _⟩ => ⟨S4x1024x2048, .f32⟩
  | .hbm, ⟨23, _⟩ => ⟨S4x1024x2048, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel7.lean ====
abbrev S16384x4096 : Shape := ⟨2, ![16384, 4096]⟩
abbrev S16384x1 : Shape := ⟨2, ![16384, 1]⟩
abbrev S4096 : Shape := ⟨1, ![4096]⟩
abbrev S1x4096 : Shape := ⟨2, ![1, 4096]⟩
abbrev S256x4096 : Shape := ⟨2, ![256, 4096]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x1, .f32⟩
  | .hbm, ⟨2, _⟩ => ⟨S4096, .f32⟩
  | .hbm, ⟨3, _⟩ => ⟨S1x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x1, .f32⟩
  | .local _ .vmem, ⟨3, _⟩ => ⟨S256x1, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16384x4096 : Shape := ⟨2, ![16384, 4096]⟩
abbrev S16384x1 : Shape := ⟨2, ![16384, 1]⟩
abbrev S4096 : Shape := ⟨1, ![4096]⟩
abbrev S_ : Shape := ⟨0, ![]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1, .f32⟩
  | .hbm, ⟨2, _⟩ => ⟨S4096, .f32⟩
  | .hbm, ⟨3, _⟩ => ⟨S_, .f32⟩
  | .hbm, ⟨4, _⟩ => ⟨S16384x1, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x1, .f32⟩
  | .hbm, ⟨10, _⟩ => ⟨S16384x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel8.lean ====
abbrev S16384x6912 : Shape := ⟨2, ![16384, 6912]⟩
abbrev S4x1024x2048 : Shape := ⟨3, ![4, 1024, 2048]⟩
abbrev S16384x1024 : Shape := ⟨2, ![16384, 1024]⟩
abbrev S512x1024 : Shape := ⟨2, ![512, 1024]⟩
abbrev S1x256x1024 : Shape := ⟨3, ![1, 256, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 10
  | .smem => 0
  | _ => 0

abbrev bufTy : (tb : Table) → Fin (tcTables nBuf tb) → BufTy
  | .hbm, ⟨0, _⟩ => ⟨S16384x6912, .bf16⟩
  | .hbm, ⟨1, _⟩ => ⟨S4x1024x2048, .bf16⟩
  | .hbm, ⟨2, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S512x1024, .bf16⟩
  | .local _ .vmem, ⟨9, _⟩ => ⟨S512x1024, .bf16⟩
  | _, _ => ⟨S16384x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S16384x6912 : Shape := ⟨2, ![16384, 6912]⟩
abbrev S4x1024x2048 : Shape := ⟨3, ![4, 1024, 2048]⟩
abbrev S16384x1024 : Shape := ⟨2, ![16384, 1024]⟩
abbrev S4x4096x4x256 : Shape := ⟨4, ![4, 4096, 4, 256]⟩
abbrev S1x1024x2048 : Shape := ⟨3, ![1, 1024, 2048]⟩
abbrev S1024x2048 : Shape := ⟨2, ![1024, 2048]⟩
abbrev S4x256x2x4x256 : Shape := ⟨5, ![4, 256, 2, 4, 256]⟩
abbrev S4x256x1x4x256 : Shape := ⟨5, ![4, 256, 1, 4, 256]⟩
abbrev S4x256x4x256 : Shape := ⟨4, ![4, 256, 4, 256]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩

abbrev nBuf : Space → Nat
  | .hbm => 44
  | .vmem => 0
  | .smem => 0
  | _ => 0

abbrev bufTy : (tb : Table) → Fin (tcTables nBuf tb) → BufTy
  | .hbm, ⟨0, _⟩ => ⟨S16384x6912, .bf16⟩
  | .hbm, ⟨1, _⟩ => ⟨S4x1024x2048, .bf16⟩
  | .hbm, ⟨2, _⟩ => ⟨S16384x1024, .bf16⟩
  | .hbm, ⟨3, _⟩ => ⟨S4x4096x4x256, .bf16⟩
  | .hbm, ⟨4, _⟩ => ⟨S4x4096x4x256, .f32⟩
  | .hbm, ⟨5, _⟩ => ⟨S1x1024x2048, .bf16⟩
  | .hbm, ⟨6, _⟩ => ⟨S1024x2048, .bf16⟩
  | .hbm, ⟨7, _⟩ => ⟨S4x256x2x4x256, .bf16⟩
  | .hbm, ⟨8, _⟩ => ⟨S4x256x2x4x256, .f32⟩
  | .hbm, ⟨9, _⟩ => ⟨S4x256x1x4x256, .f32⟩
  | .hbm, ⟨10, _⟩ => ⟨S4x256x4x256, .f32⟩
  | .hbm, ⟨11, _⟩ => ⟨S4x4x4096x256, .f32⟩
  | .hbm, ⟨12, _⟩ => ⟨S_, .f32⟩
  | .hbm, ⟨13, _⟩ => ⟨S4x4x4096, .f32⟩
  | .hbm, ⟨14, _⟩ => ⟨S_, .f32⟩
  | .hbm, ⟨15, _⟩ => ⟨S4x4x4096, .f32⟩
  | .hbm, ⟨16, _⟩ => ⟨S4x4x4096, .f32⟩
  | .hbm, ⟨17, _⟩ => ⟨S4x4x4096x1, .f32⟩
  | .hbm, ⟨18, _⟩ => ⟨S4x4x4096x256, .f32⟩
  | .hbm, ⟨19, _⟩ => ⟨S4x4x4096x256, .f32⟩
  | .hbm, ⟨20, _⟩ => ⟨S4x4x4096x256, .f32⟩
  | .hbm, ⟨21, _⟩ => ⟨S_, .f32⟩
  | .hbm, ⟨22, _⟩ => ⟨S4x4x4096, .f32⟩
  | .hbm, ⟨23, _⟩ => ⟨S4x4x4096x1, .f32⟩
  | .hbm, ⟨24, _⟩ => ⟨S4x4x4096x256, .f32⟩
  | .hbm, ⟨25, _⟩ => ⟨S4x4x4096x256, .f32⟩
  | .hbm, ⟨26, _⟩ => ⟨S4x256x1x4x256, .f32⟩
  | .hbm, ⟨27, _⟩ => ⟨S4x256x4x256, .f32⟩
  | .hbm, ⟨28, _⟩ => ⟨S4x4x256x4096, .f32⟩
  | .hbm, ⟨29, _⟩ => ⟨S4x4096x4x256, .f32⟩
  | .hbm, ⟨30, _⟩ => ⟨S16384x1024, .f32⟩
  | .hbm, ⟨31, _⟩ => ⟨S16384x1024, .bf16⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .bf16⟩
  | _, _ => ⟨S16384x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel9.lean ====
abbrev S4x4096x4096 : Shape := ⟨3, ![4, 4096, 4096]⟩
abbrev S16384x4096 : Shape := ⟨2, ![16384, 4096]⟩
abbrev S16384x1 : Shape := ⟨2, ![16384, 1]⟩
abbrev S256x4096 : Shape := ⟨2, ![256, 4096]⟩
abbrev S256x1 : Shape := ⟨2, ![256, 1]⟩
abbrev S256 : Shape := ⟨1, ![256]⟩

abbrev nBuf : Space → Nat
  | .hbm => 4
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S16384x4096, .f32⟩
  | .hbm, ⟨2, _⟩ => ⟨S16384x4096, .bf16⟩
  | .hbm, ⟨3, _⟩ => ⟨S16384x1, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x1, .f32⟩
  | .local _ .vmem, ⟨5, _⟩ => ⟨S256x1, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4x4096x4096 : Shape := ⟨3, ![4, 4096, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S16384x4096, .f32⟩
  | .hbm, ⟨2, _⟩ => ⟨S16384x4096, .bf16⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Float.Indep.lean ====
module

public import proofs.«01_k».proof.Proof.Float.RunA
public import Idealize.ShloMosaic.Lib.Pipeline.ReadBack

@[expose] public section

set_option maxRecDepth 16384

noncomputable section

namespace Cert.Kernel.Att

open Cert.Kernel Cert.Kernel.Gen Idealize.ShloMosaic Idealize.ShloMosaic.TcCoe

variable {F : FTy → Type} [FloatOps F]

/-- The second of the two loops the body's loop is printed as makes no trips. -/
theorem trips2 : ∀ i : grid0.Coords, Scf.trips (k0_t2_loop i).lb (k0_t2_loop i).ub (k0_t2_loop i).st = 0 := by decide +kernel

section
variable (𝒱 : Variants) (c : Dev nD) (bd : Option 𝒱.V) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (arg2 : BitVec 32) (v8 : FVec F S16x512 .bf16) (v25 v26 c2_i32_13 v27 v29 : BitVec 32) (v30 : BitVec 1) (v48 : BitVec 32)
  (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G'_arg10 : BufTy.Contents (Elt F) arg10.view.ty)

theorem pb2_none : pb_k0_t2 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 v48 X_arg3 X_arg5 X_arg6 X_arg7 G_arg9 G_arg10 G_arg11 G_arg12 (Scf.trips (k0_t2_loop i).lb (k0_t2_loop i).ub (k0_t2_loop i).st) = ([], [], [], []) := by
  rw [trips2]; rfl

variable (k : Fin (k0_t1_loop i).trips) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f'_arg10 : BufTy.Contents (Elt F) arg10.view.ty)

/-- List 1 of a trip's pieces does not depend on what the second score buffer held. -/
theorem trip_indep1 : (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).1 f_arg9 f_arg10 f_arg11 f_arg12 = (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).1 f_arg9 f'_arg10 f_arg11 f_arg12 := by
  unfold trip_k0_t1; rfl

/-- List 2 of a trip's pieces does not depend on what the second score buffer held. -/
theorem trip_indep2 : (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.1 f_arg9 f_arg10 f_arg11 f_arg12 = (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.1 f_arg9 f'_arg10 f_arg11 f_arg12 := by
  unfold trip_k0_t1; rfl

/-- List 3 of a trip's pieces does not depend on what the second score buffer held. -/
theorem trip_indep3 : (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.2.1 f_arg9 f_arg10 f_arg11 f_arg12 = (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.2.1 f_arg9 f'_arg10 f_arg11 f_arg12 := by
  unfold trip_k0_t1; rfl

/-- List 4 of a trip's pieces does not depend on what the second score buffer held. -/
theorem trip_indep4 : (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.2.2.1 f_arg9 f_arg10 f_arg11 f_arg12 = (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.2.2.1 f_arg9 f'_arg10 f_arg11 f_arg12 := by
  unfold trip_k0_t1; rfl

/-- A trip's pieces, all four lists, likewise. -/
theorem tripL_indep : tripL_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k f_arg9 f_arg10 f_arg11 f_arg12 = tripL_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k f_arg9 f'_arg10 f_arg11 f_arg12 := by
  unfold tripL_k0_t1
  rw [trip_indep1 (f_arg10 := f_arg10) (f'_arg10 := f'_arg10), trip_indep2 (f_arg10 := f_arg10) (f'_arg10 := f'_arg10), trip_indep3 (f_arg10 := f_arg10) (f'_arg10 := f'_arg10), trip_indep4 (f_arg10 := f_arg10) (f'_arg10 := f'_arg10)]

/-- What the trips leave does not depend on what the second score buffer held before the first. -/
theorem pb1_indep (n : ℕ) (h : n ≤ (k0_t1_loop i).trips) : pb_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 G_arg9 G_arg10 G_arg11 G_arg12 n = pb_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 G_arg9 G'_arg10 G_arg11 G_arg12 n := by
  induction n with
  | zero => rfl
  | succ n ih =>
    rw [pb_k0_t1_succ (G_arg10 := G_arg10) (k := ⟨n, h⟩),
      pb_k0_t1_succ (G_arg10 := G'_arg10) (k := ⟨n, h⟩),
      ih (by omega), tripL_indep (f'_arg10 := arg10.view.writes (Elt F) G'_arg10 (pb_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 G_arg9 G'_arg10 G_arg11 G_arg12 n).2.1)]
end

/-- The function's result does not depend on its argument. -/
def Same {α β : Type} (f : α → β) : Prop := ∀ g g' : α, f g = f g'

section
variable (c : Dev nD) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (x0 : Vec F S1536x512 .bf16) (x1 : Vec F S512x768 .bf16) (x2 : Vec F S4096x768 .bf16) (x3 : Vec F S4096x128 .bf16) (x4 : Vec F S768x4096 .bf16) (g g' : BufTy.Contents (Elt F) arg10.view.ty)

theorem v51_g : Same (runA.sl.v51 c i arg3 harg3 arg4 harg4 arg5 harg5 arg6 harg6 arg7 harg7 arg8 harg8 arg9 harg9 arg10 harg10 arg11 harg11 arg12 harg12 x0 x2 x3 x4) := fun g g' => by
  unfold runA.sl.v51; rw [pb2_none, pb2_none, pb1_indep (G_arg10 := g) (G'_arg10 := g') (h := le_refl _)]
theorem v58_g : Same (runA.sl.v58 c i arg3 harg3 arg4 harg4 arg5 harg5 arg6 harg6 arg7 harg7 arg8 harg8 arg9 harg9 arg10 harg10 arg11 harg11 arg12 harg12 x0 x2 x3 x4) := fun g g' => by
  unfold runA.sl.v58; rw [pb2_none, pb2_none, pb1_indep (G_arg10 := g) (G'_arg10 := g') (h := le_refl _)]
theorem r_3_g : Same (runA.sl.r_3 c i arg3 harg3 arg4 harg4 arg5 harg5 arg6 harg6 arg7 harg7 arg8 harg8 arg9 harg9 arg10 harg10 arg11 harg11 arg12 harg12 x0 x2 x3 x4) := fun g g' => by
  unfold runA.sl.r_3; rw [v51_g (g := g) (g' := g') .., v58_g (g := g) (g' := g') ..]
theorem HS2_1_1_g : Same (runA.sl.HS2_1_1 c i arg3 harg3 arg4 harg4 arg5 harg5 arg6 harg6 arg7 harg7 arg8 harg8 arg9 harg9 arg10 harg10 arg11 harg11 arg12 harg12 x0 x2 x3 x4) := fun g g' => by
  unfold runA.sl.HS2_1_1; rw [pb2_none, pb2_none, pb1_indep (G_arg10 := g) (G'_arg10 := g') (h := le_refl _)]; rw [r_3_g (g := g) (g' := g') ..]
theorem v84_g : Same (runA.sl.v84 c i arg3 harg3 arg4 harg4 arg5 harg5 arg6 harg6 arg7 harg7 arg8 harg8 arg9 harg9 arg10 harg10 arg11 harg11 arg12 harg12 x0 x2 x3 x4) := fun g g' => by
  unfold runA.sl.v84; rw [pb2_none, pb2_none, pb1_indep (G_arg10 := g) (G'_arg10 := g') (h := le_refl _)]
theorem v91_g : Same (runA.sl.v91 c i arg3 harg3 arg4 harg4 arg5 harg5 arg6 harg6 arg7 harg7 arg8 harg8 arg9 harg9 arg10 harg10 arg11 harg11 arg12 harg12 x0 x2 x3 x4) := fun g g' => by
  unfold runA.sl.v91; rw [HS2_1_1_g (g := g) (g' := g') ..]
theorem r_6_g : Same (runA.sl.r_6 c i arg3 harg3 arg4 harg4 arg5 harg5 arg6 harg6 arg7 harg7 arg8 harg8 arg9 harg9 arg10 harg10 arg11 harg11 arg12 harg12 x0 x2 x3 x4) := fun g g' => by
  unfold runA.sl.r_6; rw [v84_g (g := g) (g' := g') .., v91_g (g := g) (g' := g') ..]
theorem HS2_2_g : Same (runA.sl.HS2_2 c i arg3 harg3 arg4 harg4 arg5 harg5 arg6 harg6 arg7 harg7 arg8 harg8 arg9 harg9 arg10 harg10 arg11 harg11 arg12 harg12 x0 x2 x3 x4) := fun g g' => by
  unfold runA.sl.HS2_2; rw [r_6_g (g := g) (g' := g') .., HS2_1_1_g (g := g) (g' := g') ..]
theorem v117_g : Same (runA.sl.v117 c i arg3 harg3 arg4 harg4 arg5 harg5 arg6 harg6 arg7 harg7 arg8 harg8 arg9 harg9 arg10 harg10 arg11 harg11 arg12 harg12 x0 x2 x3 x4) := fun g g' => by
  unfold runA.sl.v117; rw [pb2_none, pb2_none, pb1_indep (G_arg10 := g) (G'_arg10 := g') (h := le_refl _)]
theorem v124_g : Same (runA.sl.v124 c i arg3 harg3 arg4 harg4 arg5 harg5 arg6 harg6 arg7 harg7 arg8 harg8 arg9 harg9 arg10 harg10 arg11 harg11 arg12 harg12 x0 x2 x3 x4) := fun g g' => by
  unfold runA.sl.v124; rw [HS2_2_g (g := g) (g' := g') ..]
theorem r_10_g : Same (runA.sl.r_10 c i arg3 harg3 arg4 harg4 arg5 harg5 arg6 harg6 arg7 harg7 arg8 harg8 arg9 harg9 arg10 harg10 arg11 harg11 arg12 harg12 x0 x2 x3 x4) := fun g g' => by
  unfold runA.sl.r_10; rw [v117_g (g := g) (g' := g') .., v124_g (g := g) (g' := g') ..]
theorem HS2_3_g : Same (runA.sl.HS2_3 c i arg3 harg3 arg4 harg4 arg5 harg5 arg6 harg6 arg7 harg7 arg8 harg8 arg9 harg9 arg10 harg10 arg11 harg11 arg12 harg12 x0 x2 x3 x4) := fun g g' => by
  unfold runA.sl.HS2_3; rw [r_10_g (g := g) (g' := g') .., HS2_2_g (g := g) (g' := g') ..]
theorem v150_g : Same (runA.sl.v150 c i arg3 harg3 arg4 harg4 arg5 harg5 arg6 harg6 arg7 harg7 arg8 harg8 arg9 harg9 arg10 harg10 arg11 harg11 arg12 harg12 x0 x2 x3 x4) := fun g g' => by
  unfold runA.sl.v150; rw [pb2_none, pb2_none, pb1_indep (G_arg10 := g) (G'_arg10 := g') (h := le_refl _)]
theorem v157_g : Same (runA.sl.v157 c i arg3 harg3 arg4 harg4 arg5 harg5 arg6 harg6 arg7 harg7 arg8 harg8 arg9 harg9 arg10 harg10 arg11 harg11 arg12 harg12 x0 x2 x3 x4) := fun g g' => by
  unfold runA.sl.v157; rw [HS2_3_g (g := g) (g' := g') ..]
theorem r_12_g : Same (runA.sl.r_12 c i arg3 harg3 arg4 harg4 arg5 harg5 arg6 harg6 arg7 harg7 arg8 harg8 arg9 harg9 arg10 harg10 arg11 harg11 arg12 harg12 x0 x2 x3 x4) := fun g g' => by
  unfold runA.sl.r_12; rw [v150_g (g := g) (g' := g') .., v157_g (g := g) (g' := g') ..]
theorem HS2_4_g : Same (runA.sl.HS2_4 c i arg3 harg3 arg4 harg4 arg5 harg5 arg6 harg6 arg7 harg7 arg8 harg8 arg9 harg9 arg10 harg10 arg11 harg11 arg12 harg12 x0 x2 x3 x4) := fun g g' => by
  unfold runA.sl.HS2_4; rw [r_12_g (g := g) (g' := g') .., HS2_3_g (g := g) (g' := g') ..]
theorem v183_g : Same (runA.sl.v183 c i arg3 harg3 arg4 harg4 arg5 harg5 arg6 harg6 arg7 harg7 arg8 harg8 arg9 harg9 arg10 harg10 arg11 harg11 arg12 harg12 x0 x2 x3 x4) := fun g g' => by
  unfold runA.sl.v183; rw [pb2_none, pb2_none, pb1_indep (G_arg10 := g) (G'_arg10 := g') (h := le_refl _)]
theorem v190_g : Same (runA.sl.v190 c i arg3 harg3 arg4 harg4 arg5 harg5 arg6 harg6 arg7 harg7 arg8 harg8 arg9 harg9 arg10 harg10 arg11 harg11 arg12 harg12 x0 x2 x3 x4) := fun g g' => by
  unfold runA.sl.v190; rw [HS2_4_g (g := g) (g' := g') ..]
theorem r_14_g : Same (runA.sl.r_14 c i arg3 harg3 arg4 harg4 arg5 harg5 arg6 harg6 arg7 harg7 arg8 harg8 arg9 harg9 arg10 harg10 arg11 harg11 arg12 harg12 x0 x2 x3 x4) := fun g g' => by
  unfold runA.sl.r_14; rw [v183_g (g := g) (g' := g') .., v190_g (g := g) (g' := g') ..]
theorem HS2_5_g : Same (runA.sl.HS2_5 c i arg3 harg3 arg4 harg4 arg5 harg5 arg6 harg6 arg7 harg7 arg8 harg8 arg9 harg9 arg10 harg10 arg11 harg11 arg12 harg12 x0 x2 x3 x4) := fun g g' => by
  unfold runA.sl.HS2_5; rw [r_14_g (g := g) (g' := g') .., HS2_4_g (g := g) (g' := g') ..]
theorem r_4_g : Same (runA.sl.r_4 c i arg3 harg3 arg4 harg4 arg5 harg5 arg6 harg6 arg7 harg7 arg8 harg8 arg9 harg9 arg10 harg10 arg11 harg11 arg12 harg12 x0 x2 x3 x4) := fun g g' => by
  unfold runA.sl.r_4; rw [v51_g (g := g) (g' := g') .., v58_g (g := g) (g' := g') ..]
theorem r_5_g : Same (runA.sl.r_5 c i arg3 harg3 arg4 harg4 arg5 harg5 arg6 harg6 arg7 harg7 arg8 harg8 arg9 harg9 arg10 harg10 arg11 harg11 arg12 harg12 x0 x2 x3 x4) := fun g g' => by
  unfold runA.sl.r_5; rw [v51_g (g := g) (g' := g') .., v58_g (g := g) (g' := g') ..]
theorem v72_g : Same (runA.sl.v72 c i arg3 harg3 arg4 harg4 arg5 harg5 arg6 harg6 arg7 harg7 arg8 harg8 arg9 harg9 arg10 harg10 arg11 harg11 arg12 harg12 x0 x2 x3 x4) := fun g g' => by
  unfold runA.sl.v72; rw [pb2_none, pb2_none, pb1_indep (G_arg10 := g) (G'_arg10 := g') (h := le_refl _)]
theorem HS3_1_1_g : Same (runA.sl.HS3_1_1 c i arg3 harg3 arg4 harg4 arg5 harg5 arg6 harg6 arg7 harg7 arg8 harg8 arg9 harg9 arg10 harg10 arg11 harg11 arg12 harg12 x0 x2 x3 x4) := fun g g' => by
  unfold runA.sl.HS3_1_1; rw [pb2_none, pb2_none, pb1_indep (G_arg10 := g) (G'_arg10 := g') (h := le_refl _)]; rw [r_4_g (g := g) (g' := g') .., r_5_g (g := g) (g' := g') .., v72_g (g := g) (g' := g') ..]
theorem r_7_g : Same (runA.sl.r_7 c i arg3 harg3 arg4 harg4 arg5 harg5 arg6 harg6 arg7 harg7 arg8 harg8 arg9 harg9 arg10 harg10 arg11 harg11 arg12 harg12 x0 x2 x3 x4) := fun g g' => by
  unfold runA.sl.r_7; rw [v84_g (g := g) (g' := g') .., v91_g (g := g) (g' := g') ..]
theorem r_8_g : Same (runA.sl.r_8 c i arg3 harg3 arg4 harg4 arg5 harg5 arg6 harg6 arg7 harg7 arg8 harg8 arg9 harg9 arg10 harg10 arg11 harg11 arg12 harg12 x0 x2 x3 x4) := fun g g' => by
  unfold runA.sl.r_8; rw [v84_g (g := g) (g' := g') .., v91_g (g := g) (g' := g') ..]
theorem v105_g : Same (runA.sl.v105 c i arg3 harg3 arg4 harg4 arg5 harg5 arg6 harg6 arg7 harg7 arg8 harg8 arg9 harg9 arg10 harg10 arg11 harg11 arg12 harg12 x0 x2 x3 x4) := fun g g' => by
  unfold runA.sl.v105; rw [HS3_1_1_g (g := g) (g' := g') ..]
theorem HS3_2_g : Same (runA.sl.HS3_2 c i arg3 harg3 arg4 harg4 arg5 harg5 arg6 harg6 arg7 harg7 arg8 harg8 arg9 harg9 arg10 harg10 arg11 harg11 arg12 harg12 x0 x2 x3 x4) := fun g g' => by
  unfold runA.sl.HS3_2; rw [r_7_g (g := g) (g' := g') .., r_8_g (g := g) (g' := g') .., v105_g (g := g) (g' := g') .., HS3_1_1_g (g := g) (g' := g') ..]
theorem v138_g : Same (runA.sl.v138 c i arg3 harg3 arg4 harg4 arg5 harg5 arg6 harg6 arg7 harg7 arg8 harg8 arg9 harg9 arg10 harg10 arg11 harg11 arg12 harg12 x0 x2 x3 x4) := fun g g' => by
  unfold runA.sl.v138; rw [HS3_2_g (g := g) (g' := g') ..]
theorem r_11_g : Same (runA.sl.r_11 c i arg3 harg3 arg4 harg4 arg5 harg5 arg6 harg6 arg7 harg7 arg8 harg8 arg9 harg9 arg10 harg10 arg11 harg11 arg12 harg12 x0 x2 x3 x4) := fun g g' => by
  unfold runA.sl.r_11; rw [v117_g (g := g) (g' := g') .., v124_g (g := g) (g' := g') .., v138_g (g := g) (g' := g') ..]
theorem HS3_3_g : Same (runA.sl.HS3_3 c i arg3 harg3 arg4 harg4 arg5 harg5 arg6 harg6 arg7 harg7 arg8 harg8 arg9 harg9 arg10 harg10 arg11 harg11 arg12 harg12 x0 x2 x3 x4) := fun g g' => by
  unfold runA.sl.HS3_3; rw [r_11_g (g := g) (g' := g') .., HS3_2_g (g := g) (g' := g') ..]
theorem v171_g : Same (runA.sl.v171 c i arg3 harg3 arg4 harg4 arg5 harg5 arg6 harg6 arg7 harg7 arg8 harg8 arg9 harg9 arg10 harg10 arg11 harg11 arg12 harg12 x0 x2 x3 x4) := fun g g' => by
  unfold runA.sl.v171; rw [HS3_3_g (g := g) (g' := g') ..]
theorem r_13_g : Same (runA.sl.r_13 c i arg3 harg3 arg4 harg4 arg5 harg5 arg6 harg6 arg7 harg7 arg8 harg8 arg9 harg9 arg10 harg10 arg11 harg11 arg12 harg12 x0 x2 x3 x4) := fun g g' => by
  unfold runA.sl.r_13; rw [v150_g (g := g) (g' := g') .., v157_g (g := g) (g' := g') .., v171_g (g := g) (g' := g') ..]
theorem HS3_4_g : Same (runA.sl.HS3_4 c i arg3 harg3 arg4 harg4 arg5 harg5 arg6 harg6 arg7 harg7 arg8 harg8 arg9 harg9 arg10 harg10 arg11 harg11 arg12 harg12 x0 x2 x3 x4) := fun g g' => by
  unfold runA.sl.HS3_4; rw [r_13_g (g := g) (g' := g') .., HS3_3_g (g := g) (g' := g') ..]
theorem v204_g : Same (runA.sl.v204 c i arg3 harg3 arg4 harg4 arg5 harg5 arg6 harg6 arg7 harg7 arg8 harg8 arg9 harg9 arg10 harg10 arg11 harg11 arg12 harg12 x0 x2 x3 x4) := fun g g' => by
  unfold runA.sl.v204; rw [HS3_4_g (g := g) (g' := g') ..]
theorem HS3_5_g : Same (runA.sl.HS3_5 c i arg3 harg3 arg4 harg4 arg5 harg5 arg6 harg6 arg7 harg7 arg8 harg8 arg9 harg9 arg10 harg10 arg11 harg11 arg12 harg12 x0 x2 x3 x4) := fun g g' => by
  unfold runA.sl.HS3_5; rw [v183_g (g := g) (g' := g') .., v190_g (g := g) (g' := g') .., v204_g (g := g) (g' := g') .., HS3_4_g (g := g) (g' := g') ..]
theorem v216_g : Same (runA.sl.v216 c i arg3 harg3 arg4 harg4 arg5 harg5 arg6 harg6 arg7 harg7 arg8 harg8 arg9 harg9 arg10 harg10 arg11 harg11 arg12 harg12 x0 x2 x3 x4) := fun g g' => by
  unfold runA.sl.v216; rw [pb2_none, pb2_none, pb1_indep (G_arg10 := g) (G'_arg10 := g') (h := le_refl _)]
theorem v223_g : Same (runA.sl.v223 c i arg3 harg3 arg4 harg4 arg5 harg5 arg6 harg6 arg7 harg7 arg8 harg8 arg9 harg9 arg10 harg10 arg11 harg11 arg12 harg12 x0 x2 x3 x4) := fun g g' => by
  unfold runA.sl.v223; rw [HS2_5_g (g := g) (g' := g') ..]
theorem v237_g : Same (runA.sl.v237 c i arg3 harg3 arg4 harg4 arg5 harg5 arg6 harg6 arg7 harg7 arg8 harg8 arg9 harg9 arg10 harg10 arg11 harg11 arg12 harg12 x0 x2 x3 x4) := fun g g' => by
  unfold runA.sl.v237; rw [HS3_5_g (g := g) (g' := g') ..]
theorem HS3_6_g : Same (runA.sl.HS3_6 c i arg3 harg3 arg4 harg4 arg5 harg5 arg6 harg6 arg7 harg7 arg8 harg8 arg9 harg9 arg10 harg10 arg11 harg11 arg12 harg12 x0 x2 x3 x4) := fun g g' => by
  unfold runA.sl.HS3_6; rw [v216_g (g := g) (g' := g') .., v223_g (g := g) (g' := g') .., v237_g (g := g) (g' := g') .., HS3_5_g (g := g) (g' := g') ..]
theorem v281_g : Same (runA.sl.v281 c i arg3 harg3 arg4 harg4 arg5 harg5 arg6 harg6 arg7 harg7 arg8 harg8 arg9 harg9 arg10 harg10 arg11 harg11 arg12 harg12 x0 x2 x3 x4) := fun g g' => by
  unfold runA.sl.v281; rw [HS3_6_g (g := g) (g' := g') ..]
theorem r_15_g : Same (runA.sl.r_15 c i arg3 harg3 arg4 harg4 arg5 harg5 arg6 harg6 arg7 harg7 arg8 harg8 arg9 harg9 arg10 harg10 arg11 harg11 arg12 harg12 x0 x2 x3 x4) := fun g g' => by
  unfold runA.sl.r_15; rw [v281_g (g := g) (g' := g') ..]
theorem v313_g : Same (runA.sl.v313 c i arg3 harg3 arg4 harg4 arg5 harg5 arg6 harg6 arg7 harg7 arg8 harg8 arg9 harg9 arg10 harg10 arg11 harg11 arg12 harg12 x0 x2 x3 x4) := fun g g' => by
  unfold runA.sl.v313; rw [HS3_6_g (g := g) (g' := g') ..]
theorem r_16_g : Same (runA.sl.r_16 c i arg3 harg3 arg4 harg4 arg5 harg5 arg6 harg6 arg7 harg7 arg8 harg8 arg9 harg9 arg10 harg10 arg11 harg11 arg12 harg12 x0 x1 x2 x3 x4) := fun g g' => by
  unfold runA.sl.r_16; rw [v313_g (g := g) (g' := g') ..]
theorem v_g : Same (runA.sl.v c i arg3 harg3 arg4 harg4 arg5 harg5 arg6 harg6 arg7 harg7 arg8 harg8 arg9 harg9 arg10 harg10 arg11 harg11 arg12 harg12 x0 x2 x3 x4) := fun g g' => by
  unfold runA.sl.v; rw [HS3_6_g (g := g) (g' := g') ..]
theorem v265_g : Same (runA.sl.v265 c i arg3 harg3 arg4 harg4 arg5 harg5 arg6 harg6 arg7 harg7 arg8 harg8 arg9 harg9 arg10 harg10 arg11 harg11 arg12 harg12 x0 x2 x3 x4) := fun g g' => by
  unfold runA.sl.v265; rw [HS3_6_g (g := g) (g' := g') ..]
theorem v297_g : Same (runA.sl.v297 c i arg3 harg3 arg4 harg4 arg5 harg5 arg6 harg6 arg7 harg7 arg8 harg8 arg9 harg9 arg10 harg10 arg11 harg11 arg12 harg12 x0 x2 x3 x4) := fun g g' => by
  unfold runA.sl.v297; rw [HS3_6_g (g := g) (g' := g') ..]
theorem v329_g : Same (runA.sl.v329 c i arg3 harg3 arg4 harg4 arg5 harg5 arg6 harg6 arg7 harg7 arg8 harg8 arg9 harg9 arg10 harg10 arg11 harg11 arg12 harg12 x0 x2 x3 x4) := fun g g' => by
  unfold runA.sl.v329; rw [HS3_6_g (g := g) (g' := g') ..]
/-- The pieces of the output do not depend on what the second score buffer held before. -/
theorem runA_g (hc0 : ¬cond0_0 i) (hc1 : cond0_1 i) : (runA c i arg3 harg3 arg4 harg4 arg5 harg5 arg6 harg6 arg7 harg7 arg8 harg8 arg9 harg9 arg10 harg10 arg11 harg11 arg12 harg12 hc0 hc1 x0 x1 x2 x3 x4 g).1 = (runA c i arg3 harg3 arg4 harg4 arg5 harg5 arg6 harg6 arg7 harg7 arg8 harg8 arg9 harg9 arg10 harg10 arg11 harg11 arg12 harg12 hc0 hc1 x0 x1 x2 x3 x4 g').1 := by
  unfold runA; dsimp only; simp only [v_g (g := g) (g' := g') .., v265_g (g := g) (g' := g') .., v297_g (g := g) (g' := g') .., v329_g (g := g) (g' := g') .., r_15_g (g := g) (g' := g') .., r_16_g (g := g) (g' := g') ..]

end

end Cert.Kernel.Att

end
-- ==== Proof.Float.Frame.lean ====
module

public import proofs.«01_k».proof.Proof.Float.Indep
public import proofs.«01_k».proof.Proof.Float.RunB
public import Idealize.ShloMosaic.Lib.Pipeline.Value
public import Idealize.ShloMosaic.Lib.Claim

@[expose] public section

set_option maxRecDepth 16384

noncomputable section

namespace Cert.Kernel.Att

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The six pieces of an even query block cover the output block. -/
theorem cover0_A_5 (c : Dev nD) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (hc0 : ¬cond0_0 i) (hc1 : cond0_1 i)
    (x0 : Vec F S1536x512 .bf16) (x1 : Vec F S512x768 .bf16) (x2 : Vec F S4096x768 .bf16) (x3 : Vec F S4096x128 .bf16) (x4 : Vec F S768x4096 .bf16) (y : S512x768.Idx) :
    ∃ pc ∈ (runA c i arg3 harg3 arg4 harg4 arg5 harg5 arg6 harg6 arg7 harg7 arg8 harg8 arg9 harg9 arg10 harg10 arg11 harg11 arg12 harg12 hc0 hc1 x0 x1 x2 x3 x4 arg10.view.junk).1, y ∈ pc.1.set :=
  View.cover_of_tiledL (runA c i arg3 harg3 arg4 harg4 arg5 harg5 arg6 harg6 arg7 harg7 arg8 harg8 arg9 harg9 arg10 harg10 arg11 harg11 arg12 harg12 hc0 hc1 x0 x1 x2 x3 x4 arg10.view.junk).1 S512x128.size (by sl_kernel_rfl) y

/-- The output block after the body at an even query block. -/
def out0_A_5 (c : Dev nD) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (hc0 : ¬cond0_0 i) (hc1 : cond0_1 i)
    (x0 : Vec F S1536x512 .bf16) (x1 : Vec F S512x768 .bf16) (x2 : Vec F S4096x768 .bf16) (x3 : Vec F S4096x128 .bf16) (x4 : Vec F S768x4096 .bf16) : Vec F S512x768 .bf16 :=
  VO0_5.read (Elt F) (VO0_5.writes (Elt F) VO0_5.junk (runA c i arg3 harg3 arg4 harg4 arg5 harg5 arg6 harg6 arg7 harg7 arg8 harg8 arg9 harg9 arg10 harg10 arg11 harg11 arg12 harg12 hc0 hc1 x0 x1 x2 x3 x4 arg10.view.junk).1)

/-- The six pieces of an odd query block cover the output block. -/
theorem cover0_B_5 (c : Dev nD) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (hc0 : cond0_0 i) (hc1 : ¬cond0_1 i)
    (x0 : Vec F S1536x512 .bf16) (x1 : Vec F S512x768 .bf16) (x2 : Vec F S4096x768 .bf16) (x3 : Vec F S4096x128 .bf16) (x4 : Vec F S768x4096 .bf16) (y : S512x768.Idx) :
    ∃ pc ∈ (runB c i arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (runB c i arg3 harg3 arg4 harg4 arg5 harg5 arg6 harg6 arg7 harg7 arg8 harg8 arg9 harg9 arg10 harg10 arg11 harg11 arg12 harg12 hc0 hc1 x0 x1 x2 x3 x4).1 S512x128.size (by sl_kernel_rfl) y

/-- The output block after the body at an odd query block. -/
def out0_B_5 (c : Dev nD) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (hc0 : cond0_0 i) (hc1 : ¬cond0_1 i)
    (x0 : Vec F S1536x512 .bf16) (x1 : Vec F S512x768 .bf16) (x2 : Vec F S4096x768 .bf16) (x3 : Vec F S4096x128 .bf16) (x4 : Vec F S768x4096 .bf16) : Vec F S512x768 .bf16 :=
  VO0_5.read (Elt F) (VO0_5.writes (Elt F) VO0_5.junk (runB c i arg3 harg3 arg4 harg4 arg5 harg5 arg6 harg6 arg7 harg7 arg8 harg8 arg9 harg9 arg10 harg10 arg11 harg11 arg12 harg12 hc0 hc1 x0 x1 x2 x3 x4).1)

/-- The output block after the body at point `n`. -/
def outsAt0 (c : Dev nD) : (n : ℕ) → n < cfg0.N → Vec F S512x768 .bf16
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) (fun h => (fun h => by (try dsimp only at h); omega) ((hcond0_0 ⟨0, hn⟩).mp h)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 2 = 1 then
      if h1 : (n + 1) % 2 = 0 then
        False.elim (by have hN : n + 1 < 128 := lt_of_lt_of_eq hn (show cfg0.N = 128 from N_0); omega)
      else
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      if h1 : (n + 1) % 2 = 0 then
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩)
      else
        False.elim (by have hN : n + 1 < 128 := lt_of_lt_of_eq hn (show cfg0.N = 128 from N_0); omega)

/-- ... which at an even point is the even case. -/
theorem outsAt0_A (c : Dev nD) (t : Fin cfg0.N) (h0 : ¬t.val % 2 = 1) (h1 : t.val % 2 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) := by
  obtain ⟨n, hn⟩ := t
  cases n with
  | zero => exact rfl
  | succ n => exact (dif_neg h0).trans ((dif_pos h1).trans rfl)

/-- ... and at an odd point the odd case. -/
theorem outsAt0_B (c : Dev nD) (t : Fin cfg0.N) (h0 : t.val % 2 = 1) (h1 : ¬t.val % 2 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) := by
  obtain ⟨n, hn⟩ := t
  cases n with
  | zero => exact (by exfalso; (try dsimp only at h0); exact by omega)
  | succ n => exact (dif_pos h0).trans ((dif_neg h1).trans rfl)

/-- The proof data of the pipeline: inputs stay their blocks, the output block is `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

/-- The blocks after the body, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

/-- The input blocks before the body are the blocks of the arrays. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- A buffer held at some contents is held at some raw contents. -/
theorem owns_open (c : Dev nD) (M : Memref sig .tc .vmem S6x512x512 .f32) (d : Vec F S6x512x512 .f32) : (owns (c : Thread nD τ) M fullShare d : sProp 𝕄) ⊢ iprop(∃ f, M.view.loc (c : Thread nD τ) ↦[M.view.set]{fullShare} f) := by
  unfold owns
  iintro ⟨%f, -, H⟩
  iexists f; iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 128 := lt_of_lt_of_eq t.isLt (show cfg0.N = 128 from N_0)
  by_cases h0 : t.val % 2 = 1
  · by_cases h1 : t.val % 2 = 0
    · exfalso; omega
    · rw [outsAt0_B m c t h0 h1]
      unfold out0_B_5
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _ _ _ _ _ _)
  · by_cases h1 : t.val % 2 = 0
    · rw [outsAt0_A m c t h0 h1]
      unfold out0_A_5
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      icases HS1 with ⟨%ds1, HS1⟩
      ihave HS1 := (owns_open c scM0_1 ds1) $$ HS1
      icases HS1 with ⟨%fs1, HS1⟩
      iapply ((runA c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) fs1).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; rw [runA_g c _ _ _ _ _ _ _ _ _ _ _ _ _ _ _ _ _ _ _ _ _ _ _ _ _ _ fs1 scM0_1.view.junk]; exact View.read_writes_of_cover _ _ _ _ _ (cover0_A_5 c _ _ _ _ _ _ _ _ _ _ _ _ _ _ _ _ _ _ _ _ _ _ _ _ _ _ _ _)
    · exfalso; omega

/-- The body at point `t`, as the table of bodies has it. -/
theorem defs₀_row (t : Fin cfg0.N) :
    defs₀ (F := F) .tc cfg0.body (cfg0.bodyArgs t (cfg0.slots t)) = bodyAt0 t := by
  unfold defs₀; rw [Defs.onTc_tc]

/-- The obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the run ends, the arrays are what the proof data say, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the run ends, the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Att

end
-- ==== Proof.Ideal.RunA.lean ====
module

public import proofs.«01_k».proof.Proof.Gen.KernelIdeal.Frame.Runs

@[expose] public section

set_option maxRecDepth 16384

noncomputable section

namespace Cert.KernelIdeal.Att

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a point with an even query block: the pieces its stores leave in the output block, as a function
    of the input blocks and of what the second score buffer held before (`g`), which no piece uses in the end. -/
noncomputable def runA (c : Dev nD) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (hc0 : ¬cond0_0 i) (hc1 : cond0_1 i)
    (x0 : Vec F S1536x512 .bf16) (x1 : Vec F S512x768 .bf16) (x2 : Vec F S4096x768 .bf16) (x3 : Vec F S4096x128 .bf16) (x4 : Vec F S768x4096 .bf16) (g : BufTy.Contents (Elt F) arg10.view.ty) :
    { L5 : List (View.Piece (Elt F) S512x768 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (arg10.view.loc (c : Thread nD τ) ↦[arg10.view.set]{fullShare} g) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_mla_attention i arg3 harg3 arg4 harg4 arg5 harg5 arg6 harg6 arg7 harg7 arg8 harg8 arg9 harg9 arg10 harg10 arg11 harg11 arg12 harg12) K } := by
  refine ⟨?_, fun E K => ?run⟩
  case run =>
    simp only [cc0_mla_attention_eq_skeleton]; unfold cc0_mla_attention_skel
    simp only [k0_part36_eq_skeleton, k0_part9_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, HS1, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Att

end
-- ==== Proof.Ideal.Indep.lean ====
module

public import proofs.«01_k».proof.Proof.Ideal.RunA
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe

variable {F : FTy → Type} [FloatOps F] [Named F]

/-- The second of the two loops the body's loop is printed as makes no trips. -/
theorem trips2 : ∀ i : grid0.Coords, Scf.trips (k0_t2_loop i).lb (k0_t2_loop i).ub (k0_t2_loop i).st = 0 := by decide +kernel

section
variable (𝒱 : Variants) (c : Dev nD) (bd : Option 𝒱.V) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (arg2 : BitVec 32) (v8 : FVec F S16x512 .bf16) (v25 v26 c2_i32_13 v27 v29 : BitVec 32) (v30 : BitVec 1) (v48 : BitVec 32)
  (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G'_arg10 : BufTy.Contents (Elt F) arg10.view.ty)

theorem pb2_none : pb_k0_t2 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 v48 X_arg3 X_arg5 X_arg6 X_arg7 G_arg9 G_arg10 G_arg11 G_arg12 (Scf.trips (k0_t2_loop i).lb (k0_t2_loop i).ub (k0_t2_loop i).st) = ([], [], [], []) := by
  rw [trips2]; rfl

variable (k : Fin (k0_t1_loop i).trips) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f'_arg10 : BufTy.Contents (Elt F) arg10.view.ty)

/-- List 1 of a trip's pieces does not depend on what the second score buffer held. -/
theorem trip_indep1 : (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).1 f_arg9 f_arg10 f_arg11 f_arg12 = (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).1 f_arg9 f'_arg10 f_arg11 f_arg12 := by
  unfold trip_k0_t1; rfl

/-- List 2 of a trip's pieces does not depend on what the second score buffer held. -/
theorem trip_indep2 : (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.1 f_arg9 f_arg10 f_arg11 f_arg12 = (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.1 f_arg9 f'_arg10 f_arg11 f_arg12 := by
  unfold trip_k0_t1; rfl

/-- List 3 of a trip's pieces does not depend on what the second score buffer held. -/
theorem trip_indep3 : (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.2.1 f_arg9 f_arg10 f_arg11 f_arg12 = (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.2.1 f_arg9 f'_arg10 f_arg11 f_arg12 := by
  unfold trip_k0_t1; rfl

/-- List 4 of a trip's pieces does not depend on what the second score buffer held. -/
theorem trip_indep4 : (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.2.2.1 f_arg9 f_arg10 f_arg11 f_arg12 = (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.2.2.1 f_arg9 f'_arg10 f_arg11 f_arg12 := by
  unfold trip_k0_t1; rfl

/-- A trip's pieces, all four lists, likewise. -/
theorem tripL_indep : tripL_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k f_arg9 f_arg10 f_arg11 f_arg12 = tripL_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k f_arg9 f'_arg10 f_arg11 f_arg12 := by
  unfold tripL_k0_t1
  rw [trip_indep1 (f_arg10 := f_arg10) (f'_arg10 := f'_arg10), trip_indep2 (f_arg10 := f_arg10) (f'_arg10 := f'_arg10), trip_indep3 (f_arg10 := f_arg10) (f'_arg10 := f'_arg10), trip_indep4 (f_arg10 := f_arg10) (f'_arg10 := f'_arg10)]

/-- What the trips leave does not depend on what the second score buffer held before the first. -/
theorem pb1_indep (n : ℕ) (h : n ≤ (k0_t1_loop i).trips) : pb_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 G_arg9 G_arg10 G_arg11 G_arg12 n = pb_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 G_arg9 G'_arg10 G_arg11 G_arg12 n := by
  induction n with
  | zero => rfl
  | succ n ih =>
    rw [pb_k0_t1_succ (G_arg10 := G_arg10) (k := ⟨n, h⟩),
      pb_k0_t1_succ (G_arg10 := G'_arg10) (k := ⟨n, h⟩),
      ih (by omega), tripL_indep (f'_arg10 := arg10.view.writes (Elt F) G'_arg10 (pb_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 G_arg9 G'_arg10 G_arg11 G_arg12 n).2.1)]
end

/-- The function's result does not depend on its argument. -/
def Same {α β : Type} (f : α → β) : Prop := ∀ g g' : α, f g = f g'

section
variable (c : Dev nD) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (x0 : Vec F S1536x512 .bf16) (x1 : Vec F S512x768 .bf16) (x2 : Vec F S4096x768 .bf16) (x3 : Vec F S4096x128 .bf16) (x4 : Vec F S768x4096 .bf16) (g g' : BufTy.Contents (Elt F) arg10.view.ty)

theorem v51_g : Same (runA.sl.v51 c i arg3 harg3 arg4 harg4 arg5 harg5 arg6 harg6 arg7 harg7 arg8 harg8 arg9 harg9 arg10 harg10 arg11 harg11 arg12 harg12 x0 x2 x3 x4) := fun g g' => by
  unfold runA.sl.v51; rw [pb2_none, pb2_none, pb1_indep (G_arg10 := g) (G'_arg10 := g') (h := le_refl _)]
theorem v58_g : Same (runA.sl.v58 c i arg3 harg3 arg4 harg4 arg5 harg5 arg6 harg6 arg7 harg7 arg8 harg8 arg9 harg9 arg10 harg10 arg11 harg11 arg12 harg12 x0 x2 x3 x4) := fun g g' => by
  unfold runA.sl.v58; rw [pb2_none, pb2_none, pb1_indep (G_arg10 := g) (G'_arg10 := g') (h := le_refl _)]
theorem r_2_g : Same (runA.sl.r_2 c i arg3 harg3 arg4 harg4 arg5 harg5 arg6 harg6 arg7 harg7 arg8 harg8 arg9 harg9 arg10 harg10 arg11 harg11 arg12 harg12 x0 x2 x3 x4) := fun g g' => by
  unfold runA.sl.r_2; rw [v51_g (g := g) (g' := g') .., v58_g (g := g) (g' := g') ..]
theorem HS2_1_1_g : Same (runA.sl.HS2_1_1 c i arg3 harg3 arg4 harg4 arg5 harg5 arg6 harg6 arg7 harg7 arg8 harg8 arg9 harg9 arg10 harg10 arg11 harg11 arg12 harg12 x0 x2 x3 x4) := fun g g' => by
  unfold runA.sl.HS2_1_1; rw [pb2_none, pb2_none, pb1_indep (G_arg10 := g) (G'_arg10 := g') (h := le_refl _)]; rw [r_2_g (g := g) (g' := g') ..]
theorem v84_g : Same (runA.sl.v84 c i arg3 harg3 arg4 harg4 arg5 harg5 arg6 harg6 arg7 harg7 arg8 harg8 arg9 harg9 arg10 harg10 arg11 harg11 arg12 harg12 x0 x2 x3 x4) := fun g g' => by
  unfold runA.sl.v84; rw [pb2_none, pb2_none, pb1_indep (G_arg10 := g) (G'_arg10 := g') (h := le_refl _)]
theorem v91_g : Same (runA.sl.v91 c i arg3 harg3 arg4 harg4 arg5 harg5 arg6 harg6 arg7 harg7 arg8 harg8 arg9 harg9 arg10 harg10 arg11 harg11 arg12 harg12 x0 x2 x3 x4) := fun g g' => by
  unfold runA.sl.v91; rw [HS2_1_1_g (g := g) (g' := g') ..]
theorem r_5_g : Same (runA.sl.r_5 c i arg3 harg3 arg4 harg4 arg5 harg5 arg6 harg6 arg7 harg7 arg8 harg8 arg9 harg9 arg10 harg10 arg11 harg11 arg12 harg12 x0 x2 x3 x4) := fun g g' => by
  unfold runA.sl.r_5; rw [v84_g (g := g) (g' := g') .., v91_g (g := g) (g' := g') ..]
theorem HS2_2_g : Same (runA.sl.HS2_2 c i arg3 harg3 arg4 harg4 arg5 harg5 arg6 harg6 arg7 harg7 arg8 harg8 arg9 harg9 arg10 harg10 arg11 harg11 arg12 harg12 x0 x2 x3 x4) := fun g g' => by
  unfold runA.sl.HS2_2; rw [r_5_g (g := g) (g' := g') .., HS2_1_1_g (g := g) (g' := g') ..]
theorem v117_g : Same (runA.sl.v117 c i arg3 harg3 arg4 harg4 arg5 harg5 arg6 harg6 arg7 harg7 arg8 harg8 arg9 harg9 arg10 harg10 arg11 harg11 arg12 harg12 x0 x2 x3 x4) := fun g g' => by
  unfold runA.sl.v117; rw [pb2_none, pb2_none, pb1_indep (G_arg10 := g) (G'_arg10 := g') (h := le_refl _)]
theorem v124_g : Same (runA.sl.v124 c i arg3 harg3 arg4 harg4 arg5 harg5 arg6 harg6 arg7 harg7 arg8 harg8 arg9 harg9 arg10 harg10 arg11 harg11 arg12 harg12 x0 x2 x3 x4) := fun g g' => by
  unfold runA.sl.v124; rw [HS2_2_g (g := g) (g' := g') ..]
theorem r_9_g : Same (runA.sl.r_9 c i arg3 harg3 arg4 harg4 arg5 harg5 arg6 harg6 arg7 harg7 arg8 harg8 arg9 harg9 arg10 harg10 arg11 harg11 arg12 harg12 x0 x2 x3 x4) := fun g g' => by
  unfold runA.sl.r_9; rw [v117_g (g := g) (g' := g') .., v124_g (g := g) (g' := g') ..]
theorem HS2_3_g : Same (runA.sl.HS2_3 c i arg3 harg3 arg4 harg4 arg5 harg5 arg6 harg6 arg7 harg7 arg8 harg8 arg9 harg9 arg10 harg10 arg11 harg11 arg12 harg12 x0 x2 x3 x4) := fun g g' => by
  unfold runA.sl.HS2_3; rw [r_9_g (g := g) (g' := g') .., HS2_2_g (g := g) (g' := g') ..]
theorem v150_g : Same (runA.sl.v150 c i arg3 harg3 arg4 harg4 arg5 harg5 arg6 harg6 arg7 harg7 arg8 harg8 arg9 harg9 arg10 harg10 arg11 harg11 arg12 harg12 x0 x2 x3 x4) := fun g g' => by
  unfold runA.sl.v150; rw [pb2_none, pb2_none, pb1_indep (G_arg10 := g) (G'_arg10 := g') (h := le_refl _)]
theorem v157_g : Same (runA.sl.v157 c i arg3 harg3 arg4 harg4 arg5 harg5 arg6 harg6 arg7 harg7 arg8 harg8 arg9 harg9 arg10 harg10 arg11 harg11 arg12 harg12 x0 x2 x3 x4) := fun g g' => by
  unfold runA.sl.v157; rw [HS2_3_g (g := g) (g' := g') ..]
theorem r_11_g : Same (runA.sl.r_11 c i arg3 harg3 arg4 harg4 arg5 harg5 arg6 harg6 arg7 harg7 arg8 harg8 arg9 harg9 arg10 harg10 arg11 harg11 arg12 harg12 x0 x2 x3 x4) := fun g g' => by
  unfold runA.sl.r_11; rw [v150_g (g := g) (g' := g') .., v157_g (g := g) (g' := g') ..]
theorem HS2_4_g : Same (runA.sl.HS2_4 c i arg3 harg3 arg4 harg4 arg5 harg5 arg6 harg6 arg7 harg7 arg8 harg8 arg9 harg9 arg10 harg10 arg11 harg11 arg12 harg12 x0 x2 x3 x4) := fun g g' => by
  unfold runA.sl.HS2_4; rw [r_11_g (g := g) (g' := g') .., HS2_3_g (g := g) (g' := g') ..]
theorem v183_g : Same (runA.sl.v183 c i arg3 harg3 arg4 harg4 arg5 harg5 arg6 harg6 arg7 harg7 arg8 harg8 arg9 harg9 arg10 harg10 arg11 harg11 arg12 harg12 x0 x2 x3 x4) := fun g g' => by
  unfold runA.sl.v183; rw [pb2_none, pb2_none, pb1_indep (G_arg10 := g) (G'_arg10 := g') (h := le_refl _)]
theorem v190_g : Same (runA.sl.v190 c i arg3 harg3 arg4 harg4 arg5 harg5 arg6 harg6 arg7 harg7 arg8 harg8 arg9 harg9 arg10 harg10 arg11 harg11 arg12 harg12 x0 x2 x3 x4) := fun g g' => by
  unfold runA.sl.v190; rw [HS2_4_g (g := g) (g' := g') ..]
theorem r_13_g : Same (runA.sl.r_13 c i arg3 harg3 arg4 harg4 arg5 harg5 arg6 harg6 arg7 harg7 arg8 harg8 arg9 harg9 arg10 harg10 arg11 harg11 arg12 harg12 x0 x2 x3 x4) := fun g g' => by
  unfold runA.sl.r_13; rw [v183_g (g := g) (g' := g') .., v190_g (g := g) (g' := g') ..]
theorem HS2_5_g : Same (runA.sl.HS2_5 c i arg3 harg3 arg4 harg4 arg5 harg5 arg6 harg6 arg7 harg7 arg8 harg8 arg9 harg9 arg10 harg10 arg11 harg11 arg12 harg12 x0 x2 x3 x4) := fun g g' => by
  unfold runA.sl.HS2_5; rw [r_13_g (g := g) (g' := g') .., HS2_4_g (g := g) (g' := g') ..]
theorem r_3_g : Same (runA.sl.r_3 c i arg3 harg3 arg4 harg4 arg5 harg5 arg6 harg6 arg7 harg7 arg8 harg8 arg9 harg9 arg10 harg10 arg11 harg11 arg12 harg12 x0 x2 x3 x4) := fun g g' => by
  unfold runA.sl.r_3; rw [v51_g (g := g) (g' := g') .., v58_g (g := g) (g' := g') ..]
theorem r_4_g : Same (runA.sl.r_4 c i arg3 harg3 arg4 harg4 arg5 harg5 arg6 harg6 arg7 harg7 arg8 harg8 arg9 harg9 arg10 harg10 arg11 harg11 arg12 harg12 x0 x2 x3 x4) := fun g g' => by
  unfold runA.sl.r_4; rw [v51_g (g := g) (g' := g') .., v58_g (g := g) (g' := g') ..]
theorem v72_g : Same (runA.sl.v72 c i arg3 harg3 arg4 harg4 arg5 harg5 arg6 harg6 arg7 harg7 arg8 harg8 arg9 harg9 arg10 harg10 arg11 harg11 arg12 harg12 x0 x2 x3 x4) := fun g g' => by
  unfold runA.sl.v72; rw [pb2_none, pb2_none, pb1_indep (G_arg10 := g) (G'_arg10 := g') (h := le_refl _)]
theorem HS3_1_1_g : Same (runA.sl.HS3_1_1 c i arg3 harg3 arg4 harg4 arg5 harg5 arg6 harg6 arg7 harg7 arg8 harg8 arg9 harg9 arg10 harg10 arg11 harg11 arg12 harg12 x0 x2 x3 x4) := fun g g' => by
  unfold runA.sl.HS3_1_1; rw [pb2_none, pb2_none, pb1_indep (G_arg10 := g) (G'_arg10 := g') (h := le_refl _)]; rw [r_3_g (g := g) (g' := g') .., r_4_g (g := g) (g' := g') .., v72_g (g := g) (g' := g') ..]
theorem r_6_g : Same (runA.sl.r_6 c i arg3 harg3 arg4 harg4 arg5 harg5 arg6 harg6 arg7 harg7 arg8 harg8 arg9 harg9 arg10 harg10 arg11 harg11 arg12 harg12 x0 x2 x3 x4) := fun g g' => by
  unfold runA.sl.r_6; rw [v84_g (g := g) (g' := g') .., v91_g (g := g) (g' := g') ..]
theorem r_7_g : Same (runA.sl.r_7 c i arg3 harg3 arg4 harg4 arg5 harg5 arg6 harg6 arg7 harg7 arg8 harg8 arg9 harg9 arg10 harg10 arg11 harg11 arg12 harg12 x0 x2 x3 x4) := fun g g' => by
  unfold runA.sl.r_7; rw [v84_g (g := g) (g' := g') .., v91_g (g := g) (g' := g') ..]
theorem v105_g : Same (runA.sl.v105 c i arg3 harg3 arg4 harg4 arg5 harg5 arg6 harg6 arg7 harg7 arg8 harg8 arg9 harg9 arg10 harg10 arg11 harg11 arg12 harg12 x0 x2 x3 x4) := fun g g' => by
  unfold runA.sl.v105; rw [HS3_1_1_g (g := g) (g' := g') ..]
theorem HS3_2_g : Same (runA.sl.HS3_2 c i arg3 harg3 arg4 harg4 arg5 harg5 arg6 harg6 arg7 harg7 arg8 harg8 arg9 harg9 arg10 harg10 arg11 harg11 arg12 harg12 x0 x2 x3 x4) := fun g g' => by
  unfold runA.sl.HS3_2; rw [r_6_g (g := g) (g' := g') .., r_7_g (g := g) (g' := g') .., v105_g (g := g) (g' := g') .., HS3_1_1_g (g := g) (g' := g') ..]
theorem v138_g : Same (runA.sl.v138 c i arg3 harg3 arg4 harg4 arg5 harg5 arg6 harg6 arg7 harg7 arg8 harg8 arg9 harg9 arg10 harg10 arg11 harg11 arg12 harg12 x0 x2 x3 x4) := fun g g' => by
  unfold runA.sl.v138; rw [HS3_2_g (g := g) (g' := g') ..]
theorem r_10_g : Same (runA.sl.r_10 c i arg3 harg3 arg4 harg4 arg5 harg5 arg6 harg6 arg7 harg7 arg8 harg8 arg9 harg9 arg10 harg10 arg11 harg11 arg12 harg12 x0 x2 x3 x4) := fun g g' => by
  unfold runA.sl.r_10; rw [v117_g (g := g) (g' := g') .., v124_g (g := g) (g' := g') .., v138_g (g := g) (g' := g') ..]
theorem HS3_3_g : Same (runA.sl.HS3_3 c i arg3 harg3 arg4 harg4 arg5 harg5 arg6 harg6 arg7 harg7 arg8 harg8 arg9 harg9 arg10 harg10 arg11 harg11 arg12 harg12 x0 x2 x3 x4) := fun g g' => by
  unfold runA.sl.HS3_3; rw [r_10_g (g := g) (g' := g') .., HS3_2_g (g := g) (g' := g') ..]
theorem v171_g : Same (runA.sl.v171 c i arg3 harg3 arg4 harg4 arg5 harg5 arg6 harg6 arg7 harg7 arg8 harg8 arg9 harg9 arg10 harg10 arg11 harg11 arg12 harg12 x0 x2 x3 x4) := fun g g' => by
  unfold runA.sl.v171; rw [HS3_3_g (g := g) (g' := g') ..]
theorem r_12_g : Same (runA.sl.r_12 c i arg3 harg3 arg4 harg4 arg5 harg5 arg6 harg6 arg7 harg7 arg8 harg8 arg9 harg9 arg10 harg10 arg11 harg11 arg12 harg12 x0 x2 x3 x4) := fun g g' => by
  unfold runA.sl.r_12; rw [v150_g (g := g) (g' := g') .., v157_g (g := g) (g' := g') .., v171_g (g := g) (g' := g') ..]
theorem HS3_4_g : Same (runA.sl.HS3_4 c i arg3 harg3 arg4 harg4 arg5 harg5 arg6 harg6 arg7 harg7 arg8 harg8 arg9 harg9 arg10 harg10 arg11 harg11 arg12 harg12 x0 x2 x3 x4) := fun g g' => by
  unfold runA.sl.HS3_4; rw [r_12_g (g := g) (g' := g') .., HS3_3_g (g := g) (g' := g') ..]
theorem v204_g : Same (runA.sl.v204 c i arg3 harg3 arg4 harg4 arg5 harg5 arg6 harg6 arg7 harg7 arg8 harg8 arg9 harg9 arg10 harg10 arg11 harg11 arg12 harg12 x0 x2 x3 x4) := fun g g' => by
  unfold runA.sl.v204; rw [HS3_4_g (g := g) (g' := g') ..]
theorem HS3_5_g : Same (runA.sl.HS3_5 c i arg3 harg3 arg4 harg4 arg5 harg5 arg6 harg6 arg7 harg7 arg8 harg8 arg9 harg9 arg10 harg10 arg11 harg11 arg12 harg12 x0 x2 x3 x4) := fun g g' => by
  unfold runA.sl.HS3_5; rw [v183_g (g := g) (g' := g') .., v190_g (g := g) (g' := g') .., v204_g (g := g) (g' := g') .., HS3_4_g (g := g) (g' := g') ..]
theorem v216_g : Same (runA.sl.v216 c i arg3 harg3 arg4 harg4 arg5 harg5 arg6 harg6 arg7 harg7 arg8 harg8 arg9 harg9 arg10 harg10 arg11 harg11 arg12 harg12 x0 x2 x3 x4) := fun g g' => by
  unfold runA.sl.v216; rw [pb2_none, pb2_none, pb1_indep (G_arg10 := g) (G'_arg10 := g') (h := le_refl _)]
theorem v223_g : Same (runA.sl.v223 c i arg3 harg3 arg4 harg4 arg5 harg5 arg6 harg6 arg7 harg7 arg8 harg8 arg9 harg9 arg10 harg10 arg11 harg11 arg12 harg12 x0 x2 x3 x4) := fun g g' => by
  unfold runA.sl.v223; rw [HS2_5_g (g := g) (g' := g') ..]
theorem v237_g : Same (runA.sl.v237 c i arg3 harg3 arg4 harg4 arg5 harg5 arg6 harg6 arg7 harg7 arg8 harg8 arg9 harg9 arg10 harg10 arg11 harg11 arg12 harg12 x0 x2 x3 x4) := fun g g' => by
  unfold runA.sl.v237; rw [HS3_5_g (g := g) (g' := g') ..]
theorem HS3_6_g : Same (runA.sl.HS3_6 c i arg3 harg3 arg4 harg4 arg5 harg5 arg6 harg6 arg7 harg7 arg8 harg8 arg9 harg9 arg10 harg10 arg11 harg11 arg12 harg12 x0 x2 x3 x4) := fun g g' => by
  unfold runA.sl.HS3_6; rw [v216_g (g := g) (g' := g') .., v223_g (g := g) (g' := g') .., v237_g (g := g) (g' := g') .., HS3_5_g (g := g) (g' := g') ..]
theorem v281_g : Same (runA.sl.v281 c i arg3 harg3 arg4 harg4 arg5 harg5 arg6 harg6 arg7 harg7 arg8 harg8 arg9 harg9 arg10 harg10 arg11 harg11 arg12 harg12 x0 x2 x3 x4) := fun g g' => by
  unfold runA.sl.v281; rw [HS3_6_g (g := g) (g' := g') ..]
theorem r_14_g : Same (runA.sl.r_14 c i arg3 harg3 arg4 harg4 arg5 harg5 arg6 harg6 arg7 harg7 arg8 harg8 arg9 harg9 arg10 harg10 arg11 harg11 arg12 harg12 x0 x2 x3 x4) := fun g g' => by
  unfold runA.sl.r_14; rw [v281_g (g := g) (g' := g') ..]
theorem v313_g : Same (runA.sl.v313 c i arg3 harg3 arg4 harg4 arg5 harg5 arg6 harg6 arg7 harg7 arg8 harg8 arg9 harg9 arg10 harg10 arg11 harg11 arg12 harg12 x0 x2 x3 x4) := fun g g' => by
  unfold runA.sl.v313; rw [HS3_6_g (g := g) (g' := g') ..]
theorem r_15_g : Same (runA.sl.r_15 c i arg3 harg3 arg4 harg4 arg5 harg5 arg6 harg6 arg7 harg7 arg8 harg8 arg9 harg9 arg10 harg10 arg11 harg11 arg12 harg12 x0 x1 x2 x3 x4) := fun g g' => by
  unfold runA.sl.r_15; rw [v313_g (g := g) (g' := g') ..]
theorem v_g : Same (runA.sl.v c i arg3 harg3 arg4 harg4 arg5 harg5 arg6 harg6 arg7 harg7 arg8 harg8 arg9 harg9 arg10 harg10 arg11 harg11 arg12 harg12 x0 x2 x3 x4) := fun g g' => by
  unfold runA.sl.v; rw [HS3_6_g (g := g) (g' := g') ..]
theorem v265_g : Same (runA.sl.v265 c i arg3 harg3 arg4 harg4 arg5 harg5 arg6 harg6 arg7 harg7 arg8 harg8 arg9 harg9 arg10 harg10 arg11 harg11 arg12 harg12 x0 x2 x3 x4) := fun g g' => by
  unfold runA.sl.v265; rw [HS3_6_g (g := g) (g' := g') ..]
theorem v297_g : Same (runA.sl.v297 c i arg3 harg3 arg4 harg4 arg5 harg5 arg6 harg6 arg7 harg7 arg8 harg8 arg9 harg9 arg10 harg10 arg11 harg11 arg12 harg12 x0 x2 x3 x4) := fun g g' => by
  unfold runA.sl.v297; rw [HS3_6_g (g := g) (g' := g') ..]
theorem v329_g : Same (runA.sl.v329 c i arg3 harg3 arg4 harg4 arg5 harg5 arg6 harg6 arg7 harg7 arg8 harg8 arg9 harg9 arg10 harg10 arg11 harg11 arg12 harg12 x0 x2 x3 x4) := fun g g' => by
  unfold runA.sl.v329; rw [HS3_6_g (g := g) (g' := g') ..]
/-- The pieces of the output do not depend on what the second score buffer held before. -/
theorem runA_g (hc0 : ¬cond0_0 i) (hc1 : cond0_1 i) : (runA c i arg3 harg3 arg4 harg4 arg5 harg5 arg6 harg6 arg7 harg7 arg8 harg8 arg9 harg9 arg10 harg10 arg11 harg11 arg12 harg12 hc0 hc1 x0 x1 x2 x3 x4 g).1 = (runA c i arg3 harg3 arg4 harg4 arg5 harg5 arg6 harg6 arg7 harg7 arg8 harg8 arg9 harg9 arg10 harg10 arg11 harg11 arg12 harg12 hc0 hc1 x0 x1 x2 x3 x4 g').1 := by
  unfold runA; dsimp only; simp only [v_g (g := g) (g' := g') .., v265_g (g := g) (g' := g') .., v297_g (g := g) (g' := g') .., v329_g (g := g) (g' := g') .., r_14_g (g := g) (g' := g') .., r_15_g (g := g) (g' := g') ..]

end

end Cert.KernelIdeal.Att

end
-- ==== Proof.Ideal.RunB.lean ====
module

public import proofs.«01_k».proof.Proof.Ideal.RunA

@[expose] public section

set_option maxRecDepth 16384

noncomputable section

namespace Cert.KernelIdeal.Att

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1556000 in
/-- The body run at a point with an odd query block: the pieces its stores leave in the output block, as a function
    of the input blocks. -/
noncomputable def runB (c : Dev nD) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (hc0 : cond0_0 i) (hc1 : ¬cond0_1 i)
    (x0 : Vec F S1536x512 .bf16) (x1 : Vec F S512x768 .bf16) (x2 : Vec F S4096x768 .bf16) (x3 : Vec F S4096x128 .bf16) (x4 : Vec F S768x4096 .bf16) :
    { L5 : List (View.Piece (Elt F) S512x768 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_mla_attention i arg3 harg3 arg4 harg4 arg5 harg5 arg6 harg6 arg7 harg7 arg8 harg8 arg9 harg9 arg10 harg10 arg11 harg11 arg12 harg12) K } := by
  refine ⟨?_, fun E K => ?run⟩
  case run =>
    simp only [cc0_mla_attention_eq_skeleton]; unfold cc0_mla_attention_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Att

end
-- ==== Proof.Ideal.Frame.lean ====
module

public import proofs.«01_k».proof.Proof.Ideal.Indep
public import proofs.«01_k».proof.Proof.Ideal.RunB
public import Idealize.ShloMosaic.Lib.Pipeline.Value
public import Idealize.ShloMosaic.Lib.Claim

@[expose] public section

set_option maxRecDepth 16384

noncomputable section

namespace Cert.KernelIdeal.Att

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The six pieces of an even query block cover the output block. -/
theorem cover0_A_5 (c : Dev nD) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (hc0 : ¬cond0_0 i) (hc1 : cond0_1 i)
    (x0 : Vec F S1536x512 .bf16) (x1 : Vec F S512x768 .bf16) (x2 : Vec F S4096x768 .bf16) (x3 : Vec F S4096x128 .bf16) (x4 : Vec F S768x4096 .bf16) (y : S512x768.Idx) :
    ∃ pc ∈ (runA c i arg3 harg3 arg4 harg4 arg5 harg5 arg6 harg6 arg7 harg7 arg8 harg8 arg9 harg9 arg10 harg10 arg11 harg11 arg12 harg12 hc0 hc1 x0 x1 x2 x3 x4 arg10.view.junk).1, y ∈ pc.1.set :=
  View.cover_of_tiledL (runA c i arg3 harg3 arg4 harg4 arg5 harg5 arg6 harg6 arg7 harg7 arg8 harg8 arg9 harg9 arg10 harg10 arg11 harg11 arg12 harg12 hc0 hc1 x0 x1 x2 x3 x4 arg10.view.junk).1 S512x128.size (by sl_kernel_rfl) y

/-- The output block after the body at an even query block. -/
def out0_A_5 (c : Dev nD) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (hc0 : ¬cond0_0 i) (hc1 : cond0_1 i)
    (x0 : Vec F S1536x512 .bf16) (x1 : Vec F S512x768 .bf16) (x2 : Vec F S4096x768 .bf16) (x3 : Vec F S4096x128 .bf16) (x4 : Vec F S768x4096 .bf16) : Vec F S512x768 .bf16 :=
  VO0_5.read (Elt F) (VO0_5.writes (Elt F) VO0_5.junk (runA c i arg3 harg3 arg4 harg4 arg5 harg5 arg6 harg6 arg7 harg7 arg8 harg8 arg9 harg9 arg10 harg10 arg11 harg11 arg12 harg12 hc0 hc1 x0 x1 x2 x3 x4 arg10.view.junk).1)

/-- The six pieces of an odd query block cover the output block. -/
theorem cover0_B_5 (c : Dev nD) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (hc0 : cond0_0 i) (hc1 : ¬cond0_1 i)
    (x0 : Vec F S1536x512 .bf16) (x1 : Vec F S512x768 .bf16) (x2 : Vec F S4096x768 .bf16) (x3 : Vec F S4096x128 .bf16) (x4 : Vec F S768x4096 .bf16) (y : S512x768.Idx) :
    ∃ pc ∈ (runB c i arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (runB c i arg3 harg3 arg4 harg4 arg5 harg5 arg6 harg6 arg7 harg7 arg8 harg8 arg9 harg9 arg10 harg10 arg11 harg11 arg12 harg12 hc0 hc1 x0 x1 x2 x3 x4).1 S512x128.size (by sl_kernel_rfl) y

/-- The output block after the body at an odd query block. -/
def out0_B_5 (c : Dev nD) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (hc0 : cond0_0 i) (hc1 : ¬cond0_1 i)
    (x0 : Vec F S1536x512 .bf16) (x1 : Vec F S512x768 .bf16) (x2 : Vec F S4096x768 .bf16) (x3 : Vec F S4096x128 .bf16) (x4 : Vec F S768x4096 .bf16) : Vec F S512x768 .bf16 :=
  VO0_5.read (Elt F) (VO0_5.writes (Elt F) VO0_5.junk (runB c i arg3 harg3 arg4 harg4 arg5 harg5 arg6 harg6 arg7 harg7 arg8 harg8 arg9 harg9 arg10 harg10 arg11 harg11 arg12 harg12 hc0 hc1 x0 x1 x2 x3 x4).1)

/-- The output block after the body at point `n`. -/
def outsAt0 (c : Dev nD) : (n : ℕ) → n < cfg0.N → Vec F S512x768 .bf16
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) (fun h => (fun h => by (try dsimp only at h); omega) ((hcond0_0 ⟨0, hn⟩).mp h)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 2 = 1 then
      if h1 : (n + 1) % 2 = 0 then
        False.elim (by have hN : n + 1 < 128 := lt_of_lt_of_eq hn (show cfg0.N = 128 from N_0); omega)
      else
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      if h1 : (n + 1) % 2 = 0 then
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩)
      else
        False.elim (by have hN : n + 1 < 128 := lt_of_lt_of_eq hn (show cfg0.N = 128 from N_0); omega)

/-- ... which at an even point is the even case. -/
theorem outsAt0_A (c : Dev nD) (t : Fin cfg0.N) (h0 : ¬t.val % 2 = 1) (h1 : t.val % 2 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) := by
  obtain ⟨n, hn⟩ := t
  cases n with
  | zero => exact rfl
  | succ n => exact (dif_neg h0).trans ((dif_pos h1).trans rfl)

/-- ... and at an odd point the odd case. -/
theorem outsAt0_B (c : Dev nD) (t : Fin cfg0.N) (h0 : t.val % 2 = 1) (h1 : ¬t.val % 2 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) := by
  obtain ⟨n, hn⟩ := t
  cases n with
  | zero => exact (by exfalso; (try dsimp only at h0); exact by omega)
  | succ n => exact (dif_pos h0).trans ((dif_neg h1).trans rfl)

/-- The proof data of the pipeline: inputs stay their blocks, the output block is `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

/-- The blocks after the body, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

/-- The input blocks before the body are the blocks of the arrays. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- A buffer held at some contents is held at some raw contents. -/
theorem owns_open (c : Dev nD) (M : Memref sig .tc .vmem S6x512x512 .f32) (d : Vec F S6x512x512 .f32) : (owns (c : Thread nD τ) M fullShare d : sProp 𝕄) ⊢ iprop(∃ f, M.view.loc (c : Thread nD τ) ↦[M.view.set]{fullShare} f) := by
  unfold owns
  iintro ⟨%f, -, H⟩
  iexists f; iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 128 := lt_of_lt_of_eq t.isLt (show cfg0.N = 128 from N_0)
  by_cases h0 : t.val % 2 = 1
  · by_cases h1 : t.val % 2 = 0
    · exfalso; omega
    · rw [outsAt0_B m c t h0 h1]
      unfold out0_B_5
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _ _ _ _ _ _)
  · by_cases h1 : t.val % 2 = 0
    · rw [outsAt0_A m c t h0 h1]
      unfold out0_A_5
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      icases HS1 with ⟨%ds1, HS1⟩
      ihave HS1 := (owns_open c scM0_1 ds1) $$ HS1
      icases HS1 with ⟨%fs1, HS1⟩
      iapply ((runA c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) fs1).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; rw [runA_g c _ _ _ _ _ _ _ _ _ _ _ _ _ _ _ _ _ _ _ _ _ _ _ _ _ _ fs1 scM0_1.view.junk]; exact View.read_writes_of_cover _ _ _ _ _ (cover0_A_5 c _ _ _ _ _ _ _ _ _ _ _ _ _ _ _ _ _ _ _ _ _ _ _ _ _ _ _ _)
    · exfalso; omega

/-- The body at point `t`, as the table of bodies has it. -/
theorem defs₀_row (t : Fin cfg0.N) :
    defs₀ (F := F) .tc cfg0.body (cfg0.bodyArgs t (cfg0.slots t)) = bodyAt0 t := by
  unfold defs₀; rw [Defs.onTc_tc]

/-- The obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the run ends, the arrays are what the proof data say, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the run ends, the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- What a point writes back is its output block. -/
theorem flushed5 (c : Dev nD) (t : Fin cfg0.N) :
    (dats m 0 c).flushed 5 t = (cfg0.win 5).cut (grid0.coords t) (outsAt0 m c t.val t.isLt) := by
  show (cfg0.win 5).cut (grid0.coords t) ((dats m 0 c).after 5 t) = _
  rw [after0_5]

/-- At an even point. -/
theorem flushed5_A (c : Dev nD) (t : Fin cfg0.N) (h0 : ¬t.val % 2 = 1) (h1 : t.val % 2 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t)) := by
  simp only [flushed5, outsAt0_A m c t h0 h1]

/-- At an odd point. -/
theorem flushed5_B (c : Dev nD) (t : Fin cfg0.N) (h0 : t.val % 2 = 1) (h1 : ¬t.val % 2 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t)) := by
  simp only [flushed5, outsAt0_B m c t h0 h1]

/-- Distinct points have distinct output blocks. -/
theorem idx_inj5 : ∀ t t' : Fin cfg0.N, win0_5.index t = win0_5.index t' → t = t' :=
  (by decide +kernel : ∀ t t' : Fin grid0.N, win0_5.index t = win0_5.index t' → t = t')

/-- Two output blocks share no index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- Block `t` of the final array is what point `t` wrote. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- The array after the run. -/
theorem post5 (r : PUnit × MemSt nD τ sig (Elt F)) (h : Pipeline.FramePost cfgs (dats m) 0 (V m) r) (c : Dev nD) :
    r.2.mem ((c : Thread nD τ).loc main_v0) = (dats m 0 c).arrAt 5 cfg0.N :=
  (h c).1 5

/-- An argument after the run is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- An argument after the run is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- An argument after the run is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- An argument after the run is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- An argument after the run is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- The run, with the output array named and the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.KernelIdeal.Att

end
-- ==== Proof.Eq.Scale.lean ====
/- The normalising factor of a row: it is the same number whether the mean is taken by division or by a
   multiplication, it is a real number that is not negative, and it moves out of a sum of products. -/
module

public import Idealize.ShloMosaic.PureOps.Ideal.Laws
public import Idealize.ShloMosaic.PureOps.Ideal

@[expose] public section

noncomputable section

namespace Norm

open Idealize.ShloMosaic

/-- The word of 1/4096. -/
theorem word_inv : (Ideal.ofBits .f32 0x39800000#32 : EReal) = ((1 / 4096 : ℝ) : EReal) := by
  simp [Ideal.ofBits, Ideal.ieee]
  rw [← EReal.coe_mul]
  norm_num

/-- The word of 4096. -/
theorem word_dim : (Ideal.ofBits .f32 0x45800000#32 : EReal) = ((4096 : ℝ) : EReal) := by
  simp [Ideal.ofBits, Ideal.ieee]
  rw [← EReal.coe_mul]
  norm_num

/-- The small number added under the root is positive and real. -/
theorem word_eps : ∃ e : ℝ, 0 < e ∧ (Ideal.ofBits .f32 0x358637BD#32 : EReal) = (e : EReal) := by
  refine ⟨8796093 * (1 / 2 ^ 43), by norm_num, ?_⟩
  simp [Ideal.ofBits, Ideal.ieee]

/-- Dividing by 4096 is multiplying by 1/4096. -/
theorem div_dim (s : EReal) : Ideal.div s (Ideal.ofBits .f32 0x45800000#32) = s * Ideal.ofBits .f32 0x39800000#32 := by
  rw [word_dim, word_inv]
  unfold Ideal.div
  rw [if_neg (by rw [← EReal.coe_zero, EReal.coe_eq_coe_iff]; norm_num), ← EReal.coe_inv, one_div]

/-- The factor of a row whose sum of squares is not negative is a real number that is not negative. -/
theorem factor_real {s : EReal} (hs : 0 ≤ s) :
    ∃ r : ℝ, 0 ≤ r ∧ Ideal.rsqrt (s * Ideal.ofBits .f32 0x39800000#32 + Ideal.ofBits .f32 0x358637BD#32) = (r : EReal) := by
  obtain ⟨e, he, hw⟩ := word_eps
  rw [word_inv, hw]
  induction s with
  | bot => exact absurd hs (by simp)
  | top =>
    refine ⟨0, le_rfl, ?_⟩
    rw [EReal.top_mul_coe_of_pos (by norm_num), EReal.top_add_coe]
    rfl
  | coe x =>
    have hx : 0 ≤ x := EReal.coe_nonneg.mp hs
    have hp : 0 < x * (1 / 4096) + e := by positivity
    refine ⟨(Real.sqrt (x * (1 / 4096) + e))⁻¹, by positivity, ?_⟩
    rw [← EReal.coe_mul, ← EReal.coe_add, Ideal.rsqrt_coe, if_neg (not_lt.mpr hp.le), if_neg hp.ne']

/-- A real factor that is not negative moves out of a sum. -/
theorem sum_mul_real {n : ℕ} (f : Fin n → EReal) (r : ℝ) (hr : 0 ≤ r) : ∑ k, f k * (r : EReal) = (∑ k, f k) * (r : EReal) := by
  rw [mul_comm]
  have h : ∀ S : Finset (Fin n), ∑ k ∈ S, f k * (r : EReal) = (r : EReal) * ∑ k ∈ S, f k := by
    intro S
    classical
    induction S using Finset.induction_on with
    | empty => simp
    | insert a S ha ih =>
      rw [Finset.sum_insert ha, Finset.sum_insert ha, EReal.left_distrib_of_nonneg_of_ne_top (EReal.coe_nonneg.mpr hr) (EReal.coe_ne_top r), ih, mul_comm]
  exact h _

/-- Scaling the rows before the product with the weights is scaling the product. -/
theorem scale_dot {n : ℕ} (x w : Fin n → EReal) {s : EReal} (hs : 0 ≤ s) :
    ∑ k, x k * Ideal.rsqrt (Ideal.div s (Ideal.ofBits .f32 0x45800000#32) + Ideal.ofBits .f32 0x358637BD#32) * w k
      = (∑ k, x k * w k) * Ideal.rsqrt (s * Ideal.ofBits .f32 0x39800000#32 + Ideal.ofBits .f32 0x358637BD#32) := by
  rw [div_dim]
  obtain ⟨r, hr, e⟩ := factor_real hs
  rw [e, ← sum_mul_real _ r hr]
  exact Finset.sum_congr rfl fun k _ => mul_right_comm _ _ _

/-- A number that compares as at least the zero word is not negative. -/
theorem nonneg_of_cmp {x : EReal} (h : Ideal.cmp .oge x (Ideal.ofBits .f32 0x00000000#32) = 1#1) : 0 ≤ x := by
  rw [Ideal.ofBits_zero_f32] at h
  by_contra hn
  exact absurd h (by simp [Ideal.cmp, hn])

end Norm

end
-- ==== Proof.In2.lean ====
/- The projection of normalised rows, 9216 columns wide: what a grid point computes, the array its blocks make, and the
   same of the reference. -/
module

public import proofs.«01_k».proof.Proof.Gen.Kernel2Ideal.Value
public import proofs.«01_k».proof.Proof.Gen.Reference2Ideal.Run
public import proofs.«01_k».proof.Proof.Eq.Scale
public import Idealize.ShloMosaic.Lib.ValueLayout
public import Idealize.ShloMosaic.Lib.IdealHost
public import Idealize.ShloMosaic.Lib.MatmulPlain
public import Idealize.ShloMosaic.Lib.Pipeline.ValueKit.Basic
public import Idealize.ShloMosaic.Lib.Pipeline.ValueKit.Geometry

@[expose] public section

set_option maxRecDepth 16384

noncomputable section

namespace Cert.Kernel2Ideal.Proj

open Cert.Kernel2Ideal Cert.Kernel2Ideal.Gen Idealize.ShloMosaic Idealize.ShloMosaic.TcCoe Idealize.ShloMosaic.ValueIdx

/-- The factor of a row from its sum of squares. -/
def factor (s : EReal) : EReal := Ideal.rsqrt (s * Ideal.ofBits .f32 0x39800000#32 + Ideal.ofBits .f32 0x358637BD#32)

/-- The projection: rows times the first layer's weights, times the rows' factors. -/
def proj (x : FVec Ideal S16384x4096 .bf16) (s : FVec Ideal S16384x1 .f32) (w : FVec Ideal S2x4096x9216 .bf16) (r : Fin 16384) (c : Fin 9216) : EReal :=
  (∑ k : Fin 4096, (x (ix2 r k) : EReal) * w (ix3 (0 : Fin 2) k c)) * factor (s (ix2 r (0 : Fin 1)))

/-- The projection as an array. -/
def projArr (x : FVec Ideal S16384x4096 .bf16) (s : FVec Ideal S16384x1 .f32) (w : FVec Ideal S2x4096x9216 .bf16) : FVec Ideal S16384x9216 .bf16 :=
  fun i => proj x s w (i 0) (i 1)

/-- What a grid point computes, at an index. -/
theorem pay_apply (s : Vec Ideal S1024x1 .f32) (x : Vec Ideal S1024x4096 .bf16) (w : Vec Ideal S1x4096x1024 .bf16) (r : Fin 1024) (c : Fin 1024) :
    k0_pay1 s x w (ix2 r c) = (∑ k : Fin 4096, (x (ix2 r k) : EReal) * w (ix3 (0 : Fin 1) k c)) * factor (s (ix2 r (0 : Fin 1))) := by
  unfold k0_pay1 factor
  refine congrArg₂ (fun a b : EReal => a * b) ?_ ?_
  · refine (Ideal.matmul_plain_apply (M := 1024) (K := 4096) (N := 1024) none _ _ _ r c).trans ?_
    have hz : (constant (F := Ideal) S1024x1024 .f32 0x00000000#32 (ix2 r c) : EReal) = 0 := Ideal.ofBits_zero_f32
    refine (congrArg₂ (fun a b : EReal => a + b) hz rfl).trans ((zero_add _).trans ?_)
    exact Finset.sum_congr rfl fun k _ => congrArg (fun b : EReal => _ * b) (shapeCast_1ab_ab_apply _ _ _ _)
  · refine (broadcastTo_apply _ _ _ (ix2 r (0 : Fin 1)) fun a => ?_).trans rfl
    match a with
    | ⟨0, _⟩ => rfl
    | ⟨1, _⟩ => rfl

/-- The block of rows of a grid point. -/
def pI (t : Fin cfg0.N) : ℕ := (grid0.coords t 0).val
/-- The block of columns of a grid point. -/
def pJ (t : Fin cfg0.N) : ℕ := (grid0.coords t 1).val
/-- There are sixteen blocks of rows. -/
theorem pI_lt (t : Fin cfg0.N) : pI t < 16 := (grid0.coords t 0).isLt
/-- There are nine blocks of columns. -/
theorem pJ_lt (t : Fin cfg0.N) : pJ t < 9 := (grid0.coords t 1).isLt

/-- Where each window's block lies at a grid point. -/
theorem at0 : ∀ t : Fin cfg0.N, win0_0.index t = ![pI t, 0] :=
  (by decide +kernel : ∀ t : Fin grid0.N, win0_0.index t = ![(grid0.coords t 0).val, 0])
theorem at1 : ∀ t : Fin cfg0.N, win0_1.index t = ![pI t, 0] :=
  (by decide +kernel : ∀ t : Fin grid0.N, win0_1.index t = ![(grid0.coords t 0).val, 0])
theorem at2 : ∀ t : Fin cfg0.N, win0_2.index t = ![0, 0, pJ t] :=
  (by decide +kernel : ∀ t : Fin grid0.N, win0_2.index t = ![0, 0, (grid0.coords t 1).val])
theorem at3 : ∀ t : Fin cfg0.N, win0_3.index t = ![pI t, pJ t] :=
  (by decide +kernel : ∀ t : Fin grid0.N, win0_3.index t = ![(grid0.coords t 0).val, (grid0.coords t 1).val])

section
variable (m : (ℓ : Loc nD τ sig) → Buf (Elt Ideal) ℓ) (c : Dev nD) (t : Fin cfg0.N)

/-- The arguments. -/
abbrev a0 : FVec Ideal S16384x4096 .bf16 := m ((c : Thread nD τ).loc main_arg0)
abbrev a1 : FVec Ideal S16384x1 .f32 := m ((c : Thread nD τ).loc main_arg1)
abbrev a2 : FVec Ideal S2x4096x9216 .bf16 := m ((c : Thread nD τ).loc main_arg2)

/-- The block of rows at an index. -/
theorem blk0 (r : Fin 1024) (r' : Fin 16384) (e : r'.val = 1024 * pI t + r.val) (k : Fin 4096) :
    iblk m c 0 t (ix2 r k) = a0 m c (ix2 r' k) := by
  refine congrArg (m ((c : Thread nD τ).loc main_arg0)) (funext fun a => Fin.ext ?_)
  match a with
  | ⟨0, _⟩ =>
    refine Eq.trans (b := win0_0.index t 0 * 1024 + r.val) (by blk_simp <;> rfl) ?_
    rw [at0]
    show pI t * 1024 + r.val = r'.val
    omega
  | ⟨1, _⟩ =>
    refine Eq.trans (b := win0_0.index t 1 * 4096 + k.val) (by blk_simp <;> rfl) ?_
    rw [at0]
    show 0 * 4096 + k.val = k.val
    omega

/-- The block of sums of squares at an index. -/
theorem blk1 (r : Fin 1024) (r' : Fin 16384) (e : r'.val = 1024 * pI t + r.val) :
    iblk m c 1 t (ix2 r (0 : Fin 1)) = a1 m c (ix2 r' (0 : Fin 1)) := by
  refine congrArg (m ((c : Thread nD τ).loc main_arg1)) (funext fun a => Fin.ext ?_)
  match a with
  | ⟨0, _⟩ =>
    refine Eq.trans (b := win0_1.index t 0 * 1024 + r.val) (by blk_simp <;> rfl) ?_
    rw [at1]
    show pI t * 1024 + r.val = r'.val
    omega
  | ⟨1, _⟩ =>
    refine Eq.trans (b := win0_1.index t 1 * 1 + 0) (by blk_simp <;> rfl) ?_
    rw [at1]
    rfl

/-- The block of weights at an index. -/
theorem blk2 (k : Fin 4096) (j : Fin 1024) (j' : Fin 9216) (e : j'.val = 1024 * pJ t + j.val) :
    iblk m c 2 t (ix3 (0 : Fin 1) k j) = a2 m c (ix3 (0 : Fin 2) k j') := by
  refine congrArg (m ((c : Thread nD τ).loc main_arg2)) (funext fun a => Fin.ext ?_)
  match a with
  | ⟨0, _⟩ =>
    refine Eq.trans (b := win0_2.index t 0 * 1 + 0) (by blk_simp <;> rfl) ?_
    rw [at2]
    rfl
  | ⟨1, _⟩ =>
    refine Eq.trans (b := win0_2.index t 1 * 4096 + k.val) (by blk_simp <;> rfl) ?_
    rw [at2]
    show 0 * 4096 + k.val = k.val
    omega
  | ⟨2, _⟩ =>
    refine Eq.trans (b := win0_2.index t 2 * 1024 + j.val) (by blk_simp <;> rfl) ?_
    rw [at2]
    show pJ t * 1024 + j.val = j'.val
    omega

/-- Where the output's block lies, at an index. -/
theorem emb3 (y : S1024x1024.Idx) (r : Fin 16384) (j : Fin 9216) (e0 : r.val = 1024 * pI t + (y 0).val) (e1 : j.val = 1024 * pJ t + (y 1).val) :
    ((cfg0.win 3).blk t).view.emb y = ix2 r j := by
  refine funext fun a => Fin.ext ?_
  match a with
  | ⟨0, _⟩ =>
    refine Eq.trans (b := win0_3.index t 0 * 1024 + (y 0).val) (by blk_simp <;> rfl) ?_
    rw [at3]
    show pI t * 1024 + (y 0).val = r.val
    omega
  | ⟨1, _⟩ =>
    refine Eq.trans (b := win0_3.index t 1 * 1024 + (y 1).val) (by blk_simp <;> rfl) ?_
    rw [at3]
    show pJ t * 1024 + (y 1).val = j.val
    omega

/-- A grid point's result block is its one store's value. -/
theorem out_eq (x0 : Vec Ideal S1024x4096 .bf16) (x1 : Vec Ideal S1024x1 .f32) (x2 : Vec Ideal S1x4096x1024 .bf16) : out0_3 x0 x1 x2 = k0_pay1 x1 x0 x2 := by
  unfold out0_3
  refine (View.canon_cons_unit_lit (S := S1024x1024) _ _ _ (by decide)).trans ?_
  have e0 : View.ld x1 r0_0 = x1 := View.ld_unit_lit (S := S1024x1) _ _ (by decide)
  have e1 : View.ld x0 r0_1 = x0 := View.ld_unit_lit (S := S1024x4096) _ _ (by decide)
  have e2 : View.ld x2 r0_2 = x2 := View.ld_unit_lit (S := S1x4096x1024) _ _ (by decide)
  rw [e0, e1, e2]

/-- The kernel's result array is the projection. -/
theorem array_eq : (dats m 0 c).arrAt 3 cfg0.N = projArr (a0 m c) (a1 m c) (a2 m c) := by
  refine (dats m 0 c).arrAt_eq_of_covers 3 _ (by decide +kernel) fun t hf y => ?_
  have hi := pI_lt t; have hj := pJ_lt t
  have y0 : (y 0).val < 1024 := (y 0).isLt
  have y1 : (y 1).val < 1024 := (y 1).isLt
  refine Eq.trans (b := out0_3 (iblk m c 0 t) (iblk m c 1 t) (iblk m c 2 t) (ix2 (⟨(y 0).val, y0⟩ : Fin 1024) (⟨(y 1).val, y1⟩ : Fin 1024)))
    ((congrFun (after0_3 m c t) _).trans (congrArg (out0_3 (iblk m c 0 t) (iblk m c 1 t) (iblk m c 2 t)) (funext fun a => by
      match a with
      | ⟨0, _⟩ => rfl
      | ⟨1, _⟩ => rfl))) ?_
  refine (congrFun (out_eq _ _ _) _).trans ((pay_apply _ _ _ _ _).trans ?_)
  refine Eq.trans ?_ (congrArg (projArr (a0 m c) (a1 m c) (a2 m c))
    (emb3 t y ⟨1024 * pI t + (y 0).val, by omega⟩ ⟨1024 * pJ t + (y 1).val, by omega⟩ rfl rfl)).symm
  refine congrArg₂ (fun a b : EReal => a * factor b) (Finset.sum_congr rfl fun k _ => congrArg₂ (fun a b : EReal => a * b) ?_ ?_) ?_
  · exact blk0 m c t _ _ rfl k
  · exact blk2 m c t k _ _ rfl
  · exact blk1 m c t _ _ rfl

end

end Cert.Kernel2Ideal.Proj

namespace Cert.Reference2Ideal.Proj

open Cert.Reference2Ideal Cert.Reference2Ideal.Gen Idealize.ShloMosaic Idealize.ShloMosaic.TcCoe Idealize.ShloMosaic.ValueIdx

/-- The product of rows and weights at an index. -/
theorem dot_apply (x : FVec Ideal S16384x4096 .f32) (w : FVec Ideal S4096x9216 .f32) (r : Fin 16384) (j : Fin 9216) :
    (Host.dotGeneral dot_S16384x4096_S4096x9216_S16384x9216_1_0_0_1_n_n none x w : FVec Ideal S16384x9216 .f32) (ix2 r j)
      = ∑ k : Fin 4096, (x (ix2 r k) : EReal) * w (ix2 k j) := by
  refine (Ideal.dotGeneral_apply _ _ _ _ _ _).trans ?_
  have hr : (dot_S16384x4096_S4096x9216_S16384x9216_1_0_0_1_n_n).contr.rank = 1 := rfl
  have hs : (dot_S16384x4096_S4096x9216_S16384x9216_1_0_0_1_n_n).contr.size ⟨0, by omega⟩ = 4096 := rfl
  rw [← Equiv.sum_comp (contrEquiv1 _ 4096 hr hs).symm]
  refine Finset.sum_congr rfl fun k _ => ?_
  have hk := contrEquiv1_symm_val _ 4096 hr hs k
  refine congrArg₂ (fun a b : EReal => a * b) (congrArg x (funext fun a => Fin.ext ?_)) (congrArg w (funext fun a => Fin.ext ?_))
  · match a with
    | ⟨0, _⟩ => rfl
    | ⟨1, _⟩ => exact hk
  · match a with
    | ⟨0, _⟩ => exact hk
    | ⟨1, _⟩ => rfl

/-- The rows as the reference scales them, at an index. -/
theorem rows_apply (x : FVec Ideal S16384x4096 .bf16) (s : FVec Ideal S16384x1 .f32) (r : Fin 16384) (k : Fin 4096) :
    (mulf (extf .f32 x bitsLt_bf16_f32) (broadcastInDim S16384x4096 ![0, 1] bcast_S16384x1_S16384x4096_0_1 (Host.rsqrt (addf (Host.divf s (broadcastInDim S16384x1 ![] bcast_S_S16384x1 (constant S_ .f32 0x45800000#32))) (broadcastInDim S16384x1 ![] bcast_S_S16384x1 (constant S_ .f32 0x358637BD#32))))) : FVec Ideal S16384x4096 .f32) (ix2 r k)
      = x (ix2 r k) * Ideal.rsqrt (Ideal.div (s (ix2 r (0 : Fin 1))) (Ideal.ofBits .f32 0x45800000#32) + Ideal.ofBits .f32 0x358637BD#32) := by
  refine congrArg (fun b : EReal => x (ix2 r k) * b) ?_
  refine (broadcastInDim_apply _ _ _ _ (ix2 r (0 : Fin 1)) fun a => ?_).trans rfl
  match a with
  | ⟨0, _⟩ => rfl
  | ⟨1, _⟩ => rfl

/-- The first layer's weights at an index. -/
theorem weights_apply (w : FVec Ideal S2x4096x9216 .bf16) (k : Fin 4096) (j : Fin 9216) :
    (extf .f32 (shapeCast S4096x9216 (extractStridedSlice S1x4096x9216 ![0, 0, 0] w slices_S2x4096x9216_S1x4096x9216_0_0_0) shapeCasts_S1x4096x9216_S4096x9216) bitsLt_bf16_f32 : FVec Ideal S4096x9216 .f32) (ix2 k j)
      = w (ix3 (0 : Fin 2) k j) := by
  refine (shapeCast_1ab_ab_apply _ _ _ _).trans (extractStridedSlice_apply _ w slices_S2x4096x9216_S1x4096x9216_0_0_0 _ (ix3 (0 : Fin 2) k j) fun a => ?_)
  match a with
  | ⟨0, _⟩ => rfl
  | ⟨1, _⟩ => exact (Nat.zero_add _).symm
  | ⟨2, _⟩ => exact (Nat.zero_add _).symm

/-- On sums of squares that are not negative, the reference's result is the projection. -/
theorem res_eq (x : FVec Ideal S16384x4096 .bf16) (s : FVec Ideal S16384x1 .f32) (w : FVec Ideal S2x4096x9216 .bf16) (hs : ∀ i, (0 : EReal) ≤ s i) :
    (truncf .bf16 (Host.dotGeneral dot_S16384x4096_S4096x9216_S16384x9216_1_0_0_1_n_n none (mulf (extf .f32 x bitsLt_bf16_f32) (broadcastInDim S16384x4096 ![0, 1] bcast_S16384x1_S16384x4096_0_1 (Host.rsqrt (addf (Host.divf s (broadcastInDim S16384x1 ![] bcast_S_S16384x1 (constant S_ .f32 0x45800000#32))) (broadcastInDim S16384x1 ![] bcast_S_S16384x1 (constant S_ .f32 0x358637BD#32)))))) (extf .f32 (shapeCast S4096x9216 (extractStridedSlice S1x4096x9216 ![0, 0, 0] w slices_S2x4096x9216_S1x4096x9216_0_0_0) shapeCasts_S1x4096x9216_S4096x9216) bitsLt_bf16_f32)) bitsLt_bf16_f32 : FVec Ideal S16384x9216 .bf16)
      = Cert.Kernel2Ideal.Proj.projArr x s w := by
  funext i
  obtain ⟨r, j, rfl⟩ : ∃ (r : Fin 16384) (j : Fin 9216), i = ix2 r j := ⟨i 0, i 1, funext fun a => by
    match a with
    | ⟨0, _⟩ => rfl
    | ⟨1, _⟩ => rfl⟩
  refine (dot_apply _ _ r j).trans ?_
  refine (Finset.sum_congr rfl fun k _ => congrArg₂ (fun a b : EReal => a * b) (rows_apply x s r k) (weights_apply w k j)).trans ?_
  exact Norm.scale_dot _ _ (hs _)

end Cert.Reference2Ideal.Proj

end
-- ==== Proof.JoinIn2.lean ====
/- The sliding-window layers' first projection: frames, and equal results where no sum of squares is negative. -/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Value
public import proofs.«01_k».proof.Proof.Gen.Reference2Ideal.Run
public import proofs.«01_k».proof.Proof.In2
public import proofs.«01_k».proof.Proof.Eq.Scale

@[expose] public section

noncomputable section

namespace Cert.Pre_nonneg

open Idealize.ShloMosaic

/-- The shapes of the predicate's operations fit. -/
theorem facts : Facts where
  bcast_S_S16384x1 := by decide

/-- An array that passes the comparison has no negative entry. -/
theorem nonneg_of {S : Shape} (d : Fin S_.rank → Fin S.rank) (hc : S_.BroadcastsInDim S d) (x : FVec Ideal S .f32)
    (h : cmpf .oge x (broadcastInDim S d hc (constant S_ .f32 0x00000000#32)) = fun _ => 1#1) (i : S.Idx) : (0 : EReal) ≤ x i :=
  Norm.nonneg_of_cmp (congrFun h i)

end Cert.Pre_nonneg

namespace Cert.Proof.In2

open Idealize.ShloMosaic Idealize.ShloMosaic.TcCoe Idealize.SL.Sem

/-- The kernel leaves its arguments as they were. -/
theorem frame_kernel : @Cert.quiescent_Kernel2 Cert.Kernel2.Gen.facts := fun m ρ _ => Cert.Kernel2.Gen.frame m ρ

/-- The idealized kernel leaves its arguments as they were. -/
theorem frame_ideal : @Cert.quiescent_Kernel2Ideal Cert.Kernel2Ideal.Gen.facts := fun m ρ _ => Cert.Kernel2Ideal.Gen.frame m ρ

/-- The reference leaves its arguments as they were. -/
theorem frame_reference : @Cert.quiescent_Reference2Ideal Cert.Reference2Ideal.Gen.facts := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The kernel's result from an initial memory. -/
def out (m : (ℓ : Loc Cert.Kernel2Ideal.nD Cert.Kernel2Ideal.τ Cert.Kernel2Ideal.sig) → Buf (Elt Ideal) ℓ) (c : Dev Cert.Kernel2Ideal.nD) :
    FVec Ideal Cert.Kernel2Ideal.S16384x9216 .bf16 :=
  Cert.Kernel2Ideal.Proj.projArr (Cert.Kernel2Ideal.Proj.a0 m c) (Cert.Kernel2Ideal.Proj.a1 m c) (Cert.Kernel2Ideal.Proj.a2 m c)

/-- Where no sum of squares is negative, the kernel and the reference end with the same result. -/
theorem algebraic : @Cert.algebraic_Kernel2Ideal_Reference2Ideal_pre_nonneg Cert.Kernel2Ideal.Gen.facts Cert.Reference2Ideal.Gen.facts Cert.Pre_nonneg.facts :=
  fun m ρ m' ρ' hp hag => ⟨fun c => out m c,
    (θ_run Cert.Kernel2Ideal.defs _ _).mono (fun r h c => ⟨(h c).1.trans (Cert.Kernel2Ideal.Proj.array_eq m c), (h c).2⟩)
      (Cert.Kernel2Ideal.Value.run_blocks (F := Ideal) m ρ),
    (θ_run Cert.Reference2Ideal.defs _ _).mono (fun r h c => ⟨(h c).1.trans (by
        obtain ⟨e0, e1, e2⟩ := hag c
        rw [e0, e1, e2]
        exact Cert.Reference2Ideal.Proj.res_eq _ _ _ (Cert.Pre_nonneg.nonneg_of _ (by decide) _ (hp c))), (h c).2⟩)
      (Cert.Reference2Ideal.Value.run (F := Ideal) m' ρ')⟩

end Cert.Proof.In2

end
-- ==== Proof.In3.lean ====
/- The projection of normalised rows, 6912 columns wide: what a grid point computes, the array its blocks make, and the
   same of the reference. -/
module

public import proofs.«01_k».proof.Proof.Gen.Kernel3Ideal.Value
public import proofs.«01_k».proof.Proof.Gen.Reference3Ideal.Run
public import proofs.«01_k».proof.Proof.Eq.Scale
public import Idealize.ShloMosaic.Lib.ValueLayout
public import Idealize.ShloMosaic.Lib.IdealHost
public import Idealize.ShloMosaic.Lib.MatmulPlain
public import Idealize.ShloMosaic.Lib.Pipeline.ValueKit.Basic
public import Idealize.ShloMosaic.Lib.Pipeline.ValueKit.Geometry

@[expose] public section

set_option maxRecDepth 16384

noncomputable section

namespace Cert.Kernel3Ideal.Proj

open Cert.Kernel3Ideal Cert.Kernel3Ideal.Gen Idealize.ShloMosaic Idealize.ShloMosaic.TcCoe Idealize.ShloMosaic.ValueIdx

/-- The factor of a row from its sum of squares. -/
def factor (s : EReal) : EReal := Ideal.rsqrt (s * Ideal.ofBits .f32 0x39800000#32 + Ideal.ofBits .f32 0x358637BD#32)

/-- The projection: rows times the first layer's weights, times the rows' factors. -/
def proj (x : FVec Ideal S16384x4096 .bf16) (s : FVec Ideal S16384x1 .f32) (w : FVec Ideal S2x4096x6912 .bf16) (r : Fin 16384) (c : Fin 6912) : EReal :=
  (∑ k : Fin 4096, (x (ix2 r k) : EReal) * w (ix3 (0 : Fin 2) k c)) * factor (s (ix2 r (0 : Fin 1)))

/-- The projection as an array. -/
def projArr (x : FVec Ideal S16384x4096 .bf16) (s : FVec Ideal S16384x1 .f32) (w : FVec Ideal S2x4096x6912 .bf16) : FVec Ideal S16384x6912 .bf16 :=
  fun i => proj x s w (i 0) (i 1)

/-- What a grid point computes, at an index. -/
theorem pay_apply (s : Vec Ideal S1024x1 .f32) (x : Vec Ideal S1024x4096 .bf16) (w : Vec Ideal S1x4096x768 .bf16) (r : Fin 1024) (c : Fin 768) :
    k0_pay1 s x w (ix2 r c) = (∑ k : Fin 4096, (x (ix2 r k) : EReal) * w (ix3 (0 : Fin 1) k c)) * factor (s (ix2 r (0 : Fin 1))) := by
  unfold k0_pay1 factor
  refine congrArg₂ (fun a b : EReal => a * b) ?_ ?_
  · refine (Ideal.matmul_plain_apply (M := 1024) (K := 4096) (N := 768) none _ _ _ r c).trans ?_
    have hz : (constant (F := Ideal) S1024x768 .f32 0x00000000#32 (ix2 r c) : EReal) = 0 := Ideal.ofBits_zero_f32
    refine (congrArg₂ (fun a b : EReal => a + b) hz rfl).trans ((zero_add _).trans ?_)
    exact Finset.sum_congr rfl fun k _ => congrArg (fun b : EReal => _ * b) (shapeCast_1ab_ab_apply _ _ _ _)
  · refine (broadcastTo_apply _ _ _ (ix2 r (0 : Fin 1)) fun a => ?_).trans rfl
    match a with
    | ⟨0, _⟩ => rfl
    | ⟨1, _⟩ => rfl

/-- The block of rows of a grid point. -/
def pI (t : Fin cfg0.N) : ℕ := (grid0.coords t 0).val
/-- The block of columns of a grid point. -/
def pJ (t : Fin cfg0.N) : ℕ := (grid0.coords t 1).val
/-- There are sixteen blocks of rows. -/
theorem pI_lt (t : Fin cfg0.N) : pI t < 16 := (grid0.coords t 0).isLt
/-- There are nine blocks of columns. -/
theorem pJ_lt (t : Fin cfg0.N) : pJ t < 9 := (grid0.coords t 1).isLt

/-- Where each window's block lies at a grid point. -/
theorem at0 : ∀ t : Fin cfg0.N, win0_0.index t = ![pI t, 0] :=
  (by decide +kernel : ∀ t : Fin grid0.N, win0_0.index t = ![(grid0.coords t 0).val, 0])
theorem at1 : ∀ t : Fin cfg0.N, win0_1.index t = ![pI t, 0] :=
  (by decide +kernel : ∀ t : Fin grid0.N, win0_1.index t = ![(grid0.coords t 0).val, 0])
theorem at2 : ∀ t : Fin cfg0.N, win0_2.index t = ![0, 0, pJ t] :=
  (by decide +kernel : ∀ t : Fin grid0.N, win0_2.index t = ![0, 0, (grid0.coords t 1).val])
theorem at3 : ∀ t : Fin cfg0.N, win0_3.index t = ![pI t, pJ t] :=
  (by decide +kernel : ∀ t : Fin grid0.N, win0_3.index t = ![(grid0.coords t 0).val, (grid0.coords t 1).val])

section
variable (m : (ℓ : Loc nD τ sig) → Buf (Elt Ideal) ℓ) (c : Dev nD) (t : Fin cfg0.N)

/-- The arguments. -/
abbrev a0 : FVec Ideal S16384x4096 .bf16 := m ((c : Thread nD τ).loc main_arg0)
abbrev a1 : FVec Ideal S16384x1 .f32 := m ((c : Thread nD τ).loc main_arg1)
abbrev a2 : FVec Ideal S2x4096x6912 .bf16 := m ((c : Thread nD τ).loc main_arg2)

/-- The block of rows at an index. -/
theorem blk0 (r : Fin 1024) (r' : Fin 16384) (e : r'.val = 1024 * pI t + r.val) (k : Fin 4096) :
    iblk m c 0 t (ix2 r k) = a0 m c (ix2 r' k) := by
  refine congrArg (m ((c : Thread nD τ).loc main_arg0)) (funext fun a => Fin.ext ?_)
  match a with
  | ⟨0, _⟩ =>
    refine Eq.trans (b := win0_0.index t 0 * 1024 + r.val) (by blk_simp <;> rfl) ?_
    rw [at0]
    show pI t * 1024 + r.val = r'.val
    omega
  | ⟨1, _⟩ =>
    refine Eq.trans (b := win0_0.index t 1 * 4096 + k.val) (by blk_simp <;> rfl) ?_
    rw [at0]
    show 0 * 4096 + k.val = k.val
    omega

/-- The block of sums of squares at an index. -/
theorem blk1 (r : Fin 1024) (r' : Fin 16384) (e : r'.val = 1024 * pI t + r.val) :
    iblk m c 1 t (ix2 r (0 : Fin 1)) = a1 m c (ix2 r' (0 : Fin 1)) := by
  refine congrArg (m ((c : Thread nD τ).loc main_arg1)) (funext fun a => Fin.ext ?_)
  match a with
  | ⟨0, _⟩ =>
    refine Eq.trans (b := win0_1.index t 0 * 1024 + r.val) (by blk_simp <;> rfl) ?_
    rw [at1]
    show pI t * 1024 + r.val = r'.val
    omega
  | ⟨1, _⟩ =>
    refine Eq.trans (b := win0_1.index t 1 * 1 + 0) (by blk_simp <;> rfl) ?_
    rw [at1]
    rfl

/-- The block of weights at an index. -/
theorem blk2 (k : Fin 4096) (j : Fin 768) (j' : Fin 6912) (e : j'.val = 768 * pJ t + j.val) :
    iblk m c 2 t (ix3 (0 : Fin 1) k j) = a2 m c (ix3 (0 : Fin 2) k j') := by
  refine congrArg (m ((c : Thread nD τ).loc main_arg2)) (funext fun a => Fin.ext ?_)
  match a with
  | ⟨0, _⟩ =>
    refine Eq.trans (b := win0_2.index t 0 * 1 + 0) (by blk_simp <;> rfl) ?_
    rw [at2]
    rfl
  | ⟨1, _⟩ =>
    refine Eq.trans (b := win0_2.index t 1 * 4096 + k.val) (by blk_simp <;> rfl) ?_
    rw [at2]
    show 0 * 4096 + k.val = k.val
    omega
  | ⟨2, _⟩ =>
    refine Eq.trans (b := win0_2.index t 2 * 768 + j.val) (by blk_simp <;> rfl) ?_
    rw [at2]
    show pJ t * 768 + j.val = j'.val
    omega

/-- Where the output's block lies, at an index. -/
theorem emb3 (y : S1024x768.Idx) (r : Fin 16384) (j : Fin 6912) (e0 : r.val = 1024 * pI t + (y 0).val) (e1 : j.val = 768 * pJ t + (y 1).val) :
    ((cfg0.win 3).blk t).view.emb y = ix2 r j := by
  refine funext fun a => Fin.ext ?_
  match a with
  | ⟨0, _⟩ =>
    refine Eq.trans (b := win0_3.index t 0 * 1024 + (y 0).val) (by blk_simp <;> rfl) ?_
    rw [at3]
    show pI t * 1024 + (y 0).val = r.val
    omega
  | ⟨1, _⟩ =>
    refine Eq.trans (b := win0_3.index t 1 * 768 + (y 1).val) (by blk_simp <;> rfl) ?_
    rw [at3]
    show pJ t * 768 + (y 1).val = j.val
    omega

/-- A grid point's result block is its one store's value. -/
theorem out_eq (x0 : Vec Ideal S1024x4096 .bf16) (x1 : Vec Ideal S1024x1 .f32) (x2 : Vec Ideal S1x4096x768 .bf16) : out0_3 x0 x1 x2 = k0_pay1 x1 x0 x2 := by
  unfold out0_3
  refine (View.canon_cons_unit_lit (S := S1024x768) _ _ _ (by decide)).trans ?_
  have e0 : View.ld x1 r0_0 = x1 := View.ld_unit_lit (S := S1024x1) _ _ (by decide)
  have e1 : View.ld x0 r0_1 = x0 := View.ld_unit_lit (S := S1024x4096) _ _ (by decide)
  have e2 : View.ld x2 r0_2 = x2 := View.ld_unit_lit (S := S1x4096x768) _ _ (by decide)
  rw [e0, e1, e2]

/-- The kernel's result array is the projection. -/
theorem array_eq : (dats m 0 c).arrAt 3 cfg0.N = projArr (a0 m c) (a1 m c) (a2 m c) := by
  refine (dats m 0 c).arrAt_eq_of_covers 3 _ (by decide +kernel) fun t hf y => ?_
  have hi := pI_lt t; have hj := pJ_lt t
  have y0 : (y 0).val < 1024 := (y 0).isLt
  have y1 : (y 1).val < 768 := (y 1).isLt
  refine Eq.trans (b := out0_3 (iblk m c 0 t) (iblk m c 1 t) (iblk m c 2 t) (ix2 (⟨(y 0).val, y0⟩ : Fin 1024) (⟨(y 1).val, y1⟩ : Fin 768)))
    ((congrFun (after0_3 m c t) _).trans (congrArg (out0_3 (iblk m c 0 t) (iblk m c 1 t) (iblk m c 2 t)) (funext fun a => by
      match a with
      | ⟨0, _⟩ => rfl
      | ⟨1, _⟩ => rfl))) ?_
  refine (congrFun (out_eq _ _ _) _).trans ((pay_apply _ _ _ _ _).trans ?_)
  refine Eq.trans ?_ (congrArg (projArr (a0 m c) (a1 m c) (a2 m c))
    (emb3 t y ⟨1024 * pI t + (y 0).val, by omega⟩ ⟨768 * pJ t + (y 1).val, by omega⟩ rfl rfl)).symm
  refine congrArg₂ (fun a b : EReal => a * factor b) (Finset.sum_congr rfl fun k _ => congrArg₂ (fun a b : EReal => a * b) ?_ ?_) ?_
  · exact blk0 m c t _ _ rfl k
  · exact blk2 m c t k _ _ rfl
  · exact blk1 m c t _ _ rfl

end

end Cert.Kernel3Ideal.Proj

namespace Cert.Reference3Ideal.Proj

open Cert.Reference3Ideal Cert.Reference3Ideal.Gen Idealize.ShloMosaic Idealize.ShloMosaic.TcCoe Idealize.ShloMosaic.ValueIdx

/-- The product of rows and weights at an index. -/
theorem dot_apply (x : FVec Ideal S16384x4096 .f32) (w : FVec Ideal S4096x6912 .f32) (r : Fin 16384) (j : Fin 6912) :
    (Host.dotGeneral dot_S16384x4096_S4096x6912_S16384x6912_1_0_0_1_n_n none x w : FVec Ideal S16384x6912 .f32) (ix2 r j)
      = ∑ k : Fin 4096, (x (ix2 r k) : EReal) * w (ix2 k j) := by
  refine (Ideal.dotGeneral_apply _ _ _ _ _ _).trans ?_
  have hr : (dot_S16384x4096_S4096x6912_S16384x6912_1_0_0_1_n_n).contr.rank = 1 := rfl
  have hs : (dot_S16384x4096_S4096x6912_S16384x6912_1_0_0_1_n_n).contr.size ⟨0, by omega⟩ = 4096 := rfl
  rw [← Equiv.sum_comp (contrEquiv1 _ 4096 hr hs).symm]
  refine Finset.sum_congr rfl fun k _ => ?_
  have hk := contrEquiv1_symm_val _ 4096 hr hs k
  refine congrArg₂ (fun a b : EReal => a * b) (congrArg x (funext fun a => Fin.ext ?_)) (congrArg w (funext fun a => Fin.ext ?_))
  · match a with
    | ⟨0, _⟩ => rfl
    | ⟨1, _⟩ => exact hk
  · match a with
    | ⟨0, _⟩ => exact hk
    | ⟨1, _⟩ => rfl

/-- The rows as the reference scales them, at an index. -/
theorem rows_apply (x : FVec Ideal S16384x4096 .bf16) (s : FVec Ideal S16384x1 .f32) (r : Fin 16384) (k : Fin 4096) :
    (mulf (extf .f32 x bitsLt_bf16_f32) (broadcastInDim S16384x4096 ![0, 1] bcast_S16384x1_S16384x4096_0_1 (Host.rsqrt (addf (Host.divf s (broadcastInDim S16384x1 ![] bcast_S_S16384x1 (constant S_ .f32 0x45800000#32))) (broadcastInDim S16384x1 ![] bcast_S_S16384x1 (constant S_ .f32 0x358637BD#32))))) : FVec Ideal S16384x4096 .f32) (ix2 r k)
      = x (ix2 r k) * Ideal.rsqrt (Ideal.div (s (ix2 r (0 : Fin 1))) (Ideal.ofBits .f32 0x45800000#32) + Ideal.ofBits .f32 0x358637BD#32) := by
  refine congrArg (fun b : EReal => x (ix2 r k) * b) ?_
  refine (broadcastInDim_apply _ _ _ _ (ix2 r (0 : Fin 1)) fun a => ?_).trans rfl
  match a with
  | ⟨0, _⟩ => rfl
  | ⟨1, _⟩ => rfl

/-- The first layer's weights at an index. -/
theorem weights_apply (w : FVec Ideal S2x4096x6912 .bf16) (k : Fin 4096) (j : Fin 6912) :
    (extf .f32 (shapeCast S4096x6912 (extractStridedSlice S1x4096x6912 ![0, 0, 0] w slices_S2x4096x6912_S1x4096x6912_0_0_0) shapeCasts_S1x4096x6912_S4096x6912) bitsLt_bf16_f32 : FVec Ideal S4096x6912 .f32) (ix2 k j)
      = w (ix3 (0 : Fin 2) k j) := by
  refine (shapeCast_1ab_ab_apply _ _ _ _).trans (extractStridedSlice_apply _ w slices_S2x4096x6912_S1x4096x6912_0_0_0 _ (ix3 (0 : Fin 2) k j) fun a => ?_)
  match a with
  | ⟨0, _⟩ => rfl
  | ⟨1, _⟩ => exact (Nat.zero_add _).symm
  | ⟨2, _⟩ => exact (Nat.zero_add _).symm

/-- On sums of squares that are not negative, the reference's result is the projection. -/
theorem res_eq (x : FVec Ideal S16384x4096 .bf16) (s : FVec Ideal S16384x1 .f32) (w : FVec Ideal S2x4096x6912 .bf16) (hs : ∀ i, (0 : EReal) ≤ s i) :
    (truncf .bf16 (Host.dotGeneral dot_S16384x4096_S4096x6912_S16384x6912_1_0_0_1_n_n none (mulf (extf .f32 x bitsLt_bf16_f32) (broadcastInDim S16384x4096 ![0, 1] bcast_S16384x1_S16384x4096_0_1 (Host.rsqrt (addf (Host.divf s (broadcastInDim S16384x1 ![] bcast_S_S16384x1 (constant S_ .f32 0x45800000#32))) (broadcastInDim S16384x1 ![] bcast_S_S16384x1 (constant S_ .f32 0x358637BD#32)))))) (extf .f32 (shapeCast S4096x6912 (extractStridedSlice S1x4096x6912 ![0, 0, 0] w slices_S2x4096x6912_S1x4096x6912_0_0_0) shapeCasts_S1x4096x6912_S4096x6912) bitsLt_bf16_f32)) bitsLt_bf16_f32 : FVec Ideal S16384x6912 .bf16)
      = Cert.Kernel3Ideal.Proj.projArr x s w := by
  funext i
  obtain ⟨r, j, rfl⟩ : ∃ (r : Fin 16384) (j : Fin 6912), i = ix2 r j := ⟨i 0, i 1, funext fun a => by
    match a with
    | ⟨0, _⟩ => rfl
    | ⟨1, _⟩ => rfl⟩
  refine (dot_apply _ _ r j).trans ?_
  refine (Finset.sum_congr rfl fun k _ => congrArg₂ (fun a b : EReal => a * b) (rows_apply x s r k) (weights_apply w k j)).trans ?_
  exact Norm.scale_dot _ _ (hs _)

end Cert.Reference3Ideal.Proj

end
-- ==== Proof.JoinIn3.lean ====
/- The latent-attention layers' first projection: frames, and equal results where no sum of squares is negative. -/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Value
public import proofs.«01_k».proof.Proof.Gen.Reference3Ideal.Run
public import proofs.«01_k».proof.Proof.In3
public import proofs.«01_k».proof.Proof.Eq.Scale

@[expose] public section

noncomputable section

namespace Cert.Pre_nonneg3

open Idealize.ShloMosaic

/-- The shapes of the predicate's operations fit. -/
theorem facts : Facts where
  bcast_S_S16384x1 := by decide

/-- An array that passes the comparison has no negative entry. -/
theorem nonneg_of {S : Shape} (d : Fin S_.rank → Fin S.rank) (hc : S_.BroadcastsInDim S d) (x : FVec Ideal S .f32)
    (h : cmpf .oge x (broadcastInDim S d hc (constant S_ .f32 0x00000000#32)) = fun _ => 1#1) (i : S.Idx) : (0 : EReal) ≤ x i :=
  Norm.nonneg_of_cmp (congrFun h i)

end Cert.Pre_nonneg3

namespace Cert.Proof.In3

open Idealize.ShloMosaic Idealize.ShloMosaic.TcCoe Idealize.SL.Sem

/-- The kernel leaves its arguments as they were. -/
theorem frame_kernel : @Cert.quiescent_Kernel3 Cert.Kernel3.Gen.facts := fun m ρ _ => Cert.Kernel3.Gen.frame m ρ

/-- The idealized kernel leaves its arguments as they were. -/
theorem frame_ideal : @Cert.quiescent_Kernel3Ideal Cert.Kernel3Ideal.Gen.facts := fun m ρ _ => Cert.Kernel3Ideal.Gen.frame m ρ

/-- The reference leaves its arguments as they were. -/
theorem frame_reference : @Cert.quiescent_Reference3Ideal Cert.Reference3Ideal.Gen.facts := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The kernel's result from an initial memory. -/
def out (m : (ℓ : Loc Cert.Kernel3Ideal.nD Cert.Kernel3Ideal.τ Cert.Kernel3Ideal.sig) → Buf (Elt Ideal) ℓ) (c : Dev Cert.Kernel3Ideal.nD) :
    FVec Ideal Cert.Kernel3Ideal.S16384x6912 .bf16 :=
  Cert.Kernel3Ideal.Proj.projArr (Cert.Kernel3Ideal.Proj.a0 m c) (Cert.Kernel3Ideal.Proj.a1 m c) (Cert.Kernel3Ideal.Proj.a2 m c)

/-- Where no sum of squares is negative, the kernel and the reference end with the same result. -/
theorem algebraic : @Cert.algebraic_Kernel3Ideal_Reference3Ideal_pre_nonneg3 Cert.Kernel3Ideal.Gen.facts Cert.Reference3Ideal.Gen.facts Cert.Pre_nonneg3.facts :=
  fun m ρ m' ρ' hp hag => ⟨fun c => out m c,
    (θ_run Cert.Kernel3Ideal.defs _ _).mono (fun r h c => ⟨(h c).1.trans (Cert.Kernel3Ideal.Proj.array_eq m c), (h c).2⟩)
      (Cert.Kernel3Ideal.Value.run_blocks (F := Ideal) m ρ),
    (θ_run Cert.Reference3Ideal.defs _ _).mono (fun r h c => ⟨(h c).1.trans (by
        obtain ⟨e0, e1, e2⟩ := hag c
        rw [e0, e1, e2]
        exact Cert.Reference3Ideal.Proj.res_eq _ _ _ (Cert.Pre_nonneg3.nonneg_of _ (by decide) _ (hp c))), (h c).2⟩)
      (Cert.Reference3Ideal.Value.run (F := Ideal) m' ρ')⟩

end Cert.Proof.In3

end
-- ==== Proof.Out4.lean ====
/- The output projection: what a grid point computes, and the three arrays its blocks make. -/
module

public import proofs.«01_k».proof.Proof.Gen.Kernel4Ideal.Value
public import Idealize.ShloMosaic.Lib.ValueLayout
public import Idealize.ShloMosaic.Lib.ValueLayoutCasts
public import Idealize.ShloMosaic.Lib.IdealHost
public import Idealize.ShloMosaic.Lib.MatmulPlain
public import Idealize.ShloMosaic.Lib.Pointwise.Reduce
public import Idealize.ShloMosaic.Lib.Pipeline.ValueKit.Acc
public import Idealize.ShloMosaic.Lib.Pipeline.ValueKit.Geometry

@[expose] public section

set_option maxRecDepth 16384

noncomputable section

namespace Cert.Kernel4Ideal.Proj

open Cert.Kernel4Ideal Cert.Kernel4Ideal.Gen Idealize.ShloMosaic.TcCoe Idealize.ShloMosaic.ValueIdx
open Idealize.ShloMosaic hiding ix0 ix1 ix2 ix3 ix4

/-- A sum over eight blocks of 512 is the sum over 4096. -/
theorem sum_blocks (g : Fin 4096 → EReal) : ∑ s : Fin 8, ∑ l : Fin 512, g ⟨512 * s.val + l.val, by omega⟩ = ∑ j, g j := by
  rw [← Fintype.sum_prod_type', ← Equiv.sum_comp (finProdFinEquiv (m := 8) (n := 512))]
  refine Finset.sum_congr rfl fun p _ => congrArg g (Fin.ext ?_)
  show 512 * p.1.val + p.2.val = p.2.val + 512 * p.1.val
  omega

/-- The new rows: the old ones plus both parts of the outputs times the first layer's weights. -/
def rows (ys : FVec Ideal S16384x3072 .bf16) (ym : FVec Ideal S16384x1024 .bf16) (x : FVec Ideal S16384x4096 .f32) (w : FVec Ideal S4x4096x4096 .bf16)
    (r : Fin 16384) (j : Fin 4096) : EReal :=
  x (ix2 r j) + ((∑ k : Fin 3072, (ys (ix2 r k) : EReal) * w (ix3 (0 : Fin 4) (⟨k.val, by omega⟩ : Fin 4096) j))
    + ∑ k : Fin 1024, (ym (ix2 r k) : EReal) * w (ix3 (0 : Fin 4) (⟨3072 + k.val, by omega⟩ : Fin 4096) j))

/-- The new rows' sums of squares. -/
def squares (ys : FVec Ideal S16384x3072 .bf16) (ym : FVec Ideal S16384x1024 .bf16) (x : FVec Ideal S16384x4096 .f32) (w : FVec Ideal S4x4096x4096 .bf16)
    (r : Fin 16384) : EReal :=
  ∑ j : Fin 4096, rows ys ym x w r j * rows ys ym x w r j

section
variable (v0 : Vec Ideal S1024x3072 .bf16) (v1 : Vec Ideal S1x3072x512 .bf16) (v4 : Vec Ideal S1024x1024 .bf16) (v5 : Vec Ideal S1x1024x512 .bf16) (v9 : Vec Ideal S1024x512 .f32)

/-- A grid point's new rows, at an index. -/
theorem pay1_apply (r : Fin 1024) (j : Fin 512) :
    k0_pay1 v0 v1 v4 v5 v9 (ix2 r j) = (v9 (ix2 r j) : EReal) + ((∑ k : Fin 3072, (v0 (ix2 r k) : EReal) * v1 (ix3 (0 : Fin 1) k j))
      + ∑ k : Fin 1024, (v4 (ix2 r k) : EReal) * v5 (ix3 (0 : Fin 1) k j)) := by
  unfold k0_pay1
  refine congrArg (fun b : EReal => v9 (ix2 r j) + b) (congrArg₂ (fun a b : EReal => a + b) ?_ ?_)
  · refine (Ideal.matmul_plain_apply (M := 1024) (K := 3072) (N := 512) none _ _ _ r j).trans ?_
    have hz : (constant (F := Ideal) S1024x512 .f32 0x00000000#32 (ix2 r j) : EReal) = 0 := Ideal.ofBits_zero_f32
    refine (congrArg₂ (fun a b : EReal => a + b) hz rfl).trans ((zero_add _).trans ?_)
    exact Finset.sum_congr rfl fun k _ => congrArg (fun b : EReal => _ * b) (shapeCast_1ab_ab_apply _ _ _ _)
  · refine (Ideal.matmul_plain_apply (M := 1024) (K := 1024) (N := 512) none _ _ _ r j).trans ?_
    have hz : (constant (F := Ideal) S1024x512 .f32 0x00000000#32 (ix2 r j) : EReal) = 0 := Ideal.ofBits_zero_f32
    refine (congrArg₂ (fun a b : EReal => a + b) hz rfl).trans ((zero_add _).trans ?_)
    exact Finset.sum_congr rfl fun k _ => congrArg (fun b : EReal => _ * b) (shapeCast_1ab_ab_apply _ _ _ _)

/-- A grid point's part of the sums of squares, at an index. -/
theorem pay3_apply (r : Fin 1024) :
    k0_pay3 v0 v1 v4 v5 v9 (ix2 r (0 : Fin 1)) = ∑ j : Fin 512, (k0_pay1 v0 v1 v4 v5 v9 (ix2 r j) : EReal) * k0_pay1 v0 v1 v4 v5 v9 (ix2 r j) := by
  unfold k0_pay3
  refine (shapeCast_a_a1_apply _ _ _ _).trans ((multiReduction_add_apply _ _ _ _ _ _).trans ?_)
  refine (Ideal.reduceAdd_r2_a1 reduces_S1024x512_S1024 _ _).trans ?_
  rfl

/-- The sums of squares with a part added, at an index. -/
theorem pay4_apply (v : Vec Ideal S1024x1 .f32) (y : S1024x1.Idx) :
    k0_pay4 v0 v1 v4 v5 v9 v y = (v y : EReal) + k0_pay3 v0 v1 v4 v5 v9 y := by
  unfold k0_pay4
  refine congrArg (fun a : EReal => a + _) ?_
  exact shapeCast_apply _ _ _ _ rfl

end

/-- The block of rows of a grid point. -/
def pI (t : Fin cfg0.N) : ℕ := t.val / 8
/-- The block of columns of a grid point. -/
def pJ (t : Fin cfg0.N) : ℕ := t.val % 8
/-- There are sixteen blocks of rows. -/
theorem pI_lt (t : Fin cfg0.N) : pI t < 16 := by
  have h : t.val < 128 := lt_of_lt_of_eq t.isLt N_0
  unfold pI
  omega
/-- There are eight blocks of columns. -/
theorem pJ_lt (t : Fin cfg0.N) : pJ t < 8 := Nat.mod_lt _ (by decide)

/-- Where each window's block lies at a grid point. -/
theorem at0 : ∀ t : Fin cfg0.N, win0_0.index t = ![pI t, 0] :=
  (by decide +kernel : ∀ t : Fin grid0.N, win0_0.index t = ![t.val / 8, 0])
theorem at1 : ∀ t : Fin cfg0.N, win0_1.index t = ![pI t, 0] :=
  (by decide +kernel : ∀ t : Fin grid0.N, win0_1.index t = ![t.val / 8, 0])
theorem at2 : ∀ t : Fin cfg0.N, win0_2.index t = ![pI t, pJ t] :=
  (by decide +kernel : ∀ t : Fin grid0.N, win0_2.index t = ![t.val / 8, t.val % 8])
theorem at3 : ∀ t : Fin cfg0.N, win0_3.index t = ![0, 0, pJ t] :=
  (by decide +kernel : ∀ t : Fin grid0.N, win0_3.index t = ![0, 0, t.val % 8])
theorem at4 : ∀ t : Fin cfg0.N, win0_4.index t = ![0, 3, pJ t] :=
  (by decide +kernel : ∀ t : Fin grid0.N, win0_4.index t = ![0, 3, t.val % 8])
theorem at5 : ∀ t : Fin cfg0.N, win0_5.index t = ![pI t, pJ t] :=
  (by decide +kernel : ∀ t : Fin grid0.N, win0_5.index t = ![t.val / 8, t.val % 8])
theorem at6 : ∀ t : Fin cfg0.N, win0_6.index t = ![pI t, pJ t] :=
  (by decide +kernel : ∀ t : Fin grid0.N, win0_6.index t = ![t.val / 8, t.val % 8])
theorem at7 : ∀ t : Fin cfg0.N, win0_7.index t = ![pI t, 0] :=
  (by decide +kernel : ∀ t : Fin grid0.N, win0_7.index t = ![t.val / 8, 0])

section
variable (m : (ℓ : Loc nD τ sig) → Buf (Elt Ideal) ℓ) (c : Dev nD) (t : Fin cfg0.N)

/-- The arguments. -/
abbrev a0 : FVec Ideal S16384x3072 .bf16 := m ((c : Thread nD τ).loc main_arg0)
abbrev a1 : FVec Ideal S16384x1024 .bf16 := m ((c : Thread nD τ).loc main_arg1)
abbrev a2 : FVec Ideal S16384x4096 .f32 := m ((c : Thread nD τ).loc main_arg2)
abbrev a3 : FVec Ideal S4x4096x4096 .bf16 := m ((c : Thread nD τ).loc main_arg3)

/-- The block of the outputs' first part at an index. -/
theorem blk0 (r : Fin 1024) (r' : Fin 16384) (e : r'.val = 1024 * pI t + r.val) (k : Fin 3072) :
    iblk m c 0 t (ix2 r k) = a0 m c (ix2 r' k) := by
  refine congrArg (m ((c : Thread nD τ).loc main_arg0)) (funext fun a => Fin.ext ?_)
  match a with
  | ⟨0, _⟩ =>
    refine Eq.trans (b := win0_0.index t 0 * 1024 + r.val) (by blk_simp <;> rfl) ?_
    rw [at0]
    show pI t * 1024 + r.val = r'.val
    omega
  | ⟨1, _⟩ =>
    refine Eq.trans (b := win0_0.index t 1 * 3072 + k.val) (by blk_simp <;> rfl) ?_
    rw [at0]
    show 0 * 3072 + k.val = k.val
    omega

/-- The block of the outputs' second part at an index. -/
theorem blk1 (r : Fin 1024) (r' : Fin 16384) (e : r'.val = 1024 * pI t + r.val) (k : Fin 1024) :
    iblk m c 1 t (ix2 r k) = a1 m c (ix2 r' k) := by
  refine congrArg (m ((c : Thread nD τ).loc main_arg1)) (funext fun a => Fin.ext ?_)
  match a with
  | ⟨0, _⟩ =>
    refine Eq.trans (b := win0_1.index t 0 * 1024 + r.val) (by blk_simp <;> rfl) ?_
    rw [at1]
    show pI t * 1024 + r.val = r'.val
    omega
  | ⟨1, _⟩ =>
    refine Eq.trans (b := win0_1.index t 1 * 1024 + k.val) (by blk_simp <;> rfl) ?_
    rw [at1]
    show 0 * 1024 + k.val = k.val
    omega

/-- The block of the old rows at an index. -/
theorem blk2 (r : Fin 1024) (r' : Fin 16384) (e : r'.val = 1024 * pI t + r.val) (j : Fin 512) (j' : Fin 4096) (e' : j'.val = 512 * pJ t + j.val) :
    iblk m c 2 t (ix2 r j) = a2 m c (ix2 r' j') := by
  refine congrArg (m ((c : Thread nD τ).loc main_arg2)) (funext fun a => Fin.ext ?_)
  match a with
  | ⟨0, _⟩ =>
    refine Eq.trans (b := win0_2.index t 0 * 1024 + r.val) (by blk_simp <;> rfl) ?_
    rw [at2]
    show pI t * 1024 + r.val = r'.val
    omega
  | ⟨1, _⟩ =>
    refine Eq.trans (b := win0_2.index t 1 * 512 + j.val) (by blk_simp <;> rfl) ?_
    rw [at2]
    show pJ t * 512 + j.val = j'.val
    omega

/-- The block of the weights' first part at an index. -/
theorem blk3 (k : Fin 3072) (j : Fin 512) (j' : Fin 4096) (e' : j'.val = 512 * pJ t + j.val) :
    X0_3 m c t (ix3 (0 : Fin 1) k j) = a3 m c (ix3 (0 : Fin 4) (⟨k.val, by omega⟩ : Fin 4096) j') := by
  unfold X0_3 Pipeline.Window.fill
  rw [dif_pos (moved0_3 t _)]
  refine congrArg (m ((c : Thread nD τ).loc main_arg3)) (funext fun a => Fin.ext ?_)
  match a with
  | ⟨0, _⟩ =>
    refine Eq.trans (b := win0_3.index t 0 * 1 + 0) (by blk_simp <;> rfl) ?_
    rw [at3]
    rfl
  | ⟨1, _⟩ =>
    refine Eq.trans (b := win0_3.index t 1 * 3072 + k.val) (by blk_simp <;> rfl) ?_
    rw [at3]
    show 0 * 3072 + k.val = k.val
    omega
  | ⟨2, _⟩ =>
    refine Eq.trans (b := win0_3.index t 2 * 512 + j.val) (by blk_simp <;> rfl) ?_
    rw [at3]
    show pJ t * 512 + j.val = j'.val
    omega

/-- The block of the weights' second part at an index. -/
theorem blk4 (k : Fin 1024) (j : Fin 512) (j' : Fin 4096) (e' : j'.val = 512 * pJ t + j.val) :
    iblk m c 4 t (ix3 (0 : Fin 1) k j) = a3 m c (ix3 (0 : Fin 4) (⟨3072 + k.val, by omega⟩ : Fin 4096) j') := by
  refine congrArg (m ((c : Thread nD τ).loc main_arg3)) (funext fun a => Fin.ext ?_)
  match a with
  | ⟨0, _⟩ =>
    refine Eq.trans (b := win0_4.index t 0 * 1 + 0) (by blk_simp <;> rfl) ?_
    rw [at4]
    rfl
  | ⟨1, _⟩ =>
    refine Eq.trans (b := win0_4.index t 1 * 1024 + k.val) (by blk_simp <;> rfl) ?_
    rw [at4]
    show 3 * 1024 + k.val = 3072 + k.val
    omega
  | ⟨2, _⟩ =>
    refine Eq.trans (b := win0_4.index t 2 * 512 + j.val) (by blk_simp <;> rfl) ?_
    rw [at4]
    show pJ t * 512 + j.val = j'.val
    omega

/-- Where the blocks of the results lie, at an index. -/
theorem emb5 (r : Fin 1024) (j : Fin 512) (r' : Fin 16384) (j' : Fin 4096) (e0 : r'.val = 1024 * pI t + r.val) (e1 : j'.val = 512 * pJ t + j.val) :
    ((cfg0.win 5).blk t).view.emb (ix2 r j) = ix2 r' j' := by
  refine funext fun a => Fin.ext ?_
  match a with
  | ⟨0, _⟩ =>
    refine Eq.trans (b := win0_5.index t 0 * 1024 + r.val) (by blk_simp <;> rfl) ?_
    rw [at5]
    show pI t * 1024 + r.val = r'.val
    omega
  | ⟨1, _⟩ =>
    refine Eq.trans (b := win0_5.index t 1 * 512 + j.val) (by blk_simp <;> rfl) ?_
    rw [at5]
    show pJ t * 512 + j.val = j'.val
    omega

theorem emb6 (r : Fin 1024) (j : Fin 512) (r' : Fin 16384) (j' : Fin 4096) (e0 : r'.val = 1024 * pI t + r.val) (e1 : j'.val = 512 * pJ t + j.val) :
    ((cfg0.win 6).blk t).view.emb (ix2 r j) = ix2 r' j' := by
  refine funext fun a => Fin.ext ?_
  match a with
  | ⟨0, _⟩ =>
    refine Eq.trans (b := win0_6.index t 0 * 1024 + r.val) (by blk_simp <;> rfl) ?_
    rw [at6]
    show pI t * 1024 + r.val = r'.val
    omega
  | ⟨1, _⟩ =>
    refine Eq.trans (b := win0_6.index t 1 * 512 + j.val) (by blk_simp <;> rfl) ?_
    rw [at6]
    show pJ t * 512 + j.val = j'.val
    omega

theorem emb7 (r : Fin 1024) (r' : Fin 16384) (e0 : r'.val = 1024 * pI t + r.val) :
    ((cfg0.win 7).blk t).view.emb (ix2 r (0 : Fin 1)) = ix2 r' (0 : Fin 1) := by
  refine funext fun a => Fin.ext ?_
  match a with
  | ⟨0, _⟩ =>
    refine Eq.trans (b := win0_7.index t 0 * 1024 + r.val) (by blk_simp <;> rfl) ?_
    rw [at7]
    show pI t * 1024 + r.val = r'.val
    omega
  | ⟨1, _⟩ =>
    refine Eq.trans (b := win0_7.index t 1 * 1 + 0) (by blk_simp <;> rfl) ?_
    rw [at7]
    rfl

/-- The new rows a grid point computes. -/
abbrev newRows : Vec Ideal S1024x512 .f32 := k0_pay1 (iblk m c 0 t) (X0_3 m c t) (iblk m c 1 t) (iblk m c 4 t) (iblk m c 2 t)

/-- A grid point's new rows are the projection's. -/
theorem newRows_apply (r : Fin 1024) (j : Fin 512) (r' : Fin 16384) (j' : Fin 4096) (e0 : r'.val = 1024 * pI t + r.val) (e1 : j'.val = 512 * pJ t + j.val) :
    newRows m c t (ix2 r j) = rows (a0 m c) (a1 m c) (a2 m c) (a3 m c) r' j' := by
  refine (pay1_apply _ _ _ _ _ r j).trans ?_
  refine congrArg₂ (fun a b : EReal => a + b) (blk2 m c t r r' e0 j j' e1) (congrArg₂ (fun a b : EReal => a + b) ?_ ?_)
  · exact Finset.sum_congr rfl fun k _ => congrArg₂ (fun a b : EReal => a * b) (blk0 m c t r r' e0 k) (blk3 m c t k j j' e1)
  · exact Finset.sum_congr rfl fun k _ => congrArg₂ (fun a b : EReal => a * b) (blk1 m c t r r' e0 k) (blk4 m c t k j j' e1)

/-- A grid point leaves its new rows in the first result. -/
theorem outs5 : (outsAt0 m c t.val t.isLt).1 = newRows m c t := by
  by_cases h0 : t.val % 8 = 0
  · rw [outsAt0_A m c t h0 (by omega)]
    frame_out
  · rw [outsAt0_B m c t h0 (by omega)]
    frame_out

/-- A grid point leaves its new rows in the second result. -/
theorem outs6 : (outsAt0 m c t.val t.isLt).2.1 = k0_pay2 (iblk m c 0 t) (X0_3 m c t) (iblk m c 1 t) (iblk m c 4 t) (iblk m c 2 t) := by
  by_cases h0 : t.val % 8 = 0
  · rw [outsAt0_A m c t h0 (by omega)]
    frame_out
  · rw [outsAt0_B m c t h0 (by omega)]
    frame_out

/-- A grid point's part of the sums of squares. -/
abbrev part (t : Fin cfg0.N) : Vec Ideal S1024x1 .f32 := k0_pay3 (iblk m c 0 t) (X0_3 m c t) (iblk m c 1 t) (iblk m c 4 t) (iblk m c 2 t)

/-- The first point of a block of rows leaves its part. -/
theorem outs7_first (h0 : t.val % 8 = 0) : (outsAt0 m c t.val t.isLt).2.2 = part m c t := by
  rw [outsAt0_A m c t h0 (by omega)]
  frame_out

/-- A later point adds its part. -/
theorem outs7_next (h0 : ¬t.val % 8 = 0) : (outsAt0 m c t.val t.isLt).2.2
    = k0_pay4 (iblk m c 0 t) (X0_3 m c t) (iblk m c 1 t) (iblk m c 4 t) (iblk m c 2 t) (outsAt0 m c (t.val - 1) (Nat.lt_of_le_of_lt (Nat.sub_le _ _) t.isLt)).2.2 := by
  rw [outsAt0_B m c t h0 (by omega)]
  frame_out

/-- The last point of a block of rows leaves the sum of all the parts. -/
theorem outs7 (h7 : t.val % 8 = 8 - 1) (y : S1024x1.Idx) : (outsAt0 m c t.val t.isLt).2.2 y
    = (0 : EReal) + ∑ s : Fin 8, (part m c ⟨8 * (t.val / 8) + s.val, Pipeline.run_point_lt_of_flush t h7 s⟩ y : EReal) :=
  Pipeline.eq_sum_fin_of_reset_step_apply_of_flush (M := EReal) (fun n h => (outsAt0 m c n h).2.2) 8 (fun _ => 0) (fun t => part m c t)
    (fun t h i => (congrFun (outs7_first m c t h) i).trans (zero_add _).symm)
    (fun t h i => (congrFun (outs7_next m c t h) i).trans (pay4_apply _ _ _ _ _ _ i)) t h7 y

end

end Cert.Kernel4Ideal.Proj

end
-- ==== Proof.OutArr.lean ====
/- The output projection: the three result arrays of the kernel. -/
module

public import proofs.«01_k».proof.Proof.Out4

@[expose] public section

set_option maxRecDepth 16384

noncomputable section

namespace Cert.Kernel4Ideal.Proj

open Cert.Kernel4Ideal Cert.Kernel4Ideal.Gen Idealize.ShloMosaic.TcCoe Idealize.ShloMosaic.ValueIdx
open Idealize.ShloMosaic hiding ix0 ix1 ix2 ix3 ix4

/-- The array of the new rows. -/
def rowsArr (ys : FVec Ideal S16384x3072 .bf16) (ym : FVec Ideal S16384x1024 .bf16) (x : FVec Ideal S16384x4096 .f32) (w : FVec Ideal S4x4096x4096 .bf16) :
    FVec Ideal S16384x4096 .f32 := fun i => rows ys ym x w (⟨(i 0).val, (i 0).isLt⟩ : Fin 16384) (⟨(i 1).val, (i 1).isLt⟩ : Fin 4096)

/-- The array of the new rows in the smaller format, which on extended reals is the same. -/
def halfArr (ys : FVec Ideal S16384x3072 .bf16) (ym : FVec Ideal S16384x1024 .bf16) (x : FVec Ideal S16384x4096 .f32) (w : FVec Ideal S4x4096x4096 .bf16) :
    FVec Ideal S16384x4096 .bf16 := fun i => rows ys ym x w (⟨(i 0).val, (i 0).isLt⟩ : Fin 16384) (⟨(i 1).val, (i 1).isLt⟩ : Fin 4096)

/-- The array of the new rows' sums of squares. -/
def squaresArr (ys : FVec Ideal S16384x3072 .bf16) (ym : FVec Ideal S16384x1024 .bf16) (x : FVec Ideal S16384x4096 .f32) (w : FVec Ideal S4x4096x4096 .bf16) :
    FVec Ideal S16384x1 .f32 := fun i => squares ys ym x w (⟨(i 0).val, (i 0).isLt⟩ : Fin 16384)

section
variable (m : (ℓ : Loc nD τ sig) → Buf (Elt Ideal) ℓ) (c : Dev nD)

/-- The first result array is the new rows. -/
theorem array5 : (dats m 0 c).arrAt 5 cfg0.N = rowsArr (a0 m c) (a1 m c) (a2 m c) (a3 m c) := by
  refine (dats m 0 c).arrAt_eq_of_covers 5 _ (by decide +kernel) fun t hf y => ?_
  have hi := pI_lt t; have hj := pJ_lt t
  have y0 : (y 0).val < 1024 := (y 0).isLt
  have y1 : (y 1).val < 512 := (y 1).isLt
  have ey : y = ix2 (⟨(y 0).val, y0⟩ : Fin 1024) (⟨(y 1).val, y1⟩ : Fin 512) := funext fun a => by
    match a with
    | ⟨0, _⟩ => rfl
    | ⟨1, _⟩ => rfl
  refine Eq.trans (b := newRows m c t (ix2 (⟨(y 0).val, y0⟩ : Fin 1024) (⟨(y 1).val, y1⟩ : Fin 512)))
    ((congrFun ((after0_5 m c t).trans (outs5 m c t)) _).trans (congrArg (newRows m c t) ey)) ?_
  refine (newRows_apply m c t _ _ ⟨1024 * pI t + (y 0).val, by omega⟩ ⟨512 * pJ t + (y 1).val, by omega⟩ rfl rfl).trans ?_
  exact (congrArg (rowsArr (a0 m c) (a1 m c) (a2 m c) (a3 m c))
    ((congrArg ((cfg0.win 5).blk t).view.emb ey).trans (emb5 t _ _ ⟨1024 * pI t + (y 0).val, by omega⟩ ⟨512 * pJ t + (y 1).val, by omega⟩ rfl rfl))).symm

/-- The second result array is the new rows. -/
theorem array6 : (dats m 0 c).arrAt 6 cfg0.N = halfArr (a0 m c) (a1 m c) (a2 m c) (a3 m c) := by
  refine (dats m 0 c).arrAt_eq_of_covers 6 _ (by decide +kernel) fun t hf y => ?_
  have hi := pI_lt t; have hj := pJ_lt t
  have y0 : (y 0).val < 1024 := (y 0).isLt
  have y1 : (y 1).val < 512 := (y 1).isLt
  have ey : y = ix2 (⟨(y 0).val, y0⟩ : Fin 1024) (⟨(y 1).val, y1⟩ : Fin 512) := funext fun a => by
    match a with
    | ⟨0, _⟩ => rfl
    | ⟨1, _⟩ => rfl
  refine Eq.trans (b := k0_pay2 (iblk m c 0 t) (X0_3 m c t) (iblk m c 1 t) (iblk m c 4 t) (iblk m c 2 t) (ix2 (⟨(y 0).val, y0⟩ : Fin 1024) (⟨(y 1).val, y1⟩ : Fin 512)))
    ((congrFun ((after0_6 m c t).trans (outs6 m c t)) _).trans (congrArg (k0_pay2 (iblk m c 0 t) (X0_3 m c t) (iblk m c 1 t) (iblk m c 4 t) (iblk m c 2 t)) ey)) ?_
  refine Eq.trans (b := newRows m c t (ix2 (⟨(y 0).val, y0⟩ : Fin 1024) (⟨(y 1).val, y1⟩ : Fin 512))) rfl ?_
  refine (newRows_apply m c t _ _ ⟨1024 * pI t + (y 0).val, by omega⟩ ⟨512 * pJ t + (y 1).val, by omega⟩ rfl rfl).trans ?_
  exact (congrArg (halfArr (a0 m c) (a1 m c) (a2 m c) (a3 m c))
    ((congrArg ((cfg0.win 6).blk t).view.emb ey).trans (emb6 t _ _ ⟨1024 * pI t + (y 0).val, by omega⟩ ⟨512 * pJ t + (y 1).val, by omega⟩ rfl rfl))).symm

/-- A grid point's part of the sums of squares goes over its columns of the new rows. -/
theorem part_apply (t : Fin cfg0.N) (r : Fin 1024) (r' : Fin 16384) (e0 : r'.val = 1024 * pI t + r.val) (s : Fin 8) (es : s.val = pJ t) :
    part m c t (ix2 r (0 : Fin 1)) = ∑ l : Fin 512, rows (a0 m c) (a1 m c) (a2 m c) (a3 m c) r' ⟨512 * s.val + l.val, by omega⟩
      * rows (a0 m c) (a1 m c) (a2 m c) (a3 m c) r' ⟨512 * s.val + l.val, by omega⟩ := by
  refine (pay3_apply _ _ _ _ _ r).trans (Finset.sum_congr rfl fun l _ => ?_)
  have e := newRows_apply m c t r l r' ⟨512 * s.val + l.val, by omega⟩ e0 (by rw [← es])
  exact congrArg₂ (fun a b : EReal => a * b) e e

/-- The third result array is the new rows' sums of squares. -/
theorem array7 : (dats m 0 c).arrAt 7 cfg0.N = squaresArr (a0 m c) (a1 m c) (a2 m c) (a3 m c) := by
  refine (dats m 0 c).arrAt_eq_of_covers 7 _ (by decide +kernel) fun t hf y => ?_
  have h7 : t.val % 8 = 7 := (flush0_7 t).mp hf
  have hi := pI_lt t
  have y0 : (y 0).val < 1024 := (y 0).isLt
  have y1 : (y 1).val < 1 := (y 1).isLt
  have ey : y = ix2 (⟨(y 0).val, y0⟩ : Fin 1024) (0 : Fin 1) := funext fun a => by
    match a with
    | ⟨0, _⟩ => rfl
    | ⟨1, _⟩ => exact Fin.ext (by show (y 1).val = 0; omega)
  refine (congrFun (after0_7 m c t) _).trans ((congrArg (outsAt0 m c t.val t.isLt).2.2 ey).trans ((outs7 m c t h7 _).trans ((zero_add _).trans ?_)))
  refine Eq.trans ?_ (congrArg (squaresArr (a0 m c) (a1 m c) (a2 m c) (a3 m c))
    ((congrArg ((cfg0.win 7).blk t).view.emb ey).trans (emb7 t _ ⟨1024 * pI t + (y 0).val, by omega⟩ rfl))).symm
  refine Eq.trans (Finset.sum_congr rfl fun s _ => part_apply m c _ _ ⟨1024 * pI t + (y 0).val, by omega⟩ ?_ s ?_)
    (sum_blocks fun j => rows (a0 m c) (a1 m c) (a2 m c) (a3 m c) ⟨1024 * pI t + (y 0).val, by omega⟩ j
      * rows (a0 m c) (a1 m c) (a2 m c) (a3 m c) ⟨1024 * pI t + (y 0).val, by omega⟩ j)
  · show 1024 * (t.val / 8) + (y 0).val = 1024 * ((8 * (t.val / 8) + s.val) / 8) + (y 0).val
    omega
  · show s.val = (8 * (t.val / 8) + s.val) % 8
    omega

end

end Cert.Kernel4Ideal.Proj

end
-- ==== Proof.OutRef.lean ====
/- The output projection: the three results of the reference. -/
module

public import proofs.«01_k».proof.Proof.OutArr
public import proofs.«01_k».proof.Proof.Gen.Reference4Ideal.Run

@[expose] public section

set_option maxRecDepth 16384

noncomputable section

namespace Cert.Reference4Ideal.Proj

open Cert.Reference4Ideal Cert.Reference4Ideal.Gen Idealize.ShloMosaic.TcCoe Idealize.ShloMosaic.ValueIdx
open Idealize.ShloMosaic hiding ix0 ix1 ix2 ix3 ix4

/-- The product of outputs and weights at an index. -/
theorem dot_apply (x : FVec Ideal S16384x4096 .f32) (w : FVec Ideal S4096x4096 .f32) (r : Fin 16384) (j : Fin 4096) :
    (Host.dotGeneral dot_S16384x4096_S4096x4096_S16384x4096_1_0_0_1_n_n none x w : FVec Ideal S16384x4096 .f32) (ix2 r j)
      = ∑ k : Fin 4096, (x (ix2 r k) : EReal) * w (ix2 k j) := by
  refine (Ideal.dotGeneral_apply _ _ _ _ _ _).trans ?_
  have hr : (dot_S16384x4096_S4096x4096_S16384x4096_1_0_0_1_n_n).contr.rank = 1 := rfl
  have hs : (dot_S16384x4096_S4096x4096_S16384x4096_1_0_0_1_n_n).contr.size ⟨0, by omega⟩ = 4096 := rfl
  rw [← Equiv.sum_comp (contrEquiv1 _ 4096 hr hs).symm]
  refine Finset.sum_congr rfl fun k _ => ?_
  have hk := contrEquiv1_symm_val _ 4096 hr hs k
  refine congrArg₂ (fun a b : EReal => a * b) (congrArg x (funext fun a => Fin.ext ?_)) (congrArg w (funext fun a => Fin.ext ?_))
  · match a with
    | ⟨0, _⟩ => rfl
    | ⟨1, _⟩ => exact hk
  · match a with
    | ⟨0, _⟩ => exact hk
    | ⟨1, _⟩ => rfl

/-- The joined outputs, in their first part. -/
theorem join_left (ys : FVec Ideal S16384x3072 .bf16) (ym : FVec Ideal S16384x1024 .bf16) (r : Fin 16384) (k : Fin 3072) :
    (extf .f32 (concatenate S16384x4096 1 [⟨S16384x3072, ys⟩, ⟨S16384x1024, ym⟩] concatenates_S16384x3072_S16384x1024_S16384x4096_d1) bitsLt_bf16_f32 : FVec Ideal S16384x4096 .f32)
      (ix2 r (⟨k.val, by omega⟩ : Fin 4096)) = ys (ix2 r k) := by
  refine concatenate_pair_apply_left (t := S16384x4096) (s₁ := S16384x3072) (s₂ := S16384x1024) 1 ys ym concatenates_S16384x3072_S16384x1024_S16384x4096_d1 _ rfl (ix2 r k) (fun b => ?_)
  match b with
  | ⟨0, _⟩ => rfl
  | ⟨1, _⟩ => rfl

/-- The joined outputs, in their second part. -/
theorem join_right (ys : FVec Ideal S16384x3072 .bf16) (ym : FVec Ideal S16384x1024 .bf16) (r : Fin 16384) (k : Fin 1024) :
    (extf .f32 (concatenate S16384x4096 1 [⟨S16384x3072, ys⟩, ⟨S16384x1024, ym⟩] concatenates_S16384x3072_S16384x1024_S16384x4096_d1) bitsLt_bf16_f32 : FVec Ideal S16384x4096 .f32)
      (ix2 r (⟨3072 + k.val, by omega⟩ : Fin 4096)) = ym (ix2 r k) := by
  refine concatenate_pair_apply_right (t := S16384x4096) (s₁ := S16384x3072) (s₂ := S16384x1024) 1 ys ym concatenates_S16384x3072_S16384x1024_S16384x4096_d1 _ rfl rfl (ix2 r k) (fun b hb => ?_) ?_
  · match b with
    | ⟨0, _⟩ => rfl
    | ⟨1, _⟩ => exact absurd rfl hb
  · exact Nat.add_comm _ _

/-- The first layer's weights at an index. -/
theorem weights_apply (w : FVec Ideal S4x4096x4096 .bf16) (k : Fin 4096) (j : Fin 4096) :
    (extf .f32 (shapeCast S4096x4096 (extractStridedSlice S1x4096x4096 ![0, 0, 0] w slices_S4x4096x4096_S1x4096x4096_0_0_0) shapeCasts_S1x4096x4096_S4096x4096) bitsLt_bf16_f32 : FVec Ideal S4096x4096 .f32) (ix2 k j)
      = w (ix3 (0 : Fin 4) k j) := by
  refine (shapeCast_1ab_ab_apply _ _ _ _).trans (extractStridedSlice_apply _ w slices_S4x4096x4096_S1x4096x4096_0_0_0 _ (ix3 (0 : Fin 4) k j) fun a => ?_)
  match a with
  | ⟨0, _⟩ => rfl
  | ⟨1, _⟩ => exact (Nat.zero_add _).symm
  | ⟨2, _⟩ => exact (Nat.zero_add _).symm

/-- The reference's new rows. -/
abbrev newRows (ys : FVec Ideal S16384x3072 .bf16) (ym : FVec Ideal S16384x1024 .bf16) (x : FVec Ideal S16384x4096 .f32) (w : FVec Ideal S4x4096x4096 .bf16) : FVec Ideal S16384x4096 .f32 :=
  addf x (Host.dotGeneral dot_S16384x4096_S4096x4096_S16384x4096_1_0_0_1_n_n none (extf .f32 (concatenate S16384x4096 1 [⟨S16384x3072, ys⟩, ⟨S16384x1024, ym⟩] concatenates_S16384x3072_S16384x1024_S16384x4096_d1) bitsLt_bf16_f32) (extf .f32 (shapeCast S4096x4096 (extractStridedSlice S1x4096x4096 ![0, 0, 0] w slices_S4x4096x4096_S1x4096x4096_0_0_0) shapeCasts_S1x4096x4096_S4096x4096) bitsLt_bf16_f32))

section
variable (ys : FVec Ideal S16384x3072 .bf16) (ym : FVec Ideal S16384x1024 .bf16) (x : FVec Ideal S16384x4096 .f32) (w : FVec Ideal S4x4096x4096 .bf16)

/-- The reference's new rows at an index. -/
theorem newRows_apply (r : Fin 16384) (j : Fin 4096) : newRows ys ym x w (ix2 r j) = Cert.Kernel4Ideal.Proj.rows ys ym x w r j := by
  refine congrArg (fun b : EReal => x (ix2 r j) + b) ((dot_apply _ _ r j).trans ((Fin.sum_univ_add (a := 3072) (b := 1024) _).trans ?_))
  refine congrArg₂ (fun a b : EReal => a + b) (Finset.sum_congr rfl fun k _ => ?_) (Finset.sum_congr rfl fun k _ => ?_)
  · exact congrArg₂ (fun a b : EReal => a * b) (join_left ys ym r k) (weights_apply w _ j)
  · exact congrArg₂ (fun a b : EReal => a * b) (join_right ys ym r k) (weights_apply w _ j)

/-- The reference's first result is the new rows. -/
theorem res5 : newRows ys ym x w = Cert.Kernel4Ideal.Proj.rowsArr ys ym x w := by
  funext i
  obtain ⟨r, j, rfl⟩ : ∃ (r : Fin 16384) (j : Fin 4096), i = ix2 r j := ⟨i 0, i 1, funext fun a => by
    match a with
    | ⟨0, _⟩ => rfl
    | ⟨1, _⟩ => rfl⟩
  exact newRows_apply ys ym x w r j

/-- The reference's second result is the new rows. -/
theorem res6 : (truncf .bf16 (newRows ys ym x w) bitsLt_bf16_f32 : FVec Ideal S16384x4096 .bf16) = Cert.Kernel4Ideal.Proj.halfArr ys ym x w := by
  funext i
  obtain ⟨r, j, rfl⟩ : ∃ (r : Fin 16384) (j : Fin 4096), i = ix2 r j := ⟨i 0, i 1, funext fun a => by
    match a with
    | ⟨0, _⟩ => rfl
    | ⟨1, _⟩ => rfl⟩
  exact newRows_apply ys ym x w r j

/-- A row sum from zero, at an index. -/
theorem rowSum_apply (v : FVec Ideal S16384x4096 .f32) (r : Fin 16384) :
    (broadcastInDim S16384x1 ![0] bcast_S16384_S16384x1_0 (Host.reduceAdd v (constant S_ .f32 0x00000000#32) reducesTo_S16384x4096_S16384_d1 h_S_) : FVec Ideal S16384x1 .f32) (ix2 r (0 : Fin 1))
      = ∑ j : Fin 4096, (v (ix2 r j) : EReal) := by
  refine (broadcastInDim_apply _ _ _ _ (ix1 r) fun a => ?_).trans ?_
  · match a with
    | ⟨0, _⟩ => rfl
  · refine (Host.reduceAdd_apply _ _ _ _ _).trans ((Ideal.hostReduceAdd_r2_a1 reducesTo_S16384x4096_S16384_d1 v _ _).trans ?_)
    exact (congrArg (fun a : EReal => a + _) Ideal.ofBits_zero_f32).trans (zero_add _)

/-- The reference's third result is the new rows' sums of squares. -/
theorem res7 : (broadcastInDim S16384x1 ![0] bcast_S16384_S16384x1_0 (Host.reduceAdd (mulf (newRows ys ym x w) (newRows ys ym x w)) (constant S_ .f32 0x00000000#32) reducesTo_S16384x4096_S16384_d1 h_S_) : FVec Ideal S16384x1 .f32)
    = Cert.Kernel4Ideal.Proj.squaresArr ys ym x w := by
  funext i
  obtain ⟨r, rfl⟩ : ∃ r : Fin 16384, i = ix2 r (0 : Fin 1) := ⟨i 0, funext fun a => by
    match a with
    | ⟨0, _⟩ => rfl
    | ⟨1, _⟩ => exact Fin.ext (by have h : (i 1).val < 1 := (i 1).isLt; show (i 1).val = 0; omega)⟩
  refine (rowSum_apply _ r).trans (Eq.trans (b := Cert.Kernel4Ideal.Proj.squares ys ym x w r) (Finset.sum_congr rfl fun j _ => ?_) rfl)
  exact congrArg₂ (fun a b : EReal => a * b) (newRows_apply ys ym x w r j) (newRows_apply ys ym x w r j)

end

end Cert.Reference4Ideal.Proj

end
-- ==== Proof.JoinOut.lean ====
/- The output projection: frames, and equal results. -/
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Value
public import proofs.«01_k».proof.Proof.Gen.Reference4Ideal.Run
public import proofs.«01_k».proof.Proof.OutRef

@[expose] public section

noncomputable section

namespace Cert.Proof.Out

open Idealize.ShloMosaic Idealize.ShloMosaic.TcCoe Idealize.SL.Sem

/-- The kernel leaves its arguments as they were. -/
theorem frame_kernel : @Cert.quiescent_Kernel4 Cert.Kernel4.Gen.facts := fun m ρ _ => Cert.Kernel4.Gen.frame m ρ

/-- The idealized kernel leaves its arguments as they were. -/
theorem frame_ideal : @Cert.quiescent_Kernel4Ideal Cert.Kernel4Ideal.Gen.facts := fun m ρ _ => Cert.Kernel4Ideal.Gen.frame m ρ

/-- The reference leaves its arguments as they were. -/
theorem frame_reference : @Cert.quiescent_Reference4Ideal Cert.Reference4Ideal.Gen.facts := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)

/-- The kernel and the reference end with the same three results. -/
theorem algebraic : @Cert.algebraic_Kernel4Ideal_Reference4Ideal Cert.Kernel4Ideal.Gen.facts Cert.Reference4Ideal.Gen.facts :=
  fun m ρ m' ρ' _ hag => ⟨fun c => Cert.Kernel4Ideal.Proj.rowsArr (Cert.Kernel4Ideal.Proj.a0 m c) (Cert.Kernel4Ideal.Proj.a1 m c) (Cert.Kernel4Ideal.Proj.a2 m c) (Cert.Kernel4Ideal.Proj.a3 m c),
    fun c => Cert.Kernel4Ideal.Proj.halfArr (Cert.Kernel4Ideal.Proj.a0 m c) (Cert.Kernel4Ideal.Proj.a1 m c) (Cert.Kernel4Ideal.Proj.a2 m c) (Cert.Kernel4Ideal.Proj.a3 m c),
    fun c => Cert.Kernel4Ideal.Proj.squaresArr (Cert.Kernel4Ideal.Proj.a0 m c) (Cert.Kernel4Ideal.Proj.a1 m c) (Cert.Kernel4Ideal.Proj.a2 m c) (Cert.Kernel4Ideal.Proj.a3 m c),
    (θ_run Cert.Kernel4Ideal.defs _ _).mono (fun r h c => ⟨(h c).1.trans (Cert.Kernel4Ideal.Proj.array5 m c),
        (h c).2.1.trans (Cert.Kernel4Ideal.Proj.array6 m c), (h c).2.2.1.trans (Cert.Kernel4Ideal.Proj.array7 m c), (h c).2.2.2⟩)
      (Cert.Kernel4Ideal.Value.run_blocks (F := Ideal) m ρ),
    (θ_run Cert.Reference4Ideal.defs _ _).mono (fun r h c => ⟨(h c).1.trans (by
        obtain ⟨e0, e1, e2, e3⟩ := hag c
        rw [e0, e1, e2, e3]
        exact Cert.Reference4Ideal.Proj.res5 _ _ _ _), (h c).2.1.trans (by
        obtain ⟨e0, e1, e2, e3⟩ := hag c
        rw [e0, e1, e2, e3]
        exact Cert.Reference4Ideal.Proj.res6 _ _ _ _), (h c).2.2.1.trans (by
        obtain ⟨e0, e1, e2, e3⟩ := hag c
        rw [e0, e1, e2, e3]
        exact Cert.Reference4Ideal.Proj.res7 _ _ _ _), (h c).2.2.2⟩)
      (Cert.Reference4Ideal.Value.run (F := Ideal) m' ρ')⟩

end Cert.Proof.Out

end
-- ==== Proof.Q5.lean ====
/- The queries of the latent attention: the normalised rows, their products with the weights, the rotation of the
   last coordinates, and what one head's part of a grid point computes. -/
module

public import proofs.«01_k».proof.Proof.Gen.Kernel5Ideal.Value
public import Idealize.ShloMosaic.Lib.ValueLayout
public import Idealize.ShloMosaic.Lib.ValueLayoutCasts
public import Idealize.ShloMosaic.Lib.IdealHost
public import Idealize.ShloMosaic.Lib.MatmulPlain
public import Idealize.ShloMosaic.Lib.Pointwise.Reduce

@[expose] public section

set_option maxRecDepth 16384

noncomputable section

namespace Cert.Kernel5Ideal.Query

open Cert.Kernel5Ideal Cert.Kernel5Ideal.Gen Idealize.ShloMosaic.TcCoe Idealize.ShloMosaic.ValueIdx
open Idealize.ShloMosaic hiding ix0 ix1 ix2 ix3 ix4

/-- The scores' scale times the base-two logarithm of e, the number that both programs write. -/
def sc : EReal := Ideal.ofBits .f32 0x3DD53B95#32

/-- The scale is a real number that is not negative. -/
theorem sc_real : ∃ s : ℝ, 0 ≤ s ∧ sc = (s : EReal) := by
  refine ⟨13974421 * (1 / 2 ^ 27), by norm_num, ?_⟩
  unfold sc
  simp [Ideal.ofBits, Ideal.ieee]

/-- The scale goes over a sum. -/
theorem add_sc (a b : EReal) : (a + b) * sc = a * sc + b * sc := by
  obtain ⟨s, hs, e⟩ := sc_real
  rw [e]
  exact EReal.right_distrib_of_nonneg_of_ne_top (EReal.coe_nonneg.mpr hs) (EReal.coe_ne_top s) a b

section
variable (A0 : FVec Ideal S16384x6912 .bf16) (A1 : FVec Ideal S2x1024 .f32) (A2 : FVec Ideal S2x1024x4608 .f32) (A3 : IVec S4x4096 32)

/-- The latent row before it is normalised. -/
def raw (r : Fin 16384) (k : Fin 1024) : EReal := A0 (ix2 r (⟨4096 + k.val, by omega⟩ : Fin 6912))
/-- The factor that normalises a row. -/
def factor (r : Fin 16384) : EReal :=
  Ideal.rsqrt (Ideal.div (∑ k : Fin 1024, raw A0 r k * raw A0 r k) (Ideal.ofBits .f32 0x44800000#32) + Ideal.ofBits .f32 0x358637BD#32)
/-- The normalised row. -/
def norm (r : Fin 16384) (k : Fin 1024) : EReal := raw A0 r k * factor A0 r * A1 (ix2 (0 : Fin 2) k)
/-- A coordinate of the queries before the rotation. -/
def prod (r : Fin 16384) (e : Fin 4608) : EReal := ∑ k : Fin 1024, norm A0 A1 r k * A2 (ix3 (0 : Fin 2) k e)

/-- The frequencies of the rotation. -/
def freqs : FVec Ideal S32 .f32 :=
  Host.powf (broadcastInDim S32 ![] bcast_S_S32 (constant S_ .f32 0x461C4000#32)) (Host.divf (Host.negf (addf (broadcastInDim S32 ![] bcast_S_S32 (constant S_ .f32 0x00000000#32))
    (mulf (broadcastInDim S32 ![] bcast_S_S32 (constant S_ .f32 0x40000000#32)) (sitofp .f32 (iotaInDim S32 32 0))))) (broadcastInDim S32 ![] bcast_S_S32 (constant S_ .f32 0x42800000#32)))
/-- The angle of a token and a frequency. -/
def angle (r : Fin 16384) (e : Fin 32) : EReal :=
  (sitofp .f32 A3 : FVec Ideal S4x4096 .f32) (ix2 (⟨r.val / 4096, by omega⟩ : Fin 4) (⟨r.val % 4096, by omega⟩ : Fin 4096)) * freqs (ix1 e)

/-- A query's coordinate: the plain ones, the two rotated halves, and zeros. -/
def query (h : Fin 24) (l : Fin 256) (r : Fin 16384) : EReal :=
  if l0 : l.val < 128 then prod A0 A1 A2 r ⟨192 * h.val + l.val, by omega⟩ * sc
  else if l1 : l.val < 160 then
    (prod A0 A1 A2 r ⟨192 * h.val + l.val, by omega⟩ * Ideal.cos (angle A3 r ⟨l.val - 128, by omega⟩)
      - prod A0 A1 A2 r ⟨192 * h.val + l.val + 32, by omega⟩ * Ideal.sin (angle A3 r ⟨l.val - 128, by omega⟩)) * sc
  else if l2 : l.val < 192 then
    (prod A0 A1 A2 r ⟨192 * h.val + l.val, by omega⟩ * Ideal.cos (angle A3 r ⟨l.val - 160, by omega⟩)
      + prod A0 A1 A2 r ⟨192 * h.val + l.val - 32, by omega⟩ * Ideal.sin (angle A3 r ⟨l.val - 160, by omega⟩)) * sc
  else 0

/-- The queries as an array. -/
def queryArr : FVec Ideal S6144x16384 .bf16 := fun i =>
  query A0 A1 A2 A3 (⟨(i 0).val / 256, by have h : (i 0).val < 6144 := (i 0).isLt; omega⟩ : Fin 24) (⟨(i 0).val % 256, by omega⟩ : Fin 256) (⟨(i 1).val, (i 1).isLt⟩ : Fin 16384)

end

section
variable (v3 : Vec Ideal S1024x1024 .bf16) (v12 : Vec Ideal S1x256x1024 .bf16) (v4 v8 : Vec Ideal S128x1024 .f32)

/-- A head's products at an index. -/
theorem dot_apply (x : Fin 256) (r : Fin 1024) : k0_pay5 v3 v12 (ix2 x r) = ∑ k : Fin 1024, (v12 (ix3 (0 : Fin 1) x k) : EReal) * v3 (ix2 r k) := by
  unfold k0_pay5
  refine (Ideal.matmul_transposedRhs_apply (M := 256) (K := 1024) (N := 1024) none _ _ _ x r).trans ?_
  have hz : (constant (F := Ideal) S256x1024 .f32 0x00000000#32 (ix2 x r) : EReal) = 0 := Ideal.ofBits_zero_f32
  refine (congrArg₂ (fun a b : EReal => a + b) hz rfl).trans ((zero_add _).trans ?_)
  exact Finset.sum_congr rfl fun k _ => congrArg (fun a : EReal => a * _) (shapeCast_1ab_ab_apply _ _ _ _)

/-- A head's plain coordinates at an index. -/
theorem plain_apply (x : Fin 128) (r : Fin 1024) :
    k0_pay6 v3 v12 (ix2 x r) = (k0_pay5 v3 v12 (ix2 (⟨x.val, by omega⟩ : Fin 256) r) : EReal) * sc := by
  unfold k0_pay6
  refine congrArg (fun a : EReal => a * sc) (extractStridedSlice_apply _ (k0_pay5 v3 v12) slices_S256x1024_o0_0_S128x1024 _ (ix2 (⟨x.val, by omega⟩ : Fin 256) r) fun a => ?_)
  match a with
  | ⟨0, _⟩ => exact (Nat.zero_add _).symm
  | ⟨1, _⟩ => exact (Nat.zero_add _).symm

/-- The last coordinates of a head, before the rotation. -/
theorem last_apply (x : Fin 128) (r : Fin 1024) :
    (extractStridedSlice S128x1024 ![128, 0] (k0_pay5 v3 v12) slices_S256x1024_o128_0_S128x1024 : FVec Ideal S128x1024 .f32) (ix2 x r)
      = k0_pay5 v3 v12 (ix2 (⟨128 + x.val, by omega⟩ : Fin 256) r) := by
  refine extractStridedSlice_apply _ (k0_pay5 v3 v12) slices_S256x1024_o128_0_S128x1024 _ (ix2 (⟨128 + x.val, by omega⟩ : Fin 256) r) fun a => ?_
  match a with
  | ⟨0, _⟩ => rfl
  | ⟨1, _⟩ => exact (Nat.zero_add _).symm

/-- Two halves swapped, at an index of the first half. -/
theorem swap_low (u : FVec Ideal S128x1024 .f32) (x : Fin 128) (hx : x.val < 64) (r : Fin 1024) :
    (concatenate S128x1024 0 [⟨S64x1024, extractStridedSlice S64x1024 ![64, 0] u slices_S128x1024_o64_0_S64x1024⟩, ⟨S64x1024, extractStridedSlice S64x1024 ![0, 0] u slices_S128x1024_o0_0_S64x1024⟩] concatenates_S64x1024_S64x1024_S128x1024_d0 : FVec Ideal S128x1024 .f32) (ix2 x r)
      = u (ix2 (⟨64 + x.val, by omega⟩ : Fin 128) r) := by
  refine (concatenate_pair_apply_left (t := S128x1024) (s₁ := S64x1024) (s₂ := S64x1024) 0 (extractStridedSlice S64x1024 ![64, 0] u slices_S128x1024_o64_0_S64x1024) (extractStridedSlice S64x1024 ![0, 0] u slices_S128x1024_o0_0_S64x1024) concatenates_S64x1024_S64x1024_S128x1024_d0 _ rfl (ix2 (⟨x.val, hx⟩ : Fin 64) r) (fun b => ?_)).trans ?_
  · match b with
    | ⟨0, _⟩ => rfl
    | ⟨1, _⟩ => rfl
  · refine extractStridedSlice_apply _ u slices_S128x1024_o64_0_S64x1024 _ (ix2 (⟨64 + x.val, by omega⟩ : Fin 128) r) fun a => ?_
    match a with
    | ⟨0, _⟩ => rfl
    | ⟨1, _⟩ => exact (Nat.zero_add _).symm

/-- Two halves swapped, at an index of the second half. -/
theorem swap_high (u : FVec Ideal S128x1024 .f32) (x : Fin 128) (hx : ¬x.val < 64) (r : Fin 1024) :
    (concatenate S128x1024 0 [⟨S64x1024, extractStridedSlice S64x1024 ![64, 0] u slices_S128x1024_o64_0_S64x1024⟩, ⟨S64x1024, extractStridedSlice S64x1024 ![0, 0] u slices_S128x1024_o0_0_S64x1024⟩] concatenates_S64x1024_S64x1024_S128x1024_d0 : FVec Ideal S128x1024 .f32) (ix2 x r)
      = u (ix2 (⟨x.val - 64, by omega⟩ : Fin 128) r) := by
  refine (concatenate_pair_apply_right (t := S128x1024) (s₁ := S64x1024) (s₂ := S64x1024) 0 (extractStridedSlice S64x1024 ![64, 0] u slices_S128x1024_o64_0_S64x1024) (extractStridedSlice S64x1024 ![0, 0] u slices_S128x1024_o0_0_S64x1024) concatenates_S64x1024_S64x1024_S128x1024_d0 _ rfl rfl (ix2 (⟨x.val - 64, by omega⟩ : Fin 64) r) (fun b hb => ?_) ?_).trans ?_
  · match b with
    | ⟨0, _⟩ => exact absurd rfl hb
    | ⟨1, _⟩ => rfl
  · show x.val - 64 + 64 = x.val
    omega
  · refine extractStridedSlice_apply _ u slices_S128x1024_o0_0_S64x1024 _ (ix2 (⟨x.val - 64, by omega⟩ : Fin 128) r) fun a => ?_
    match a with
    | ⟨0, _⟩ => exact (Nat.zero_add _).symm
    | ⟨1, _⟩ => exact (Nat.zero_add _).symm

/-- A table times the scale, at an index. -/
theorem table_apply (x : Fin 128) (r : Fin 1024) : k0_pay3 v4 (ix2 x r) = (v4 (ix2 x r) : EReal) * sc := by
  unfold k0_pay3
  exact congrArg (fun a : EReal => a * sc) (shapeCast_apply _ _ _ _ rfl)

/-- A head's last coordinates at an index of their first half. -/
theorem rope_low (x : Fin 128) (hx : x.val < 64) (r : Fin 1024) :
    k0_pay7 v3 v4 v8 v12 (ix2 x r) = (k0_pay5 v3 v12 (ix2 (⟨128 + x.val, by omega⟩ : Fin 256) r) : EReal) * ((v4 (ix2 x r) : EReal) * sc)
      + (k0_pay5 v3 v12 (ix2 (⟨192 + x.val, by omega⟩ : Fin 256) r) : EReal) * ((v8 (ix2 x r) : EReal) * sc) := by
  unfold k0_pay7
  refine congrArg₂ (fun a b : EReal => a + b) (congrArg₂ (fun a b : EReal => a * b) (last_apply v3 v12 x r) (table_apply v4 x r))
    (congrArg₂ (fun a b : EReal => a * b) ((swap_low _ x hx r).trans ((last_apply v3 v12 _ r).trans ?_)) (table_apply v8 x r))
  exact congrArg (fun y : Fin 256 => k0_pay5 v3 v12 (ix2 y r)) (Fin.ext (show 128 + (64 + x.val) = 192 + x.val by omega))

/-- A head's last coordinates at an index of their second half. -/
theorem rope_high (x : Fin 128) (hx : ¬x.val < 64) (r : Fin 1024) :
    k0_pay7 v3 v4 v8 v12 (ix2 x r) = (k0_pay5 v3 v12 (ix2 (⟨128 + x.val, by omega⟩ : Fin 256) r) : EReal) * ((v4 (ix2 x r) : EReal) * sc)
      + (k0_pay5 v3 v12 (ix2 (⟨64 + x.val, by omega⟩ : Fin 256) r) : EReal) * ((v8 (ix2 x r) : EReal) * sc) := by
  unfold k0_pay7
  refine congrArg₂ (fun a b : EReal => a + b) (congrArg₂ (fun a b : EReal => a * b) (last_apply v3 v12 x r) (table_apply v4 x r))
    (congrArg₂ (fun a b : EReal => a * b) ((swap_high _ x hx r).trans ((last_apply v3 v12 _ r).trans ?_)) (table_apply v8 x r))
  exact congrArg (fun y : Fin 256 => k0_pay5 v3 v12 (ix2 y r)) (Fin.ext (show 128 + (x.val - 64) = 64 + x.val by omega))

/-- The normalised rows of a block, at an index. -/
theorem norm_apply (v114 : Vec Ideal S1024x1024 .bf16) (v116 : Vec Ideal S1x1024 .f32) (r k : Fin 1024) :
    k0_pay2 v114 v116 (ix2 r k) = (v114 (ix2 r k) : EReal)
      * Ideal.rsqrt (Ideal.div (∑ j : Fin 1024, (v114 (ix2 r j) : EReal) * v114 (ix2 r j)) (Ideal.ofBits .f32 0x44800000#32) + Ideal.ofBits .f32 0x358637BD#32)
      * v116 (ix2 (0 : Fin 1) k) := by
  unfold k0_pay2
  refine (shapeCast_apply _ _ _ (ix2 r k) rfl).trans ?_
  refine congrArg₂ (fun a b : EReal => a * b) (congrArg (fun b : EReal => (v114 (ix2 r k) : EReal) * b) ?_) ?_
  · refine (broadcastTo_apply _ _ _ (ix2 r (0 : Fin 1)) fun a => ?_).trans ?_
    · match a with
      | ⟨0, _⟩ => rfl
      | ⟨1, _⟩ => rfl
    · refine congrArg (fun s : EReal => Ideal.rsqrt (Ideal.div s (Ideal.ofBits .f32 0x44800000#32) + Ideal.ofBits .f32 0x358637BD#32)) ?_
      refine (shapeCast_a_a1_apply _ _ _ _).trans ((multiReduction_add_apply _ _ _ _ _ _).trans ?_)
      refine (Ideal.reduceAdd_r2_a1 reduces_S1024x1024_S1024 _ _).trans ?_
      rfl
  · refine (broadcastTo_apply _ _ _ (ix2 (0 : Fin 1) k) fun a => ?_).trans (shapeCast_apply _ _ _ _ rfl)
    match a with
    | ⟨0, _⟩ => rfl
    | ⟨1, _⟩ => rfl

end

end Cert.Kernel5Ideal.Query

end
-- ==== Proof.Q5Host.lean ====
/- The queries of the latent attention: what the host prepares (the weights with their rotated part doubled, the tables of
   cosines and sines), read at an index. -/
module

public import proofs.«01_k».proof.Proof.Q5
public import Idealize.ShloMosaic.Lib.Pointwise.Reshape

@[expose] public section

set_option maxRecDepth 16384

noncomputable section

namespace Cert.Kernel5Ideal.Query

open Cert.Kernel5Ideal Cert.Kernel5Ideal.Gen Idealize.ShloMosaic.TcCoe Idealize.ShloMosaic.ValueIdx
open Idealize.ShloMosaic hiding ix0 ix1 ix2 ix3 ix4

/-- The weights by layer, row, head and coordinate. -/
def byHead (w : FVec Ideal S2x1024x4608 .f32) : FVec Ideal S2x1024x24x192 .bf16 := shapeCast S2x1024x24x192 (truncf .bf16 w bitsLt_bf16_f32) shapeCasts_S2x1024x4608_S2x1024x24x192
/-- The weights of the rotated coordinates. -/
def ropeW (w : FVec Ideal S2x1024x4608 .f32) : FVec Ideal S2x1024x24x64 .bf16 := extractStridedSlice S2x1024x24x64 ![0, 0, 0, 128] (byHead w) slices_S2x1024x24x192_S2x1024x24x64_0_0_0_128
/-- The same with their halves swapped. -/
def swapW (w : FVec Ideal S2x1024x4608 .f32) : FVec Ideal S2x1024x24x64 .bf16 :=
  concatenate S2x1024x24x64 3 [⟨S2x1024x24x32, extractStridedSlice S2x1024x24x32 ![0, 0, 0, 32] (ropeW w) slices_S2x1024x24x64_S2x1024x24x32_0_0_0_32⟩, ⟨S2x1024x24x32, extractStridedSlice S2x1024x24x32 ![0, 0, 0, 0] (ropeW w) slices_S2x1024x24x64_S2x1024x24x32_0_0_0_0⟩] concatenates_S2x1024x24x32_S2x1024x24x32_S2x1024x24x64_d3
/-- The plain weights. -/
def plainW (w : FVec Ideal S2x1024x4608 .f32) : FVec Ideal S2x1024x24x128 .bf16 := extractStridedSlice S2x1024x24x128 ![0, 0, 0, 0] (byHead w) slices_S2x1024x24x192_S2x1024x24x128_0_0_0_0
/-- The three together. -/
def joinW (w : FVec Ideal S2x1024x4608 .f32) : FVec Ideal S2x1024x24x256 .bf16 :=
  concatenate S2x1024x24x256 3 [⟨S2x1024x24x128, plainW w⟩, ⟨S2x1024x24x64, ropeW w⟩, ⟨S2x1024x24x64, swapW w⟩] concatenates_S2x1024x24x128_S2x1024x24x64_S2x1024x24x64_S2x1024x24x256_d3
/-- The prepared weights. -/
def prepW (w : FVec Ideal S2x1024x4608 .f32) : FVec Ideal S2x6144x1024 .bf16 :=
  transpose S2x6144x1024 [0, 2, 1] (shapeCast S2x1024x6144 (joinW w) shapeCasts_S2x1024x24x256_S2x1024x6144) transposes_S2x1024x6144_S2x6144x1024_0_2_1
/-- The angles of all tokens and frequencies. -/
def angles (p : IVec S4x4096 32) : FVec Ideal S16384x32 .f32 :=
  mulf (broadcastInDim S16384x32 ![0, 1] bcast_S16384x1_S16384x32_0_1 (broadcastInDim S16384x1 ![0] bcast_S16384_S16384x1_0 (shapeCast S16384 (sitofp .f32 p : FVec Ideal S4x4096 .f32) shapeCasts_S4x4096_S16384)))
    (broadcastInDim S16384x32 ![0, 1] bcast_S1x32_S16384x32_0_1 (broadcastInDim S1x32 ![1] bcast_S32_S1x32_1 freqs))
/-- Four groups of columns joined. -/
def join4 (a b d e : FVec Ideal S16384x32 .f32) : FVec Ideal S16384x128 .f32 :=
  concatenate S16384x128 1 [⟨S16384x32, a⟩, ⟨S16384x32, b⟩, ⟨S16384x32, d⟩, ⟨S16384x32, e⟩] concatenates_S16384x32_S16384x32_S16384x32_S16384x32_S16384x128_d1
/-- Zeros. -/
def zeros : FVec Ideal S16384x32 .f32 := broadcastInDim S16384x32 ![] bcast_S_S16384x32 (constant S_ .f32 0x00000000#32)
/-- The table of cosines. -/
def cosT (p : IVec S4x4096 32) : FVec Ideal S128x16384 .f32 :=
  transpose S128x16384 [1, 0] (join4 (Host.cos (angles p)) (Host.cos (angles p)) zeros zeros) transposes_S16384x128_S128x16384_1_0
/-- The table of sines. -/
def sinT (p : IVec S4x4096 32) : FVec Ideal S128x16384 .f32 :=
  transpose S128x16384 [1, 0] (join4 (Host.negf (Host.sin (angles p))) (Host.sin (angles p)) zeros zeros) transposes_S16384x128_S128x16384_1_0
/-- The factors of the first layer as a row. -/
def rowG (g : FVec Ideal S2x1024 .f32) : FVec Ideal S1x1024 .f32 :=
  shapeCast S1x1024 (shapeCast S1024 (extractStridedSlice S1x1024 ![0, 0] g slices_S2x1024_S1x1024_0_0) shapeCasts_S1x1024_S1024) shapeCasts_S1024_S1x1024

section
variable (w : FVec Ideal S2x1024x4608 .f32)

/-- The weights by head, at an index. -/
theorem byHead_apply (k : Fin 1024) (h : Fin 24) (e : Fin 192) (j : Fin 4608) (ej : j.val = 192 * h.val + e.val) :
    byHead w (ix4 (0 : Fin 2) k h e) = w (ix3 (0 : Fin 2) k j) := by
  refine (shapeCast_apply _ _ _ (ix3 (0 : Fin 2) k j) ?_).trans rfl
  refine (rowMajor_val3 _ (1024 * 4608) 4608 rfl rfl).trans ((?_ : _ = _).trans (rowMajor_val4 _ (1024 * (24 * 192)) (24 * 192) 192 rfl rfl rfl).symm)
  show 0 * (1024 * 4608) + k.val * 4608 + j.val = 0 * (1024 * (24 * 192)) + k.val * (24 * 192) + h.val * 192 + e.val
  omega

/-- The weights of the rotated coordinates, at an index. -/
theorem ropeW_apply (k : Fin 1024) (h : Fin 24) (e : Fin 64) (j : Fin 4608) (ej : j.val = 192 * h.val + 128 + e.val) :
    ropeW w (ix4 (0 : Fin 2) k h e) = w (ix3 (0 : Fin 2) k j) := by
  refine (extractStridedSlice_apply _ (byHead w) slices_S2x1024x24x192_S2x1024x24x64_0_0_0_128 _ (ix4 (0 : Fin 2) k h (⟨128 + e.val, by omega⟩ : Fin 192)) fun a => ?_).trans
    (byHead_apply w k h _ j (ej.trans (Nat.add_assoc _ _ _)))
  match a with
  | ⟨0, _⟩ => rfl
  | ⟨1, _⟩ => exact (Nat.zero_add _).symm
  | ⟨2, _⟩ => exact (Nat.zero_add _).symm
  | ⟨3, _⟩ => rfl

/-- The plain weights, at an index. -/
theorem plainW_apply (k : Fin 1024) (h : Fin 24) (e : Fin 128) (j : Fin 4608) (ej : j.val = 192 * h.val + e.val) :
    plainW w (ix4 (0 : Fin 2) k h e) = w (ix3 (0 : Fin 2) k j) := by
  refine (extractStridedSlice_apply _ (byHead w) slices_S2x1024x24x192_S2x1024x24x128_0_0_0_0 _ (ix4 (0 : Fin 2) k h (⟨e.val, by omega⟩ : Fin 192)) fun a => ?_).trans
    (byHead_apply w k h _ j ej)
  match a with
  | ⟨0, _⟩ => rfl
  | ⟨1, _⟩ => exact (Nat.zero_add _).symm
  | ⟨2, _⟩ => exact (Nat.zero_add _).symm
  | ⟨3, _⟩ => exact (Nat.zero_add _).symm

/-- The first of two joined halves, at an index. -/
theorem half_low (a b : FVec Ideal S2x1024x24x32 .bf16) (k : Fin 1024) (h : Fin 24) (e : Fin 64) (he : e.val < 32) :
    (concatenate S2x1024x24x64 3 [⟨S2x1024x24x32, a⟩, ⟨S2x1024x24x32, b⟩] concatenates_S2x1024x24x32_S2x1024x24x32_S2x1024x24x64_d3 : FVec Ideal S2x1024x24x64 .bf16) (ix4 (0 : Fin 2) k h e)
      = a (ix4 (0 : Fin 2) k h (⟨e.val, he⟩ : Fin 32)) := by
  refine concatenate_pair_apply_left (t := S2x1024x24x64) (s₁ := S2x1024x24x32) (s₂ := S2x1024x24x32) 3 a b concatenates_S2x1024x24x32_S2x1024x24x32_S2x1024x24x64_d3 _ rfl
    (ix4 (0 : Fin 2) k h (⟨e.val, he⟩ : Fin 32)) (fun c => ?_)
  match c with
  | ⟨0, _⟩ => rfl
  | ⟨1, _⟩ => rfl
  | ⟨2, _⟩ => rfl
  | ⟨3, _⟩ => rfl

/-- The swapped weights, at an index of the first half. -/
theorem swapW_low (k : Fin 1024) (h : Fin 24) (e : Fin 64) (he : e.val < 32) (j : Fin 4608) (ej : j.val = 192 * h.val + 160 + e.val) :
    swapW w (ix4 (0 : Fin 2) k h e) = w (ix3 (0 : Fin 2) k j) := by
  refine (half_low _ _ k h e he).trans ?_
  have key : (extractStridedSlice S2x1024x24x32 ![0, 0, 0, 32] (ropeW w) slices_S2x1024x24x64_S2x1024x24x32_0_0_0_32 : FVec Ideal S2x1024x24x32 .bf16) (ix4 (0 : Fin 2) k h (⟨e.val, he⟩ : Fin 32))
      = ropeW w (ix4 (0 : Fin 2) k h (⟨32 + e.val, by omega⟩ : Fin 64)) := by
    refine extractStridedSlice_apply _ (ropeW w) slices_S2x1024x24x64_S2x1024x24x32_0_0_0_32 _ _ fun a => ?_
    match a with
    | ⟨0, _⟩ => rfl
    | ⟨1, _⟩ => exact (Nat.zero_add _).symm
    | ⟨2, _⟩ => exact (Nat.zero_add _).symm
    | ⟨3, _⟩ => rfl
  exact key.trans (ropeW_apply w k h _ j (by show j.val = 192 * h.val + 128 + (32 + e.val); omega))

/-- The swapped weights, at an index of the second half. -/
theorem swapW_high (k : Fin 1024) (h : Fin 24) (e : Fin 64) (he : ¬e.val < 32) (j : Fin 4608) (ej : j.val = 192 * h.val + 96 + e.val) :
    swapW w (ix4 (0 : Fin 2) k h e) = w (ix3 (0 : Fin 2) k j) := by
  unfold swapW
  refine (concatenate_apply_piece (t := S2x1024x24x64) 3 [⟨S2x1024x24x32, extractStridedSlice S2x1024x24x32 ![0, 0, 0, 32] (ropeW w) slices_S2x1024x24x64_S2x1024x24x32_0_0_0_32⟩,
      ⟨S2x1024x24x32, extractStridedSlice S2x1024x24x32 ![0, 0, 0, 0] (ropeW w) slices_S2x1024x24x64_S2x1024x24x32_0_0_0_0⟩] concatenates_S2x1024x24x32_S2x1024x24x32_S2x1024x24x64_d3 _ 1 (show 1 < 2 by decide) S2x1024x24x32 _ rfl rfl 32 rfl
    (ix4 (0 : Fin 2) k h (⟨e.val - 32, by omega⟩ : Fin 32)) (fun b hb => ?_) ?_).trans ?_
  · match b with
    | ⟨0, _⟩ => rfl
    | ⟨1, _⟩ => rfl
    | ⟨2, _⟩ => rfl
    | ⟨3, _⟩ => exact absurd rfl hb
  · show 32 + (e.val - 32) = e.val
    omega
  · refine (extractStridedSlice_apply _ (ropeW w) slices_S2x1024x24x64_S2x1024x24x32_0_0_0_0 _ (ix4 (0 : Fin 2) k h (⟨e.val - 32, by omega⟩ : Fin 64)) fun a => ?_).trans
      (ropeW_apply w k h _ j (by show j.val = 192 * h.val + 128 + (e.val - 32); omega))
    match a with
    | ⟨0, _⟩ => rfl
    | ⟨1, _⟩ => exact (Nat.zero_add _).symm
    | ⟨2, _⟩ => exact (Nat.zero_add _).symm
    | ⟨3, _⟩ => exact (Nat.zero_add _).symm

/-- The coordinate of a head that a prepared row holds. -/
def col (l : ℕ) : ℕ := if l < 192 then l else if l < 224 then l - 32 else l - 96

/-- The joined weights, at an index. -/
theorem joinW_apply (k : Fin 1024) (h : Fin 24) (l : Fin 256) (j : Fin 4608) (ej : j.val = 192 * h.val + col l.val) :
    joinW w (ix4 (0 : Fin 2) k h l) = w (ix3 (0 : Fin 2) k j) := by
  unfold joinW
  unfold col at ej
  by_cases h1 : l.val < 128
  · refine (concatenate_apply_piece (t := S2x1024x24x256) 3 [⟨S2x1024x24x128, plainW w⟩, ⟨S2x1024x24x64, ropeW w⟩, ⟨S2x1024x24x64, swapW w⟩] concatenates_S2x1024x24x128_S2x1024x24x64_S2x1024x24x64_S2x1024x24x256_d3 _ 0 (show 0 < 3 by decide) S2x1024x24x128 _ rfl rfl 0 rfl
      (ix4 (0 : Fin 2) k h (⟨l.val, h1⟩ : Fin 128)) (fun b hb => ?_) (Nat.zero_add _)).trans (plainW_apply w k h _ j ?_)
    · match b with
      | ⟨0, _⟩ => rfl
      | ⟨1, _⟩ => rfl
      | ⟨2, _⟩ => rfl
      | ⟨3, _⟩ => exact absurd rfl hb
    · rw [if_pos (by omega)] at ej
      exact ej
  · by_cases h2 : l.val < 192
    · refine (concatenate_apply_piece (t := S2x1024x24x256) 3 [⟨S2x1024x24x128, plainW w⟩, ⟨S2x1024x24x64, ropeW w⟩, ⟨S2x1024x24x64, swapW w⟩] concatenates_S2x1024x24x128_S2x1024x24x64_S2x1024x24x64_S2x1024x24x256_d3 _ 1 (show 1 < 3 by decide) S2x1024x24x64 _ rfl rfl 128 rfl
        (ix4 (0 : Fin 2) k h (⟨l.val - 128, by omega⟩ : Fin 64)) (fun b hb => ?_) ?_).trans (ropeW_apply w k h _ j ?_)
      · match b with
        | ⟨0, _⟩ => rfl
        | ⟨1, _⟩ => rfl
        | ⟨2, _⟩ => rfl
        | ⟨3, _⟩ => exact absurd rfl hb
      · show 128 + (l.val - 128) = l.val
        omega
      · rw [if_pos h2] at ej
        show j.val = 192 * h.val + 128 + (l.val - 128)
        omega
    · rw [if_neg h2] at ej
      refine (concatenate_apply_piece (t := S2x1024x24x256) 3 [⟨S2x1024x24x128, plainW w⟩, ⟨S2x1024x24x64, ropeW w⟩, ⟨S2x1024x24x64, swapW w⟩] concatenates_S2x1024x24x128_S2x1024x24x64_S2x1024x24x64_S2x1024x24x256_d3 _ 2 (show 2 < 3 by decide) S2x1024x24x64 _ rfl rfl 192 rfl
        (ix4 (0 : Fin 2) k h (⟨l.val - 192, by omega⟩ : Fin 64)) (fun b hb => ?_) ?_).trans ?_
      · match b with
        | ⟨0, _⟩ => rfl
        | ⟨1, _⟩ => rfl
        | ⟨2, _⟩ => rfl
        | ⟨3, _⟩ => exact absurd rfl hb
      · show 192 + (l.val - 192) = l.val
        omega
      · by_cases h3 : l.val < 224
        · rw [if_pos h3] at ej
          exact swapW_low w k h _ (by show l.val - 192 < 32; omega) j (by show j.val = 192 * h.val + 160 + (l.val - 192); omega)
        · rw [if_neg h3] at ej
          exact swapW_high w k h _ (by show ¬l.val - 192 < 32; omega) j (by show j.val = 192 * h.val + 96 + (l.val - 192); omega)

/-- The prepared weights, at an index. -/
theorem prepW_apply (i : Fin 6144) (k : Fin 1024) (h : Fin 24) (l : Fin 256) (ei : i.val = 256 * h.val + l.val) (j : Fin 4608) (ej : j.val = 192 * h.val + col l.val) :
    prepW w (ix3 (0 : Fin 2) i k) = w (ix3 (0 : Fin 2) k j) := by
  refine (transpose_apply _ _ _ _ (ix3 (0 : Fin 2) k i) fun c => ?_).trans ((shapeCast_apply _ _ _ (ix4 (0 : Fin 2) k h l) ?_).trans (joinW_apply w k h l j ej))
  · match c with
    | ⟨0, _⟩ => rfl
    | ⟨1, _⟩ => rfl
    | ⟨2, _⟩ => rfl
  · refine (rowMajor_val4 _ (1024 * (24 * 256)) (24 * 256) 256 rfl rfl rfl).trans ((?_ : _ = _).trans (rowMajor_val3 _ (1024 * 6144) 6144 rfl rfl).symm)
    show 0 * (1024 * (24 * 256)) + k.val * (24 * 256) + h.val * 256 + l.val = 0 * (1024 * 6144) + k.val * 6144 + i.val
    omega

end

section
variable (p : IVec S4x4096 32)

/-- An angle at an index. -/
theorem angles_apply (r : Fin 16384) (e : Fin 32) : angles p (ix2 r e) = angle p r e := by
  unfold angles angle
  refine congrArg₂ (fun a b : EReal => a * b) ?_ ?_
  · refine (broadcastInDim_apply _ _ _ _ (ix2 r (0 : Fin 1)) fun a => ?_).trans ((broadcastInDim_apply _ _ _ _ (ix1 r) fun a => ?_).trans (shapeCast_apply _ _ _ _ ?_))
    · match a with
      | ⟨0, _⟩ => rfl
      | ⟨1, _⟩ => rfl
    · match a with
      | ⟨0, _⟩ => rfl
    · refine (rowMajor_val2 _ 4096 rfl).trans ((?_ : _ = _).trans (rowMajor_val1 _).symm)
      show r.val / 4096 * 4096 + r.val % 4096 = r.val
      omega
  · refine (broadcastInDim_apply _ _ _ _ (ix2 (0 : Fin 1) e) fun a => ?_).trans (broadcastInDim_apply _ _ _ _ (ix1 e) fun a => ?_)
    · match a with
      | ⟨0, _⟩ => rfl
      | ⟨1, _⟩ => rfl
    · match a with
      | ⟨0, _⟩ => rfl

/-- The first of four joined groups, at an index. -/
theorem join4_first (a b d f : FVec Ideal S16384x32 .f32) (r : Fin 16384) (x : Fin 128) (e : Fin 32) (ex : x.val = 0 + e.val) :
    join4 a b d f (ix2 r x) = a (ix2 r e) := by
  unfold join4
  refine concatenate_apply_piece (t := S16384x128) 1 [⟨S16384x32, a⟩, ⟨S16384x32, b⟩, ⟨S16384x32, d⟩, ⟨S16384x32, f⟩]
    concatenates_S16384x32_S16384x32_S16384x32_S16384x32_S16384x128_d1 _ 0 (show 0 < 4 by decide) S16384x32 _ rfl rfl 0 rfl (ix2 r e) (fun c hc => ?_) ex.symm
  match c with
  | ⟨0, _⟩ => rfl
  | ⟨1, _⟩ => exact absurd rfl hc

/-- The second of four joined groups, at an index. -/
theorem join4_second (a b d f : FVec Ideal S16384x32 .f32) (r : Fin 16384) (x : Fin 128) (e : Fin 32) (ex : x.val = 32 + e.val) :
    join4 a b d f (ix2 r x) = b (ix2 r e) := by
  unfold join4
  refine concatenate_apply_piece (t := S16384x128) 1 [⟨S16384x32, a⟩, ⟨S16384x32, b⟩, ⟨S16384x32, d⟩, ⟨S16384x32, f⟩]
    concatenates_S16384x32_S16384x32_S16384x32_S16384x32_S16384x128_d1 _ 1 (show 1 < 4 by decide) S16384x32 _ rfl rfl 32 rfl (ix2 r e) (fun c hc => ?_) ex.symm
  match c with
  | ⟨0, _⟩ => rfl
  | ⟨1, _⟩ => exact absurd rfl hc

/-- The third of four joined groups, at an index. -/
theorem join4_third (a b d f : FVec Ideal S16384x32 .f32) (r : Fin 16384) (x : Fin 128) (e : Fin 32) (ex : x.val = 64 + e.val) :
    join4 a b d f (ix2 r x) = d (ix2 r e) := by
  unfold join4
  refine concatenate_apply_piece (t := S16384x128) 1 [⟨S16384x32, a⟩, ⟨S16384x32, b⟩, ⟨S16384x32, d⟩, ⟨S16384x32, f⟩]
    concatenates_S16384x32_S16384x32_S16384x32_S16384x32_S16384x128_d1 _ 2 (show 2 < 4 by decide) S16384x32 _ rfl rfl 64 rfl (ix2 r e) (fun c hc => ?_) ex.symm
  match c with
  | ⟨0, _⟩ => rfl
  | ⟨1, _⟩ => exact absurd rfl hc

/-- The fourth of four joined groups, at an index. -/
theorem join4_fourth (a b d f : FVec Ideal S16384x32 .f32) (r : Fin 16384) (x : Fin 128) (e : Fin 32) (ex : x.val = 96 + e.val) :
    join4 a b d f (ix2 r x) = f (ix2 r e) := by
  unfold join4
  refine concatenate_apply_piece (t := S16384x128) 1 [⟨S16384x32, a⟩, ⟨S16384x32, b⟩, ⟨S16384x32, d⟩, ⟨S16384x32, f⟩]
    concatenates_S16384x32_S16384x32_S16384x32_S16384x32_S16384x128_d1 _ 3 (show 3 < 4 by decide) S16384x32 _ rfl rfl 96 rfl (ix2 r e) (fun c hc => ?_) ex.symm
  match c with
  | ⟨0, _⟩ => rfl
  | ⟨1, _⟩ => exact absurd rfl hc

/-- A table read through its transposition. -/
theorem turn_apply (v : FVec Ideal S16384x128 .f32) (x : Fin 128) (r : Fin 16384) :
    (transpose S128x16384 [1, 0] v transposes_S16384x128_S128x16384_1_0 : FVec Ideal S128x16384 .f32) (ix2 x r) = v (ix2 r x) := by
  refine transpose_apply _ _ _ _ (ix2 r x) fun c => ?_
  match c with
  | ⟨0, _⟩ => rfl
  | ⟨1, _⟩ => rfl

/-- The zeros at an index. -/
theorem zeros_apply (r : Fin 16384) (e : Fin 32) : (zeros (ix2 r e) : EReal) = 0 :=
  (broadcastInDim_scalar_apply _ _ _).trans Ideal.ofBits_zero_f32

/-- The cosines' table on its first half. -/
theorem cosT_first (x : Fin 128) (r : Fin 16384) (e : Fin 32) (ex : x.val = e.val) : cosT p (ix2 x r) = Ideal.cos (angle p r e) :=
  (turn_apply _ x r).trans ((join4_first _ _ _ _ r x e (by omega)).trans (congrArg Ideal.cos (angles_apply p r e)))

/-- The cosines' table on its second half. -/
theorem cosT_second (x : Fin 128) (r : Fin 16384) (e : Fin 32) (ex : x.val = 32 + e.val) : cosT p (ix2 x r) = Ideal.cos (angle p r e) :=
  (turn_apply _ x r).trans ((join4_second _ _ _ _ r x e (by omega)).trans (congrArg Ideal.cos (angles_apply p r e)))

/-- The cosines' table is zero past them. -/
theorem cosT_high (x : Fin 128) (r : Fin 16384) (hx : ¬x.val < 64) : (cosT p (ix2 x r) : EReal) = 0 := by
  by_cases h : x.val < 96
  · exact (turn_apply _ x r).trans ((join4_third _ _ _ _ r x ⟨x.val - 64, by omega⟩ (by show x.val = 64 + (x.val - 64); omega)).trans (zeros_apply r _))
  · exact (turn_apply _ x r).trans ((join4_fourth _ _ _ _ r x ⟨x.val - 96, by omega⟩ (by show x.val = 96 + (x.val - 96); omega)).trans (zeros_apply r _))

/-- The sines' table on its first half. -/
theorem sinT_first (x : Fin 128) (r : Fin 16384) (e : Fin 32) (ex : x.val = e.val) : (sinT p (ix2 x r) : EReal) = -Ideal.sin (angle p r e) :=
  (turn_apply _ x r).trans ((join4_first _ _ _ _ r x e (by omega)).trans (congrArg (fun a : EReal => -Ideal.sin a) (angles_apply p r e)))

/-- The sines' table on its second half. -/
theorem sinT_second (x : Fin 128) (r : Fin 16384) (e : Fin 32) (ex : x.val = 32 + e.val) : sinT p (ix2 x r) = Ideal.sin (angle p r e) :=
  (turn_apply _ x r).trans ((join4_second _ _ _ _ r x e (by omega)).trans (congrArg Ideal.sin (angles_apply p r e)))

/-- The sines' table is zero past them. -/
theorem sinT_high (x : Fin 128) (r : Fin 16384) (hx : ¬x.val < 64) : (sinT p (ix2 x r) : EReal) = 0 := by
  by_cases h : x.val < 96
  · exact (turn_apply _ x r).trans ((join4_third _ _ _ _ r x ⟨x.val - 64, by omega⟩ (by show x.val = 64 + (x.val - 64); omega)).trans (zeros_apply r _))
  · exact (turn_apply _ x r).trans ((join4_fourth _ _ _ _ r x ⟨x.val - 96, by omega⟩ (by show x.val = 96 + (x.val - 96); omega)).trans (zeros_apply r _))

end

/-- The row of factors at an index. -/
theorem rowG_apply (g : FVec Ideal S2x1024 .f32) (k : Fin 1024) : rowG g (ix2 (0 : Fin 1) k) = g (ix2 (0 : Fin 2) k) := by
  unfold rowG
  refine (shapeCast_apply _ _ _ (ix1 k) ?_).trans ((shapeCast_apply _ _ _ (ix2 (0 : Fin 1) k) ?_).trans
    (extractStridedSlice_apply _ g slices_S2x1024_S1x1024_0_0 _ (ix2 (0 : Fin 2) k) fun a => ?_))
  · refine (rowMajor_val1 _).trans ((?_ : _ = _).trans (rowMajor_val2 _ 1024 rfl).symm)
    show k.val = 0 * 1024 + k.val
    omega
  · refine (rowMajor_val2 _ 1024 rfl).trans ((?_ : _ = _).trans (rowMajor_val1 _).symm)
    show 0 * 1024 + k.val = k.val
    omega
  · match a with
    | ⟨0, _⟩ => rfl
    | ⟨1, _⟩ => exact (Nat.zero_add _).symm

end Cert.Kernel5Ideal.Query

end
-- ==== Proof.Q5Entry.lean ====
/- The queries of the latent attention: the arrays that the host leaves for the kernel. -/
module

public import proofs.«01_k».proof.Proof.Q5Host

@[expose] public section

set_option maxRecDepth 16384

noncomputable section

namespace Cert.Kernel5Ideal.Query

open Cert.Kernel5Ideal Cert.Kernel5Ideal.Gen Idealize.ShloMosaic.TcCoe Idealize.ShloMosaic.ValueIdx
open Idealize.ShloMosaic hiding ix0 ix1 ix2 ix3 ix4

section
variable (m : (ℓ : Loc nD τ sig) → Buf (Elt Ideal) ℓ) (c : Dev nD)

/-- The host leaves the joined weights. -/
theorem entry32 : V m c main_v32 = joinW (m ((c : Thread nD τ).loc main_arg2)) := rfl
/-- The host regroups them. -/
theorem entry33 : V m c main_v33 = shapeCast S2x1024x6144 (V m c main_v32) shapeCasts_S2x1024x24x256_S2x1024x6144 := rfl
/-- The host turns them. -/
theorem entry34 : V m c main_v34 = transpose S2x6144x1024 [0, 2, 1] (V m c main_v33) transposes_S2x1024x6144_S2x6144x1024_0_2_1 := rfl
/-- The host leaves the prepared weights. -/
theorem entryW : V m c main_v34 = prepW (m ((c : Thread nD τ).loc main_arg2)) := by
  rw [entry34, entry33, entry32]
  rfl
/-- The host leaves the cosines. -/
theorem entryC : V m c main_v35 = cosT (m ((c : Thread nD τ).loc main_arg3)) := rfl
/-- The host leaves the sines. -/
theorem entryS : V m c main_v36 = sinT (m ((c : Thread nD τ).loc main_arg3)) := rfl
/-- The host leaves the row of factors. -/
theorem entryG : V m c main_v37 = rowG (m ((c : Thread nD τ).loc main_arg1)) := rfl

end

end Cert.Kernel5Ideal.Query

end
-- ==== Proof.Q5Cell.lean ====
/- The queries of the latent attention: what a grid point leaves, at an index of its block. -/
module

public import proofs.«01_k».proof.Proof.Q5Entry
public import Idealize.ShloMosaic.Lib.Pipeline.ValueKit.Acc
public import Idealize.ShloMosaic.Lib.Pipeline.ValueKit.Held
public import Idealize.ShloMosaic.Lib.Pipeline.ValueKit.Geometry
public import Idealize.ShloMosaic.Lib.Pipeline.ValueKit.Tiles
public import Idealize.ShloMosaic.Lib.Pipeline.ReadBack

@[expose] public section

set_option maxRecDepth 16384

noncomputable section

namespace Cert.Kernel5Ideal.Query

open Cert.Kernel5Ideal Cert.Kernel5Ideal.Gen Idealize.ShloMosaic.TcCoe Idealize.ShloMosaic.ValueIdx
open Idealize.ShloMosaic hiding ix0 ix1 ix2 ix3 ix4

section
variable (v3 : Vec Ideal S1024x1024 .bf16) (w : Vec Ideal S1x1536x1024 .bf16) (v4 v8 : Vec Ideal S128x1024 .f32)

/-- A row of the weights times a normalised row. -/
def dotAt (i : Fin 1536) (r : Fin 1024) : EReal := ∑ k : Fin 1024, (w (ix3 (0 : Fin 1) i k) : EReal) * v3 (ix2 r k)

/-- A cell of a grid point's block. -/
def cellAt (i : Fin 1536) (r : Fin 1024) : EReal :=
  if l0 : i.val % 256 < 128 then dotAt v3 w i r * sc
  else if l1 : i.val % 256 < 192 then
    dotAt v3 w i r * ((v4 (ix2 (⟨i.val % 256 - 128, by omega⟩ : Fin 128) r) : EReal) * sc) + dotAt v3 w ⟨i.val + 64, by omega⟩ r * ((v8 (ix2 (⟨i.val % 256 - 128, by omega⟩ : Fin 128) r) : EReal) * sc)
  else dotAt v3 w i r * ((v4 (ix2 (⟨i.val % 256 - 128, by omega⟩ : Fin 128) r) : EReal) * sc) + dotAt v3 w ⟨i.val - 64, by omega⟩ r * ((v8 (ix2 (⟨i.val % 256 - 128, by omega⟩ : Fin 128) r) : EReal) * sc)

/-- A grid point's block. -/
def cells : Vec Ideal S1536x1024 .bf16 := fun y => cellAt v3 w v4 v8 (⟨(y 0).val, (y 0).isLt⟩ : Fin 1536) (⟨(y 1).val, (y 1).isLt⟩ : Fin 1024)

/-- A head's products through its load. -/
theorem dot_load (o : ℕ) (inb : ∀ a, (![0, o, 0] : Fin S1x1536x1024.rank → ℕ) a + (![1, 256, 1024] : Fin S1x1536x1024.rank → ℕ) a ≤ S1x1536x1024.size a)
    (x : Fin 256) (r : Fin 1024) (i : Fin 1536) (ei : i.val = o + x.val) :
    k0_pay5 v3 (View.ld w (Rect.unit ![0, o, 0] ![1, 256, 1024] inb)) (ix2 x r) = dotAt v3 w i r := by
  refine (dot_apply v3 _ x r).trans (Finset.sum_congr rfl fun k _ => congrArg (fun a : EReal => a * v3 (ix2 r k)) ?_)
  refine View.ld_unit_apply_of w _ _ inb _ (ix3 (0 : Fin 1) i k) fun a => ?_
  match a with
  | ⟨0, _⟩ => rfl
  | ⟨1, _⟩ => exact ei
  | ⟨2, _⟩ => exact (Nat.zero_add _).symm

/-- A head's plain cells. -/
theorem plain_piece (o : ℕ) (inb : ∀ a, (![0, o, 0] : Fin S1x1536x1024.rank → ℕ) a + (![1, 256, 1024] : Fin S1x1536x1024.rank → ℕ) a ≤ S1x1536x1024.size a)
    (ho : o % 256 = 0) (x : S128x1024.Idx) (y : S1536x1024.Idx) (e0 : (y 0).val = o + (x 0).val) (e1 : (y 1).val = (x 1).val) :
    k0_pay6 v3 (View.ld w (Rect.unit ![0, o, 0] ![1, 256, 1024] inb)) x = cells v3 w v4 v8 y := by
  have x0 : (x 0).val < 128 := (x 0).isLt
  have x1 : (x 1).val < 1024 := (x 1).isLt
  have y0 : (y 0).val < 1536 := (y 0).isLt
  have ex : x = ix2 (⟨(x 0).val, x0⟩ : Fin 128) (⟨(x 1).val, x1⟩ : Fin 1024) := funext fun a => by
    match a with
    | ⟨0, _⟩ => rfl
    | ⟨1, _⟩ => rfl
  have er : (⟨(y 1).val, (y 1).isLt⟩ : Fin 1024) = ⟨(x 1).val, x1⟩ := Fin.ext e1
  unfold cells cellAt
  rw [dif_pos (show (y 0).val % 256 < 128 by omega), er]
  refine (congrArg (k0_pay6 v3 (View.ld w (Rect.unit ![0, o, 0] ![1, 256, 1024] inb))) ex).trans ((plain_apply v3 _ _ _).trans ?_)
  exact congrArg (fun a : EReal => a * sc) (dot_load v3 w o inb _ _ _ e0)

/-- A head's last cells. -/
theorem last_piece (o : ℕ) (inb : ∀ a, (![0, o, 0] : Fin S1x1536x1024.rank → ℕ) a + (![1, 256, 1024] : Fin S1x1536x1024.rank → ℕ) a ≤ S1x1536x1024.size a)
    (ho : o % 256 = 0) (x : S128x1024.Idx) (y : S1536x1024.Idx) (e0 : (y 0).val = o + 128 + (x 0).val) (e1 : (y 1).val = (x 1).val) :
    k0_pay7 v3 v4 v8 (View.ld w (Rect.unit ![0, o, 0] ![1, 256, 1024] inb)) x = cells v3 w v4 v8 y := by
  have x0 : (x 0).val < 128 := (x 0).isLt
  have x1 : (x 1).val < 1024 := (x 1).isLt
  have y0 : (y 0).val < 1536 := (y 0).isLt
  have ex : x = ix2 (⟨(x 0).val, x0⟩ : Fin 128) (⟨(x 1).val, x1⟩ : Fin 1024) := funext fun a => by
    match a with
    | ⟨0, _⟩ => rfl
    | ⟨1, _⟩ => rfl
  have er : (⟨(y 1).val, (y 1).isLt⟩ : Fin 1024) = ⟨(x 1).val, x1⟩ := Fin.ext e1
  have ed : (⟨(y 0).val % 256 - 128, by omega⟩ : Fin 128) = ⟨(x 0).val, x0⟩ := Fin.ext (show (y 0).val % 256 - 128 = (x 0).val by omega)
  refine (congrArg (k0_pay7 v3 v4 v8 (View.ld w (Rect.unit ![0, o, 0] ![1, 256, 1024] inb))) ex).trans ?_
  unfold cells cellAt
  rw [dif_neg (show ¬(y 0).val % 256 < 128 by omega), er]
  by_cases hx : (x 0).val < 64
  · rw [dif_pos (show (y 0).val % 256 < 192 by omega)]
    refine (rope_low v3 _ v4 v8 _ hx _).trans (congrArg₂ (fun a b : EReal => a + b) (congrArg₂ (fun a b : EReal => a * b) ?_ ?_) (congrArg₂ (fun a b : EReal => a * b) ?_ ?_))
    · exact dot_load v3 w o inb _ _ _ (by show (y 0).val = o + (128 + (x 0).val); omega)
    · exact congrArg (fun d : Fin 128 => (v4 (ix2 d (⟨(x 1).val, x1⟩ : Fin 1024)) : EReal) * sc) ed.symm
    · exact dot_load v3 w o inb _ _ _ (by show (y 0).val + 64 = o + (192 + (x 0).val); omega)
    · exact congrArg (fun d : Fin 128 => (v8 (ix2 d (⟨(x 1).val, x1⟩ : Fin 1024)) : EReal) * sc) ed.symm
  · rw [dif_neg (show ¬(y 0).val % 256 < 192 by omega)]
    refine (rope_high v3 _ v4 v8 _ hx _).trans (congrArg₂ (fun a b : EReal => a + b) (congrArg₂ (fun a b : EReal => a * b) ?_ ?_) (congrArg₂ (fun a b : EReal => a * b) ?_ ?_))
    · exact dot_load v3 w o inb _ _ _ (by show (y 0).val = o + (128 + (x 0).val); omega)
    · exact congrArg (fun d : Fin 128 => (v4 (ix2 d (⟨(x 1).val, x1⟩ : Fin 1024)) : EReal) * sc) ed.symm
    · exact dot_load v3 w o inb _ _ _ (by show (y 0).val - 64 = o + (64 + (x 0).val); omega)
    · exact congrArg (fun d : Fin 128 => (v8 (ix2 d (⟨(x 1).val, x1⟩ : Fin 1024)) : EReal) * sc) ed.symm

/-- A grid point's twelve stores make its block. -/
theorem tiles : View.canon [
      ⟨Rect.unit ![1408, 0] ![128, 1024] inb_S1536x1024_S128x1024_1408_0, k0_pay1 (k0_pay3 v4) (k0_pay4 v8) (k0_pay21 v3 (View.ld w (Rect.unit ![0, 1280, 0] ![1, 256, 1024] inb_S1x1536x1024_S1x256x1024_0_1280_0)))⟩,
      ⟨Rect.unit ![1280, 0] ![128, 1024] inb_S1536x1024_S128x1024_1280_0, k0_pay22 v3 (View.ld w (Rect.unit ![0, 1280, 0] ![1, 256, 1024] inb_S1x1536x1024_S1x256x1024_0_1280_0))⟩,
      ⟨Rect.unit ![1152, 0] ![128, 1024] inb_S1536x1024_S128x1024_1152_0, k0_pay20 v3 (k0_pay3 v4) (k0_pay4 v8) (View.ld w (Rect.unit ![0, 1024, 0] ![1, 256, 1024] inb_S1x1536x1024_S1x256x1024_0_1024_0))⟩,
      ⟨Rect.unit ![1024, 0] ![128, 1024] inb_S1536x1024_S128x1024_1024_0, k0_pay19 v3 (View.ld w (Rect.unit ![0, 1024, 0] ![1, 256, 1024] inb_S1x1536x1024_S1x256x1024_0_1024_0))⟩,
      ⟨Rect.unit ![896, 0] ![128, 1024] inb_S1536x1024_S128x1024_896_0, k0_pay17 (k0_pay3 v4) (k0_pay4 v8) (k0_pay14 v3 (View.ld w (Rect.unit ![0, 768, 0] ![1, 256, 1024] inb_S1x1536x1024_S1x256x1024_0_768_0)))⟩,
      ⟨Rect.unit ![768, 0] ![128, 1024] inb_S1536x1024_S128x1024_768_0, k0_pay16 (k0_pay15 v3 (View.ld w (Rect.unit ![0, 768, 0] ![1, 256, 1024] inb_S1x1536x1024_S1x256x1024_0_768_0)))⟩,
      ⟨Rect.unit ![640, 0] ![128, 1024] inb_S1536x1024_S128x1024_640_0, k0_pay13 v3 (k0_pay3 v4) (k0_pay4 v8) (View.ld w (Rect.unit ![0, 512, 0] ![1, 256, 1024] inb_S1x1536x1024_S1x256x1024_0_512_0))⟩,
      ⟨Rect.unit ![512, 0] ![128, 1024] inb_S1536x1024_S128x1024_512_0, k0_pay12 v3 (View.ld w (Rect.unit ![0, 512, 0] ![1, 256, 1024] inb_S1x1536x1024_S1x256x1024_0_512_0))⟩,
      ⟨Rect.unit ![384, 0] ![128, 1024] inb_S1536x1024_S128x1024_384_0, k0_pay10 (k0_pay3 v4) (k0_pay4 v8) (k0_pay8 v3 (View.ld w (Rect.unit ![0, 256, 0] ![1, 256, 1024] inb_S1x1536x1024_S1x256x1024_0_256_0)))⟩,
      ⟨Rect.unit ![256, 0] ![128, 1024] inb_S1536x1024_S128x1024_256_0, k0_pay9 (k0_pay8 v3 (View.ld w (Rect.unit ![0, 256, 0] ![1, 256, 1024] inb_S1x1536x1024_S1x256x1024_0_256_0)))⟩,
      ⟨Rect.unit ![128, 0] ![128, 1024] inb_S1536x1024_S128x1024_128_0, k0_pay7 v3 v4 v8 (View.ld w (Rect.unit ![0, 0, 0] ![1, 256, 1024] inb_S1x1536x1024_S1x256x1024_0_0_0))⟩,
      ⟨Rect.unit ![0, 0] ![128, 1024] inb_S1536x1024_S128x1024_0_0, k0_pay6 v3 (View.ld w (Rect.unit ![0, 0, 0] ![1, 256, 1024] inb_S1x1536x1024_S1x256x1024_0_0_0))⟩] = cells v3 w v4 v8 := by
  refine funext fun y => ?_
  canon_tiles x h
  · exact (rfl : k0_pay1 (k0_pay3 v4) (k0_pay4 v8) (k0_pay21 v3 (View.ld w (Rect.unit ![0, 1280, 0] ![1, 256, 1024] inb_S1x1536x1024_S1x256x1024_0_1280_0))) x = k0_pay7 v3 v4 v8 (View.ld w (Rect.unit ![0, 1280, 0] ![1, 256, 1024] inb_S1x1536x1024_S1x256x1024_0_1280_0)) x).trans (last_piece v3 w v4 v8 1280 _ rfl x y (by omega) (by omega))
  · exact (rfl : k0_pay22 v3 (View.ld w (Rect.unit ![0, 1280, 0] ![1, 256, 1024] inb_S1x1536x1024_S1x256x1024_0_1280_0)) x = k0_pay6 v3 (View.ld w (Rect.unit ![0, 1280, 0] ![1, 256, 1024] inb_S1x1536x1024_S1x256x1024_0_1280_0)) x).trans (plain_piece v3 w v4 v8 1280 _ rfl x y (by omega) (by omega))
  · exact (rfl : k0_pay20 v3 (k0_pay3 v4) (k0_pay4 v8) (View.ld w (Rect.unit ![0, 1024, 0] ![1, 256, 1024] inb_S1x1536x1024_S1x256x1024_0_1024_0)) x = k0_pay7 v3 v4 v8 (View.ld w (Rect.unit ![0, 1024, 0] ![1, 256, 1024] inb_S1x1536x1024_S1x256x1024_0_1024_0)) x).trans (last_piece v3 w v4 v8 1024 _ rfl x y (by omega) (by omega))
  · exact (rfl : k0_pay19 v3 (View.ld w (Rect.unit ![0, 1024, 0] ![1, 256, 1024] inb_S1x1536x1024_S1x256x1024_0_1024_0)) x = k0_pay6 v3 (View.ld w (Rect.unit ![0, 1024, 0] ![1, 256, 1024] inb_S1x1536x1024_S1x256x1024_0_1024_0)) x).trans (plain_piece v3 w v4 v8 1024 _ rfl x y (by omega) (by omega))
  · exact (rfl : k0_pay17 (k0_pay3 v4) (k0_pay4 v8) (k0_pay14 v3 (View.ld w (Rect.unit ![0, 768, 0] ![1, 256, 1024] inb_S1x1536x1024_S1x256x1024_0_768_0))) x = k0_pay7 v3 v4 v8 (View.ld w (Rect.unit ![0, 768, 0] ![1, 256, 1024] inb_S1x1536x1024_S1x256x1024_0_768_0)) x).trans (last_piece v3 w v4 v8 768 _ rfl x y (by omega) (by omega))
  · exact (rfl : k0_pay16 (k0_pay15 v3 (View.ld w (Rect.unit ![0, 768, 0] ![1, 256, 1024] inb_S1x1536x1024_S1x256x1024_0_768_0))) x = k0_pay6 v3 (View.ld w (Rect.unit ![0, 768, 0] ![1, 256, 1024] inb_S1x1536x1024_S1x256x1024_0_768_0)) x).trans (plain_piece v3 w v4 v8 768 _ rfl x y (by omega) (by omega))
  · exact (rfl : k0_pay13 v3 (k0_pay3 v4) (k0_pay4 v8) (View.ld w (Rect.unit ![0, 512, 0] ![1, 256, 1024] inb_S1x1536x1024_S1x256x1024_0_512_0)) x = k0_pay7 v3 v4 v8 (View.ld w (Rect.unit ![0, 512, 0] ![1, 256, 1024] inb_S1x1536x1024_S1x256x1024_0_512_0)) x).trans (last_piece v3 w v4 v8 512 _ rfl x y (by omega) (by omega))
  · exact (rfl : k0_pay12 v3 (View.ld w (Rect.unit ![0, 512, 0] ![1, 256, 1024] inb_S1x1536x1024_S1x256x1024_0_512_0)) x = k0_pay6 v3 (View.ld w (Rect.unit ![0, 512, 0] ![1, 256, 1024] inb_S1x1536x1024_S1x256x1024_0_512_0)) x).trans (plain_piece v3 w v4 v8 512 _ rfl x y (by omega) (by omega))
  · exact (rfl : k0_pay10 (k0_pay3 v4) (k0_pay4 v8) (k0_pay8 v3 (View.ld w (Rect.unit ![0, 256, 0] ![1, 256, 1024] inb_S1x1536x1024_S1x256x1024_0_256_0))) x = k0_pay7 v3 v4 v8 (View.ld w (Rect.unit ![0, 256, 0] ![1, 256, 1024] inb_S1x1536x1024_S1x256x1024_0_256_0)) x).trans (last_piece v3 w v4 v8 256 _ rfl x y (by omega) (by omega))
  · exact (rfl : k0_pay9 (k0_pay8 v3 (View.ld w (Rect.unit ![0, 256, 0] ![1, 256, 1024] inb_S1x1536x1024_S1x256x1024_0_256_0))) x = k0_pay6 v3 (View.ld w (Rect.unit ![0, 256, 0] ![1, 256, 1024] inb_S1x1536x1024_S1x256x1024_0_256_0)) x).trans (plain_piece v3 w v4 v8 256 _ rfl x y (by omega) (by omega))
  · exact (rfl : k0_pay7 v3 v4 v8 (View.ld w (Rect.unit ![0, 0, 0] ![1, 256, 1024] inb_S1x1536x1024_S1x256x1024_0_0_0)) x = k0_pay7 v3 v4 v8 (View.ld w (Rect.unit ![0, 0, 0] ![1, 256, 1024] inb_S1x1536x1024_S1x256x1024_0_0_0)) x).trans (last_piece v3 w v4 v8 0 _ rfl x y (by omega) (by omega))
  · exact (rfl : k0_pay6 v3 (View.ld w (Rect.unit ![0, 0, 0] ![1, 256, 1024] inb_S1x1536x1024_S1x256x1024_0_0_0)) x = k0_pay6 v3 (View.ld w (Rect.unit ![0, 0, 0] ![1, 256, 1024] inb_S1x1536x1024_S1x256x1024_0_0_0)) x).trans (plain_piece v3 w v4 v8 0 _ rfl x y (by omega) (by omega))

end

section
variable (m : (ℓ : Loc nD τ sig) → Buf (Elt Ideal) ℓ) (c : Dev nD)

/-- The scratch after a grid point. -/
abbrev held (t : Fin cfg0.N) : Vec Ideal S1024x1024 .bf16 := (outsAt0 m c t.val t.isLt).2

/-- The first point of a block of rows normalises them into the scratch. -/
theorem held_first (t : Fin cfg0.N) (h0 : t.val % 4 = 0) : held m c t = k0_pay2 (X0_0 m c t) (iblk m c 1 t) := by
  unfold held
  rw [outsAt0_A m c t h0]
  frame_out

/-- A later point keeps the scratch. -/
theorem held_next (t : Fin cfg0.N) (h0 : ¬t.val % 4 = 0) : held m c t = (outsAt0 m c (t.val - 1) (Nat.lt_of_le_of_lt (Nat.sub_le _ _) t.isLt)).2 := by
  unfold held
  rw [outsAt0_B m c t h0]
  frame_out
  rfl

/-- The scratch holds the normalised rows of the block. -/
theorem held_apply (t : Fin cfg0.N) (i : S1024x1024.Idx) :
    held m c t i = k0_pay2 (X0_0 m c ⟨4 * (t.val / 4), Pipeline.run_start_lt t⟩) (iblk m c 1 ⟨4 * (t.val / 4), Pipeline.run_start_lt t⟩) i :=
  Pipeline.eq_of_write_hold_apply (fun n h => (outsAt0 m c n h).2) 4 (fun t => k0_pay2 (X0_0 m c t) (iblk m c 1 t))
    (fun t h i => congrFun (held_first m c t h) i) (fun t h i => congrFun (held_next m c t h) i) t i

/-- A grid point leaves the cells of its block. -/
theorem outs5 (t : Fin cfg0.N) : (outsAt0 m c t.val t.isLt).1 = cells (held m c t) (iblk m c 2 t) (iblk m c 3 t) (iblk m c 4 t) := by
  by_cases h0 : t.val % 4 = 0
  · rw [held_first m c t h0, outsAt0_A m c t h0]
    frame_out
    exact tiles _ _ _ _
  · rw [held_next m c t h0, outsAt0_B m c t h0]
    frame_out
    simp only [read_unread_whole]
    exact tiles _ _ _ _

end

end Cert.Kernel5Ideal.Query

end
-- ==== Proof.Q5Arr.lean ====
/- The queries of the latent attention: the blocks a grid point reads, and the array that the blocks make. -/
module

public import proofs.«01_k».proof.Proof.Q5Cell

@[expose] public section

set_option maxRecDepth 16384

noncomputable section

namespace Cert.Kernel5Ideal.Query

open Cert.Kernel5Ideal Cert.Kernel5Ideal.Gen Idealize.ShloMosaic.TcCoe Idealize.ShloMosaic.ValueIdx
open Idealize.ShloMosaic hiding ix0 ix1 ix2 ix3 ix4

/-- The block of tokens of a grid point. -/
def pI (t : Fin cfg0.N) : ℕ := t.val / 4
/-- The block of heads of a grid point. -/
def pJ (t : Fin cfg0.N) : ℕ := t.val % 4
/-- There are sixteen blocks of tokens. -/
theorem pI_lt (t : Fin cfg0.N) : pI t < 16 := by
  have h : t.val < 64 := lt_of_lt_of_eq t.isLt N_0
  unfold pI
  omega
/-- There are four blocks of heads. -/
theorem pJ_lt (t : Fin cfg0.N) : pJ t < 4 := Nat.mod_lt _ (by decide)

/-- Where each window's block lies at a grid point. -/
theorem at0 : ∀ t : Fin cfg0.N, win0_0.index t = ![pI t, 4] :=
  (by decide +kernel : ∀ t : Fin grid0.N, win0_0.index t = ![t.val / 4, 4])
theorem at1 : ∀ t : Fin cfg0.N, win0_1.index t = ![0, 0] :=
  (by decide +kernel : ∀ t : Fin grid0.N, win0_1.index t = ![0, 0])
theorem at2 : ∀ t : Fin cfg0.N, win0_2.index t = ![0, pJ t, 0] :=
  (by decide +kernel : ∀ t : Fin grid0.N, win0_2.index t = ![0, t.val % 4, 0])
theorem at3 : ∀ t : Fin cfg0.N, win0_3.index t = ![0, pI t] :=
  (by decide +kernel : ∀ t : Fin grid0.N, win0_3.index t = ![0, t.val / 4])
theorem at4 : ∀ t : Fin cfg0.N, win0_4.index t = ![0, pI t] :=
  (by decide +kernel : ∀ t : Fin grid0.N, win0_4.index t = ![0, t.val / 4])
theorem at5 : ∀ t : Fin cfg0.N, win0_5.index t = ![pJ t, pI t] :=
  (by decide +kernel : ∀ t : Fin grid0.N, win0_5.index t = ![t.val % 4, t.val / 4])

section
variable (m : (ℓ : Loc nD τ sig) → Buf (Elt Ideal) ℓ) (c : Dev nD) (t : Fin cfg0.N)

/-- The arguments. -/
abbrev a0 : FVec Ideal S16384x6912 .bf16 := m ((c : Thread nD τ).loc main_arg0)
abbrev a1 : FVec Ideal S2x1024 .f32 := m ((c : Thread nD τ).loc main_arg1)
abbrev a2 : FVec Ideal S2x1024x4608 .f32 := m ((c : Thread nD τ).loc main_arg2)
abbrev a3 : IVec S4x4096 32 := m ((c : Thread nD τ).loc main_arg3)

/-- The block of the latent rows at an index. -/
theorem blk0 (r : Fin 1024) (r' : Fin 16384) (e : r'.val = 1024 * pI t + r.val) (k : Fin 1024) :
    X0_0 m c t (ix2 r k) = a0 m c (ix2 r' (⟨4096 + k.val, by omega⟩ : Fin 6912)) := by
  unfold X0_0 Pipeline.Window.fill
  rw [dif_pos (moved0_0 t _)]
  refine congrArg (m ((c : Thread nD τ).loc main_arg0)) (funext fun a => Fin.ext ?_)
  match a with
  | ⟨0, _⟩ =>
    refine Eq.trans (b := win0_0.index t 0 * 1024 + r.val) (by blk_simp <;> rfl) ?_
    rw [at0]
    show pI t * 1024 + r.val = r'.val
    omega
  | ⟨1, _⟩ =>
    refine Eq.trans (b := win0_0.index t 1 * 1024 + k.val) (by blk_simp <;> rfl) ?_
    rw [at0]
    show 4 * 1024 + k.val = 4096 + k.val
    omega

/-- The block of the factors at an index. -/
theorem blk1 (k : Fin 1024) : iblk m c 1 t (ix2 (0 : Fin 1) k) = a1 m c (ix2 (0 : Fin 2) k) := by
  refine Eq.trans (b := V m c main_v37 (ix2 (0 : Fin 1) k)) (congrArg (V m c main_v37) (funext fun a => Fin.ext ?_))
    ((congrFun (entryG m c) _).trans (rowG_apply _ k))
  match a with
  | ⟨0, _⟩ =>
    refine Eq.trans (b := win0_1.index t 0 * 1 + 0) (by blk_simp <;> rfl) ?_
    rw [at1]
    rfl
  | ⟨1, _⟩ =>
    refine Eq.trans (b := win0_1.index t 1 * 1024 + k.val) (by blk_simp <;> rfl) ?_
    rw [at1]
    show 0 * 1024 + k.val = k.val
    omega

/-- The block of the weights at an index. -/
theorem blk2 (i : Fin 1536) (k : Fin 1024) (h : Fin 24) (l : Fin 256) (ei : 1536 * pJ t + i.val = 256 * h.val + l.val) (j : Fin 4608) (ej : j.val = 192 * h.val + col l.val) :
    iblk m c 2 t (ix3 (0 : Fin 1) i k) = a2 m c (ix3 (0 : Fin 2) k j) := by
  have hj := pJ_lt t
  refine Eq.trans (b := V m c main_v34 (ix3 (0 : Fin 2) (⟨1536 * pJ t + i.val, by omega⟩ : Fin 6144) k)) (congrArg (V m c main_v34) (funext fun a => Fin.ext ?_))
    ((congrFun (entryW m c) _).trans (prepW_apply _ _ k h l ei j ej))
  match a with
  | ⟨0, _⟩ =>
    refine Eq.trans (b := win0_2.index t 0 * 1 + 0) (by blk_simp <;> rfl) ?_
    rw [at2]
    rfl
  | ⟨1, _⟩ =>
    refine Eq.trans (b := win0_2.index t 1 * 1536 + i.val) (by blk_simp <;> rfl) ?_
    rw [at2]
    show pJ t * 1536 + i.val = 1536 * pJ t + i.val
    omega
  | ⟨2, _⟩ =>
    refine Eq.trans (b := win0_2.index t 2 * 1024 + k.val) (by blk_simp <;> rfl) ?_
    rw [at2]
    show 0 * 1024 + k.val = k.val
    omega

/-- The block of the cosines at an index. -/
theorem blk3 (x : Fin 128) (r : Fin 1024) (r' : Fin 16384) (e : r'.val = 1024 * pI t + r.val) :
    iblk m c 3 t (ix2 x r) = cosT (a3 m c) (ix2 x r') := by
  refine Eq.trans (b := V m c main_v35 (ix2 x r')) (congrArg (V m c main_v35) (funext fun a => Fin.ext ?_)) (congrFun (entryC m c) _)
  match a with
  | ⟨0, _⟩ =>
    refine Eq.trans (b := win0_3.index t 0 * 128 + x.val) (by blk_simp <;> rfl) ?_
    rw [at3]
    show 0 * 128 + x.val = x.val
    omega
  | ⟨1, _⟩ =>
    refine Eq.trans (b := win0_3.index t 1 * 1024 + r.val) (by blk_simp <;> rfl) ?_
    rw [at3]
    show pI t * 1024 + r.val = r'.val
    omega

/-- The block of the sines at an index. -/
theorem blk4 (x : Fin 128) (r : Fin 1024) (r' : Fin 16384) (e : r'.val = 1024 * pI t + r.val) :
    iblk m c 4 t (ix2 x r) = sinT (a3 m c) (ix2 x r') := by
  refine Eq.trans (b := V m c main_v36 (ix2 x r')) (congrArg (V m c main_v36) (funext fun a => Fin.ext ?_)) (congrFun (entryS m c) _)
  match a with
  | ⟨0, _⟩ =>
    refine Eq.trans (b := win0_4.index t 0 * 128 + x.val) (by blk_simp <;> rfl) ?_
    rw [at4]
    show 0 * 128 + x.val = x.val
    omega
  | ⟨1, _⟩ =>
    refine Eq.trans (b := win0_4.index t 1 * 1024 + r.val) (by blk_simp <;> rfl) ?_
    rw [at4]
    show pI t * 1024 + r.val = r'.val
    omega

/-- Where the block of the result lies, at an index. -/
theorem emb5 (i : Fin 1536) (r : Fin 1024) (i' : Fin 6144) (r' : Fin 16384) (e0 : i'.val = 1536 * pJ t + i.val) (e1 : r'.val = 1024 * pI t + r.val) :
    ((cfg0.win 5).blk t).view.emb (ix2 i r) = ix2 i' r' := by
  refine funext fun a => Fin.ext ?_
  match a with
  | ⟨0, _⟩ =>
    refine Eq.trans (b := win0_5.index t 0 * 1536 + i.val) (by blk_simp <;> rfl) ?_
    rw [at5]
    show pJ t * 1536 + i.val = i'.val
    omega
  | ⟨1, _⟩ =>
    refine Eq.trans (b := win0_5.index t 1 * 1024 + r.val) (by blk_simp <;> rfl) ?_
    rw [at5]
    show pI t * 1024 + r.val = r'.val
    omega

/-- The scratch's rows are the normalised rows. -/
theorem held_norm (r : Fin 1024) (r' : Fin 16384) (e : r'.val = 1024 * pI t + r.val) (k : Fin 1024) :
    held m c t (ix2 r k) = norm (a0 m c) (a1 m c) r' k := by
  have e' : r'.val = 1024 * pI ⟨4 * (t.val / 4), Pipeline.run_start_lt t⟩ + r.val := by
    refine e.trans ?_
    show 1024 * (t.val / 4) + r.val = 1024 * (4 * (t.val / 4) / 4) + r.val
    omega
  refine (held_apply m c t _).trans ((norm_apply _ _ r k).trans ?_)
  unfold norm factor raw
  refine congrArg₂ (fun a b : EReal => a * b) (congrArg₂ (fun a b : EReal => a * b) (blk0 m c _ r r' e' k) ?_) (blk1 m c _ k)
  refine congrArg (fun s : EReal => Ideal.rsqrt (Ideal.div s (Ideal.ofBits .f32 0x44800000#32) + Ideal.ofBits .f32 0x358637BD#32)) ?_
  exact Finset.sum_congr rfl fun j _ => congrArg₂ (fun a b : EReal => a * b) (blk0 m c _ r r' e' j) (blk0 m c _ r r' e' j)

/-- A row of the weights times a normalised row is a coordinate of the queries before the rotation. -/
theorem dot_prod (i : Fin 1536) (r : Fin 1024) (r' : Fin 16384) (e : r'.val = 1024 * pI t + r.val) (h : Fin 24) (l : Fin 256)
    (ei : 1536 * pJ t + i.val = 256 * h.val + l.val) (j : Fin 4608) (ej : j.val = 192 * h.val + col l.val) :
    dotAt (held m c t) (iblk m c 2 t) i r = prod (a0 m c) (a1 m c) (a2 m c) r' j := by
  unfold dotAt prod
  refine Finset.sum_congr rfl fun k _ => ?_
  exact (congrArg₂ (fun a b : EReal => a * b) (blk2 m c t i k h l ei j ej) (held_norm m c t r r' e k)).trans (mul_comm _ _)

/-- A grid point's cells are the queries. -/
theorem cell_query (i : Fin 1536) (r : Fin 1024) (r' : Fin 16384) (e : r'.val = 1024 * pI t + r.val) (h : Fin 24) (l : Fin 256)
    (ei : 1536 * pJ t + i.val = 256 * h.val + l.val) :
    cellAt (held m c t) (iblk m c 2 t) (iblk m c 3 t) (iblk m c 4 t) i r = query (a0 m c) (a1 m c) (a2 m c) (a3 m c) h l r' := by
  have el : i.val % 256 = l.val := by omega
  have ed : ∀ q : l.val ≥ 128, (⟨i.val % 256 - 128, by omega⟩ : Fin 128) = ⟨l.val - 128, by omega⟩ := fun q => Fin.ext (by show i.val % 256 - 128 = l.val - 128; omega)
  unfold cellAt query
  by_cases l0 : l.val < 128
  · rw [dif_pos (show i.val % 256 < 128 by omega), dif_pos l0]
    exact congrArg (fun a : EReal => a * sc) (dot_prod m c t i r r' e h l ei _ (by unfold col; rw [if_pos (by omega)]))
  · rw [dif_neg (show ¬i.val % 256 < 128 by omega), dif_neg l0]
    by_cases l2 : l.val < 192
    · have eP := dot_prod m c t i r r' e h l ei ⟨192 * h.val + l.val, by omega⟩ (by unfold col; rw [if_pos l2])
      rw [dif_pos (show i.val % 256 < 192 by omega), ed (by omega), eP, blk3 m c t _ r r' e, blk4 m c t _ r r' e]
      by_cases l1 : l.val < 160
      · rw [dif_pos l1]
        have eQ := dot_prod m c t ⟨i.val + 64, by omega⟩ r r' e h ⟨l.val + 64, by omega⟩ (by show 1536 * pJ t + (i.val + 64) = 256 * h.val + (l.val + 64); omega)
          ⟨192 * h.val + l.val + 32, by omega⟩ (by unfold col; rw [if_neg (show ¬l.val + 64 < 192 by omega), if_pos (show l.val + 64 < 224 by omega)]; show 192 * h.val + l.val + 32 = 192 * h.val + (l.val + 64 - 32); omega)
        rw [eQ, cosT_first (a3 m c) _ r' ⟨l.val - 128, by omega⟩ rfl, sinT_first (a3 m c) _ r' ⟨l.val - 128, by omega⟩ rfl, sub_eq_add_neg, add_sc,
          ← mul_assoc, ← mul_assoc, mul_neg]
      · rw [dif_neg l1, dif_pos l2]
        have eQ := dot_prod m c t ⟨i.val + 64, by omega⟩ r r' e h ⟨l.val + 64, by omega⟩ (by show 1536 * pJ t + (i.val + 64) = 256 * h.val + (l.val + 64); omega)
          ⟨192 * h.val + l.val - 32, by omega⟩ (by unfold col; rw [if_neg (show ¬l.val + 64 < 192 by omega), if_neg (show ¬l.val + 64 < 224 by omega)]; show 192 * h.val + l.val - 32 = 192 * h.val + (l.val + 64 - 96); omega)
        rw [eQ, cosT_second (a3 m c) _ r' ⟨l.val - 160, by omega⟩ (by show l.val - 128 = 32 + (l.val - 160); omega),
          sinT_second (a3 m c) _ r' ⟨l.val - 160, by omega⟩ (by show l.val - 128 = 32 + (l.val - 160); omega), add_sc, ← mul_assoc, ← mul_assoc]
    · rw [dif_neg (show ¬i.val % 256 < 192 by omega), ed (by omega), dif_neg (show ¬l.val < 160 by omega), dif_neg l2, blk3 m c t _ r r' e, blk4 m c t _ r r' e,
        cosT_high (a3 m c) _ r' (show ¬l.val - 128 < 64 by omega), sinT_high (a3 m c) _ r' (show ¬l.val - 128 < 64 by omega), zero_mul, mul_zero, mul_zero, add_zero]

/-- The result array is the queries. -/
theorem array5 : (dats m 0 c).arrAt 5 cfg0.N = queryArr (a0 m c) (a1 m c) (a2 m c) (a3 m c) := by
  refine (dats m 0 c).arrAt_eq_of_covers 5 _ (by decide +kernel) fun t hf y => ?_
  have hi := pI_lt t; have hj := pJ_lt t
  have y0 : (y 0).val < 1536 := (y 0).isLt
  have y1 : (y 1).val < 1024 := (y 1).isLt
  have ey : y = ix2 (⟨(y 0).val, y0⟩ : Fin 1536) (⟨(y 1).val, y1⟩ : Fin 1024) := funext fun a => by
    match a with
    | ⟨0, _⟩ => rfl
    | ⟨1, _⟩ => rfl
  refine Eq.trans (b := cellAt (held m c t) (iblk m c 2 t) (iblk m c 3 t) (iblk m c 4 t) (⟨(y 0).val, y0⟩ : Fin 1536) (⟨(y 1).val, y1⟩ : Fin 1024))
    (congrFun ((after0_5 m c t).trans (outs5 m c t)) _) ?_
  refine (cell_query m c t _ _ ⟨1024 * pI t + (y 1).val, by omega⟩ rfl ⟨(1536 * pJ t + (y 0).val) / 256, by omega⟩ ⟨(1536 * pJ t + (y 0).val) % 256, by omega⟩ ?_).trans ?_
  · show 1536 * pJ t + (y 0).val = 256 * ((1536 * pJ t + (y 0).val) / 256) + (1536 * pJ t + (y 0).val) % 256
    omega
  · exact (congrArg (queryArr (a0 m c) (a1 m c) (a2 m c) (a3 m c))
      ((congrArg ((cfg0.win 5).blk t).view.emb ey).trans (emb5 t _ _ ⟨1536 * pJ t + (y 0).val, by omega⟩ ⟨1024 * pI t + (y 1).val, by omega⟩ rfl rfl))).symm

end

end Cert.Kernel5Ideal.Query

end
-- ==== Proof.Q5Ref.lean ====
/- The queries of the latent attention: the result of the reference. -/
module

public import proofs.«01_k».proof.Proof.Q5Arr
public import proofs.«01_k».proof.Proof.Gen.Reference5Ideal.Run

@[expose] public section

set_option maxRecDepth 16384

noncomputable section

namespace Cert.Reference5Ideal.Query

open Cert.Reference5Ideal Cert.Reference5Ideal.Gen Idealize.ShloMosaic.TcCoe Idealize.ShloMosaic.ValueIdx
open Idealize.ShloMosaic hiding ix0 ix1 ix2 ix3 ix4
open Cert.Kernel5Ideal.Query (raw factor prod freqs angle query queryArr sc)

/-- The latent rows. -/
def rowsR (A0 : FVec Ideal S16384x6912 .bf16) : FVec Ideal S16384x1024 .f32 :=
  extf .f32 (extractStridedSlice S16384x1024 ![0, 4096] A0 slices_S16384x6912_S16384x1024_0_4096) bitsLt_bf16_f32
/-- The factors that normalise them. -/
def factorR (A0 : FVec Ideal S16384x6912 .bf16) : FVec Ideal S16384x1 .f32 :=
  Host.rsqrt (addf (Host.divf (broadcastInDim S16384x1 ![0] bcast_S16384_S16384x1_0 (Host.reduceAdd (mulf (rowsR A0) (rowsR A0)) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32)))
/-- The normalised rows. -/
def normR (A0 : FVec Ideal S16384x6912 .bf16) (A1 : FVec Ideal S2x1024 .f32) : FVec Ideal S16384x1024 .f32 :=
  mulf (mulf (rowsR A0) (broadcastInDim S16384x1024 ![0, 1] bcast_S16384x1_S16384x1024_0_1 (factorR A0)))
    (broadcastInDim S16384x1024 ![0, 1] bcast_S1x1024_S16384x1024_0_1 (broadcastInDim S1x1024 ![1] bcast_S1024_S1x1024_1
      (shapeCast S1024 (extractStridedSlice S1x1024 ![0, 0] A1 slices_S2x1024_S1x1024_0_0) shapeCasts_S1x1024_S1024)))
/-- The first layer's weights. -/
def weightsR (A2 : FVec Ideal S2x1024x4608 .f32) : FVec Ideal S1024x4608 .f32 :=
  shapeCast S1024x4608 (extractStridedSlice S1x1024x4608 ![0, 0, 0] A2 slices_S2x1024x4608_S1x1024x4608_0_0_0) shapeCasts_S1x1024x4608_S1024x4608
/-- The products by batch, place, head and coordinate. -/
def prodR (A0 : FVec Ideal S16384x6912 .bf16) (A1 : FVec Ideal S2x1024 .f32) (A2 : FVec Ideal S2x1024x4608 .f32) : FVec Ideal S4x4096x24x192 .f32 :=
  shapeCast S4x4096x24x192 (Host.dotGeneral dot_S16384x1024_S1024x4608_S16384x4608_1_0_0_1_n_n none (normR A0 A1) (weightsR A2) : FVec Ideal S16384x4608 .f32) shapeCasts_S16384x4608_S4x4096x24x192
/-- The angles. -/
def angleR (A3 : IVec S4x4096 32) : FVec Ideal S4x4096x32 .f32 :=
  mulf (broadcastInDim S4x4096x32 ![0, 1, 2] bcast_S4x4096x1_S4x4096x32_0_1_2 (broadcastInDim S4x4096x1 ![0, 1] bcast_S4x4096_S4x4096x1_0_1 (sitofp .f32 A3 : FVec Ideal S4x4096 .f32)))
    (broadcastInDim S4x4096x32 ![0, 1, 2] bcast_S1x1x32_S4x4096x32_0_1_2 (broadcastInDim S1x1x32 ![2] bcast_S32_S1x1x32_2 freqs))
/-- A table for all heads. -/
def headsR (v : FVec Ideal S4x4096x32 .f32) : FVec Ideal S4x4096x24x32 .f32 :=
  broadcastInDim S4x4096x24x32 ![0, 1, 2, 3] bcast_S4x4096x1x32_S4x4096x24x32_0_1_2_3 (broadcastInDim S4x4096x1x32 ![0, 1, 3] bcast_S4x4096x32_S4x4096x1x32_0_1_3 v)
/-- The plain coordinates. -/
def plainR (q : FVec Ideal S4x4096x24x192 .f32) : FVec Ideal S4x4096x24x128 .f32 := extractStridedSlice S4x4096x24x128 ![0, 0, 0, 0] q slices_S4x4096x24x192_S4x4096x24x128_0_0_0_0
/-- The first half of the rotated coordinates. -/
def oneR (q : FVec Ideal S4x4096x24x192 .f32) : FVec Ideal S4x4096x24x32 .f32 := extractStridedSlice S4x4096x24x32 ![0, 0, 0, 128] q slices_S4x4096x24x192_S4x4096x24x32_0_0_0_128
/-- Their second half. -/
def twoR (q : FVec Ideal S4x4096x24x192 .f32) : FVec Ideal S4x4096x24x32 .f32 := extractStridedSlice S4x4096x24x32 ![0, 0, 0, 160] q slices_S4x4096x24x192_S4x4096x24x32_0_0_0_160
/-- Zeros. -/
def zerosR : FVec Ideal S4x4096x24x64 .f32 := broadcastInDim S4x4096x24x64 ![] bcast_S_S4x4096x24x64 (constant S_ .f32 0x00000000#32)
/-- Four groups of coordinates joined. -/
def joinR (a : FVec Ideal S4x4096x24x128 .f32) (b d : FVec Ideal S4x4096x24x32 .f32) (f : FVec Ideal S4x4096x24x64 .f32) : FVec Ideal S4x4096x24x256 .f32 :=
  concatenate S4x4096x24x256 3 [⟨S4x4096x24x128, a⟩, ⟨S4x4096x24x32, b⟩, ⟨S4x4096x24x32, d⟩, ⟨S4x4096x24x64, f⟩] concatenates_S4x4096x24x128_S4x4096x24x32_S4x4096x24x32_S4x4096x24x64_S4x4096x24x256_d3
/-- The rotated queries. -/
def turnR (q : FVec Ideal S4x4096x24x192 .f32) (s : FVec Ideal S4x4096x32 .f32) : FVec Ideal S4x4096x24x256 .f32 :=
  joinR (plainR q) (subf (mulf (oneR q) (headsR (Host.cos s))) (mulf (twoR q) (headsR (Host.sin s)))) (addf (mulf (twoR q) (headsR (Host.cos s))) (mulf (oneR q) (headsR (Host.sin s)))) zerosR
/-- The result. -/
def outR (v : FVec Ideal S4x4096x24x256 .f32) : FVec Ideal S6144x16384 .bf16 :=
  shapeCast S6144x16384 (transpose S24x256x4x4096 [2, 3, 0, 1] (truncf .bf16 (mulf v (broadcastInDim S4x4096x24x256 ![] bcast_S_S4x4096x24x256 (constant S_ .f32 0x3DD53B95#32))) bitsLt_bf16_f32)
    transposes_S4x4096x24x256_S24x256x4x4096_2_3_0_1) shapeCasts_S24x256x4x4096_S6144x16384

/-- The reference's result by its stages. -/
theorem res_stages (m : (ℓ : Loc nD τ sig) → Buf (Elt Ideal) ℓ) (c : Dev nD) :
    Value.res_main_v61 m c = outR (turnR (prodR (m ((c.tc : Thread nD τ).loc main_arg0)) (m ((c.tc : Thread nD τ).loc main_arg1)) (m ((c.tc : Thread nD τ).loc main_arg2)))
      (angleR (m ((c.tc : Thread nD τ).loc main_arg3)))) := rfl

section
variable (A0 : FVec Ideal S16384x6912 .bf16) (A1 : FVec Ideal S2x1024 .f32) (A2 : FVec Ideal S2x1024x4608 .f32) (A3 : IVec S4x4096 32)

/-- A latent row at an index. -/
theorem rowsR_apply (r : Fin 16384) (k : Fin 1024) : rowsR A0 (ix2 r k) = raw A0 r k := by
  refine extractStridedSlice_apply _ A0 slices_S16384x6912_S16384x1024_0_4096 _ (ix2 r (⟨4096 + k.val, by omega⟩ : Fin 6912)) fun a => ?_
  match a with
  | ⟨0, _⟩ => exact (Nat.zero_add _).symm
  | ⟨1, _⟩ => rfl

/-- A row's factor at an index. -/
theorem factorR_apply (r : Fin 16384) : factorR A0 (ix2 r (0 : Fin 1)) = factor A0 r := by
  unfold factorR factor
  refine congrArg Ideal.rsqrt (congrArg₂ (fun a b : EReal => a + b) (congrArg₂ (fun a b : EReal => Ideal.div a b) ?_ (broadcastInDim_scalar_apply _ _ _)) (broadcastInDim_scalar_apply _ _ _))
  refine (broadcastInDim_apply _ _ _ _ (ix1 r) fun a => ?_).trans ?_
  · match a with
    | ⟨0, _⟩ => rfl
  · refine (Host.reduceAdd_apply _ _ _ _ _).trans ((Ideal.hostReduceAdd_r2_a1 reducesTo_S16384x1024_S16384_d1 _ _ _).trans ?_)
    refine ((congrArg (fun a : EReal => a + _) Ideal.ofBits_zero_f32).trans (zero_add _)).trans ?_
    exact Finset.sum_congr rfl fun j _ => congrArg₂ (fun a b : EReal => a * b) (rowsR_apply A0 r j) (rowsR_apply A0 r j)

/-- A normalised row at an index. -/
theorem normR_apply (r : Fin 16384) (k : Fin 1024) : normR A0 A1 (ix2 r k) = Cert.Kernel5Ideal.Query.norm A0 A1 r k := by
  unfold normR Cert.Kernel5Ideal.Query.norm
  refine congrArg₂ (fun a b : EReal => a * b) (congrArg₂ (fun a b : EReal => a * b) (rowsR_apply A0 r k) ?_) ?_
  · refine (broadcastInDim_apply _ _ _ _ (ix2 r (0 : Fin 1)) fun a => ?_).trans (factorR_apply A0 r)
    match a with
    | ⟨0, _⟩ => rfl
    | ⟨1, _⟩ => rfl
  · refine (broadcastInDim_apply _ _ _ _ (ix2 (0 : Fin 1) k) fun a => ?_).trans ((broadcastInDim_apply _ _ _ _ (ix1 k) fun a => ?_).trans
      ((shapeCast_apply _ _ _ (ix2 (0 : Fin 1) k) ?_).trans (extractStridedSlice_apply _ A1 slices_S2x1024_S1x1024_0_0 _ (ix2 (0 : Fin 2) k) fun a => ?_)))
    · match a with
      | ⟨0, _⟩ => rfl
      | ⟨1, _⟩ => rfl
    · match a with
      | ⟨0, _⟩ => rfl
    · refine (rowMajor_val2 _ 1024 rfl).trans ((?_ : _ = _).trans (rowMajor_val1 _).symm)
      show 0 * 1024 + k.val = k.val
      omega
    · match a with
      | ⟨0, _⟩ => rfl
      | ⟨1, _⟩ => exact (Nat.zero_add _).symm

/-- The weights at an index. -/
theorem weightsR_apply (k : Fin 1024) (j : Fin 4608) : weightsR A2 (ix2 k j) = A2 (ix3 (0 : Fin 2) k j) := by
  refine (shapeCast_1ab_ab_apply _ _ _ _).trans (extractStridedSlice_apply _ A2 slices_S2x1024x4608_S1x1024x4608_0_0_0 _ (ix3 (0 : Fin 2) k j) fun a => ?_)
  match a with
  | ⟨0, _⟩ => rfl
  | ⟨1, _⟩ => exact (Nat.zero_add _).symm
  | ⟨2, _⟩ => exact (Nat.zero_add _).symm

/-- The product of rows and weights at an index. -/
theorem dot_apply (x : FVec Ideal S16384x1024 .f32) (w : FVec Ideal S1024x4608 .f32) (r : Fin 16384) (j : Fin 4608) :
    (Host.dotGeneral dot_S16384x1024_S1024x4608_S16384x4608_1_0_0_1_n_n none x w : FVec Ideal S16384x4608 .f32) (ix2 r j)
      = ∑ k : Fin 1024, (x (ix2 r k) : EReal) * w (ix2 k j) := by
  refine (Ideal.dotGeneral_apply _ _ _ _ _ _).trans ?_
  have hr : (dot_S16384x1024_S1024x4608_S16384x4608_1_0_0_1_n_n).contr.rank = 1 := rfl
  have hs : (dot_S16384x1024_S1024x4608_S16384x4608_1_0_0_1_n_n).contr.size ⟨0, by omega⟩ = 1024 := rfl
  rw [← Equiv.sum_comp (contrEquiv1 _ 1024 hr hs).symm]
  refine Finset.sum_congr rfl fun k _ => ?_
  have hk := contrEquiv1_symm_val _ 1024 hr hs k
  refine congrArg₂ (fun a b : EReal => a * b) (congrArg x (funext fun a => Fin.ext ?_)) (congrArg w (funext fun a => Fin.ext ?_))
  · match a with
    | ⟨0, _⟩ => rfl
    | ⟨1, _⟩ => exact hk
  · match a with
    | ⟨0, _⟩ => exact hk
    | ⟨1, _⟩ => rfl

/-- A coordinate before the rotation. -/
theorem prodR_apply (b : Fin 4) (s : Fin 4096) (h : Fin 24) (e : Fin 192) (r : Fin 16384) (er : r.val = 4096 * b.val + s.val) (j : Fin 4608) (ej : j.val = 192 * h.val + e.val) :
    prodR A0 A1 A2 (ix4 b s h e) = prod A0 A1 A2 r j := by
  refine (shapeCast_apply _ _ _ (ix2 r j) ?_).trans ((dot_apply _ _ r j).trans
    (Finset.sum_congr rfl fun k _ => congrArg₂ (fun a b : EReal => a * b) (normR_apply A0 A1 r k) (weightsR_apply A2 k j)))
  refine (rowMajor_val2 _ 4608 rfl).trans ((?_ : _ = _).trans (rowMajor_val4 _ (4096 * (24 * 192)) (24 * 192) 192 rfl rfl rfl).symm)
  show r.val * 4608 + j.val = b.val * (4096 * (24 * 192)) + s.val * (24 * 192) + h.val * 192 + e.val
  omega

/-- An angle at an index. -/
theorem angleR_apply (b : Fin 4) (s : Fin 4096) (e : Fin 32) (r : Fin 16384) (er : r.val = 4096 * b.val + s.val) : angleR A3 (ix3 b s e) = angle A3 r e := by
  have eb : (⟨r.val / 4096, by omega⟩ : Fin 4) = b := Fin.ext (by show r.val / 4096 = b.val; omega)
  have es : (⟨r.val % 4096, by omega⟩ : Fin 4096) = s := Fin.ext (by show r.val % 4096 = s.val; omega)
  unfold angleR angle
  rw [eb, es]
  refine congrArg₂ (fun a b : EReal => a * b) ?_ ?_
  · refine (broadcastInDim_apply _ _ _ _ (ix3 b s (0 : Fin 1)) fun a => ?_).trans (broadcastInDim_apply _ _ _ _ (ix2 b s) fun a => ?_)
    · match a with
      | ⟨0, _⟩ => rfl
      | ⟨1, _⟩ => rfl
      | ⟨2, _⟩ => rfl
    · match a with
      | ⟨0, _⟩ => rfl
      | ⟨1, _⟩ => rfl
  · refine (broadcastInDim_apply _ _ _ _ (ix3 (0 : Fin 1) (0 : Fin 1) e) fun a => ?_).trans (broadcastInDim_apply _ _ _ _ (ix1 e) fun a => ?_)
    · match a with
      | ⟨0, _⟩ => rfl
      | ⟨1, _⟩ => rfl
      | ⟨2, _⟩ => rfl
    · match a with
      | ⟨0, _⟩ => rfl

/-- A table for all heads at an index. -/
theorem headsR_apply (v : FVec Ideal S4x4096x32 .f32) (b : Fin 4) (s : Fin 4096) (h : Fin 24) (e : Fin 32) : headsR v (ix4 b s h e) = v (ix3 b s e) := by
  refine (broadcastInDim_apply _ _ _ _ (ix4 b s (0 : Fin 1) e) fun a => ?_).trans (broadcastInDim_apply _ _ _ _ (ix3 b s e) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

section
variable (q : FVec Ideal S4x4096x24x192 .f32) (b : Fin 4) (s : Fin 4096) (h : Fin 24)

/-- A plain coordinate. -/
theorem plainR_apply (e : Fin 128) : plainR q (ix4 b s h e) = q (ix4 b s h (⟨e.val, by omega⟩ : Fin 192)) := by
  refine extractStridedSlice_apply _ q slices_S4x4096x24x192_S4x4096x24x128_0_0_0_0 _ _ fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

/-- A coordinate of the first half. -/
theorem oneR_apply (e : Fin 32) : oneR q (ix4 b s h e) = q (ix4 b s h (⟨128 + e.val, by omega⟩ : Fin 192)) := by
  refine extractStridedSlice_apply _ q slices_S4x4096x24x192_S4x4096x24x32_0_0_0_128 _ _ fun a => ?_
  match a with
  | ⟨0, _⟩ => exact (Nat.zero_add _).symm
  | ⟨1, _⟩ => exact (Nat.zero_add _).symm
  | ⟨2, _⟩ => exact (Nat.zero_add _).symm
  | ⟨3, _⟩ => rfl

/-- A coordinate of the second half. -/
theorem twoR_apply (e : Fin 32) : twoR q (ix4 b s h e) = q (ix4 b s h (⟨160 + e.val, by omega⟩ : Fin 192)) := by
  refine extractStridedSlice_apply _ q slices_S4x4096x24x192_S4x4096x24x32_0_0_0_160 _ _ fun a => ?_
  match a with
  | ⟨0, _⟩ => exact (Nat.zero_add _).symm
  | ⟨1, _⟩ => exact (Nat.zero_add _).symm
  | ⟨2, _⟩ => exact (Nat.zero_add _).symm
  | ⟨3, _⟩ => rfl

variable (u : FVec Ideal S4x4096x24x128 .f32) (v w : FVec Ideal S4x4096x24x32 .f32) (z : FVec Ideal S4x4096x24x64 .f32)

/-- The plain group of the joined coordinates. -/
theorem joinR_plain (l : Fin 256) (e : Fin 128) (el : l.val = 0 + e.val) : joinR u v w z (ix4 b s h l) = u (ix4 b s h e) := by
  unfold joinR
  refine concatenate_apply_piece (t := S4x4096x24x256) 3 [⟨S4x4096x24x128, u⟩, ⟨S4x4096x24x32, v⟩, ⟨S4x4096x24x32, w⟩, ⟨S4x4096x24x64, z⟩]
    concatenates_S4x4096x24x128_S4x4096x24x32_S4x4096x24x32_S4x4096x24x64_S4x4096x24x256_d3 _ 0 (show 0 < 4 by decide) S4x4096x24x128 _ rfl rfl 0 rfl (ix4 b s h e) (fun c hc => ?_) el.symm
  match c with
  | ⟨0, _⟩ => rfl
  | ⟨1, _⟩ => rfl
  | ⟨2, _⟩ => rfl
  | ⟨3, _⟩ => exact absurd rfl hc

/-- The first rotated group of the joined coordinates. -/
theorem joinR_one (l : Fin 256) (e : Fin 32) (el : l.val = 128 + e.val) : joinR u v w z (ix4 b s h l) = v (ix4 b s h e) := by
  unfold joinR
  refine concatenate_apply_piece (t := S4x4096x24x256) 3 [⟨S4x4096x24x128, u⟩, ⟨S4x4096x24x32, v⟩, ⟨S4x4096x24x32, w⟩, ⟨S4x4096x24x64, z⟩]
    concatenates_S4x4096x24x128_S4x4096x24x32_S4x4096x24x32_S4x4096x24x64_S4x4096x24x256_d3 _ 1 (show 1 < 4 by decide) S4x4096x24x32 _ rfl rfl 128 rfl (ix4 b s h e) (fun c hc => ?_) el.symm
  match c with
  | ⟨0, _⟩ => rfl
  | ⟨1, _⟩ => rfl
  | ⟨2, _⟩ => rfl
  | ⟨3, _⟩ => exact absurd rfl hc

/-- The second rotated group of the joined coordinates. -/
theorem joinR_two (l : Fin 256) (e : Fin 32) (el : l.val = 160 + e.val) : joinR u v w z (ix4 b s h l) = w (ix4 b s h e) := by
  unfold joinR
  refine concatenate_apply_piece (t := S4x4096x24x256) 3 [⟨S4x4096x24x128, u⟩, ⟨S4x4096x24x32, v⟩, ⟨S4x4096x24x32, w⟩, ⟨S4x4096x24x64, z⟩]
    concatenates_S4x4096x24x128_S4x4096x24x32_S4x4096x24x32_S4x4096x24x64_S4x4096x24x256_d3 _ 2 (show 2 < 4 by decide) S4x4096x24x32 _ rfl rfl 160 rfl (ix4 b s h e) (fun c hc => ?_) el.symm
  match c with
  | ⟨0, _⟩ => rfl
  | ⟨1, _⟩ => rfl
  | ⟨2, _⟩ => rfl
  | ⟨3, _⟩ => exact absurd rfl hc

/-- The last group of the joined coordinates. -/
theorem joinR_zero (l : Fin 256) (e : Fin 64) (el : l.val = 192 + e.val) : joinR u v w z (ix4 b s h l) = z (ix4 b s h e) := by
  unfold joinR
  refine concatenate_apply_piece (t := S4x4096x24x256) 3 [⟨S4x4096x24x128, u⟩, ⟨S4x4096x24x32, v⟩, ⟨S4x4096x24x32, w⟩, ⟨S4x4096x24x64, z⟩]
    concatenates_S4x4096x24x128_S4x4096x24x32_S4x4096x24x32_S4x4096x24x64_S4x4096x24x256_d3 _ 3 (show 3 < 4 by decide) S4x4096x24x64 _ rfl rfl 192 rfl (ix4 b s h e) (fun c hc => ?_) el.symm
  match c with
  | ⟨0, _⟩ => rfl
  | ⟨1, _⟩ => rfl
  | ⟨2, _⟩ => rfl
  | ⟨3, _⟩ => exact absurd rfl hc

end

/-- The result at an index. -/
theorem outR_apply (v : FVec Ideal S4x4096x24x256 .f32) (i : Fin 6144) (r : Fin 16384) (b : Fin 4) (s : Fin 4096) (h : Fin 24) (l : Fin 256)
    (er : r.val = 4096 * b.val + s.val) (ei : i.val = 256 * h.val + l.val) : outR v (ix2 i r) = (v (ix4 b s h l) : EReal) * sc := by
  refine (shapeCast_apply _ _ _ (ix4 h l b s) ?_).trans ((transpose_apply _ _ _ _ (ix4 b s h l) fun c => ?_).trans ?_)
  · refine (rowMajor_val4 _ (256 * (4 * 4096)) (4 * 4096) 4096 rfl rfl rfl).trans ((?_ : _ = _).trans (rowMajor_val2 _ 16384 rfl).symm)
    show h.val * (256 * (4 * 4096)) + l.val * (4 * 4096) + b.val * 4096 + s.val = i.val * 16384 + r.val
    omega
  · match c with
    | ⟨0, _⟩ => rfl
    | ⟨1, _⟩ => rfl
    | ⟨2, _⟩ => rfl
    | ⟨3, _⟩ => rfl
  · exact congrArg (fun a : EReal => v (ix4 b s h l) * a) (broadcastInDim_scalar_apply _ _ _)

/-- The rotated queries times the scale are the queries. -/
theorem turnR_apply (b : Fin 4) (s : Fin 4096) (h : Fin 24) (l : Fin 256) (r : Fin 16384) (er : r.val = 4096 * b.val + s.val) :
    (turnR (prodR A0 A1 A2) (angleR A3) (ix4 b s h l) : EReal) * sc = query A0 A1 A2 A3 h l r := by
  have eC : ∀ e : Fin 32, headsR (Host.cos (angleR A3)) (ix4 b s h e) = Ideal.cos (angle A3 r e) := fun e =>
    (headsR_apply _ b s h e).trans (congrArg Ideal.cos (angleR_apply A3 b s e r er))
  have eS : ∀ e : Fin 32, headsR (Host.sin (angleR A3)) (ix4 b s h e) = Ideal.sin (angle A3 r e) := fun e =>
    (headsR_apply _ b s h e).trans (congrArg Ideal.sin (angleR_apply A3 b s e r er))
  unfold turnR query
  by_cases l0 : l.val < 128
  · rw [dif_pos l0]
    refine congrArg (fun a : EReal => a * sc) ((joinR_plain b s h _ _ _ _ l ⟨l.val, l0⟩ (Nat.zero_add _).symm).trans ((plainR_apply _ b s h _).trans ?_))
    exact prodR_apply A0 A1 A2 b s h _ r er _ rfl
  · rw [dif_neg l0]
    by_cases l1 : l.val < 160
    · rw [dif_pos l1]
      refine congrArg (fun a : EReal => a * sc) ((joinR_one b s h _ _ _ _ l ⟨l.val - 128, by omega⟩ (by show l.val = 128 + (l.val - 128); omega)).trans ?_)
      refine congrArg₂ (fun a b : EReal => a - b) (congrArg₂ (fun a b : EReal => a * b) ?_ (eC _)) (congrArg₂ (fun a b : EReal => a * b) ?_ (eS _))
      · exact (oneR_apply _ b s h _).trans (prodR_apply A0 A1 A2 b s h _ r er _ (by show 192 * h.val + l.val = 192 * h.val + (128 + (l.val - 128)); omega))
      · exact (twoR_apply _ b s h _).trans (prodR_apply A0 A1 A2 b s h _ r er _ (by show 192 * h.val + l.val + 32 = 192 * h.val + (160 + (l.val - 128)); omega))
    · rw [dif_neg l1]
      by_cases l2 : l.val < 192
      · rw [dif_pos l2]
        refine congrArg (fun a : EReal => a * sc) ((joinR_two b s h _ _ _ _ l ⟨l.val - 160, by omega⟩ (by show l.val = 160 + (l.val - 160); omega)).trans ?_)
        refine congrArg₂ (fun a b : EReal => a + b) (congrArg₂ (fun a b : EReal => a * b) ?_ (eC _)) (congrArg₂ (fun a b : EReal => a * b) ?_ (eS _))
        · exact (twoR_apply _ b s h _).trans (prodR_apply A0 A1 A2 b s h _ r er _ (by show 192 * h.val + l.val = 192 * h.val + (160 + (l.val - 160)); omega))
        · exact (oneR_apply _ b s h _).trans (prodR_apply A0 A1 A2 b s h _ r er _ (by show 192 * h.val + l.val - 32 = 192 * h.val + (128 + (l.val - 160)); omega))
      · rw [dif_neg l2]
        have e0 : (zerosR (ix4 b s h (⟨l.val - 192, by omega⟩ : Fin 64)) : EReal) = 0 := (broadcastInDim_scalar_apply _ _ _).trans Ideal.ofBits_zero_f32
        exact (congrArg (fun a : EReal => a * sc) ((joinR_zero b s h _ _ _ _ l ⟨l.val - 192, by omega⟩ (by show l.val = 192 + (l.val - 192); omega)).trans e0)).trans (zero_mul _)

/-- The reference's result is the queries. -/
theorem res_query : outR (turnR (prodR A0 A1 A2) (angleR A3)) = queryArr A0 A1 A2 A3 := by
  funext i
  obtain ⟨x, r, rfl⟩ : ∃ (x : Fin 6144) (r : Fin 16384), i = ix2 x r := ⟨i 0, i 1, funext fun a => by
    match a with
    | ⟨0, _⟩ => rfl
    | ⟨1, _⟩ => rfl⟩
  exact (outR_apply _ x r ⟨r.val / 4096, by omega⟩ ⟨r.val % 4096, by omega⟩ ⟨x.val / 256, by omega⟩ ⟨x.val % 256, by omega⟩
    (by show r.val = 4096 * (r.val / 4096) + r.val % 4096; omega) (by show x.val = 256 * (x.val / 256) + x.val % 256; omega)).trans
    (turnR_apply A0 A1 A2 A3 _ _ _ _ r (by show r.val = 4096 * (r.val / 4096) + r.val % 4096; omega))

end

end Cert.Reference5Ideal.Query

end
-- ==== Proof.JoinQ5.lean ====
/- The queries of the latent attention: frames, and equal results. -/
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Value
public import proofs.«01_k».proof.Proof.Gen.Reference5Ideal.Run
public import proofs.«01_k».proof.Proof.Q5Ref

@[expose] public section

noncomputable section

namespace Cert.Proof.Query

open Idealize.ShloMosaic Idealize.ShloMosaic.TcCoe Idealize.SL.Sem

/-- The kernel leaves its arguments as they were. -/
theorem frame_kernel : @Cert.quiescent_Kernel5 Cert.Kernel5.Gen.facts := fun m ρ _ => Cert.Kernel5.Gen.frame m ρ

/-- The idealized kernel leaves its arguments as they were. -/
theorem frame_ideal : @Cert.quiescent_Kernel5Ideal Cert.Kernel5Ideal.Gen.facts := fun m ρ _ => Cert.Kernel5Ideal.Gen.frame m ρ

/-- The reference leaves its arguments as they were. -/
theorem frame_reference : @Cert.quiescent_Reference5Ideal Cert.Reference5Ideal.Gen.facts := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The kernel and the reference end with the same queries. -/
theorem algebraic : @Cert.algebraic_Kernel5Ideal_Reference5Ideal Cert.Kernel5Ideal.Gen.facts Cert.Reference5Ideal.Gen.facts :=
  fun m ρ m' ρ' _ hag => ⟨fun c => Cert.Kernel5Ideal.Query.queryArr (Cert.Kernel5Ideal.Query.a0 m c) (Cert.Kernel5Ideal.Query.a1 m c) (Cert.Kernel5Ideal.Query.a2 m c) (Cert.Kernel5Ideal.Query.a3 m c),
    (θ_run Cert.Kernel5Ideal.defs _ _).mono (fun r h c => ⟨(h c).1.trans (Cert.Kernel5Ideal.Query.array5 m c), (h c).2⟩)
      (Cert.Kernel5Ideal.Value.run_blocks (F := Ideal) m ρ),
    (θ_run Cert.Reference5Ideal.defs _ _).mono (fun r h c => ⟨(h c).1.trans ((Cert.Reference5Ideal.Query.res_stages m' c).trans (by
        obtain ⟨e0, e1, e2, e3⟩ := hag c
        rw [e0, e1, e2, e3]
        exact Cert.Reference5Ideal.Query.res_query _ _ _ _)), (h c).2⟩)
      (Cert.Reference5Ideal.Value.run (F := Ideal) m' ρ')⟩

end Cert.Proof.Query

end
-- ==== Proof.Mem.lean ====
/- The keys and values of the memory: the normalised rows of the memory times each layer's weights. -/
module

public import proofs.«01_k».proof.Proof.Gen.Kernel6Ideal.Value
public import Idealize.ShloMosaic.Lib.ValueLayout
public import Idealize.ShloMosaic.Lib.ValueLayoutCasts
public import Idealize.ShloMosaic.Lib.IdealHost
public import Idealize.ShloMosaic.Lib.MatmulPlain
public import Idealize.ShloMosaic.Lib.Pointwise.Reduce
public import Idealize.ShloMosaic.Lib.Pipeline.ValueKit.Acc
public import Idealize.ShloMosaic.Lib.Pipeline.ValueKit.Held
public import Idealize.ShloMosaic.Lib.Pipeline.ValueKit.Geometry
public import Idealize.ShloMosaic.Lib.Pipeline.ReadBack

@[expose] public section

set_option maxRecDepth 16384

noncomputable section

namespace Cert.Kernel6Ideal.Memory

open Cert.Kernel6Ideal Cert.Kernel6Ideal.Gen Idealize.ShloMosaic.TcCoe Idealize.ShloMosaic.ValueIdx
open Idealize.ShloMosaic hiding ix0 ix1 ix2 ix3 ix4

section
variable (A0 : FVec Ideal S4x256x4096 .f32) (A1 : FVec Ideal S4x4096 .f32) (A2 : FVec Ideal S4x4096x2048 .f32)

/-- The memory as rows. -/
def flat : FVec Ideal S1024x4096 .f32 := shapeCast S1024x4096 A0 shapeCasts_S4x256x4096_S1024x4096
/-- The factor that normalises a row. -/
def factor (r : Fin 1024) : EReal :=
  Ideal.rsqrt (Ideal.div (∑ k : Fin 4096, (flat A0 (ix2 r k) : EReal) * flat A0 (ix2 r k)) (Ideal.ofBits .f32 0x45800000#32) + Ideal.ofBits .f32 0x358637BD#32)
/-- A row normalised for a layer. -/
def normed (l : Fin 4) (r : Fin 1024) (k : Fin 4096) : EReal := flat A0 (ix2 r k) * factor A0 r * A1 (ix2 l k)
/-- A row's key or value in a layer. -/
def entry (l : Fin 4) (r : Fin 1024) (e : Fin 2048) : EReal := ∑ k : Fin 4096, normed A0 A1 l r k * A2 (ix3 l k e)
/-- The keys and values of all layers. -/
def memArr : FVec Ideal S4x1024x2048 .bf16 := fun i =>
  entry A0 A1 A2 (⟨(i 0).val, (i 0).isLt⟩ : Fin 4) (⟨(i 1).val, (i 1).isLt⟩ : Fin 1024) (⟨(i 2).val, (i 2).isLt⟩ : Fin 2048)

end

section
variable (v3 : Vec Ideal S512x4096 .bf16) (v4 : Vec Ideal S1x4096x1024 .bf16) (v11 : Vec Ideal S512x4096 .f32) (v13 : Vec Ideal S1x1x4096 .f32)

/-- A grid point's products at an index. -/
theorem dot_apply (r : Fin 512) (e : Fin 1024) : k0_pay2 v3 v4 (ix3 (0 : Fin 1) r e) = ∑ k : Fin 4096, (v3 (ix2 r k) : EReal) * v4 (ix3 (0 : Fin 1) k e) := by
  unfold k0_pay2
  refine (shapeCast_ab_1ab_apply _ _ _ _ _).trans ((Ideal.matmul_plain_apply (M := 512) (K := 4096) (N := 1024) (φ₁ := .bf16) (φ₂ := .bf16) none v3 _ _ r e).trans ?_)
  have hz : (constant (F := Ideal) S512x1024 .f32 0x00000000#32 (ix2 r e) : EReal) = 0 := Ideal.ofBits_zero_f32
  refine (congrArg₂ (fun a b : EReal => a + b) hz rfl).trans ((zero_add _).trans ?_)
  exact Finset.sum_congr rfl fun k _ => congrArg (fun a : EReal => v3 (ix2 r k) * a) (shapeCast_1ab_ab_apply _ _ _ _)

/-- The normalised rows of a block, at an index. -/
theorem norm_apply (r : Fin 512) (k : Fin 4096) :
    k0_pay1 v11 v13 (ix2 r k) = (v11 (ix2 r k) : EReal)
      * Ideal.rsqrt (Ideal.div (∑ j : Fin 4096, (v11 (ix2 r j) : EReal) * v11 (ix2 r j)) (Ideal.ofBits .f32 0x45800000#32) + Ideal.ofBits .f32 0x358637BD#32)
      * v13 (ix3 (0 : Fin 1) (0 : Fin 1) k) := by
  have h12 : ∀ j : Fin 4096, (shapeCast S512x4096 v11 shapeCasts_S512x4096_S512x4096 : FVec Ideal S512x4096 .f32) (ix2 r j) = v11 (ix2 r j) := fun j => shapeCast_apply _ _ _ _ rfl
  unfold k0_pay1
  refine (shapeCast_apply _ _ _ (ix2 r k) rfl).trans ?_
  refine congrArg₂ (fun a b : EReal => a * b) (congrArg₂ (fun a b : EReal => a * b) (h12 k) ?_) ?_
  · refine (broadcastTo_apply _ _ _ (ix2 r (0 : Fin 1)) fun a => ?_).trans ?_
    · match a with
      | ⟨0, _⟩ => rfl
      | ⟨1, _⟩ => rfl
    · refine congrArg (fun s : EReal => Ideal.rsqrt (Ideal.div s (Ideal.ofBits .f32 0x45800000#32) + Ideal.ofBits .f32 0x358637BD#32)) ?_
      refine (shapeCast_a_a1_apply _ _ _ _).trans ((multiReduction_add_apply _ _ _ _ _ _).trans ?_)
      refine (Ideal.reduceAdd_r2_a1 reduces_S512x4096_S512 _ _).trans ?_
      exact Finset.sum_congr rfl fun j _ => congrArg₂ (fun a b : EReal => a * b) (h12 j) (h12 j)
  · refine (broadcastTo_apply _ _ _ (ix2 (0 : Fin 1) k) fun a => ?_).trans (shapeCast_1ab_ab_apply _ _ _ _)
    match a with
    | ⟨0, _⟩ => rfl
    | ⟨1, _⟩ => rfl

end

section
variable (m : (ℓ : Loc nD τ sig) → Buf (Elt Ideal) ℓ) (c : Dev nD)

/-- The arguments. -/
abbrev a0 : FVec Ideal S4x256x4096 .f32 := m ((c : Thread nD τ).loc main_arg0)
abbrev a1 : FVec Ideal S4x4096 .f32 := m ((c : Thread nD τ).loc main_arg1)
abbrev a2 : FVec Ideal S4x4096x2048 .f32 := m ((c : Thread nD τ).loc main_arg2)

/-- The host leaves the memory as rows. -/
theorem entryX : V m c main_v0 = flat (a0 m c) := rfl
/-- The host leaves the weights. -/
theorem entryW : V m c main_v1 = a2 m c := rfl
/-- The host leaves the layers' factors. -/
theorem entryG : V m c main_v2 = broadcastInDim S4x1x4096 ![0, 2] bcast_S4x4096_S4x1x4096_0_2 (a1 m c) := rfl

/-- The scratch after a grid point. -/
abbrev held (t : Fin cfg0.N) : Vec Ideal S512x4096 .bf16 := (outsAt0 m c t.val t.isLt).2

/-- The first point of a block of rows normalises them into the scratch. -/
theorem held_first (t : Fin cfg0.N) (h0 : t.val % 2 = 0) : held m c t = k0_pay1 (iblk m c 0 t) (iblk m c 1 t) := by
  unfold held
  rw [outsAt0_A m c t h0]
  frame_out

/-- The second point keeps the scratch. -/
theorem held_next (t : Fin cfg0.N) (h0 : ¬t.val % 2 = 0) : held m c t = (outsAt0 m c (t.val - 1) (Nat.lt_of_le_of_lt (Nat.sub_le _ _) t.isLt)).2 := by
  unfold held
  rw [outsAt0_B m c t h0]
  frame_out
  rfl

/-- The scratch holds the normalised rows of the block. -/
theorem held_apply (t : Fin cfg0.N) (i : S512x4096.Idx) :
    held m c t i = k0_pay1 (iblk m c 0 ⟨2 * (t.val / 2), Pipeline.run_start_lt t⟩) (iblk m c 1 ⟨2 * (t.val / 2), Pipeline.run_start_lt t⟩) i :=
  Pipeline.eq_of_write_hold_apply (fun n h => (outsAt0 m c n h).2) 2 (fun t => k0_pay1 (iblk m c 0 t) (iblk m c 1 t))
    (fun t h i => congrFun (held_first m c t h) i) (fun t h i => congrFun (held_next m c t h) i) t i

/-- A grid point leaves its products. -/
theorem outs3 (t : Fin cfg0.N) : (outsAt0 m c t.val t.isLt).1 = k0_pay2 (held m c t) (iblk m c 2 t) := by
  by_cases h0 : t.val % 2 = 0
  · rw [held_first m c t h0, outsAt0_A m c t h0]
    frame_out
  · rw [held_next m c t h0, outsAt0_B m c t h0]
    frame_out
    simp only [read_unread_whole]

end

end Cert.Kernel6Ideal.Memory

end
-- ==== Proof.MemArr.lean ====
/- The keys and values of the memory: the blocks a grid point reads, and the array that the blocks make. -/
module

public import proofs.«01_k».proof.Proof.Mem

@[expose] public section

set_option maxRecDepth 16384

noncomputable section

namespace Cert.Kernel6Ideal.Memory

open Cert.Kernel6Ideal Cert.Kernel6Ideal.Gen Idealize.ShloMosaic.TcCoe Idealize.ShloMosaic.ValueIdx
open Idealize.ShloMosaic hiding ix0 ix1 ix2 ix3 ix4

/-- The layer of a grid point. -/
def pL (t : Fin cfg0.N) : ℕ := t.val / 4
/-- The block of rows of a grid point. -/
def pI (t : Fin cfg0.N) : ℕ := t.val / 2 % 2
/-- The block of columns of a grid point. -/
def pJ (t : Fin cfg0.N) : ℕ := t.val % 2
/-- There are four layers. -/
theorem pL_lt (t : Fin cfg0.N) : pL t < 4 := by
  have h : t.val < 16 := lt_of_lt_of_eq t.isLt N_0
  unfold pL
  omega
/-- There are two blocks of rows. -/
theorem pI_lt (t : Fin cfg0.N) : pI t < 2 := Nat.mod_lt _ (by decide)
/-- There are two blocks of columns. -/
theorem pJ_lt (t : Fin cfg0.N) : pJ t < 2 := Nat.mod_lt _ (by decide)

/-- Where each window's block lies at a grid point. -/
theorem at0 : ∀ t : Fin cfg0.N, win0_0.index t = ![pI t, 0] :=
  (by decide +kernel : ∀ t : Fin grid0.N, win0_0.index t = ![t.val / 2 % 2, 0])
theorem at1 : ∀ t : Fin cfg0.N, win0_1.index t = ![pL t, 0, 0] :=
  (by decide +kernel : ∀ t : Fin grid0.N, win0_1.index t = ![t.val / 4, 0, 0])
theorem at2 : ∀ t : Fin cfg0.N, win0_2.index t = ![pL t, 0, pJ t] :=
  (by decide +kernel : ∀ t : Fin grid0.N, win0_2.index t = ![t.val / 4, 0, t.val % 2])
theorem at3 : ∀ t : Fin cfg0.N, win0_3.index t = ![pL t, pI t, pJ t] :=
  (by decide +kernel : ∀ t : Fin grid0.N, win0_3.index t = ![t.val / 4, t.val / 2 % 2, t.val % 2])

section
variable (m : (ℓ : Loc nD τ sig) → Buf (Elt Ideal) ℓ) (c : Dev nD) (t : Fin cfg0.N)

/-- The block of the memory's rows at an index. -/
theorem blk0 (r : Fin 512) (r' : Fin 1024) (e : r'.val = 512 * pI t + r.val) (k : Fin 4096) : iblk m c 0 t (ix2 r k) = flat (a0 m c) (ix2 r' k) := by
  refine Eq.trans (b := V m c main_v0 (ix2 r' k)) (congrArg (V m c main_v0) (funext fun a => Fin.ext ?_)) (congrFun (entryX m c) _)
  match a with
  | ⟨0, _⟩ =>
    refine Eq.trans (b := win0_0.index t 0 * 512 + r.val) (by blk_simp <;> rfl) ?_
    rw [at0]
    show pI t * 512 + r.val = r'.val
    omega
  | ⟨1, _⟩ =>
    refine Eq.trans (b := win0_0.index t 1 * 4096 + k.val) (by blk_simp <;> rfl) ?_
    rw [at0]
    show 0 * 4096 + k.val = k.val
    omega

/-- The block of a layer's factors at an index. -/
theorem blk1 (l : Fin 4) (e : l.val = pL t) (k : Fin 4096) : iblk m c 1 t (ix3 (0 : Fin 1) (0 : Fin 1) k) = a1 m c (ix2 l k) := by
  refine Eq.trans (b := V m c main_v2 (ix3 l (0 : Fin 1) k)) (congrArg (V m c main_v2) (funext fun a => Fin.ext ?_))
    ((congrFun (entryG m c) _).trans (broadcastInDim_apply _ _ _ _ (ix2 l k) fun a => ?_))
  · match a with
    | ⟨0, _⟩ =>
      refine Eq.trans (b := win0_1.index t 0 * 1 + 0) (by blk_simp <;> rfl) ?_
      rw [at1]
      show pL t * 1 + 0 = l.val
      omega
    | ⟨1, _⟩ =>
      refine Eq.trans (b := win0_1.index t 1 * 1 + 0) (by blk_simp <;> rfl) ?_
      rw [at1]
      rfl
    | ⟨2, _⟩ =>
      refine Eq.trans (b := win0_1.index t 2 * 4096 + k.val) (by blk_simp <;> rfl) ?_
      rw [at1]
      show 0 * 4096 + k.val = k.val
      omega
  · match a with
    | ⟨0, _⟩ => rfl
    | ⟨1, _⟩ => rfl

/-- The block of a layer's weights at an index. -/
theorem blk2 (l : Fin 4) (el : l.val = pL t) (k : Fin 4096) (j : Fin 1024) (j' : Fin 2048) (ej : j'.val = 1024 * pJ t + j.val) :
    iblk m c 2 t (ix3 (0 : Fin 1) k j) = a2 m c (ix3 l k j') := by
  refine Eq.trans (b := V m c main_v1 (ix3 l k j')) (congrArg (V m c main_v1) (funext fun a => Fin.ext ?_)) (congrFun (entryW m c) _)
  match a with
  | ⟨0, _⟩ =>
    refine Eq.trans (b := win0_2.index t 0 * 1 + 0) (by blk_simp <;> rfl) ?_
    rw [at2]
    show pL t * 1 + 0 = l.val
    omega
  | ⟨1, _⟩ =>
    refine Eq.trans (b := win0_2.index t 1 * 4096 + k.val) (by blk_simp <;> rfl) ?_
    rw [at2]
    show 0 * 4096 + k.val = k.val
    omega
  | ⟨2, _⟩ =>
    refine Eq.trans (b := win0_2.index t 2 * 1024 + j.val) (by blk_simp <;> rfl) ?_
    rw [at2]
    show pJ t * 1024 + j.val = j'.val
    omega

/-- Where the block of the result lies, at an index. -/
theorem emb3 (r : Fin 512) (j : Fin 1024) (l : Fin 4) (r' : Fin 1024) (j' : Fin 2048) (el : l.val = pL t) (er : r'.val = 512 * pI t + r.val)
    (ej : j'.val = 1024 * pJ t + j.val) : ((cfg0.win 3).blk t).view.emb (ix3 (0 : Fin 1) r j) = ix3 l r' j' := by
  refine funext fun a => Fin.ext ?_
  match a with
  | ⟨0, _⟩ =>
    refine Eq.trans (b := win0_3.index t 0 * 1 + 0) (by blk_simp <;> rfl) ?_
    rw [at3]
    show pL t * 1 + 0 = l.val
    omega
  | ⟨1, _⟩ =>
    refine Eq.trans (b := win0_3.index t 1 * 512 + r.val) (by blk_simp <;> rfl) ?_
    rw [at3]
    show pI t * 512 + r.val = r'.val
    omega
  | ⟨2, _⟩ =>
    refine Eq.trans (b := win0_3.index t 2 * 1024 + j.val) (by blk_simp <;> rfl) ?_
    rw [at3]
    show pJ t * 1024 + j.val = j'.val
    omega

/-- The scratch's rows are the normalised rows. -/
theorem held_norm (r : Fin 512) (l : Fin 4) (r' : Fin 1024) (el : l.val = pL t) (er : r'.val = 512 * pI t + r.val) (k : Fin 4096) :
    held m c t (ix2 r k) = normed (a0 m c) (a1 m c) l r' k := by
  have er' : r'.val = 512 * pI ⟨2 * (t.val / 2), Pipeline.run_start_lt t⟩ + r.val := by
    refine er.trans ?_
    show 512 * (t.val / 2 % 2) + r.val = 512 * (2 * (t.val / 2) / 2 % 2) + r.val
    omega
  have el' : l.val = pL ⟨2 * (t.val / 2), Pipeline.run_start_lt t⟩ := by
    refine el.trans ?_
    show t.val / 4 = 2 * (t.val / 2) / 4
    omega
  refine (held_apply m c t _).trans ((norm_apply _ _ r k).trans ?_)
  unfold normed factor
  refine congrArg₂ (fun a b : EReal => a * b) (congrArg₂ (fun a b : EReal => a * b) (blk0 m c _ r r' er' k) ?_) (blk1 m c _ l el' k)
  refine congrArg (fun s : EReal => Ideal.rsqrt (Ideal.div s (Ideal.ofBits .f32 0x45800000#32) + Ideal.ofBits .f32 0x358637BD#32)) ?_
  exact Finset.sum_congr rfl fun j _ => congrArg₂ (fun a b : EReal => a * b) (blk0 m c _ r r' er' j) (blk0 m c _ r r' er' j)

/-- A grid point's products are the keys and values. -/
theorem out_entry (r : Fin 512) (j : Fin 1024) (l : Fin 4) (r' : Fin 1024) (j' : Fin 2048) (el : l.val = pL t) (er : r'.val = 512 * pI t + r.val)
    (ej : j'.val = 1024 * pJ t + j.val) : k0_pay2 (held m c t) (iblk m c 2 t) (ix3 (0 : Fin 1) r j) = entry (a0 m c) (a1 m c) (a2 m c) l r' j' := by
  refine (dot_apply _ _ r j).trans ?_
  unfold entry
  exact Finset.sum_congr rfl fun k _ => congrArg₂ (fun a b : EReal => a * b) (held_norm m c t r l r' el er k) (blk2 m c t l el k j j' ej)

/-- The result array is the keys and values. -/
theorem array3 : (dats m 0 c).arrAt 3 cfg0.N = memArr (a0 m c) (a1 m c) (a2 m c) := by
  refine (dats m 0 c).arrAt_eq_of_covers 3 _ (by decide +kernel) fun t hf y => ?_
  have hl := pL_lt t; have hi := pI_lt t; have hj := pJ_lt t
  have y1 : (y 1).val < 512 := (y 1).isLt
  have y2 : (y 2).val < 1024 := (y 2).isLt
  have y0 : (y 0).val < 1 := (y 0).isLt
  have ey : y = ix3 (0 : Fin 1) (⟨(y 1).val, y1⟩ : Fin 512) (⟨(y 2).val, y2⟩ : Fin 1024) := funext fun a => by
    match a with
    | ⟨0, _⟩ => exact Fin.ext (Nat.lt_one_iff.mp y0)
    | ⟨1, _⟩ => rfl
    | ⟨2, _⟩ => rfl
  refine Eq.trans (b := k0_pay2 (held m c t) (iblk m c 2 t) (ix3 (0 : Fin 1) (⟨(y 1).val, y1⟩ : Fin 512) (⟨(y 2).val, y2⟩ : Fin 1024)))
    ((congrFun ((after0_3 m c t).trans (outs3 m c t)) _).trans (congrArg (k0_pay2 (held m c t) (iblk m c 2 t)) ey)) ?_
  refine (out_entry m c t _ _ ⟨pL t, hl⟩ ⟨512 * pI t + (y 1).val, by omega⟩ ⟨1024 * pJ t + (y 2).val, by omega⟩ rfl rfl rfl).trans ?_
  exact (congrArg (memArr (a0 m c) (a1 m c) (a2 m c))
      ((congrArg ((cfg0.win 3).blk t).view.emb ey).trans (emb3 t _ _ ⟨pL t, hl⟩ ⟨512 * pI t + (y 1).val, by omega⟩ ⟨1024 * pJ t + (y 2).val, by omega⟩ rfl rfl rfl))).symm

end

end Cert.Kernel6Ideal.Memory

end
-- ==== Proof.MemRef.lean ====
/- The keys and values of the memory: the result of the reference. -/
module

public import proofs.«01_k».proof.Proof.MemArr
public import proofs.«01_k».proof.Proof.Gen.Reference6Ideal.Run

@[expose] public section

set_option maxRecDepth 16384

noncomputable section

namespace Cert.Reference6Ideal.Memory

open Cert.Reference6Ideal Cert.Reference6Ideal.Gen Idealize.ShloMosaic.TcCoe Idealize.ShloMosaic.ValueIdx
open Idealize.ShloMosaic hiding ix0 ix1 ix2 ix3 ix4
open Cert.Kernel6Ideal.Memory (flat factor normed entry memArr)

section
variable (A0 : FVec Ideal S4x256x4096 .f32) (A1 : FVec Ideal S4x4096 .f32) (A2 : FVec Ideal S4x4096x2048 .f32)

/-- The memory as rows. -/
def rowsR : FVec Ideal S1024x4096 .f32 := shapeCast S1024x4096 A0 shapeCasts_S4x256x4096_S1024x4096
/-- The factors that normalise them. -/
def factorR : FVec Ideal S1024x1 .f32 :=
  Host.rsqrt (addf (Host.divf (broadcastInDim S1024x1 ![0] bcast_S1024_S1024x1_0 (Host.reduceAdd (mulf (rowsR A0) (rowsR A0)) (constant S_ .f32 0x00000000#32) reducesTo_S1024x4096_S1024_d1 h_S_))
    (broadcastInDim S1024x1 ![] bcast_S_S1024x1 (constant S_ .f32 0x45800000#32))) (broadcastInDim S1024x1 ![] bcast_S_S1024x1 (constant S_ .f32 0x358637BD#32)))
/-- The rows normalised for every layer. -/
def normR : FVec Ideal S4x1024x4096 .f32 :=
  mulf (broadcastInDim S4x1024x4096 ![0, 1, 2] bcast_S1x1024x4096_S4x1024x4096_0_1_2 (broadcastInDim S1x1024x4096 ![1, 2] bcast_S1024x4096_S1x1024x4096_1_2
      (mulf (rowsR A0) (broadcastInDim S1024x4096 ![0, 1] bcast_S1024x1_S1024x4096_0_1 (factorR A0)))))
    (broadcastInDim S4x1024x4096 ![0, 1, 2] bcast_S4x1x4096_S4x1024x4096_0_1_2 (broadcastInDim S4x1x4096 ![0, 2] bcast_S4x4096_S4x1x4096_0_2 A1))
/-- The result. -/
def outR : FVec Ideal S4x1024x2048 .bf16 :=
  truncf .bf16 (Host.dotGeneral dot_S4x1024x4096_S4x4096x2048_S4x1024x2048_2_1_1_2_0_0 none (normR A0 A1) A2 : FVec Ideal S4x1024x2048 .f32) bitsLt_bf16_f32

/-- A row's factor at an index. -/
theorem factorR_apply (r : Fin 1024) : factorR A0 (ix2 r (0 : Fin 1)) = factor A0 r := by
  unfold factorR factor
  refine congrArg Ideal.rsqrt (congrArg₂ (fun a b : EReal => a + b) (congrArg₂ (fun a b : EReal => Ideal.div a b) ?_ (broadcastInDim_scalar_apply _ _ _)) (broadcastInDim_scalar_apply _ _ _))
  refine (broadcastInDim_apply _ _ _ _ (ix1 r) fun a => ?_).trans ?_
  · match a with
    | ⟨0, _⟩ => rfl
  · refine (Host.reduceAdd_apply _ _ _ _ _).trans ((Ideal.hostReduceAdd_r2_a1 reducesTo_S1024x4096_S1024_d1 _ _ _).trans ?_)
    exact (congrArg (fun a : EReal => a + _) Ideal.ofBits_zero_f32).trans (zero_add _)

/-- A normalised row at an index. -/
theorem normR_apply (l : Fin 4) (r : Fin 1024) (k : Fin 4096) : normR A0 A1 (ix3 l r k) = normed A0 A1 l r k := by
  unfold normR normed
  refine congrArg₂ (fun a b : EReal => a * b) ?_ ?_
  · refine (broadcastInDim_apply _ _ _ _ (ix3 (0 : Fin 1) r k) fun a => ?_).trans ((broadcastInDim_apply _ _ _ _ (ix2 r k) fun a => ?_).trans ?_)
    · match a with
      | ⟨0, _⟩ => rfl
      | ⟨1, _⟩ => rfl
      | ⟨2, _⟩ => rfl
    · match a with
      | ⟨0, _⟩ => rfl
      | ⟨1, _⟩ => rfl
    · refine congrArg (fun a : EReal => flat A0 (ix2 r k) * a) ((broadcastInDim_apply _ _ _ _ (ix2 r (0 : Fin 1)) fun a => ?_).trans (factorR_apply A0 r))
      match a with
      | ⟨0, _⟩ => rfl
      | ⟨1, _⟩ => rfl
  · refine (broadcastInDim_apply _ _ _ _ (ix3 l (0 : Fin 1) k) fun a => ?_).trans (broadcastInDim_apply _ _ _ _ (ix2 l k) fun a => ?_)
    · match a with
      | ⟨0, _⟩ => rfl
      | ⟨1, _⟩ => rfl
      | ⟨2, _⟩ => rfl
    · match a with
      | ⟨0, _⟩ => rfl
      | ⟨1, _⟩ => rfl

/-- The product of every layer's rows and weights at an index. -/
theorem dot_apply (x : FVec Ideal S4x1024x4096 .f32) (w : FVec Ideal S4x4096x2048 .f32) (l : Fin 4) (r : Fin 1024) (j : Fin 2048) :
    (Host.dotGeneral dot_S4x1024x4096_S4x4096x2048_S4x1024x2048_2_1_1_2_0_0 none x w : FVec Ideal S4x1024x2048 .f32) (ix3 l r j)
      = ∑ k : Fin 4096, (x (ix3 l r k) : EReal) * w (ix3 l k j) := by
  refine (Ideal.dotGeneral_apply _ _ _ _ _ _).trans ?_
  have hr : (dot_S4x1024x4096_S4x4096x2048_S4x1024x2048_2_1_1_2_0_0).contr.rank = 1 := rfl
  have hs : (dot_S4x1024x4096_S4x4096x2048_S4x1024x2048_2_1_1_2_0_0).contr.size ⟨0, by omega⟩ = 4096 := rfl
  rw [← Equiv.sum_comp (contrEquiv1 _ 4096 hr hs).symm]
  refine Finset.sum_congr rfl fun k _ => ?_
  have hk := contrEquiv1_symm_val _ 4096 hr hs k
  refine congrArg₂ (fun a b : EReal => a * b) (congrArg x (funext fun a => Fin.ext ?_)) (congrArg w (funext fun a => Fin.ext ?_))
  · match a with
    | ⟨0, _⟩ => rfl
    | ⟨1, _⟩ => rfl
    | ⟨2, _⟩ => exact hk
  · match a with
    | ⟨0, _⟩ => rfl
    | ⟨1, _⟩ => exact hk
    | ⟨2, _⟩ => rfl

/-- The reference's result is the keys and values. -/
theorem res_mem : outR A0 A1 A2 = memArr A0 A1 A2 := by
  funext i
  obtain ⟨l, r, j, rfl⟩ : ∃ (l : Fin 4) (r : Fin 1024) (j : Fin 2048), i = ix3 l r j := ⟨i 0, i 1, i 2, funext fun a => by
    match a with
    | ⟨0, _⟩ => rfl
    | ⟨1, _⟩ => rfl
    | ⟨2, _⟩ => rfl⟩
  exact (dot_apply _ _ l r j).trans (Finset.sum_congr rfl fun k _ => congrArg (fun a : EReal => a * A2 (ix3 l k j)) (normR_apply A0 A1 l r k))

end

end Cert.Reference6Ideal.Memory

end
-- ==== Proof.JoinMem.lean ====
/- The keys and values of the memory: frames, and equal results. -/
module

public import proofs.«01_k».proof.Defs
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel6Ideal.Value
public import proofs.«01_k».proof.Proof.Gen.Reference6Ideal.Run
public import proofs.«01_k».proof.Proof.MemRef

@[expose] public section

noncomputable section

namespace Cert.Proof.Memory

open Idealize.ShloMosaic Idealize.ShloMosaic.TcCoe Idealize.SL.Sem

/-- The kernel leaves its arguments as they were. -/
theorem frame_kernel : @Cert.quiescent_Kernel6 Cert.Kernel6.Gen.facts := fun m ρ _ => Cert.Kernel6.Gen.frame m ρ

/-- The idealized kernel leaves its arguments as they were. -/
theorem frame_ideal : @Cert.quiescent_Kernel6Ideal Cert.Kernel6Ideal.Gen.facts := fun m ρ _ => Cert.Kernel6Ideal.Gen.frame m ρ

/-- The reference leaves its arguments as they were. -/
theorem frame_reference : @Cert.quiescent_Reference6Ideal Cert.Reference6Ideal.Gen.facts := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The kernel and the reference end with the same keys and values. -/
theorem algebraic : @Cert.algebraic_Kernel6Ideal_Reference6Ideal Cert.Kernel6Ideal.Gen.facts Cert.Reference6Ideal.Gen.facts :=
  fun m ρ m' ρ' _ hag => ⟨fun c => Cert.Kernel6Ideal.Memory.memArr (Cert.Kernel6Ideal.Memory.a0 m c) (Cert.Kernel6Ideal.Memory.a1 m c) (Cert.Kernel6Ideal.Memory.a2 m c),
    (θ_run Cert.Kernel6Ideal.defs _ _).mono (fun r h c => ⟨(h c).1.trans (Cert.Kernel6Ideal.Memory.array3 m c), (h c).2⟩)
      (Cert.Kernel6Ideal.Value.run_blocks (F := Ideal) m ρ),
    (θ_run Cert.Reference6Ideal.defs _ _).mono (fun r h c => ⟨(h c).1.trans (by
        obtain ⟨e0, e1, e2⟩ := hag c
        rw [e0, e1, e2]
        exact Cert.Reference6Ideal.Memory.res_mem _ _ _), (h c).2⟩)
      (Cert.Reference6Ideal.Value.run (F := Ideal) m' ρ')⟩

end Cert.Proof.Memory

end
-- ==== Proof.Last.lean ====
/- The final norm: what a grid point computes, the array its blocks make, and the reference's result. -/
module

public import proofs.«01_k».proof.Proof.Eq.Scale
public import proofs.«01_k».proof.Proof.Gen.Kernel7Ideal.Value
public import proofs.«01_k».proof.Proof.Gen.Reference7Ideal.Run
public import Idealize.ShloMosaic.Lib.ValueLayout
public import Idealize.ShloMosaic.Lib.ValueLayoutCasts
public import Idealize.ShloMosaic.Lib.IdealHost
public import Idealize.ShloMosaic.Lib.MatmulPlain
public import Idealize.ShloMosaic.Lib.Pointwise.Reduce
public import Idealize.ShloMosaic.Lib.Pointwise.Reshape
public import Idealize.ShloMosaic.Lib.Pipeline.ValueKit.Acc
public import Idealize.ShloMosaic.Lib.Pipeline.ValueKit.Geometry

@[expose] public section

set_option maxRecDepth 16384

noncomputable section

namespace Cert.Kernel7Ideal.Last

open Cert.Kernel7Ideal Cert.Kernel7Ideal.Gen Idealize.ShloMosaic.TcCoe Idealize.ShloMosaic.ValueIdx
open Idealize.ShloMosaic hiding ix0 ix1 ix2 ix3 ix4

/-- An entry of the normalised stream. -/
def cell (x : FVec Ideal S16384x4096 .f32) (ss : FVec Ideal S16384x1 .f32) (g : FVec Ideal S4096 .f32) (r : Fin 16384) (k : Fin 4096) : EReal :=
  x (ix2 r k) * Ideal.rsqrt (Ideal.div (ss (ix2 r (0 : Fin 1))) (Ideal.ofBits .f32 0x45800000#32) + Ideal.ofBits .f32 0x358637BD#32) * g (ix1 k)
/-- The normalised stream. -/
def lastArr (x : FVec Ideal S16384x4096 .f32) (ss : FVec Ideal S16384x1 .f32) (g : FVec Ideal S4096 .f32) : FVec Ideal S16384x4096 .f32 := fun i =>
  cell x ss g (⟨(i 0).val, (i 0).isLt⟩ : Fin 16384) (⟨(i 1).val, (i 1).isLt⟩ : Fin 4096)

/-- A grid point's block at an index. -/
theorem pay_apply (v0 : Vec Ideal S256x4096 .f32) (v1 : Vec Ideal S256x1 .f32) (v9 : Vec Ideal S1x4096 .f32) (r : Fin 256) (k : Fin 4096) :
    k0_pay1 v0 v1 v9 (ix2 r k) = (v0 (ix2 r k) : EReal)
      * Ideal.rsqrt (Ideal.div (v1 (ix2 r (0 : Fin 1))) (Ideal.ofBits .f32 0x45800000#32) + Ideal.ofBits .f32 0x358637BD#32) * v9 (ix2 (0 : Fin 1) k) := by
  rw [Norm.div_dim]
  unfold k0_pay1
  refine congrArg₂ (fun a b : EReal => a * b) (congrArg (fun b : EReal => v0 (ix2 r k) * b) ?_) ?_
  · refine broadcastTo_apply _ _ _ (ix2 r (0 : Fin 1)) fun a => ?_
    match a with
    | ⟨0, _⟩ => rfl
    | ⟨1, _⟩ => rfl
  · refine (broadcastTo_apply _ _ _ (ix2 (0 : Fin 1) k) fun a => ?_).trans (shapeCast_apply _ _ _ _ rfl)
    match a with
    | ⟨0, _⟩ => rfl
    | ⟨1, _⟩ => rfl

/-- Where each window's block lies at a grid point. -/
theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![0, 0] := (by decide +kernel : ∀ t : Fin grid0.N, win0_2.index t = ![0, 0])
theorem at3 : ∀ t : Fin cfg0.N, win0_3.index t = ![t.val, 0] := (by decide +kernel : ∀ t : Fin grid0.N, win0_3.index t = ![t.val, 0])

section
variable (m : (ℓ : Loc nD τ sig) → Buf (Elt Ideal) ℓ) (c : Dev nD) (t : Fin cfg0.N)

/-- The arguments. -/
abbrev a0 : FVec Ideal S16384x4096 .f32 := m ((c : Thread nD τ).loc main_arg0)
abbrev a1 : FVec Ideal S16384x1 .f32 := m ((c : Thread nD τ).loc main_arg1)
abbrev a2 : FVec Ideal S4096 .f32 := m ((c : Thread nD τ).loc main_arg2)

/-- The host leaves the factors as one row. -/
theorem entryG : V m c main_v0 = shapeCast S1x4096 (a2 m c) shapeCasts_S4096_S1x4096 := rfl

/-- The block of the stream at an index. -/
theorem blk0 (r : Fin 256) (r' : Fin 16384) (e : r'.val = 256 * t.val + r.val) (k : Fin 4096) : iblk m c 0 t (ix2 r k) = a0 m c (ix2 r' k) := by
  refine congrArg (m ((c : Thread nD τ).loc main_arg0)) (funext fun a => Fin.ext ?_)
  match a with
  | ⟨0, _⟩ =>
    refine Eq.trans (b := win0_0.index t 0 * 256 + r.val) (by blk_simp <;> rfl) ?_
    rw [at0]
    show t.val * 256 + r.val = r'.val
    omega
  | ⟨1, _⟩ =>
    refine Eq.trans (b := win0_0.index t 1 * 4096 + k.val) (by blk_simp <;> rfl) ?_
    rw [at0]
    show 0 * 4096 + k.val = k.val
    omega

/-- The block of the sums of squares at an index. -/
theorem blk1 (r : Fin 256) (r' : Fin 16384) (e : r'.val = 256 * t.val + r.val) : iblk m c 1 t (ix2 r (0 : Fin 1)) = a1 m c (ix2 r' (0 : Fin 1)) := by
  refine congrArg (m ((c : Thread nD τ).loc main_arg1)) (funext fun a => Fin.ext ?_)
  match a with
  | ⟨0, _⟩ =>
    refine Eq.trans (b := win0_1.index t 0 * 256 + r.val) (by blk_simp <;> rfl) ?_
    rw [at1]
    show t.val * 256 + r.val = r'.val
    omega
  | ⟨1, _⟩ =>
    refine Eq.trans (b := win0_1.index t 1 * 1 + 0) (by blk_simp <;> rfl) ?_
    rw [at1]
    rfl

/-- The block of the factors at an index. -/
theorem blk2 (k : Fin 4096) : iblk m c 2 t (ix2 (0 : Fin 1) k) = a2 m c (ix1 k) := by
  refine Eq.trans (b := V m c main_v0 (ix2 (0 : Fin 1) k)) (congrArg (V m c main_v0) (funext fun a => Fin.ext ?_))
    ((congrFun (entryG m c) _).trans (shapeCast_apply _ _ _ (ix1 k) ?_))
  · match a with
    | ⟨0, _⟩ =>
      refine Eq.trans (b := win0_2.index t 0 * 1 + 0) (by blk_simp <;> rfl) ?_
      rw [at2]
      rfl
    | ⟨1, _⟩ =>
      refine Eq.trans (b := win0_2.index t 1 * 4096 + k.val) (by blk_simp <;> rfl) ?_
      rw [at2]
      show 0 * 4096 + k.val = k.val
      omega
  · refine (rowMajor_val1 _).trans ((?_ : _ = _).trans (rowMajor_val2 _ 4096 rfl).symm)
    show k.val = 0 * 4096 + k.val
    omega

/-- Where the block of the result lies, at an index. -/
theorem emb3 (r : Fin 256) (k : Fin 4096) (r' : Fin 16384) (e : r'.val = 256 * t.val + r.val) : ((cfg0.win 3).blk t).view.emb (ix2 r k) = ix2 r' k := by
  refine funext fun a => Fin.ext ?_
  match a with
  | ⟨0, _⟩ =>
    refine Eq.trans (b := win0_3.index t 0 * 256 + r.val) (by blk_simp <;> rfl) ?_
    rw [at3]
    show t.val * 256 + r.val = r'.val
    omega
  | ⟨1, _⟩ =>
    refine Eq.trans (b := win0_3.index t 1 * 4096 + k.val) (by blk_simp <;> rfl) ?_
    rw [at3]
    show 0 * 4096 + k.val = k.val
    omega

/-- What a grid point leaves. -/
theorem out_eq (x0 : Vec Ideal S256x4096 .f32) (x1 : Vec Ideal S256x1 .f32) (x2 : Vec Ideal S1x4096 .f32) : out0_3 x0 x1 x2 = k0_pay1 x0 x1 x2 := by
  unfold out0_3
  refine (View.canon_cons_unit_lit (S := S256x4096) _ _ _ (by decide)).trans ?_
  have e0 : View.ld x0 r0_0 = x0 := View.ld_unit_lit (S := S256x4096) _ _ (by decide)
  have e1 : View.ld x1 r0_1 = x1 := View.ld_unit_lit (S := S256x1) _ _ (by decide)
  have e2 : View.ld x2 r0_2 = x2 := View.ld_unit_lit (S := S1x4096) _ _ (by decide)
  rw [e0, e1, e2]

/-- The result array is the normalised stream. -/
theorem array3 : (dats m 0 c).arrAt 3 cfg0.N = lastArr (a0 m c) (a1 m c) (a2 m c) := by
  refine (dats m 0 c).arrAt_eq_of_covers 3 _ (by decide +kernel) fun t hf y => ?_
  have ht : t.val < 64 := lt_of_lt_of_eq t.isLt N_0
  have y0 : (y 0).val < 256 := (y 0).isLt
  have y1 : (y 1).val < 4096 := (y 1).isLt
  have ey : y = ix2 (⟨(y 0).val, y0⟩ : Fin 256) (⟨(y 1).val, y1⟩ : Fin 4096) := funext fun a => by
    match a with
    | ⟨0, _⟩ => rfl
    | ⟨1, _⟩ => rfl
  refine Eq.trans (b := k0_pay1 (iblk m c 0 t) (iblk m c 1 t) (iblk m c 2 t) (ix2 (⟨(y 0).val, y0⟩ : Fin 256) (⟨(y 1).val, y1⟩ : Fin 4096)))
    ((congrFun ((after0_3 m c t).trans (out_eq _ _ _)) _).trans (congrArg (k0_pay1 (iblk m c 0 t) (iblk m c 1 t) (iblk m c 2 t)) ey)) ?_
  refine (pay_apply _ _ _ _ _).trans (Eq.trans (b := cell (a0 m c) (a1 m c) (a2 m c) ⟨256 * t.val + (y 0).val, by omega⟩ ⟨(y 1).val, y1⟩) ?_ ?_)
  · unfold cell
    rw [blk0 m c t ⟨(y 0).val, y0⟩ ⟨256 * t.val + (y 0).val, by omega⟩ rfl, blk1 m c t ⟨(y 0).val, y0⟩ ⟨256 * t.val + (y 0).val, by omega⟩ rfl, blk2 m c t]
  · exact (congrArg (lastArr (a0 m c) (a1 m c) (a2 m c))
      ((congrArg ((cfg0.win 3).blk t).view.emb ey).trans (emb3 t _ _ ⟨256 * t.val + (y 0).val, by omega⟩ rfl))).symm

end

end Cert.Kernel7Ideal.Last

namespace Cert.Reference7Ideal.Last

open Cert.Reference7Ideal Cert.Reference7Ideal.Gen Idealize.ShloMosaic.TcCoe Idealize.ShloMosaic.ValueIdx
open Idealize.ShloMosaic hiding ix0 ix1 ix2 ix3 ix4

/-- The reference's result is the normalised stream. -/
theorem res_last (x : FVec Ideal S16384x4096 .f32) (ss : FVec Ideal S16384x1 .f32) (g : FVec Ideal S4096 .f32) :
    mulf (mulf x (broadcastInDim S16384x4096 ![0, 1] bcast_S16384x1_S16384x4096_0_1 (Host.rsqrt (addf (Host.divf ss (broadcastInDim S16384x1 ![] bcast_S_S16384x1 (constant S_ .f32 0x45800000#32)))
      (broadcastInDim S16384x1 ![] bcast_S_S16384x1 (constant S_ .f32 0x358637BD#32))))))
      (broadcastInDim S16384x4096 ![0, 1] bcast_S1x4096_S16384x4096_0_1 (broadcastInDim S1x4096 ![1] bcast_S4096_S1x4096_1 g)) = Cert.Kernel7Ideal.Last.lastArr x ss g := by
  funext i
  obtain ⟨r, k, rfl⟩ : ∃ (r : Fin 16384) (k : Fin 4096), i = ix2 r k := ⟨i 0, i 1, funext fun a => by
    match a with
    | ⟨0, _⟩ => rfl
    | ⟨1, _⟩ => rfl⟩
  refine Eq.trans (b := Cert.Kernel7Ideal.Last.cell x ss g r k) ?_ rfl
  unfold Cert.Kernel7Ideal.Last.cell
  refine congrArg₂ (fun a b : EReal => a * b) (congrArg (fun b : EReal => x (ix2 r k) * b) ?_) ?_
  · refine (broadcastInDim_apply _ _ _ _ (ix2 r (0 : Fin 1)) fun a => ?_).trans ?_
    · match a with
      | ⟨0, _⟩ => rfl
      | ⟨1, _⟩ => rfl
    · exact congrArg Ideal.rsqrt (congrArg₂ (fun a b : EReal => a + b) (congrArg (fun b : EReal => Ideal.div (ss (ix2 r (0 : Fin 1))) b) (broadcastInDim_scalar_apply _ _ _)) (broadcastInDim_scalar_apply _ _ _))
  · refine (broadcastInDim_apply _ _ _ _ (ix2 (0 : Fin 1) k) fun a => ?_).trans (broadcastInDim_apply _ _ _ _ (ix1 k) fun a => ?_)
    · match a with
      | ⟨0, _⟩ => rfl
      | ⟨1, _⟩ => rfl
    · match a with
      | ⟨0, _⟩ => rfl

end Cert.Reference7Ideal.Last

end
-- ==== Proof.JoinLast.lean ====
/- The final norm: frames, and equal results. -/
module

public import proofs.«01_k».proof.Defs
public import proofs.«01_k».proof.Proof.Gen.Kernel7
public import proofs.«01_k».proof.Proof.Gen.Kernel7Ideal
public import proofs.«01_k».proof.Proof.Gen.Reference7Ideal
public import proofs.«01_k».proof.Proof.Gen.Kernel7.Frame
public import proofs.«01_k».proof.Proof.Gen.Kernel7Ideal.Value
public import proofs.«01_k».proof.Proof.Gen.Reference7Ideal.Run
public import proofs.«01_k».proof.Proof.Last

@[expose] public section

noncomputable section

namespace Cert.Proof.Last

open Idealize.ShloMosaic Idealize.ShloMosaic.TcCoe Idealize.SL.Sem

/-- The kernel leaves its arguments as they were. -/
theorem frame_kernel : @Cert.quiescent_Kernel7 Cert.Kernel7.Gen.facts := fun m ρ _ => Cert.Kernel7.Gen.frame m ρ

/-- The idealized kernel leaves its arguments as they were. -/
theorem frame_ideal : @Cert.quiescent_Kernel7Ideal Cert.Kernel7Ideal.Gen.facts := fun m ρ _ => Cert.Kernel7Ideal.Gen.frame m ρ

/-- The reference leaves its arguments as they were. -/
theorem frame_reference : @Cert.quiescent_Reference7Ideal Cert.Reference7Ideal.Gen.facts := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The kernel and the reference end with the same normalised stream. -/
theorem algebraic : @Cert.algebraic_Kernel7Ideal_Reference7Ideal Cert.Kernel7Ideal.Gen.facts Cert.Reference7Ideal.Gen.facts :=
  fun m ρ m' ρ' _ hag => ⟨fun c => Cert.Kernel7Ideal.Last.lastArr (Cert.Kernel7Ideal.Last.a0 m c) (Cert.Kernel7Ideal.Last.a1 m c) (Cert.Kernel7Ideal.Last.a2 m c),
    (θ_run Cert.Kernel7Ideal.defs _ _).mono (fun r h c => ⟨(h c).1.trans (Cert.Kernel7Ideal.Last.array3 m c), (h c).2⟩)
      (Cert.Kernel7Ideal.Value.run_blocks (F := Ideal) m ρ),
    (θ_run Cert.Reference7Ideal.defs _ _).mono (fun r h c => ⟨(h c).1.trans (by
        obtain ⟨e0, e1, e2⟩ := hag c
        rw [e0, e1, e2]
        exact Cert.Reference7Ideal.Last.res_last _ _ _), (h c).2⟩)
      (Cert.Reference7Ideal.Value.run (F := Ideal) m' ρ')⟩

end Cert.Proof.Last

end
-- ==== Proof.Eq.Real.lean ====
/- Sums and products of extended reals that are real numbers. -/
module

public import Idealize.ShloMosaic.PureOps.Ideal.Laws

@[expose] public section

noncomputable section

namespace Attn

/-- An extended real that is a real number. -/
def IsReal (x : EReal) : Prop := ∃ r : ℝ, x = r

/-- A product of real numbers is one. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of two real numbers is one. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of real numbers is one. -/
theorem IsReal.sum {ι : Type*} (S : Finset ι) (f : ι → EReal) (hf : ∀ i, IsReal (f i)) : IsReal (∑ i ∈ S, f i) := by
  classical
  induction S using Finset.induction_on with
  | empty => exact ⟨0, by simp⟩
  | insert a S ha ih => rw [Finset.sum_insert ha]; exact (hf a).add ih

/-- A real number is its own real part. -/
theorem IsReal.coe_toReal {x : EReal} (hx : IsReal x) : x = ((x.toReal : ℝ) : EReal) := by
  obtain ⟨a, rfl⟩ := hx
  rfl

/-- An extended real below `⊤` in absolute value is a real number. -/
theorem IsReal.of_abs_lt {x : EReal} (hx : max x (-x) < ⊤) : IsReal x := by
  induction x using EReal.rec with
  | bot => simp at hx
  | coe r => exact ⟨r, rfl⟩
  | top => simp at hx

end Attn

end
-- ==== Proof.Eq.Plain.lean ====
/- A softmax taken at once: dividing the weighted sum by the sum of the weights, or each weight by it. -/
module

public import proofs.«01_k».proof.Proof.Eq.Scale
public import proofs.«01_k».proof.Proof.Eq.Real
public import Idealize.ShloMosaic.PureOps.Ideal

@[expose] public section

noncomputable section

namespace Attn

open Idealize.ShloMosaic

section
variable {n : ℕ} (s v : Fin n → EReal)

/-- The weight of a score against the greatest one. -/
def weight (k : Fin n) : EReal := Ideal.exp (s k - (Finset.univ : Finset (Fin n)).fold max ⊥ s)
/-- The weighted sum of the values over the sum of the weights. -/
def soft : EReal := Ideal.div (∑ k, weight s k * v k) (∑ k, weight s k)
/-- The sum of the values, each times its weight over the sum of the weights. -/
def softEach : EReal := ∑ k, v k * Ideal.div (weight s k) (∑ j, weight s j)

/-- The greatest of real scores is real. -/
theorem max_real (hn : 0 < n) (hs : ∀ k, IsReal (s k)) : IsReal ((Finset.univ : Finset (Fin n)).fold max ⊥ s) := by
  have h : (Finset.univ : Finset (Fin n)).fold max ⊥ s = (Finset.univ : Finset (Fin n)).sup s := rfl
  rw [h]
  obtain ⟨a, ha⟩ := hs ⟨0, hn⟩
  have h0 : s ⟨0, hn⟩ ≤ (Finset.univ : Finset (Fin n)).sup s := Finset.le_sup (Finset.mem_univ _)
  have h1 : (Finset.univ : Finset (Fin n)).sup s < ⊤ := (Finset.sup_lt_iff (by simp)).mpr fun k _ => by
    obtain ⟨b, hb⟩ := hs k
    rw [hb]
    exact EReal.coe_lt_top b
  generalize (Finset.univ : Finset (Fin n)).sup s = M at h0 h1
  induction M using EReal.rec with
  | bot => rw [ha] at h0; simp at h0
  | coe r => exact ⟨r, rfl⟩
  | top => simp at h1

/-- On real scores both are the same. -/
theorem soft_each (hn : 0 < n) (hs : ∀ k, IsReal (s k)) : softEach s v = soft s v := by
  obtain ⟨M, hM⟩ := max_real s hn hs
  choose a ha using hs
  have hw : ∀ k, weight s k = ((Real.exp (a k - M) : ℝ) : EReal) := fun k => by
    unfold weight
    rw [hM, ha, ← EReal.coe_sub, Ideal.exp_coe]
  have hT : ∑ k, weight s k = ((∑ k, Real.exp (a k - M) : ℝ) : EReal) := by
    have h : ∀ S : Finset (Fin n), ∑ k ∈ S, weight s k = ((∑ k ∈ S, Real.exp (a k - M) : ℝ) : EReal) := fun S => by
      classical
      induction S using Finset.induction_on with
      | empty => simp
      | insert k S hk ih => rw [Finset.sum_insert hk, Finset.sum_insert hk, ih, hw, EReal.coe_add]
    exact h _
  have hp : 0 < ∑ k, Real.exp (a k - M) := Finset.sum_pos (fun k _ => Real.exp_pos _) ⟨⟨0, hn⟩, Finset.mem_univ _⟩
  have hd : ∀ x : EReal, Ideal.div x (∑ k, weight s k) = x * (((∑ k, Real.exp (a k - M))⁻¹ : ℝ) : EReal) := fun x => by
    rw [hT]
    unfold Ideal.div
    rw [if_neg (by rw [← EReal.coe_zero, EReal.coe_eq_coe_iff]; exact hp.ne'), EReal.coe_inv]
  unfold softEach soft
  rw [hd, ← Norm.sum_mul_real _ _ (inv_nonneg.mpr hp.le)]
  exact Finset.sum_congr rfl fun k _ => by rw [hd, ← mul_assoc, mul_comm (v k)]

end

end Attn

end
-- ==== Proof.MemAtt.lean ====
/- The attention over the memory: what a grid point computes, and the array that its blocks make. -/
module

public import proofs.«01_k».proof.Proof.Eq.Plain
public import proofs.«01_k».proof.Proof.Gen.Kernel8Ideal.Value
public import Idealize.ShloMosaic.Lib.ValueLayout
public import Idealize.ShloMosaic.Lib.ValueLayoutCasts
public import Idealize.ShloMosaic.Lib.IdealHost
public import Idealize.ShloMosaic.Lib.MatmulPlain
public import Idealize.ShloMosaic.Lib.Pointwise.Reduce
public import Idealize.ShloMosaic.Lib.Pointwise.Reshape
public import Idealize.ShloMosaic.Lib.Pipeline.ValueKit.Acc
public import Idealize.ShloMosaic.Lib.Pipeline.ValueKit.Geometry
public import Idealize.ShloMosaic.Lib.Pipeline.ReadBack
public import Idealize.ShloMosaic.Lib.WholeRead

@[expose] public section

set_option maxRecDepth 16384

noncomputable section

namespace Cert.Kernel8Ideal.MemAtt

open Cert.Kernel8Ideal Cert.Kernel8Ideal.Gen Idealize.ShloMosaic.TcCoe Idealize.ShloMosaic.ValueIdx
open Idealize.ShloMosaic hiding ix0 ix1 ix2 ix3 ix4

/-- The gate's factor. -/
def gate (z : EReal) : EReal := z * Ideal.logistic z

section
variable (P : FVec Ideal S16384x6912 .bf16) (K : FVec Ideal S4x1024x2048 .bf16)

/-- A token's score for a row of its memory, in the head of a column. -/
def score (r : Fin 16384) (j : Fin 1024) (n : Fin 256) : EReal :=
  ∑ d : Fin 256, (P (ix2 r (⟨5120 + (256 * (j.val / 256) + d.val), by omega⟩ : Fin 6912)) : EReal)
    * K (ix3 (0 : Fin 4) (⟨256 * (r.val / 4096) + n.val, by omega⟩ : Fin 1024) (⟨256 * (j.val / 256) + d.val, by omega⟩ : Fin 2048))
/-- An entry of the result. -/
def entry (r : Fin 16384) (j : Fin 1024) : EReal :=
  Attn.soft (score P K r j) (fun n : Fin 256 => K (ix3 (0 : Fin 4) (⟨256 * (r.val / 4096) + n.val, by omega⟩ : Fin 1024) (⟨1024 + j.val, by omega⟩ : Fin 2048)))
    * gate (P (ix2 r (⟨3072 + j.val, by omega⟩ : Fin 6912)))
/-- The result. -/
def attArr : FVec Ideal S16384x1024 .bf16 := fun i => entry P K (⟨(i 0).val, (i 0).isLt⟩ : Fin 16384) (⟨(i 1).val, (i 1).isLt⟩ : Fin 1024)

end

section
variable (q z : Vec Ideal S512x256 .bf16) (k v : Vec Ideal S1x256x256 .bf16)

/-- A head's scores in a block. -/
def scores : FVec Ideal S512x256 .f32 :=
  matmul (φ₁ := .bf16) (φ₂ := .bf16) dot_S512x256_S256x256_S512x256_1_1_0_0_n_n none q (shapeCast S256x256 k shapeCasts_S1x256x256_S256x256 : FVec Ideal S256x256 .bf16) (constant S512x256 .f32 0x00000000#32)
/-- A row's number at every column. -/
def wide (x : FVec Ideal S512 .f32) : FVec Ideal S512x256 .f32 :=
  broadcastTo S512x256 (shapeCast S512x1 x shapeCasts_S512_S512x1) broadcasts_S512x1_S512x256
/-- The exponentials of a head's scores. -/
def expo : FVec Ideal S512x256 .f32 :=
  exp (subf (scores q k) (wide (multiReduction .maximumf [1] S512 (scores q k) 0xFF800000#32 reduces_S512x256_S512 (.inl rfl) rfl)))

/-- The scores at an index. -/
theorem scores_apply (r : Fin 512) (n : Fin 256) : scores q k (ix2 r n) = ∑ d : Fin 256, (q (ix2 r d) : EReal) * k (ix3 (0 : Fin 1) n d) := by
  unfold scores
  refine (Ideal.matmul_transposedRhs_apply (M := 512) (K := 256) (N := 256) (φ₁ := .bf16) (φ₂ := .bf16) none q _ _ r n).trans ?_
  have hz : (constant (F := Ideal) S512x256 .f32 0x00000000#32 (ix2 r n) : EReal) = 0 := Ideal.ofBits_zero_f32
  refine (congrArg₂ (fun a b : EReal => a + b) hz rfl).trans ((zero_add _).trans ?_)
  exact Finset.sum_congr rfl fun d _ => congrArg (fun a : EReal => q (ix2 r d) * a) (shapeCast_1ab_ab_apply _ _ _ _)

/-- A row's number at an index. -/
theorem wide_apply (x : FVec Ideal S512 .f32) (r : Fin 512) (n : Fin 256) : wide x (ix2 r n) = x (ix1 r) := by
  refine (broadcastTo_apply _ _ _ (ix2 r (0 : Fin 1)) fun a => ?_).trans (shapeCast_a_a1_apply _ _ _ _)
  match a with
  | ⟨0, _⟩ => rfl
  | ⟨1, _⟩ => rfl

/-- The exponentials at an index. -/
theorem expo_apply (r : Fin 512) (n : Fin 256) :
    expo q k (ix2 r n) = Attn.weight (fun n : Fin 256 => ∑ d : Fin 256, (q (ix2 r d) : EReal) * k (ix3 (0 : Fin 1) n d)) n := by
  unfold expo Attn.weight
  refine congrArg Ideal.exp (congrArg₂ (fun a b : EReal => a - b) (scores_apply q k r n) ((wide_apply _ r n).trans ?_))
  refine (Ideal.multiReduction_maximumf_single (s := S512x256) (t := S512) (a := 1) (scores q k) _ _ _ _ (ix1 r)).trans ?_
  have hb : (FloatOps.ofBits .f32 0xFF800000#32 : Ideal .f32) = (⊥ : EReal) := by simp [Ideal.ofBits, Ideal.ieee]
  rw [hb]
  refine congrArg (fun f => Finset.fold max (⊥ : EReal) f (Finset.univ : Finset (Fin 256))) (funext fun n => ?_)
  refine Eq.trans (congrArg (scores q k) (funext fun a => Fin.ext ?_)) (scores_apply q k r n)
  match a with
  | ⟨0, _⟩ => rfl
  | ⟨1, _⟩ => rfl

/-- What a grid point stores for a head, at an index. -/
theorem head_apply (r : Fin 512) (e : Fin 256) : k0_pay2 q k v z (ix2 r e)
    = Attn.soft (fun n : Fin 256 => ∑ d : Fin 256, (q (ix2 r d) : EReal) * k (ix3 (0 : Fin 1) n d)) (fun n => v (ix3 (0 : Fin 1) n e)) * gate (z (ix2 r e)) := by
  unfold k0_pay2 Attn.soft
  refine congrArg₂ (fun a b : EReal => a * b) (congrArg₂ Ideal.div ?_ ?_) rfl
  · refine (Ideal.matmul_plain_apply (M := 512) (K := 256) (N := 256) (φ₁ := .bf16) (φ₂ := .bf16) none (truncf .bf16 (expo q k) bitsLt_bf16_f32) _ _ r e).trans ?_
    have hz : (constant (F := Ideal) S512x256 .f32 0x00000000#32 (ix2 r e) : EReal) = 0 := Ideal.ofBits_zero_f32
    refine (congrArg₂ (fun a b : EReal => a + b) hz rfl).trans ((zero_add _).trans ?_)
    exact Finset.sum_congr rfl fun n _ => congrArg₂ (fun a b : EReal => a * b) (expo_apply q k r n) (shapeCast_1ab_ab_apply _ _ _ _)
  · refine (wide_apply (multiReduction .add [1] S512 (expo q k) 0x00000000#32 reduces_S512x256_S512 (.inl rfl) rfl) r e).trans ((multiReduction_add_apply _ _ _ _ _ _).trans ?_)
    exact (Ideal.reduceAdd_r2_a1 reduces_S512x256_S512 _ _).trans (Finset.sum_congr rfl fun n _ => expo_apply q k r n)

end

section
variable (x0 x1 : Vec Ideal S512x1024 .bf16) (x2 x3 : Vec Ideal S1x256x1024 .bf16)

/-- A block's result at an index. -/
def blkAt (r : Fin 512) (j : Fin 1024) : EReal :=
  Attn.soft (fun n : Fin 256 => ∑ d : Fin 256, (x0 (ix2 r (⟨256 * (j.val / 256) + d.val, by omega⟩ : Fin 1024)) : EReal) * x2 (ix3 (0 : Fin 1) n (⟨256 * (j.val / 256) + d.val, by omega⟩ : Fin 1024)))
    (fun n => x3 (ix3 (0 : Fin 1) n j)) * gate (x1 (ix2 r j))
/-- A block's result. -/
def blkArr : Vec Ideal S512x1024 .bf16 := fun y => blkAt x0 x1 x2 x3 (⟨(y 0).val, (y 0).isLt⟩ : Fin 512) (⟨(y 1).val, (y 1).isLt⟩ : Fin 1024)

/-- A head's store is the block's result there. -/
theorem piece (o : ℕ) (h : Fin 4) (ho : o = 256 * h.val) (i2 : ∀ a, (![0, o] : Fin 2 → ℕ) a + S512x256.size a ≤ S512x1024.size a)
    (i3 : ∀ a, (![0, 0, o] : Fin 3 → ℕ) a + S1x256x256.size a ≤ S1x256x1024.size a) (x : S512x256.Idx) :
    k0_pay2 (View.ld x0 (Rect.unit (s := S512x1024) ![0, o] S512x256.size i2)) (View.ld x2 (Rect.unit (s := S1x256x1024) ![0, 0, o] S1x256x256.size i3))
      (View.ld x3 (Rect.unit (s := S1x256x1024) ![0, 0, o] S1x256x256.size i3)) (View.ld x1 (Rect.unit (s := S512x1024) ![0, o] S512x256.size i2)) x
      = blkArr x0 x1 x2 x3 ((Rect.unit (s := S512x1024) ![0, o] S512x256.size i2).emb x) := by
  have hh := h.isLt
  have y0 : (x 0).val < 512 := (x 0).isLt
  have y1 : (x 1).val < 256 := (x 1).isLt
  have ex : x = ix2 (⟨(x 0).val, y0⟩ : Fin 512) (⟨(x 1).val, y1⟩ : Fin 256) := funext fun a => by
    match a with
    | ⟨0, _⟩ => rfl
    | ⟨1, _⟩ => rfl
  have l2 : ∀ (w : Vec Ideal S512x1024 .bf16) (r : Fin 512) (d : Fin 256) (j : Fin 1024), j.val = o + d.val →
      View.ld w (Rect.unit (s := S512x1024) ![0, o] S512x256.size i2) (ix2 r d) = w (ix2 r j) := fun w r d j e =>
    congrArg w (funext fun a => Fin.ext (by
      match a with
      | ⟨0, _⟩ => show 0 + 1 * r.val = r.val; omega
      | ⟨1, _⟩ => show o + 1 * d.val = j.val; omega))
  have l3 : ∀ (w : Vec Ideal S1x256x1024 .bf16) (n d : Fin 256) (j : Fin 1024), j.val = o + d.val →
      View.ld w (Rect.unit (s := S1x256x1024) ![0, 0, o] S1x256x256.size i3) (ix3 (0 : Fin 1) n d) = w (ix3 (0 : Fin 1) n j) := fun w n d j e =>
    congrArg w (funext fun a => Fin.ext (by
      match a with
      | ⟨0, _⟩ => rfl
      | ⟨1, _⟩ => show 0 + 1 * n.val = n.val; omega
      | ⟨2, _⟩ => show o + 1 * d.val = j.val; omega))
  have ee : blkArr x0 x1 x2 x3 ((Rect.unit (s := S512x1024) ![0, o] S512x256.size i2).emb x)
      = blkAt x0 x1 x2 x3 (⟨(x 0).val, y0⟩ : Fin 512) (⟨o + (x 1).val, by omega⟩ : Fin 1024) :=
    congrArg₂ (blkAt x0 x1 x2 x3) (Fin.ext (show 0 + 1 * (x 0).val = (x 0).val by omega)) (Fin.ext (show o + 1 * (x 1).val = o + (x 1).val by omega))
  refine (congrArg _ ex).trans ((head_apply _ _ _ _ _ _).trans (Eq.trans ?_ ee.symm))
  have hq : (o + (x 1).val) / 256 = h.val := by omega
  unfold blkAt
  refine congrArg₂ (fun a b : EReal => a * b) (congrArg₂ Attn.soft (funext fun n => Finset.sum_congr rfl fun d _ => ?_) (funext fun n => l3 x3 n _ _ rfl)) (congrArg gate (l2 x1 _ _ _ rfl))
  exact congrArg₂ (fun a b : EReal => a * b) (l2 x0 _ d _ (by show 256 * ((o + (x 1).val) / 256) + d.val = o + d.val; omega))
    (l3 x2 n d _ (by show 256 * ((o + (x 1).val) / 256) + d.val = o + d.val; omega))

end

section
variable (m : (ℓ : Loc nD τ sig) → Buf (Elt Ideal) ℓ) (c : Dev nD) (t : Fin cfg0.N)

/-- A load from a whole buffer holding a block is the block's part. -/
theorem load {S : Shape} (M : Memref sig .tc .vmem S .bf16) (hM : M.IsWhole) (X : Vec Ideal S .bf16) (R : Rect S) :
    View.readAt (Elt Ideal) M.view R.toLoadRect (hM.unread X) = View.ld X R :=
  funext fun x => hM.readAt_unread X _ x

/-- What a grid point leaves. -/
theorem outs_eq : outsAt0 m c t = blkArr (X0_0 m c t) (X0_1 m c t) (iblk m c 2 t) (iblk m c 3 t) := by
  unfold outsAt0
  refine funext fun y => ?_
  unfold out0_A_4
  refine (View.read_writes_junk_apply_eq_canon _ _ _).trans (View.canon_apply_of_pieces (blkArr (X0_0 m c t) (X0_1 m c t) (iblk m c 2 t) (iblk m c 3 t)) _ ?_ y (cover0_A_4 c _ _ _ _ _ _ _ _ _ _ _ _ _ _ _ y))
  unfold kernelRun0_A
  dsimp only
  intro p hp x
  simp only [List.mem_cons, List.not_mem_nil, or_false] at hp
  rcases hp with rfl | rfl | rfl | rfl
  · refine Eq.trans ?_ (piece _ _ _ _ 768 3 rfl inb_S512x1024_S512x256_0_768 inb_S1x256x1024_S1x256x256_0_0_768 x)
    rw [← load (ms0_0 t) (hs0_0 t), ← load (ms0_2 t) (hs0_2 t), ← load (ms0_3 t) (hs0_3 t), ← load (ms0_1 t) (hs0_1 t)]
  · refine Eq.trans ?_ (piece _ _ _ _ 512 2 rfl inb_S512x1024_S512x256_0_512 inb_S1x256x1024_S1x256x256_0_0_512 x)
    rw [← load (ms0_0 t) (hs0_0 t), ← load (ms0_2 t) (hs0_2 t), ← load (ms0_3 t) (hs0_3 t), ← load (ms0_1 t) (hs0_1 t)]
    rfl
  · refine Eq.trans ?_ (piece _ _ _ _ 256 1 rfl inb_S512x1024_S512x256_0_256 inb_S1x256x1024_S1x256x256_0_0_256 x)
    rw [← load (ms0_0 t) (hs0_0 t), ← load (ms0_2 t) (hs0_2 t), ← load (ms0_3 t) (hs0_3 t), ← load (ms0_1 t) (hs0_1 t)]
    rfl
  · refine Eq.trans ?_ (piece _ _ _ _ 0 0 rfl inb_S512x1024_S512x256_0_0 inb_S1x256x1024_S1x256x256_0_0_0 x)
    rw [← load (ms0_0 t) (hs0_0 t), ← load (ms0_2 t) (hs0_2 t), ← load (ms0_3 t) (hs0_3 t), ← load (ms0_1 t) (hs0_1 t)]
    rfl

/-- The arguments. -/
abbrev a0 : FVec Ideal S16384x6912 .bf16 := m ((c : Thread nD τ).loc main_arg0)
abbrev a1 : FVec Ideal S4x1024x2048 .bf16 := m ((c : Thread nD τ).loc main_arg1)

/-- Where each window's block lies at a grid point. -/
theorem at0 : ∀ t : Fin cfg0.N, win0_0.index t = ![t.val, 5] :=
  (by decide +kernel : ∀ t : Fin grid0.N, win0_0.index t = ![t.val, 5])
theorem at1 : ∀ t : Fin cfg0.N, win0_1.index t = ![t.val, 3] :=
  (by decide +kernel : ∀ t : Fin grid0.N, win0_1.index t = ![t.val, 3])
theorem at2 : ∀ t : Fin cfg0.N, win0_2.index t = ![0, t.val / 8, 0] :=
  (by decide +kernel : ∀ t : Fin grid0.N, win0_2.index t = ![0, t.val / 8, 0])
theorem at3 : ∀ t : Fin cfg0.N, win0_3.index t = ![0, t.val / 8, 1] :=
  (by decide +kernel : ∀ t : Fin grid0.N, win0_3.index t = ![0, t.val / 8, 1])
theorem at4 : ∀ t : Fin cfg0.N, win0_4.index t = ![t.val, 0] :=
  (by decide +kernel : ∀ t : Fin grid0.N, win0_4.index t = ![t.val, 0])

/-- The block of the queries at an index. -/
theorem blk0 (r : Fin 512) (r' : Fin 16384) (e : r'.val = 512 * t.val + r.val) (j : Fin 1024) :
    X0_0 m c t (ix2 r j) = a0 m c (ix2 r' (⟨5120 + j.val, by omega⟩ : Fin 6912)) := by
  unfold X0_0 Pipeline.Window.fill
  rw [dif_pos (moved0_0 t _)]
  refine congrArg (m ((c : Thread nD τ).loc main_arg0)) (funext fun a => Fin.ext ?_)
  match a with
  | ⟨0, _⟩ =>
    refine Eq.trans (b := win0_0.index t 0 * 512 + r.val) (by blk_simp <;> rfl) ?_
    rw [at0]
    show t.val * 512 + r.val = r'.val
    omega
  | ⟨1, _⟩ =>
    refine Eq.trans (b := win0_0.index t 1 * 1024 + j.val) (by blk_simp <;> rfl) ?_
    rw [at0]
    show 5 * 1024 + j.val = 5120 + j.val
    omega

/-- The block of the gate at an index. -/
theorem blk1 (r : Fin 512) (r' : Fin 16384) (e : r'.val = 512 * t.val + r.val) (j : Fin 1024) :
    X0_1 m c t (ix2 r j) = a0 m c (ix2 r' (⟨3072 + j.val, by omega⟩ : Fin 6912)) := by
  unfold X0_1 Pipeline.Window.fill
  rw [dif_pos (moved0_1 t _)]
  refine congrArg (m ((c : Thread nD τ).loc main_arg0)) (funext fun a => Fin.ext ?_)
  match a with
  | ⟨0, _⟩ =>
    refine Eq.trans (b := win0_1.index t 0 * 512 + r.val) (by blk_simp <;> rfl) ?_
    rw [at1]
    show t.val * 512 + r.val = r'.val
    omega
  | ⟨1, _⟩ =>
    refine Eq.trans (b := win0_1.index t 1 * 1024 + j.val) (by blk_simp <;> rfl) ?_
    rw [at1]
    show 3 * 1024 + j.val = 3072 + j.val
    omega

/-- The block of the keys at an index. -/
theorem blk2 (n : Fin 256) (n' : Fin 1024) (e : n'.val = 256 * (t.val / 8) + n.val) (j : Fin 1024) :
    iblk m c 2 t (ix3 (0 : Fin 1) n j) = a1 m c (ix3 (0 : Fin 4) n' (⟨j.val, by omega⟩ : Fin 2048)) := by
  refine congrArg (m ((c : Thread nD τ).loc main_arg1)) (funext fun a => Fin.ext ?_)
  match a with
  | ⟨0, _⟩ =>
    refine Eq.trans (b := win0_2.index t 0 * 1 + 0) (by blk_simp <;> rfl) ?_
    rw [at2]
    rfl
  | ⟨1, _⟩ =>
    refine Eq.trans (b := win0_2.index t 1 * 256 + n.val) (by blk_simp <;> rfl) ?_
    rw [at2]
    show t.val / 8 * 256 + n.val = n'.val
    omega
  | ⟨2, _⟩ =>
    refine Eq.trans (b := win0_2.index t 2 * 1024 + j.val) (by blk_simp <;> rfl) ?_
    rw [at2]
    show 0 * 1024 + j.val = j.val
    omega

/-- The block of the values at an index. -/
theorem blk3 (n : Fin 256) (n' : Fin 1024) (e : n'.val = 256 * (t.val / 8) + n.val) (j : Fin 1024) :
    iblk m c 3 t (ix3 (0 : Fin 1) n j) = a1 m c (ix3 (0 : Fin 4) n' (⟨1024 + j.val, by omega⟩ : Fin 2048)) := by
  refine congrArg (m ((c : Thread nD τ).loc main_arg1)) (funext fun a => Fin.ext ?_)
  match a with
  | ⟨0, _⟩ =>
    refine Eq.trans (b := win0_3.index t 0 * 1 + 0) (by blk_simp <;> rfl) ?_
    rw [at3]
    rfl
  | ⟨1, _⟩ =>
    refine Eq.trans (b := win0_3.index t 1 * 256 + n.val) (by blk_simp <;> rfl) ?_
    rw [at3]
    show t.val / 8 * 256 + n.val = n'.val
    omega
  | ⟨2, _⟩ =>
    refine Eq.trans (b := win0_3.index t 2 * 1024 + j.val) (by blk_simp <;> rfl) ?_
    rw [at3]
    show 1 * 1024 + j.val = 1024 + j.val
    omega

/-- Where the block of the result lies, at an index. -/
theorem emb4 (r : Fin 512) (j : Fin 1024) (r' : Fin 16384) (e : r'.val = 512 * t.val + r.val) :
    ((cfg0.win 4).blk t).view.emb (ix2 r j) = ix2 r' j := by
  refine funext fun a => Fin.ext ?_
  match a with
  | ⟨0, _⟩ =>
    refine Eq.trans (b := win0_4.index t 0 * 512 + r.val) (by blk_simp <;> rfl) ?_
    rw [at4]
    show t.val * 512 + r.val = r'.val
    omega
  | ⟨1, _⟩ =>
    refine Eq.trans (b := win0_4.index t 1 * 1024 + j.val) (by blk_simp <;> rfl) ?_
    rw [at4]
    show 0 * 1024 + j.val = j.val
    omega

/-- A grid point's result is the attention's. -/
theorem blk_entry (r : Fin 512) (r' : Fin 16384) (e : r'.val = 512 * t.val + r.val) (j : Fin 1024) :
    blkAt (X0_0 m c t) (X0_1 m c t) (iblk m c 2 t) (iblk m c 3 t) r j = entry (a0 m c) (a1 m c) r' j := by
  have hr := r.isLt; have hj := j.isLt
  have ht : t.val < 32 := lt_of_lt_of_eq t.isLt N_0
  unfold blkAt entry score
  refine congrArg₂ (fun a b : EReal => a * b) (congrArg₂ Attn.soft (funext fun n => Finset.sum_congr rfl fun d _ => ?_) (funext fun n => ?_)) (congrArg gate (blk1 m c t r r' e j))
  · refine congrArg₂ (fun a b : EReal => a * b) ((blk0 m c t r r' e _).trans ?_) (blk2 m c t n _ (by show 256 * (r'.val / 4096) + n.val = _; omega) _)
    exact congrArg (fun z : Fin 6912 => a0 m c (ix2 r' z)) (Fin.ext (by show 5120 + (256 * (j.val / 256) + d.val) = _; rfl))
  · exact blk3 m c t n _ (by show 256 * (r'.val / 4096) + n.val = _; omega) _

/-- The result array is the attention's. -/
theorem array4 : (dats m 0 c).arrAt 4 cfg0.N = attArr (a0 m c) (a1 m c) := by
  refine (dats m 0 c).arrAt_eq_of_covers 4 _ (by decide +kernel) fun t hf y => ?_
  have ht : t.val < 32 := lt_of_lt_of_eq t.isLt N_0
  have y0 : (y 0).val < 512 := (y 0).isLt
  have y1 : (y 1).val < 1024 := (y 1).isLt
  have ey : y = ix2 (⟨(y 0).val, y0⟩ : Fin 512) (⟨(y 1).val, y1⟩ : Fin 1024) := funext fun a => by
    match a with
    | ⟨0, _⟩ => rfl
    | ⟨1, _⟩ => rfl
  refine Eq.trans (b := blkAt (X0_0 m c t) (X0_1 m c t) (iblk m c 2 t) (iblk m c 3 t) (⟨(y 0).val, y0⟩ : Fin 512) (⟨(y 1).val, y1⟩ : Fin 1024))
    (congrFun ((after0_4 m c t).trans (outs_eq m c t)) _) ?_
  refine (blk_entry m c t _ ⟨512 * t.val + (y 0).val, by omega⟩ rfl _).trans ?_
  exact (congrArg (attArr (a0 m c) (a1 m c))
      ((congrArg ((cfg0.win 4).blk t).view.emb ey).trans (emb4 t _ _ ⟨512 * t.val + (y 0).val, by omega⟩ rfl))).symm

end

end Cert.Kernel8Ideal.MemAtt

end
-- ==== Proof.MemAttRef.lean ====
/- The attention over the memory: the result of the reference. -/
module

public import proofs.«01_k».proof.Proof.MemAtt
public import proofs.«01_k».proof.Proof.Gen.Reference8Ideal.Run

@[expose] public section

set_option maxRecDepth 16384

noncomputable section

namespace Cert.Reference8Ideal.MemAtt

open Cert.Reference8Ideal Cert.Reference8Ideal.Gen Idealize.ShloMosaic.TcCoe Idealize.ShloMosaic.ValueIdx Attn
open Idealize.ShloMosaic hiding ix0 ix1 ix2 ix3 ix4 ix5
open Cert.Kernel8Ideal.MemAtt (gate score entry attArr)

section
variable (P : FVec Ideal S16384x6912 .bf16) (K : FVec Ideal S4x1024x2048 .bf16)

/-- The queries by sequence, token, head and coordinate. -/
def qs : FVec Ideal S4x4096x4x256 .f32 := extf .f32 (shapeCast S4x4096x4x256 (extractStridedSlice S16384x1024 ![0, 5120] P slices_S16384x6912_S16384x1024_0_5120) shapeCasts_S16384x1024_S4x4096x4x256 : FVec Ideal S4x4096x4x256 .bf16) bitsLt_bf16_f32
/-- The keys and the values together. -/
def kvs : FVec Ideal S4x256x2x4x256 .f32 :=
  extf .f32 (shapeCast S4x256x2x4x256 (shapeCast S1024x2048 (extractStridedSlice S1x1024x2048 ![0, 0, 0] K slices_S4x1024x2048_S1x1024x2048_0_0_0) shapeCasts_S1x1024x2048_S1024x2048 : FVec Ideal S1024x2048 .bf16) shapeCasts_S1024x2048_S4x256x2x4x256 : FVec Ideal S4x256x2x4x256 .bf16) bitsLt_bf16_f32
/-- The keys. -/
def ks : FVec Ideal S4x256x4x256 .f32 := shapeCast S4x256x4x256 (extractStridedSlice S4x256x1x4x256 ![0, 0, 0, 0, 0] (kvs K) slices_S4x256x2x4x256_S4x256x1x4x256_0_0_0_0_0) shapeCasts_S4x256x1x4x256_S4x256x4x256
/-- The values. -/
def vs : FVec Ideal S4x256x4x256 .f32 := shapeCast S4x256x4x256 (extractStridedSlice S4x256x1x4x256 ![0, 0, 1, 0, 0] (kvs K) slices_S4x256x2x4x256_S4x256x1x4x256_0_0_1_0_0) shapeCasts_S4x256x1x4x256_S4x256x4x256
/-- The scores. -/
def sc : FVec Ideal S4x4x4096x256 .f32 := Host.dotGeneral dot_S4x4096x4x256_S4x256x4x256_S4x4x4096x256_3_3_1_1_02_02 none (qs P) (ks K)
/-- A query's greatest score. -/
def top : FVec Ideal S4x4x4096 .f32 :=
  maximumf (broadcastInDim S4x4x4096 ![] bcast_S_S4x4x4096 (constant S_ .f32 0xFF800000#32)) (Host.reduce FloatOps.maximumf (sc P K) (constant S_ .f32 0xFF800000#32) reducesTo_S4x4x4096x256_S4x4x4096_d3 h_S_)
/-- A number for each query, at every row of the memory. -/
def wide (x : FVec Ideal S4x4x4096 .f32) : FVec Ideal S4x4x4096x256 .f32 :=
  broadcastInDim S4x4x4096x256 ![0, 1, 2, 3] bcast_S4x4x4096x1_S4x4x4096x256_0_1_2_3 (broadcastInDim S4x4x4096x1 ![0, 1, 2] bcast_S4x4x4096_S4x4x4096x1_0_1_2 x)
/-- The exponentials. -/
def ex : FVec Ideal S4x4x4096x256 .f32 := Host.exp (subf (sc P K) (wide (top P K)))
/-- Their sums. -/
def tot : FVec Ideal S4x4x4096 .f32 := Host.reduceAdd (ex P K) (constant S_ .f32 0x00000000#32) reducesTo_S4x4x4096x256_S4x4x4096_d3 h_S_
/-- The weighted values. -/
def ov : FVec Ideal S4x4x256x4096 .f32 := Host.dotGeneral dot_S4x256x4x256_S4x4x4096x256_S4x4x256x4096_1_3_3_2_02_01 none (vs K) (Host.divf (ex P K) (wide (tot P K)))
/-- The gate before its nonlinearity. -/
def gz : FVec Ideal S16384x1024 .f32 := extf .f32 (extractStridedSlice S16384x1024 ![0, 3072] P slices_S16384x6912_S16384x1024_0_3072) bitsLt_bf16_f32
/-- The result. -/
def res : FVec Ideal S16384x1024 .bf16 :=
  truncf .bf16 (mulf (shapeCast S16384x1024 (transpose S4x4096x4x256 [0, 3, 1, 2] (ov P K) transposes_S4x4x256x4096_S4x4096x4x256_0_3_1_2) shapeCasts_S4x4096x4x256_S16384x1024)
    (mulf (gz P) (Host.divf (broadcastInDim S16384x1024 ![] bcast_S_S16384x1024 (constant S_ .f32 0x3F800000#32))
      (addf (broadcastInDim S16384x1024 ![] bcast_S_S16384x1024 (constant S_ .f32 0x3F800000#32)) (Host.exp (Host.negf (gz P))))))) bitsLt_bf16_f32

variable (b h : Fin 4) (q : Fin 4096)

/-- The queries at an index. -/
theorem qs_apply (d : Fin 256) : qs P (ix4 b q h d) = P (ix2 (⟨4096 * b.val + q.val, by omega⟩ : Fin 16384) (⟨5120 + (256 * h.val + d.val), by omega⟩ : Fin 6912)) := by
  have hb := b.isLt; have hh := h.isLt; have hq := q.isLt; have hd := d.isLt
  refine (shapeCast_apply _ _ _ (ix2 (⟨4096 * b.val + q.val, by omega⟩ : Fin 16384) (⟨256 * h.val + d.val, by omega⟩ : Fin 1024)) ?_).trans (extractStridedSlice_apply _ P slices_S16384x6912_S16384x1024_0_5120 _ _ fun a => ?_)
  · refine (rowMajor_val2 _ 1024 rfl).trans ((?_ : _ = _).trans (rowMajor_val4 _ (4096 * (4 * 256)) (4 * 256) 256 rfl rfl rfl).symm)
    show (4096 * b.val + q.val) * 1024 + (256 * h.val + d.val) = b.val * (4096 * (4 * 256)) + q.val * (4 * 256) + h.val * 256 + d.val
    omega
  · match a with
    | ⟨0, _⟩ => exact (Nat.zero_add _).symm
    | ⟨1, _⟩ => rfl

/-- The keys and the values at an index. -/
theorem kvs_apply (n : Fin 256) (g : Fin 2) (d : Fin 256) :
    kvs K (ix5 b n g h d) = K (ix3 (0 : Fin 4) (⟨256 * b.val + n.val, by omega⟩ : Fin 1024) (⟨1024 * g.val + (256 * h.val + d.val), by omega⟩ : Fin 2048)) := by
  have hb := b.isLt; have hh := h.isLt; have hn := n.isLt; have hd := d.isLt; have hg := g.isLt
  refine (shapeCast_apply _ _ _ (ix2 (⟨256 * b.val + n.val, by omega⟩ : Fin 1024) (⟨1024 * g.val + (256 * h.val + d.val), by omega⟩ : Fin 2048)) ?_).trans
    ((shapeCast_1ab_ab_apply _ _ _ _).trans (extractStridedSlice_apply _ K slices_S4x1024x2048_S1x1024x2048_0_0_0 _ _ fun a => ?_))
  · refine (rowMajor_val2 _ 2048 rfl).trans ((?_ : _ = _).trans (rowMajor_val5 _ (256 * (2 * (4 * 256))) (2 * (4 * 256)) (4 * 256) 256 rfl rfl rfl rfl).symm)
    show (256 * b.val + n.val) * 2048 + (1024 * g.val + (256 * h.val + d.val)) = b.val * (256 * (2 * (4 * 256))) + n.val * (2 * (4 * 256)) + g.val * (4 * 256) + h.val * 256 + d.val
    omega
  · match a with
    | ⟨0, _⟩ => rfl
    | ⟨1, _⟩ => exact (Nat.zero_add _).symm
    | ⟨2, _⟩ => exact (Nat.zero_add _).symm

/-- The middle axis of one entry dropped, at an index. -/
theorem drop_mid (x : FVec Ideal S4x256x1x4x256 .f32) (n d : Fin 256) :
    (shapeCast S4x256x4x256 x shapeCasts_S4x256x1x4x256_S4x256x4x256 : FVec Ideal S4x256x4x256 .f32) (ix4 b n h d) = x (ix5 b n (0 : Fin 1) h d) := by
  refine shapeCast_apply _ _ _ _ ?_
  refine (rowMajor_val5 _ (256 * (1 * (4 * 256))) (1 * (4 * 256)) (4 * 256) 256 rfl rfl rfl rfl).trans ((?_ : _ = _).trans (rowMajor_val4 _ (256 * (4 * 256)) (4 * 256) 256 rfl rfl rfl).symm)
  show b.val * (256 * (1 * (4 * 256))) + n.val * (1 * (4 * 256)) + 0 * (4 * 256) + h.val * 256 + d.val = b.val * (256 * (4 * 256)) + n.val * (4 * 256) + h.val * 256 + d.val
  omega

/-- The keys at an index. -/
theorem ks_apply (n d : Fin 256) : ks K (ix4 b n h d) = K (ix3 (0 : Fin 4) (⟨256 * b.val + n.val, by omega⟩ : Fin 1024) (⟨256 * h.val + d.val, by omega⟩ : Fin 2048)) := by
  refine (drop_mid b h _ n d).trans ((extractStridedSlice_apply _ (kvs K) slices_S4x256x2x4x256_S4x256x1x4x256_0_0_0_0_0 _ (ix5 b n (0 : Fin 2) h d) fun a => ?_).trans ((kvs_apply K b h n 0 d).trans ?_))
  · match a with
    | ⟨0, _⟩ => exact (Nat.zero_add _).symm
    | ⟨1, _⟩ => exact (Nat.zero_add _).symm
    | ⟨2, _⟩ => rfl
    | ⟨3, _⟩ => exact (Nat.zero_add _).symm
    | ⟨4, _⟩ => exact (Nat.zero_add _).symm
  · exact congrArg (fun z : Fin 2048 => K (ix3 (0 : Fin 4) _ z)) (Fin.ext (show 1024 * 0 + (256 * h.val + d.val) = 256 * h.val + d.val by omega))

/-- The values at an index. -/
theorem vs_apply (n d : Fin 256) : vs K (ix4 b n h d) = K (ix3 (0 : Fin 4) (⟨256 * b.val + n.val, by omega⟩ : Fin 1024) (⟨1024 + (256 * h.val + d.val), by omega⟩ : Fin 2048)) := by
  refine (drop_mid b h _ n d).trans ((extractStridedSlice_apply _ (kvs K) slices_S4x256x2x4x256_S4x256x1x4x256_0_0_1_0_0 _ (ix5 b n (1 : Fin 2) h d) fun a => ?_).trans ((kvs_apply K b h n 1 d).trans ?_))
  · match a with
    | ⟨0, _⟩ => exact (Nat.zero_add _).symm
    | ⟨1, _⟩ => exact (Nat.zero_add _).symm
    | ⟨2, _⟩ => rfl
    | ⟨3, _⟩ => exact (Nat.zero_add _).symm
    | ⟨4, _⟩ => exact (Nat.zero_add _).symm
  · exact congrArg (fun z : Fin 2048 => K (ix3 (0 : Fin 4) _ z)) (Fin.ext (show 1024 * 1 + (256 * h.val + d.val) = 1024 + (256 * h.val + d.val) by omega))

/-- The product of queries and keys at an index. -/
theorem dotS (x : FVec Ideal S4x4096x4x256 .f32) (y : FVec Ideal S4x256x4x256 .f32) (n : Fin 256) :
    (Host.dotGeneral dot_S4x4096x4x256_S4x256x4x256_S4x4x4096x256_3_3_1_1_02_02 none x y : FVec Ideal S4x4x4096x256 .f32) (ix4 b h q n)
      = ∑ d : Fin 256, (x (ix4 b q h d) : EReal) * y (ix4 b n h d) := by
  refine (Ideal.dotGeneral_apply _ _ _ _ _ _).trans ?_
  have hr : (dot_S4x4096x4x256_S4x256x4x256_S4x4x4096x256_3_3_1_1_02_02).contr.rank = 1 := rfl
  have hs : (dot_S4x4096x4x256_S4x256x4x256_S4x4x4096x256_3_3_1_1_02_02).contr.size ⟨0, by omega⟩ = 256 := rfl
  rw [← Equiv.sum_comp (contrEquiv1 _ 256 hr hs).symm]
  refine Finset.sum_congr rfl fun d _ => ?_
  have hk := contrEquiv1_symm_val _ 256 hr hs d
  refine congrArg₂ (fun a b : EReal => a * b) (congrArg x (funext fun a => Fin.ext ?_)) (congrArg y (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => rfl
    | ⟨2, _⟩ => rfl
    | ⟨3, _⟩ => exact hk

/-- The weighted sum of the values at an index. -/
theorem dotV (x : FVec Ideal S4x256x4x256 .f32) (y : FVec Ideal S4x4x4096x256 .f32) (d : Fin 256) :
    (Host.dotGeneral dot_S4x256x4x256_S4x4x4096x256_S4x4x256x4096_1_3_3_2_02_01 none x y : FVec Ideal S4x4x256x4096 .f32) (ix4 b h d q)
      = ∑ n : Fin 256, (x (ix4 b n h d) : EReal) * y (ix4 b h q n) := by
  refine (Ideal.dotGeneral_apply _ _ _ _ _ _).trans ?_
  have hr : (dot_S4x256x4x256_S4x4x4096x256_S4x4x256x4096_1_3_3_2_02_01).contr.rank = 1 := rfl
  have hs : (dot_S4x256x4x256_S4x4x4096x256_S4x4x256x4096_1_3_3_2_02_01).contr.size ⟨0, by omega⟩ = 256 := rfl
  rw [← Equiv.sum_comp (contrEquiv1 _ 256 hr hs).symm]
  refine Finset.sum_congr rfl fun n _ => ?_
  have hk := contrEquiv1_symm_val _ 256 hr hs n
  refine congrArg₂ (fun a b : EReal => a * b) (congrArg x (funext fun a => Fin.ext ?_)) (congrArg y (funext fun a => Fin.ext ?_))
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => rfl
    | ⟨3, _⟩ => exact hk

/-- The pattern of the smallest number reads as minus infinity. -/
theorem ninf : (Ideal.ofBits .f32 0xFF800000#32 : EReal) = ⊥ := by simp [Ideal.ofBits, Ideal.ieee]

/-- A maximum of two arrays at an index. -/
theorem maxf_apply {s : Shape} (x y : FVec Ideal s .f32) (i : s.Idx) : maximumf x y i = max (x i : EReal) (y i) := rfl

/-- A maximum along the memory's rows is the fold of the maxima. -/
theorem max_row (x : FVec Ideal S4x4x4096x256 .f32) :
    Host.reduce FloatOps.maximumf x (constant S_ .f32 0xFF800000#32) reducesTo_S4x4x4096x256_S4x4x4096_d3 h_S_ (ix3 b h q)
      = (Finset.univ : Finset (Fin 256)).fold max (⊥ : EReal) (fun n => x (ix4 b h q n)) := by
  refine (Host.reduce_eq_fold _ _ _ _ _ _).trans ((Shape.ReducesTo.fold_fiber_r4_a3 _ _ _ _ _).trans ?_)
  exact congrArg (fun z : EReal => Finset.fold max z _ _) ninf

/-- A number for each query, at an index. -/
theorem wide_apply (x : FVec Ideal S4x4x4096 .f32) (n : Fin 256) : wide x (ix4 b h q n) = x (ix3 b h q) := by
  unfold wide
  refine (broadcastInDim_apply _ _ _ _ (ix4 b h q (0 : Fin 1)) fun a => ?_).trans (broadcastInDim_apply _ _ _ _ (ix3 b h q) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

variable (r : Fin 16384) (j : Fin 1024) (hr : r.val = 4096 * b.val + q.val) (hj : j.val / 256 = h.val)

include hr hj in
/-- The scores at an index. -/
theorem sc_apply (n : Fin 256) : sc P K (ix4 b h q n) = score P K r j n := by
  have hq := q.isLt
  unfold sc score
  refine (dotS b h q _ _ n).trans (Finset.sum_congr rfl fun d _ => congrArg₂ (fun a b : EReal => a * b) ((qs_apply P b h q d).trans ?_) ((ks_apply K b h n d).trans ?_))
  · exact congrArg P (congrArg₂ ix2 (Fin.ext hr.symm) (Fin.ext (by show 5120 + (256 * h.val + d.val) = 5120 + (256 * (j.val / 256) + d.val); omega)))
  · exact congrArg K (congrArg₂ (ix3 (0 : Fin 4)) (Fin.ext (by show 256 * b.val + n.val = 256 * (r.val / 4096) + n.val; omega))
      (Fin.ext (by show 256 * h.val + d.val = 256 * (j.val / 256) + d.val; omega)))

include hr hj in
/-- A query's greatest score at an index. -/
theorem top_apply : top P K (ix3 b h q) = (Finset.univ : Finset (Fin 256)).fold max (⊥ : EReal) (score P K r j) := by
  unfold top
  refine (maxf_apply _ _ _).trans ((congrArg₂ (fun a b : EReal => max a b) ((broadcastInDim_scalar_apply _ _ _).trans ninf) (max_row b h q _)).trans ((max_eq_right bot_le).trans ?_))
  exact congrArg (fun f => Finset.fold max (⊥ : EReal) f (Finset.univ : Finset (Fin 256))) (funext fun n => sc_apply P K b h q r j hr hj n)

include hr hj in
/-- The exponentials at an index. -/
theorem ex_apply (n : Fin 256) : ex P K (ix4 b h q n) = weight (score P K r j) n := by
  refine congrArg Ideal.exp (congrArg₂ (fun a b : EReal => a - b) (sc_apply P K b h q r j hr hj n) ?_)
  exact (wide_apply b h q _ n).trans (top_apply P K b h q r j hr hj)

include hr hj in
/-- The sums of the exponentials at an index. -/
theorem tot_apply : tot P K (ix3 b h q) = ∑ n, weight (score P K r j) n := by
  refine (Ideal.hostReduceAdd_r4_a3 _ _ _ _).trans ?_
  refine (congrArg (fun z : EReal => z + _) Ideal.ofBits_zero_f32).trans ((zero_add _).trans ?_)
  exact Finset.sum_congr rfl fun n _ => ex_apply P K b h q r j hr hj n

include hr hj in
/-- The weighted values at an index. -/
theorem ov_apply (d : Fin 256) (hd : j.val % 256 = d.val) : ov P K (ix4 b h d q)
    = softEach (score P K r j) (fun n : Fin 256 => K (ix3 (0 : Fin 4) (⟨256 * (r.val / 4096) + n.val, by omega⟩ : Fin 1024) (⟨1024 + j.val, by omega⟩ : Fin 2048))) := by
  have hq := q.isLt
  unfold softEach
  refine (dotV b h q _ _ d).trans (Finset.sum_congr rfl fun n _ => congrArg₂ (fun a b : EReal => a * b) ((vs_apply K b h n d).trans ?_) ?_)
  · exact congrArg K (congrArg₂ (ix3 (0 : Fin 4)) (Fin.ext (by show 256 * b.val + n.val = 256 * (r.val / 4096) + n.val; omega))
      (Fin.ext (by show 1024 + (256 * h.val + d.val) = 1024 + j.val; omega)))
  · exact congrArg₂ Ideal.div (ex_apply P K b h q r j hr hj n) ((wide_apply b h q _ n).trans (tot_apply P K b h q r j hr hj))

end

section
variable (P : FVec Ideal S16384x6912 .bf16) (K : FVec Ideal S4x1024x2048 .bf16)

/-- On real queries and keys the result is the attention's. -/
theorem res_att (hP : ∀ (r : Fin 16384) (j : Fin 1024), IsReal (P (ix2 r (⟨5120 + j.val, by omega⟩ : Fin 6912))))
    (hK : ∀ n j : Fin 1024, IsReal (K (ix3 (0 : Fin 4) n (⟨j.val, by omega⟩ : Fin 2048)))) : res P K = attArr P K := by
  funext i
  have i0 : (i 0).val < 16384 := (i 0).isLt
  have i1 : (i 1).val < 1024 := (i 1).isLt
  have ei : i = ix2 (⟨(i 0).val, i0⟩ : Fin 16384) (⟨(i 1).val, i1⟩ : Fin 1024) := funext fun a => by
    match a with
    | ⟨0, _⟩ => rfl
    | ⟨1, _⟩ => rfl
  refine Eq.trans (congrArg (res P K) ei) (?_ : _ = entry P K (⟨(i 0).val, i0⟩ : Fin 16384) (⟨(i 1).val, i1⟩ : Fin 1024))
  generalize (⟨(i 0).val, i0⟩ : Fin 16384) = r
  generalize (⟨(i 1).val, i1⟩ : Fin 1024) = j
  have hr := r.isLt; have hj := j.isLt
  have hg : gz P (ix2 r j) = P (ix2 r (⟨3072 + j.val, by omega⟩ : Fin 6912)) := extractStridedSlice_apply _ P slices_S16384x6912_S16384x1024_0_3072 _ _ fun a => by
    match a with
    | ⟨0, _⟩ => exact (Nat.zero_add _).symm
    | ⟨1, _⟩ => rfl
  unfold res entry
  refine congrArg₂ (fun a b : EReal => a * b) ?_ ?_
  · refine (shapeCast_apply _ _ _ (ix4 (⟨r.val / 4096, by omega⟩ : Fin 4) (⟨r.val % 4096, by omega⟩ : Fin 4096) (⟨j.val / 256, by omega⟩ : Fin 4) (⟨j.val % 256, by omega⟩ : Fin 256)) ?_).trans
      ((transpose_apply _ _ _ _ (ix4 (⟨r.val / 4096, by omega⟩ : Fin 4) (⟨j.val / 256, by omega⟩ : Fin 4) (⟨j.val % 256, by omega⟩ : Fin 256) (⟨r.val % 4096, by omega⟩ : Fin 4096)) fun c => ?_).trans
        ((ov_apply P K _ _ _ r j (Nat.div_add_mod _ _).symm rfl _ rfl).trans (soft_each _ _ (by decide) fun n => ?_)))
    · refine (rowMajor_val4 _ (4096 * (4 * 256)) (4 * 256) 256 rfl rfl rfl).trans ((?_ : _ = _).trans (rowMajor_val2 _ 1024 rfl).symm)
      show r.val / 4096 * (4096 * (4 * 256)) + r.val % 4096 * (4 * 256) + j.val / 256 * 256 + j.val % 256 = r.val * 1024 + j.val
      omega
    · match c with
      | ⟨0, _⟩ => rfl
      | ⟨1, _⟩ => rfl
      | ⟨2, _⟩ => rfl
      | ⟨3, _⟩ => rfl
    · exact IsReal.sum _ _ fun d => (hP r ⟨256 * (j.val / 256) + d.val, by omega⟩).mul (hK _ ⟨256 * (j.val / 256) + d.val, by omega⟩)
  · refine congrArg₂ (fun a b : EReal => a * b) hg ?_
    refine congrArg₂ Ideal.div ((broadcastInDim_scalar_apply _ _ _).trans Ideal.ofBits_one_f32) ?_
    refine congrArg₂ (fun a b : EReal => a + b) ((broadcastInDim_scalar_apply _ _ _).trans Ideal.ofBits_one_f32) ?_
    exact congrArg (fun z : EReal => Ideal.exp (-z)) hg

end

/-- The reference's result is that function of the arguments. -/
theorem res_eq (m : (ℓ : Loc nD τ sig) → Buf (Elt Ideal) ℓ) (c : Dev nD) :
    Value.res_out0 m c = res (m ((c.tc : Thread nD τ).loc main_arg0)) (m ((c.tc : Thread nD τ).loc main_arg1)) := rfl

end Cert.Reference8Ideal.MemAtt

end
-- ==== Proof.Pre.lean ====
/- What the precondition says of the arguments: queries and keys are real numbers. -/
module

public import proofs.«01_k».proof.Defs
public import proofs.«01_k».proof.Proof.Eq.Real
public import Idealize.ShloMosaic.Lib.ValueLayout
public import Idealize.ShloMosaic.PureOps.Ideal.Laws

@[expose] public section

noncomputable section

namespace Cert.Pre_finite

open Idealize.ShloMosaic Attn

/-- The shapes of the predicate's operations fit. -/
theorem facts : Facts where
  bitsLt_bf16_f32 := by decide
  bcast_S_S6144x16384 := by decide
  bcast_S_S16384x3072 := by decide
  bcast_S_S16384x128 := by decide

/-- A number whose absolute value compares below infinity is real. -/
theorem real_of_cmp {x y : EReal} (hy : y = ⊤) (h : Ideal.cmp .olt (max x (-x)) y = 1#1) : IsReal x := by
  subst hy
  refine IsReal.of_abs_lt ?_
  by_contra hn
  exact absurd h (by simp [Ideal.cmp, hn])

/-- The infinite word is `⊤`. -/
theorem pinf : (Ideal.ofBits .f32 0x7F800000#32 : EReal) = ⊤ := by simp [Ideal.ofBits, Ideal.ieee]

/-- An array that passes the comparison has real entries. -/
theorem real_of {S : Shape} (hb : FTy.bits .bf16 < FTy.bits .f32) (d : Fin S_.rank → Fin S.rank) (hc : S_.BroadcastsInDim S d) (x : FVec Ideal S .bf16)
    (h : cmpf .olt (Host.absf (extf .f32 x hb)) (broadcastInDim S d hc (constant S_ .f32 0x7F800000#32)) = fun _ => 1#1) (i : S.Idx) : IsReal (x i) :=
  real_of_cmp pinf (congrFun h i)

end Cert.Pre_finite

end
-- ==== Proof.JoinMemAtt.lean ====
/- The attention over the memory: frames, and equal results on real queries and keys. -/
module

public import proofs.«01_k».proof.Defs
public import proofs.«01_k».proof.Proof.Gen.Kernel8
public import proofs.«01_k».proof.Proof.Gen.Kernel8Ideal
public import proofs.«01_k».proof.Proof.Gen.Reference8Ideal
public import proofs.«01_k».proof.Proof.Gen.Kernel8.Frame
public import proofs.«01_k».proof.Proof.Gen.Kernel8Ideal.Value
public import proofs.«01_k».proof.Proof.Gen.Reference8Ideal.Run
public import proofs.«01_k».proof.Proof.MemAttRef
public import proofs.«01_k».proof.Proof.Pre

@[expose] public section

noncomputable section

namespace Cert.Pre_finite8

open Idealize.ShloMosaic

/-- The shapes of the predicate's operations fit. -/
theorem facts : Facts where
  slices_S16384x6912_S16384x1024_0_5120 := by decide
  bitsLt_bf16_f32 := by decide
  bcast_S_S16384x1024 := by decide
  slices_S4x1024x2048_S1x1024x1024_0_0_0 := by decide
  bcast_S_S1x1024x1024 := by decide

end Cert.Pre_finite8

namespace Cert.Proof.MemAtt

open Idealize.ShloMosaic hiding ix0 ix1 ix2 ix3 ix4 ix5
open Idealize.ShloMosaic.TcCoe Idealize.ShloMosaic.ValueIdx Idealize.SL.Sem

/-- The kernel leaves its arguments as they were. -/
theorem frame_kernel : @Cert.quiescent_Kernel8 Cert.Kernel8.Gen.facts := fun m ρ _ => Cert.Kernel8.Gen.frame m ρ

/-- The idealized kernel leaves its arguments as they were. -/
theorem frame_ideal : @Cert.quiescent_Kernel8Ideal Cert.Kernel8Ideal.Gen.facts := fun m ρ _ => Cert.Kernel8Ideal.Gen.frame m ρ

/-- The reference leaves its arguments as they were. -/
theorem frame_reference : @Cert.quiescent_Reference8Ideal Cert.Reference8Ideal.Gen.facts := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- The precondition makes the queries and the keys real. -/
theorem real_of (P : FVec Ideal Cert.Kernel8Ideal.S16384x6912 .bf16) (K : FVec Ideal Cert.Kernel8Ideal.S4x1024x2048 .bf16)
    (h : (@Cert.Pre_finite8.fn Cert.Pre_finite8.facts Ideal _ P K).1 = (fun _ => 1#1) ∧ (@Cert.Pre_finite8.fn Cert.Pre_finite8.facts Ideal _ P K).2 = (fun _ => 1#1)) :
    (∀ (r : Fin 16384) (j : Fin 1024), Attn.IsReal (P (ix2 r (⟨5120 + j.val, by omega⟩ : Fin 6912))))
      ∧ ∀ n j : Fin 1024, Attn.IsReal (K (ix3 (0 : Fin 4) n (⟨j.val, by omega⟩ : Fin 2048))) := by
  constructor
  · intro r j
    have e := Cert.Pre_finite.real_of (by decide) _ _ _ h.1 (ix2 r j)
    refine Eq.mp (congrArg Attn.IsReal (extractStridedSlice_apply _ P Cert.Pre_finite8.facts.slices_S16384x6912_S16384x1024_0_5120 (ix2 r j) (ix2 r (⟨5120 + j.val, by omega⟩ : Fin 6912)) fun a => by
      match a with
      | ⟨0, _⟩ => exact (Nat.zero_add _).symm
      | ⟨1, _⟩ => rfl)) e
  · intro n j
    have e := Cert.Pre_finite.real_of (by decide) _ _ _ h.2 (ix3 (0 : Fin 1) n j)
    refine Eq.mp (congrArg Attn.IsReal (extractStridedSlice_apply _ K Cert.Pre_finite8.facts.slices_S4x1024x2048_S1x1024x1024_0_0_0 (ix3 (0 : Fin 1) n j) (ix3 (0 : Fin 4) n (⟨j.val, by omega⟩ : Fin 2048)) fun a => by
      match a with
      | ⟨0, _⟩ => rfl
      | ⟨1, _⟩ => exact (Nat.zero_add _).symm
      | ⟨2, _⟩ => exact (Nat.zero_add _).symm)) e

/-- On real queries and keys the kernel and the reference end with the same result. -/
theorem algebraic : @Cert.algebraic_Kernel8Ideal_Reference8Ideal_pre_finite8 Cert.Kernel8Ideal.Gen.facts Cert.Reference8Ideal.Gen.facts Cert.Pre_finite8.facts :=
  fun m ρ m' ρ' hp hag => ⟨fun c => Cert.Kernel8Ideal.MemAtt.attArr (Cert.Kernel8Ideal.MemAtt.a0 m c) (Cert.Kernel8Ideal.MemAtt.a1 m c),
    (θ_run Cert.Kernel8Ideal.defs _ _).mono (fun r h c => ⟨(h c).1.trans (Cert.Kernel8Ideal.MemAtt.array4 m c), (h c).2⟩)
      (Cert.Kernel8Ideal.Value.run_blocks (F := Ideal) m ρ),
    (θ_run Cert.Reference8Ideal.defs _ _).mono (fun r h c => ⟨(h c).1.trans ((Cert.Reference8Ideal.MemAtt.res_eq m' c).trans (by
        obtain ⟨e0, e1⟩ := hag c
        rw [e0, e1]
        exact Cert.Reference8Ideal.MemAtt.res_att _ _ (real_of _ _ (hp c)).1 (real_of _ _ (hp c)).2)), (h c).2⟩)
      (Cert.Reference8Ideal.Value.run (F := Ideal) m' ρ')⟩

end Cert.Proof.MemAtt

end
-- ==== Proof.First.lean ====
/- The first rounding: the rows rounded and the sums of their squares, in the kernel and in the reference. -/
module

public import proofs.«01_k».proof.Proof.Eq.Scale
public import proofs.«01_k».proof.Proof.Gen.Kernel9Ideal.Value
public import proofs.«01_k».proof.Proof.Gen.Reference9Ideal.Run
public import Idealize.ShloMosaic.Lib.ValueLayout
public import Idealize.ShloMosaic.Lib.ValueLayoutCasts
public import Idealize.ShloMosaic.Lib.IdealHost
public import Idealize.ShloMosaic.Lib.MatmulPlain
public import Idealize.ShloMosaic.Lib.Pointwise.Reduce
public import Idealize.ShloMosaic.Lib.Pointwise.Reshape
public import Idealize.ShloMosaic.Lib.Pipeline.ValueKit.Acc
public import Idealize.ShloMosaic.Lib.Pipeline.ValueKit.Geometry

@[expose] public section

set_option maxRecDepth 16384

noncomputable section

namespace Cert.Kernel9Ideal.First

open Cert.Kernel9Ideal Cert.Kernel9Ideal.Gen Idealize.ShloMosaic.TcCoe Idealize.ShloMosaic.ValueIdx
open Idealize.ShloMosaic hiding ix0 ix1 ix2 ix3 ix4

/-- The sums of the rows' squares. -/
def squares (x : FVec Ideal S16384x4096 .f32) : FVec Ideal S16384x1 .f32 := fun i =>
  ∑ k : Fin 4096, (x (ix2 (⟨(i 0).val, (i 0).isLt⟩ : Fin 16384) k) : EReal) * x (ix2 (⟨(i 0).val, (i 0).isLt⟩ : Fin 16384) k)

/-- Where each window's block lies at a grid point. -/
theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![t.val, 0] := (by decide +kernel : ∀ t : Fin grid0.N, win0_2.index t = ![t.val, 0])

section
variable (m : (ℓ : Loc nD τ sig) → Buf (Elt Ideal) ℓ) (c : Dev nD) (t : Fin cfg0.N)

/-- The rows: the argument by token. -/
abbrev rows : FVec Ideal S16384x4096 .f32 := shapeCast S16384x4096 (m ((c : Thread nD τ).loc main_arg0) : FVec Ideal S4x4096x4096 .f32) shapeCasts_S4x4096x4096_S16384x4096

/-- The host leaves the rows. -/
theorem entryX : V m c main_v0 = rows m c := rfl

/-- The block of the rows at an index. -/
theorem blk0 (r : Fin 256) (r' : Fin 16384) (e : r'.val = 256 * t.val + r.val) (k : Fin 4096) : iblk m c 0 t (ix2 r k) = rows m c (ix2 r' k) := by
  refine Eq.trans (b := V m c main_v0 (ix2 r' k)) (congrArg (V m c main_v0) (funext fun a => Fin.ext ?_)) (congrFun (entryX m c) _)
  match a with
  | ⟨0, _⟩ =>
    refine Eq.trans (b := win0_0.index t 0 * 256 + r.val) (by blk_simp <;> rfl) ?_
    rw [at0]
    show t.val * 256 + r.val = r'.val
    omega
  | ⟨1, _⟩ =>
    refine Eq.trans (b := win0_0.index t 1 * 4096 + k.val) (by blk_simp <;> rfl) ?_
    rw [at0]
    show 0 * 4096 + k.val = k.val
    omega

/-- Where the blocks of the results lie, at an index. -/
theorem emb1 (r : Fin 256) (k : Fin 4096) (r' : Fin 16384) (e : r'.val = 256 * t.val + r.val) : ((cfg0.win 1).blk t).view.emb (ix2 r k) = ix2 r' k := by
  refine funext fun a => Fin.ext ?_
  match a with
  | ⟨0, _⟩ =>
    refine Eq.trans (b := win0_1.index t 0 * 256 + r.val) (by blk_simp <;> rfl) ?_
    rw [at1]
    show t.val * 256 + r.val = r'.val
    omega
  | ⟨1, _⟩ =>
    refine Eq.trans (b := win0_1.index t 1 * 4096 + k.val) (by blk_simp <;> rfl) ?_
    rw [at1]
    show 0 * 4096 + k.val = k.val
    omega
theorem emb2 (r : Fin 256) (r' : Fin 16384) (e : r'.val = 256 * t.val + r.val) : ((cfg0.win 2).blk t).view.emb (ix2 r (0 : Fin 1)) = ix2 r' (0 : Fin 1) := by
  refine funext fun a => Fin.ext ?_
  match a with
  | ⟨0, _⟩ =>
    refine Eq.trans (b := win0_2.index t 0 * 256 + r.val) (by blk_simp <;> rfl) ?_
    rw [at2]
    show t.val * 256 + r.val = r'.val
    omega
  | ⟨1, _⟩ =>
    refine Eq.trans (b := win0_2.index t 1 * 1 + 0) (by blk_simp <;> rfl) ?_
    rw [at2]
    rfl

/-- A grid point's block of rounded rows, which on extended reals are the rows. -/
theorem out1 (x : Vec Ideal S256x4096 .f32) (y : S256x4096.Idx) : out0_1 x y = x y := by
  unfold out0_1
  refine (congrFun (View.canon_cons_unit_lit (S := S256x4096) _ _ _ (by decide)) y).trans ?_
  rw [show View.ld x r0_0 = x from View.ld_unit_lit (S := S256x4096) _ _ (by decide)]
  exact shapeCast_apply _ _ _ _ rfl

/-- A grid point's block of sums of squares. -/
theorem out2 (x : Vec Ideal S256x4096 .f32) (r : Fin 256) : out0_2 x (ix2 r (0 : Fin 1)) = ∑ k : Fin 4096, (x (ix2 r k) : EReal) * x (ix2 r k) := by
  unfold out0_2
  refine (congrFun (View.canon_cons_unit_lit (S := S256x1) _ _ _ (by decide)) _).trans ?_
  rw [show View.ld x r0_0 = x from View.ld_unit_lit (S := S256x4096) _ _ (by decide)]
  unfold k0_pay3
  refine (shapeCast_a_a1_apply _ _ _ _).trans ((multiReduction_add_apply _ _ _ _ _ _).trans ((Ideal.reduceAdd_r2_a1 reduces_S256x4096_S256 _ _).trans ?_))
  refine Finset.sum_congr rfl fun k _ => ?_
  have e : k0_pay1 x (ix2 r k) = x (ix2 r k) := shapeCast_apply _ _ _ _ rfl
  exact congrArg₂ (fun a b : EReal => a * b) e e

/-- The first result array is the rows. -/
theorem array1 : (dats m 0 c).arrAt 1 cfg0.N = (truncf .bf16 (rows m c) bitsLt_bf16_f32 : FVec Ideal S16384x4096 .bf16) := by
  refine (dats m 0 c).arrAt_eq_of_covers 1 _ (by decide +kernel) fun t hf y => ?_
  have ht : t.val < 64 := lt_of_lt_of_eq t.isLt N_0
  have y0 : (y 0).val < 256 := (y 0).isLt
  have y1 : (y 1).val < 4096 := (y 1).isLt
  have ey : y = ix2 (⟨(y 0).val, y0⟩ : Fin 256) (⟨(y 1).val, y1⟩ : Fin 4096) := funext fun a => by
    match a with
    | ⟨0, _⟩ => rfl
    | ⟨1, _⟩ => rfl
  refine (congrFun (after0_1 m c t) y).trans ((out1 _ y).trans ((congrArg (iblk m c 0 t) ey).trans ((blk0 m c t _ ⟨256 * t.val + (y 0).val, by omega⟩ rfl _).trans ?_)))
  exact (congrArg (truncf .bf16 (rows m c) bitsLt_bf16_f32 : FVec Ideal S16384x4096 .bf16)
    ((congrArg ((cfg0.win 1).blk t).view.emb ey).trans (emb1 t _ _ ⟨256 * t.val + (y 0).val, by omega⟩ rfl))).symm

/-- The second result array is the sums of their squares. -/
theorem array2 : (dats m 0 c).arrAt 2 cfg0.N = squares (rows m c) := by
  refine (dats m 0 c).arrAt_eq_of_covers 2 _ (by decide +kernel) fun t hf y => ?_
  have ht : t.val < 64 := lt_of_lt_of_eq t.isLt N_0
  have y0 : (y 0).val < 256 := (y 0).isLt
  have y1 : (y 1).val < 1 := (y 1).isLt
  have ey : y = ix2 (⟨(y 0).val, y0⟩ : Fin 256) (0 : Fin 1) := funext fun a => by
    match a with
    | ⟨0, _⟩ => rfl
    | ⟨1, _⟩ => exact Fin.ext (by show (y 1).val = 0; omega)
  refine (congrFun (after0_2 m c t) y).trans ((congrArg (out0_2 (iblk m c 0 t)) ey).trans ((out2 _ _).trans ?_))
  refine Eq.trans (Finset.sum_congr rfl fun k _ => ?_) (congrArg (squares (rows m c))
    ((congrArg ((cfg0.win 2).blk t).view.emb ey).trans (emb2 t _ ⟨256 * t.val + (y 0).val, by omega⟩ rfl))).symm
  have e := blk0 m c t ⟨(y 0).val, y0⟩ ⟨256 * t.val + (y 0).val, by omega⟩ rfl k
  exact congrArg₂ (fun a b : EReal => a * b) e e

end

end Cert.Kernel9Ideal.First

namespace Cert.Reference9Ideal.First

open Cert.Reference9Ideal Cert.Reference9Ideal.Gen Idealize.ShloMosaic.TcCoe Idealize.ShloMosaic.ValueIdx
open Idealize.ShloMosaic hiding ix0 ix1 ix2 ix3 ix4

/-- The reference's second result is the sums of the squares. -/
theorem res2 (x : FVec Ideal S16384x4096 .f32) : (broadcastInDim S16384x1 ![0] bcast_S16384_S16384x1_0 (Host.reduceAdd (mulf x x) (constant S_ .f32 0x00000000#32) reducesTo_S16384x4096_S16384_d1 h_S_) : FVec Ideal S16384x1 .f32)
    = Cert.Kernel9Ideal.First.squares x := by
  funext i
  refine (broadcastInDim_apply _ _ _ i (ix1 (⟨(i 0).val, (i 0).isLt⟩ : Fin 16384)) fun a => ?_).trans ((Ideal.hostReduceAdd_r2_a1 _ _ _ _).trans ?_)
  · match a with
    | ⟨0, _⟩ => rfl
  · exact (congrArg (fun z : EReal => z + _) Ideal.ofBits_zero_f32).trans (zero_add _)

end Cert.Reference9Ideal.First

end
-- ==== Proof.JoinFirst.lean ====
/- The first rounding: frames, and equal results. -/
module

public import proofs.«01_k».proof.Defs
public import proofs.«01_k».proof.Proof.Gen.Kernel9
public import proofs.«01_k».proof.Proof.Gen.Kernel9Ideal
public import proofs.«01_k».proof.Proof.Gen.Reference9Ideal
public import proofs.«01_k».proof.Proof.Gen.Kernel9.Frame
public import proofs.«01_k».proof.Proof.Gen.Kernel9Ideal.Value
public import proofs.«01_k».proof.Proof.Gen.Reference9Ideal.Run
public import proofs.«01_k».proof.Proof.First

@[expose] public section

noncomputable section

namespace Cert.Proof.First

open Idealize.ShloMosaic Idealize.ShloMosaic.TcCoe Idealize.SL.Sem

/-- The kernel leaves its arguments as they were. -/
theorem frame_kernel : @Cert.quiescent_Kernel9 Cert.Kernel9.Gen.facts := fun m ρ _ => Cert.Kernel9.Gen.frame m ρ

/-- The idealized kernel leaves its arguments as they were. -/
theorem frame_ideal : @Cert.quiescent_Kernel9Ideal Cert.Kernel9Ideal.Gen.facts := fun m ρ _ => Cert.Kernel9Ideal.Gen.frame m ρ

/-- The reference leaves its arguments as they were. -/
theorem frame_reference : @Cert.quiescent_Reference9Ideal Cert.Reference9Ideal.Gen.facts := fun m ρ _ =>
  (θ_run Cert.Reference9Ideal.defs _ _).mono (fun r h => ⟨fun c => (h c).2.2, Idealize.ShloMosaic.sem_eq_zero_of_no_sems (by decide) r.2⟩)
    (Cert.Reference9Ideal.Value.run (F := Ideal) m ρ)

/-- The kernel and the reference end with the same rows and the same sums of squares. -/
theorem algebraic : @Cert.algebraic_Kernel9Ideal_Reference9Ideal Cert.Kernel9Ideal.Gen.facts Cert.Reference9Ideal.Gen.facts :=
  fun m ρ m' ρ' _ hag => ⟨fun c => truncf .bf16 (Cert.Kernel9Ideal.First.rows m c) Cert.Kernel9Ideal.Gen.bitsLt_bf16_f32, fun c => Cert.Kernel9Ideal.First.squares (Cert.Kernel9Ideal.First.rows m c),
    (θ_run Cert.Kernel9Ideal.defs _ _).mono (fun r h c => ⟨(h c).1.trans (Cert.Kernel9Ideal.First.array1 m c), (h c).2.1.trans (Cert.Kernel9Ideal.First.array2 m c), (h c).2.2⟩)
      (Cert.Kernel9Ideal.Value.run_blocks (F := Ideal) m ρ),
    (θ_run Cert.Reference9Ideal.defs _ _).mono (fun r h c => ⟨(h c).1.trans (by rw [hag c]),
        (h c).2.1.trans (by rw [hag c]; exact Cert.Reference9Ideal.First.res2 _), (h c).2.2⟩)
      (Cert.Reference9Ideal.Value.run (F := Ideal) m' ρ')⟩

end Cert.Proof.First

end
-- ==== Proof.Ideal.Array.lean ====
/- The kernel's windows read at coordinates, and the array its blocks make. -/
module

public import proofs.«01_k».proof.Proof.Ideal.Frame
public import Idealize.ShloMosaic.Lib.ValueLayout
public import Idealize.ShloMosaic.Lib.Pipeline.ValueKit.Geometry

@[expose] public section

set_option maxRecDepth 16384

noncomputable section

namespace Cert.KernelIdeal.Att

open Cert.KernelIdeal Cert.KernelIdeal.Gen Idealize.ShloMosaic Idealize.ShloMosaic.TcCoe Idealize.ShloMosaic.ValueIdx

/-- The sequence of a grid point. -/
def pB (t : Fin cfg0.N) : ℕ := (grid0.coords t 0).val
/-- The group of heads of a grid point. -/
def pH (t : Fin cfg0.N) : ℕ := (grid0.coords t 1).val
/-- The query block of a grid point. -/
def pQ (t : Fin cfg0.N) : ℕ := (grid0.coords t 2).val

/-- There are four sequences. -/
theorem pB_lt (t : Fin cfg0.N) : pB t < 4 := (grid0.coords t 0).isLt
/-- There are four groups of heads. -/
theorem pH_lt (t : Fin cfg0.N) : pH t < 4 := (grid0.coords t 1).isLt
/-- There are eight query blocks. -/
theorem pQ_lt (t : Fin cfg0.N) : pQ t < 8 := (grid0.coords t 2).isLt

/-- Where each window's block lies at a grid point. -/
theorem at0 : ∀ t : Fin cfg0.N, win0_0.index t = ![pH t, pB t * 8 + pQ t] :=
  (by decide +kernel : ∀ t : Fin grid0.N, win0_0.index t = ![(grid0.coords t 1).val, (grid0.coords t 0).val * 8 + (grid0.coords t 2).val])
theorem at1 : ∀ t : Fin cfg0.N, win0_1.index t = ![pB t * 8 + pQ t, pH t] :=
  (by decide +kernel : ∀ t : Fin grid0.N, win0_1.index t = ![(grid0.coords t 0).val * 8 + (grid0.coords t 2).val, (grid0.coords t 1).val])
theorem at2 : ∀ t : Fin cfg0.N, win0_2.index t = ![pB t, pH t] :=
  (by decide +kernel : ∀ t : Fin grid0.N, win0_2.index t = ![(grid0.coords t 0).val, (grid0.coords t 1).val])
theorem at3 : ∀ t : Fin cfg0.N, win0_3.index t = ![pB t, 0] :=
  (by decide +kernel : ∀ t : Fin grid0.N, win0_3.index t = ![(grid0.coords t 0).val, 0])
theorem at4 : ∀ t : Fin cfg0.N, win0_4.index t = ![pH t, pB t] :=
  (by decide +kernel : ∀ t : Fin grid0.N, win0_4.index t = ![(grid0.coords t 1).val, (grid0.coords t 0).val])
theorem at5 : ∀ t : Fin cfg0.N, win0_5.index t = ![pB t * 8 + pQ t, pH t] :=
  (by decide +kernel : ∀ t : Fin grid0.N, win0_5.index t = ![(grid0.coords t 0).val * 8 + (grid0.coords t 2).val, (grid0.coords t 1).val])

variable {F : FTy → Type} [FloatOps F] [Named F] (m : (ℓ : Loc nD τ sig) → Buf (Elt F) ℓ) (c : Dev nD) (t : Fin cfg0.N)

/-- The block of queries at an index. -/
theorem blk0 (r r' : ℕ) (hr : r < 1536) (e : r' = 1536 * pH t + r) (j : Fin 512) :
    iblk m c 0 t (ix2 (Fin.ofNat 1536 r) j) = m ((c : Thread nD τ).loc main_arg0) (ix2 (Fin.ofNat 6144 r') (Fin.ofNat 16384 (4096 * pB t + (512 * pQ t + j.val)))) := by
  have hb := pB_lt t; have hh := pH_lt t; have hq := pQ_lt t
  have hj := j.isLt
  refine congrArg (m ((c : Thread nD τ).loc main_arg0)) (funext fun a => Fin.ext ?_)
  match a with
  | ⟨0, _⟩ =>
    refine Eq.trans (b := win0_0.index t 0 * 1536 + r % 1536) (by blk_simp <;> rfl) ?_
    rw [at0]
    show pH t * 1536 + r % 1536 = r' % 6144
    omega
  | ⟨1, _⟩ =>
    refine Eq.trans (b := win0_0.index t 1 * 512 + j.val) (by blk_simp <;> rfl) ?_
    rw [at0]
    show (pB t * 8 + pQ t) * 512 + j.val = (4096 * pB t + (512 * pQ t + j.val)) % 16384
    omega

/-- The block of the gate at an index. -/
theorem blk1 (d d' : ℕ) (hd : d < 768) (e : d' = 768 * pH t + d) (j : Fin 512) :
    iblk m c 1 t (ix2 (Fin.ofNat 512 j.val) (Fin.ofNat 768 d)) = m ((c : Thread nD τ).loc main_arg1) (ix2 (Fin.ofNat 16384 (4096 * pB t + (512 * pQ t + j.val))) (Fin.ofNat 6912 d')) := by
  have hb := pB_lt t; have hh := pH_lt t; have hq := pQ_lt t
  have hj := j.isLt
  refine congrArg (m ((c : Thread nD τ).loc main_arg1)) (funext fun a => Fin.ext ?_)
  match a with
  | ⟨0, _⟩ =>
    refine Eq.trans (b := win0_1.index t 0 * 512 + j.val % 512) (by blk_simp <;> rfl) ?_
    rw [at1]
    show (pB t * 8 + pQ t) * 512 + j.val % 512 = (4096 * pB t + (512 * pQ t + j.val)) % 16384
    omega
  | ⟨1, _⟩ =>
    refine Eq.trans (b := win0_1.index t 1 * 768 + d % 768) (by blk_simp <;> rfl) ?_
    rw [at1]
    show pH t * 768 + d % 768 = d' % 6912
    omega

/-- The block of the keys' first part at an index. -/
theorem blk2 (j d d' : ℕ) (hj : j < 4096) (hd : d < 768) (e : d' = 768 * pH t + d) :
    iblk m c 2 t (ix2 (Fin.ofNat 4096 j) (Fin.ofNat 768 d)) = m ((c : Thread nD τ).loc main_arg2) (ix2 (Fin.ofNat 16384 (4096 * pB t + j)) (Fin.ofNat 3072 d')) := by
  have hb := pB_lt t; have hh := pH_lt t; have hq := pQ_lt t
  refine congrArg (m ((c : Thread nD τ).loc main_arg2)) (funext fun a => Fin.ext ?_)
  match a with
  | ⟨0, _⟩ =>
    refine Eq.trans (b := win0_2.index t 0 * 4096 + j % 4096) (by blk_simp <;> rfl) ?_
    rw [at2]
    show pB t * 4096 + j % 4096 = (4096 * pB t + j) % 16384
    omega
  | ⟨1, _⟩ =>
    refine Eq.trans (b := win0_2.index t 1 * 768 + d % 768) (by blk_simp <;> rfl) ?_
    rw [at2]
    show pH t * 768 + d % 768 = d' % 3072
    omega

/-- The block of the keys' second part at an index. -/
theorem blk3 (j : ℕ) (hj : j < 4096) (d : Fin 128) :
    iblk m c 3 t (ix2 (Fin.ofNat 4096 j) (Fin.ofNat 128 d.val)) = m ((c : Thread nD τ).loc main_arg4) (ix2 (Fin.ofNat 16384 (4096 * pB t + j)) d) := by
  have hb := pB_lt t; have hh := pH_lt t; have hq := pQ_lt t
  have hd := d.isLt
  refine congrArg (m ((c : Thread nD τ).loc main_arg4)) (funext fun a => Fin.ext ?_)
  match a with
  | ⟨0, _⟩ =>
    refine Eq.trans (b := win0_3.index t 0 * 4096 + j % 4096) (by blk_simp <;> rfl) ?_
    rw [at3]
    show pB t * 4096 + j % 4096 = (4096 * pB t + j) % 16384
    omega
  | ⟨1, _⟩ =>
    refine Eq.trans (b := win0_3.index t 1 * 128 + d.val % 128) (by blk_simp <;> rfl) ?_
    rw [at3]
    show 0 * 128 + d.val % 128 = d.val
    omega

/-- The block of the values at an index. -/
theorem blk4 (j d d' : ℕ) (hj : j < 4096) (hd : d < 768) (e : d' = 768 * pH t + d) :
    iblk m c 4 t (ix2 (Fin.ofNat 768 d) (Fin.ofNat 4096 j)) = m ((c : Thread nD τ).loc main_arg3) (ix2 (Fin.ofNat 3072 d') (Fin.ofNat 16384 (4096 * pB t + j))) := by
  have hb := pB_lt t; have hh := pH_lt t; have hq := pQ_lt t
  refine congrArg (m ((c : Thread nD τ).loc main_arg3)) (funext fun a => Fin.ext ?_)
  match a with
  | ⟨0, _⟩ =>
    refine Eq.trans (b := win0_4.index t 0 * 768 + d % 768) (by blk_simp <;> rfl) ?_
    rw [at4]
    show pH t * 768 + d % 768 = d' % 3072
    omega
  | ⟨1, _⟩ =>
    refine Eq.trans (b := win0_4.index t 1 * 4096 + j % 4096) (by blk_simp <;> rfl) ?_
    rw [at4]
    show pB t * 4096 + j % 4096 = (4096 * pB t + j) % 16384
    omega

/-- Where the output's block lies, at an index. -/
theorem emb5 (y : S512x768.Idx) (r d : ℕ) (hr : r < 512) (e0 : (y 0).val = r) (e1 : 768 * pH t + (y 1).val = d) :
    ((cfg0.win 5).blk t).view.emb y = ix2 (Fin.ofNat 16384 (4096 * pB t + (512 * pQ t + r))) (Fin.ofNat 3072 d) := by
  have hb := pB_lt t; have hh := pH_lt t; have hq := pQ_lt t
  have h1 : (y 1).val < 768 := (y 1).isLt
  refine funext fun a => Fin.ext ?_
  match a with
  | ⟨0, _⟩ =>
    refine Eq.trans (b := win0_5.index t 0 * 512 + (y 0).val) (by blk_simp <;> rfl) ?_
    rw [at5]
    show (pB t * 8 + pQ t) * 512 + (y 0).val = (4096 * pB t + (512 * pQ t + r)) % 16384
    omega
  | ⟨1, _⟩ =>
    refine Eq.trans (b := win0_5.index t 1 * 768 + (y 1).val) (by blk_simp <;> rfl) ?_
    rw [at5]
    show pH t * 768 + (y 1).val = d % 3072
    omega

end Cert.KernelIdeal.Att

end
-- ==== Proof.Ideal.Step.lean ====
module

public import proofs.«01_k».proof.Proof.Gen.KernelIdeal.Loops
public import proofs.«01_k».proof.Proof.Gen.KernelIdeal.Frame.Runs
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe

variable {F : FTy → Type} [FloatOps F] [Named F]

/-- Head `h`'s slab of a score buffer. -/
def R9 (h : ℕ) (hh : h < 6) : Rect S6x512x512 :=
  Rect.unit ![h, 0, 0] S1x512x512.size (by intro a; match a with | ⟨0, _⟩ => (show h + 1 ≤ 6; omega) | ⟨1, _⟩ => (show 0 + 512 ≤ 512; omega) | ⟨2, _⟩ => (show 0 + 512 ≤ 512; omega))
/-- Head `h`'s slab of the running maxima. -/
def R11 (h : ℕ) (hh : h < 6) : Rect S6x1x512 :=
  Rect.unit ![h, 0, 0] S1x1x512.size (by intro a; match a with | ⟨0, _⟩ => (show h + 1 ≤ 6; omega) | ⟨1, _⟩ => (show 0 + 1 ≤ 1; omega) | ⟨2, _⟩ => (show 0 + 512 ≤ 512; omega))
/-- Head `h`'s slab of the weighted sums. -/
def R12 (h : ℕ) (hh : h < 6) : Rect S6x144x512 :=
  Rect.unit ![h, 0, 0] S1x144x512.size (by intro a; match a with | ⟨0, _⟩ => (show h + 1 ≤ 6; omega) | ⟨1, _⟩ => (show 0 + 144 ≤ 144; omega) | ⟨2, _⟩ => (show 0 + 512 ≤ 512; omega))

/-- Scores of a block of keys (its two parts side by side) against a block of queries. -/
def scF (kr kn : Vec F S512x128 .bf16) (q : Vec F S256x512 .bf16) : FVec F S1x512x512 .f32 := k0_pay230 kr kn q
/-- A slab of scores as a matrix. -/
def un (s : Vec F S1x512x512 .f32) : FVec F S512x512 .f32 := shapeCast S512x512 s shapeCasts_S1x512x512_S512x512
/-- The running maximum after a block of scores. -/
def mx0 (s : FVec F S512x512 .f32) (m : Vec F S1x1x512 .f32) : FVec F S1x512 .f32 :=
  maximumf (shapeCast S1x512 m shapeCasts_S1x1x512_S1x512)
    (shapeCast S1x512 (multiReduction .maximumf [0] S512 s 0xFF800000#32 reduces_S512x512_S512 (.inl rfl) rfl) shapeCasts_S512_S1x512)
/-- The same, as the slab stored. -/
def mxF (s : FVec F S512x512 .f32) (m : Vec F S1x1x512 .f32) : FVec F S1x1x512 .f32 :=
  shapeCast S1x1x512 (mx0 s m) shapeCasts_S1x512_S1x1x512
/-- The weighted sums after a block of scores and of values. -/
def acF (v8 : FVec F S16x512 .bf16) (s : FVec F S512x512 .f32) (m : Vec F S1x1x512 .f32) (v : Vec F S128x512 .bf16) (a : Vec F S1x144x512 .f32) : FVec F S1x144x512 .f32 :=
  shapeCast S1x144x512
    (addf (mulf (broadcastTo S144x512 (exp2 (subf (shapeCast S1x512 m shapeCasts_S1x1x512_S1x512) (mx0 s m))) broadcasts_S1x512_S144x512)
        (shapeCast S144x512 a shapeCasts_S1x144x512_S144x512))
      (matmul dot_S144x512_S512x512_S144x512_1_0_0_1_n_n none
        (concatenate S144x512 0 [⟨S128x512, v⟩, ⟨S16x512, v8⟩] concatenates_S128x512_S16x512_S144x512_d0)
        (truncf .bf16 (exp2 (subf s (broadcastTo S512x512 (mx0 s m) broadcasts_S1x512_S512x512))) bitsLt_bf16_f32)
        (constant S144x512 .f32 0x00000000#32)))
    shapeCasts_S144x512_S1x144x512

section
variable (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole) (v8 : FVec F S16x512 .bf16) (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (k : Fin (k0_t1_loop i).trips) (f_arg9 : BufTy.Contents (Elt F) arg9.view.ty) (f_arg10 : BufTy.Contents (Elt F) arg10.view.ty) (f_arg11 : BufTy.Contents (Elt F) arg11.view.ty) (f_arg12 : BufTy.Contents (Elt F) arg12.view.ty)
theorem t_v626 : trip_k0_t1.sl.v626 i arg3 arg5 arg6 arg10 X_arg3 X_arg5 X_arg6 k = trip_k0_t1.sl.v359 i arg3 arg5 arg6 X_arg3 X_arg5 X_arg6 k := by
  unfold trip_k0_t1.sl.v626 trip_k0_t1.sl.HW_arg10_6; rw [View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]
theorem t_v654 : trip_k0_t1.sl.v654 i arg3 arg5 arg6 arg10 X_arg3 X_arg5 X_arg6 k = trip_k0_t1.sl.v367 i arg3 arg5 arg6 X_arg3 X_arg5 X_arg6 k := by
  unfold trip_k0_t1.sl.v654 trip_k0_t1.sl.HW_arg10_6; rw [View.readCov_skip _ _ _ _ _ rfl, View.readCov_skip _ _ _ _ _ rfl, View.readCov_skip _ _ _ _ _ rfl, View.readCov_skip _ _ _ _ _ rfl, View.readCov_cons_toLoadRect]
theorem t_v682 : trip_k0_t1.sl.v682 i arg3 arg5 arg6 arg10 X_arg3 X_arg5 X_arg6 k = trip_k0_t1.sl.v375 i arg3 arg5 arg6 X_arg3 X_arg5 X_arg6 k := by
  unfold trip_k0_t1.sl.v682 trip_k0_t1.sl.HW_arg10_6; rw [View.readCov_skip _ _ _ _ _ rfl, View.readCov_skip _ _ _ _ _ rfl, View.readCov_skip _ _ _ _ _ rfl, View.readCov_cons_toLoadRect]
theorem t_v710 : trip_k0_t1.sl.v710 i arg3 arg5 arg6 arg10 X_arg3 X_arg5 X_arg6 k = trip_k0_t1.sl.v383 i arg3 arg5 arg6 X_arg3 X_arg5 X_arg6 k := by
  unfold trip_k0_t1.sl.v710 trip_k0_t1.sl.HW_arg10_6; rw [View.readCov_skip _ _ _ _ _ rfl, View.readCov_skip _ _ _ _ _ rfl, View.readCov_cons_toLoadRect]
theorem t_v738 : trip_k0_t1.sl.v738 i arg3 arg5 arg6 arg10 X_arg3 X_arg5 X_arg6 k = trip_k0_t1.sl.v391 i arg3 arg5 arg6 X_arg3 X_arg5 X_arg6 k := by
  unfold trip_k0_t1.sl.v738 trip_k0_t1.sl.HW_arg10_6; rw [View.readCov_skip _ _ _ _ _ rfl, View.readCov_cons_toLoadRect]
theorem t_v766 : trip_k0_t1.sl.v766 i arg3 arg5 arg6 arg10 X_arg3 X_arg5 X_arg6 k = trip_k0_t1.sl.v399 i arg3 arg5 arg6 X_arg3 X_arg5 X_arg6 k := by
  unfold trip_k0_t1.sl.v766 trip_k0_t1.sl.HW_arg10_6; rw [View.readCov_cons_toLoadRect]
theorem t_v628 : trip_k0_t1.sl.v628 arg9 arg11 f_arg9 f_arg11 = trip_k0_t1.sl.v429 arg9 arg11 f_arg9 f_arg11 := by
  unfold trip_k0_t1.sl.v628 trip_k0_t1.sl.HW_arg11_6; rw [View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]
theorem t_v656 : trip_k0_t1.sl.v656 i arg3 arg5 arg6 arg9 arg10 arg11 X_arg3 X_arg5 X_arg6 k f_arg9 f_arg11 = trip_k0_t1.sl.v457 arg9 arg11 f_arg9 f_arg11 := by
  unfold trip_k0_t1.sl.v656 trip_k0_t1.sl.HW_arg11_7 trip_k0_t1.sl.HW_arg11_6; rw [View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]
theorem t_v684 : trip_k0_t1.sl.v684 i arg3 arg5 arg6 arg9 arg10 arg11 X_arg3 X_arg5 X_arg6 k f_arg9 f_arg11 = trip_k0_t1.sl.v485 arg9 arg11 f_arg9 f_arg11 := by
  unfold trip_k0_t1.sl.v684 trip_k0_t1.sl.HW_arg11_8 trip_k0_t1.sl.HW_arg11_7 trip_k0_t1.sl.HW_arg11_6; rw [View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]
theorem t_v712 : trip_k0_t1.sl.v712 i arg3 arg5 arg6 arg9 arg10 arg11 X_arg3 X_arg5 X_arg6 k f_arg9 f_arg11 = trip_k0_t1.sl.v513 arg9 arg11 f_arg9 f_arg11 := by
  unfold trip_k0_t1.sl.v712 trip_k0_t1.sl.HW_arg11_9 trip_k0_t1.sl.HW_arg11_8 trip_k0_t1.sl.HW_arg11_7 trip_k0_t1.sl.HW_arg11_6; rw [View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]
theorem t_v740 : trip_k0_t1.sl.v740 i arg3 arg5 arg6 arg9 arg10 arg11 X_arg3 X_arg5 X_arg6 k f_arg9 f_arg11 = trip_k0_t1.sl.v541 arg9 arg11 f_arg9 f_arg11 := by
  unfold trip_k0_t1.sl.v740 trip_k0_t1.sl.HW_arg11_10 trip_k0_t1.sl.HW_arg11_9 trip_k0_t1.sl.HW_arg11_8 trip_k0_t1.sl.HW_arg11_7 trip_k0_t1.sl.HW_arg11_6; rw [View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]
theorem t_v768 : trip_k0_t1.sl.v768 i arg3 arg5 arg6 arg9 arg10 arg11 X_arg3 X_arg5 X_arg6 k f_arg9 f_arg11 = trip_k0_t1.sl.v569 arg9 arg11 f_arg9 f_arg11 := by
  unfold trip_k0_t1.sl.v768 trip_k0_t1.sl.HW_arg11_11 trip_k0_t1.sl.HW_arg11_10 trip_k0_t1.sl.HW_arg11_9 trip_k0_t1.sl.HW_arg11_8 trip_k0_t1.sl.HW_arg11_7 trip_k0_t1.sl.HW_arg11_6; rw [View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]
theorem t_v642 : trip_k0_t1.sl.v642 i arg7 arg9 arg11 arg12 v8 X_arg7 k f_arg9 f_arg11 f_arg12 = trip_k0_t1.sl.v426 i arg7 arg9 arg11 arg12 v8 X_arg7 k f_arg9 f_arg11 f_arg12 := by
  unfold trip_k0_t1.sl.v642 trip_k0_t1.sl.HW_arg12_6; rw [View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]
theorem t_v670 : trip_k0_t1.sl.v670 i arg3 arg5 arg6 arg7 arg9 arg10 arg11 arg12 v8 X_arg3 X_arg5 X_arg6 X_arg7 k f_arg9 f_arg11 f_arg12 = trip_k0_t1.sl.v454 i arg7 arg9 arg11 arg12 v8 X_arg7 k f_arg9 f_arg11 f_arg12 := by
  unfold trip_k0_t1.sl.v670 trip_k0_t1.sl.HW_arg12_7 trip_k0_t1.sl.HW_arg12_6; rw [View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]
theorem t_v698 : trip_k0_t1.sl.v698 i arg3 arg5 arg6 arg7 arg9 arg10 arg11 arg12 v8 X_arg3 X_arg5 X_arg6 X_arg7 k f_arg9 f_arg11 f_arg12 = trip_k0_t1.sl.v482 i arg7 arg9 arg11 arg12 v8 X_arg7 k f_arg9 f_arg11 f_arg12 := by
  unfold trip_k0_t1.sl.v698 trip_k0_t1.sl.HW_arg12_8 trip_k0_t1.sl.HW_arg12_7 trip_k0_t1.sl.HW_arg12_6; rw [View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]
theorem t_v726 : trip_k0_t1.sl.v726 i arg3 arg5 arg6 arg7 arg9 arg10 arg11 arg12 v8 X_arg3 X_arg5 X_arg6 X_arg7 k f_arg9 f_arg11 f_arg12 = trip_k0_t1.sl.v510 i arg7 arg9 arg11 arg12 v8 X_arg7 k f_arg9 f_arg11 f_arg12 := by
  unfold trip_k0_t1.sl.v726 trip_k0_t1.sl.HW_arg12_9 trip_k0_t1.sl.HW_arg12_8 trip_k0_t1.sl.HW_arg12_7 trip_k0_t1.sl.HW_arg12_6; rw [View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]
theorem t_v754 : trip_k0_t1.sl.v754 i arg3 arg5 arg6 arg7 arg9 arg10 arg11 arg12 v8 X_arg3 X_arg5 X_arg6 X_arg7 k f_arg9 f_arg11 f_arg12 = trip_k0_t1.sl.v538 i arg7 arg9 arg11 arg12 v8 X_arg7 k f_arg9 f_arg11 f_arg12 := by
  unfold trip_k0_t1.sl.v754 trip_k0_t1.sl.HW_arg12_10 trip_k0_t1.sl.HW_arg12_9 trip_k0_t1.sl.HW_arg12_8 trip_k0_t1.sl.HW_arg12_7 trip_k0_t1.sl.HW_arg12_6; rw [View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]
theorem t_v782 : trip_k0_t1.sl.v782 i arg3 arg5 arg6 arg7 arg9 arg10 arg11 arg12 v8 X_arg3 X_arg5 X_arg6 X_arg7 k f_arg9 f_arg11 f_arg12 = trip_k0_t1.sl.v566 i arg7 arg9 arg11 arg12 v8 X_arg7 k f_arg9 f_arg11 f_arg12 := by
  unfold trip_k0_t1.sl.v782 trip_k0_t1.sl.HW_arg12_11 trip_k0_t1.sl.HW_arg12_10 trip_k0_t1.sl.HW_arg12_9 trip_k0_t1.sl.HW_arg12_8 trip_k0_t1.sl.HW_arg12_7 trip_k0_t1.sl.HW_arg12_6; rw [View.readCov_skip _ _ _ _ _ rfl, View.readCov_skip _ _ _ _ _ rfl, View.readCov_skip _ _ _ _ _ rfl, View.readCov_skip _ _ _ _ _ rfl, View.readCov_skip _ _ _ _ _ rfl, View.readCov_cons_toLoadRect]
/-- Head 0 of the trip's first block of scores. -/
def s10_0 : FVec F S1x512x512 .f32 := scF (View.readAt (Elt F) arg6.view (Rect.unit (s := S4096x128) (k0_off1 i k 1#32) S512x128.size (k0_off1_inb i k 0)).toLoadRect X_arg6) (View.readAt (Elt F) arg5.view (Rect.unit (s := S4096x768) (k0_off2 i k 1#32) S512x128.size (k0_off2_inb i k 0)).toLoadRect X_arg5) (View.readAt (Elt F) arg3.view (Rect.unit (s := S1536x512) ![0, 0] S256x512.size inb_S1536x512_S256x512_0_0).toLoadRect X_arg3)
/-- Head 0 of the trip's second block of scores. -/
def s9_0 : FVec F S1x512x512 .f32 := scF (View.readAt (Elt F) arg6.view (Rect.unit (s := S4096x128) (k0_off1 i k 2#32) S512x128.size (k0_off1_inb i k 1)).toLoadRect X_arg6) (View.readAt (Elt F) arg5.view (Rect.unit (s := S4096x768) (k0_off2 i k 2#32) S512x128.size (k0_off2_inb i k 1)).toLoadRect X_arg5) (View.readAt (Elt F) arg3.view (Rect.unit (s := S1536x512) ![0, 0] S256x512.size inb_S1536x512_S256x512_0_0).toLoadRect X_arg3)
/-- Head 0's scores found by the trip. -/
def s0_0 : FVec F S512x512 .f32 := un (View.readAt (Elt F) arg9.view (R9 0 (by decide)).toLoadRect f_arg9)
/-- Head 0's maximum found by the trip. -/
def m0_0 : Vec F S1x1x512 .f32 := View.readAt (Elt F) arg11.view (R11 0 (by decide)).toLoadRect f_arg11
/-- Head 0's sums found by the trip. -/
def a0_0 : Vec F S1x144x512 .f32 := View.readAt (Elt F) arg12.view (R12 0 (by decide)).toLoadRect f_arg12
/-- Head 0's values for the block found. -/
def va_0 : Vec F S128x512 .bf16 := View.readAt (Elt F) arg7.view (Rect.unit (s := S768x4096) (k0_off8 i k) S128x512.size (k0_off8_inb i k)).toLoadRect X_arg7
/-- Head 0's values for the first block. -/
def vb_0 : Vec F S128x512 .bf16 := View.readAt (Elt F) arg7.view (Rect.unit (s := S768x4096) (k0_off14 i k) S128x512.size (k0_off14_inb i k)).toLoadRect X_arg7
/-- Head 0's maximum after the first update. -/
def m1_0 : FVec F S1x1x512 .f32 := mxF (s0_0 arg9 f_arg9) (m0_0 arg11 f_arg11)
/-- Head 0's sums after the first update. -/
def a1_0 : FVec F S1x144x512 .f32 := acF v8 (s0_0 arg9 f_arg9) (m0_0 arg11 f_arg11) (va_0 i arg7 X_arg7 k) (a0_0 arg12 f_arg12)
/-- Head 0's maximum after the second update. -/
def m2_0 : FVec F S1x1x512 .f32 := mxF (un (s10_0 i arg3 arg5 arg6 X_arg3 X_arg5 X_arg6 k)) (m1_0 arg9 arg11 f_arg9 f_arg11)
/-- Head 0's sums after the second update. -/
def a2_0 : FVec F S1x144x512 .f32 := acF v8 (un (s10_0 i arg3 arg5 arg6 X_arg3 X_arg5 X_arg6 k)) (m1_0 arg9 arg11 f_arg9 f_arg11) (vb_0 i arg7 X_arg7 k) (a1_0 i arg7 arg9 arg11 arg12 v8 X_arg7 k f_arg9 f_arg11 f_arg12)
/-- Head 1 of the trip's first block of scores. -/
def s10_1 : FVec F S1x512x512 .f32 := scF (View.readAt (Elt F) arg6.view (Rect.unit (s := S4096x128) (k0_off1 i k 1#32) S512x128.size (k0_off1_inb i k 0)).toLoadRect X_arg6) (View.readAt (Elt F) arg5.view (Rect.unit (s := S4096x768) (k0_off3 i k 1#32) S512x128.size (k0_off3_inb i k 0)).toLoadRect X_arg5) (View.readAt (Elt F) arg3.view (Rect.unit (s := S1536x512) ![256, 0] S256x512.size inb_S1536x512_S256x512_256_0).toLoadRect X_arg3)
/-- Head 1 of the trip's second block of scores. -/
def s9_1 : FVec F S1x512x512 .f32 := scF (View.readAt (Elt F) arg6.view (Rect.unit (s := S4096x128) (k0_off1 i k 2#32) S512x128.size (k0_off1_inb i k 1)).toLoadRect X_arg6) (View.readAt (Elt F) arg5.view (Rect.unit (s := S4096x768) (k0_off3 i k 2#32) S512x128.size (k0_off3_inb i k 1)).toLoadRect X_arg5) (View.readAt (Elt F) arg3.view (Rect.unit (s := S1536x512) ![256, 0] S256x512.size inb_S1536x512_S256x512_256_0).toLoadRect X_arg3)
/-- Head 1's scores found by the trip. -/
def s0_1 : FVec F S512x512 .f32 := un (View.readAt (Elt F) arg9.view (R9 1 (by decide)).toLoadRect f_arg9)
/-- Head 1's maximum found by the trip. -/
def m0_1 : Vec F S1x1x512 .f32 := View.readAt (Elt F) arg11.view (R11 1 (by decide)).toLoadRect f_arg11
/-- Head 1's sums found by the trip. -/
def a0_1 : Vec F S1x144x512 .f32 := View.readAt (Elt F) arg12.view (R12 1 (by decide)).toLoadRect f_arg12
/-- Head 1's values for the block found. -/
def va_1 : Vec F S128x512 .bf16 := View.readAt (Elt F) arg7.view (Rect.unit (s := S768x4096) (k0_off9 i k) S128x512.size (k0_off9_inb i k)).toLoadRect X_arg7
/-- Head 1's values for the first block. -/
def vb_1 : Vec F S128x512 .bf16 := View.readAt (Elt F) arg7.view (Rect.unit (s := S768x4096) (k0_off15 i k) S128x512.size (k0_off15_inb i k)).toLoadRect X_arg7
/-- Head 1's maximum after the first update. -/
def m1_1 : FVec F S1x1x512 .f32 := mxF (s0_1 arg9 f_arg9) (m0_1 arg11 f_arg11)
/-- Head 1's sums after the first update. -/
def a1_1 : FVec F S1x144x512 .f32 := acF v8 (s0_1 arg9 f_arg9) (m0_1 arg11 f_arg11) (va_1 i arg7 X_arg7 k) (a0_1 arg12 f_arg12)
/-- Head 1's maximum after the second update. -/
def m2_1 : FVec F S1x1x512 .f32 := mxF (un (s10_1 i arg3 arg5 arg6 X_arg3 X_arg5 X_arg6 k)) (m1_1 arg9 arg11 f_arg9 f_arg11)
/-- Head 1's sums after the second update. -/
def a2_1 : FVec F S1x144x512 .f32 := acF v8 (un (s10_1 i arg3 arg5 arg6 X_arg3 X_arg5 X_arg6 k)) (m1_1 arg9 arg11 f_arg9 f_arg11) (vb_1 i arg7 X_arg7 k) (a1_1 i arg7 arg9 arg11 arg12 v8 X_arg7 k f_arg9 f_arg11 f_arg12)
/-- Head 2 of the trip's first block of scores. -/
def s10_2 : FVec F S1x512x512 .f32 := scF (View.readAt (Elt F) arg6.view (Rect.unit (s := S4096x128) (k0_off1 i k 1#32) S512x128.size (k0_off1_inb i k 0)).toLoadRect X_arg6) (View.readAt (Elt F) arg5.view (Rect.unit (s := S4096x768) (k0_off4 i k 1#32) S512x128.size (k0_off4_inb i k 0)).toLoadRect X_arg5) (View.readAt (Elt F) arg3.view (Rect.unit (s := S1536x512) ![512, 0] S256x512.size inb_S1536x512_S256x512_512_0).toLoadRect X_arg3)
/-- Head 2 of the trip's second block of scores. -/
def s9_2 : FVec F S1x512x512 .f32 := scF (View.readAt (Elt F) arg6.view (Rect.unit (s := S4096x128) (k0_off1 i k 2#32) S512x128.size (k0_off1_inb i k 1)).toLoadRect X_arg6) (View.readAt (Elt F) arg5.view (Rect.unit (s := S4096x768) (k0_off4 i k 2#32) S512x128.size (k0_off4_inb i k 1)).toLoadRect X_arg5) (View.readAt (Elt F) arg3.view (Rect.unit (s := S1536x512) ![512, 0] S256x512.size inb_S1536x512_S256x512_512_0).toLoadRect X_arg3)
/-- Head 2's scores found by the trip. -/
def s0_2 : FVec F S512x512 .f32 := un (View.readAt (Elt F) arg9.view (R9 2 (by decide)).toLoadRect f_arg9)
/-- Head 2's maximum found by the trip. -/
def m0_2 : Vec F S1x1x512 .f32 := View.readAt (Elt F) arg11.view (R11 2 (by decide)).toLoadRect f_arg11
/-- Head 2's sums found by the trip. -/
def a0_2 : Vec F S1x144x512 .f32 := View.readAt (Elt F) arg12.view (R12 2 (by decide)).toLoadRect f_arg12
/-- Head 2's values for the block found. -/
def va_2 : Vec F S128x512 .bf16 := View.readAt (Elt F) arg7.view (Rect.unit (s := S768x4096) (k0_off10 i k) S128x512.size (k0_off10_inb i k)).toLoadRect X_arg7
/-- Head 2's values for the first block. -/
def vb_2 : Vec F S128x512 .bf16 := View.readAt (Elt F) arg7.view (Rect.unit (s := S768x4096) (k0_off16 i k) S128x512.size (k0_off16_inb i k)).toLoadRect X_arg7
/-- Head 2's maximum after the first update. -/
def m1_2 : FVec F S1x1x512 .f32 := mxF (s0_2 arg9 f_arg9) (m0_2 arg11 f_arg11)
/-- Head 2's sums after the first update. -/
def a1_2 : FVec F S1x144x512 .f32 := acF v8 (s0_2 arg9 f_arg9) (m0_2 arg11 f_arg11) (va_2 i arg7 X_arg7 k) (a0_2 arg12 f_arg12)
/-- Head 2's maximum after the second update. -/
def m2_2 : FVec F S1x1x512 .f32 := mxF (un (s10_2 i arg3 arg5 arg6 X_arg3 X_arg5 X_arg6 k)) (m1_2 arg9 arg11 f_arg9 f_arg11)
/-- Head 2's sums after the second update. -/
def a2_2 : FVec F S1x144x512 .f32 := acF v8 (un (s10_2 i arg3 arg5 arg6 X_arg3 X_arg5 X_arg6 k)) (m1_2 arg9 arg11 f_arg9 f_arg11) (vb_2 i arg7 X_arg7 k) (a1_2 i arg7 arg9 arg11 arg12 v8 X_arg7 k f_arg9 f_arg11 f_arg12)
/-- Head 3 of the trip's first block of scores. -/
def s10_3 : FVec F S1x512x512 .f32 := scF (View.readAt (Elt F) arg6.view (Rect.unit (s := S4096x128) (k0_off1 i k 1#32) S512x128.size (k0_off1_inb i k 0)).toLoadRect X_arg6) (View.readAt (Elt F) arg5.view (Rect.unit (s := S4096x768) (k0_off5 i k 1#32) S512x128.size (k0_off5_inb i k 0)).toLoadRect X_arg5) (View.readAt (Elt F) arg3.view (Rect.unit (s := S1536x512) ![768, 0] S256x512.size inb_S1536x512_S256x512_768_0).toLoadRect X_arg3)
/-- Head 3 of the trip's second block of scores. -/
def s9_3 : FVec F S1x512x512 .f32 := scF (View.readAt (Elt F) arg6.view (Rect.unit (s := S4096x128) (k0_off1 i k 2#32) S512x128.size (k0_off1_inb i k 1)).toLoadRect X_arg6) (View.readAt (Elt F) arg5.view (Rect.unit (s := S4096x768) (k0_off5 i k 2#32) S512x128.size (k0_off5_inb i k 1)).toLoadRect X_arg5) (View.readAt (Elt F) arg3.view (Rect.unit (s := S1536x512) ![768, 0] S256x512.size inb_S1536x512_S256x512_768_0).toLoadRect X_arg3)
/-- Head 3's scores found by the trip. -/
def s0_3 : FVec F S512x512 .f32 := un (View.readAt (Elt F) arg9.view (R9 3 (by decide)).toLoadRect f_arg9)
/-- Head 3's maximum found by the trip. -/
def m0_3 : Vec F S1x1x512 .f32 := View.readAt (Elt F) arg11.view (R11 3 (by decide)).toLoadRect f_arg11
/-- Head 3's sums found by the trip. -/
def a0_3 : Vec F S1x144x512 .f32 := View.readAt (Elt F) arg12.view (R12 3 (by decide)).toLoadRect f_arg12
/-- Head 3's values for the block found. -/
def va_3 : Vec F S128x512 .bf16 := View.readAt (Elt F) arg7.view (Rect.unit (s := S768x4096) (k0_off11 i k) S128x512.size (k0_off11_inb i k)).toLoadRect X_arg7
/-- Head 3's values for the first block. -/
def vb_3 : Vec F S128x512 .bf16 := View.readAt (Elt F) arg7.view (Rect.unit (s := S768x4096) (k0_off17 i k) S128x512.size (k0_off17_inb i k)).toLoadRect X_arg7
/-- Head 3's maximum after the first update. -/
def m1_3 : FVec F S1x1x512 .f32 := mxF (s0_3 arg9 f_arg9) (m0_3 arg11 f_arg11)
/-- Head 3's sums after the first update. -/
def a1_3 : FVec F S1x144x512 .f32 := acF v8 (s0_3 arg9 f_arg9) (m0_3 arg11 f_arg11) (va_3 i arg7 X_arg7 k) (a0_3 arg12 f_arg12)
/-- Head 3's maximum after the second update. -/
def m2_3 : FVec F S1x1x512 .f32 := mxF (un (s10_3 i arg3 arg5 arg6 X_arg3 X_arg5 X_arg6 k)) (m1_3 arg9 arg11 f_arg9 f_arg11)
/-- Head 3's sums after the second update. -/
def a2_3 : FVec F S1x144x512 .f32 := acF v8 (un (s10_3 i arg3 arg5 arg6 X_arg3 X_arg5 X_arg6 k)) (m1_3 arg9 arg11 f_arg9 f_arg11) (vb_3 i arg7 X_arg7 k) (a1_3 i arg7 arg9 arg11 arg12 v8 X_arg7 k f_arg9 f_arg11 f_arg12)
/-- Head 4 of the trip's first block of scores. -/
def s10_4 : FVec F S1x512x512 .f32 := scF (View.readAt (Elt F) arg6.view (Rect.unit (s := S4096x128) (k0_off1 i k 1#32) S512x128.size (k0_off1_inb i k 0)).toLoadRect X_arg6) (View.readAt (Elt F) arg5.view (Rect.unit (s := S4096x768) (k0_off6 i k 1#32) S512x128.size (k0_off6_inb i k 0)).toLoadRect X_arg5) (View.readAt (Elt F) arg3.view (Rect.unit (s := S1536x512) ![1024, 0] S256x512.size inb_S1536x512_S256x512_1024_0).toLoadRect X_arg3)
/-- Head 4 of the trip's second block of scores. -/
def s9_4 : FVec F S1x512x512 .f32 := scF (View.readAt (Elt F) arg6.view (Rect.unit (s := S4096x128) (k0_off1 i k 2#32) S512x128.size (k0_off1_inb i k 1)).toLoadRect X_arg6) (View.readAt (Elt F) arg5.view (Rect.unit (s := S4096x768) (k0_off6 i k 2#32) S512x128.size (k0_off6_inb i k 1)).toLoadRect X_arg5) (View.readAt (Elt F) arg3.view (Rect.unit (s := S1536x512) ![1024, 0] S256x512.size inb_S1536x512_S256x512_1024_0).toLoadRect X_arg3)
/-- Head 4's scores found by the trip. -/
def s0_4 : FVec F S512x512 .f32 := un (View.readAt (Elt F) arg9.view (R9 4 (by decide)).toLoadRect f_arg9)
/-- Head 4's maximum found by the trip. -/
def m0_4 : Vec F S1x1x512 .f32 := View.readAt (Elt F) arg11.view (R11 4 (by decide)).toLoadRect f_arg11
/-- Head 4's sums found by the trip. -/
def a0_4 : Vec F S1x144x512 .f32 := View.readAt (Elt F) arg12.view (R12 4 (by decide)).toLoadRect f_arg12
/-- Head 4's values for the block found. -/
def va_4 : Vec F S128x512 .bf16 := View.readAt (Elt F) arg7.view (Rect.unit (s := S768x4096) (k0_off12 i k) S128x512.size (k0_off12_inb i k)).toLoadRect X_arg7
/-- Head 4's values for the first block. -/
def vb_4 : Vec F S128x512 .bf16 := View.readAt (Elt F) arg7.view (Rect.unit (s := S768x4096) (k0_off18 i k) S128x512.size (k0_off18_inb i k)).toLoadRect X_arg7
/-- Head 4's maximum after the first update. -/
def m1_4 : FVec F S1x1x512 .f32 := mxF (s0_4 arg9 f_arg9) (m0_4 arg11 f_arg11)
/-- Head 4's sums after the first update. -/
def a1_4 : FVec F S1x144x512 .f32 := acF v8 (s0_4 arg9 f_arg9) (m0_4 arg11 f_arg11) (va_4 i arg7 X_arg7 k) (a0_4 arg12 f_arg12)
/-- Head 4's maximum after the second update. -/
def m2_4 : FVec F S1x1x512 .f32 := mxF (un (s10_4 i arg3 arg5 arg6 X_arg3 X_arg5 X_arg6 k)) (m1_4 arg9 arg11 f_arg9 f_arg11)
/-- Head 4's sums after the second update. -/
def a2_4 : FVec F S1x144x512 .f32 := acF v8 (un (s10_4 i arg3 arg5 arg6 X_arg3 X_arg5 X_arg6 k)) (m1_4 arg9 arg11 f_arg9 f_arg11) (vb_4 i arg7 X_arg7 k) (a1_4 i arg7 arg9 arg11 arg12 v8 X_arg7 k f_arg9 f_arg11 f_arg12)
/-- Head 5 of the trip's first block of scores. -/
def s10_5 : FVec F S1x512x512 .f32 := scF (View.readAt (Elt F) arg6.view (Rect.unit (s := S4096x128) (k0_off1 i k 1#32) S512x128.size (k0_off1_inb i k 0)).toLoadRect X_arg6) (View.readAt (Elt F) arg5.view (Rect.unit (s := S4096x768) (k0_off7 i k 1#32) S512x128.size (k0_off7_inb i k 0)).toLoadRect X_arg5) (View.readAt (Elt F) arg3.view (Rect.unit (s := S1536x512) ![1280, 0] S256x512.size inb_S1536x512_S256x512_1280_0).toLoadRect X_arg3)
/-- Head 5 of the trip's second block of scores. -/
def s9_5 : FVec F S1x512x512 .f32 := scF (View.readAt (Elt F) arg6.view (Rect.unit (s := S4096x128) (k0_off1 i k 2#32) S512x128.size (k0_off1_inb i k 1)).toLoadRect X_arg6) (View.readAt (Elt F) arg5.view (Rect.unit (s := S4096x768) (k0_off7 i k 2#32) S512x128.size (k0_off7_inb i k 1)).toLoadRect X_arg5) (View.readAt (Elt F) arg3.view (Rect.unit (s := S1536x512) ![1280, 0] S256x512.size inb_S1536x512_S256x512_1280_0).toLoadRect X_arg3)
/-- Head 5's scores found by the trip. -/
def s0_5 : FVec F S512x512 .f32 := un (View.readAt (Elt F) arg9.view (R9 5 (by decide)).toLoadRect f_arg9)
/-- Head 5's maximum found by the trip. -/
def m0_5 : Vec F S1x1x512 .f32 := View.readAt (Elt F) arg11.view (R11 5 (by decide)).toLoadRect f_arg11
/-- Head 5's sums found by the trip. -/
def a0_5 : Vec F S1x144x512 .f32 := View.readAt (Elt F) arg12.view (R12 5 (by decide)).toLoadRect f_arg12
/-- Head 5's values for the block found. -/
def va_5 : Vec F S128x512 .bf16 := View.readAt (Elt F) arg7.view (Rect.unit (s := S768x4096) (k0_off13 i k) S128x512.size (k0_off13_inb i k)).toLoadRect X_arg7
/-- Head 5's values for the first block. -/
def vb_5 : Vec F S128x512 .bf16 := View.readAt (Elt F) arg7.view (Rect.unit (s := S768x4096) (k0_off19 i k) S128x512.size (k0_off19_inb i k)).toLoadRect X_arg7
/-- Head 5's maximum after the first update. -/
def m1_5 : FVec F S1x1x512 .f32 := mxF (s0_5 arg9 f_arg9) (m0_5 arg11 f_arg11)
/-- Head 5's sums after the first update. -/
def a1_5 : FVec F S1x144x512 .f32 := acF v8 (s0_5 arg9 f_arg9) (m0_5 arg11 f_arg11) (va_5 i arg7 X_arg7 k) (a0_5 arg12 f_arg12)
/-- Head 5's maximum after the second update. -/
def m2_5 : FVec F S1x1x512 .f32 := mxF (un (s10_5 i arg3 arg5 arg6 X_arg3 X_arg5 X_arg6 k)) (m1_5 arg9 arg11 f_arg9 f_arg11)
/-- Head 5's sums after the second update. -/
def a2_5 : FVec F S1x144x512 .f32 := acF v8 (un (s10_5 i arg3 arg5 arg6 X_arg3 X_arg5 X_arg6 k)) (m1_5 arg9 arg11 f_arg9 f_arg11) (vb_5 i arg7 X_arg7 k) (a1_5 i arg7 arg9 arg11 arg12 v8 X_arg7 k f_arg9 f_arg11 f_arg12)
theorem c_v359 : trip_k0_t1.sl.v359 i arg3 arg5 arg6 X_arg3 X_arg5 X_arg6 k = s10_0 i arg3 arg5 arg6 X_arg3 X_arg5 X_arg6 k := rfl
theorem c_v582 : trip_k0_t1.sl.v582 i arg3 arg5 arg6 X_arg3 X_arg5 X_arg6 k = s9_0 i arg3 arg5 arg6 X_arg3 X_arg5 X_arg6 k := rfl
theorem c_v429 : trip_k0_t1.sl.v429 arg9 arg11 f_arg9 f_arg11 = m1_0 arg9 arg11 f_arg9 f_arg11 := rfl
theorem c_v426 : trip_k0_t1.sl.v426 i arg7 arg9 arg11 arg12 v8 X_arg7 k f_arg9 f_arg11 f_arg12 = a1_0 i arg7 arg9 arg11 arg12 v8 X_arg7 k f_arg9 f_arg11 f_arg12 := rfl
theorem c_v367 : trip_k0_t1.sl.v367 i arg3 arg5 arg6 X_arg3 X_arg5 X_arg6 k = s10_1 i arg3 arg5 arg6 X_arg3 X_arg5 X_arg6 k := rfl
theorem c_v590 : trip_k0_t1.sl.v590 i arg3 arg5 arg6 X_arg3 X_arg5 X_arg6 k = s9_1 i arg3 arg5 arg6 X_arg3 X_arg5 X_arg6 k := rfl
theorem c_v457 : trip_k0_t1.sl.v457 arg9 arg11 f_arg9 f_arg11 = m1_1 arg9 arg11 f_arg9 f_arg11 := rfl
theorem c_v454 : trip_k0_t1.sl.v454 i arg7 arg9 arg11 arg12 v8 X_arg7 k f_arg9 f_arg11 f_arg12 = a1_1 i arg7 arg9 arg11 arg12 v8 X_arg7 k f_arg9 f_arg11 f_arg12 := rfl
theorem c_v375 : trip_k0_t1.sl.v375 i arg3 arg5 arg6 X_arg3 X_arg5 X_arg6 k = s10_2 i arg3 arg5 arg6 X_arg3 X_arg5 X_arg6 k := rfl
theorem c_v598 : trip_k0_t1.sl.v598 i arg3 arg5 arg6 X_arg3 X_arg5 X_arg6 k = s9_2 i arg3 arg5 arg6 X_arg3 X_arg5 X_arg6 k := rfl
theorem c_v485 : trip_k0_t1.sl.v485 arg9 arg11 f_arg9 f_arg11 = m1_2 arg9 arg11 f_arg9 f_arg11 := rfl
theorem c_v482 : trip_k0_t1.sl.v482 i arg7 arg9 arg11 arg12 v8 X_arg7 k f_arg9 f_arg11 f_arg12 = a1_2 i arg7 arg9 arg11 arg12 v8 X_arg7 k f_arg9 f_arg11 f_arg12 := rfl
theorem c_v383 : trip_k0_t1.sl.v383 i arg3 arg5 arg6 X_arg3 X_arg5 X_arg6 k = s10_3 i arg3 arg5 arg6 X_arg3 X_arg5 X_arg6 k := rfl
theorem c_v606 : trip_k0_t1.sl.v606 i arg3 arg5 arg6 X_arg3 X_arg5 X_arg6 k = s9_3 i arg3 arg5 arg6 X_arg3 X_arg5 X_arg6 k := rfl
theorem c_v513 : trip_k0_t1.sl.v513 arg9 arg11 f_arg9 f_arg11 = m1_3 arg9 arg11 f_arg9 f_arg11 := rfl
theorem c_v510 : trip_k0_t1.sl.v510 i arg7 arg9 arg11 arg12 v8 X_arg7 k f_arg9 f_arg11 f_arg12 = a1_3 i arg7 arg9 arg11 arg12 v8 X_arg7 k f_arg9 f_arg11 f_arg12 := rfl
theorem c_v391 : trip_k0_t1.sl.v391 i arg3 arg5 arg6 X_arg3 X_arg5 X_arg6 k = s10_4 i arg3 arg5 arg6 X_arg3 X_arg5 X_arg6 k := rfl
theorem c_v614 : trip_k0_t1.sl.v614 i arg3 arg5 arg6 X_arg3 X_arg5 X_arg6 k = s9_4 i arg3 arg5 arg6 X_arg3 X_arg5 X_arg6 k := rfl
theorem c_v541 : trip_k0_t1.sl.v541 arg9 arg11 f_arg9 f_arg11 = m1_4 arg9 arg11 f_arg9 f_arg11 := rfl
theorem c_v538 : trip_k0_t1.sl.v538 i arg7 arg9 arg11 arg12 v8 X_arg7 k f_arg9 f_arg11 f_arg12 = a1_4 i arg7 arg9 arg11 arg12 v8 X_arg7 k f_arg9 f_arg11 f_arg12 := rfl
theorem c_v399 : trip_k0_t1.sl.v399 i arg3 arg5 arg6 X_arg3 X_arg5 X_arg6 k = s10_5 i arg3 arg5 arg6 X_arg3 X_arg5 X_arg6 k := rfl
theorem c_v622 : trip_k0_t1.sl.v622 i arg3 arg5 arg6 X_arg3 X_arg5 X_arg6 k = s9_5 i arg3 arg5 arg6 X_arg3 X_arg5 X_arg6 k := rfl
theorem c_v569 : trip_k0_t1.sl.v569 arg9 arg11 f_arg9 f_arg11 = m1_5 arg9 arg11 f_arg9 f_arg11 := rfl
theorem c_v566 : trip_k0_t1.sl.v566 i arg7 arg9 arg11 arg12 v8 X_arg7 k f_arg9 f_arg11 f_arg12 = a1_5 i arg7 arg9 arg11 arg12 v8 X_arg7 k f_arg9 f_arg11 f_arg12 := rfl
theorem c_v653 : trip_k0_t1.sl.v653 i arg3 arg5 arg6 arg9 arg10 arg11 X_arg3 X_arg5 X_arg6 k f_arg9 f_arg11 = m2_0 i arg3 arg5 arg6 arg9 arg11 X_arg3 X_arg5 X_arg6 k f_arg9 f_arg11 := by
  unfold trip_k0_t1.sl.v653 trip_k0_t1.sl.v632 trip_k0_t1.sl.v631 trip_k0_t1.sl.v630 trip_k0_t1.sl.v629 trip_k0_t1.sl.v627; rw [t_v626, t_v628, c_v359, c_v429]; rfl
theorem c_v650 : trip_k0_t1.sl.v650 i arg3 arg5 arg6 arg7 arg9 arg10 arg11 arg12 v8 X_arg3 X_arg5 X_arg6 X_arg7 k f_arg9 f_arg11 f_arg12 = a2_0 i arg3 arg5 arg6 arg7 arg9 arg11 arg12 v8 X_arg3 X_arg5 X_arg6 X_arg7 k f_arg9 f_arg11 f_arg12 := by
  unfold trip_k0_t1.sl.v650 trip_k0_t1.sl.v647 trip_k0_t1.sl.v645 trip_k0_t1.sl.v646 trip_k0_t1.sl.v643 trip_k0_t1.sl.v644 trip_k0_t1.sl.v641 trip_k0_t1.sl.v638 trip_k0_t1.sl.v637 trip_k0_t1.sl.v636 trip_k0_t1.sl.v635 trip_k0_t1.sl.v634 trip_k0_t1.sl.v633 trip_k0_t1.sl.v632 trip_k0_t1.sl.v631 trip_k0_t1.sl.v630 trip_k0_t1.sl.v629 trip_k0_t1.sl.v627; rw [t_v626, t_v628, t_v642, c_v359, c_v429, c_v426]; rfl
theorem c_v681 : trip_k0_t1.sl.v681 i arg3 arg5 arg6 arg9 arg10 arg11 X_arg3 X_arg5 X_arg6 k f_arg9 f_arg11 = m2_1 i arg3 arg5 arg6 arg9 arg11 X_arg3 X_arg5 X_arg6 k f_arg9 f_arg11 := by
  unfold trip_k0_t1.sl.v681 trip_k0_t1.sl.v660 trip_k0_t1.sl.v659 trip_k0_t1.sl.v658 trip_k0_t1.sl.v657 trip_k0_t1.sl.v655; rw [t_v654, t_v656, c_v367, c_v457]; rfl
theorem c_v678 : trip_k0_t1.sl.v678 i arg3 arg5 arg6 arg7 arg9 arg10 arg11 arg12 v8 X_arg3 X_arg5 X_arg6 X_arg7 k f_arg9 f_arg11 f_arg12 = a2_1 i arg3 arg5 arg6 arg7 arg9 arg11 arg12 v8 X_arg3 X_arg5 X_arg6 X_arg7 k f_arg9 f_arg11 f_arg12 := by
  unfold trip_k0_t1.sl.v678 trip_k0_t1.sl.v675 trip_k0_t1.sl.v673 trip_k0_t1.sl.v674 trip_k0_t1.sl.v671 trip_k0_t1.sl.v672 trip_k0_t1.sl.v669 trip_k0_t1.sl.v666 trip_k0_t1.sl.v665 trip_k0_t1.sl.v664 trip_k0_t1.sl.v663 trip_k0_t1.sl.v662 trip_k0_t1.sl.v661 trip_k0_t1.sl.v660 trip_k0_t1.sl.v659 trip_k0_t1.sl.v658 trip_k0_t1.sl.v657 trip_k0_t1.sl.v655; rw [t_v654, t_v656, t_v670, c_v367, c_v457, c_v454]; rfl
theorem c_v709 : trip_k0_t1.sl.v709 i arg3 arg5 arg6 arg9 arg10 arg11 X_arg3 X_arg5 X_arg6 k f_arg9 f_arg11 = m2_2 i arg3 arg5 arg6 arg9 arg11 X_arg3 X_arg5 X_arg6 k f_arg9 f_arg11 := by
  unfold trip_k0_t1.sl.v709 trip_k0_t1.sl.v688 trip_k0_t1.sl.v687 trip_k0_t1.sl.v686 trip_k0_t1.sl.v685 trip_k0_t1.sl.v683; rw [t_v682, t_v684, c_v375, c_v485]; rfl
theorem c_v706 : trip_k0_t1.sl.v706 i arg3 arg5 arg6 arg7 arg9 arg10 arg11 arg12 v8 X_arg3 X_arg5 X_arg6 X_arg7 k f_arg9 f_arg11 f_arg12 = a2_2 i arg3 arg5 arg6 arg7 arg9 arg11 arg12 v8 X_arg3 X_arg5 X_arg6 X_arg7 k f_arg9 f_arg11 f_arg12 := by
  unfold trip_k0_t1.sl.v706 trip_k0_t1.sl.v703 trip_k0_t1.sl.v701 trip_k0_t1.sl.v702 trip_k0_t1.sl.v699 trip_k0_t1.sl.v700 trip_k0_t1.sl.v697 trip_k0_t1.sl.v694 trip_k0_t1.sl.v693 trip_k0_t1.sl.v692 trip_k0_t1.sl.v691 trip_k0_t1.sl.v690 trip_k0_t1.sl.v689 trip_k0_t1.sl.v688 trip_k0_t1.sl.v687 trip_k0_t1.sl.v686 trip_k0_t1.sl.v685 trip_k0_t1.sl.v683; rw [t_v682, t_v684, t_v698, c_v375, c_v485, c_v482]; rfl
theorem c_v737 : trip_k0_t1.sl.v737 i arg3 arg5 arg6 arg9 arg10 arg11 X_arg3 X_arg5 X_arg6 k f_arg9 f_arg11 = m2_3 i arg3 arg5 arg6 arg9 arg11 X_arg3 X_arg5 X_arg6 k f_arg9 f_arg11 := by
  unfold trip_k0_t1.sl.v737 trip_k0_t1.sl.v716 trip_k0_t1.sl.v715 trip_k0_t1.sl.v714 trip_k0_t1.sl.v713 trip_k0_t1.sl.v711; rw [t_v710, t_v712, c_v383, c_v513]; rfl
theorem c_v734 : trip_k0_t1.sl.v734 i arg3 arg5 arg6 arg7 arg9 arg10 arg11 arg12 v8 X_arg3 X_arg5 X_arg6 X_arg7 k f_arg9 f_arg11 f_arg12 = a2_3 i arg3 arg5 arg6 arg7 arg9 arg11 arg12 v8 X_arg3 X_arg5 X_arg6 X_arg7 k f_arg9 f_arg11 f_arg12 := by
  unfold trip_k0_t1.sl.v734 trip_k0_t1.sl.v731 trip_k0_t1.sl.v729 trip_k0_t1.sl.v730 trip_k0_t1.sl.v727 trip_k0_t1.sl.v728 trip_k0_t1.sl.v725 trip_k0_t1.sl.v722 trip_k0_t1.sl.v721 trip_k0_t1.sl.v720 trip_k0_t1.sl.v719 trip_k0_t1.sl.v718 trip_k0_t1.sl.v717 trip_k0_t1.sl.v716 trip_k0_t1.sl.v715 trip_k0_t1.sl.v714 trip_k0_t1.sl.v713 trip_k0_t1.sl.v711; rw [t_v710, t_v712, t_v726, c_v383, c_v513, c_v510]; rfl
theorem c_v765 : trip_k0_t1.sl.v765 i arg3 arg5 arg6 arg9 arg10 arg11 X_arg3 X_arg5 X_arg6 k f_arg9 f_arg11 = m2_4 i arg3 arg5 arg6 arg9 arg11 X_arg3 X_arg5 X_arg6 k f_arg9 f_arg11 := by
  unfold trip_k0_t1.sl.v765 trip_k0_t1.sl.v744 trip_k0_t1.sl.v743 trip_k0_t1.sl.v742 trip_k0_t1.sl.v741 trip_k0_t1.sl.v739; rw [t_v738, t_v740, c_v391, c_v541]; rfl
theorem c_v762 : trip_k0_t1.sl.v762 i arg3 arg5 arg6 arg7 arg9 arg10 arg11 arg12 v8 X_arg3 X_arg5 X_arg6 X_arg7 k f_arg9 f_arg11 f_arg12 = a2_4 i arg3 arg5 arg6 arg7 arg9 arg11 arg12 v8 X_arg3 X_arg5 X_arg6 X_arg7 k f_arg9 f_arg11 f_arg12 := by
  unfold trip_k0_t1.sl.v762 trip_k0_t1.sl.v759 trip_k0_t1.sl.v757 trip_k0_t1.sl.v758 trip_k0_t1.sl.v755 trip_k0_t1.sl.v756 trip_k0_t1.sl.v753 trip_k0_t1.sl.v750 trip_k0_t1.sl.v749 trip_k0_t1.sl.v748 trip_k0_t1.sl.v747 trip_k0_t1.sl.v746 trip_k0_t1.sl.v745 trip_k0_t1.sl.v744 trip_k0_t1.sl.v743 trip_k0_t1.sl.v742 trip_k0_t1.sl.v741 trip_k0_t1.sl.v739; rw [t_v738, t_v740, t_v754, c_v391, c_v541, c_v538]; rfl
theorem c_m5 : k0_pay232 (trip_k0_t1.sl.v772 i arg3 arg5 arg6 arg9 arg10 arg11 X_arg3 X_arg5 X_arg6 k f_arg9 f_arg11) = m2_5 i arg3 arg5 arg6 arg9 arg11 X_arg3 X_arg5 X_arg6 k f_arg9 f_arg11 := by
  unfold trip_k0_t1.sl.v772 trip_k0_t1.sl.v771 trip_k0_t1.sl.v770 trip_k0_t1.sl.v769 trip_k0_t1.sl.v767; rw [t_v766, t_v768, c_v399, c_v569]; rfl
theorem c_a5 : k0_pay231 (trip_k0_t1.sl.v778 i arg3 arg5 arg6 arg9 arg10 arg11 X_arg3 X_arg5 X_arg6 k f_arg9 f_arg11) (trip_k0_t1.sl.v781 i arg7 v8 X_arg7 k) (trip_k0_t1.sl.v785 i arg3 arg5 arg6 arg7 arg9 arg10 arg11 arg12 v8 X_arg3 X_arg5 X_arg6 X_arg7 k f_arg9 f_arg11 f_arg12) (trip_k0_t1.sl.cst_232) = a2_5 i arg3 arg5 arg6 arg7 arg9 arg11 arg12 v8 X_arg3 X_arg5 X_arg6 X_arg7 k f_arg9 f_arg11 f_arg12 := by
  unfold trip_k0_t1.sl.v778 trip_k0_t1.sl.v781 trip_k0_t1.sl.v785 trip_k0_t1.sl.v783 trip_k0_t1.sl.v784 trip_k0_t1.sl.v777 trip_k0_t1.sl.v776 trip_k0_t1.sl.v775 trip_k0_t1.sl.v774 trip_k0_t1.sl.v773 trip_k0_t1.sl.v772 trip_k0_t1.sl.v771 trip_k0_t1.sl.v770 trip_k0_t1.sl.v769 trip_k0_t1.sl.v767; rw [t_v766, t_v768, t_v782, c_v399, c_v569, c_v566]; rfl
variable (𝒱 : Variants) (c : Dev nD) (bd : Option 𝒱.V) (arg2 v25 v26 c2_i32_13 v27 v29 : BitVec 32) (v30 : BitVec 1)
/-- What a trip leaves in the first score buffer. -/
theorem trip_1 : (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).1 f_arg9 f_arg10 f_arg11 f_arg12 = [⟨R9 5 (by decide), s9_5 i arg3 arg5 arg6 X_arg3 X_arg5 X_arg6 k⟩, ⟨R9 4 (by decide), s9_4 i arg3 arg5 arg6 X_arg3 X_arg5 X_arg6 k⟩, ⟨R9 3 (by decide), s9_3 i arg3 arg5 arg6 X_arg3 X_arg5 X_arg6 k⟩, ⟨R9 2 (by decide), s9_2 i arg3 arg5 arg6 X_arg3 X_arg5 X_arg6 k⟩, ⟨R9 1 (by decide), s9_1 i arg3 arg5 arg6 X_arg3 X_arg5 X_arg6 k⟩, ⟨R9 0 (by decide), s9_0 i arg3 arg5 arg6 X_arg3 X_arg5 X_arg6 k⟩] := by
  unfold trip_k0_t1; rfl
/-- What a trip leaves in the second score buffer. -/
theorem trip_2 : (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.1 f_arg9 f_arg10 f_arg11 f_arg12 = [⟨R9 5 (by decide), s10_5 i arg3 arg5 arg6 X_arg3 X_arg5 X_arg6 k⟩, ⟨R9 4 (by decide), s10_4 i arg3 arg5 arg6 X_arg3 X_arg5 X_arg6 k⟩, ⟨R9 3 (by decide), s10_3 i arg3 arg5 arg6 X_arg3 X_arg5 X_arg6 k⟩, ⟨R9 2 (by decide), s10_2 i arg3 arg5 arg6 X_arg3 X_arg5 X_arg6 k⟩, ⟨R9 1 (by decide), s10_1 i arg3 arg5 arg6 X_arg3 X_arg5 X_arg6 k⟩, ⟨R9 0 (by decide), s10_0 i arg3 arg5 arg6 X_arg3 X_arg5 X_arg6 k⟩] := by
  unfold trip_k0_t1; rfl
/-- What a trip leaves in the maxima. -/
theorem trip_3 : (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.2.1 f_arg9 f_arg10 f_arg11 f_arg12 = [⟨R11 5 (by decide), m2_5 i arg3 arg5 arg6 arg9 arg11 X_arg3 X_arg5 X_arg6 k f_arg9 f_arg11⟩, ⟨R11 4 (by decide), m2_4 i arg3 arg5 arg6 arg9 arg11 X_arg3 X_arg5 X_arg6 k f_arg9 f_arg11⟩, ⟨R11 3 (by decide), m2_3 i arg3 arg5 arg6 arg9 arg11 X_arg3 X_arg5 X_arg6 k f_arg9 f_arg11⟩, ⟨R11 2 (by decide), m2_2 i arg3 arg5 arg6 arg9 arg11 X_arg3 X_arg5 X_arg6 k f_arg9 f_arg11⟩, ⟨R11 1 (by decide), m2_1 i arg3 arg5 arg6 arg9 arg11 X_arg3 X_arg5 X_arg6 k f_arg9 f_arg11⟩, ⟨R11 0 (by decide), m2_0 i arg3 arg5 arg6 arg9 arg11 X_arg3 X_arg5 X_arg6 k f_arg9 f_arg11⟩, ⟨R11 5 (by decide), m1_5 arg9 arg11 f_arg9 f_arg11⟩, ⟨R11 4 (by decide), m1_4 arg9 arg11 f_arg9 f_arg11⟩, ⟨R11 3 (by decide), m1_3 arg9 arg11 f_arg9 f_arg11⟩, ⟨R11 2 (by decide), m1_2 arg9 arg11 f_arg9 f_arg11⟩, ⟨R11 1 (by decide), m1_1 arg9 arg11 f_arg9 f_arg11⟩, ⟨R11 0 (by decide), m1_0 arg9 arg11 f_arg9 f_arg11⟩] := by
  rw [← c_m5 i arg3 arg5 arg6 arg9 arg10 arg11 X_arg3 X_arg5 X_arg6 k f_arg9 f_arg11, ← c_v653 i arg3 arg5 arg6 arg9 arg10 arg11 X_arg3 X_arg5 X_arg6 k f_arg9 f_arg11, ← c_v681 i arg3 arg5 arg6 arg9 arg10 arg11 X_arg3 X_arg5 X_arg6 k f_arg9 f_arg11, ← c_v709 i arg3 arg5 arg6 arg9 arg10 arg11 X_arg3 X_arg5 X_arg6 k f_arg9 f_arg11, ← c_v737 i arg3 arg5 arg6 arg9 arg10 arg11 X_arg3 X_arg5 X_arg6 k f_arg9 f_arg11, ← c_v765 i arg3 arg5 arg6 arg9 arg10 arg11 X_arg3 X_arg5 X_arg6 k f_arg9 f_arg11]
  unfold trip_k0_t1; rfl
/-- What a trip leaves in the weighted sums. -/
theorem trip_4 : (trip_k0_t1 (F := F) 𝒱 c bd i arg3 harg3 arg4 harg4 arg5 harg5 arg6 harg6 arg7 harg7 arg8 harg8 arg9 harg9 arg10 harg10 arg11 harg11 arg12 harg12 arg2 v8 v25 v26 c2_i32_13 v27 v29 v30 X_arg3 X_arg5 X_arg6 X_arg7 k).2.2.2.1 f_arg9 f_arg10 f_arg11 f_arg12 = [⟨R12 5 (by decide), a2_5 i arg3 arg5 arg6 arg7 arg9 arg11 arg12 v8 X_arg3 X_arg5 X_arg6 X_arg7 k f_arg9 f_arg11 f_arg12⟩, ⟨R12 4 (by decide), a2_4 i arg3 arg5 arg6 arg7 arg9 arg11 arg12 v8 X_arg3 X_arg5 X_arg6 X_arg7 k f_arg9 f_arg11 f_arg12⟩, ⟨R12 3 (by decide), a2_3 i arg3 arg5 arg6 arg7 arg9 arg11 arg12 v8 X_arg3 X_arg5 X_arg6 X_arg7 k f_arg9 f_arg11 f_arg12⟩, ⟨R12 2 (by decide), a2_2 i arg3 arg5 arg6 arg7 arg9 arg11 arg12 v8 X_arg3 X_arg5 X_arg6 X_arg7 k f_arg9 f_arg11 f_arg12⟩, ⟨R12 1 (by decide), a2_1 i arg3 arg5 arg6 arg7 arg9 arg11 arg12 v8 X_arg3 X_arg5 X_arg6 X_arg7 k f_arg9 f_arg11 f_arg12⟩, ⟨R12 0 (by decide), a2_0 i arg3 arg5 arg6 arg7 arg9 arg11 arg12 v8 X_arg3 X_arg5 X_arg6 X_arg7 k f_arg9 f_arg11 f_arg12⟩, ⟨R12 5 (by decide), a1_5 i arg7 arg9 arg11 arg12 v8 X_arg7 k f_arg9 f_arg11 f_arg12⟩, ⟨R12 4 (by decide), a1_4 i arg7 arg9 arg11 arg12 v8 X_arg7 k f_arg9 f_arg11 f_arg12⟩, ⟨R12 3 (by decide), a1_3 i arg7 arg9 arg11 arg12 v8 X_arg7 k f_arg9 f_arg11 f_arg12⟩, ⟨R12 2 (by decide), a1_2 i arg7 arg9 arg11 arg12 v8 X_arg7 k f_arg9 f_arg11 f_arg12⟩, ⟨R12 1 (by decide), a1_1 i arg7 arg9 arg11 arg12 v8 X_arg7 k f_arg9 f_arg11 f_arg12⟩, ⟨R12 0 (by decide), a1_0 i arg7 arg9 arg11 arg12 v8 X_arg7 k f_arg9 f_arg11 f_arg12⟩] := by
  rw [← c_a5 i arg3 arg5 arg6 arg7 arg9 arg10 arg11 arg12 v8 X_arg3 X_arg5 X_arg6 X_arg7 k f_arg9 f_arg11 f_arg12, ← c_v650 i arg3 arg5 arg6 arg7 arg9 arg10 arg11 arg12 v8 X_arg3 X_arg5 X_arg6 X_arg7 k f_arg9 f_arg11 f_arg12, ← c_v678 i arg3 arg5 arg6 arg7 arg9 arg10 arg11 arg12 v8 X_arg3 X_arg5 X_arg6 X_arg7 k f_arg9 f_arg11 f_arg12, ← c_v706 i arg3 arg5 arg6 arg7 arg9 arg10 arg11 arg12 v8 X_arg3 X_arg5 X_arg6 X_arg7 k f_arg9 f_arg11 f_arg12, ← c_v734 i arg3 arg5 arg6 arg7 arg9 arg10 arg11 arg12 v8 X_arg3 X_arg5 X_arg6 X_arg7 k f_arg9 f_arg11 f_arg12, ← c_v762 i arg3 arg5 arg6 arg7 arg9 arg10 arg11 arg12 v8 X_arg3 X_arg5 X_arg6 X_arg7 k f_arg9 f_arg11 f_arg12]
  unfold trip_k0_t1; rfl

end

end Cert.KernelIdeal.Att

end
-- ==== Proof.Ideal.State.lean ====
module

public import proofs.«01_k».proof.Proof.Ideal.Step
public import proofs.«01_k».proof.Proof.Ideal.Indep
public import Idealize.ShloMosaic.Lib.Pipeline.ReadBack
public import Idealize.ShloMosaic.Lib.WholeRead
public import Idealize.ShloMosaic.Lib.ValueIdx

@[expose] public section

set_option maxRecDepth 16384

noncomputable section

namespace Cert.KernelIdeal.Att

open Cert.KernelIdeal Cert.KernelIdeal.Gen Idealize.ShloMosaic Idealize.ShloMosaic.TcCoe Idealize.ShloMosaic.ValueIdx

variable {F : FTy → Type} [FloatOps F] [Named F]

section
variable {s : Shape} {e : EltTy} (v : View sig .tc .vmem s e) (f : v.ty.Contents (Elt F))

/-- A read of the rectangle just written gives what was written. -/
theorem rd_hit (r : Rect s) (w : r.shape.Idx → Elt F e) (L : List (View.Piece (Elt F) s e)) :
    v.readAt (Elt F) r.toLoadRect (v.writes (Elt F) f (⟨r, w⟩ :: L)) = w := by
  funext x
  exact View.read_writes_cons_emb v f r w L x

/-- A read apart from the rectangle just written sees what was there before. -/
theorem rd_skip (p : View.Piece (Elt F) s e) (L : List (View.Piece (Elt F) s e)) (B : LoadRect s) (h : LoadRect.disj p.1 B = true) :
    v.readAt (Elt F) B (v.writes (Elt F) f (p :: L)) = v.readAt (Elt F) B (v.writes (Elt F) f L) := by
  funext x
  show v.read (Elt F) (v.writes (Elt F) f (p :: L)) (B.idx x) = _
  rw [View.writes_cons, View.read_slice_write_of_not_mem p.1 _ _ _ (by rw [Rect.map_emb_univ]; exact LoadRect.idx_not_mem_of_disj h x)]
  rfl
end

/-- Head `h`'s queries in the block: its 256 rows. -/
def qV (x0 : Vec F S1536x512 .bf16) (h : ℕ) : Vec F S256x512 .bf16 :=
  fun j => x0 (ix2 (Fin.ofNat 1536 (256 * h + (j 0).val)) (Fin.ofNat 512 (j 1).val))
/-- Block `n` of head `h`'s keys, their first part. -/
def knV (x2 : Vec F S4096x768 .bf16) (n h : ℕ) : Vec F S512x128 .bf16 :=
  fun j => x2 (ix2 (Fin.ofNat 4096 (512 * n + (j 0).val)) (Fin.ofNat 768 (128 * h + (j 1).val)))
/-- Block `n` of the keys' second part, the same for every head. -/
def krV (x3 : Vec F S4096x128 .bf16) (n : ℕ) : Vec F S512x128 .bf16 :=
  fun j => x3 (ix2 (Fin.ofNat 4096 (512 * n + (j 0).val)) (Fin.ofNat 128 (j 1).val))
/-- Block `n` of head `h`'s values. -/
def vV (x4 : Vec F S768x4096 .bf16) (n h : ℕ) : Vec F S128x512 .bf16 :=
  fun j => x4 (ix2 (Fin.ofNat 768 (128 * h + (j 0).val)) (Fin.ofNat 4096 (512 * n + (j 1).val)))
/-- Head `h`'s scores of block `n`. -/
def Sc (x0 : Vec F S1536x512 .bf16) (x2 : Vec F S4096x768 .bf16) (x3 : Vec F S4096x128 .bf16) (n h : ℕ) : FVec F S1x512x512 .f32 :=
  scF (krV x3 n) (knV x2 n h) (qV x0 h)
/-- Head `h`'s running maxima after `n` blocks. -/
def mV (x0 : Vec F S1536x512 .bf16) (x2 : Vec F S4096x768 .bf16) (x3 : Vec F S4096x128 .bf16) (h : ℕ) : ℕ → Vec F S1x1x512 .f32
  | 0 => fun _ => Named.named κ "mask" 0xF149F2CA#32
  | n + 1 => mxF (un (Sc x0 x2 x3 n h)) (mV x0 x2 x3 h n)
/-- Head `h`'s weighted sums after `n` blocks. -/
def aV (x0 : Vec F S1536x512 .bf16) (x2 : Vec F S4096x768 .bf16) (x3 : Vec F S4096x128 .bf16) (x4 : Vec F S768x4096 .bf16) (h : ℕ) : ℕ → Vec F S1x144x512 .f32
  | 0 => fun _ => Scalar.ofBits .f32 0x00000000#32
  | n + 1 => acF k0_pay225 (un (Sc x0 x2 x3 n h)) (mV x0 x2 x3 h n) (vV x4 n h) (aV x0 x2 x3 x4 h n)

/-- What a load of `qV x h`'s rectangle reads. -/
theorem rd_q (a : Memref sig .tc .vmem S1536x512 .bf16) (ha : a.IsWhole) (x : Vec F S1536x512 .bf16) (off : Fin 2 → ℕ) (inb : ∀ c, off c + S256x512.size c ≤ S1536x512.size c) (h : ℕ) (ho : off = ![256 * h, 0]) :
    View.readAt (Elt F) a.view (Rect.unit (s := S1536x512) off S256x512.size inb).toLoadRect (ha.unread x) = qV x h := by
  subst ho
  funext j
  rw [ha.readAt_unread]
  have h0 := inb ⟨0, by decide⟩
  have h1 := inb ⟨1, by decide⟩
  have e0 : (j 0).val < S256x512.size 0 := (j 0).isLt
  have e1 : (j 1).val < S256x512.size 1 := (j 1).isLt
  change _ + _ ≤ _ at h0 h1
  simp [S1536x512, S256x512] at h0 h1 e0 e1
  unfold qV
  congr 1
  funext c
  apply Fin.ext
  match c with
  | ⟨0, _⟩ =>
    show 256 * h + 1 * (j 0).val = _
    simp only [ix2, Fin.ofNat]
    show _ = (256 * h + (j 0).val) % _
    rw [Nat.mod_eq_of_lt (by omega)]; omega
  | ⟨1, _⟩ =>
    show 0 + 1 * (j 1).val = _
    simp only [ix2, Fin.ofNat]
    show _ = ((j 1).val) % _
    rw [Nat.mod_eq_of_lt (by omega)]; omega

/-- What a load of `knV x n h`'s rectangle reads. -/
theorem rd_kn (a : Memref sig .tc .vmem S4096x768 .bf16) (ha : a.IsWhole) (x : Vec F S4096x768 .bf16) (off : Fin 2 → ℕ) (inb : ∀ c, off c + S512x128.size c ≤ S4096x768.size c) (n h : ℕ) (ho : off = ![512 * n, 128 * h]) :
    View.readAt (Elt F) a.view (Rect.unit (s := S4096x768) off S512x128.size inb).toLoadRect (ha.unread x) = knV x n h := by
  subst ho
  funext j
  rw [ha.readAt_unread]
  have h0 := inb ⟨0, by decide⟩
  have h1 := inb ⟨1, by decide⟩
  have e0 : (j 0).val < S512x128.size 0 := (j 0).isLt
  have e1 : (j 1).val < S512x128.size 1 := (j 1).isLt
  change _ + _ ≤ _ at h0 h1
  simp [S4096x768, S512x128] at h0 h1 e0 e1
  unfold knV
  congr 1
  funext c
  apply Fin.ext
  match c with
  | ⟨0, _⟩ =>
    show 512 * n + 1 * (j 0).val = _
    simp only [ix2, Fin.ofNat]
    show _ = (512 * n + (j 0).val) % _
    rw [Nat.mod_eq_of_lt (by omega)]; omega
  | ⟨1, _⟩ =>
    show 128 * h + 1 * (j 1).val = _
    simp only [ix2, Fin.ofNat]
    show _ = (128 * h + (j 1).val) % _
    rw [Nat.mod_eq_of_lt (by omega)]; omega

/-- What a load of `krV x n`'s rectangle reads. -/
theorem rd_kr (a : Memref sig .tc .vmem S4096x128 .bf16) (ha : a.IsWhole) (x : Vec F S4096x128 .bf16) (off : Fin 2 → ℕ) (inb : ∀ c, off c + S512x128.size c ≤ S4096x128.size c) (n : ℕ) (ho : off = ![512 * n, 0]) :
    View.readAt (Elt F) a.view (Rect.unit (s := S4096x128) off S512x128.size inb).toLoadRect (ha.unread x) = krV x n := by
  subst ho
  funext j
  rw [ha.readAt_unread]
  have h0 := inb ⟨0, by decide⟩
  have h1 := inb ⟨1, by decide⟩
  have e0 : (j 0).val < S512x128.size 0 := (j 0).isLt
  have e1 : (j 1).val < S512x128.size 1 := (j 1).isLt
  change _ + _ ≤ _ at h0 h1
  simp [S4096x128, S512x128] at h0 h1 e0 e1
  unfold krV
  congr 1
  funext c
  apply Fin.ext
  match c with
  | ⟨0, _⟩ =>
    show 512 * n + 1 * (j 0).val = _
    simp only [ix2, Fin.ofNat]
    show _ = (512 * n + (j 0).val) % _
    rw [Nat.mod_eq_of_lt (by omega)]; omega
  | ⟨1, _⟩ =>
    show 0 + 1 * (j 1).val = _
    simp only [ix2, Fin.ofNat]
    show _ = ((j 1).val) % _
    rw [Nat.mod_eq_of_lt (by omega)]; omega

/-- What a load of `vV x n h`'s rectangle reads. -/
theorem rd_v (a : Memref sig .tc .vmem S768x4096 .bf16) (ha : a.IsWhole) (x : Vec F S768x4096 .bf16) (off : Fin 2 → ℕ) (inb : ∀ c, off c + S128x512.size c ≤ S768x4096.size c) (n h : ℕ) (ho : off = ![128 * h, 512 * n]) :
    View.readAt (Elt F) a.view (Rect.unit (s := S768x4096) off S128x512.size inb).toLoadRect (ha.unread x) = vV x n h := by
  subst ho
  funext j
  rw [ha.readAt_unread]
  have h0 := inb ⟨0, by decide⟩
  have h1 := inb ⟨1, by decide⟩
  have e0 : (j 0).val < S128x512.size 0 := (j 0).isLt
  have e1 : (j 1).val < S128x512.size 1 := (j 1).isLt
  change _ + _ ≤ _ at h0 h1
  simp [S768x4096, S128x512] at h0 h1 e0 e1
  unfold vV
  congr 1
  funext c
  apply Fin.ext
  match c with
  | ⟨0, _⟩ =>
    show 128 * h + 1 * (j 0).val = _
    simp only [ix2, Fin.ofNat]
    show _ = (128 * h + (j 0).val) % _
    rw [Nat.mod_eq_of_lt (by omega)]; omega
  | ⟨1, _⟩ =>
    show 512 * n + 1 * (j 1).val = _
    simp only [ix2, Fin.ofNat]
    show _ = (512 * n + (j 1).val) % _
    rw [Nat.mod_eq_of_lt (by omega)]; omega

end Cert.KernelIdeal.Att

end
-- ==== Proof.Ideal.Offs.lean ====
module

public import proofs.«01_k».proof.Proof.Ideal.Step
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe

variable {F : FTy → Type} [FloatOps F] [Named F]

/-- The loop makes half as many trips as there are query blocks before this one. -/
theorem trips1 : ∀ i : grid0.Coords, (k0_t1_loop i).trips = (i 2).val / 2 := by decide +kernel
/-- Where a trip's load of keys begins. -/
theorem off1_1 : ∀ (i : grid0.Coords) (k : Fin (k0_t1_loop i).trips), k0_off1 i k 1#32 = ![512 * ((i 2).val % 2 + 2 * k.val + 1), 0] := by decide +kernel
/-- Where a trip's load of keys begins. -/
theorem off2_1 : ∀ (i : grid0.Coords) (k : Fin (k0_t1_loop i).trips), k0_off2 i k 1#32 = ![512 * ((i 2).val % 2 + 2 * k.val + 1), 128 * 0] := by decide +kernel
/-- Where a trip's load of keys begins. -/
theorem off3_1 : ∀ (i : grid0.Coords) (k : Fin (k0_t1_loop i).trips), k0_off3 i k 1#32 = ![512 * ((i 2).val % 2 + 2 * k.val + 1), 128 * 1] := by decide +kernel
/-- Where a trip's load of keys begins. -/
theorem off4_1 : ∀ (i : grid0.Coords) (k : Fin (k0_t1_loop i).trips), k0_off4 i k 1#32 = ![512 * ((i 2).val % 2 + 2 * k.val + 1), 128 * 2] := by decide +kernel
/-- Where a trip's load of keys begins. -/
theorem off5_1 : ∀ (i : grid0.Coords) (k : Fin (k0_t1_loop i).trips), k0_off5 i k 1#32 = ![512 * ((i 2).val % 2 + 2 * k.val + 1), 128 * 3] := by decide +kernel
/-- Where a trip's load of keys begins. -/
theorem off6_1 : ∀ (i : grid0.Coords) (k : Fin (k0_t1_loop i).trips), k0_off6 i k 1#32 = ![512 * ((i 2).val % 2 + 2 * k.val + 1), 128 * 4] := by decide +kernel
/-- Where a trip's load of keys begins. -/
theorem off7_1 : ∀ (i : grid0.Coords) (k : Fin (k0_t1_loop i).trips), k0_off7 i k 1#32 = ![512 * ((i 2).val % 2 + 2 * k.val + 1), 128 * 5] := by decide +kernel
/-- Where a trip's load of keys begins. -/
theorem off1_2 : ∀ (i : grid0.Coords) (k : Fin (k0_t1_loop i).trips), k0_off1 i k 2#32 = ![512 * ((i 2).val % 2 + 2 * k.val + 2), 0] := by decide +kernel
/-- Where a trip's load of keys begins. -/
theorem off2_2 : ∀ (i : grid0.Coords) (k : Fin (k0_t1_loop i).trips), k0_off2 i k 2#32 = ![512 * ((i 2).val % 2 + 2 * k.val + 2), 128 * 0] := by decide +kernel
/-- Where a trip's load of keys begins. -/
theorem off3_2 : ∀ (i : grid0.Coords) (k : Fin (k0_t1_loop i).trips), k0_off3 i k 2#32 = ![512 * ((i 2).val % 2 + 2 * k.val + 2), 128 * 1] := by decide +kernel
/-- Where a trip's load of keys begins. -/
theorem off4_2 : ∀ (i : grid0.Coords) (k : Fin (k0_t1_loop i).trips), k0_off4 i k 2#32 = ![512 * ((i 2).val % 2 + 2 * k.val + 2), 128 * 2] := by decide +kernel
/-- Where a trip's load of keys begins. -/
theorem off5_2 : ∀ (i : grid0.Coords) (k : Fin (k0_t1_loop i).trips), k0_off5 i k 2#32 = ![512 * ((i 2).val % 2 + 2 * k.val + 2), 128 * 3] := by decide +kernel
/-- Where a trip's load of keys begins. -/
theorem off6_2 : ∀ (i : grid0.Coords) (k : Fin (k0_t1_loop i).trips), k0_off6 i k 2#32 = ![512 * ((i 2).val % 2 + 2 * k.val + 2), 128 * 4] := by decide +kernel
/-- Where a trip's load of keys begins. -/
theorem off7_2 : ∀ (i : grid0.Coords) (k : Fin (k0_t1_loop i).trips), k0_off7 i k 2#32 = ![512 * ((i 2).val % 2 + 2 * k.val + 2), 128 * 5] := by decide +kernel
/-- Where a trip's load of values begins. -/
theorem off8_ : ∀ (i : grid0.Coords) (k : Fin (k0_t1_loop i).trips), k0_off8 i k = ![128 * 0, 512 * ((i 2).val % 2 + 2 * k.val)] := by decide +kernel
/-- Where a trip's load of values begins. -/
theorem off9_ : ∀ (i : grid0.Coords) (k : Fin (k0_t1_loop i).trips), k0_off9 i k = ![128 * 1, 512 * ((i 2).val % 2 + 2 * k.val)] := by decide +kernel
/-- Where a trip's load of values begins. -/
theorem off10_ : ∀ (i : grid0.Coords) (k : Fin (k0_t1_loop i).trips), k0_off10 i k = ![128 * 2, 512 * ((i 2).val % 2 + 2 * k.val)] := by decide +kernel
/-- Where a trip's load of values begins. -/
theorem off11_ : ∀ (i : grid0.Coords) (k : Fin (k0_t1_loop i).trips), k0_off11 i k = ![128 * 3, 512 * ((i 2).val % 2 + 2 * k.val)] := by decide +kernel
/-- Where a trip's load of values begins. -/
theorem off12_ : ∀ (i : grid0.Coords) (k : Fin (k0_t1_loop i).trips), k0_off12 i k = ![128 * 4, 512 * ((i 2).val % 2 + 2 * k.val)] := by decide +kernel
/-- Where a trip's load of values begins. -/
theorem off13_ : ∀ (i : grid0.Coords) (k : Fin (k0_t1_loop i).trips), k0_off13 i k = ![128 * 5, 512 * ((i 2).val % 2 + 2 * k.val)] := by decide +kernel
/-- Where a trip's load of values begins. -/
theorem off14_ : ∀ (i : grid0.Coords) (k : Fin (k0_t1_loop i).trips), k0_off14 i k = ![128 * 0, 512 * ((i 2).val % 2 + 2 * k.val + 1)] := by decide +kernel
/-- Where a trip's load of values begins. -/
theorem off15_ : ∀ (i : grid0.Coords) (k : Fin (k0_t1_loop i).trips), k0_off15 i k = ![128 * 1, 512 * ((i 2).val % 2 + 2 * k.val + 1)] := by decide +kernel
/-- Where a trip's load of values begins. -/
theorem off16_ : ∀ (i : grid0.Coords) (k : Fin (k0_t1_loop i).trips), k0_off16 i k = ![128 * 2, 512 * ((i 2).val % 2 + 2 * k.val + 1)] := by decide +kernel
/-- Where a trip's load of values begins. -/
theorem off17_ : ∀ (i : grid0.Coords) (k : Fin (k0_t1_loop i).trips), k0_off17 i k = ![128 * 3, 512 * ((i 2).val % 2 + 2 * k.val + 1)] := by decide +kernel
/-- Where a trip's load of values begins. -/
theorem off18_ : ∀ (i : grid0.Coords) (k : Fin (k0_t1_loop i).trips), k0_off18 i k = ![128 * 4, 512 * ((i 2).val % 2 + 2 * k.val + 1)] := by decide +kernel
/-- Where a trip's load of values begins. -/
theorem off19_ : ∀ (i : grid0.Coords) (k : Fin (k0_t1_loop i).trips), k0_off19 i k = ![128 * 5, 512 * ((i 2).val % 2 + 2 * k.val + 1)] := by decide +kernel
/-- Where the last load of values begins. -/
theorem off39_ : ∀ (i : grid0.Coords), k0_off39 i = ![128 * 0, 512 * (i 2).val] := by decide +kernel
/-- Where the last load of values begins. -/
theorem off40_ : ∀ (i : grid0.Coords), k0_off40 i = ![128 * 1, 512 * (i 2).val] := by decide +kernel
/-- Where the last load of values begins. -/
theorem off41_ : ∀ (i : grid0.Coords), k0_off41 i = ![128 * 2, 512 * (i 2).val] := by decide +kernel
/-- Where the last load of values begins. -/
theorem off42_ : ∀ (i : grid0.Coords), k0_off42 i = ![128 * 3, 512 * (i 2).val] := by decide +kernel
/-- Where the last load of values begins. -/
theorem off43_ : ∀ (i : grid0.Coords), k0_off43 i = ![128 * 4, 512 * (i 2).val] := by decide +kernel
/-- Where the last load of values begins. -/
theorem off44_ : ∀ (i : grid0.Coords), k0_off44 i = ![128 * 5, 512 * (i 2).val] := by decide +kernel

end Cert.KernelIdeal.Att

end
-- ==== Proof.Ideal.Trip.lean ====
module

public import proofs.«01_k».proof.Proof.Ideal.State
public import proofs.«01_k».proof.Proof.Ideal.Offs
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe

variable {F : FTy → Type} [FloatOps F] [Named F]

section
variable (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole)
  (v8 : FVec F S16x512 .bf16) (x0 : Vec F S1536x512 .bf16) (x2 : Vec F S4096x768 .bf16) (x3 : Vec F S4096x128 .bf16) (x4 : Vec F S768x4096 .bf16) (k : Fin (k0_t1_loop i).trips)
  (f_arg9 : BufTy.Contents (Elt F) arg9.view.ty) (f_arg10 : BufTy.Contents (Elt F) arg10.view.ty) (f_arg11 : BufTy.Contents (Elt F) arg11.view.ty) (f_arg12 : BufTy.Contents (Elt F) arg12.view.ty)

/-- The three buffers hold, for each of the six heads, the scores of block `n` and the maxima and sums after `n` blocks. -/
def St (n : ℕ) : Prop := ∀ (h : ℕ) (hh : h < 6),
  View.readAt (Elt F) arg9.view (R9 h hh).toLoadRect f_arg9 = Sc x0 x2 x3 n h ∧
  View.readAt (Elt F) arg11.view (R11 h hh).toLoadRect f_arg11 = mV x0 x2 x3 h n ∧
  View.readAt (Elt F) arg12.view (R12 h hh).toLoadRect f_arg12 = aV x0 x2 x3 x4 h n

theorem e10_0 : s10_0 i arg3 arg5 arg6 (harg3.unread x0) (harg5.unread x2) (harg6.unread x3) k = Sc x0 x2 x3 (((i 2).val % 2 + 2 * k.val) + 1) 0 := by
  unfold s10_0; rw [rd_kr _ _ _ _ _ (((i 2).val % 2 + 2 * k.val) + 1) (off1_1 i k), rd_kn _ _ _ _ _ (((i 2).val % 2 + 2 * k.val) + 1) 0 (off2_1 i k), rd_q _ _ _ _ _ 0 rfl]; rfl
theorem e9_0 : s9_0 i arg3 arg5 arg6 (harg3.unread x0) (harg5.unread x2) (harg6.unread x3) k = Sc x0 x2 x3 (((i 2).val % 2 + 2 * k.val) + 2) 0 := by
  unfold s9_0; rw [rd_kr _ _ _ _ _ (((i 2).val % 2 + 2 * k.val) + 2) (off1_2 i k), rd_kn _ _ _ _ _ (((i 2).val % 2 + 2 * k.val) + 2) 0 (off2_2 i k), rd_q _ _ _ _ _ 0 rfl]; rfl
theorem eva_0 : va_0 i arg7 (harg7.unread x4) k = vV x4 ((i 2).val % 2 + 2 * k.val) 0 := by
  unfold va_0; rw [rd_v _ _ _ _ _ ((i 2).val % 2 + 2 * k.val) 0 (off8_ i k)]
theorem evb_0 : vb_0 i arg7 (harg7.unread x4) k = vV x4 (((i 2).val % 2 + 2 * k.val) + 1) 0 := by
  unfold vb_0; rw [rd_v _ _ _ _ _ (((i 2).val % 2 + 2 * k.val) + 1) 0 (off14_ i k)]
theorem em1_0 (H : St arg9 arg11 arg12 x0 x2 x3 x4 f_arg9 f_arg11 f_arg12 ((i 2).val % 2 + 2 * k.val)) : m1_0 arg9 arg11 f_arg9 f_arg11 = mV x0 x2 x3 0 (((i 2).val % 2 + 2 * k.val) + 1) := by
  have H := H 0 (by decide)
  unfold m1_0 s0_0 m0_0; rw [H.1, H.2.1]; rfl
theorem em2_0 (H : St arg9 arg11 arg12 x0 x2 x3 x4 f_arg9 f_arg11 f_arg12 ((i 2).val % 2 + 2 * k.val)) : m2_0 i arg3 arg5 arg6 arg9 arg11 (harg3.unread x0) (harg5.unread x2) (harg6.unread x3) k f_arg9 f_arg11 = mV x0 x2 x3 0 (((i 2).val % 2 + 2 * k.val) + 2) := by
  unfold m2_0; rw [em1_0 (H := H), e10_0]; rfl
theorem ea2_0 (H : St arg9 arg11 arg12 x0 x2 x3 x4 f_arg9 f_arg11 f_arg12 ((i 2).val % 2 + 2 * k.val)) : a2_0 i arg3 arg5 arg6 arg7 arg9 arg11 arg12 k0_pay225 (harg3.unread x0) (harg5.unread x2) (harg6.unread x3) (harg7.unread x4) k f_arg9 f_arg11 f_arg12 = aV x0 x2 x3 x4 0 (((i 2).val % 2 + 2 * k.val) + 2) := by
  unfold a2_0 a1_0; rw [em1_0 (H := H), e10_0, eva_0, evb_0]
  have H := H 0 (by decide)
  unfold s0_0 m0_0 a0_0; rw [H.1, H.2.1, H.2.2]; rfl

theorem e10_1 : s10_1 i arg3 arg5 arg6 (harg3.unread x0) (harg5.unread x2) (harg6.unread x3) k = Sc x0 x2 x3 (((i 2).val % 2 + 2 * k.val) + 1) 1 := by
  unfold s10_1; rw [rd_kr _ _ _ _ _ (((i 2).val % 2 + 2 * k.val) + 1) (off1_1 i k), rd_kn _ _ _ _ _ (((i 2).val % 2 + 2 * k.val) + 1) 1 (off3_1 i k), rd_q _ _ _ _ _ 1 rfl]; rfl
theorem e9_1 : s9_1 i arg3 arg5 arg6 (harg3.unread x0) (harg5.unread x2) (harg6.unread x3) k = Sc x0 x2 x3 (((i 2).val % 2 + 2 * k.val) + 2) 1 := by
  unfold s9_1; rw [rd_kr _ _ _ _ _ (((i 2).val % 2 + 2 * k.val) + 2) (off1_2 i k), rd_kn _ _ _ _ _ (((i 2).val % 2 + 2 * k.val) + 2) 1 (off3_2 i k), rd_q _ _ _ _ _ 1 rfl]; rfl
theorem eva_1 : va_1 i arg7 (harg7.unread x4) k = vV x4 ((i 2).val % 2 + 2 * k.val) 1 := by
  unfold va_1; rw [rd_v _ _ _ _ _ ((i 2).val % 2 + 2 * k.val) 1 (off9_ i k)]
theorem evb_1 : vb_1 i arg7 (harg7.unread x4) k = vV x4 (((i 2).val % 2 + 2 * k.val) + 1) 1 := by
  unfold vb_1; rw [rd_v _ _ _ _ _ (((i 2).val % 2 + 2 * k.val) + 1) 1 (off15_ i k)]
theorem em1_1 (H : St arg9 arg11 arg12 x0 x2 x3 x4 f_arg9 f_arg11 f_arg12 ((i 2).val % 2 + 2 * k.val)) : m1_1 arg9 arg11 f_arg9 f_arg11 = mV x0 x2 x3 1 (((i 2).val % 2 + 2 * k.val) + 1) := by
  have H := H 1 (by decide)
  unfold m1_1 s0_1 m0_1; rw [H.1, H.2.1]; rfl
theorem em2_1 (H : St arg9 arg11 arg12 x0 x2 x3 x4 f_arg9 f_arg11 f_arg12 ((i 2).val % 2 + 2 * k.val)) : m2_1 i arg3 arg5 arg6 arg9 arg11 (harg3.unread x0) (harg5.unread x2) (harg6.unread x3) k f_arg9 f_arg11 = mV x0 x2 x3 1 (((i 2).val % 2 + 2 * k.val) + 2) := by
  unfold m2_1; rw [em1_1 (H := H), e10_1]; rfl
theorem ea2_1 (H : St arg9 arg11 arg12 x0 x2 x3 x4 f_arg9 f_arg11 f_arg12 ((i 2).val % 2 + 2 * k.val)) : a2_1 i arg3 arg5 arg6 arg7 arg9 arg11 arg12 k0_pay225 (harg3.unread x0) (harg5.unread x2) (harg6.unread x3) (harg7.unread x4) k f_arg9 f_arg11 f_arg12 = aV x0 x2 x3 x4 1 (((i 2).val % 2 + 2 * k.val) + 2) := by
  unfold a2_1 a1_1; rw [em1_1 (H := H), e10_1, eva_1, evb_1]
  have H := H 1 (by decide)
  unfold s0_1 m0_1 a0_1; rw [H.1, H.2.1, H.2.2]; rfl

theorem e10_2 : s10_2 i arg3 arg5 arg6 (harg3.unread x0) (harg5.unread x2) (harg6.unread x3) k = Sc x0 x2 x3 (((i 2).val % 2 + 2 * k.val) + 1) 2 := by
  unfold s10_2; rw [rd_kr _ _ _ _ _ (((i 2).val % 2 + 2 * k.val) + 1) (off1_1 i k), rd_kn _ _ _ _ _ (((i 2).val % 2 + 2 * k.val) + 1) 2 (off4_1 i k), rd_q _ _ _ _ _ 2 rfl]; rfl
theorem e9_2 : s9_2 i arg3 arg5 arg6 (harg3.unread x0) (harg5.unread x2) (harg6.unread x3) k = Sc x0 x2 x3 (((i 2).val % 2 + 2 * k.val) + 2) 2 := by
  unfold s9_2; rw [rd_kr _ _ _ _ _ (((i 2).val % 2 + 2 * k.val) + 2) (off1_2 i k), rd_kn _ _ _ _ _ (((i 2).val % 2 + 2 * k.val) + 2) 2 (off4_2 i k), rd_q _ _ _ _ _ 2 rfl]; rfl
theorem eva_2 : va_2 i arg7 (harg7.unread x4) k = vV x4 ((i 2).val % 2 + 2 * k.val) 2 := by
  unfold va_2; rw [rd_v _ _ _ _ _ ((i 2).val % 2 + 2 * k.val) 2 (off10_ i k)]
theorem evb_2 : vb_2 i arg7 (harg7.unread x4) k = vV x4 (((i 2).val % 2 + 2 * k.val) + 1) 2 := by
  unfold vb_2; rw [rd_v _ _ _ _ _ (((i 2).val % 2 + 2 * k.val) + 1) 2 (off16_ i k)]
theorem em1_2 (H : St arg9 arg11 arg12 x0 x2 x3 x4 f_arg9 f_arg11 f_arg12 ((i 2).val % 2 + 2 * k.val)) : m1_2 arg9 arg11 f_arg9 f_arg11 = mV x0 x2 x3 2 (((i 2).val % 2 + 2 * k.val) + 1) := by
  have H := H 2 (by decide)
  unfold m1_2 s0_2 m0_2; rw [H.1, H.2.1]; rfl
theorem em2_2 (H : St arg9 arg11 arg12 x0 x2 x3 x4 f_arg9 f_arg11 f_arg12 ((i 2).val % 2 + 2 * k.val)) : m2_2 i arg3 arg5 arg6 arg9 arg11 (harg3.unread x0) (harg5.unread x2) (harg6.unread x3) k f_arg9 f_arg11 = mV x0 x2 x3 2 (((i 2).val % 2 + 2 * k.val) + 2) := by
  unfold m2_2; rw [em1_2 (H := H), e10_2]; rfl
theorem ea2_2 (H : St arg9 arg11 arg12 x0 x2 x3 x4 f_arg9 f_arg11 f_arg12 ((i 2).val % 2 + 2 * k.val)) : a2_2 i arg3 arg5 arg6 arg7 arg9 arg11 arg12 k0_pay225 (harg3.unread x0) (harg5.unread x2) (harg6.unread x3) (harg7.unread x4) k f_arg9 f_arg11 f_arg12 = aV x0 x2 x3 x4 2 (((i 2).val % 2 + 2 * k.val) + 2) := by
  unfold a2_2 a1_2; rw [em1_2 (H := H), e10_2, eva_2, evb_2]
  have H := H 2 (by decide)
  unfold s0_2 m0_2 a0_2; rw [H.1, H.2.1, H.2.2]; rfl

theorem e10_3 : s10_3 i arg3 arg5 arg6 (harg3.unread x0) (harg5.unread x2) (harg6.unread x3) k = Sc x0 x2 x3 (((i 2).val % 2 + 2 * k.val) + 1) 3 := by
  unfold s10_3; rw [rd_kr _ _ _ _ _ (((i 2).val % 2 + 2 * k.val) + 1) (off1_1 i k), rd_kn _ _ _ _ _ (((i 2).val % 2 + 2 * k.val) + 1) 3 (off5_1 i k), rd_q _ _ _ _ _ 3 rfl]; rfl
theorem e9_3 : s9_3 i arg3 arg5 arg6 (harg3.unread x0) (harg5.unread x2) (harg6.unread x3) k = Sc x0 x2 x3 (((i 2).val % 2 + 2 * k.val) + 2) 3 := by
  unfold s9_3; rw [rd_kr _ _ _ _ _ (((i 2).val % 2 + 2 * k.val) + 2) (off1_2 i k), rd_kn _ _ _ _ _ (((i 2).val % 2 + 2 * k.val) + 2) 3 (off5_2 i k), rd_q _ _ _ _ _ 3 rfl]; rfl
theorem eva_3 : va_3 i arg7 (harg7.unread x4) k = vV x4 ((i 2).val % 2 + 2 * k.val) 3 := by
  unfold va_3; rw [rd_v _ _ _ _ _ ((i 2).val % 2 + 2 * k.val) 3 (off11_ i k)]
theorem evb_3 : vb_3 i arg7 (harg7.unread x4) k = vV x4 (((i 2).val % 2 + 2 * k.val) + 1) 3 := by
  unfold vb_3; rw [rd_v _ _ _ _ _ (((i 2).val % 2 + 2 * k.val) + 1) 3 (off17_ i k)]
theorem em1_3 (H : St arg9 arg11 arg12 x0 x2 x3 x4 f_arg9 f_arg11 f_arg12 ((i 2).val % 2 + 2 * k.val)) : m1_3 arg9 arg11 f_arg9 f_arg11 = mV x0 x2 x3 3 (((i 2).val % 2 + 2 * k.val) + 1) := by
  have H := H 3 (by decide)
  unfold m1_3 s0_3 m0_3; rw [H.1, H.2.1]; rfl
theorem em2_3 (H : St arg9 arg11 arg12 x0 x2 x3 x4 f_arg9 f_arg11 f_arg12 ((i 2).val % 2 + 2 * k.val)) : m2_3 i arg3 arg5 arg6 arg9 arg11 (harg3.unread x0) (harg5.unread x2) (harg6.unread x3) k f_arg9 f_arg11 = mV x0 x2 x3 3 (((i 2).val % 2 + 2 * k.val) + 2) := by
  unfold m2_3; rw [em1_3 (H := H), e10_3]; rfl
theorem ea2_3 (H : St arg9 arg11 arg12 x0 x2 x3 x4 f_arg9 f_arg11 f_arg12 ((i 2).val % 2 + 2 * k.val)) : a2_3 i arg3 arg5 arg6 arg7 arg9 arg11 arg12 k0_pay225 (harg3.unread x0) (harg5.unread x2) (harg6.unread x3) (harg7.unread x4) k f_arg9 f_arg11 f_arg12 = aV x0 x2 x3 x4 3 (((i 2).val % 2 + 2 * k.val) + 2) := by
  unfold a2_3 a1_3; rw [em1_3 (H := H), e10_3, eva_3, evb_3]
  have H := H 3 (by decide)
  unfold s0_3 m0_3 a0_3; rw [H.1, H.2.1, H.2.2]; rfl

theorem e10_4 : s10_4 i arg3 arg5 arg6 (harg3.unread x0) (harg5.unread x2) (harg6.unread x3) k = Sc x0 x2 x3 (((i 2).val % 2 + 2 * k.val) + 1) 4 := by
  unfold s10_4; rw [rd_kr _ _ _ _ _ (((i 2).val % 2 + 2 * k.val) + 1) (off1_1 i k), rd_kn _ _ _ _ _ (((i 2).val % 2 + 2 * k.val) + 1) 4 (off6_1 i k), rd_q _ _ _ _ _ 4 rfl]; rfl
theorem e9_4 : s9_4 i arg3 arg5 arg6 (harg3.unread x0) (harg5.unread x2) (harg6.unread x3) k = Sc x0 x2 x3 (((i 2).val % 2 + 2 * k.val) + 2) 4 := by
  unfold s9_4; rw [rd_kr _ _ _ _ _ (((i 2).val % 2 + 2 * k.val) + 2) (off1_2 i k), rd_kn _ _ _ _ _ (((i 2).val % 2 + 2 * k.val) + 2) 4 (off6_2 i k), rd_q _ _ _ _ _ 4 rfl]; rfl
theorem eva_4 : va_4 i arg7 (harg7.unread x4) k = vV x4 ((i 2).val % 2 + 2 * k.val) 4 := by
  unfold va_4; rw [rd_v _ _ _ _ _ ((i 2).val % 2 + 2 * k.val) 4 (off12_ i k)]
theorem evb_4 : vb_4 i arg7 (harg7.unread x4) k = vV x4 (((i 2).val % 2 + 2 * k.val) + 1) 4 := by
  unfold vb_4; rw [rd_v _ _ _ _ _ (((i 2).val % 2 + 2 * k.val) + 1) 4 (off18_ i k)]
theorem em1_4 (H : St arg9 arg11 arg12 x0 x2 x3 x4 f_arg9 f_arg11 f_arg12 ((i 2).val % 2 + 2 * k.val)) : m1_4 arg9 arg11 f_arg9 f_arg11 = mV x0 x2 x3 4 (((i 2).val % 2 + 2 * k.val) + 1) := by
  have H := H 4 (by decide)
  unfold m1_4 s0_4 m0_4; rw [H.1, H.2.1]; rfl
theorem em2_4 (H : St arg9 arg11 arg12 x0 x2 x3 x4 f_arg9 f_arg11 f_arg12 ((i 2).val % 2 + 2 * k.val)) : m2_4 i arg3 arg5 arg6 arg9 arg11 (harg3.unread x0) (harg5.unread x2) (harg6.unread x3) k f_arg9 f_arg11 = mV x0 x2 x3 4 (((i 2).val % 2 + 2 * k.val) + 2) := by
  unfold m2_4; rw [em1_4 (H := H), e10_4]; rfl
theorem ea2_4 (H : St arg9 arg11 arg12 x0 x2 x3 x4 f_arg9 f_arg11 f_arg12 ((i 2).val % 2 + 2 * k.val)) : a2_4 i arg3 arg5 arg6 arg7 arg9 arg11 arg12 k0_pay225 (harg3.unread x0) (harg5.unread x2) (harg6.unread x3) (harg7.unread x4) k f_arg9 f_arg11 f_arg12 = aV x0 x2 x3 x4 4 (((i 2).val % 2 + 2 * k.val) + 2) := by
  unfold a2_4 a1_4; rw [em1_4 (H := H), e10_4, eva_4, evb_4]
  have H := H 4 (by decide)
  unfold s0_4 m0_4 a0_4; rw [H.1, H.2.1, H.2.2]; rfl

theorem e10_5 : s10_5 i arg3 arg5 arg6 (harg3.unread x0) (harg5.unread x2) (harg6.unread x3) k = Sc x0 x2 x3 (((i 2).val % 2 + 2 * k.val) + 1) 5 := by
  unfold s10_5; rw [rd_kr _ _ _ _ _ (((i 2).val % 2 + 2 * k.val) + 1) (off1_1 i k), rd_kn _ _ _ _ _ (((i 2).val % 2 + 2 * k.val) + 1) 5 (off7_1 i k), rd_q _ _ _ _ _ 5 rfl]; rfl
theorem e9_5 : s9_5 i arg3 arg5 arg6 (harg3.unread x0) (harg5.unread x2) (harg6.unread x3) k = Sc x0 x2 x3 (((i 2).val % 2 + 2 * k.val) + 2) 5 := by
  unfold s9_5; rw [rd_kr _ _ _ _ _ (((i 2).val % 2 + 2 * k.val) + 2) (off1_2 i k), rd_kn _ _ _ _ _ (((i 2).val % 2 + 2 * k.val) + 2) 5 (off7_2 i k), rd_q _ _ _ _ _ 5 rfl]; rfl
theorem eva_5 : va_5 i arg7 (harg7.unread x4) k = vV x4 ((i 2).val % 2 + 2 * k.val) 5 := by
  unfold va_5; rw [rd_v _ _ _ _ _ ((i 2).val % 2 + 2 * k.val) 5 (off13_ i k)]
theorem evb_5 : vb_5 i arg7 (harg7.unread x4) k = vV x4 (((i 2).val % 2 + 2 * k.val) + 1) 5 := by
  unfold vb_5; rw [rd_v _ _ _ _ _ (((i 2).val % 2 + 2 * k.val) + 1) 5 (off19_ i k)]
theorem em1_5 (H : St arg9 arg11 arg12 x0 x2 x3 x4 f_arg9 f_arg11 f_arg12 ((i 2).val % 2 + 2 * k.val)) : m1_5 arg9 arg11 f_arg9 f_arg11 = mV x0 x2 x3 5 (((i 2).val % 2 + 2 * k.val) + 1) := by
  have H := H 5 (by decide)
  unfold m1_5 s0_5 m0_5; rw [H.1, H.2.1]; rfl
theorem em2_5 (H : St arg9 arg11 arg12 x0 x2 x3 x4 f_arg9 f_arg11 f_arg12 ((i 2).val % 2 + 2 * k.val)) : m2_5 i arg3 arg5 arg6 arg9 arg11 (harg3.unread x0) (harg5.unread x2) (harg6.unread x3) k f_arg9 f_arg11 = mV x0 x2 x3 5 (((i 2).val % 2 + 2 * k.val) + 2) := by
  unfold m2_5; rw [em1_5 (H := H), e10_5]; rfl
theorem ea2_5 (H : St arg9 arg11 arg12 x0 x2 x3 x4 f_arg9 f_arg11 f_arg12 ((i 2).val % 2 + 2 * k.val)) : a2_5 i arg3 arg5 arg6 arg7 arg9 arg11 arg12 k0_pay225 (harg3.unread x0) (harg5.unread x2) (harg6.unread x3) (harg7.unread x4) k f_arg9 f_arg11 f_arg12 = aV x0 x2 x3 x4 5 (((i 2).val % 2 + 2 * k.val) + 2) := by
  unfold a2_5 a1_5; rw [em1_5 (H := H), e10_5, eva_5, evb_5]
  have H := H 5 (by decide)
  unfold s0_5 m0_5 a0_5; rw [H.1, H.2.1, H.2.2]; rfl

variable (𝒱 : Variants) (c : Dev nD) (bd : Option 𝒱.V) (arg2 v25 v26 c2_i32_13 v27 v29 : BitVec 32) (v30 : BitVec 1)

theorem st_0 (H : St arg9 arg11 arg12 x0 x2 x3 x4 f_arg9 f_arg11 f_arg12 ((i 2).val % 2 + 2 * k.val)) :
    View.readAt (Elt F) arg9.view (R9 0 (by decide)).toLoadRect (arg9.view.writes (Elt F) f_arg9 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).1 f_arg9 f_arg10 f_arg11 f_arg12)) = Sc x0 x2 x3 (((i 2).val % 2 + 2 * k.val) + 2) 0 ∧
    View.readAt (Elt F) arg11.view (R11 0 (by decide)).toLoadRect (arg11.view.writes (Elt F) f_arg11 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).2.2.1 f_arg9 f_arg10 f_arg11 f_arg12)) = mV x0 x2 x3 0 (((i 2).val % 2 + 2 * k.val) + 2) ∧
    View.readAt (Elt F) arg12.view (R12 0 (by decide)).toLoadRect (arg12.view.writes (Elt F) f_arg12 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).2.2.2.1 f_arg9 f_arg10 f_arg11 f_arg12)) = aV x0 x2 x3 x4 0 (((i 2).val % 2 + 2 * k.val) + 2) := by
  rw [trip_1, trip_3, trip_4]
  refine ⟨?_, ?_, ?_⟩
  · refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; exact (rd_hit _ _ _ _ _).trans (e9_0 ..)
  · refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; exact (rd_hit _ _ _ _ _).trans (em2_0 (H := H) ..)
  · refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; exact (rd_hit _ _ _ _ _).trans (ea2_0 (H := H) ..)

theorem st_1 (H : St arg9 arg11 arg12 x0 x2 x3 x4 f_arg9 f_arg11 f_arg12 ((i 2).val % 2 + 2 * k.val)) :
    View.readAt (Elt F) arg9.view (R9 1 (by decide)).toLoadRect (arg9.view.writes (Elt F) f_arg9 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).1 f_arg9 f_arg10 f_arg11 f_arg12)) = Sc x0 x2 x3 (((i 2).val % 2 + 2 * k.val) + 2) 1 ∧
    View.readAt (Elt F) arg11.view (R11 1 (by decide)).toLoadRect (arg11.view.writes (Elt F) f_arg11 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).2.2.1 f_arg9 f_arg10 f_arg11 f_arg12)) = mV x0 x2 x3 1 (((i 2).val % 2 + 2 * k.val) + 2) ∧
    View.readAt (Elt F) arg12.view (R12 1 (by decide)).toLoadRect (arg12.view.writes (Elt F) f_arg12 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).2.2.2.1 f_arg9 f_arg10 f_arg11 f_arg12)) = aV x0 x2 x3 x4 1 (((i 2).val % 2 + 2 * k.val) + 2) := by
  rw [trip_1, trip_3, trip_4]
  refine ⟨?_, ?_, ?_⟩
  · refine (rd_skip _ _ _ _ _ rfl).trans ?_; refine (rd_skip _ _ _ _ _ rfl).trans ?_; refine (rd_skip _ _ _ _ _ rfl).trans ?_; refine (rd_skip _ _ _ _ _ rfl).trans ?_; exact (rd_hit _ _ _ _ _).trans (e9_1 ..)
  · refine (rd_skip _ _ _ _ _ rfl).trans ?_; refine (rd_skip _ _ _ _ _ rfl).trans ?_; refine (rd_skip _ _ _ _ _ rfl).trans ?_; refine (rd_skip _ _ _ _ _ rfl).trans ?_; exact (rd_hit _ _ _ _ _).trans (em2_1 (H := H) ..)
  · refine (rd_skip _ _ _ _ _ rfl).trans ?_; refine (rd_skip _ _ _ _ _ rfl).trans ?_; refine (rd_skip _ _ _ _ _ rfl).trans ?_; refine (rd_skip _ _ _ _ _ rfl).trans ?_; exact (rd_hit _ _ _ _ _).trans (ea2_1 (H := H) ..)

theorem st_2 (H : St arg9 arg11 arg12 x0 x2 x3 x4 f_arg9 f_arg11 f_arg12 ((i 2).val % 2 + 2 * k.val)) :
    View.readAt (Elt F) arg9.view (R9 2 (by decide)).toLoadRect (arg9.view.writes (Elt F) f_arg9 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).1 f_arg9 f_arg10 f_arg11 f_arg12)) = Sc x0 x2 x3 (((i 2).val % 2 + 2 * k.val) + 2) 2 ∧
    View.readAt (Elt F) arg11.view (R11 2 (by decide)).toLoadRect (arg11.view.writes (Elt F) f_arg11 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).2.2.1 f_arg9 f_arg10 f_arg11 f_arg12)) = mV x0 x2 x3 2 (((i 2).val % 2 + 2 * k.val) + 2) ∧
    View.readAt (Elt F) arg12.view (R12 2 (by decide)).toLoadRect (arg12.view.writes (Elt F) f_arg12 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).2.2.2.1 f_arg9 f_arg10 f_arg11 f_arg12)) = aV x0 x2 x3 x4 2 (((i 2).val % 2 + 2 * k.val) + 2) := by
  rw [trip_1, trip_3, trip_4]
  refine ⟨?_, ?_, ?_⟩
  · refine (rd_skip _ _ _ _ _ rfl).trans ?_; refine (rd_skip _ _ _ _ _ rfl).trans ?_; refine (rd_skip _ _ _ _ _ rfl).trans ?_; exact (rd_hit _ _ _ _ _).trans (e9_2 ..)
  · refine (rd_skip _ _ _ _ _ rfl).trans ?_; refine (rd_skip _ _ _ _ _ rfl).trans ?_; refine (rd_skip _ _ _ _ _ rfl).trans ?_; exact (rd_hit _ _ _ _ _).trans (em2_2 (H := H) ..)
  · refine (rd_skip _ _ _ _ _ rfl).trans ?_; refine (rd_skip _ _ _ _ _ rfl).trans ?_; refine (rd_skip _ _ _ _ _ rfl).trans ?_; exact (rd_hit _ _ _ _ _).trans (ea2_2 (H := H) ..)

theorem st_3 (H : St arg9 arg11 arg12 x0 x2 x3 x4 f_arg9 f_arg11 f_arg12 ((i 2).val % 2 + 2 * k.val)) :
    View.readAt (Elt F) arg9.view (R9 3 (by decide)).toLoadRect (arg9.view.writes (Elt F) f_arg9 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).1 f_arg9 f_arg10 f_arg11 f_arg12)) = Sc x0 x2 x3 (((i 2).val % 2 + 2 * k.val) + 2) 3 ∧
    View.readAt (Elt F) arg11.view (R11 3 (by decide)).toLoadRect (arg11.view.writes (Elt F) f_arg11 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).2.2.1 f_arg9 f_arg10 f_arg11 f_arg12)) = mV x0 x2 x3 3 (((i 2).val % 2 + 2 * k.val) + 2) ∧
    View.readAt (Elt F) arg12.view (R12 3 (by decide)).toLoadRect (arg12.view.writes (Elt F) f_arg12 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).2.2.2.1 f_arg9 f_arg10 f_arg11 f_arg12)) = aV x0 x2 x3 x4 3 (((i 2).val % 2 + 2 * k.val) + 2) := by
  rw [trip_1, trip_3, trip_4]
  refine ⟨?_, ?_, ?_⟩
  · refine (rd_skip _ _ _ _ _ rfl).trans ?_; refine (rd_skip _ _ _ _ _ rfl).trans ?_; exact (rd_hit _ _ _ _ _).trans (e9_3 ..)
  · refine (rd_skip _ _ _ _ _ rfl).trans ?_; refine (rd_skip _ _ _ _ _ rfl).trans ?_; exact (rd_hit _ _ _ _ _).trans (em2_3 (H := H) ..)
  · refine (rd_skip _ _ _ _ _ rfl).trans ?_; refine (rd_skip _ _ _ _ _ rfl).trans ?_; exact (rd_hit _ _ _ _ _).trans (ea2_3 (H := H) ..)

theorem st_4 (H : St arg9 arg11 arg12 x0 x2 x3 x4 f_arg9 f_arg11 f_arg12 ((i 2).val % 2 + 2 * k.val)) :
    View.readAt (Elt F) arg9.view (R9 4 (by decide)).toLoadRect (arg9.view.writes (Elt F) f_arg9 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).1 f_arg9 f_arg10 f_arg11 f_arg12)) = Sc x0 x2 x3 (((i 2).val % 2 + 2 * k.val) + 2) 4 ∧
    View.readAt (Elt F) arg11.view (R11 4 (by decide)).toLoadRect (arg11.view.writes (Elt F) f_arg11 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).2.2.1 f_arg9 f_arg10 f_arg11 f_arg12)) = mV x0 x2 x3 4 (((i 2).val % 2 + 2 * k.val) + 2) ∧
    View.readAt (Elt F) arg12.view (R12 4 (by decide)).toLoadRect (arg12.view.writes (Elt F) f_arg12 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).2.2.2.1 f_arg9 f_arg10 f_arg11 f_arg12)) = aV x0 x2 x3 x4 4 (((i 2).val % 2 + 2 * k.val) + 2) := by
  rw [trip_1, trip_3, trip_4]
  refine ⟨?_, ?_, ?_⟩
  · refine (rd_skip _ _ _ _ _ rfl).trans ?_; exact (rd_hit _ _ _ _ _).trans (e9_4 ..)
  · refine (rd_skip _ _ _ _ _ rfl).trans ?_; exact (rd_hit _ _ _ _ _).trans (em2_4 (H := H) ..)
  · refine (rd_skip _ _ _ _ _ rfl).trans ?_; exact (rd_hit _ _ _ _ _).trans (ea2_4 (H := H) ..)

theorem st_5 (H : St arg9 arg11 arg12 x0 x2 x3 x4 f_arg9 f_arg11 f_arg12 ((i 2).val % 2 + 2 * k.val)) :
    View.readAt (Elt F) arg9.view (R9 5 (by decide)).toLoadRect (arg9.view.writes (Elt F) f_arg9 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).1 f_arg9 f_arg10 f_arg11 f_arg12)) = Sc x0 x2 x3 (((i 2).val % 2 + 2 * k.val) + 2) 5 ∧
    View.readAt (Elt F) arg11.view (R11 5 (by decide)).toLoadRect (arg11.view.writes (Elt F) f_arg11 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).2.2.1 f_arg9 f_arg10 f_arg11 f_arg12)) = mV x0 x2 x3 5 (((i 2).val % 2 + 2 * k.val) + 2) ∧
    View.readAt (Elt F) arg12.view (R12 5 (by decide)).toLoadRect (arg12.view.writes (Elt F) f_arg12 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).2.2.2.1 f_arg9 f_arg10 f_arg11 f_arg12)) = aV x0 x2 x3 x4 5 (((i 2).val % 2 + 2 * k.val) + 2) := by
  rw [trip_1, trip_3, trip_4]
  refine ⟨?_, ?_, ?_⟩
  · exact (rd_hit _ _ _ _ _).trans (e9_5 ..)
  · exact (rd_hit _ _ _ _ _).trans (em2_5 (H := H) ..)
  · exact (rd_hit _ _ _ _ _).trans (ea2_5 (H := H) ..)

/-- A trip takes the buffers two blocks on. -/
theorem St_trip (H : St arg9 arg11 arg12 x0 x2 x3 x4 f_arg9 f_arg11 f_arg12 ((i 2).val % 2 + 2 * k.val)) :
    St arg9 arg11 arg12 x0 x2 x3 x4 (arg9.view.writes (Elt F) f_arg9 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).1 f_arg9 f_arg10 f_arg11 f_arg12)) (arg11.view.writes (Elt F) f_arg11 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).2.2.1 f_arg9 f_arg10 f_arg11 f_arg12)) (arg12.view.writes (Elt F) f_arg12 ((trip_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) k).2.2.2.1 f_arg9 f_arg10 f_arg11 f_arg12)) (((i 2).val % 2 + 2 * k.val) + 2) := by
  intro h hh
  match h, hh with
  | 0, _ => exact st_0 (H := H) ..
  | 1, _ => exact st_1 (H := H) ..
  | 2, _ => exact st_2 (H := H) ..
  | 3, _ => exact st_3 (H := H) ..
  | 4, _ => exact st_4 (H := H) ..
  | 5, _ => exact st_5 (H := H) ..
  | n + 6, hh => omega

/-- What the trips leave, after any number of them. -/
theorem St_loop (H : St arg9 arg11 arg12 x0 x2 x3 x4 f_arg9 f_arg11 f_arg12 ((i 2).val % 2)) (n : ℕ) (hn : n ≤ (k0_t1_loop i).trips) :
    St arg9 arg11 arg12 x0 x2 x3 x4 (arg9.view.writes (Elt F) f_arg9 (pb_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) f_arg9 f_arg10 f_arg11 f_arg12 n).1) (arg11.view.writes (Elt F) f_arg11 (pb_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) f_arg9 f_arg10 f_arg11 f_arg12 n).2.2.1) (arg12.view.writes (Elt F) f_arg12 (pb_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) f_arg9 f_arg10 f_arg11 f_arg12 n).2.2.2) ((i 2).val % 2 + 2 * n) := by
  induction n with
  | zero => exact H
  | succ n ih =>
    have h := St_trip i arg3 harg3 arg4 harg4 arg5 harg5 arg6 harg6 arg7 harg7 arg8 harg8 arg9 harg9 arg10 harg10 arg11 harg11 arg12 harg12 x0 x2 x3 x4 ⟨n, hn⟩ _ (arg10.view.writes (Elt F) f_arg10 (pb_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) f_arg9 f_arg10 f_arg11 f_arg12 n).2.1) _ _ 𝒱 c bd arg2 v25 v26 c2_i32_13 v27 v29 v30 (ih (by omega))
    rw [pb_k0_t1_succ 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) f_arg9 f_arg10 f_arg11 f_arg12 ⟨n, hn⟩]
    dsimp only
    rw [View.writes_append, View.writes_append, View.writes_append]
    exact h

/-- What all the trips leave: the scores of the diagonal block, and the maxima and sums of the blocks before it. -/
theorem St_all (H : St arg9 arg11 arg12 x0 x2 x3 x4 f_arg9 f_arg11 f_arg12 ((i 2).val % 2)) :
    St arg9 arg11 arg12 x0 x2 x3 x4 (arg9.view.writes (Elt F) f_arg9 (pb_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) f_arg9 f_arg10 f_arg11 f_arg12 (Scf.trips (k0_t1_loop i).lb (k0_t1_loop i).ub (k0_t1_loop i).st)).1) (arg11.view.writes (Elt F) f_arg11 (pb_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) f_arg9 f_arg10 f_arg11 f_arg12 (Scf.trips (k0_t1_loop i).lb (k0_t1_loop i).ub (k0_t1_loop i).st)).2.2.1) (arg12.view.writes (Elt F) f_arg12 (pb_k0_t1 (F := F) 𝒱 c bd i arg3 harg3 arg4 harg4 arg5 harg5 arg6 harg6 arg7 harg7 arg8 harg8 arg9 harg9 arg10 harg10 arg11 harg11 arg12 harg12 arg2 k0_pay225 v25 v26 c2_i32_13 v27 v29 v30 (harg3.unread x0) (harg5.unread x2) (harg6.unread x3) (harg7.unread x4) f_arg9 f_arg10 f_arg11 f_arg12 (Scf.trips (k0_t1_loop i).lb (k0_t1_loop i).ub (k0_t1_loop i).st)).2.2.2) (i 2).val := by
  have h := St_loop i arg3 harg3 arg4 harg4 arg5 harg5 arg6 harg6 arg7 harg7 arg8 harg8 arg9 harg9 arg10 harg10 arg11 harg11 arg12 harg12 x0 x2 x3 x4 f_arg9 f_arg10 f_arg11 f_arg12 𝒱 c bd arg2 v25 v26 c2_i32_13 v27 v29 v30 H (k0_t1_loop i).trips (le_refl _)
  have e : (i 2).val % 2 + 2 * (k0_t1_loop i).trips = (i 2).val := by rw [trips1]; omega
  rw [e] at h
  exact h

end

end Cert.KernelIdeal.Att

end
-- ==== Proof.Ideal.Fill.lean ====
module

public import proofs.«01_k».proof.Proof.Ideal.Trip
public import proofs.«01_k».proof.Proof.Ideal.Indep
public import Idealize.ShloMosaic.Lib.Pipeline.ReadBack
public import Idealize.ShloMosaic.Lib.WholeRead
public import Idealize.ShloMosaic.Lib.ValueIdx

@[expose] public section

set_option maxRecDepth 16384

noncomputable section

namespace Cert.KernelIdeal.Att

open Cert.KernelIdeal Cert.KernelIdeal.Gen Idealize.ShloMosaic Idealize.ShloMosaic.TcCoe Idealize.ShloMosaic.ValueIdx

variable {F : FTy → Type} [FloatOps F] [Named F]

section
variable {s : Shape} {e : EltTy} (v : View sig .tc .vmem s e)
/-- A read of what one loop and then another, which left nothing, wrote over earlier stores. -/
theorem cov (L2 L1 L0 : List (View.Piece (Elt F) s e)) (h : L2 = []) (B : LoadRect s) :
    v.readCov (L2 ++ (L1 ++ L0)) B = v.readAt (Elt F) B (v.writes (Elt F) (v.writes (Elt F) v.junk L0) L1) := by
  subst h
  rw [List.nil_append, ← View.writes_append]
  rfl
end

section
/-- The maxima are filled with the mask before the first block. -/
theorem init11 (v : View sig .tc .vmem S6x1x512 .f32) (x0 : Vec F S1536x512 .bf16) (x2 : Vec F S4096x768 .bf16) (x3 : Vec F S4096x128 .bf16) (h : ℕ) (hh : h < 6) (inb) :
    v.readCov [⟨Rect.unit ![0, 0, 0] S6x1x512.size inb, (k0_pay223 : FVec F S6x1x512 .f32)⟩] (R11 h hh).toLoadRect = mV x0 x2 x3 h 0 :=
  (View.readCov_fill v inb _ [] (R11 h hh) (by decide)).trans rfl
/-- The sums are filled with zero before the first block. -/
theorem init12 (v : View sig .tc .vmem S6x144x512 .f32) (x0 : Vec F S1536x512 .bf16) (x2 : Vec F S4096x768 .bf16) (x3 : Vec F S4096x128 .bf16) (x4 : Vec F S768x4096 .bf16) (h : ℕ) (hh : h < 6) (inb) :
    v.readCov [⟨Rect.unit ![0, 0, 0] S6x144x512.size inb, (k0_pay224 : FVec F S6x144x512 .f32)⟩] (R12 h hh).toLoadRect = aV x0 x2 x3 x4 h 0 :=
  (View.readCov_fill v inb _ [] (R12 h hh) (by decide)).trans rfl
/-- Head `h`'s columns of the block the gate is made of. -/
def zV (x1 : Vec F S512x768 .bf16) (h : ℕ) : Vec F S512x128 .bf16 :=
  fun j => x1 (ix2 (Fin.ofNat 512 (j 0).val) (Fin.ofNat 768 (128 * h + (j 1).val)))
/-- What a load of head `h`'s columns of the gate reads. -/
theorem rd_z (a : Memref sig .tc .vmem S512x768 .bf16) (ha : a.IsWhole) (x : Vec F S512x768 .bf16) (off : Fin 2 → ℕ) (inb : ∀ c, off c + S512x128.size c ≤ S512x768.size c) (h : ℕ) (ho : off = ![0, 128 * h]) :
    View.readAt (Elt F) a.view (Rect.unit (s := S512x768) off S512x128.size inb).toLoadRect (ha.unread x) = zV x h := by
  subst ho
  funext j
  rw [ha.readAt_unread]
  have h0 := inb ⟨0, by decide⟩
  have h1 := inb ⟨1, by decide⟩
  have e0 : (j 0).val < S512x128.size 0 := (j 0).isLt
  have e1 : (j 1).val < S512x128.size 1 := (j 1).isLt
  change _ + _ ≤ _ at h0 h1
  simp [S512x768, S512x128] at h0 h1 e0 e1
  unfold zV
  congr 1
  funext c
  apply Fin.ext
  match c with
  | ⟨0, _⟩ =>
    show 0 + 1 * (j 0).val = _
    simp only [ix2, Fin.ofNat]
    show _ = ((j 0).val) % _
    rw [Nat.mod_eq_of_lt (by omega)]; omega
  | ⟨1, _⟩ =>
    show 128 * h + 1 * (j 1).val = _
    simp only [ix2, Fin.ofNat]
    show _ = (128 * h + (j 1).val) % _
    rw [Nat.mod_eq_of_lt (by omega)]; omega
/-- Head `h`'s weighted sums over all the blocks, the diagonal one masked. -/
def fV (x0 : Vec F S1536x512 .bf16) (x2 : Vec F S4096x768 .bf16) (x3 : Vec F S4096x128 .bf16) (x4 : Vec F S768x4096 .bf16) (q h : ℕ) : FVec F S1x144x512 .f32 :=
  acF k0_pay225 (k0_pay235 (Sc x0 x2 x3 q h)) (mV x0 x2 x3 h q) (vV x4 q h) (aV x0 x2 x3 x4 h q)
/-- The six pieces of the output block. -/
def outL (x0 : Vec F S1536x512 .bf16) (x1 : Vec F S512x768 .bf16) (x2 : Vec F S4096x768 .bf16) (x3 : Vec F S4096x128 .bf16) (x4 : Vec F S768x4096 .bf16) (q : ℕ) : List (View.Piece (Elt F) S512x768 .bf16) :=
  [⟨Rect.unit ![0, 640] S512x128.size inb_S512x768_S512x128_0_640, k0_pay1 (fV x0 x2 x3 x4 q 5) (zV x1 5)⟩, ⟨Rect.unit ![0, 512] S512x128.size inb_S512x768_S512x128_0_512, k0_pay1 (fV x0 x2 x3 x4 q 4) (zV x1 4)⟩, ⟨Rect.unit ![0, 384] S512x128.size inb_S512x768_S512x128_0_384, k0_pay1 (fV x0 x2 x3 x4 q 3) (zV x1 3)⟩, ⟨Rect.unit ![0, 256] S512x128.size inb_S512x768_S512x128_0_256, k0_pay1 (fV x0 x2 x3 x4 q 2) (zV x1 2)⟩, ⟨Rect.unit ![0, 128] S512x128.size inb_S512x768_S512x128_0_128, k0_pay1 (fV x0 x2 x3 x4 q 1) (zV x1 1)⟩, ⟨Rect.unit ![0, 0] S512x128.size inb_S512x768_S512x128_0_0, k0_pay1 (fV x0 x2 x3 x4 q 0) (zV x1 0)⟩]

end

end Cert.KernelIdeal.Att

end
-- ==== Proof.Ideal.EqA.lean ====
module

public import proofs.«01_k».proof.Proof.Ideal.Fill
public import proofs.«01_k».proof.Proof.Ideal.RunB
public import proofs.«01_k».proof.Proof.Ideal.Indep
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.ShloMosaic.ValueIdx

variable {F : FTy → Type} [FloatOps F] [Named F]

section
variable (c : Dev nD) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole)
  (x0 : Vec F S1536x512 .bf16) (x1 : Vec F S512x768 .bf16) (x2 : Vec F S4096x768 .bf16) (x3 : Vec F S4096x128 .bf16) (x4 : Vec F S768x4096 .bf16)
  (g : BufTy.Contents (Elt F) arg10.view.ty)

theorem A_sc0 : arg9.view.readCov (runA.sl.HS0_6 c arg3 harg3 arg5 harg5 arg6 harg6 x0 x2 x3) (R9 0 (by decide)).toLoadRect = Sc x0 x2 x3 0 0 := by
  unfold runA.sl.HS0_6; refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; refine (rd_hit _ _ _ _ _).trans ?_; exact (show _ = scF (View.readAt (Elt F) arg6.view (Rect.unit (s := S4096x128) ![0, 0] S512x128.size (by decide)).toLoadRect (harg6.unread x3)) (View.readAt (Elt F) arg5.view (Rect.unit (s := S4096x768) ![0, 0] S512x128.size (by decide)).toLoadRect (harg5.unread x2)) (View.readAt (Elt F) arg3.view (Rect.unit (s := S1536x512) ![0, 0] S256x512.size (by decide)).toLoadRect (harg3.unread x0)) from rfl).trans (by rw [rd_kr _ _ _ _ _ 0 rfl, rd_kn _ _ _ _ _ 0 0 rfl, rd_q _ _ _ _ _ 0 rfl]; rfl)

theorem A_sc1 : arg9.view.readCov (runA.sl.HS0_6 c arg3 harg3 arg5 harg5 arg6 harg6 x0 x2 x3) (R9 1 (by decide)).toLoadRect = Sc x0 x2 x3 0 1 := by
  unfold runA.sl.HS0_6; refine (rd_skip _ _ _ _ _ rfl).trans ?_; refine (rd_skip _ _ _ _ _ rfl).trans ?_; refine (rd_skip _ _ _ _ _ rfl).trans ?_; refine (rd_skip _ _ _ _ _ rfl).trans ?_; refine (rd_hit _ _ _ _ _).trans ?_; exact (show _ = scF (View.readAt (Elt F) arg6.view (Rect.unit (s := S4096x128) ![0, 0] S512x128.size (by decide)).toLoadRect (harg6.unread x3)) (View.readAt (Elt F) arg5.view (Rect.unit (s := S4096x768) ![0, 128] S512x128.size (by decide)).toLoadRect (harg5.unread x2)) (View.readAt (Elt F) arg3.view (Rect.unit (s := S1536x512) ![256, 0] S256x512.size (by decide)).toLoadRect (harg3.unread x0)) from rfl).trans (by rw [rd_kr _ _ _ _ _ 0 rfl, rd_kn _ _ _ _ _ 0 1 rfl, rd_q _ _ _ _ _ 1 rfl]; rfl)

theorem A_sc2 : arg9.view.readCov (runA.sl.HS0_6 c arg3 harg3 arg5 harg5 arg6 harg6 x0 x2 x3) (R9 2 (by decide)).toLoadRect = Sc x0 x2 x3 0 2 := by
  unfold runA.sl.HS0_6; refine (rd_skip _ _ _ _ _ rfl).trans ?_; refine (rd_skip _ _ _ _ _ rfl).trans ?_; refine (rd_skip _ _ _ _ _ rfl).trans ?_; refine (rd_hit _ _ _ _ _).trans ?_; exact (show _ = scF (View.readAt (Elt F) arg6.view (Rect.unit (s := S4096x128) ![0, 0] S512x128.size (by decide)).toLoadRect (harg6.unread x3)) (View.readAt (Elt F) arg5.view (Rect.unit (s := S4096x768) ![0, 256] S512x128.size (by decide)).toLoadRect (harg5.unread x2)) (View.readAt (Elt F) arg3.view (Rect.unit (s := S1536x512) ![512, 0] S256x512.size (by decide)).toLoadRect (harg3.unread x0)) from rfl).trans (by rw [rd_kr _ _ _ _ _ 0 rfl, rd_kn _ _ _ _ _ 0 2 rfl, rd_q _ _ _ _ _ 2 rfl]; rfl)

theorem A_sc3 : arg9.view.readCov (runA.sl.HS0_6 c arg3 harg3 arg5 harg5 arg6 harg6 x0 x2 x3) (R9 3 (by decide)).toLoadRect = Sc x0 x2 x3 0 3 := by
  unfold runA.sl.HS0_6; refine (rd_skip _ _ _ _ _ rfl).trans ?_; refine (rd_skip _ _ _ _ _ rfl).trans ?_; refine (rd_hit _ _ _ _ _).trans ?_; exact (show _ = scF (View.readAt (Elt F) arg6.view (Rect.unit (s := S4096x128) ![0, 0] S512x128.size (by decide)).toLoadRect (harg6.unread x3)) (View.readAt (Elt F) arg5.view (Rect.unit (s := S4096x768) ![0, 384] S512x128.size (by decide)).toLoadRect (harg5.unread x2)) (View.readAt (Elt F) arg3.view (Rect.unit (s := S1536x512) ![768, 0] S256x512.size (by decide)).toLoadRect (harg3.unread x0)) from rfl).trans (by rw [rd_kr _ _ _ _ _ 0 rfl, rd_kn _ _ _ _ _ 0 3 rfl, rd_q _ _ _ _ _ 3 rfl]; rfl)

theorem A_sc4 : arg9.view.readCov (runA.sl.HS0_6 c arg3 harg3 arg5 harg5 arg6 harg6 x0 x2 x3) (R9 4 (by decide)).toLoadRect = Sc x0 x2 x3 0 4 := by
  unfold runA.sl.HS0_6; refine (rd_skip _ _ _ _ _ rfl).trans ?_; refine (rd_hit _ _ _ _ _).trans ?_; exact (show _ = scF (View.readAt (Elt F) arg6.view (Rect.unit (s := S4096x128) ![0, 0] S512x128.size (by decide)).toLoadRect (harg6.unread x3)) (View.readAt (Elt F) arg5.view (Rect.unit (s := S4096x768) ![0, 512] S512x128.size (by decide)).toLoadRect (harg5.unread x2)) (View.readAt (Elt F) arg3.view (Rect.unit (s := S1536x512) ![1024, 0] S256x512.size (by decide)).toLoadRect (harg3.unread x0)) from rfl).trans (by rw [rd_kr _ _ _ _ _ 0 rfl, rd_kn _ _ _ _ _ 0 4 rfl, rd_q _ _ _ _ _ 4 rfl]; rfl)

theorem A_sc5 : arg9.view.readCov (runA.sl.HS0_6 c arg3 harg3 arg5 harg5 arg6 harg6 x0 x2 x3) (R9 5 (by decide)).toLoadRect = Sc x0 x2 x3 0 5 := by
  unfold runA.sl.HS0_6; refine (rd_hit _ _ _ _ _).trans ?_; exact (show _ = scF (View.readAt (Elt F) arg6.view (Rect.unit (s := S4096x128) ![0, 0] S512x128.size (by decide)).toLoadRect (harg6.unread x3)) (View.readAt (Elt F) arg5.view (Rect.unit (s := S4096x768) ![0, 640] S512x128.size (by decide)).toLoadRect (harg5.unread x2)) (View.readAt (Elt F) arg3.view (Rect.unit (s := S1536x512) ![1280, 0] S256x512.size (by decide)).toLoadRect (harg3.unread x0)) from rfl).trans (by rw [rd_kr _ _ _ _ _ 0 rfl, rd_kn _ _ _ _ _ 0 5 rfl, rd_q _ _ _ _ _ 5 rfl]; rfl)

/-- What the buffers hold before the loop's first trip. -/
theorem A_base (hq : (i 2).val % 2 = 0) : St arg9 arg11 arg12 x0 x2 x3 x4 (arg9.view.writes (Elt F) arg9.view.junk (runA.sl.HS0_6 c arg3 harg3 arg5 harg5 arg6 harg6 x0 x2 x3)) (arg11.view.writes (Elt F) arg11.view.junk runA.sl.HS2_1) (arg12.view.writes (Elt F) arg12.view.junk runA.sl.HS3_1) ((i 2).val % 2) := by
  rw [hq]; intro h hh
  match h, hh with
  | 0, _ => exact ⟨A_sc0 c arg3 harg3 arg5 harg5 arg6 harg6 arg9 x0 x2 x3, init11 arg11.view x0 x2 x3 0 (by decide) _, init12 arg12.view x0 x2 x3 x4 0 (by decide) _⟩
  | 1, _ => exact ⟨A_sc1 c arg3 harg3 arg5 harg5 arg6 harg6 arg9 x0 x2 x3, init11 arg11.view x0 x2 x3 1 (by decide) _, init12 arg12.view x0 x2 x3 x4 1 (by decide) _⟩
  | 2, _ => exact ⟨A_sc2 c arg3 harg3 arg5 harg5 arg6 harg6 arg9 x0 x2 x3, init11 arg11.view x0 x2 x3 2 (by decide) _, init12 arg12.view x0 x2 x3 x4 2 (by decide) _⟩
  | 3, _ => exact ⟨A_sc3 c arg3 harg3 arg5 harg5 arg6 harg6 arg9 x0 x2 x3, init11 arg11.view x0 x2 x3 3 (by decide) _, init12 arg12.view x0 x2 x3 x4 3 (by decide) _⟩
  | 4, _ => exact ⟨A_sc4 c arg3 harg3 arg5 harg5 arg6 harg6 arg9 x0 x2 x3, init11 arg11.view x0 x2 x3 4 (by decide) _, init12 arg12.view x0 x2 x3 x4 4 (by decide) _⟩
  | 5, _ => exact ⟨A_sc5 c arg3 harg3 arg5 harg5 arg6 harg6 arg9 x0 x2 x3, init11 arg11.view x0 x2 x3 5 (by decide) _, init12 arg12.view x0 x2 x3 x4 5 (by decide) _⟩
  | n + 6, hh => omega

/-- What the buffers hold after the loop. -/
theorem A_st (hq : (i 2).val % 2 = 0) : St arg9 arg11 arg12 x0 x2 x3 x4 (arg9.view.writes (Elt F) (arg9.view.writes (Elt F) arg9.view.junk (runA.sl.HS0_6 c arg3 harg3 arg5 harg5 arg6 harg6 x0 x2 x3)) (pb_k0_t1 (F := F) Variants.none c none i arg3 harg3 arg4 harg4 arg5 harg5 arg6 harg6 arg7 harg7 arg8 harg8 arg9 harg9 arg10 harg10 arg11 harg11 arg12 harg12 (BitVec.ofNat 32 (i 2).val) k0_pay225 (runA.sl.v25 i) (runA.sl.v26 i) 2#32 (runA.sl.v27 i) (runA.sl.v29 i) (runA.sl.v30 i) (harg3.unread x0) (harg5.unread x2) (harg6.unread x3) (harg7.unread x4) (arg9.view.writes (Elt F) arg9.view.junk (runA.sl.HS0_6 c arg3 harg3 arg5 harg5 arg6 harg6 x0 x2 x3)) g (arg11.view.writes (Elt F) arg11.view.junk runA.sl.HS2_1) (arg12.view.writes (Elt F) arg12.view.junk runA.sl.HS3_1) (Scf.trips (k0_t1_loop i).lb (k0_t1_loop i).ub (k0_t1_loop i).st)).1) (arg11.view.writes (Elt F) (arg11.view.writes (Elt F) arg11.view.junk runA.sl.HS2_1) (pb_k0_t1 (F := F) Variants.none c none i arg3 harg3 arg4 harg4 arg5 harg5 arg6 harg6 arg7 harg7 arg8 harg8 arg9 harg9 arg10 harg10 arg11 harg11 arg12 harg12 (BitVec.ofNat 32 (i 2).val) k0_pay225 (runA.sl.v25 i) (runA.sl.v26 i) 2#32 (runA.sl.v27 i) (runA.sl.v29 i) (runA.sl.v30 i) (harg3.unread x0) (harg5.unread x2) (harg6.unread x3) (harg7.unread x4) (arg9.view.writes (Elt F) arg9.view.junk (runA.sl.HS0_6 c arg3 harg3 arg5 harg5 arg6 harg6 x0 x2 x3)) g (arg11.view.writes (Elt F) arg11.view.junk runA.sl.HS2_1) (arg12.view.writes (Elt F) arg12.view.junk runA.sl.HS3_1) (Scf.trips (k0_t1_loop i).lb (k0_t1_loop i).ub (k0_t1_loop i).st)).2.2.1) (arg12.view.writes (Elt F) (arg12.view.writes (Elt F) arg12.view.junk runA.sl.HS3_1) (pb_k0_t1 (F := F) Variants.none c none i arg3 harg3 arg4 harg4 arg5 harg5 arg6 harg6 arg7 harg7 arg8 harg8 arg9 harg9 arg10 harg10 arg11 harg11 arg12 harg12 (BitVec.ofNat 32 (i 2).val) k0_pay225 (runA.sl.v25 i) (runA.sl.v26 i) 2#32 (runA.sl.v27 i) (runA.sl.v29 i) (runA.sl.v30 i) (harg3.unread x0) (harg5.unread x2) (harg6.unread x3) (harg7.unread x4) (arg9.view.writes (Elt F) arg9.view.junk (runA.sl.HS0_6 c arg3 harg3 arg5 harg5 arg6 harg6 x0 x2 x3)) g (arg11.view.writes (Elt F) arg11.view.junk runA.sl.HS2_1) (arg12.view.writes (Elt F) arg12.view.junk runA.sl.HS3_1) (Scf.trips (k0_t1_loop i).lb (k0_t1_loop i).ub (k0_t1_loop i).st)).2.2.2) (i 2).val :=
  St_all i arg3 harg3 arg4 harg4 arg5 harg5 arg6 harg6 arg7 harg7 arg8 harg8 arg9 harg9 arg10 harg10 arg11 harg11 arg12 harg12 x0 x2 x3 x4 (arg9.view.writes (Elt F) arg9.view.junk (runA.sl.HS0_6 c arg3 harg3 arg5 harg5 arg6 harg6 x0 x2 x3)) g (arg11.view.writes (Elt F) arg11.view.junk runA.sl.HS2_1) (arg12.view.writes (Elt F) arg12.view.junk runA.sl.HS3_1) Variants.none c none (BitVec.ofNat 32 (i 2).val) (runA.sl.v25 i) (runA.sl.v26 i) 2#32 (runA.sl.v27 i) (runA.sl.v29 i) (runA.sl.v30 i) (A_base c i arg3 harg3 arg5 harg5 arg6 harg6 arg9 arg11 arg12 x0 x2 x3 x4 hq)

theorem A_s0 (hq : (i 2).val % 2 = 0) : runA.sl.v51 c i arg3 harg3 arg4 harg4 arg5 harg5 arg6 harg6 arg7 harg7 arg8 harg8 arg9 harg9 arg10 harg10 arg11 harg11 arg12 harg12 x0 x2 x3 x4 g = Sc x0 x2 x3 (i 2).val 0 := by
  unfold runA.sl.v51; exact (cov _ _ _ _ (by rw [pb2_none]) _).trans (A_st (hq := hq) (h := 0) (hh := by decide) ..).1
theorem A_m0 (hq : (i 2).val % 2 = 0) : runA.sl.v58 c i arg3 harg3 arg4 harg4 arg5 harg5 arg6 harg6 arg7 harg7 arg8 harg8 arg9 harg9 arg10 harg10 arg11 harg11 arg12 harg12 x0 x2 x3 x4 g = mV x0 x2 x3 0 (i 2).val := by
  unfold runA.sl.v58 ; exact (cov _ _ _ _ (by rw [pb2_none]) _).trans (A_st (hq := hq) (h := 0) (hh := by decide) ..).2.1
theorem A_a0 (hq : (i 2).val % 2 = 0) : runA.sl.v72 c i arg3 harg3 arg4 harg4 arg5 harg5 arg6 harg6 arg7 harg7 arg8 harg8 arg9 harg9 arg10 harg10 arg11 harg11 arg12 harg12 x0 x2 x3 x4 g = aV x0 x2 x3 x4 0 (i 2).val := by
  unfold runA.sl.v72 ; exact (cov _ _ _ _ (by rw [pb2_none]) _).trans (A_st (hq := hq) (h := 0) (hh := by decide) ..).2.2

theorem A_s1 (hq : (i 2).val % 2 = 0) : runA.sl.v84 c i arg3 harg3 arg4 harg4 arg5 harg5 arg6 harg6 arg7 harg7 arg8 harg8 arg9 harg9 arg10 harg10 arg11 harg11 arg12 harg12 x0 x2 x3 x4 g = Sc x0 x2 x3 (i 2).val 1 := by
  unfold runA.sl.v84; exact (cov _ _ _ _ (by rw [pb2_none]) _).trans (A_st (hq := hq) (h := 1) (hh := by decide) ..).1
theorem A_m1 (hq : (i 2).val % 2 = 0) : runA.sl.v91 c i arg3 harg3 arg4 harg4 arg5 harg5 arg6 harg6 arg7 harg7 arg8 harg8 arg9 harg9 arg10 harg10 arg11 harg11 arg12 harg12 x0 x2 x3 x4 g = mV x0 x2 x3 1 (i 2).val := by
  unfold runA.sl.v91 runA.sl.HS2_1_1; refine (rd_skip _ _ _ _ _ rfl).trans ?_; exact (cov _ _ _ _ (by rw [pb2_none]) _).trans (A_st (hq := hq) (h := 1) (hh := by decide) ..).2.1
theorem A_a1 (hq : (i 2).val % 2 = 0) : runA.sl.v105 c i arg3 harg3 arg4 harg4 arg5 harg5 arg6 harg6 arg7 harg7 arg8 harg8 arg9 harg9 arg10 harg10 arg11 harg11 arg12 harg12 x0 x2 x3 x4 g = aV x0 x2 x3 x4 1 (i 2).val := by
  unfold runA.sl.v105 runA.sl.HS3_1_1; refine (rd_skip _ _ _ _ _ rfl).trans ?_; exact (cov _ _ _ _ (by rw [pb2_none]) _).trans (A_st (hq := hq) (h := 1) (hh := by decide) ..).2.2

theorem A_s2 (hq : (i 2).val % 2 = 0) : runA.sl.v117 c i arg3 harg3 arg4 harg4 arg5 harg5 arg6 harg6 arg7 harg7 arg8 harg8 arg9 harg9 arg10 harg10 arg11 harg11 arg12 harg12 x0 x2 x3 x4 g = Sc x0 x2 x3 (i 2).val 2 := by
  unfold runA.sl.v117; exact (cov _ _ _ _ (by rw [pb2_none]) _).trans (A_st (hq := hq) (h := 2) (hh := by decide) ..).1
theorem A_m2 (hq : (i 2).val % 2 = 0) : runA.sl.v124 c i arg3 harg3 arg4 harg4 arg5 harg5 arg6 harg6 arg7 harg7 arg8 harg8 arg9 harg9 arg10 harg10 arg11 harg11 arg12 harg12 x0 x2 x3 x4 g = mV x0 x2 x3 2 (i 2).val := by
  unfold runA.sl.v124 runA.sl.HS2_2 runA.sl.HS2_1_1; refine (rd_skip _ _ _ _ _ rfl).trans ?_; refine (rd_skip _ _ _ _ _ rfl).trans ?_; exact (cov _ _ _ _ (by rw [pb2_none]) _).trans (A_st (hq := hq) (h := 2) (hh := by decide) ..).2.1
theorem A_a2 (hq : (i 2).val % 2 = 0) : runA.sl.v138 c i arg3 harg3 arg4 harg4 arg5 harg5 arg6 harg6 arg7 harg7 arg8 harg8 arg9 harg9 arg10 harg10 arg11 harg11 arg12 harg12 x0 x2 x3 x4 g = aV x0 x2 x3 x4 2 (i 2).val := by
  unfold runA.sl.v138 runA.sl.HS3_2 runA.sl.HS3_1_1; refine (rd_skip _ _ _ _ _ rfl).trans ?_; refine (rd_skip _ _ _ _ _ rfl).trans ?_; exact (cov _ _ _ _ (by rw [pb2_none]) _).trans (A_st (hq := hq) (h := 2) (hh := by decide) ..).2.2

theorem A_s3 (hq : (i 2).val % 2 = 0) : runA.sl.v150 c i arg3 harg3 arg4 harg4 arg5 harg5 arg6 harg6 arg7 harg7 arg8 harg8 arg9 harg9 arg10 harg10 arg11 harg11 arg12 harg12 x0 x2 x3 x4 g = Sc x0 x2 x3 (i 2).val 3 := by
  unfold runA.sl.v150; exact (cov _ _ _ _ (by rw [pb2_none]) _).trans (A_st (hq := hq) (h := 3) (hh := by decide) ..).1
theorem A_m3 (hq : (i 2).val % 2 = 0) : runA.sl.v157 c i arg3 harg3 arg4 harg4 arg5 harg5 arg6 harg6 arg7 harg7 arg8 harg8 arg9 harg9 arg10 harg10 arg11 harg11 arg12 harg12 x0 x2 x3 x4 g = mV x0 x2 x3 3 (i 2).val := by
  unfold runA.sl.v157 runA.sl.HS2_3 runA.sl.HS2_2 runA.sl.HS2_1_1; refine (rd_skip _ _ _ _ _ rfl).trans ?_; refine (rd_skip _ _ _ _ _ rfl).trans ?_; refine (rd_skip _ _ _ _ _ rfl).trans ?_; exact (cov _ _ _ _ (by rw [pb2_none]) _).trans (A_st (hq := hq) (h := 3) (hh := by decide) ..).2.1
theorem A_a3 (hq : (i 2).val % 2 = 0) : runA.sl.v171 c i arg3 harg3 arg4 harg4 arg5 harg5 arg6 harg6 arg7 harg7 arg8 harg8 arg9 harg9 arg10 harg10 arg11 harg11 arg12 harg12 x0 x2 x3 x4 g = aV x0 x2 x3 x4 3 (i 2).val := by
  unfold runA.sl.v171 runA.sl.HS3_3 runA.sl.HS3_2 runA.sl.HS3_1_1; refine (rd_skip _ _ _ _ _ rfl).trans ?_; refine (rd_skip _ _ _ _ _ rfl).trans ?_; refine (rd_skip _ _ _ _ _ rfl).trans ?_; exact (cov _ _ _ _ (by rw [pb2_none]) _).trans (A_st (hq := hq) (h := 3) (hh := by decide) ..).2.2

theorem A_s4 (hq : (i 2).val % 2 = 0) : runA.sl.v183 c i arg3 harg3 arg4 harg4 arg5 harg5 arg6 harg6 arg7 harg7 arg8 harg8 arg9 harg9 arg10 harg10 arg11 harg11 arg12 harg12 x0 x2 x3 x4 g = Sc x0 x2 x3 (i 2).val 4 := by
  unfold runA.sl.v183; exact (cov _ _ _ _ (by rw [pb2_none]) _).trans (A_st (hq := hq) (h := 4) (hh := by decide) ..).1
theorem A_m4 (hq : (i 2).val % 2 = 0) : runA.sl.v190 c i arg3 harg3 arg4 harg4 arg5 harg5 arg6 harg6 arg7 harg7 arg8 harg8 arg9 harg9 arg10 harg10 arg11 harg11 arg12 harg12 x0 x2 x3 x4 g = mV x0 x2 x3 4 (i 2).val := by
  unfold runA.sl.v190 runA.sl.HS2_4 runA.sl.HS2_3 runA.sl.HS2_2 runA.sl.HS2_1_1; refine (rd_skip _ _ _ _ _ rfl).trans ?_; refine (rd_skip _ _ _ _ _ rfl).trans ?_; refine (rd_skip _ _ _ _ _ rfl).trans ?_; refine (rd_skip _ _ _ _ _ rfl).trans ?_; exact (cov _ _ _ _ (by rw [pb2_none]) _).trans (A_st (hq := hq) (h := 4) (hh := by decide) ..).2.1
theorem A_a4 (hq : (i 2).val % 2 = 0) : runA.sl.v204 c i arg3 harg3 arg4 harg4 arg5 harg5 arg6 harg6 arg7 harg7 arg8 harg8 arg9 harg9 arg10 harg10 arg11 harg11 arg12 harg12 x0 x2 x3 x4 g = aV x0 x2 x3 x4 4 (i 2).val := by
  unfold runA.sl.v204 runA.sl.HS3_4 runA.sl.HS3_3 runA.sl.HS3_2 runA.sl.HS3_1_1; refine (rd_skip _ _ _ _ _ rfl).trans ?_; refine (rd_skip _ _ _ _ _ rfl).trans ?_; refine (rd_skip _ _ _ _ _ rfl).trans ?_; refine (rd_skip _ _ _ _ _ rfl).trans ?_; exact (cov _ _ _ _ (by rw [pb2_none]) _).trans (A_st (hq := hq) (h := 4) (hh := by decide) ..).2.2

theorem A_s5 (hq : (i 2).val % 2 = 0) : runA.sl.v216 c i arg3 harg3 arg4 harg4 arg5 harg5 arg6 harg6 arg7 harg7 arg8 harg8 arg9 harg9 arg10 harg10 arg11 harg11 arg12 harg12 x0 x2 x3 x4 g = Sc x0 x2 x3 (i 2).val 5 := by
  unfold runA.sl.v216; exact (cov _ _ _ _ (by rw [pb2_none]) _).trans (A_st (hq := hq) (h := 5) (hh := by decide) ..).1
theorem A_m5 (hq : (i 2).val % 2 = 0) : runA.sl.v223 c i arg3 harg3 arg4 harg4 arg5 harg5 arg6 harg6 arg7 harg7 arg8 harg8 arg9 harg9 arg10 harg10 arg11 harg11 arg12 harg12 x0 x2 x3 x4 g = mV x0 x2 x3 5 (i 2).val := by
  unfold runA.sl.v223 runA.sl.HS2_5 runA.sl.HS2_4 runA.sl.HS2_3 runA.sl.HS2_2 runA.sl.HS2_1_1; refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; exact (cov _ _ _ _ (by rw [pb2_none]) _).trans (A_st (hq := hq) (h := 5) (hh := by decide) ..).2.1
theorem A_a5 (hq : (i 2).val % 2 = 0) : runA.sl.v237 c i arg3 harg3 arg4 harg4 arg5 harg5 arg6 harg6 arg7 harg7 arg8 harg8 arg9 harg9 arg10 harg10 arg11 harg11 arg12 harg12 x0 x2 x3 x4 g = aV x0 x2 x3 x4 5 (i 2).val := by
  unfold runA.sl.v237 runA.sl.HS3_5 runA.sl.HS3_4 runA.sl.HS3_3 runA.sl.HS3_2 runA.sl.HS3_1_1; refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; exact (cov _ _ _ _ (by rw [pb2_none]) _).trans (A_st (hq := hq) (h := 5) (hh := by decide) ..).2.2

theorem A_f0 (hq : (i 2).val % 2 = 0) : runA.sl.v c i arg3 harg3 arg4 harg4 arg5 harg5 arg6 harg6 arg7 harg7 arg8 harg8 arg9 harg9 arg10 harg10 arg11 harg11 arg12 harg12 x0 x2 x3 x4 g = fV x0 x2 x3 x4 (i 2).val 0 := by
  unfold runA.sl.v runA.sl.HS3_6 runA.sl.HS3_5 runA.sl.HS3_4 runA.sl.HS3_3 runA.sl.HS3_2 runA.sl.HS3_1_1; refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; refine (rd_hit _ _ _ _ _).trans ?_
  exact (show _ = acF k0_pay225 (k0_pay235 (runA.sl.v51 c i arg3 harg3 arg4 harg4 arg5 harg5 arg6 harg6 arg7 harg7 arg8 harg8 arg9 harg9 arg10 harg10 arg11 harg11 arg12 harg12 x0 x2 x3 x4 g)) (runA.sl.v58 c i arg3 harg3 arg4 harg4 arg5 harg5 arg6 harg6 arg7 harg7 arg8 harg8 arg9 harg9 arg10 harg10 arg11 harg11 arg12 harg12 x0 x2 x3 x4 g) (View.readAt (Elt F) arg7.view (Rect.unit (s := S768x4096) (k0_off39 i) S128x512.size (k0_off39_inb i)).toLoadRect (harg7.unread x4)) (runA.sl.v72 c i arg3 harg3 arg4 harg4 arg5 harg5 arg6 harg6 arg7 harg7 arg8 harg8 arg9 harg9 arg10 harg10 arg11 harg11 arg12 harg12 x0 x2 x3 x4 g) from rfl).trans (by rw [A_s0 (hq := hq), A_m0 (hq := hq), A_a0 (hq := hq), rd_v _ _ _ _ _ (i 2).val 0 (off39_ i)]; rfl)

theorem A_f1 (hq : (i 2).val % 2 = 0) : runA.sl.v265 c i arg3 harg3 arg4 harg4 arg5 harg5 arg6 harg6 arg7 harg7 arg8 harg8 arg9 harg9 arg10 harg10 arg11 harg11 arg12 harg12 x0 x2 x3 x4 g = fV x0 x2 x3 x4 (i 2).val 1 := by
  unfold runA.sl.v265 runA.sl.HS3_6 runA.sl.HS3_5 runA.sl.HS3_4 runA.sl.HS3_3 runA.sl.HS3_2; refine (rd_skip _ _ _ _ _ rfl).trans ?_; refine (rd_skip _ _ _ _ _ rfl).trans ?_; refine (rd_skip _ _ _ _ _ rfl).trans ?_; refine (rd_skip _ _ _ _ _ rfl).trans ?_; refine (rd_hit _ _ _ _ _).trans ?_
  exact (show _ = acF k0_pay225 (k0_pay235 (runA.sl.v84 c i arg3 harg3 arg4 harg4 arg5 harg5 arg6 harg6 arg7 harg7 arg8 harg8 arg9 harg9 arg10 harg10 arg11 harg11 arg12 harg12 x0 x2 x3 x4 g)) (runA.sl.v91 c i arg3 harg3 arg4 harg4 arg5 harg5 arg6 harg6 arg7 harg7 arg8 harg8 arg9 harg9 arg10 harg10 arg11 harg11 arg12 harg12 x0 x2 x3 x4 g) (View.readAt (Elt F) arg7.view (Rect.unit (s := S768x4096) (k0_off40 i) S128x512.size (k0_off40_inb i)).toLoadRect (harg7.unread x4)) (runA.sl.v105 c i arg3 harg3 arg4 harg4 arg5 harg5 arg6 harg6 arg7 harg7 arg8 harg8 arg9 harg9 arg10 harg10 arg11 harg11 arg12 harg12 x0 x2 x3 x4 g) from rfl).trans (by rw [A_s1 (hq := hq), A_m1 (hq := hq), A_a1 (hq := hq), rd_v _ _ _ _ _ (i 2).val 1 (off40_ i)]; rfl)

theorem A_f2 (hq : (i 2).val % 2 = 0) : runA.sl.v281 c i arg3 harg3 arg4 harg4 arg5 harg5 arg6 harg6 arg7 harg7 arg8 harg8 arg9 harg9 arg10 harg10 arg11 harg11 arg12 harg12 x0 x2 x3 x4 g = fV x0 x2 x3 x4 (i 2).val 2 := by
  unfold runA.sl.v281 runA.sl.HS3_6 runA.sl.HS3_5 runA.sl.HS3_4 runA.sl.HS3_3; refine (rd_skip _ _ _ _ _ rfl).trans ?_; refine (rd_skip _ _ _ _ _ rfl).trans ?_; refine (rd_skip _ _ _ _ _ rfl).trans ?_; refine (rd_hit _ _ _ _ _).trans ?_
  exact (show _ = acF k0_pay225 (k0_pay235 (runA.sl.v117 c i arg3 harg3 arg4 harg4 arg5 harg5 arg6 harg6 arg7 harg7 arg8 harg8 arg9 harg9 arg10 harg10 arg11 harg11 arg12 harg12 x0 x2 x3 x4 g)) (runA.sl.v124 c i arg3 harg3 arg4 harg4 arg5 harg5 arg6 harg6 arg7 harg7 arg8 harg8 arg9 harg9 arg10 harg10 arg11 harg11 arg12 harg12 x0 x2 x3 x4 g) (View.readAt (Elt F) arg7.view (Rect.unit (s := S768x4096) (k0_off41 i) S128x512.size (k0_off41_inb i)).toLoadRect (harg7.unread x4)) (runA.sl.v138 c i arg3 harg3 arg4 harg4 arg5 harg5 arg6 harg6 arg7 harg7 arg8 harg8 arg9 harg9 arg10 harg10 arg11 harg11 arg12 harg12 x0 x2 x3 x4 g) from rfl).trans (by rw [A_s2 (hq := hq), A_m2 (hq := hq), A_a2 (hq := hq), rd_v _ _ _ _ _ (i 2).val 2 (off41_ i)]; rfl)

theorem A_f3 (hq : (i 2).val % 2 = 0) : runA.sl.v297 c i arg3 harg3 arg4 harg4 arg5 harg5 arg6 harg6 arg7 harg7 arg8 harg8 arg9 harg9 arg10 harg10 arg11 harg11 arg12 harg12 x0 x2 x3 x4 g = fV x0 x2 x3 x4 (i 2).val 3 := by
  unfold runA.sl.v297 runA.sl.HS3_6 runA.sl.HS3_5 runA.sl.HS3_4; refine (rd_skip _ _ _ _ _ rfl).trans ?_; refine (rd_skip _ _ _ _ _ rfl).trans ?_; refine (rd_hit _ _ _ _ _).trans ?_
  exact (show _ = acF k0_pay225 (k0_pay235 (runA.sl.v150 c i arg3 harg3 arg4 harg4 arg5 harg5 arg6 harg6 arg7 harg7 arg8 harg8 arg9 harg9 arg10 harg10 arg11 harg11 arg12 harg12 x0 x2 x3 x4 g)) (runA.sl.v157 c i arg3 harg3 arg4 harg4 arg5 harg5 arg6 harg6 arg7 harg7 arg8 harg8 arg9 harg9 arg10 harg10 arg11 harg11 arg12 harg12 x0 x2 x3 x4 g) (View.readAt (Elt F) arg7.view (Rect.unit (s := S768x4096) (k0_off42 i) S128x512.size (k0_off42_inb i)).toLoadRect (harg7.unread x4)) (runA.sl.v171 c i arg3 harg3 arg4 harg4 arg5 harg5 arg6 harg6 arg7 harg7 arg8 harg8 arg9 harg9 arg10 harg10 arg11 harg11 arg12 harg12 x0 x2 x3 x4 g) from rfl).trans (by rw [A_s3 (hq := hq), A_m3 (hq := hq), A_a3 (hq := hq), rd_v _ _ _ _ _ (i 2).val 3 (off42_ i)]; rfl)

theorem A_f4 (hq : (i 2).val % 2 = 0) : runA.sl.v313 c i arg3 harg3 arg4 harg4 arg5 harg5 arg6 harg6 arg7 harg7 arg8 harg8 arg9 harg9 arg10 harg10 arg11 harg11 arg12 harg12 x0 x2 x3 x4 g = fV x0 x2 x3 x4 (i 2).val 4 := by
  unfold runA.sl.v313 runA.sl.HS3_6 runA.sl.HS3_5; refine (rd_skip _ _ _ _ _ rfl).trans ?_; refine (rd_hit _ _ _ _ _).trans ?_
  exact (show _ = acF k0_pay225 (k0_pay235 (runA.sl.v183 c i arg3 harg3 arg4 harg4 arg5 harg5 arg6 harg6 arg7 harg7 arg8 harg8 arg9 harg9 arg10 harg10 arg11 harg11 arg12 harg12 x0 x2 x3 x4 g)) (runA.sl.v190 c i arg3 harg3 arg4 harg4 arg5 harg5 arg6 harg6 arg7 harg7 arg8 harg8 arg9 harg9 arg10 harg10 arg11 harg11 arg12 harg12 x0 x2 x3 x4 g) (View.readAt (Elt F) arg7.view (Rect.unit (s := S768x4096) (k0_off43 i) S128x512.size (k0_off43_inb i)).toLoadRect (harg7.unread x4)) (runA.sl.v204 c i arg3 harg3 arg4 harg4 arg5 harg5 arg6 harg6 arg7 harg7 arg8 harg8 arg9 harg9 arg10 harg10 arg11 harg11 arg12 harg12 x0 x2 x3 x4 g) from rfl).trans (by rw [A_s4 (hq := hq), A_m4 (hq := hq), A_a4 (hq := hq), rd_v _ _ _ _ _ (i 2).val 4 (off43_ i)]; rfl)

theorem A_f5 (hq : (i 2).val % 2 = 0) : runA.sl.v329 c i arg3 harg3 arg4 harg4 arg5 harg5 arg6 harg6 arg7 harg7 arg8 harg8 arg9 harg9 arg10 harg10 arg11 harg11 arg12 harg12 x0 x2 x3 x4 g = fV x0 x2 x3 x4 (i 2).val 5 := by
  unfold runA.sl.v329 runA.sl.HS3_6; refine (rd_hit _ _ _ _ _).trans ?_
  exact (show _ = acF k0_pay225 (k0_pay235 (runA.sl.v216 c i arg3 harg3 arg4 harg4 arg5 harg5 arg6 harg6 arg7 harg7 arg8 harg8 arg9 harg9 arg10 harg10 arg11 harg11 arg12 harg12 x0 x2 x3 x4 g)) (runA.sl.v223 c i arg3 harg3 arg4 harg4 arg5 harg5 arg6 harg6 arg7 harg7 arg8 harg8 arg9 harg9 arg10 harg10 arg11 harg11 arg12 harg12 x0 x2 x3 x4 g) (View.readAt (Elt F) arg7.view (Rect.unit (s := S768x4096) (k0_off44 i) S128x512.size (k0_off44_inb i)).toLoadRect (harg7.unread x4)) (runA.sl.v237 c i arg3 harg3 arg4 harg4 arg5 harg5 arg6 harg6 arg7 harg7 arg8 harg8 arg9 harg9 arg10 harg10 arg11 harg11 arg12 harg12 x0 x2 x3 x4 g) from rfl).trans (by rw [A_s5 (hq := hq), A_m5 (hq := hq), A_a5 (hq := hq), rd_v _ _ _ _ _ (i 2).val 5 (off44_ i)]; rfl)

/-- The output pieces of a point of this case. -/
theorem runA_eq (hc0 : ¬cond0_0 i) (hc1 : cond0_1 i) (hq : (i 2).val % 2 = 0) : (runA c i arg3 harg3 arg4 harg4 arg5 harg5 arg6 harg6 arg7 harg7 arg8 harg8 arg9 harg9 arg10 harg10 arg11 harg11 arg12 harg12 hc0 hc1 x0 x1 x2 x3 x4 g).1 = outL x0 x1 x2 x3 x4 (i 2).val := by
  refine Eq.trans (b := [⟨Rect.unit ![0, 640] S512x128.size inb_S512x768_S512x128_0_640, k0_pay1 (runA.sl.v329 c i arg3 harg3 arg4 harg4 arg5 harg5 arg6 harg6 arg7 harg7 arg8 harg8 arg9 harg9 arg10 harg10 arg11 harg11 arg12 harg12 x0 x2 x3 x4 g) (View.readAt (Elt F) arg4.view (Rect.unit (s := S512x768) ![0, 640] S512x128.size inb_S512x768_S512x128_0_640).toLoadRect (harg4.unread x1))⟩, ⟨Rect.unit ![0, 512] S512x128.size inb_S512x768_S512x128_0_512, k0_pay1 (runA.sl.v313 c i arg3 harg3 arg4 harg4 arg5 harg5 arg6 harg6 arg7 harg7 arg8 harg8 arg9 harg9 arg10 harg10 arg11 harg11 arg12 harg12 x0 x2 x3 x4 g) (View.readAt (Elt F) arg4.view (Rect.unit (s := S512x768) ![0, 512] S512x128.size inb_S512x768_S512x128_0_512).toLoadRect (harg4.unread x1))⟩, ⟨Rect.unit ![0, 384] S512x128.size inb_S512x768_S512x128_0_384, k0_pay1 (runA.sl.v297 c i arg3 harg3 arg4 harg4 arg5 harg5 arg6 harg6 arg7 harg7 arg8 harg8 arg9 harg9 arg10 harg10 arg11 harg11 arg12 harg12 x0 x2 x3 x4 g) (View.readAt (Elt F) arg4.view (Rect.unit (s := S512x768) ![0, 384] S512x128.size inb_S512x768_S512x128_0_384).toLoadRect (harg4.unread x1))⟩, ⟨Rect.unit ![0, 256] S512x128.size inb_S512x768_S512x128_0_256, k0_pay1 (runA.sl.v281 c i arg3 harg3 arg4 harg4 arg5 harg5 arg6 harg6 arg7 harg7 arg8 harg8 arg9 harg9 arg10 harg10 arg11 harg11 arg12 harg12 x0 x2 x3 x4 g) (View.readAt (Elt F) arg4.view (Rect.unit (s := S512x768) ![0, 256] S512x128.size inb_S512x768_S512x128_0_256).toLoadRect (harg4.unread x1))⟩, ⟨Rect.unit ![0, 128] S512x128.size inb_S512x768_S512x128_0_128, k0_pay1 (runA.sl.v265 c i arg3 harg3 arg4 harg4 arg5 harg5 arg6 harg6 arg7 harg7 arg8 harg8 arg9 harg9 arg10 harg10 arg11 harg11 arg12 harg12 x0 x2 x3 x4 g) (View.readAt (Elt F) arg4.view (Rect.unit (s := S512x768) ![0, 128] S512x128.size inb_S512x768_S512x128_0_128).toLoadRect (harg4.unread x1))⟩, ⟨Rect.unit ![0, 0] S512x128.size inb_S512x768_S512x128_0_0, k0_pay1 (runA.sl.v c i arg3 harg3 arg4 harg4 arg5 harg5 arg6 harg6 arg7 harg7 arg8 harg8 arg9 harg9 arg10 harg10 arg11 harg11 arg12 harg12 x0 x2 x3 x4 g) (View.readAt (Elt F) arg4.view (Rect.unit (s := S512x768) ![0, 0] S512x128.size inb_S512x768_S512x128_0_0).toLoadRect (harg4.unread x1))⟩]) (by unfold runA; rfl) ?_
  rw [A_f0 (hq := hq), A_f1 (hq := hq), A_f2 (hq := hq), A_f3 (hq := hq), A_f4 (hq := hq), A_f5 (hq := hq), rd_z _ _ _ _ _ 0 rfl, rd_z _ _ _ _ _ 1 rfl, rd_z _ _ _ _ _ 2 rfl, rd_z _ _ _ _ _ 3 rfl, rd_z _ _ _ _ _ 4 rfl, rd_z _ _ _ _ _ 5 rfl]
  rfl

end

end Cert.KernelIdeal.Att

end
-- ==== Proof.Ideal.EqB.lean ====
module

public import proofs.«01_k».proof.Proof.Ideal.Fill
public import proofs.«01_k».proof.Proof.Ideal.RunB
public import proofs.«01_k».proof.Proof.Ideal.Indep
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.ShloMosaic.ValueIdx

variable {F : FTy → Type} [FloatOps F] [Named F]

section
variable (c : Dev nD) (i : grid0.Coords) (arg3 : Memref sig .tc .vmem S1536x512 .bf16) (harg3 : arg3.IsWhole) (arg4 : Memref sig .tc .vmem S512x768 .bf16) (harg4 : arg4.IsWhole) (arg5 : Memref sig .tc .vmem S4096x768 .bf16) (harg5 : arg5.IsWhole) (arg6 : Memref sig .tc .vmem S4096x128 .bf16) (harg6 : arg6.IsWhole) (arg7 : Memref sig .tc .vmem S768x4096 .bf16) (harg7 : arg7.IsWhole) (arg8 : Memref sig .tc .vmem S512x768 .bf16) (harg8 : arg8.IsWhole) (arg9 : Memref sig .tc .vmem S6x512x512 .f32) (harg9 : arg9.IsWhole) (arg10 : Memref sig .tc .vmem S6x512x512 .f32) (harg10 : arg10.IsWhole) (arg11 : Memref sig .tc .vmem S6x1x512 .f32) (harg11 : arg11.IsWhole) (arg12 : Memref sig .tc .vmem S6x144x512 .f32) (harg12 : arg12.IsWhole)
  (x0 : Vec F S1536x512 .bf16) (x1 : Vec F S512x768 .bf16) (x2 : Vec F S4096x768 .bf16) (x3 : Vec F S4096x128 .bf16) (x4 : Vec F S768x4096 .bf16)

theorem B_sc1_0 : arg9.view.readCov (runB.sl.HS0_6 c arg3 harg3 arg5 harg5 arg6 harg6 x0 x2 x3) (R9 0 (by decide)).toLoadRect = Sc x0 x2 x3 1 0 := by
  unfold runB.sl.HS0_6; refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; refine (rd_hit _ _ _ _ _).trans ?_; exact (show _ = scF (View.readAt (Elt F) arg6.view (Rect.unit (s := S4096x128) ![512, 0] S512x128.size (by decide)).toLoadRect (harg6.unread x3)) (View.readAt (Elt F) arg5.view (Rect.unit (s := S4096x768) ![512, 0] S512x128.size (by decide)).toLoadRect (harg5.unread x2)) (View.readAt (Elt F) arg3.view (Rect.unit (s := S1536x512) ![0, 0] S256x512.size (by decide)).toLoadRect (harg3.unread x0)) from rfl).trans (by rw [rd_kr _ _ _ _ _ 1 rfl, rd_kn _ _ _ _ _ 1 0 rfl, rd_q _ _ _ _ _ 0 rfl]; rfl)
theorem B_sc0_0 : arg10.view.readCov (runB.sl.HS1_6 c arg3 harg3 arg5 harg5 arg6 harg6 x0 x2 x3) (R9 0 (by decide)).toLoadRect = Sc x0 x2 x3 0 0 := by
  unfold runB.sl.HS1_6; refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; refine (rd_hit _ _ _ _ _).trans ?_; exact (show _ = scF (View.readAt (Elt F) arg6.view (Rect.unit (s := S4096x128) ![0, 0] S512x128.size (by decide)).toLoadRect (harg6.unread x3)) (View.readAt (Elt F) arg5.view (Rect.unit (s := S4096x768) ![0, 0] S512x128.size (by decide)).toLoadRect (harg5.unread x2)) (View.readAt (Elt F) arg3.view (Rect.unit (s := S1536x512) ![0, 0] S256x512.size (by decide)).toLoadRect (harg3.unread x0)) from rfl).trans (by rw [rd_kr _ _ _ _ _ 0 rfl, rd_kn _ _ _ _ _ 0 0 rfl, rd_q _ _ _ _ _ 0 rfl]; rfl)

theorem B_sc1_1 : arg9.view.readCov (runB.sl.HS0_6 c arg3 harg3 arg5 harg5 arg6 harg6 x0 x2 x3) (R9 1 (by decide)).toLoadRect = Sc x0 x2 x3 1 1 := by
  unfold runB.sl.HS0_6; refine (rd_skip _ _ _ _ _ rfl).trans ?_; refine (rd_skip _ _ _ _ _ rfl).trans ?_; refine (rd_skip _ _ _ _ _ rfl).trans ?_; refine (rd_skip _ _ _ _ _ rfl).trans ?_; refine (rd_hit _ _ _ _ _).trans ?_; exact (show _ = scF (View.readAt (Elt F) arg6.view (Rect.unit (s := S4096x128) ![512, 0] S512x128.size (by decide)).toLoadRect (harg6.unread x3)) (View.readAt (Elt F) arg5.view (Rect.unit (s := S4096x768) ![512, 128] S512x128.size (by decide)).toLoadRect (harg5.unread x2)) (View.readAt (Elt F) arg3.view (Rect.unit (s := S1536x512) ![256, 0] S256x512.size (by decide)).toLoadRect (harg3.unread x0)) from rfl).trans (by rw [rd_kr _ _ _ _ _ 1 rfl, rd_kn _ _ _ _ _ 1 1 rfl, rd_q _ _ _ _ _ 1 rfl]; rfl)
theorem B_sc0_1 : arg10.view.readCov (runB.sl.HS1_6 c arg3 harg3 arg5 harg5 arg6 harg6 x0 x2 x3) (R9 1 (by decide)).toLoadRect = Sc x0 x2 x3 0 1 := by
  unfold runB.sl.HS1_6; refine (rd_skip _ _ _ _ _ rfl).trans ?_; refine (rd_skip _ _ _ _ _ rfl).trans ?_; refine (rd_skip _ _ _ _ _ rfl).trans ?_; refine (rd_skip _ _ _ _ _ rfl).trans ?_; refine (rd_hit _ _ _ _ _).trans ?_; exact (show _ = scF (View.readAt (Elt F) arg6.view (Rect.unit (s := S4096x128) ![0, 0] S512x128.size (by decide)).toLoadRect (harg6.unread x3)) (View.readAt (Elt F) arg5.view (Rect.unit (s := S4096x768) ![0, 128] S512x128.size (by decide)).toLoadRect (harg5.unread x2)) (View.readAt (Elt F) arg3.view (Rect.unit (s := S1536x512) ![256, 0] S256x512.size (by decide)).toLoadRect (harg3.unread x0)) from rfl).trans (by rw [rd_kr _ _ _ _ _ 0 rfl, rd_kn _ _ _ _ _ 0 1 rfl, rd_q _ _ _ _ _ 1 rfl]; rfl)

theorem B_sc1_2 : arg9.view.readCov (runB.sl.HS0_6 c arg3 harg3 arg5 harg5 arg6 harg6 x0 x2 x3) (R9 2 (by decide)).toLoadRect = Sc x0 x2 x3 1 2 := by
  unfold runB.sl.HS0_6; refine (rd_skip _ _ _ _ _ rfl).trans ?_; refine (rd_skip _ _ _ _ _ rfl).trans ?_; refine (rd_skip _ _ _ _ _ rfl).trans ?_; refine (rd_hit _ _ _ _ _).trans ?_; exact (show _ = scF (View.readAt (Elt F) arg6.view (Rect.unit (s := S4096x128) ![512, 0] S512x128.size (by decide)).toLoadRect (harg6.unread x3)) (View.readAt (Elt F) arg5.view (Rect.unit (s := S4096x768) ![512, 256] S512x128.size (by decide)).toLoadRect (harg5.unread x2)) (View.readAt (Elt F) arg3.view (Rect.unit (s := S1536x512) ![512, 0] S256x512.size (by decide)).toLoadRect (harg3.unread x0)) from rfl).trans (by rw [rd_kr _ _ _ _ _ 1 rfl, rd_kn _ _ _ _ _ 1 2 rfl, rd_q _ _ _ _ _ 2 rfl]; rfl)
theorem B_sc0_2 : arg10.view.readCov (runB.sl.HS1_6 c arg3 harg3 arg5 harg5 arg6 harg6 x0 x2 x3) (R9 2 (by decide)).toLoadRect = Sc x0 x2 x3 0 2 := by
  unfold runB.sl.HS1_6; refine (rd_skip _ _ _ _ _ rfl).trans ?_; refine (rd_skip _ _ _ _ _ rfl).trans ?_; refine (rd_skip _ _ _ _ _ rfl).trans ?_; refine (rd_hit _ _ _ _ _).trans ?_; exact (show _ = scF (View.readAt (Elt F) arg6.view (Rect.unit (s := S4096x128) ![0, 0] S512x128.size (by decide)).toLoadRect (harg6.unread x3)) (View.readAt (Elt F) arg5.view (Rect.unit (s := S4096x768) ![0, 256] S512x128.size (by decide)).toLoadRect (harg5.unread x2)) (View.readAt (Elt F) arg3.view (Rect.unit (s := S1536x512) ![512, 0] S256x512.size (by decide)).toLoadRect (harg3.unread x0)) from rfl).trans (by rw [rd_kr _ _ _ _ _ 0 rfl, rd_kn _ _ _ _ _ 0 2 rfl, rd_q _ _ _ _ _ 2 rfl]; rfl)

theorem B_sc1_3 : arg9.view.readCov (runB.sl.HS0_6 c arg3 harg3 arg5 harg5 arg6 harg6 x0 x2 x3) (R9 3 (by decide)).toLoadRect = Sc x0 x2 x3 1 3 := by
  unfold runB.sl.HS0_6; refine (rd_skip _ _ _ _ _ rfl).trans ?_; refine (rd_skip _ _ _ _ _ rfl).trans ?_; refine (rd_hit _ _ _ _ _).trans ?_; exact (show _ = scF (View.readAt (Elt F) arg6.view (Rect.unit (s := S4096x128) ![512, 0] S512x128.size (by decide)).toLoadRect (harg6.unread x3)) (View.readAt (Elt F) arg5.view (Rect.unit (s := S4096x768) ![512, 384] S512x128.size (by decide)).toLoadRect (harg5.unread x2)) (View.readAt (Elt F) arg3.view (Rect.unit (s := S1536x512) ![768, 0] S256x512.size (by decide)).toLoadRect (harg3.unread x0)) from rfl).trans (by rw [rd_kr _ _ _ _ _ 1 rfl, rd_kn _ _ _ _ _ 1 3 rfl, rd_q _ _ _ _ _ 3 rfl]; rfl)
theorem B_sc0_3 : arg10.view.readCov (runB.sl.HS1_6 c arg3 harg3 arg5 harg5 arg6 harg6 x0 x2 x3) (R9 3 (by decide)).toLoadRect = Sc x0 x2 x3 0 3 := by
  unfold runB.sl.HS1_6; refine (rd_skip _ _ _ _ _ rfl).trans ?_; refine (rd_skip _ _ _ _ _ rfl).trans ?_; refine (rd_hit _ _ _ _ _).trans ?_; exact (show _ = scF (View.readAt (Elt F) arg6.view (Rect.unit (s := S4096x128) ![0, 0] S512x128.size (by decide)).toLoadRect (harg6.unread x3)) (View.readAt (Elt F) arg5.view (Rect.unit (s := S4096x768) ![0, 384] S512x128.size (by decide)).toLoadRect (harg5.unread x2)) (View.readAt (Elt F) arg3.view (Rect.unit (s := S1536x512) ![768, 0] S256x512.size (by decide)).toLoadRect (harg3.unread x0)) from rfl).trans (by rw [rd_kr _ _ _ _ _ 0 rfl, rd_kn _ _ _ _ _ 0 3 rfl, rd_q _ _ _ _ _ 3 rfl]; rfl)

theorem B_sc1_4 : arg9.view.readCov (runB.sl.HS0_6 c arg3 harg3 arg5 harg5 arg6 harg6 x0 x2 x3) (R9 4 (by decide)).toLoadRect = Sc x0 x2 x3 1 4 := by
  unfold runB.sl.HS0_6; refine (rd_skip _ _ _ _ _ rfl).trans ?_; refine (rd_hit _ _ _ _ _).trans ?_; exact (show _ = scF (View.readAt (Elt F) arg6.view (Rect.unit (s := S4096x128) ![512, 0] S512x128.size (by decide)).toLoadRect (harg6.unread x3)) (View.readAt (Elt F) arg5.view (Rect.unit (s := S4096x768) ![512, 512] S512x128.size (by decide)).toLoadRect (harg5.unread x2)) (View.readAt (Elt F) arg3.view (Rect.unit (s := S1536x512) ![1024, 0] S256x512.size (by decide)).toLoadRect (harg3.unread x0)) from rfl).trans (by rw [rd_kr _ _ _ _ _ 1 rfl, rd_kn _ _ _ _ _ 1 4 rfl, rd_q _ _ _ _ _ 4 rfl]; rfl)
theorem B_sc0_4 : arg10.view.readCov (runB.sl.HS1_6 c arg3 harg3 arg5 harg5 arg6 harg6 x0 x2 x3) (R9 4 (by decide)).toLoadRect = Sc x0 x2 x3 0 4 := by
  unfold runB.sl.HS1_6; refine (rd_skip _ _ _ _ _ rfl).trans ?_; refine (rd_hit _ _ _ _ _).trans ?_; exact (show _ = scF (View.readAt (Elt F) arg6.view (Rect.unit (s := S4096x128) ![0, 0] S512x128.size (by decide)).toLoadRect (harg6.unread x3)) (View.readAt (Elt F) arg5.view (Rect.unit (s := S4096x768) ![0, 512] S512x128.size (by decide)).toLoadRect (harg5.unread x2)) (View.readAt (Elt F) arg3.view (Rect.unit (s := S1536x512) ![1024, 0] S256x512.size (by decide)).toLoadRect (harg3.unread x0)) from rfl).trans (by rw [rd_kr _ _ _ _ _ 0 rfl, rd_kn _ _ _ _ _ 0 4 rfl, rd_q _ _ _ _ _ 4 rfl]; rfl)

theorem B_sc1_5 : arg9.view.readCov (runB.sl.HS0_6 c arg3 harg3 arg5 harg5 arg6 harg6 x0 x2 x3) (R9 5 (by decide)).toLoadRect = Sc x0 x2 x3 1 5 := by
  unfold runB.sl.HS0_6; refine (rd_hit _ _ _ _ _).trans ?_; exact (show _ = scF (View.readAt (Elt F) arg6.view (Rect.unit (s := S4096x128) ![512, 0] S512x128.size (by decide)).toLoadRect (harg6.unread x3)) (View.readAt (Elt F) arg5.view (Rect.unit (s := S4096x768) ![512, 640] S512x128.size (by decide)).toLoadRect (harg5.unread x2)) (View.readAt (Elt F) arg3.view (Rect.unit (s := S1536x512) ![1280, 0] S256x512.size (by decide)).toLoadRect (harg3.unread x0)) from rfl).trans (by rw [rd_kr _ _ _ _ _ 1 rfl, rd_kn _ _ _ _ _ 1 5 rfl, rd_q _ _ _ _ _ 5 rfl]; rfl)
theorem B_sc0_5 : arg10.view.readCov (runB.sl.HS1_6 c arg3 harg3 arg5 harg5 arg6 harg6 x0 x2 x3) (R9 5 (by decide)).toLoadRect = Sc x0 x2 x3 0 5 := by
  unfold runB.sl.HS1_6; refine (rd_hit _ _ _ _ _).trans ?_; exact (show _ = scF (View.readAt (Elt F) arg6.view (Rect.unit (s := S4096x128) ![0, 0] S512x128.size (by decide)).toLoadRect (harg6.unread x3)) (View.readAt (Elt F) arg5.view (Rect.unit (s := S4096x768) ![0, 640] S512x128.size (by decide)).toLoadRect (harg5.unread x2)) (View.readAt (Elt F) arg3.view (Rect.unit (s := S1536x512) ![1280, 0] S256x512.size (by decide)).toLoadRect (harg3.unread x0)) from rfl).trans (by rw [rd_kr _ _ _ _ _ 0 rfl, rd_kn _ _ _ _ _ 0 5 rfl, rd_q _ _ _ _ _ 5 rfl]; rfl)

theorem B_m0_0 : arg11.view.readCov (Val := Elt F) runB.sl.HS2_1 (R11 0 (by decide)).toLoadRect = mV x0 x2 x3 0 0 := by
  exact init11 arg11.view x0 x2 x3 0 (by decide) _
theorem B_a0_0 : arg12.view.readCov (Val := Elt F) runB.sl.HS3_1 (R12 0 (by decide)).toLoadRect = aV x0 x2 x3 x4 0 0 := by
  exact init12 arg12.view x0 x2 x3 x4 0 (by decide) _

theorem B_m0_1 : arg11.view.readCov (Val := Elt F) (runB.sl.HS2_2 c arg3 harg3 arg5 harg5 arg6 harg6 arg10 arg11 x0 x2 x3) (R11 1 (by decide)).toLoadRect = mV x0 x2 x3 1 0 := by
  unfold runB.sl.HS2_2; refine (rd_skip _ _ _ _ _ rfl).trans ?_; exact init11 arg11.view x0 x2 x3 1 (by decide) _
theorem B_a0_1 : arg12.view.readCov (Val := Elt F) (runB.sl.HS3_2 c arg3 harg3 arg5 harg5 arg6 harg6 arg7 harg7 arg10 arg11 arg12 x0 x2 x3 x4) (R12 1 (by decide)).toLoadRect = aV x0 x2 x3 x4 1 0 := by
  unfold runB.sl.HS3_2; refine (rd_skip _ _ _ _ _ rfl).trans ?_; exact init12 arg12.view x0 x2 x3 x4 1 (by decide) _

theorem B_m0_2 : arg11.view.readCov (Val := Elt F) (runB.sl.HS2_3 c arg3 harg3 arg5 harg5 arg6 harg6 arg10 arg11 x0 x2 x3) (R11 2 (by decide)).toLoadRect = mV x0 x2 x3 2 0 := by
  unfold runB.sl.HS2_3 runB.sl.HS2_2; refine (rd_skip _ _ _ _ _ rfl).trans ?_; refine (rd_skip _ _ _ _ _ rfl).trans ?_; exact init11 arg11.view x0 x2 x3 2 (by decide) _
theorem B_a0_2 : arg12.view.readCov (Val := Elt F) (runB.sl.HS3_3 c arg3 harg3 arg5 harg5 arg6 harg6 arg7 harg7 arg10 arg11 arg12 x0 x2 x3 x4) (R12 2 (by decide)).toLoadRect = aV x0 x2 x3 x4 2 0 := by
  unfold runB.sl.HS3_3 runB.sl.HS3_2; refine (rd_skip _ _ _ _ _ rfl).trans ?_; refine (rd_skip _ _ _ _ _ rfl).trans ?_; exact init12 arg12.view x0 x2 x3 x4 2 (by decide) _

theorem B_m0_3 : arg11.view.readCov (Val := Elt F) (runB.sl.HS2_4 c arg3 harg3 arg5 harg5 arg6 harg6 arg10 arg11 x0 x2 x3) (R11 3 (by decide)).toLoadRect = mV x0 x2 x3 3 0 := by
  unfold runB.sl.HS2_4 runB.sl.HS2_3 runB.sl.HS2_2; refine (rd_skip _ _ _ _ _ rfl).trans ?_; refine (rd_skip _ _ _ _ _ rfl).trans ?_; refine (rd_skip _ _ _ _ _ rfl).trans ?_; exact init11 arg11.view x0 x2 x3 3 (by decide) _
theorem B_a0_3 : arg12.view.readCov (Val := Elt F) (runB.sl.HS3_4 c arg3 harg3 arg5 harg5 arg6 harg6 arg7 harg7 arg10 arg11 arg12 x0 x2 x3 x4) (R12 3 (by decide)).toLoadRect = aV x0 x2 x3 x4 3 0 := by
  unfold runB.sl.HS3_4 runB.sl.HS3_3 runB.sl.HS3_2; refine (rd_skip _ _ _ _ _ rfl).trans ?_; refine (rd_skip _ _ _ _ _ rfl).trans ?_; refine (rd_skip _ _ _ _ _ rfl).trans ?_; exact init12 arg12.view x0 x2 x3 x4 3 (by decide) _

theorem B_m0_4 : arg11.view.readCov (Val := Elt F) (runB.sl.HS2_5 c arg3 harg3 arg5 harg5 arg6 harg6 arg10 arg11 x0 x2 x3) (R11 4 (by decide)).toLoadRect = mV x0 x2 x3 4 0 := by
  unfold runB.sl.HS2_5 runB.sl.HS2_4 runB.sl.HS2_3 runB.sl.HS2_2; refine (rd_skip _ _ _ _ _ rfl).trans ?_; refine (rd_skip _ _ _ _ _ rfl).trans ?_; refine (rd_skip _ _ _ _ _ rfl).trans ?_; refine (rd_skip _ _ _ _ _ rfl).trans ?_; exact init11 arg11.view x0 x2 x3 4 (by decide) _
theorem B_a0_4 : arg12.view.readCov (Val := Elt F) (runB.sl.HS3_5 c arg3 harg3 arg5 harg5 arg6 harg6 arg7 harg7 arg10 arg11 arg12 x0 x2 x3 x4) (R12 4 (by decide)).toLoadRect = aV x0 x2 x3 x4 4 0 := by
  unfold runB.sl.HS3_5 runB.sl.HS3_4 runB.sl.HS3_3 runB.sl.HS3_2; refine (rd_skip _ _ _ _ _ rfl).trans ?_; refine (rd_skip _ _ _ _ _ rfl).trans ?_; refine (rd_skip _ _ _ _ _ rfl).trans ?_; refine (rd_skip _ _ _ _ _ rfl).trans ?_; exact init12 arg12.view x0 x2 x3 x4 4 (by decide) _

theorem B_m0_5 : arg11.view.readCov (Val := Elt F) (runB.sl.HS2_6 c arg3 harg3 arg5 harg5 arg6 harg6 arg10 arg11 x0 x2 x3) (R11 5 (by decide)).toLoadRect = mV x0 x2 x3 5 0 := by
  unfold runB.sl.HS2_6 runB.sl.HS2_5 runB.sl.HS2_4 runB.sl.HS2_3 runB.sl.HS2_2; refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; exact init11 arg11.view x0 x2 x3 5 (by decide) _
theorem B_a0_5 : arg12.view.readCov (Val := Elt F) (runB.sl.HS3_6 c arg3 harg3 arg5 harg5 arg6 harg6 arg7 harg7 arg10 arg11 arg12 x0 x2 x3 x4) (R12 5 (by decide)).toLoadRect = aV x0 x2 x3 x4 5 0 := by
  unfold runB.sl.HS3_6 runB.sl.HS3_5 runB.sl.HS3_4 runB.sl.HS3_3 runB.sl.HS3_2; refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; exact init12 arg12.view x0 x2 x3 x4 5 (by decide) _

theorem B_m1_0 : arg11.view.readCov (Val := Elt F) (runB.sl.HS2_7 c arg3 harg3 arg5 harg5 arg6 harg6 arg10 arg11 x0 x2 x3) (R11 0 (by decide)).toLoadRect = mV x0 x2 x3 0 1 := by
  unfold runB.sl.HS2_7 runB.sl.HS2_6 runB.sl.HS2_5 runB.sl.HS2_4 runB.sl.HS2_3 runB.sl.HS2_2; refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; refine (rd_hit _ _ _ _ _).trans ?_
  exact (show _ = mxF (un (arg10.view.readCov (runB.sl.HS1_6 c arg3 harg3 arg5 harg5 arg6 harg6 x0 x2 x3) (R9 0 (by decide)).toLoadRect)) (arg11.view.readCov (Val := Elt F) runB.sl.HS2_1 (R11 0 (by decide)).toLoadRect) from rfl).trans (by rw [B_sc0_0 c arg3 harg3 arg5 harg5 arg6 harg6 arg10 x0 x2 x3, B_m0_0]; rfl)
theorem B_a1_0 : arg12.view.readCov (Val := Elt F) (runB.sl.HS3_7 c arg3 harg3 arg5 harg5 arg6 harg6 arg7 harg7 arg10 arg11 arg12 x0 x2 x3 x4) (R12 0 (by decide)).toLoadRect = aV x0 x2 x3 x4 0 1 := by
  unfold runB.sl.HS3_7 runB.sl.HS3_6 runB.sl.HS3_5 runB.sl.HS3_4 runB.sl.HS3_3 runB.sl.HS3_2; refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; refine (rd_hit _ _ _ _ _).trans ?_
  exact (show _ = acF k0_pay225 (un (arg10.view.readCov (runB.sl.HS1_6 c arg3 harg3 arg5 harg5 arg6 harg6 x0 x2 x3) (R9 0 (by decide)).toLoadRect)) (arg11.view.readCov (Val := Elt F) runB.sl.HS2_1 (R11 0 (by decide)).toLoadRect) (View.readAt (Elt F) arg7.view (Rect.unit (s := S768x4096) ![0, 0] S128x512.size (by decide)).toLoadRect (harg7.unread x4)) (arg12.view.readCov (Val := Elt F) runB.sl.HS3_1 (R12 0 (by decide)).toLoadRect) from rfl).trans (by rw [B_sc0_0 c arg3 harg3 arg5 harg5 arg6 harg6 arg10 x0 x2 x3, B_m0_0, B_a0_0, rd_v _ _ _ _ _ 0 0 rfl]; rfl)

theorem B_m1_1 : arg11.view.readCov (Val := Elt F) (runB.sl.HS2_7 c arg3 harg3 arg5 harg5 arg6 harg6 arg10 arg11 x0 x2 x3) (R11 1 (by decide)).toLoadRect = mV x0 x2 x3 1 1 := by
  unfold runB.sl.HS2_7 runB.sl.HS2_6 runB.sl.HS2_5 runB.sl.HS2_4 runB.sl.HS2_3; refine (rd_skip _ _ _ _ _ rfl).trans ?_; refine (rd_skip _ _ _ _ _ rfl).trans ?_; refine (rd_skip _ _ _ _ _ rfl).trans ?_; refine (rd_skip _ _ _ _ _ rfl).trans ?_; refine (rd_hit _ _ _ _ _).trans ?_
  exact (show _ = mxF (un (arg10.view.readCov (runB.sl.HS1_6 c arg3 harg3 arg5 harg5 arg6 harg6 x0 x2 x3) (R9 1 (by decide)).toLoadRect)) (arg11.view.readCov (Val := Elt F) (runB.sl.HS2_2 c arg3 harg3 arg5 harg5 arg6 harg6 arg10 arg11 x0 x2 x3) (R11 1 (by decide)).toLoadRect) from rfl).trans (by rw [B_sc0_1 c arg3 harg3 arg5 harg5 arg6 harg6 arg10 x0 x2 x3, B_m0_1]; rfl)
theorem B_a1_1 : arg12.view.readCov (Val := Elt F) (runB.sl.HS3_7 c arg3 harg3 arg5 harg5 arg6 harg6 arg7 harg7 arg10 arg11 arg12 x0 x2 x3 x4) (R12 1 (by decide)).toLoadRect = aV x0 x2 x3 x4 1 1 := by
  unfold runB.sl.HS3_7 runB.sl.HS3_6 runB.sl.HS3_5 runB.sl.HS3_4 runB.sl.HS3_3; refine (rd_skip _ _ _ _ _ rfl).trans ?_; refine (rd_skip _ _ _ _ _ rfl).trans ?_; refine (rd_skip _ _ _ _ _ rfl).trans ?_; refine (rd_skip _ _ _ _ _ rfl).trans ?_; refine (rd_hit _ _ _ _ _).trans ?_
  exact (show _ = acF k0_pay225 (un (arg10.view.readCov (runB.sl.HS1_6 c arg3 harg3 arg5 harg5 arg6 harg6 x0 x2 x3) (R9 1 (by decide)).toLoadRect)) (arg11.view.readCov (Val := Elt F) (runB.sl.HS2_2 c arg3 harg3 arg5 harg5 arg6 harg6 arg10 arg11 x0 x2 x3) (R11 1 (by decide)).toLoadRect) (View.readAt (Elt F) arg7.view (Rect.unit (s := S768x4096) ![128, 0] S128x512.size (by decide)).toLoadRect (harg7.unread x4)) (arg12.view.readCov (Val := Elt F) (runB.sl.HS3_2 c arg3 harg3 arg5 harg5 arg6 harg6 arg7 harg7 arg10 arg11 arg12 x0 x2 x3 x4) (R12 1 (by decide)).toLoadRect) from rfl).trans (by rw [B_sc0_1 c arg3 harg3 arg5 harg5 arg6 harg6 arg10 x0 x2 x3, B_m0_1, B_a0_1, rd_v _ _ _ _ _ 0 1 rfl]; rfl)

theorem B_m1_2 : arg11.view.readCov (Val := Elt F) (runB.sl.HS2_7 c arg3 harg3 arg5 harg5 arg6 harg6 arg10 arg11 x0 x2 x3) (R11 2 (by decide)).toLoadRect = mV x0 x2 x3 2 1 := by
  unfold runB.sl.HS2_7 runB.sl.HS2_6 runB.sl.HS2_5 runB.sl.HS2_4; refine (rd_skip _ _ _ _ _ rfl).trans ?_; refine (rd_skip _ _ _ _ _ rfl).trans ?_; refine (rd_skip _ _ _ _ _ rfl).trans ?_; refine (rd_hit _ _ _ _ _).trans ?_
  exact (show _ = mxF (un (arg10.view.readCov (runB.sl.HS1_6 c arg3 harg3 arg5 harg5 arg6 harg6 x0 x2 x3) (R9 2 (by decide)).toLoadRect)) (arg11.view.readCov (Val := Elt F) (runB.sl.HS2_3 c arg3 harg3 arg5 harg5 arg6 harg6 arg10 arg11 x0 x2 x3) (R11 2 (by decide)).toLoadRect) from rfl).trans (by rw [B_sc0_2 c arg3 harg3 arg5 harg5 arg6 harg6 arg10 x0 x2 x3, B_m0_2]; rfl)
theorem B_a1_2 : arg12.view.readCov (Val := Elt F) (runB.sl.HS3_7 c arg3 harg3 arg5 harg5 arg6 harg6 arg7 harg7 arg10 arg11 arg12 x0 x2 x3 x4) (R12 2 (by decide)).toLoadRect = aV x0 x2 x3 x4 2 1 := by
  unfold runB.sl.HS3_7 runB.sl.HS3_6 runB.sl.HS3_5 runB.sl.HS3_4; refine (rd_skip _ _ _ _ _ rfl).trans ?_; refine (rd_skip _ _ _ _ _ rfl).trans ?_; refine (rd_skip _ _ _ _ _ rfl).trans ?_; refine (rd_hit _ _ _ _ _).trans ?_
  exact (show _ = acF k0_pay225 (un (arg10.view.readCov (runB.sl.HS1_6 c arg3 harg3 arg5 harg5 arg6 harg6 x0 x2 x3) (R9 2 (by decide)).toLoadRect)) (arg11.view.readCov (Val := Elt F) (runB.sl.HS2_3 c arg3 harg3 arg5 harg5 arg6 harg6 arg10 arg11 x0 x2 x3) (R11 2 (by decide)).toLoadRect) (View.readAt (Elt F) arg7.view (Rect.unit (s := S768x4096) ![256, 0] S128x512.size (by decide)).toLoadRect (harg7.unread x4)) (arg12.view.readCov (Val := Elt F) (runB.sl.HS3_3 c arg3 harg3 arg5 harg5 arg6 harg6 arg7 harg7 arg10 arg11 arg12 x0 x2 x3 x4) (R12 2 (by decide)).toLoadRect) from rfl).trans (by rw [B_sc0_2 c arg3 harg3 arg5 harg5 arg6 harg6 arg10 x0 x2 x3, B_m0_2, B_a0_2, rd_v _ _ _ _ _ 0 2 rfl]; rfl)

theorem B_m1_3 : arg11.view.readCov (Val := Elt F) (runB.sl.HS2_7 c arg3 harg3 arg5 harg5 arg6 harg6 arg10 arg11 x0 x2 x3) (R11 3 (by decide)).toLoadRect = mV x0 x2 x3 3 1 := by
  unfold runB.sl.HS2_7 runB.sl.HS2_6 runB.sl.HS2_5; refine (rd_skip _ _ _ _ _ rfl).trans ?_; refine (rd_skip _ _ _ _ _ rfl).trans ?_; refine (rd_hit _ _ _ _ _).trans ?_
  exact (show _ = mxF (un (arg10.view.readCov (runB.sl.HS1_6 c arg3 harg3 arg5 harg5 arg6 harg6 x0 x2 x3) (R9 3 (by decide)).toLoadRect)) (arg11.view.readCov (Val := Elt F) (runB.sl.HS2_4 c arg3 harg3 arg5 harg5 arg6 harg6 arg10 arg11 x0 x2 x3) (R11 3 (by decide)).toLoadRect) from rfl).trans (by rw [B_sc0_3 c arg3 harg3 arg5 harg5 arg6 harg6 arg10 x0 x2 x3, B_m0_3]; rfl)
theorem B_a1_3 : arg12.view.readCov (Val := Elt F) (runB.sl.HS3_7 c arg3 harg3 arg5 harg5 arg6 harg6 arg7 harg7 arg10 arg11 arg12 x0 x2 x3 x4) (R12 3 (by decide)).toLoadRect = aV x0 x2 x3 x4 3 1 := by
  unfold runB.sl.HS3_7 runB.sl.HS3_6 runB.sl.HS3_5; refine (rd_skip _ _ _ _ _ rfl).trans ?_; refine (rd_skip _ _ _ _ _ rfl).trans ?_; refine (rd_hit _ _ _ _ _).trans ?_
  exact (show _ = acF k0_pay225 (un (arg10.view.readCov (runB.sl.HS1_6 c arg3 harg3 arg5 harg5 arg6 harg6 x0 x2 x3) (R9 3 (by decide)).toLoadRect)) (arg11.view.readCov (Val := Elt F) (runB.sl.HS2_4 c arg3 harg3 arg5 harg5 arg6 harg6 arg10 arg11 x0 x2 x3) (R11 3 (by decide)).toLoadRect) (View.readAt (Elt F) arg7.view (Rect.unit (s := S768x4096) ![384, 0] S128x512.size (by decide)).toLoadRect (harg7.unread x4)) (arg12.view.readCov (Val := Elt F) (runB.sl.HS3_4 c arg3 harg3 arg5 harg5 arg6 harg6 arg7 harg7 arg10 arg11 arg12 x0 x2 x3 x4) (R12 3 (by decide)).toLoadRect) from rfl).trans (by rw [B_sc0_3 c arg3 harg3 arg5 harg5 arg6 harg6 arg10 x0 x2 x3, B_m0_3, B_a0_3, rd_v _ _ _ _ _ 0 3 rfl]; rfl)

theorem B_m1_4 : arg11.view.readCov (Val := Elt F) (runB.sl.HS2_7 c arg3 harg3 arg5 harg5 arg6 harg6 arg10 arg11 x0 x2 x3) (R11 4 (by decide)).toLoadRect = mV x0 x2 x3 4 1 := by
  unfold runB.sl.HS2_7 runB.sl.HS2_6; refine (rd_skip _ _ _ _ _ rfl).trans ?_; refine (rd_hit _ _ _ _ _).trans ?_
  exact (show _ = mxF (un (arg10.view.readCov (runB.sl.HS1_6 c arg3 harg3 arg5 harg5 arg6 harg6 x0 x2 x3) (R9 4 (by decide)).toLoadRect)) (arg11.view.readCov (Val := Elt F) (runB.sl.HS2_5 c arg3 harg3 arg5 harg5 arg6 harg6 arg10 arg11 x0 x2 x3) (R11 4 (by decide)).toLoadRect) from rfl).trans (by rw [B_sc0_4 c arg3 harg3 arg5 harg5 arg6 harg6 arg10 x0 x2 x3, B_m0_4]; rfl)
theorem B_a1_4 : arg12.view.readCov (Val := Elt F) (runB.sl.HS3_7 c arg3 harg3 arg5 harg5 arg6 harg6 arg7 harg7 arg10 arg11 arg12 x0 x2 x3 x4) (R12 4 (by decide)).toLoadRect = aV x0 x2 x3 x4 4 1 := by
  unfold runB.sl.HS3_7 runB.sl.HS3_6; refine (rd_skip _ _ _ _ _ rfl).trans ?_; refine (rd_hit _ _ _ _ _).trans ?_
  exact (show _ = acF k0_pay225 (un (arg10.view.readCov (runB.sl.HS1_6 c arg3 harg3 arg5 harg5 arg6 harg6 x0 x2 x3) (R9 4 (by decide)).toLoadRect)) (arg11.view.readCov (Val := Elt F) (runB.sl.HS2_5 c arg3 harg3 arg5 harg5 arg6 harg6 arg10 arg11 x0 x2 x3) (R11 4 (by decide)).toLoadRect) (View.readAt (Elt F) arg7.view (Rect.unit (s := S768x4096) ![512, 0] S128x512.size (by decide)).toLoadRect (harg7.unread x4)) (arg12.view.readCov (Val := Elt F) (runB.sl.HS3_5 c arg3 harg3 arg5 harg5 arg6 harg6 arg7 harg7 arg10 arg11 arg12 x0 x2 x3 x4) (R12 4 (by decide)).toLoadRect) from rfl).trans (by rw [B_sc0_4 c arg3 harg3 arg5 harg5 arg6 harg6 arg10 x0 x2 x3, B_m0_4, B_a0_4, rd_v _ _ _ _ _ 0 4 rfl]; rfl)

theorem B_m1_5 : arg11.view.readCov (Val := Elt F) (runB.sl.HS2_7 c arg3 harg3 arg5 harg5 arg6 harg6 arg10 arg11 x0 x2 x3) (R11 5 (by decide)).toLoadRect = mV x0 x2 x3 5 1 := by
  unfold runB.sl.HS2_7; refine (rd_hit _ _ _ _ _).trans ?_
  exact (show _ = mxF (un (arg10.view.readCov (runB.sl.HS1_6 c arg3 harg3 arg5 harg5 arg6 harg6 x0 x2 x3) (R9 5 (by decide)).toLoadRect)) (arg11.view.readCov (Val := Elt F) (runB.sl.HS2_6 c arg3 harg3 arg5 harg5 arg6 harg6 arg10 arg11 x0 x2 x3) (R11 5 (by decide)).toLoadRect) from rfl).trans (by rw [B_sc0_5 c arg3 harg3 arg5 harg5 arg6 harg6 arg10 x0 x2 x3, B_m0_5]; rfl)
theorem B_a1_5 : arg12.view.readCov (Val := Elt F) (runB.sl.HS3_7 c arg3 harg3 arg5 harg5 arg6 harg6 arg7 harg7 arg10 arg11 arg12 x0 x2 x3 x4) (R12 5 (by decide)).toLoadRect = aV x0 x2 x3 x4 5 1 := by
  unfold runB.sl.HS3_7; refine (rd_hit _ _ _ _ _).trans ?_
  exact (show _ = acF k0_pay225 (un (arg10.view.readCov (runB.sl.HS1_6 c arg3 harg3 arg5 harg5 arg6 harg6 x0 x2 x3) (R9 5 (by decide)).toLoadRect)) (arg11.view.readCov (Val := Elt F) (runB.sl.HS2_6 c arg3 harg3 arg5 harg5 arg6 harg6 arg10 arg11 x0 x2 x3) (R11 5 (by decide)).toLoadRect) (View.readAt (Elt F) arg7.view (Rect.unit (s := S768x4096) ![640, 0] S128x512.size (by decide)).toLoadRect (harg7.unread x4)) (arg12.view.readCov (Val := Elt F) (runB.sl.HS3_6 c arg3 harg3 arg5 harg5 arg6 harg6 arg7 harg7 arg10 arg11 arg12 x0 x2 x3 x4) (R12 5 (by decide)).toLoadRect) from rfl).trans (by rw [B_sc0_5 c arg3 harg3 arg5 harg5 arg6 harg6 arg10 x0 x2 x3, B_m0_5, B_a0_5, rd_v _ _ _ _ _ 0 5 rfl]; rfl)

/-- What the buffers hold before the loop's first trip. -/
theorem B_base (hq : (i 2).val % 2 = 1) : St arg9 arg11 arg12 x0 x2 x3 x4 (arg9.view.writes (Elt F) arg9.view.junk (runB.sl.HS0_6 c arg3 harg3 arg5 harg5 arg6 harg6 x0 x2 x3)) (arg11.view.writes (Elt F) arg11.view.junk (runB.sl.HS2_7 c arg3 harg3 arg5 harg5 arg6 harg6 arg10 arg11 x0 x2 x3)) (arg12.view.writes (Elt F) arg12.view.junk (runB.sl.HS3_7 c arg3 harg3 arg5 harg5 arg6 harg6 arg7 harg7 arg10 arg11 arg12 x0 x2 x3 x4)) ((i 2).val % 2) := by
  rw [hq]; intro h hh
  match h, hh with
  | 0, _ => exact ⟨B_sc1_0 c arg3 harg3 arg5 harg5 arg6 harg6 arg9 x0 x2 x3, B_m1_0 .., B_a1_0 ..⟩
  | 1, _ => exact ⟨B_sc1_1 c arg3 harg3 arg5 harg5 arg6 harg6 arg9 x0 x2 x3, B_m1_1 .., B_a1_1 ..⟩
  | 2, _ => exact ⟨B_sc1_2 c arg3 harg3 arg5 harg5 arg6 harg6 arg9 x0 x2 x3, B_m1_2 .., B_a1_2 ..⟩
  | 3, _ => exact ⟨B_sc1_3 c arg3 harg3 arg5 harg5 arg6 harg6 arg9 x0 x2 x3, B_m1_3 .., B_a1_3 ..⟩
  | 4, _ => exact ⟨B_sc1_4 c arg3 harg3 arg5 harg5 arg6 harg6 arg9 x0 x2 x3, B_m1_4 .., B_a1_4 ..⟩
  | 5, _ => exact ⟨B_sc1_5 c arg3 harg3 arg5 harg5 arg6 harg6 arg9 x0 x2 x3, B_m1_5 .., B_a1_5 ..⟩
  | n + 6, hh => omega

/-- What the buffers hold after the loop. -/
theorem B_st (hq : (i 2).val % 2 = 1) : St arg9 arg11 arg12 x0 x2 x3 x4 (arg9.view.writes (Elt F) (arg9.view.writes (Elt F) arg9.view.junk (runB.sl.HS0_6 c arg3 harg3 arg5 harg5 arg6 harg6 x0 x2 x3)) (pb_k0_t1 (F := F) Variants.none c none i arg3 harg3 arg4 harg4 arg5 harg5 arg6 harg6 arg7 harg7 arg8 harg8 arg9 harg9 arg10 harg10 arg11 harg11 arg12 harg12 (BitVec.ofNat 32 (i 2).val) k0_pay225 (runB.sl.v25 i) (runB.sl.v26 i) 2#32 (runB.sl.v27 i) (runB.sl.v29 i) (runB.sl.v30 i) (harg3.unread x0) (harg5.unread x2) (harg6.unread x3) (harg7.unread x4) (arg9.view.writes (Elt F) arg9.view.junk (runB.sl.HS0_6 c arg3 harg3 arg5 harg5 arg6 harg6 x0 x2 x3)) (arg10.view.writes (Elt F) arg10.view.junk (runB.sl.HS1_6 c arg3 harg3 arg5 harg5 arg6 harg6 x0 x2 x3)) (arg11.view.writes (Elt F) arg11.view.junk (runB.sl.HS2_7 c arg3 harg3 arg5 harg5 arg6 harg6 arg10 arg11 x0 x2 x3)) (arg12.view.writes (Elt F) arg12.view.junk (runB.sl.HS3_7 c arg3 harg3 arg5 harg5 arg6 harg6 arg7 harg7 arg10 arg11 arg12 x0 x2 x3 x4)) (Scf.trips (k0_t1_loop i).lb (k0_t1_loop i).ub (k0_t1_loop i).st)).1) (arg11.view.writes (Elt F) (arg11.view.writes (Elt F) arg11.view.junk (runB.sl.HS2_7 c arg3 harg3 arg5 harg5 arg6 harg6 arg10 arg11 x0 x2 x3)) (pb_k0_t1 (F := F) Variants.none c none i arg3 harg3 arg4 harg4 arg5 harg5 arg6 harg6 arg7 harg7 arg8 harg8 arg9 harg9 arg10 harg10 arg11 harg11 arg12 harg12 (BitVec.ofNat 32 (i 2).val) k0_pay225 (runB.sl.v25 i) (runB.sl.v26 i) 2#32 (runB.sl.v27 i) (runB.sl.v29 i) (runB.sl.v30 i) (harg3.unread x0) (harg5.unread x2) (harg6.unread x3) (harg7.unread x4) (arg9.view.writes (Elt F) arg9.view.junk (runB.sl.HS0_6 c arg3 harg3 arg5 harg5 arg6 harg6 x0 x2 x3)) (arg10.view.writes (Elt F) arg10.view.junk (runB.sl.HS1_6 c arg3 harg3 arg5 harg5 arg6 harg6 x0 x2 x3)) (arg11.view.writes (Elt F) arg11.view.junk (runB.sl.HS2_7 c arg3 harg3 arg5 harg5 arg6 harg6 arg10 arg11 x0 x2 x3)) (arg12.view.writes (Elt F) arg12.view.junk (runB.sl.HS3_7 c arg3 harg3 arg5 harg5 arg6 harg6 arg7 harg7 arg10 arg11 arg12 x0 x2 x3 x4)) (Scf.trips (k0_t1_loop i).lb (k0_t1_loop i).ub (k0_t1_loop i).st)).2.2.1) (arg12.view.writes (Elt F) (arg12.view.writes (Elt F) arg12.view.junk (runB.sl.HS3_7 c arg3 harg3 arg5 harg5 arg6 harg6 arg7 harg7 arg10 arg11 arg12 x0 x2 x3 x4)) (pb_k0_t1 (F := F) Variants.none c none i arg3 harg3 arg4 harg4 arg5 harg5 arg6 harg6 arg7 harg7 arg8 harg8 arg9 harg9 arg10 harg10 arg11 harg11 arg12 harg12 (BitVec.ofNat 32 (i 2).val) k0_pay225 (runB.sl.v25 i) (runB.sl.v26 i) 2#32 (runB.sl.v27 i) (runB.sl.v29 i) (runB.sl.v30 i) (harg3.unread x0) (harg5.unread x2) (harg6.unread x3) (harg7.unread x4) (arg9.view.writes (Elt F) arg9.view.junk (runB.sl.HS0_6 c arg3 harg3 arg5 harg5 arg6 harg6 x0 x2 x3)) (arg10.view.writes (Elt F) arg10.view.junk (runB.sl.HS1_6 c arg3 harg3 arg5 harg5 arg6 harg6 x0 x2 x3)) (arg11.view.writes (Elt F) arg11.view.junk (runB.sl.HS2_7 c arg3 harg3 arg5 harg5 arg6 harg6 arg10 arg11 x0 x2 x3)) (arg12.view.writes (Elt F) arg12.view.junk (runB.sl.HS3_7 c arg3 harg3 arg5 harg5 arg6 harg6 arg7 harg7 arg10 arg11 arg12 x0 x2 x3 x4)) (Scf.trips (k0_t1_loop i).lb (k0_t1_loop i).ub (k0_t1_loop i).st)).2.2.2) (i 2).val :=
  St_all i arg3 harg3 arg4 harg4 arg5 harg5 arg6 harg6 arg7 harg7 arg8 harg8 arg9 harg9 arg10 harg10 arg11 harg11 arg12 harg12 x0 x2 x3 x4 (arg9.view.writes (Elt F) arg9.view.junk (runB.sl.HS0_6 c arg3 harg3 arg5 harg5 arg6 harg6 x0 x2 x3)) (arg10.view.writes (Elt F) arg10.view.junk (runB.sl.HS1_6 c arg3 harg3 arg5 harg5 arg6 harg6 x0 x2 x3)) (arg11.view.writes (Elt F) arg11.view.junk (runB.sl.HS2_7 c arg3 harg3 arg5 harg5 arg6 harg6 arg10 arg11 x0 x2 x3)) (arg12.view.writes (Elt F) arg12.view.junk (runB.sl.HS3_7 c arg3 harg3 arg5 harg5 arg6 harg6 arg7 harg7 arg10 arg11 arg12 x0 x2 x3 x4)) Variants.none c none (BitVec.ofNat 32 (i 2).val) (runB.sl.v25 i) (runB.sl.v26 i) 2#32 (runB.sl.v27 i) (runB.sl.v29 i) (runB.sl.v30 i) (B_base c i arg3 harg3 arg5 harg5 arg6 harg6 arg7 harg7 arg9 arg10 arg11 arg12 x0 x2 x3 x4 hq)

theorem B_s0 (hq : (i 2).val % 2 = 1) : runB.sl.v51 c i arg3 harg3 arg4 harg4 arg5 harg5 arg6 harg6 arg7 harg7 arg8 harg8 arg9 harg9 arg10 harg10 arg11 harg11 arg12 harg12 x0 x2 x3 x4 = Sc x0 x2 x3 (i 2).val 0 := by
  unfold runB.sl.v51; exact (cov _ _ _ _ (by rw [pb2_none]) _).trans (B_st (hq := hq) (h := 0) (hh := by decide) ..).1
theorem B_m0 (hq : (i 2).val % 2 = 1) : runB.sl.v58 c i arg3 harg3 arg4 harg4 arg5 harg5 arg6 harg6 arg7 harg7 arg8 harg8 arg9 harg9 arg10 harg10 arg11 harg11 arg12 harg12 x0 x2 x3 x4 = mV x0 x2 x3 0 (i 2).val := by
  unfold runB.sl.v58 ; exact (cov _ _ _ _ (by rw [pb2_none]) _).trans (B_st (hq := hq) (h := 0) (hh := by decide) ..).2.1
theorem B_a0 (hq : (i 2).val % 2 = 1) : runB.sl.v72 c i arg3 harg3 arg4 harg4 arg5 harg5 arg6 harg6 arg7 harg7 arg8 harg8 arg9 harg9 arg10 harg10 arg11 harg11 arg12 harg12 x0 x2 x3 x4 = aV x0 x2 x3 x4 0 (i 2).val := by
  unfold runB.sl.v72 ; exact (cov _ _ _ _ (by rw [pb2_none]) _).trans (B_st (hq := hq) (h := 0) (hh := by decide) ..).2.2

theorem B_s1 (hq : (i 2).val % 2 = 1) : runB.sl.v84 c i arg3 harg3 arg4 harg4 arg5 harg5 arg6 harg6 arg7 harg7 arg8 harg8 arg9 harg9 arg10 harg10 arg11 harg11 arg12 harg12 x0 x2 x3 x4 = Sc x0 x2 x3 (i 2).val 1 := by
  unfold runB.sl.v84; exact (cov _ _ _ _ (by rw [pb2_none]) _).trans (B_st (hq := hq) (h := 1) (hh := by decide) ..).1
theorem B_m1 (hq : (i 2).val % 2 = 1) : runB.sl.v91 c i arg3 harg3 arg4 harg4 arg5 harg5 arg6 harg6 arg7 harg7 arg8 harg8 arg9 harg9 arg10 harg10 arg11 harg11 arg12 harg12 x0 x2 x3 x4 = mV x0 x2 x3 1 (i 2).val := by
  unfold runB.sl.v91 runB.sl.HS2_1_1; refine (rd_skip _ _ _ _ _ rfl).trans ?_; exact (cov _ _ _ _ (by rw [pb2_none]) _).trans (B_st (hq := hq) (h := 1) (hh := by decide) ..).2.1
theorem B_a1 (hq : (i 2).val % 2 = 1) : runB.sl.v105 c i arg3 harg3 arg4 harg4 arg5 harg5 arg6 harg6 arg7 harg7 arg8 harg8 arg9 harg9 arg10 harg10 arg11 harg11 arg12 harg12 x0 x2 x3 x4 = aV x0 x2 x3 x4 1 (i 2).val := by
  unfold runB.sl.v105 runB.sl.HS3_1_1; refine (rd_skip _ _ _ _ _ rfl).trans ?_; exact (cov _ _ _ _ (by rw [pb2_none]) _).trans (B_st (hq := hq) (h := 1) (hh := by decide) ..).2.2

theorem B_s2 (hq : (i 2).val % 2 = 1) : runB.sl.v117 c i arg3 harg3 arg4 harg4 arg5 harg5 arg6 harg6 arg7 harg7 arg8 harg8 arg9 harg9 arg10 harg10 arg11 harg11 arg12 harg12 x0 x2 x3 x4 = Sc x0 x2 x3 (i 2).val 2 := by
  unfold runB.sl.v117; exact (cov _ _ _ _ (by rw [pb2_none]) _).trans (B_st (hq := hq) (h := 2) (hh := by decide) ..).1
theorem B_m2 (hq : (i 2).val % 2 = 1) : runB.sl.v124 c i arg3 harg3 arg4 harg4 arg5 harg5 arg6 harg6 arg7 harg7 arg8 harg8 arg9 harg9 arg10 harg10 arg11 harg11 arg12 harg12 x0 x2 x3 x4 = mV x0 x2 x3 2 (i 2).val := by
  unfold runB.sl.v124 runB.sl.HS2_2_1 runB.sl.HS2_1_1; refine (rd_skip _ _ _ _ _ rfl).trans ?_; refine (rd_skip _ _ _ _ _ rfl).trans ?_; exact (cov _ _ _ _ (by rw [pb2_none]) _).trans (B_st (hq := hq) (h := 2) (hh := by decide) ..).2.1
theorem B_a2 (hq : (i 2).val % 2 = 1) : runB.sl.v138 c i arg3 harg3 arg4 harg4 arg5 harg5 arg6 harg6 arg7 harg7 arg8 harg8 arg9 harg9 arg10 harg10 arg11 harg11 arg12 harg12 x0 x2 x3 x4 = aV x0 x2 x3 x4 2 (i 2).val := by
  unfold runB.sl.v138 runB.sl.HS3_2_1 runB.sl.HS3_1_1; refine (rd_skip _ _ _ _ _ rfl).trans ?_; refine (rd_skip _ _ _ _ _ rfl).trans ?_; exact (cov _ _ _ _ (by rw [pb2_none]) _).trans (B_st (hq := hq) (h := 2) (hh := by decide) ..).2.2

theorem B_s3 (hq : (i 2).val % 2 = 1) : runB.sl.v150 c i arg3 harg3 arg4 harg4 arg5 harg5 arg6 harg6 arg7 harg7 arg8 harg8 arg9 harg9 arg10 harg10 arg11 harg11 arg12 harg12 x0 x2 x3 x4 = Sc x0 x2 x3 (i 2).val 3 := by
  unfold runB.sl.v150; exact (cov _ _ _ _ (by rw [pb2_none]) _).trans (B_st (hq := hq) (h := 3) (hh := by decide) ..).1
theorem B_m3 (hq : (i 2).val % 2 = 1) : runB.sl.v157 c i arg3 harg3 arg4 harg4 arg5 harg5 arg6 harg6 arg7 harg7 arg8 harg8 arg9 harg9 arg10 harg10 arg11 harg11 arg12 harg12 x0 x2 x3 x4 = mV x0 x2 x3 3 (i 2).val := by
  unfold runB.sl.v157 runB.sl.HS2_3_1 runB.sl.HS2_2_1 runB.sl.HS2_1_1; refine (rd_skip _ _ _ _ _ rfl).trans ?_; refine (rd_skip _ _ _ _ _ rfl).trans ?_; refine (rd_skip _ _ _ _ _ rfl).trans ?_; exact (cov _ _ _ _ (by rw [pb2_none]) _).trans (B_st (hq := hq) (h := 3) (hh := by decide) ..).2.1
theorem B_a3 (hq : (i 2).val % 2 = 1) : runB.sl.v171 c i arg3 harg3 arg4 harg4 arg5 harg5 arg6 harg6 arg7 harg7 arg8 harg8 arg9 harg9 arg10 harg10 arg11 harg11 arg12 harg12 x0 x2 x3 x4 = aV x0 x2 x3 x4 3 (i 2).val := by
  unfold runB.sl.v171 runB.sl.HS3_3_1 runB.sl.HS3_2_1 runB.sl.HS3_1_1; refine (rd_skip _ _ _ _ _ rfl).trans ?_; refine (rd_skip _ _ _ _ _ rfl).trans ?_; refine (rd_skip _ _ _ _ _ rfl).trans ?_; exact (cov _ _ _ _ (by rw [pb2_none]) _).trans (B_st (hq := hq) (h := 3) (hh := by decide) ..).2.2

theorem B_s4 (hq : (i 2).val % 2 = 1) : runB.sl.v183 c i arg3 harg3 arg4 harg4 arg5 harg5 arg6 harg6 arg7 harg7 arg8 harg8 arg9 harg9 arg10 harg10 arg11 harg11 arg12 harg12 x0 x2 x3 x4 = Sc x0 x2 x3 (i 2).val 4 := by
  unfold runB.sl.v183; exact (cov _ _ _ _ (by rw [pb2_none]) _).trans (B_st (hq := hq) (h := 4) (hh := by decide) ..).1
theorem B_m4 (hq : (i 2).val % 2 = 1) : runB.sl.v190 c i arg3 harg3 arg4 harg4 arg5 harg5 arg6 harg6 arg7 harg7 arg8 harg8 arg9 harg9 arg10 harg10 arg11 harg11 arg12 harg12 x0 x2 x3 x4 = mV x0 x2 x3 4 (i 2).val := by
  unfold runB.sl.v190 runB.sl.HS2_4_1 runB.sl.HS2_3_1 runB.sl.HS2_2_1 runB.sl.HS2_1_1; refine (rd_skip _ _ _ _ _ rfl).trans ?_; refine (rd_skip _ _ _ _ _ rfl).trans ?_; refine (rd_skip _ _ _ _ _ rfl).trans ?_; refine (rd_skip _ _ _ _ _ rfl).trans ?_; exact (cov _ _ _ _ (by rw [pb2_none]) _).trans (B_st (hq := hq) (h := 4) (hh := by decide) ..).2.1
theorem B_a4 (hq : (i 2).val % 2 = 1) : runB.sl.v204 c i arg3 harg3 arg4 harg4 arg5 harg5 arg6 harg6 arg7 harg7 arg8 harg8 arg9 harg9 arg10 harg10 arg11 harg11 arg12 harg12 x0 x2 x3 x4 = aV x0 x2 x3 x4 4 (i 2).val := by
  unfold runB.sl.v204 runB.sl.HS3_4_1 runB.sl.HS3_3_1 runB.sl.HS3_2_1 runB.sl.HS3_1_1; refine (rd_skip _ _ _ _ _ rfl).trans ?_; refine (rd_skip _ _ _ _ _ rfl).trans ?_; refine (rd_skip _ _ _ _ _ rfl).trans ?_; refine (rd_skip _ _ _ _ _ rfl).trans ?_; exact (cov _ _ _ _ (by rw [pb2_none]) _).trans (B_st (hq := hq) (h := 4) (hh := by decide) ..).2.2

theorem B_s5 (hq : (i 2).val % 2 = 1) : runB.sl.v216 c i arg3 harg3 arg4 harg4 arg5 harg5 arg6 harg6 arg7 harg7 arg8 harg8 arg9 harg9 arg10 harg10 arg11 harg11 arg12 harg12 x0 x2 x3 x4 = Sc x0 x2 x3 (i 2).val 5 := by
  unfold runB.sl.v216; exact (cov _ _ _ _ (by rw [pb2_none]) _).trans (B_st (hq := hq) (h := 5) (hh := by decide) ..).1
theorem B_m5 (hq : (i 2).val % 2 = 1) : runB.sl.v223 c i arg3 harg3 arg4 harg4 arg5 harg5 arg6 harg6 arg7 harg7 arg8 harg8 arg9 harg9 arg10 harg10 arg11 harg11 arg12 harg12 x0 x2 x3 x4 = mV x0 x2 x3 5 (i 2).val := by
  unfold runB.sl.v223 runB.sl.HS2_5_1 runB.sl.HS2_4_1 runB.sl.HS2_3_1 runB.sl.HS2_2_1 runB.sl.HS2_1_1; refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; exact (cov _ _ _ _ (by rw [pb2_none]) _).trans (B_st (hq := hq) (h := 5) (hh := by decide) ..).2.1
theorem B_a5 (hq : (i 2).val % 2 = 1) : runB.sl.v237 c i arg3 harg3 arg4 harg4 arg5 harg5 arg6 harg6 arg7 harg7 arg8 harg8 arg9 harg9 arg10 harg10 arg11 harg11 arg12 harg12 x0 x2 x3 x4 = aV x0 x2 x3 x4 5 (i 2).val := by
  unfold runB.sl.v237 runB.sl.HS3_5_1 runB.sl.HS3_4_1 runB.sl.HS3_3_1 runB.sl.HS3_2_1 runB.sl.HS3_1_1; refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; exact (cov _ _ _ _ (by rw [pb2_none]) _).trans (B_st (hq := hq) (h := 5) (hh := by decide) ..).2.2

theorem B_f0 (hq : (i 2).val % 2 = 1) : runB.sl.v c i arg3 harg3 arg4 harg4 arg5 harg5 arg6 harg6 arg7 harg7 arg8 harg8 arg9 harg9 arg10 harg10 arg11 harg11 arg12 harg12 x0 x2 x3 x4 = fV x0 x2 x3 x4 (i 2).val 0 := by
  unfold runB.sl.v runB.sl.HS3_6_1 runB.sl.HS3_5_1 runB.sl.HS3_4_1 runB.sl.HS3_3_1 runB.sl.HS3_2_1 runB.sl.HS3_1_1; refine (rd_skip _ _ _ _ _ rfl).trans ?_; refine (rd_skip _ _ _ _ _ rfl).trans ?_; refine (rd_skip _ _ _ _ _ rfl).trans ?_; refine (rd_skip _ _ _ _ _ rfl).trans ?_; refine (rd_skip _ _ _ _ _ rfl).trans ?_; refine (rd_hit _ _ _ _ _).trans ?_
  exact (show _ = acF k0_pay225 (k0_pay235 (runB.sl.v51 c i arg3 harg3 arg4 harg4 arg5 harg5 arg6 harg6 arg7 harg7 arg8 harg8 arg9 harg9 arg10 harg10 arg11 harg11 arg12 harg12 x0 x2 x3 x4)) (runB.sl.v58 c i arg3 harg3 arg4 harg4 arg5 harg5 arg6 harg6 arg7 harg7 arg8 harg8 arg9 harg9 arg10 harg10 arg11 harg11 arg12 harg12 x0 x2 x3 x4) (View.readAt (Elt F) arg7.view (Rect.unit (s := S768x4096) (k0_off39 i) S128x512.size (k0_off39_inb i)).toLoadRect (harg7.unread x4)) (runB.sl.v72 c i arg3 harg3 arg4 harg4 arg5 harg5 arg6 harg6 arg7 harg7 arg8 harg8 arg9 harg9 arg10 harg10 arg11 harg11 arg12 harg12 x0 x2 x3 x4) from rfl).trans (by rw [B_s0 (hq := hq), B_m0 (hq := hq), B_a0 (hq := hq), rd_v _ _ _ _ _ (i 2).val 0 (off39_ i)]; rfl)

theorem B_f1 (hq : (i 2).val % 2 = 1) : runB.sl.v265 c i arg3 harg3 arg4 harg4 arg5 harg5 arg6 harg6 arg7 harg7 arg8 harg8 arg9 harg9 arg10 harg10 arg11 harg11 arg12 harg12 x0 x2 x3 x4 = fV x0 x2 x3 x4 (i 2).val 1 := by
  unfold runB.sl.v265 runB.sl.HS3_6_1 runB.sl.HS3_5_1 runB.sl.HS3_4_1 runB.sl.HS3_3_1 runB.sl.HS3_2_1; refine (rd_skip _ _ _ _ _ rfl).trans ?_; refine (rd_skip _ _ _ _ _ rfl).trans ?_; refine (rd_skip _ _ _ _ _ rfl).trans ?_; refine (rd_skip _ _ _ _ _ rfl).trans ?_; refine (rd_hit _ _ _ _ _).trans ?_
  exact (show _ = acF k0_pay225 (k0_pay235 (runB.sl.v84 c i arg3 harg3 arg4 harg4 arg5 harg5 arg6 harg6 arg7 harg7 arg8 harg8 arg9 harg9 arg10 harg10 arg11 harg11 arg12 harg12 x0 x2 x3 x4)) (runB.sl.v91 c i arg3 harg3 arg4 harg4 arg5 harg5 arg6 harg6 arg7 harg7 arg8 harg8 arg9 harg9 arg10 harg10 arg11 harg11 arg12 harg12 x0 x2 x3 x4) (View.readAt (Elt F) arg7.view (Rect.unit (s := S768x4096) (k0_off40 i) S128x512.size (k0_off40_inb i)).toLoadRect (harg7.unread x4)) (runB.sl.v105 c i arg3 harg3 arg4 harg4 arg5 harg5 arg6 harg6 arg7 harg7 arg8 harg8 arg9 harg9 arg10 harg10 arg11 harg11 arg12 harg12 x0 x2 x3 x4) from rfl).trans (by rw [B_s1 (hq := hq), B_m1 (hq := hq), B_a1 (hq := hq), rd_v _ _ _ _ _ (i 2).val 1 (off40_ i)]; rfl)

theorem B_f2 (hq : (i 2).val % 2 = 1) : runB.sl.v281 c i arg3 harg3 arg4 harg4 arg5 harg5 arg6 harg6 arg7 harg7 arg8 harg8 arg9 harg9 arg10 harg10 arg11 harg11 arg12 harg12 x0 x2 x3 x4 = fV x0 x2 x3 x4 (i 2).val 2 := by
  unfold runB.sl.v281 runB.sl.HS3_6_1 runB.sl.HS3_5_1 runB.sl.HS3_4_1 runB.sl.HS3_3_1; refine (rd_skip _ _ _ _ _ rfl).trans ?_; refine (rd_skip _ _ _ _ _ rfl).trans ?_; refine (rd_skip _ _ _ _ _ rfl).trans ?_; refine (rd_hit _ _ _ _ _).trans ?_
  exact (show _ = acF k0_pay225 (k0_pay235 (runB.sl.v117 c i arg3 harg3 arg4 harg4 arg5 harg5 arg6 harg6 arg7 harg7 arg8 harg8 arg9 harg9 arg10 harg10 arg11 harg11 arg12 harg12 x0 x2 x3 x4)) (runB.sl.v124 c i arg3 harg3 arg4 harg4 arg5 harg5 arg6 harg6 arg7 harg7 arg8 harg8 arg9 harg9 arg10 harg10 arg11 harg11 arg12 harg12 x0 x2 x3 x4) (View.readAt (Elt F) arg7.view (Rect.unit (s := S768x4096) (k0_off41 i) S128x512.size (k0_off41_inb i)).toLoadRect (harg7.unread x4)) (runB.sl.v138 c i arg3 harg3 arg4 harg4 arg5 harg5 arg6 harg6 arg7 harg7 arg8 harg8 arg9 harg9 arg10 harg10 arg11 harg11 arg12 harg12 x0 x2 x3 x4) from rfl).trans (by rw [B_s2 (hq := hq), B_m2 (hq := hq), B_a2 (hq := hq), rd_v _ _ _ _ _ (i 2).val 2 (off41_ i)]; rfl)

theorem B_f3 (hq : (i 2).val % 2 = 1) : runB.sl.v297 c i arg3 harg3 arg4 harg4 arg5 harg5 arg6 harg6 arg7 harg7 arg8 harg8 arg9 harg9 arg10 harg10 arg11 harg11 arg12 harg12 x0 x2 x3 x4 = fV x0 x2 x3 x4 (i 2).val 3 := by
  unfold runB.sl.v297 runB.sl.HS3_6_1 runB.sl.HS3_5_1 runB.sl.HS3_4_1; refine (rd_skip _ _ _ _ _ rfl).trans ?_; refine (rd_skip _ _ _ _ _ rfl).trans ?_; refine (rd_hit _ _ _ _ _).trans ?_
  exact (show _ = acF k0_pay225 (k0_pay235 (runB.sl.v150 c i arg3 harg3 arg4 harg4 arg5 harg5 arg6 harg6 arg7 harg7 arg8 harg8 arg9 harg9 arg10 harg10 arg11 harg11 arg12 harg12 x0 x2 x3 x4)) (runB.sl.v157 c i arg3 harg3 arg4 harg4 arg5 harg5 arg6 harg6 arg7 harg7 arg8 harg8 arg9 harg9 arg10 harg10 arg11 harg11 arg12 harg12 x0 x2 x3 x4) (View.readAt (Elt F) arg7.view (Rect.unit (s := S768x4096) (k0_off42 i) S128x512.size (k0_off42_inb i)).toLoadRect (harg7.unread x4)) (runB.sl.v171 c i arg3 harg3 arg4 harg4 arg5 harg5 arg6 harg6 arg7 harg7 arg8 harg8 arg9 harg9 arg10 harg10 arg11 harg11 arg12 harg12 x0 x2 x3 x4) from rfl).trans (by rw [B_s3 (hq := hq), B_m3 (hq := hq), B_a3 (hq := hq), rd_v _ _ _ _ _ (i 2).val 3 (off42_ i)]; rfl)

theorem B_f4 (hq : (i 2).val % 2 = 1) : runB.sl.v313 c i arg3 harg3 arg4 harg4 arg5 harg5 arg6 harg6 arg7 harg7 arg8 harg8 arg9 harg9 arg10 harg10 arg11 harg11 arg12 harg12 x0 x2 x3 x4 = fV x0 x2 x3 x4 (i 2).val 4 := by
  unfold runB.sl.v313 runB.sl.HS3_6_1 runB.sl.HS3_5_1; refine (rd_skip _ _ _ _ _ rfl).trans ?_; refine (rd_hit _ _ _ _ _).trans ?_
  exact (show _ = acF k0_pay225 (k0_pay235 (runB.sl.v183 c i arg3 harg3 arg4 harg4 arg5 harg5 arg6 harg6 arg7 harg7 arg8 harg8 arg9 harg9 arg10 harg10 arg11 harg11 arg12 harg12 x0 x2 x3 x4)) (runB.sl.v190 c i arg3 harg3 arg4 harg4 arg5 harg5 arg6 harg6 arg7 harg7 arg8 harg8 arg9 harg9 arg10 harg10 arg11 harg11 arg12 harg12 x0 x2 x3 x4) (View.readAt (Elt F) arg7.view (Rect.unit (s := S768x4096) (k0_off43 i) S128x512.size (k0_off43_inb i)).toLoadRect (harg7.unread x4)) (runB.sl.v204 c i arg3 harg3 arg4 harg4 arg5 harg5 arg6 harg6 arg7 harg7 arg8 harg8 arg9 harg9 arg10 harg10 arg11 harg11 arg12 harg12 x0 x2 x3 x4) from rfl).trans (by rw [B_s4 (hq := hq), B_m4 (hq := hq), B_a4 (hq := hq), rd_v _ _ _ _ _ (i 2).val 4 (off43_ i)]; rfl)

theorem B_f5 (hq : (i 2).val % 2 = 1) : runB.sl.v329 c i arg3 harg3 arg4 harg4 arg5 harg5 arg6 harg6 arg7 harg7 arg8 harg8 arg9 harg9 arg10 harg10 arg11 harg11 arg12 harg12 x0 x2 x3 x4 = fV x0 x2 x3 x4 (i 2).val 5 := by
  unfold runB.sl.v329 runB.sl.HS3_6_1; refine (rd_hit _ _ _ _ _).trans ?_
  exact (show _ = acF k0_pay225 (k0_pay235 (runB.sl.v216 c i arg3 harg3 arg4 harg4 arg5 harg5 arg6 harg6 arg7 harg7 arg8 harg8 arg9 harg9 arg10 harg10 arg11 harg11 arg12 harg12 x0 x2 x3 x4)) (runB.sl.v223 c i arg3 harg3 arg4 harg4 arg5 harg5 arg6 harg6 arg7 harg7 arg8 harg8 arg9 harg9 arg10 harg10 arg11 harg11 arg12 harg12 x0 x2 x3 x4) (View.readAt (Elt F) arg7.view (Rect.unit (s := S768x4096) (k0_off44 i) S128x512.size (k0_off44_inb i)).toLoadRect (harg7.unread x4)) (runB.sl.v237 c i arg3 harg3 arg4 harg4 arg5 harg5 arg6 harg6 arg7 harg7 arg8 harg8 arg9 harg9 arg10 harg10 arg11 harg11 arg12 harg12 x0 x2 x3 x4) from rfl).trans (by rw [B_s5 (hq := hq), B_m5 (hq := hq), B_a5 (hq := hq), rd_v _ _ _ _ _ (i 2).val 5 (off44_ i)]; rfl)

/-- The output pieces of a point of this case. -/
theorem runB_eq (hc0 : cond0_0 i) (hc1 : ¬cond0_1 i) (hq : (i 2).val % 2 = 1) : (runB c i arg3 harg3 arg4 harg4 arg5 harg5 arg6 harg6 arg7 harg7 arg8 harg8 arg9 harg9 arg10 harg10 arg11 harg11 arg12 harg12 hc0 hc1 x0 x1 x2 x3 x4).1 = outL x0 x1 x2 x3 x4 (i 2).val := by
  refine Eq.trans (b := [⟨Rect.unit ![0, 640] S512x128.size inb_S512x768_S512x128_0_640, k0_pay1 (runB.sl.v329 c i arg3 harg3 arg4 harg4 arg5 harg5 arg6 harg6 arg7 harg7 arg8 harg8 arg9 harg9 arg10 harg10 arg11 harg11 arg12 harg12 x0 x2 x3 x4) (View.readAt (Elt F) arg4.view (Rect.unit (s := S512x768) ![0, 640] S512x128.size inb_S512x768_S512x128_0_640).toLoadRect (harg4.unread x1))⟩, ⟨Rect.unit ![0, 512] S512x128.size inb_S512x768_S512x128_0_512, k0_pay1 (runB.sl.v313 c i arg3 harg3 arg4 harg4 arg5 harg5 arg6 harg6 arg7 harg7 arg8 harg8 arg9 harg9 arg10 harg10 arg11 harg11 arg12 harg12 x0 x2 x3 x4) (View.readAt (Elt F) arg4.view (Rect.unit (s := S512x768) ![0, 512] S512x128.size inb_S512x768_S512x128_0_512).toLoadRect (harg4.unread x1))⟩, ⟨Rect.unit ![0, 384] S512x128.size inb_S512x768_S512x128_0_384, k0_pay1 (runB.sl.v297 c i arg3 harg3 arg4 harg4 arg5 harg5 arg6 harg6 arg7 harg7 arg8 harg8 arg9 harg9 arg10 harg10 arg11 harg11 arg12 harg12 x0 x2 x3 x4) (View.readAt (Elt F) arg4.view (Rect.unit (s := S512x768) ![0, 384] S512x128.size inb_S512x768_S512x128_0_384).toLoadRect (harg4.unread x1))⟩, ⟨Rect.unit ![0, 256] S512x128.size inb_S512x768_S512x128_0_256, k0_pay1 (runB.sl.v281 c i arg3 harg3 arg4 harg4 arg5 harg5 arg6 harg6 arg7 harg7 arg8 harg8 arg9 harg9 arg10 harg10 arg11 harg11 arg12 harg12 x0 x2 x3 x4) (View.readAt (Elt F) arg4.view (Rect.unit (s := S512x768) ![0, 256] S512x128.size inb_S512x768_S512x128_0_256).toLoadRect (harg4.unread x1))⟩, ⟨Rect.unit ![0, 128] S512x128.size inb_S512x768_S512x128_0_128, k0_pay1 (runB.sl.v265 c i arg3 harg3 arg4 harg4 arg5 harg5 arg6 harg6 arg7 harg7 arg8 harg8 arg9 harg9 arg10 harg10 arg11 harg11 arg12 harg12 x0 x2 x3 x4) (View.readAt (Elt F) arg4.view (Rect.unit (s := S512x768) ![0, 128] S512x128.size inb_S512x768_S512x128_0_128).toLoadRect (harg4.unread x1))⟩, ⟨Rect.unit ![0, 0] S512x128.size inb_S512x768_S512x128_0_0, k0_pay1 (runB.sl.v c i arg3 harg3 arg4 harg4 arg5 harg5 arg6 harg6 arg7 harg7 arg8 harg8 arg9 harg9 arg10 harg10 arg11 harg11 arg12 harg12 x0 x2 x3 x4) (View.readAt (Elt F) arg4.view (Rect.unit (s := S512x768) ![0, 0] S512x128.size inb_S512x768_S512x128_0_0).toLoadRect (harg4.unread x1))⟩]) (by unfold runB; rfl) ?_
  rw [B_f0 (hq := hq), B_f1 (hq := hq), B_f2 (hq := hq), B_f3 (hq := hq), B_f4 (hq := hq), B_f5 (hq := hq), rd_z _ _ _ _ _ 0 rfl, rd_z _ _ _ _ _ 1 rfl, rd_z _ _ _ _ _ 2 rfl, rd_z _ _ _ _ _ 3 rfl, rd_z _ _ _ _ _ 4 rfl, rd_z _ _ _ _ _ 5 rfl]
  rfl

end

end Cert.KernelIdeal.Att

end
-- ==== Proof.Ideal.Block.lean ====
/- What a grid point leaves in its output block, in one form for the even and the odd points, and the block read at an
   index. -/
module

public import proofs.«01_k».proof.Proof.Ideal.EqA
public import proofs.«01_k».proof.Proof.Ideal.EqB
public import proofs.«01_k».proof.Proof.Ideal.Frame
public import Idealize.ShloMosaic.Lib.WritesUnit

@[expose] public section

set_option maxRecDepth 16384

noncomputable section

namespace Cert.KernelIdeal.Att

open Cert.KernelIdeal Cert.KernelIdeal.Gen Idealize.ShloMosaic Idealize.ShloMosaic.TcCoe Idealize.ShloMosaic.ValueIdx

variable {F : FTy → Type} [FloatOps F] [Named F]

/-- The query block of a point has the point's parity. -/
theorem parity : ∀ t : Fin grid0.N, ((grid0.coords t) 2).val % 2 = t.val % 2 := by decide +kernel

/-- The output block of a point is its six pieces. -/
theorem outs_eq (m : (ℓ : Loc nD τ sig) → BufTy.Contents (Elt F) ℓ.ty) (c : Dev nD) (t : Fin cfg0.N) :
    outsAt0 m c t.val t.isLt = VO0_5.read (Elt F) (VO0_5.writes (Elt F) VO0_5.junk
      (outL (iblk m c 0 t) (iblk m c 1 t) (iblk m c 2 t) (iblk m c 3 t) (iblk m c 4 t) ((grid0.coords t) 2).val)) := by
  have hp := parity t
  by_cases h0 : t.val % 2 = 1
  · rw [outsAt0_B m c t h0 (by omega)]
    unfold out0_B_5
    rw [runB_eq (hq := hp.trans h0)]
  · rw [outsAt0_A m c t h0 (by omega)]
    unfold out0_A_5
    rw [runA_eq (hq := hp.trans (by omega))]

/-- The output block read at row `r` and column `d` of head `h`. -/
theorem out_at (v : View sig .tc .vmem S512x768 .bf16) (f : v.ty.Contents (Elt F))
    (x0 : Vec F S1536x512 .bf16) (x1 : Vec F S512x768 .bf16) (x2 : Vec F S4096x768 .bf16) (x3 : Vec F S4096x128 .bf16) (x4 : Vec F S768x4096 .bf16) (q : ℕ)
    (h : ℕ) (hh : h < 6) (y : S512x768.Idx) (r : Fin 512) (d : Fin 128) (e0 : (y 0).val = r.val) (e1 : (y 1).val = 128 * h + d.val) :
    v.read (Elt F) (v.writes (Elt F) f (outL x0 x1 x2 x3 x4 q)) y = k0_pay1 (fV x0 x2 x3 x4 q h) (zV x1 h) (ix2 r d) := by
  have hd := d.isLt
  have go : ∀ (o : ℕ) (inb : ∀ a, (![0, o] : Fin 2 → ℕ) a + S512x128.size a ≤ S512x768.size a) (w : FVec F S512x128 .bf16) (L : List (View.Piece (Elt F) S512x768 .bf16)) (ho : ¬(y 1).val = o + d.val) (hm : (y 1).val < o ∨ o + 128 ≤ (y 1).val),
      v.read (Elt F) (v.writes (Elt F) f ((⟨Rect.unit (s := S512x768) ![0, o] S512x128.size inb, w⟩ : View.Piece (Elt F) S512x768 .bf16) :: L)) y = v.read (Elt F) (v.writes (Elt F) f L) y :=
    fun o inb w L _ hm => View.read_writes_cons_unit_of_not_mem v f inb w L y rfl (1 : Fin 2) hm
  have hit : ∀ (o : ℕ) (inb : ∀ a, (![0, o] : Fin 2 → ℕ) a + S512x128.size a ≤ S512x768.size a) (w : FVec F S512x128 .bf16) (L : List (View.Piece (Elt F) S512x768 .bf16)) (ho : (y 1).val = o + d.val),
      v.read (Elt F) (v.writes (Elt F) f ((⟨Rect.unit (s := S512x768) ![0, o] S512x128.size inb, w⟩ : View.Piece (Elt F) S512x768 .bf16) :: L)) y = w (ix2 r d) :=
    fun o inb w L ho => View.read_writes_cons_unit_of_mem v f inb w L y (ix2 r d) rfl (fun a => by
      match a with
      | ⟨0, _⟩ => show (y 0).val = 0 + r.val; omega
      | ⟨1, _⟩ => exact ho)
  unfold outL
  interval_cases h
  · exact (go _ _ _ _ (by omega) (by omega)).trans ((go _ _ _ _ (by omega) (by omega)).trans ((go _ _ _ _ (by omega) (by omega)).trans ((go _ _ _ _ (by omega) (by omega)).trans ((go _ _ _ _ (by omega) (by omega)).trans (hit _ _ _ _ (by omega))))))
  · exact (go _ _ _ _ (by omega) (by omega)).trans ((go _ _ _ _ (by omega) (by omega)).trans ((go _ _ _ _ (by omega) (by omega)).trans ((go _ _ _ _ (by omega) (by omega)).trans (hit _ _ _ _ (by omega)))))
  · exact (go _ _ _ _ (by omega) (by omega)).trans ((go _ _ _ _ (by omega) (by omega)).trans ((go _ _ _ _ (by omega) (by omega)).trans (hit _ _ _ _ (by omega))))
  · exact (go _ _ _ _ (by omega) (by omega)).trans ((go _ _ _ _ (by omega) (by omega)).trans (hit _ _ _ _ (by omega)))
  · exact (go _ _ _ _ (by omega) (by omega)).trans (hit _ _ _ _ (by omega))
  · exact hit _ _ _ _ (by omega)

end Cert.KernelIdeal.Att

end
-- ==== Proof.Eq.Soft.lean ====
/- The equation of the attention, on extended reals: the running maximum and the rescaled running sum over blocks of
   512 keys end at the softmax-weighted sum over all 4096 keys. -/
module

public import Idealize.ShloMosaic.PureOps
public import Idealize.ShloMosaic.PureOps.Ideal
public import Mathlib.Data.EReal.Operations
public import Mathlib.Analysis.SpecialFunctions.Pow.Real

@[expose] public section

set_option maxRecDepth 16384

noncomputable section

namespace Attn

open Idealize.ShloMosaic

/-- The score a query gives key `j`, with the keys after the query at `⊥`. -/
def masked (q : ℕ) (s : ℕ → ℝ) (j : ℕ) : EReal := if j ≤ q then ((s j : ℝ) : EReal) else ⊥

/-- The maximum of the scores of the first `512 n` keys. -/
def runMax (e : ℕ → EReal) (n : ℕ) : EReal := (Finset.range (512 * n)).sup e

/-- The weighted sum of the first `512 n` keys, weights taken against their own maximum. -/
def runSum (e v : ℕ → EReal) (n : ℕ) : EReal :=
  ∑ j ∈ Finset.range (512 * n), v j * Ideal.exp2 (e j - runMax e n)

/-- Nothing has been seen before the first block. -/
theorem runMax_zero (e : ℕ → EReal) : runMax e 0 = ⊥ := by simp [runMax]

/-- The sum before the first block is zero. -/
theorem runSum_zero (e v : ℕ → EReal) : runSum e v 0 = 0 := by simp [runSum]

/-- The maximum grows by the maximum of the next block. -/
theorem runMax_succ (e : ℕ → EReal) (n : ℕ) :
    runMax e (n + 1) = max (runMax e n) ((Finset.range 512).sup fun r => e (512 * n + r)) := by
  apply le_antisymm
  · refine Finset.sup_le fun j hj => ?_
    have hj' : j < 512 * (n + 1) := Finset.mem_range.mp hj
    by_cases h : j < 512 * n
    · exact le_max_of_le_left (Finset.le_sup (f := e) (Finset.mem_range.mpr h))
    · refine le_max_of_le_right ?_
      have h2 : j - 512 * n ∈ Finset.range 512 := Finset.mem_range.mpr (by omega)
      have h3 := Finset.le_sup (f := fun r => e (512 * n + r)) h2
      rwa [show 512 * n + (j - 512 * n) = j by omega] at h3
  · refine max_le ?_ ?_
    · exact Finset.sup_mono (Finset.range_mono (by omega))
    · refine Finset.sup_le fun r hr => ?_
      have hr' : r < 512 := Finset.mem_range.mp hr
      exact Finset.le_sup (f := e) (Finset.mem_range.mpr (by omega))

/-- A nonnegative real factor goes into a sum. -/
theorem coe_mul_sum {ι : Type*} (c : ℝ) (hc : 0 ≤ c) (S : Finset ι) (f : ι → EReal) :
    (c : EReal) * ∑ j ∈ S, f j = ∑ j ∈ S, (c : EReal) * f j := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- `2` to a difference of two values below `⊤` is a nonnegative real. -/
theorem exp2_sub_coe {a b : EReal} (ha : a ≠ ⊤) (hab : a ≤ b) (hb : b ≠ ⊤) :
    ∃ r : ℝ, 0 ≤ r ∧ Ideal.exp2 (a - b) = (r : EReal) := by
  induction a using EReal.rec with
  | bot => exact ⟨0, le_rfl, by simp [sub_eq_add_neg, EReal.bot_add]⟩
  | top => exact absurd rfl ha
  | coe x =>
    induction b using EReal.rec with
    | bot => simp at hab
    | top => exact absurd rfl hb
    | coe y =>
      exact ⟨Real.rpow 2 (x - y), Real.rpow_nonneg (by norm_num) _, by
        rw [← EReal.coe_sub, Ideal.exp2_coe]⟩

/-- Changing the maximum a weight is taken against is a product. -/
theorem exp2_rescale {e a b : EReal} (hea : e ≤ a) (hab : a ≤ b) (hb : b ≠ ⊤) :
    Ideal.exp2 (a - b) * Ideal.exp2 (e - a) = Ideal.exp2 (e - b) := by
  induction e using EReal.rec with
  | bot => simp [sub_eq_add_neg, EReal.bot_add]
  | top =>
    rw [top_le_iff] at hea; subst hea; rw [top_le_iff] at hab; exact absurd hab hb
  | coe x =>
    induction a using EReal.rec with
    | bot => simp at hea
    | top => rw [top_le_iff] at hab; exact absurd hab hb
    | coe y =>
      induction b using EReal.rec with
      | bot => simp at hab
      | top => exact absurd rfl hb
      | coe z =>
        simp only [← EReal.coe_sub, Ideal.exp2_coe, ← EReal.coe_mul]
        congr 1
        show (2 : ℝ) ^ (y - z) * (2 : ℝ) ^ (x - y) = (2 : ℝ) ^ (x - z)
        rw [← Real.rpow_add (by norm_num)]
        congr 1; ring

/-- The maximum stays below `⊤` when every score does. -/
theorem runMax_ne_top (e : ℕ → EReal) (he : ∀ j, e j ≠ ⊤) (n : ℕ) : runMax e n ≠ ⊤ := by
  rw [← lt_top_iff_ne_top, runMax, Finset.sup_lt_iff (by simp)]
  exact fun j _ => lt_top_iff_ne_top.mpr (he j)

/-- One block's update of the weighted sum: the old sum rescaled, plus the block's own terms. -/
theorem runSum_succ (e v : ℕ → EReal) (he : ∀ j, e j ≠ ⊤) (n : ℕ) :
    runSum e v (n + 1)
      = Ideal.exp2 (runMax e n - runMax e (n + 1)) * runSum e v n
        + ∑ r ∈ Finset.range 512, v (512 * n + r) * Ideal.exp2 (e (512 * n + r) - runMax e (n + 1)) := by
  have hle : runMax e n ≤ runMax e (n + 1) := by rw [runMax_succ]; exact le_max_left _ _
  obtain ⟨c, hc, hcc⟩ := exp2_sub_coe (runMax_ne_top e he n) hle (runMax_ne_top e he (n + 1))
  rw [runSum, show 512 * (n + 1) = 512 * n + 512 by ring, Finset.sum_range_add, runSum, hcc, coe_mul_sum c hc]
  congr 1
  refine Finset.sum_congr rfl fun j hj => ?_
  have hj' : e j ≤ runMax e n := Finset.le_sup (f := e) hj
  rw [← exp2_rescale hj' hle (runMax_ne_top e he (n + 1)), hcc]
  exact mul_left_comm _ _ _

/-- The masked scores stay below `⊤`. -/
theorem masked_ne_top (q : ℕ) (s : ℕ → ℝ) (j : ℕ) : masked q s j ≠ ⊤ := by
  unfold masked; split
  · exact EReal.coe_ne_top _
  · exact bot_ne_top

/-- Once the first key is seen the maximum is a number. -/
theorem runMax_coe (q : ℕ) (s : ℕ → ℝ) (n : ℕ) (hn : 0 < n) : ∃ r : ℝ, runMax (masked q s) n = (r : EReal) := by
  have h0 : masked q s 0 ≤ runMax (masked q s) n :=
    Finset.le_sup (f := masked q s) (Finset.mem_range.mpr (by omega))
  have h1 := runMax_ne_top (masked q s) (masked_ne_top q s) n
  have h2 : runMax (masked q s) n ≠ ⊥ := by
    intro h
    rw [h, le_bot_iff] at h0
    simp [masked] at h0
  exact ⟨(runMax (masked q s) n).toReal, (EReal.coe_toReal h1 h2).symm⟩

/-- The weights of the masked scores, against a number, are nonnegative reals. -/
theorem weight_coe (q : ℕ) (s : ℕ → ℝ) (m : ℝ) (j : ℕ) :
    Ideal.exp2 (masked q s j - (m : EReal))
      = ((if j ≤ q then Real.rpow 2 (s j - m) else 0 : ℝ) : EReal) := by
  unfold masked
  split
  · rw [← EReal.coe_sub, Ideal.exp2_coe]
  · simp [sub_eq_add_neg, EReal.bot_add]

/-- A sum of real terms is a real. -/
theorem coe_sum {ι : Type*} (S : Finset ι) (f : ι → ℝ) :
    ∑ j ∈ S, ((f j : ℝ) : EReal) = ((∑ j ∈ S, f j : ℝ) : EReal) := by
  classical
  induction S using Finset.induction_on with
  | empty => simp
  | insert a S ha ih => rw [Finset.sum_insert ha, Finset.sum_insert ha, ih, EReal.coe_add]

/-- The maximum of all 4096 masked scores times `log 2` is the kernel's maximum times `log 2`. -/
theorem runMax_log2 (q : ℕ) (s : ℕ → ℝ) (n : ℕ) (hq : q < 512 * n) (h8 : n ≤ 8) (m : ℝ)
    (hm : runMax (masked q s) n = (m : EReal)) :
    runMax (masked q fun j => s j * Real.log 2) 8 = ((m * Real.log 2 : ℝ) : EReal) := by
  have hl : 0 < Real.log 2 := Real.log_pos (by norm_num)
  have hup : ∀ j, j ≤ q → s j ≤ m := fun j hj => by
    have h := Finset.le_sup (f := masked q s) (Finset.mem_range.mpr (lt_of_le_of_lt hj hq))
    rw [← runMax, hm, masked, if_pos hj] at h
    exact_mod_cast h
  apply le_antisymm
  · refine Finset.sup_le fun j _ => ?_
    unfold masked
    split
    · exact_mod_cast mul_le_mul_of_nonneg_right (hup j ‹_›) hl.le
    · exact bot_le
  · obtain ⟨j, hj, hjm⟩ := Finset.exists_mem_eq_sup (Finset.range (512 * n))
      ⟨q, Finset.mem_range.mpr hq⟩ (masked q s)
    rw [← runMax, hm, masked] at hjm
    have hj' := Finset.mem_range.mp hj
    split at hjm
    · have h1 : m = s j := by exact_mod_cast hjm
      have h2 := Finset.le_sup (f := masked q fun j => s j * Real.log 2) (b := j)
        (s := Finset.range (512 * 8)) (Finset.mem_range.mpr (by omega))
      rw [masked, if_pos ‹_›, ← h1] at h2
      exact h2
    · exact absurd hjm (EReal.coe_ne_bot m)

/-- `e` to a score times `log 2` is `2` to the score. -/
theorem exp_log2_weight (q : ℕ) (s : ℕ → ℝ) (m : ℝ) (j : ℕ) :
    Ideal.exp (masked q (fun j => s j * Real.log 2) j - ((m * Real.log 2 : ℝ) : EReal))
      = Ideal.exp2 (masked q s j - (m : EReal)) := by
  rw [weight_coe]
  unfold masked
  split
  · rw [← EReal.coe_sub, Ideal.exp_coe]
    congr 1
    show _ = (2 : ℝ) ^ (s j - m)
    rw [Real.rpow_def_of_pos (by norm_num)]
    congr 1; ring
  · simp [sub_eq_add_neg, EReal.bot_add]

/-- A sum over the first `512 n` keys that has every unmasked key is the sum over all 4096. -/
theorem sum_masked_extend (q : ℕ) (s : ℕ → ℝ) (v : ℕ → EReal) (n : ℕ) (hq : q < 512 * n) (h8 : n ≤ 8) (m : ℝ) :
    ∑ j ∈ Finset.range (512 * n), v j * Ideal.exp2 (masked q s j - (m : EReal))
      = ∑ j ∈ Finset.range (512 * 8), v j * Ideal.exp2 (masked q s j - (m : EReal)) := by
  refine Finset.sum_subset (Finset.range_mono (by omega)) fun j _ hj => ?_
  have : ¬ j ≤ q := fun h => hj (Finset.mem_range.mpr (by omega))
  rw [weight_coe, if_neg this, EReal.coe_zero, mul_zero]

/-- THE EQUATION: the rescaled running sum over its last denominator is the softmax-weighted sum over all keys. -/
theorem soft_eq (q : ℕ) (s : ℕ → ℝ) (v : ℕ → EReal) (n : ℕ) (hq : q < 512 * n) (h8 : n ≤ 8) :
    runSum (masked q s) v n * Ideal.div 1 (runSum (masked q s) (fun _ => 1) n)
      = ∑ j ∈ Finset.range (512 * 8), v j * Ideal.div
          (Ideal.exp (masked q (fun j => s j * Real.log 2) j - runMax (masked q fun j => s j * Real.log 2) 8))
          (∑ k ∈ Finset.range (512 * 8),
            Ideal.exp (masked q (fun j => s j * Real.log 2) k - runMax (masked q fun j => s j * Real.log 2) 8)) := by
  obtain ⟨m, hm⟩ := runMax_coe q s n (by omega)
  rw [runMax_log2 q s n hq h8 m hm]
  simp only [exp_log2_weight, runSum, hm]
  rw [sum_masked_extend q s v n hq h8, sum_masked_extend q s (fun _ => 1) n hq h8]
  simp only [one_mul]
  have hw := fun j => weight_coe q s m j
  set w : ℕ → ℝ := fun j => if j ≤ q then Real.rpow 2 (s j - m) else 0 with hwd
  have hsum : ∑ k ∈ Finset.range (512 * 8), Ideal.exp2 (masked q s k - (m : EReal))
      = ((∑ k ∈ Finset.range (512 * 8), w k : ℝ) : EReal) := by
    rw [← coe_sum]; exact Finset.sum_congr rfl fun j _ => hw j
  have hpos : 0 < ∑ k ∈ Finset.range (512 * 8), w k := by
    refine Finset.sum_pos' (fun j _ => ?_) ⟨0, Finset.mem_range.mpr (by omega), ?_⟩
    · show 0 ≤ (if j ≤ q then Real.rpow 2 (s j - m) else 0 : ℝ)
      split
      · exact Real.rpow_nonneg (by norm_num) _
      · exact le_rfl
    · show 0 < (if 0 ≤ q then Real.rpow 2 (s 0 - m) else 0 : ℝ)
      rw [if_pos (Nat.zero_le _)]
      exact Real.rpow_pos_of_pos (by norm_num) _
  rw [hsum]
  simp only [Ideal.div_coe hpos.ne']
  rw [one_mul, mul_comm, coe_mul_sum _ (by positivity)]
  refine Finset.sum_congr rfl fun j _ => ?_
  rw [mul_comm, mul_assoc]

end Attn

end
-- ==== Proof.Ideal.Value.lean ====
/- The kernel's blocks on extended reals: scores, running maxima and running sums read at an index. -/
module

public import proofs.«01_k».proof.Proof.Ideal.Fill
public import proofs.«01_k».proof.Proof.Eq.Soft
public import Idealize.ShloMosaic.Lib.MatmulPlain
public import Idealize.ShloMosaic.Lib.ValueLayout
public import Idealize.ShloMosaic.Lib.IdealHost
public import Idealize.ShloMosaic.Lib.WordCmp
public import Idealize.ShloMosaic.PureOps.Ideal.Laws
public import Idealize.ShloMosaic.PureOps.IdealRules

@[expose] public section

set_option maxRecDepth 16384

noncomputable section

namespace Cert.KernelIdeal.Att

open Cert.KernelIdeal Cert.KernelIdeal.Gen Idealize.ShloMosaic Idealize.ShloMosaic.TcCoe Idealize.ShloMosaic.ValueIdx Attn

/-- The mask is `⊥`. -/
theorem mask_bot : Named.named (F := Ideal) (φ := .f32) κ "mask" 0xF149F2CA#32 = (⊥ : EReal) :=
  IdealRules.named_const.ideal_named_scalar _ _ _ _ rfl

/-- A maximum over a finite index set taken by folding from `⊥` is its supremum. -/
theorem fold_sup {ι : Type*} (S : Finset ι) (f : ι → EReal) : S.fold max ⊥ f = S.sup f := rfl

/-- A supremum over the numbers below `n` as indices is one over the range. -/
theorem sup_fin (n : ℕ) (f : ℕ → EReal) : (Finset.univ : Finset (Fin n)).sup (fun k => f k.val) = (Finset.range n).sup f := by
  apply le_antisymm
  · exact Finset.sup_le fun k _ => Finset.le_sup (f := f) (Finset.mem_range.mpr k.isLt)
  · exact Finset.sup_le fun j hj => Finset.le_sup (f := fun k : Fin n => f k.val) (Finset.mem_univ (⟨j, Finset.mem_range.mp hj⟩ : Fin n))

section
variable (x0 : Vec Ideal S1536x512 .bf16) (x1 : Vec Ideal S512x768 .bf16) (x2 : Vec Ideal S4096x768 .bf16) (x3 : Vec Ideal S4096x128 .bf16) (x4 : Vec Ideal S768x4096 .bf16)

/-- The score key `j` gets from query `c` in head `h`: the product over the first part of the key and over the second. -/
def score (h j : ℕ) (c : Fin 512) : EReal :=
  (∑ d : Fin 128, (x2 (ix2 (Fin.ofNat 4096 j) (Fin.ofNat 768 (128 * h + d.val))) : EReal) * x0 (ix2 (Fin.ofNat 1536 (256 * h + d.val)) c))
    + ∑ d : Fin 128, (x3 (ix2 (Fin.ofNat 4096 j) (Fin.ofNat 128 d.val)) : EReal) * x0 (ix2 (Fin.ofNat 1536 (256 * h + (128 + d.val))) c)

/-- A slab of scores read at an index. -/
theorem un_apply (n h : ℕ) (r c : Fin 512) : un (Sc x0 x2 x3 n h) (ix2 r c) = score x0 x2 x3 h (512 * n + r.val) c := by
  have hc : (Fin.ofNat 512 c.val : Fin 512) = c := Fin.ext (Nat.mod_eq_of_lt c.isLt)
  unfold un Sc scF k0_pay230
  refine (shapeCast_1ab_ab_apply _ _ _ _).trans ((shapeCast_ab_1ab_apply _ _ _ _ _).trans ?_)
  refine (Ideal.matmul_plain_apply (M := 512) (K := 256) (N := 512) none _ _ _ r c).trans ?_
  have hz : (constant (F := Ideal) S512x512 .f32 0x00000000#32 (ix2 r c) : EReal) = 0 := Ideal.ofBits_zero_f32
  refine (congrArg₂ (· + ·) hz (Fin.sum_univ_add (a := 128) (b := 128) _)).trans ((zero_add _).trans ?_)
  unfold score
  refine congrArg₂ (· + ·) (Finset.sum_congr rfl fun d _ => ?_) (Finset.sum_congr rfl fun d _ => ?_)
  · refine congrArg₂ (· * ·) ?_ ?_
    · refine (concatenate_pair_apply_left (t := S512x256) (s₁ := S512x128) (s₂ := S512x128) 1 _ _ _ _ rfl (ix2 r d) (fun b => ?_)).trans rfl
      match b with
      | ⟨0, _⟩ => rfl
      | ⟨1, _⟩ => rfl
    · unfold qV
      exact congrArg (fun k => x0 (ix2 _ k)) hc
  · refine congrArg₂ (· * ·) ?_ ?_
    · refine (concatenate_pair_apply_right (t := S512x256) (s₁ := S512x128) (s₂ := S512x128) 1 _ _ _ _ rfl rfl (ix2 r d) (fun b hb => ?_) ?_).trans rfl
      · match b with
        | ⟨0, _⟩ => rfl
        | ⟨1, _⟩ => exact absurd rfl hb
      · exact Nat.add_comm _ _
    · unfold qV
      exact congrArg (fun k => x0 (ix2 _ k)) hc

/-- The diagonal block of scores: a key after its query is at `⊥`. -/
theorem diag_apply (s : Vec Ideal S1x512x512 .f32) (r c : Fin 512) :
    k0_pay235 s (ix2 r c) = if r.val ≤ c.val then un s (ix2 r c) else (⊥ : EReal) := by
  have hr := r.isLt
  have hc := c.isLt
  have hcmp : (cmpi .sle (iota .tc S512x512 32 [0] iota_S512x512_d0_w32) (iota .tc S512x512 32 [1] iota_S512x512_d1_w32)) (ix2 r c) = 1#1 ↔ r.val ≤ c.val := by
    have h1 : (iota .tc S512x512 32 [0] iota_S512x512_d0_w32) (ix2 r c) = BitVec.ofNat 32 r.val := congrArg (BitVec.ofNat 32) (show 0 * 512 + r.val = r.val by omega)
    have h2 : (iota .tc S512x512 32 [1] iota_S512x512_d1_w32) (ix2 r c) = BitVec.ofNat 32 c.val := congrArg (BitVec.ofNat 32) (show 0 * 512 + c.val = c.val by omega)
    show IntOp.cmpi .sle _ _ = _ ↔ _
    rw [h1, h2]
    exact WordCmp.cmpi_sle_ofNat_eq_one_iff (by norm_num; omega) (by norm_num; omega)
  show (if _ = (1 : BitVec 1) then _ else _) = _
  by_cases h : r.val ≤ c.val
  · rw [if_pos h]
    exact if_pos (hcmp.mpr h)
  · rw [if_neg h]
    exact (if_neg fun e => h (hcmp.mp e)).trans mask_bot

/-- The running maximum after a block, read at a query. -/
theorem mx0_apply (e : ℕ → EReal) (n : ℕ) (s : FVec Ideal S512x512 .f32) (m : Vec Ideal S1x1x512 .f32) (c : Fin 512)
    (hs : ∀ r : Fin 512, s (ix2 r c) = e (512 * n + r.val)) (hm : m (ix3 (0 : Fin 1) (0 : Fin 1) c) = runMax e n) :
    mx0 s m (ix2 (0 : Fin 1) c) = runMax e (n + 1) := by
  rw [runMax_succ]
  unfold mx0
  refine congrArg₂ max ((shapeCast_1ab_ab_apply _ _ _ _).trans hm) ?_
  refine (shapeCast_a_1a_apply _ _ _ _).trans ?_
  refine (Ideal.multiReduction_maximumf_single (s := S512x512) (t := S512) (a := 0) s _ _ _ _ (ix1 c)).trans ?_
  have hb : (FloatOps.ofBits .f32 0xFF800000#32 : Ideal .f32) = (⊥ : EReal) := by simp [Ideal.ofBits, Ideal.ieee]
  rw [hb, fold_sup, ← sup_fin]
  refine Finset.sup_congr rfl fun k _ => ?_
  refine Eq.trans ?_ (hs k)
  refine congrArg s (funext fun a => Fin.ext ?_)
  match a with
  | ⟨0, _⟩ => rfl
  | ⟨1, _⟩ => rfl

/-- The running sum after a block, read at a row and a query. -/
theorem acF_apply (e v : ℕ → EReal) (he : ∀ j, e j ≠ ⊤) (n : ℕ) (v8 : FVec Ideal S16x512 .bf16) (s : FVec Ideal S512x512 .f32) (m : Vec Ideal S1x1x512 .f32)
    (vb : Vec Ideal S128x512 .bf16) (a : Vec Ideal S1x144x512 .f32) (d : Fin 144) (c : Fin 512)
    (hs : ∀ r : Fin 512, s (ix2 r c) = e (512 * n + r.val)) (hm : m (ix3 (0 : Fin 1) (0 : Fin 1) c) = runMax e n)
    (ha : a (ix3 (0 : Fin 1) d c) = runSum e v n)
    (hv : ∀ r : Fin 512, concatenate S144x512 0 [⟨S128x512, vb⟩, ⟨S16x512, v8⟩] concatenates_S128x512_S16x512_S144x512_d0 (ix2 d r) = v (512 * n + r.val)) :
    acF v8 s m vb a (ix3 (0 : Fin 1) d c) = runSum e v (n + 1) := by
  rw [runSum_succ e v he]
  have hM := mx0_apply e n s m c hs hm
  unfold acF
  refine (shapeCast_ab_1ab_apply _ _ _ _ _).trans ?_
  refine congrArg₂ (· + ·) (congrArg₂ (· * ·) ?_ ((shapeCast_1ab_ab_apply _ _ _ _).trans ha)) ?_
  · refine (broadcastTo_1b_ab_apply _ _ _ _).trans ?_
    refine congrArg Ideal.exp2 (congrArg₂ (· - ·) ((shapeCast_1ab_ab_apply _ _ _ _).trans hm) hM)
  · refine (Ideal.matmul_plain_apply (M := 144) (K := 512) (N := 512) none _ _ _ d c).trans ?_
    have hz : (constant (F := Ideal) S144x512 .f32 0x00000000#32 (ix2 d c) : EReal) = 0 := Ideal.ofBits_zero_f32
    refine (congrArg (· + _) hz).trans ((zero_add _).trans ?_)
    rw [← Fin.sum_univ_eq_sum_range (fun r => v (512 * n + r) * Ideal.exp2 (e (512 * n + r) - runMax e (n + 1)))]
    refine Finset.sum_congr rfl fun r _ => congrArg₂ (· * ·) (hv r) ?_
    refine congrArg Ideal.exp2 (congrArg₂ (· - ·) (hs r) ((broadcastTo_1b_ab_apply _ _ _ _).trans hM))

/-- Row `d` of the values and the ones below them, at key `j`. -/
def vrow (h : ℕ) (d : Fin 144) (j : ℕ) : EReal :=
  if d.val < 128 then x4 (ix2 (Fin.ofNat 768 (128 * h + d.val)) (Fin.ofNat 4096 j)) else 1

/-- A block of the values with the ones below them, read at an index. -/
theorem vcat_apply (n h : ℕ) (d : Fin 144) (r : Fin 512) :
    concatenate S144x512 0 [⟨S128x512, vV x4 n h⟩, ⟨S16x512, (k0_pay225 : FVec Ideal S16x512 .bf16)⟩] concatenates_S128x512_S16x512_S144x512_d0 (ix2 d r) = vrow x4 h d (512 * n + r.val) := by
  have hd := d.isLt
  unfold vrow
  split
  · rename_i h1
    refine (concatenate_pair_apply_left (t := S144x512) (s₁ := S128x512) (s₂ := S16x512) 0 _ _ _ _ rfl (ix2 ⟨d.val, h1⟩ r) (fun b => ?_)).trans rfl
    match b with
    | ⟨0, _⟩ => rfl
    | ⟨1, _⟩ => rfl
  · rename_i h1
    refine (concatenate_pair_apply_right (t := S144x512) (s₁ := S128x512) (s₂ := S16x512) 0 _ _ _ _ rfl rfl (ix2 (⟨d.val - 128, by omega⟩ : Fin 16) r) (fun b hb => ?_) ?_).trans ?_
    · match b with
      | ⟨0, _⟩ => exact absurd rfl hb
      | ⟨1, _⟩ => rfl
    · show d.val - 128 + 128 = d.val
      omega
    · exact Ideal.ofBits_one_bf16

/-- The block stored, from the sums and the gate. -/
theorem pay1_apply (f : Vec Ideal S1x144x512 .f32) (z : Vec Ideal S512x128 .bf16) (r : Fin 512) (d : Fin 128) :
    k0_pay1 f z (ix2 r d) = ((f (ix3 (0 : Fin 1) (⟨d.val, by omega⟩ : Fin 144) r) : EReal) * Ideal.div 1 (f (ix3 (0 : Fin 1) (128 : Fin 144) r)))
      * ((z (ix2 r d) : EReal) * Ideal.logistic (z (ix2 r d))) := by
  unfold k0_pay1
  refine congrArg₂ (fun a b : EReal => a * b) ?_ rfl
  refine (transpose_ix2_apply _ _ _ _).trans ?_
  refine congrArg₂ (fun a b : EReal => a * b) ?_ ?_
  · refine (slice2_axis0_apply 0 _ _ d r (⟨d.val, by omega⟩ : Fin 144) (by simp)).trans ?_
    exact shapeCast_1ab_ab_apply _ _ _ _
  · refine (broadcastTo_1b_ab_apply _ _ _ _).trans ?_
    refine congrArg₂ Ideal.div Ideal.ofBits_one_f32 ?_
    refine (slice2_axis0_apply 128 _ _ (0 : Fin 1) r (128 : Fin 144) rfl).trans ?_
    exact shapeCast_1ab_ab_apply _ _ _ _

variable (h q : ℕ) (c : Fin 512) (s : ℕ → ℝ)
  (hs : ∀ j, j < 4096 → score x0 x2 x3 h j c = ((s j : ℝ) : EReal)) (hq : q < 8)

include hs hq in
/-- Scores of a block before the diagonal are the masked ones. -/
theorem un_masked (n : ℕ) (hn : n < q) (r : Fin 512) :
    un (Sc x0 x2 x3 n h) (ix2 r c) = masked (512 * q + c.val) s (512 * n + r.val) := by
  have hr := r.isLt
  rw [un_apply, hs _ (by omega)]
  exact (if_pos (by omega)).symm

include hs hq in
/-- Scores of the diagonal block are the masked ones. -/
theorem diag_masked (r : Fin 512) :
    k0_pay235 (Sc x0 x2 x3 q h) (ix2 r c) = masked (512 * q + c.val) s (512 * q + r.val) := by
  have hr := r.isLt
  rw [diag_apply, un_apply, hs _ (by omega)]
  unfold masked
  exact if_congr (by omega) rfl rfl

include hs hq in
/-- The running maximum before the diagonal block. -/
theorem mV_apply (n : ℕ) (hn : n ≤ q) : mV x0 x2 x3 h n (ix3 (0 : Fin 1) (0 : Fin 1) c) = runMax (masked (512 * q + c.val) s) n := by
  induction n with
  | zero => rw [runMax_zero]; exact mask_bot
  | succ n ih =>
    refine (shapeCast_ab_1ab_apply _ _ _ _ _).trans ?_
    exact mx0_apply _ n _ _ c (un_masked x0 x2 x3 h q c s hs hq n hn) (ih (by omega))

include hs hq in
/-- The running sums before the diagonal block. -/
theorem aV_apply (d : Fin 144) (n : ℕ) (hn : n ≤ q) :
    aV x0 x2 x3 x4 h n (ix3 (0 : Fin 1) d c) = runSum (masked (512 * q + c.val) s) (vrow x4 h d) n := by
  induction n with
  | zero => rw [runSum_zero]; exact Ideal.ofBits_zero_f32
  | succ n ih =>
    exact acF_apply _ _ (masked_ne_top _ _) n _ _ _ _ _ d c (un_masked x0 x2 x3 h q c s hs hq n hn)
      (mV_apply x0 x2 x3 h q c s hs hq n (by omega)) (ih (by omega)) (vcat_apply x4 n h d)

include hs hq in
/-- The sums over all the blocks. -/
theorem fV_apply (d : Fin 144) :
    fV x0 x2 x3 x4 q h (ix3 (0 : Fin 1) d c) = runSum (masked (512 * q + c.val) s) (vrow x4 h d) (q + 1) :=
  acF_apply _ _ (masked_ne_top _ _) q _ _ _ _ _ d c (diag_masked x0 x2 x3 h q c s hs hq)
    (mV_apply x0 x2 x3 h q c s hs hq q le_rfl) (aV_apply x0 x2 x3 x4 h q c s hs hq d q le_rfl) (vcat_apply x4 q h d)

include hs hq in
/-- A grid point's result at query `c` and column `d` of head `h`: the softmax over all keys of the masked scores,
    weighted with the values, times the gate. -/
theorem point_apply (d : Fin 128) :
    k0_pay1 (fV x0 x2 x3 x4 q h) (zV x1 h) (ix2 c d)
      = (∑ j ∈ Finset.range (512 * 8), vrow x4 h ⟨d.val, by omega⟩ j * Ideal.div
          (Ideal.exp (masked (512 * q + c.val) (fun j => s j * Real.log 2) j - runMax (masked (512 * q + c.val) fun j => s j * Real.log 2) 8))
          (∑ k ∈ Finset.range (512 * 8),
            Ideal.exp (masked (512 * q + c.val) (fun j => s j * Real.log 2) k - runMax (masked (512 * q + c.val) fun j => s j * Real.log 2) 8)))
        * ((zV x1 h (ix2 c d) : EReal) * Ideal.logistic (zV x1 h (ix2 c d))) := by
  have hc := c.isLt
  refine (pay1_apply _ _ c d).trans ?_
  refine congrArg (fun a : EReal => a * _) ?_
  refine (congrArg₂ (fun a b : EReal => a * Ideal.div 1 b) (fV_apply x0 x2 x3 x4 h q c s hs hq _) (fV_apply x0 x2 x3 x4 h q c s hs hq _)).trans ?_
  exact soft_eq (512 * q + c.val) s (vrow x4 h ⟨d.val, by omega⟩) (q + 1) (by omega) (by omega)

end

end Cert.KernelIdeal.Att

end
-- ==== Proof.Ref.Read.lean ====
/- The reference of the attention on extended reals, read at an index: stage by stage, then its result. -/
module

public import proofs.«01_k».proof.Proof.Gen.ReferenceIdeal.Run
public import proofs.«01_k».proof.Proof.Eq.Soft
public import Idealize.ShloMosaic.Lib.ValueLayout
public import Idealize.ShloMosaic.Lib.IdealHost
public import Idealize.ShloMosaic.Lib.WordCmp
public import Idealize.ShloMosaic.Lib.Pointwise.Reduce
public import Idealize.ShloMosaic.Lib.Pointwise.Reshape
public import Idealize.ShloMosaic.PureOps.Ideal.Laws

@[expose] public section

set_option maxRecDepth 16384

noncomputable section

namespace Cert.ReferenceIdeal.Att

open Cert.ReferenceIdeal Cert.ReferenceIdeal.Gen Idealize.ShloMosaic.TcCoe Idealize.ShloMosaic.ValueIdx Attn
open Idealize.ShloMosaic hiding ix0 ix1 ix2 ix3 ix4

/-- The fold of the maxima over indices is the supremum over the numbers below. -/
theorem fold_fin (n N : ℕ) (hN : N = n) (f : Fin n → EReal) (e : ℕ → EReal) (he : ∀ k, f k = e k.val) :
    (Finset.univ : Finset (Fin n)).fold max ⊥ f = (Finset.range N).sup e := by
  subst hN
  show (Finset.univ : Finset (Fin N)).sup f = _
  apply le_antisymm
  · exact Finset.sup_le fun k _ => (le_of_eq (he k)).trans (Finset.le_sup (f := e) (Finset.mem_range.mpr k.isLt))
  · exact Finset.sup_le fun j hj => (le_of_eq (he ⟨j, Finset.mem_range.mp hj⟩).symm).trans (Finset.le_sup (f := f) (Finset.mem_univ _))

/-- The larger of two arrays at an index. -/
theorem maxf_apply {S : Shape} {φ : FTy} (x y : FVec Ideal S φ) (i : S.Idx) : maximumf x y i = max (x i : EReal) (y i) := rfl

section
variable (A0 : FVec Ideal S6144x16384 .bf16) (A1 : FVec Ideal S16384x6912 .bf16) (A2 : FVec Ideal S16384x3072 .bf16)
  (A3 : FVec Ideal S3072x16384 .bf16) (A4 : FVec Ideal S16384x128 .bf16)

/-- The queries by head, row, sequence and position. -/
def qs : FVec Ideal S24x256x4x4096 .f32 := shapeCast S24x256x4x4096 (extf .f32 A0 bitsLt_bf16_f32) shapeCasts_S6144x16384_S24x256x4x4096
/-- The keys' first part. -/
def kns : FVec Ideal S4x4096x24x128 .f32 := shapeCast S4x4096x24x128 (extf .f32 A2 bitsLt_bf16_f32) shapeCasts_S16384x3072_S4x4096x24x128
/-- The keys' second part. -/
def krs : FVec Ideal S4x4096x128 .f32 := shapeCast S4x4096x128 (extf .f32 A4 bitsLt_bf16_f32) shapeCasts_S16384x128_S4x4096x128
/-- The values. -/
def vs : FVec Ideal S24x128x4x4096 .f32 := shapeCast S24x128x4x4096 (extf .f32 A3 bitsLt_bf16_f32) shapeCasts_S3072x16384_S24x128x4x4096
/-- The products of queries and keys. -/
def sc0 : FVec Ideal S4x24x4096x4096 .f32 :=
  addf (Host.dotGeneral dot_S24x128x4x4096_S4x4096x24x128_S4x24x4096x4096_1_3_3_1_20_02 none (extractStridedSlice S24x128x4x4096 ![0, 0, 0, 0] (qs A0) slices_S24x256x4x4096_S24x128x4x4096_0_0_0_0) (kns A2))
    (Host.dotGeneral dot_S24x128x4x4096_S4x4096x128_S4x24x4096x4096_1_2_03_1_2_0 none (extractStridedSlice S24x128x4x4096 ![0, 128, 0, 0] (qs A0) slices_S24x256x4x4096_S24x128x4x4096_0_128_0_0) (krs A4))
/-- The natural logarithm of two, at every score. -/
def lg : FVec Ideal S4x24x4096x4096 .f32 := broadcastInDim S4x24x4096x4096 ![] bcast_S_S4x24x4096x4096 (Host.log (constant S_ .f32 0x40000000#32))
/-- Which keys a query sees. -/
def seen : IVec S4096x4096 1 :=
  cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))
/-- The masked scores. -/
def sm : FVec Ideal S4x24x4096x4096 .f32 :=
  select (broadcastInDim S4x24x4096x4096 ![2, 3] bcast_S4096x4096_S4x24x4096x4096_2_3 seen) (mulf (sc0 A0 A2 A4) lg) (broadcastInDim S4x24x4096x4096 ![] bcast_S_S4x24x4096x4096 (id (constant S_ .f32 0xFF800000#32)))
/-- A query's maximum. -/
def top : FVec Ideal S4x24x4096 .f32 :=
  maximumf (broadcastInDim S4x24x4096 ![] bcast_S_S4x24x4096 (constant S_ .f32 0xFF800000#32)) (Host.reduce FloatOps.maximumf (sm A0 A2 A4) (constant S_ .f32 0xFF800000#32) reducesTo_S4x24x4096x4096_S4x24x4096_d3 h_S_)
/-- A number for each query, at every key. -/
def wide (x : FVec Ideal S4x24x4096 .f32) : FVec Ideal S4x24x4096x4096 .f32 :=
  broadcastInDim S4x24x4096x4096 ![0, 1, 2, 3] bcast_S4x24x4096x1_S4x24x4096x4096_0_1_2_3 (broadcastInDim S4x24x4096x1 ![0, 1, 2] bcast_S4x24x4096_S4x24x4096x1_0_1_2 x)
/-- The exponentials. -/
def ex : FVec Ideal S4x24x4096x4096 .f32 := Host.exp (subf (sm A0 A2 A4) (wide (top A0 A2 A4)))
/-- Their sums. -/
def tot : FVec Ideal S4x24x4096 .f32 := Host.reduceAdd (ex A0 A2 A4) (constant S_ .f32 0x00000000#32) reducesTo_S4x24x4096x4096_S4x24x4096_d3 h_S_
/-- The weights. -/
def wt : FVec Ideal S4x24x4096x4096 .f32 := Host.divf (ex A0 A2 A4) (wide (tot A0 A2 A4))
/-- The weighted values. -/
def ov : FVec Ideal S4x24x128x4096 .f32 := Host.dotGeneral dot_S24x128x4x4096_S4x24x4096x4096_S4x24x128x4096_3_3_1_2_20_01 none (vs A3) (wt A0 A2 A4)
/-- The gate before its nonlinearity. -/
def gz : FVec Ideal S16384x3072 .f32 := extf .f32 (extractStridedSlice S16384x3072 ![0, 0] A1 slices_S16384x6912_S16384x3072_0_0) bitsLt_bf16_f32
/-- The result. -/
def res : FVec Ideal S16384x3072 .bf16 :=
  truncf .bf16 (mulf (shapeCast S16384x3072 (transpose S4x4096x24x128 [0, 3, 1, 2] (ov A0 A2 A3 A4) transposes_S4x24x128x4096_S4x4096x24x128_0_3_1_2) shapeCasts_S4x4096x24x128_S16384x3072)
    (mulf (gz A1) (Host.divf (broadcastInDim S16384x3072 ![] bcast_S_S16384x3072 (constant S_ .f32 0x3F800000#32)) (addf (broadcastInDim S16384x3072 ![] bcast_S_S16384x3072 (constant S_ .f32 0x3F800000#32)) (Host.exp (Host.negf (gz A1))))))) bitsLt_bf16_f32

variable (b : Fin 4) (h : Fin 24)

/-- The queries at an index. -/
theorem qs_apply (r : Fin 256) (q : Fin 4096) : qs A0 (ix4 h r b q) = A0 (ix2 (Fin.ofNat 6144 (256 * h.val + r.val)) (Fin.ofNat 16384 (4096 * b.val + q.val))) := by
  have hb := b.isLt; have hh := h.isLt; have hr := r.isLt; have hq := q.isLt
  refine (shapeCast_apply _ _ _ (ix2 (Fin.ofNat 6144 (256 * h.val + r.val)) (Fin.ofNat 16384 (4096 * b.val + q.val))) ?_).trans rfl
  refine (rowMajor_val2 _ 16384 rfl).trans ((?_ : _ = _).trans (rowMajor_val4 _ (256 * (4 * 4096)) (4 * 4096) 4096 rfl rfl rfl).symm)
  show (256 * h.val + r.val) % 6144 * 16384 + (4096 * b.val + q.val) % 16384 = h.val * (256 * (4 * 4096)) + r.val * (4 * 4096) + b.val * 4096 + q.val
  omega

/-- The keys' first part at an index. -/
theorem kns_apply (k : Fin 4096) (d : Fin 128) : kns A2 (ix4 b k h d) = A2 (ix2 (Fin.ofNat 16384 (4096 * b.val + k.val)) (Fin.ofNat 3072 (128 * h.val + d.val))) := by
  have hb := b.isLt; have hh := h.isLt; have hr := d.isLt; have hq := k.isLt
  refine (shapeCast_apply _ _ _ (ix2 (Fin.ofNat 16384 (4096 * b.val + k.val)) (Fin.ofNat 3072 (128 * h.val + d.val))) ?_).trans rfl
  refine (rowMajor_val2 _ 3072 rfl).trans ((?_ : _ = _).trans (rowMajor_val4 _ (4096 * (24 * 128)) (24 * 128) 128 rfl rfl rfl).symm)
  show (4096 * b.val + k.val) % 16384 * 3072 + (128 * h.val + d.val) % 3072 = b.val * (4096 * (24 * 128)) + k.val * (24 * 128) + h.val * 128 + d.val
  omega

/-- The keys' second part at an index. -/
theorem krs_apply (k : Fin 4096) (d : Fin 128) : krs A4 (ix3 b k d) = A4 (ix2 (Fin.ofNat 16384 (4096 * b.val + k.val)) d) := by
  have hb := b.isLt; have hr := d.isLt; have hq := k.isLt
  refine (shapeCast_apply _ _ _ (ix2 (Fin.ofNat 16384 (4096 * b.val + k.val)) d) ?_).trans rfl
  refine (rowMajor_val2 _ 128 rfl).trans ((?_ : _ = _).trans (rowMajor_val3 _ (4096 * 128) 128 rfl rfl).symm)
  show (4096 * b.val + k.val) % 16384 * 128 + d.val = b.val * (4096 * 128) + k.val * 128 + d.val
  omega

/-- The values at an index. -/
theorem vs_apply (d : Fin 128) (k : Fin 4096) : vs A3 (ix4 h d b k) = A3 (ix2 (Fin.ofNat 3072 (128 * h.val + d.val)) (Fin.ofNat 16384 (4096 * b.val + k.val))) := by
  have hb := b.isLt; have hh := h.isLt; have hr := d.isLt; have hq := k.isLt
  refine (shapeCast_apply _ _ _ (ix2 (Fin.ofNat 3072 (128 * h.val + d.val)) (Fin.ofNat 16384 (4096 * b.val + k.val))) ?_).trans rfl
  refine (rowMajor_val2 _ 16384 rfl).trans ((?_ : _ = _).trans (rowMajor_val4 _ (128 * (4 * 4096)) (4 * 4096) 4096 rfl rfl rfl).symm)
  show (128 * h.val + d.val) % 3072 * 16384 + (4096 * b.val + k.val) % 16384 = h.val * (128 * (4 * 4096)) + d.val * (4 * 4096) + b.val * 4096 + k.val
  omega

/-- The product of the first parts at an index. -/
theorem dotA (x : FVec Ideal S24x128x4x4096 .f32) (y : FVec Ideal S4x4096x24x128 .f32) (q k : Fin 4096) :
    (Host.dotGeneral dot_S24x128x4x4096_S4x4096x24x128_S4x24x4096x4096_1_3_3_1_20_02 none x y : FVec Ideal S4x24x4096x4096 .f32) (ix4 b h q k)
      = ∑ d : Fin 128, (x (ix4 h d b q) : EReal) * y (ix4 b k h d) := by
  refine (Ideal.dotGeneral_apply _ _ _ _ _ _).trans ?_
  have hr : (dot_S24x128x4x4096_S4x4096x24x128_S4x24x4096x4096_1_3_3_1_20_02).contr.rank = 1 := rfl
  have hs : (dot_S24x128x4x4096_S4x4096x24x128_S4x24x4096x4096_1_3_3_1_20_02).contr.size ⟨0, by omega⟩ = 128 := rfl
  rw [← Equiv.sum_comp (contrEquiv1 _ 128 hr hs).symm]
  refine Finset.sum_congr rfl fun d _ => ?_
  have hk := contrEquiv1_symm_val _ 128 hr hs d
  refine congrArg₂ (fun a b : EReal => a * b) (congrArg x (funext fun a => Fin.ext ?_)) (congrArg y (funext fun a => Fin.ext ?_))
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => rfl
    | ⟨3, _⟩ => exact hk

/-- The product of the second parts at an index. -/
theorem dotB (x : FVec Ideal S24x128x4x4096 .f32) (y : FVec Ideal S4x4096x128 .f32) (q k : Fin 4096) :
    (Host.dotGeneral dot_S24x128x4x4096_S4x4096x128_S4x24x4096x4096_1_2_03_1_2_0 none x y : FVec Ideal S4x24x4096x4096 .f32) (ix4 b h q k)
      = ∑ d : Fin 128, (x (ix4 h d b q) : EReal) * y (ix3 b k d) := by
  refine (Ideal.dotGeneral_apply _ _ _ _ _ _).trans ?_
  have hr : (dot_S24x128x4x4096_S4x4096x128_S4x24x4096x4096_1_2_03_1_2_0).contr.rank = 1 := rfl
  have hs : (dot_S24x128x4x4096_S4x4096x128_S4x24x4096x4096_1_2_03_1_2_0).contr.size ⟨0, by omega⟩ = 128 := rfl
  rw [← Equiv.sum_comp (contrEquiv1 _ 128 hr hs).symm]
  refine Finset.sum_congr rfl fun d _ => ?_
  have hk := contrEquiv1_symm_val _ 128 hr hs d
  refine congrArg₂ (fun a b : EReal => a * b) (congrArg x (funext fun a => Fin.ext ?_)) (congrArg y (funext fun a => Fin.ext ?_))
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => exact hk

/-- The weighted sum of the values at an index. -/
theorem dotC (x : FVec Ideal S24x128x4x4096 .f32) (y : FVec Ideal S4x24x4096x4096 .f32) (d : Fin 128) (q : Fin 4096) :
    (Host.dotGeneral dot_S24x128x4x4096_S4x24x4096x4096_S4x24x128x4096_3_3_1_2_20_01 none x y : FVec Ideal S4x24x128x4096 .f32) (ix4 b h d q)
      = ∑ k : Fin 4096, (x (ix4 h d b k) : EReal) * y (ix4 b h q k) := by
  refine (Ideal.dotGeneral_apply _ _ _ _ _ _).trans ?_
  have hr : (dot_S24x128x4x4096_S4x24x4096x4096_S4x24x128x4096_3_3_1_2_20_01).contr.rank = 1 := rfl
  have hs : (dot_S24x128x4x4096_S4x24x4096x4096_S4x24x128x4096_3_3_1_2_20_01).contr.size ⟨0, by omega⟩ = 4096 := rfl
  rw [← Equiv.sum_comp (contrEquiv1 _ 4096 hr hs).symm]
  refine Finset.sum_congr rfl fun k _ => ?_
  have hk := contrEquiv1_symm_val _ 4096 hr hs k
  refine congrArg₂ (fun a b : EReal => a * b) (congrArg x (funext fun a => Fin.ext ?_)) (congrArg y (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => rfl
    | ⟨2, _⟩ => rfl
    | ⟨3, _⟩ => exact hk

/-- The product of query `q` with key `k` in head `h` of sequence `b`. -/
def rs (q : Fin 4096) (k : ℕ) : EReal :=
  (∑ d : Fin 128, (A0 (ix2 (Fin.ofNat 6144 (256 * h.val + d.val)) (Fin.ofNat 16384 (4096 * b.val + q.val))) : EReal) * A2 (ix2 (Fin.ofNat 16384 (4096 * b.val + k)) (Fin.ofNat 3072 (128 * h.val + d.val))))
    + ∑ d : Fin 128, (A0 (ix2 (Fin.ofNat 6144 (256 * h.val + (128 + d.val))) (Fin.ofNat 16384 (4096 * b.val + q.val))) : EReal) * A4 (ix2 (Fin.ofNat 16384 (4096 * b.val + k)) d)

/-- The products at an index. -/
theorem sc0_apply (q k : Fin 4096) : sc0 A0 A2 A4 (ix4 b h q k) = rs A0 A2 A4 b h q k.val := by
  unfold sc0 rs
  refine congrArg₂ (fun a b : EReal => a + b) ((dotA b h _ _ q k).trans ?_) ((dotB b h _ _ q k).trans ?_)
  · refine Finset.sum_congr rfl fun d _ => congrArg₂ (fun a b : EReal => a * b) ?_ (kns_apply A2 b h k d)
    refine (slice4_axis1_apply 0 _ _ h d b q (⟨d.val, by omega⟩ : Fin 256) (by simp)).trans ?_
    exact qs_apply A0 b h _ q
  · refine Finset.sum_congr rfl fun d _ => congrArg₂ (fun a b : EReal => a * b) ?_ (krs_apply A4 b k d)
    refine (slice4_axis1_apply 128 _ _ h d b q (⟨128 + d.val, by omega⟩ : Fin 256) rfl).trans ?_
    exact qs_apply A0 b h _ q

/-- The logarithm of two. -/
theorem lg_apply (i : S4x24x4096x4096.Idx) : lg i = ((Real.log 2 : ℝ) : EReal) := by
  refine (broadcastInDim_scalar_apply _ _ _).trans ?_
  have h2 : (Ideal.ofBits .f32 0x40000000#32 : EReal) = ((2 : ℝ) : EReal) := by
    simp [Ideal.ofBits, Ideal.ieee]
    rw [← EReal.coe_mul]
    norm_num
  show Ideal.log (Ideal.ofBits .f32 0x40000000#32) = _
  rw [h2, Ideal.log_coe, if_neg (by norm_num)]

/-- The largest negative word is `⊥`. -/
theorem ninf : (Ideal.ofBits .f32 0xFF800000#32 : EReal) = ⊥ := by simp [Ideal.ofBits, Ideal.ieee]

/-- A key is seen when it is not after the query. -/
theorem seen_apply (q k : Fin 4096) : seen (ix2 q k) = 1#1 ↔ k.val ≤ q.val := by
  have hk := k.isLt; have hq := q.isLt
  have h1 : broadcastInDim S4096x4096 ![0, 1] bcast_S1x4096_S4096x4096_0_1 (broadcastInDim S1x4096 ![1] bcast_S4096_S1x4096_1 (iotaInDim S4096 32 0)) (ix2 q k) = BitVec.ofNat 32 k.val := by
    refine (broadcastInDim_apply _ _ _ _ (ix2 (0 : Fin 1) k) fun a => ?_).trans ((broadcastInDim_apply _ _ _ _ (ix1 k) fun a => ?_).trans rfl)
    · match a with
      | ⟨0, _⟩ => rfl
      | ⟨1, _⟩ => rfl
    · match a with
      | ⟨0, _⟩ => rfl
  have h2 : broadcastInDim S4096x4096 ![0, 1] bcast_S4096x1_S4096x4096_0_1 (broadcastInDim S4096x1 ![0] bcast_S4096_S4096x1_0 (iotaInDim S4096 32 0)) (ix2 q k) = BitVec.ofNat 32 q.val := by
    refine (broadcastInDim_apply _ _ _ _ (ix2 q (0 : Fin 1)) fun a => ?_).trans ((broadcastInDim_apply _ _ _ _ (ix1 q) fun a => ?_).trans rfl)
    · match a with
      | ⟨0, _⟩ => rfl
      | ⟨1, _⟩ => rfl
    · match a with
      | ⟨0, _⟩ => rfl
  show IntOp.cmpi .sle _ _ = _ ↔ _
  rw [h1, h2]
  exact WordCmp.cmpi_sle_ofNat_eq_one_iff (by norm_num; omega) (by norm_num; omega)

/-- A number for each query reads that number at every key. -/
theorem wide_apply (x : FVec Ideal S4x24x4096 .f32) (q k : Fin 4096) : wide x (ix4 b h q k) = x (ix3 b h q) := by
  unfold wide
  refine (broadcastInDim_apply _ _ _ _ (ix4 b h q (0 : Fin 1)) fun a => ?_).trans (broadcastInDim_apply _ _ _ _ (ix3 b h q) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- A maximum along the keys, from the smallest number, is the fold of the maxima. -/
theorem max_row (x : FVec Ideal S4x24x4096x4096 .f32) (q : Fin 4096) :
    Host.reduce FloatOps.maximumf x (constant S_ .f32 0xFF800000#32) reducesTo_S4x24x4096x4096_S4x24x4096_d3 h_S_ (ix3 b h q)
      = (Finset.univ : Finset (Fin 4096)).fold max (⊥ : EReal) (fun k => x (ix4 b h q k)) := by
  refine (Host.reduce_eq_fold _ _ _ _ _ _).trans ((Shape.ReducesTo.fold_fiber_r4_a3 _ _ _ _ _).trans ?_)
  exact congrArg (fun z : EReal => Finset.fold max z _ _) ninf

variable (q : Fin 4096) (s : ℕ → ℝ) (hs : ∀ j, j < 4096 → rs A0 A2 A4 b h q j = ((s j : ℝ) : EReal))

include hs in
/-- The masked scores at an index. -/
theorem sm_apply (k : Fin 4096) : sm A0 A2 A4 (ix4 b h q k) = masked q.val (fun j => s j * Real.log 2) k.val := by
  unfold masked
  have hb : broadcastInDim S4x24x4096x4096 ![2, 3] bcast_S4096x4096_S4x24x4096x4096_2_3 seen (ix4 b h q k) = seen (ix2 q k) :=
    broadcastInDim_apply _ _ _ _ (ix2 q k) fun a => by
      match a with
      | ⟨0, _⟩ => rfl
      | ⟨1, _⟩ => rfl
  show (if _ = (1 : BitVec 1) then _ else _) = _
  refine if_congr ((by rw [hb]; rfl : _ ↔ seen (ix2 q k) = 1#1).trans (seen_apply q k)) ?_ ?_
  · refine (congrArg₂ (fun a b : EReal => a * b) ((sc0_apply A0 A2 A4 b h q k).trans (hs _ k.isLt)) (lg_apply _)).trans ?_
    exact (EReal.coe_mul _ _).symm
  · exact (broadcastInDim_scalar_apply _ _ _).trans ninf

include hs in
/-- A query's maximum is the maximum over all keys. -/
theorem top_apply : top A0 A2 A4 (ix3 b h q) = runMax (masked q.val fun j => s j * Real.log 2) 8 := by
  unfold top
  refine (maxf_apply _ _ _).trans ((congrArg₂ (fun a b : EReal => max a b) ((broadcastInDim_scalar_apply _ _ _).trans ninf) (max_row b h _ q)).trans ((max_eq_right bot_le).trans ?_))
  unfold runMax
  exact fold_fin 4096 (512 * 8) (by norm_num) _ _ fun k => sm_apply A0 A2 A4 b h q s hs k

include hs in
/-- The exponentials at an index. -/
theorem ex_apply (k : Fin 4096) : ex A0 A2 A4 (ix4 b h q k)
    = Ideal.exp (masked q.val (fun j => s j * Real.log 2) k.val - runMax (masked q.val fun j => s j * Real.log 2) 8) := by
  refine congrArg Ideal.exp (congrArg₂ (fun a b : EReal => a - b) (sm_apply A0 A2 A4 b h q s hs k) ?_)
  exact (wide_apply b h _ q k).trans (top_apply A0 A2 A4 b h q s hs)

include hs in
/-- Their sum. -/
theorem tot_apply : tot A0 A2 A4 (ix3 b h q)
    = ∑ k ∈ Finset.range (512 * 8), Ideal.exp (masked q.val (fun j => s j * Real.log 2) k - runMax (masked q.val fun j => s j * Real.log 2) 8) := by
  refine (Ideal.hostReduceAdd_r4_a3 _ _ _ _).trans ?_
  refine (congrArg (fun z : EReal => z + _) Ideal.ofBits_zero_f32).trans ((zero_add _).trans ?_)
  refine Eq.trans ?_ (Fin.sum_univ_eq_sum_range (n := 4096) (fun k => Ideal.exp (masked q.val (fun j => s j * Real.log 2) k - runMax (masked q.val fun j => s j * Real.log 2) 8)))
  exact Finset.sum_congr rfl fun k _ => (ex_apply A0 A2 A4 b h q s hs k)

include hs in
/-- The weighted values at an index. -/
theorem ov_apply (d : Fin 128) : ov A0 A2 A3 A4 (ix4 b h d q)
    = ∑ k ∈ Finset.range (512 * 8), A3 (ix2 (Fin.ofNat 3072 (128 * h.val + d.val)) (Fin.ofNat 16384 (4096 * b.val + k))) * Ideal.div
        (Ideal.exp (masked q.val (fun j => s j * Real.log 2) k - runMax (masked q.val fun j => s j * Real.log 2) 8))
        (∑ k ∈ Finset.range (512 * 8), Ideal.exp (masked q.val (fun j => s j * Real.log 2) k - runMax (masked q.val fun j => s j * Real.log 2) 8)) := by
  refine (dotC b h _ _ d q).trans ?_
  refine Eq.trans ?_ (Fin.sum_univ_eq_sum_range (n := 4096) (fun k => (A3 (ix2 (Fin.ofNat 3072 (128 * h.val + d.val)) (Fin.ofNat 16384 (4096 * b.val + k))) : EReal) * Ideal.div
        (Ideal.exp (masked q.val (fun j => s j * Real.log 2) k - runMax (masked q.val fun j => s j * Real.log 2) 8))
        (∑ k ∈ Finset.range (512 * 8), Ideal.exp (masked q.val (fun j => s j * Real.log 2) k - runMax (masked q.val fun j => s j * Real.log 2) 8))))
  refine Finset.sum_congr rfl fun k _ => congrArg₂ (fun a b : EReal => a * b) (vs_apply A3 b h d k) ?_
  refine congrArg₂ Ideal.div (ex_apply A0 A2 A4 b h q s hs k) ?_
  exact (wide_apply b h _ q k).trans (tot_apply A0 A2 A4 b h q s hs)

include hs in
/-- The result at an index. -/
theorem res_apply (d : Fin 128) : res A0 A1 A2 A3 A4 (ix2 (Fin.ofNat 16384 (4096 * b.val + q.val)) (Fin.ofNat 3072 (128 * h.val + d.val)))
    = (∑ k ∈ Finset.range (512 * 8), A3 (ix2 (Fin.ofNat 3072 (128 * h.val + d.val)) (Fin.ofNat 16384 (4096 * b.val + k))) * Ideal.div
        (Ideal.exp (masked q.val (fun j => s j * Real.log 2) k - runMax (masked q.val fun j => s j * Real.log 2) 8))
        (∑ k ∈ Finset.range (512 * 8), Ideal.exp (masked q.val (fun j => s j * Real.log 2) k - runMax (masked q.val fun j => s j * Real.log 2) 8)))
      * ((A1 (ix2 (Fin.ofNat 16384 (4096 * b.val + q.val)) (Fin.ofNat 6912 (128 * h.val + d.val))) : EReal)
        * Ideal.logistic (A1 (ix2 (Fin.ofNat 16384 (4096 * b.val + q.val)) (Fin.ofNat 6912 (128 * h.val + d.val))))) := by
  have hb := b.isLt; have hh := h.isLt; have hd := d.isLt; have hq := q.isLt
  have hg : gz A1 (ix2 (Fin.ofNat 16384 (4096 * b.val + q.val)) (Fin.ofNat 3072 (128 * h.val + d.val))) = A1 (ix2 (Fin.ofNat 16384 (4096 * b.val + q.val)) (Fin.ofNat 6912 (128 * h.val + d.val))) := by
    refine slice2_axis1_apply 0 A1 slices_S16384x6912_S16384x3072_0_0 _ _ _ ?_
    show (128 * h.val + d.val) % 6912 = 0 + (128 * h.val + d.val) % 3072
    omega
  unfold res
  refine congrArg₂ (fun a b : EReal => a * b) ?_ ?_
  · refine (shapeCast_apply _ _ _ (ix4 b q h d) ?_).trans ((transpose_apply _ _ _ _ (ix4 b h d q) fun c => ?_).trans (ov_apply A0 A2 A3 A4 b h q s hs d))
    · refine (rowMajor_val4 _ (4096 * (24 * 128)) (24 * 128) 128 rfl rfl rfl).trans ((?_ : _ = _).trans (rowMajor_val2 _ 3072 rfl).symm)
      show b.val * (4096 * (24 * 128)) + q.val * (24 * 128) + h.val * 128 + d.val = (4096 * b.val + q.val) % 16384 * 3072 + (128 * h.val + d.val) % 3072
      omega
    · match c with
      | ⟨0, _⟩ => rfl
      | ⟨1, _⟩ => rfl
      | ⟨2, _⟩ => rfl
      | ⟨3, _⟩ => rfl
  · refine congrArg₂ (fun a b : EReal => a * b) hg ?_
    refine congrArg₂ Ideal.div ((broadcastInDim_scalar_apply _ _ _).trans Ideal.ofBits_one_f32) ?_
    refine congrArg₂ (fun a b : EReal => a + b) ((broadcastInDim_scalar_apply _ _ _).trans Ideal.ofBits_one_f32) ?_
    exact congrArg (fun z : EReal => Ideal.exp (-z)) hg

end

/-- The reference's result is that function of the arguments. -/
theorem res_eq (m : (ℓ : Loc nD τ sig) → Buf (Elt Ideal) ℓ) (c : Dev nD) :
    Value.res_out0 m c = res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.ReferenceIdeal.Att

end
-- ==== Proof.Whole.lean ====
/- The kernel's result array is the reference's, on real queries and keys. -/
module

public import proofs.«01_k».proof.Proof.Ideal.Array
public import proofs.«01_k».proof.Proof.Ideal.Block
public import proofs.«01_k».proof.Proof.Ideal.Value
public import proofs.«01_k».proof.Proof.Ref.Read
public import proofs.«01_k».proof.Proof.Eq.Real

@[expose] public section

set_option maxRecDepth 16384

noncomputable section

namespace Cert.KernelIdeal.Att

open Cert.KernelIdeal Cert.KernelIdeal.Gen Idealize.ShloMosaic.TcCoe Idealize.ShloMosaic.ValueIdx Attn
open Idealize.ShloMosaic hiding ix0 ix1 ix2 ix3 ix4

/-- The products of real queries and keys are real. -/
theorem rs_real (A0 : FVec Ideal S6144x16384 .bf16) (A2 : FVec Ideal S16384x3072 .bf16) (A4 : FVec Ideal S16384x128 .bf16)
    (h0 : ∀ i, IsReal (A0 i)) (h2 : ∀ i, IsReal (A2 i)) (h4 : ∀ i, IsReal (A4 i)) (b : Fin 4) (h : Fin 24) (q : Fin 4096) (k : ℕ) :
    IsReal (Cert.ReferenceIdeal.Att.rs A0 A2 A4 b h q k) :=
  (IsReal.sum _ _ fun _ => (h0 _).mul (h2 _)).add (IsReal.sum _ _ fun _ => (h0 _).mul (h4 _))

section
variable (m : (ℓ : Loc nD τ sig) → Buf (Elt Ideal) ℓ) (c : Dev nD) (t : Fin cfg0.N)

/-- The arguments. -/
abbrev a0 : FVec Ideal S6144x16384 .bf16 := m ((c : Thread nD τ).loc main_arg0)
abbrev a1 : FVec Ideal S16384x6912 .bf16 := m ((c : Thread nD τ).loc main_arg1)
abbrev a2 : FVec Ideal S16384x3072 .bf16 := m ((c : Thread nD τ).loc main_arg2)
abbrev a3 : FVec Ideal S3072x16384 .bf16 := m ((c : Thread nD τ).loc main_arg3)
abbrev a4 : FVec Ideal S16384x128 .bf16 := m ((c : Thread nD τ).loc main_arg4)

/-- A block's products are the arguments' products. -/
theorem score_eq (h : ℕ) (hh : h < 6) (r : Fin 512) (j : ℕ) (hj : j < 4096) (b : Fin 4) (g : Fin 24) (q : Fin 4096)
    (eb : b.val = pB t) (eg : g.val = 6 * pH t + h) (eq : q.val = 512 * pQ t + r.val) :
    score (iblk m c 0 t) (iblk m c 2 t) (iblk m c 3 t) h j r = Cert.ReferenceIdeal.Att.rs (a0 m c) (a2 m c) (a4 m c) b g q j := by
  unfold score Cert.ReferenceIdeal.Att.rs
  rw [eb, eq]
  refine congrArg₂ (fun a b : EReal => a + b) ?_ ?_
  · refine Finset.sum_congr rfl fun d _ => (mul_comm _ _).trans (congrArg₂ (fun a b : EReal => a * b) ?_ ?_)
    · exact blk0 m c t (256 * h + d.val) (256 * g.val + d.val) (by have := d.isLt; omega) (by omega) r
    · exact blk2 m c t j (128 * h + d.val) (128 * g.val + d.val) hj (by have := d.isLt; omega) (by omega)
  · refine Finset.sum_congr rfl fun d _ => (mul_comm _ _).trans (congrArg₂ (fun a b : EReal => a * b) ?_ ?_)
    · exact blk0 m c t (256 * h + (128 + d.val)) (256 * g.val + (128 + d.val)) (by have := d.isLt; omega) (by omega) r
    · exact blk3 m c t j hj d

variable (h0 : ∀ i, IsReal (a0 m c i)) (h2 : ∀ i, IsReal (a2 m c i)) (h4 : ∀ i, IsReal (a4 m c i))

include h0 h2 h4 in
/-- A block's result is the reference's at the same place. -/
theorem point_eq (h : ℕ) (hh : h < 6) (r : Fin 512) (d : Fin 128) (b : Fin 4) (g : Fin 24) (q : Fin 4096)
    (eb : b.val = pB t) (eg : g.val = 6 * pH t + h) (eq : q.val = 512 * pQ t + r.val) :
    k0_pay1 (fV (iblk m c 0 t) (iblk m c 2 t) (iblk m c 3 t) (iblk m c 4 t) (pQ t) h) (zV (iblk m c 1 t) h) (ix2 r d)
      = Cert.ReferenceIdeal.Att.res (a0 m c) (a1 m c) (a2 m c) (a3 m c) (a4 m c) (ix2 (Fin.ofNat 16384 (4096 * b.val + q.val)) (Fin.ofNat 3072 (128 * g.val + d.val))) := by
  have hd := d.isLt
  have hr : ∀ j, j < 4096 → Cert.ReferenceIdeal.Att.rs (a0 m c) (a2 m c) (a4 m c) b g q j = (((Cert.ReferenceIdeal.Att.rs (a0 m c) (a2 m c) (a4 m c) b g q j).toReal : ℝ) : EReal) :=
    fun j _ => (rs_real _ _ _ h0 h2 h4 b g q j).coe_toReal
  refine (point_apply (iblk m c 0 t) (iblk m c 1 t) (iblk m c 2 t) (iblk m c 3 t) (iblk m c 4 t) h (pQ t) r
    (fun j => (Cert.ReferenceIdeal.Att.rs (a0 m c) (a2 m c) (a4 m c) b g q j).toReal)
    (fun j hj => (score_eq m c t h hh r j hj b g q eb eg eq).trans (hr j hj)) (pQ_lt t) d).trans ?_
  refine Eq.trans ?_ (Cert.ReferenceIdeal.Att.res_apply (a0 m c) (a1 m c) (a2 m c) (a3 m c) (a4 m c) b g q _ hr d).symm
  have hz : zV (iblk m c 1 t) h (ix2 r d) = a1 m c (ix2 (Fin.ofNat 16384 (4096 * b.val + q.val)) (Fin.ofNat 6912 (128 * g.val + d.val))) := by
    rw [eb, eq]
    exact blk1 m c t (128 * h + d.val) (128 * g.val + d.val) (by omega) (by omega) r
  rw [hz, ← eq]
  refine congrArg (fun a : EReal => a * _) (Finset.sum_congr rfl fun j hj => congrArg (fun a : EReal => a * _) ?_)
  refine (if_pos hd).trans ?_
  rw [eb]
  exact blk4 m c t j (128 * h + d.val) (128 * g.val + d.val) (by have := Finset.mem_range.mp hj; omega) (by omega) (by omega)

include h0 h2 h4 in
/-- The kernel's result array is the reference's result. -/
theorem array_eq : (dats m 0 c).arrAt 5 cfg0.N = Cert.ReferenceIdeal.Att.res (a0 m c) (a1 m c) (a2 m c) (a3 m c) (a4 m c) := by
  refine (dats m 0 c).arrAt_eq_of_covers 5 _ (by decide +kernel) fun t hf y => ?_
  have hb := pB_lt t; have hH := pH_lt t; have hq := pQ_lt t
  have y0 : (y 0).val < 512 := (y 0).isLt
  have y1 : (y 1).val < 768 := (y 1).isLt
  refine Eq.trans (b := (outsAt0 m c t.val t.isLt) y) (congrFun (after0_5 m c t) _) ?_
  refine (congrFun (outs_eq m c t) y).trans ?_
  refine (out_at VO0_5 _ _ _ _ _ _ _ ((y 1).val / 128) (by omega) y ⟨(y 0).val, y0⟩ ⟨(y 1).val % 128, by omega⟩ rfl (Nat.div_add_mod _ _).symm).trans ?_
  refine (point_eq m c t h0 h2 h4 ((y 1).val / 128) (by omega) ⟨(y 0).val, y0⟩ ⟨(y 1).val % 128, by omega⟩ ⟨pB t, hb⟩ ⟨6 * pH t + (y 1).val / 128, by omega⟩ ⟨512 * pQ t + (y 0).val, by omega⟩ rfl rfl rfl).trans ?_
  exact congrArg _ (emb5 t y (y 0).val (128 * (6 * pH t + (y 1).val / 128) + (y 1).val % 128) y0 rfl (by omega)).symm

end

end Cert.KernelIdeal.Att

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Float.Frame
public import proofs.«01_k».proof.Proof.Ideal.Frame
public import proofs.«01_k».proof.Proof.JoinIn2
public import proofs.«01_k».proof.Proof.JoinIn3
public import proofs.«01_k».proof.Proof.JoinOut
public import proofs.«01_k».proof.Proof.JoinQ5
public import proofs.«01_k».proof.Proof.JoinMem
public import proofs.«01_k».proof.Proof.JoinLast
public import proofs.«01_k».proof.Proof.JoinMemAtt
public import proofs.«01_k».proof.Proof.JoinFirst
public import proofs.«01_k».proof.Proof.Pre
public import proofs.«01_k».proof.Proof.Whole

@[expose] public section

noncomputable section

namespace Cert.Proof

open Idealize.ShloMosaic Idealize.ShloMosaic.TcCoe Idealize.SL.Sem Attn

/-- The reference leaves its arguments as they were. -/
theorem frame_reference : @Cert.quiescent_ReferenceIdeal Cert.ReferenceIdeal.Gen.facts := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's result from an initial memory. -/
def out (m : (ℓ : Loc Cert.KernelIdeal.nD Cert.KernelIdeal.τ Cert.KernelIdeal.sig) → Buf (Elt Ideal) ℓ) (c : Dev Cert.KernelIdeal.nD) :
    FVec Ideal Cert.KernelIdeal.S16384x3072 .bf16 :=
  Cert.ReferenceIdeal.Att.res (Cert.KernelIdeal.Att.a0 m c) (Cert.KernelIdeal.Att.a1 m c) (Cert.KernelIdeal.Att.a2 m c) (Cert.KernelIdeal.Att.a3 m c) (Cert.KernelIdeal.Att.a4 m c)

/-- On real queries and keys the kernel and the reference end with the same result. -/
theorem algebraic : @Cert.algebraic_KernelIdeal_ReferenceIdeal_pre_finite Cert.KernelIdeal.Gen.facts Cert.ReferenceIdeal.Gen.facts Cert.Pre_finite.facts :=
  fun m ρ m' ρ' hp hag => ⟨fun c => out m c,
    (θ_run Cert.KernelIdeal.defs _ _).mono (fun r h c => ⟨(h c).1.trans (Cert.KernelIdeal.Att.array_eq m c
        (Cert.Pre_finite.real_of (by decide) _ _ _ (hp c).1) (Cert.Pre_finite.real_of (by decide) _ _ _ (hp c).2.1)
        (Cert.Pre_finite.real_of (by decide) _ _ _ (hp c).2.2)), (h c).2⟩)
      (Cert.KernelIdeal.Att.run_blocks (F := Ideal) m ρ),
    (θ_run Cert.ReferenceIdeal.defs _ _).mono (fun r h c => ⟨(h c).1.trans ((Cert.ReferenceIdeal.Att.res_eq m' c).trans (by
        obtain ⟨e0, e1, e2, e3, e4⟩ := hag c
        rw [e0, e1, e2, e3, e4]
        rfl)), (h c).2⟩)
      (Cert.ReferenceIdeal.Value.run (F := Ideal) m' ρ')⟩

/-- The claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.facts, Cert.Pre_nonneg.facts, Cert.Pre_nonneg3.facts, Cert.Pre_finite8.facts,
  fun m ρ _ => Cert.Kernel.Att.frame m ρ, fun m ρ _ => Cert.KernelIdeal.Att.frame m ρ, fun m ρ _ => Cert.KernelIdeal.Att.frame m ρ,
  frame_reference, fun m ρ _ => frame_reference m ρ trivial,
  In2.frame_kernel, In2.frame_ideal, fun m ρ _ => In2.frame_ideal m ρ trivial, In2.frame_reference, fun m ρ _ => In2.frame_reference m ρ trivial,
  In3.frame_kernel, In3.frame_ideal, fun m ρ _ => In3.frame_ideal m ρ trivial, In3.frame_reference, fun m ρ _ => In3.frame_reference m ρ trivial,
  Out.frame_kernel, Out.frame_ideal, Out.frame_reference,
  Query.frame_kernel, Query.frame_ideal, Query.frame_reference,
  Memory.frame_kernel, Memory.frame_ideal, Memory.frame_reference,
  Last.frame_kernel, Last.frame_ideal, Last.frame_reference,
  MemAtt.frame_kernel, MemAtt.frame_ideal, fun m ρ _ => MemAtt.frame_ideal m ρ trivial, MemAtt.frame_reference, fun m ρ _ => MemAtt.frame_reference m ρ trivial,
  First.frame_kernel, First.frame_ideal, First.frame_reference,
  IdealRules.named_const.statement Cert.KernelIdeal.κ "mask" .f32 0xF149F2CA#32 ⊥ rfl,
  algebraic, trivial, In2.algebraic, trivial, In3.algebraic, trivial, Out.algebraic, trivial, Query.algebraic, trivial, Memory.algebraic, trivial, Last.algebraic, trivial, MemAtt.algebraic, trivial, First.algebraic⟩

end Cert.Proof

end
